-- ==== Defs.lean ====
def Pre_OddInBwd (m : (ℓ : Loc Cert.OddInBwd.nD Cert.OddInBwd.τ Cert.OddInBwd.sig) → Buf (Elt Bits) ℓ) : Prop :=
  True

def Pre_OddInBwdIdeal (m : (ℓ : Loc Cert.OddInBwdIdeal.nD Cert.OddInBwdIdeal.τ Cert.OddInBwdIdeal.sig) → Buf (Elt Ideal) ℓ) : Prop :=
  True

def Pre_OddInGradIdeal (m : (ℓ : Loc Cert.OddInGradIdeal.nD Cert.OddInGradIdeal.τ Cert.OddInGradIdeal.sig) → Buf (Elt Ideal) ℓ) : Prop :=
  True

def Pre_OddOut (m : (ℓ : Loc Cert.OddOut.nD Cert.OddOut.τ Cert.OddOut.sig) → Buf (Elt Bits) ℓ) : Prop :=
  True

def Pre_OddOutIdeal (m : (ℓ : Loc Cert.OddOutIdeal.nD Cert.OddOutIdeal.τ Cert.OddOutIdeal.sig) → Buf (Elt Ideal) ℓ) : Prop :=
  True

def Pre_OddOutGradIdeal (m : (ℓ : Loc Cert.OddOutGradIdeal.nD Cert.OddOutGradIdeal.τ Cert.OddOutGradIdeal.sig) → Buf (Elt Ideal) ℓ) : Prop :=
  True

def Pre_DwOddIn (m : (ℓ : Loc Cert.DwOddIn.nD Cert.DwOddIn.τ Cert.DwOddIn.sig) → Buf (Elt Bits) ℓ) : Prop :=
  True

def Pre_DwOddInIdeal (m : (ℓ : Loc Cert.DwOddInIdeal.nD Cert.DwOddInIdeal.τ Cert.DwOddInIdeal.sig) → Buf (Elt Ideal) ℓ) : Prop :=
  True

def Pre_OddInWeightGradIdeal (m : (ℓ : Loc Cert.OddInWeightGradIdeal.nD Cert.OddInWeightGradIdeal.τ Cert.OddInWeightGradIdeal.sig) → Buf (Elt Ideal) ℓ) : Prop :=
  True

def Pre_DwSquare (m : (ℓ : Loc Cert.DwSquare.nD Cert.DwSquare.τ Cert.DwSquare.sig) → Buf (Elt Bits) ℓ) : Prop :=
  True

def Pre_DwSquareIdeal (m : (ℓ : Loc Cert.DwSquareIdeal.nD Cert.DwSquareIdeal.τ Cert.DwSquareIdeal.sig) → Buf (Elt Ideal) ℓ) : Prop :=
  True

def Pre_SquareWeightGradIdeal (m : (ℓ : Loc Cert.SquareWeightGradIdeal.nD Cert.SquareWeightGradIdeal.τ Cert.SquareWeightGradIdeal.sig) → Buf (Elt Ideal) ℓ) : Prop :=
  True

def Pre_DwHalf (m : (ℓ : Loc Cert.DwHalf.nD Cert.DwHalf.τ Cert.DwHalf.sig) → Buf (Elt Bits) ℓ) : Prop :=
  True

def Pre_DwHalfIdeal (m : (ℓ : Loc Cert.DwHalfIdeal.nD Cert.DwHalfIdeal.τ Cert.DwHalfIdeal.sig) → Buf (Elt Ideal) ℓ) : Prop :=
  True

def Pre_HalfWeightGradIdeal (m : (ℓ : Loc Cert.HalfWeightGradIdeal.nD Cert.HalfWeightGradIdeal.τ Cert.HalfWeightGradIdeal.sig) → Buf (Elt Ideal) ℓ) : Prop :=
  True

def Pre_DwGlu (m : (ℓ : Loc Cert.DwGlu.nD Cert.DwGlu.τ Cert.DwGlu.sig) → Buf (Elt Bits) ℓ) : Prop :=
  True

def Pre_DwGluIdeal (m : (ℓ : Loc Cert.DwGluIdeal.nD Cert.DwGluIdeal.τ Cert.DwGluIdeal.sig) → Buf (Elt Ideal) ℓ) : Prop :=
  True

def Pre_GluWeightGradIdeal (m : (ℓ : Loc Cert.GluWeightGradIdeal.nD Cert.GluWeightGradIdeal.τ Cert.GluWeightGradIdeal.sig) → Buf (Elt Ideal) ℓ) : Prop :=
  True

def Pre_EvenInBwd (m : (ℓ : Loc Cert.EvenInBwd.nD Cert.EvenInBwd.τ Cert.EvenInBwd.sig) → Buf (Elt Bits) ℓ) : Prop :=
  True

def Pre_EvenInBwdIdeal (m : (ℓ : Loc Cert.EvenInBwdIdeal.nD Cert.EvenInBwdIdeal.τ Cert.EvenInBwdIdeal.sig) → Buf (Elt Ideal) ℓ) : Prop :=
  True

def Pre_EvenInGradIdeal (m : (ℓ : Loc Cert.EvenInGradIdeal.nD Cert.EvenInGradIdeal.τ Cert.EvenInGradIdeal.sig) → Buf (Elt Ideal) ℓ) : Prop :=
  True

def Pre_OddInFwd (m : (ℓ : Loc Cert.OddInFwd.nD Cert.OddInFwd.τ Cert.OddInFwd.sig) → Buf (Elt Bits) ℓ) : Prop :=
  True

def Pre_OddInFwdIdeal (m : (ℓ : Loc Cert.OddInFwdIdeal.nD Cert.OddInFwdIdeal.τ Cert.OddInFwdIdeal.sig) → Buf (Elt Ideal) ℓ) : Prop :=
  True

def Pre_OddInRefIdeal (m : (ℓ : Loc Cert.OddInRefIdeal.nD Cert.OddInRefIdeal.τ Cert.OddInRefIdeal.sig) → Buf (Elt Ideal) ℓ) : Prop :=
  True

def Pre_EvenInFwd (m : (ℓ : Loc Cert.EvenInFwd.nD Cert.EvenInFwd.τ Cert.EvenInFwd.sig) → Buf (Elt Bits) ℓ) : Prop :=
  True

def Pre_EvenInFwdIdeal (m : (ℓ : Loc Cert.EvenInFwdIdeal.nD Cert.EvenInFwdIdeal.τ Cert.EvenInFwdIdeal.sig) → Buf (Elt Ideal) ℓ) : Prop :=
  True

def Pre_EvenInRefIdeal (m : (ℓ : Loc Cert.EvenInRefIdeal.nD Cert.EvenInRefIdeal.τ Cert.EvenInRefIdeal.sig) → Buf (Elt Ideal) ℓ) : Prop :=
  True

def Pre_EvenMixFwd (m : (ℓ : Loc Cert.EvenMixFwd.nD Cert.EvenMixFwd.τ Cert.EvenMixFwd.sig) → Buf (Elt Bits) ℓ) : Prop :=
  True

def Pre_EvenMixFwdIdeal (m : (ℓ : Loc Cert.EvenMixFwdIdeal.nD Cert.EvenMixFwdIdeal.τ Cert.EvenMixFwdIdeal.sig) → Buf (Elt Ideal) ℓ) : Prop :=
  True

def Pre_EvenMixRefIdeal (m : (ℓ : Loc Cert.EvenMixRefIdeal.nD Cert.EvenMixRefIdeal.τ Cert.EvenMixRefIdeal.sig) → Buf (Elt Ideal) ℓ) : Prop :=
  True

def Pre_DwReadRe (m : (ℓ : Loc Cert.DwReadRe.nD Cert.DwReadRe.τ Cert.DwReadRe.sig) → Buf (Elt Bits) ℓ) : Prop :=
  True

def Pre_DwReadReIdeal (m : (ℓ : Loc Cert.DwReadReIdeal.nD Cert.DwReadReIdeal.τ Cert.DwReadReIdeal.sig) → Buf (Elt Ideal) ℓ) : Prop :=
  True

def Pre_ReadReGradIdeal (m : (ℓ : Loc Cert.ReadReGradIdeal.nD Cert.ReadReGradIdeal.τ Cert.ReadReGradIdeal.sig) → Buf (Elt Ideal) ℓ) : Prop :=
  True

def Pre_DwBbar (m : (ℓ : Loc Cert.DwBbar.nD Cert.DwBbar.τ Cert.DwBbar.sig) → Buf (Elt Bits) ℓ) : Prop :=
  True

def Pre_DwBbarIdeal (m : (ℓ : Loc Cert.DwBbarIdeal.nD Cert.DwBbarIdeal.τ Cert.DwBbarIdeal.sig) → Buf (Elt Ideal) ℓ) : Prop :=
  True

def Pre_BbarGradIdeal (m : (ℓ : Loc Cert.BbarGradIdeal.nD Cert.BbarGradIdeal.τ Cert.BbarGradIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamGlu (m : (ℓ : Loc Cert.AdamGlu.nD Cert.AdamGlu.τ Cert.AdamGlu.sig) → Buf (Elt Bits) ℓ) : Prop :=
  True

def Pre_AdamGluIdeal (m : (ℓ : Loc Cert.AdamGluIdeal.nD Cert.AdamGluIdeal.τ Cert.AdamGluIdeal.sig) → Buf (Elt Ideal) ℓ) : Prop :=
  True

def Pre_AdamGluRefIdeal (m : (ℓ : Loc Cert.AdamGluRefIdeal.nD Cert.AdamGluRefIdeal.τ Cert.AdamGluRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamOddIn (m : (ℓ : Loc Cert.AdamOddIn.nD Cert.AdamOddIn.τ Cert.AdamOddIn.sig) → Buf (Elt Bits) ℓ) : Prop :=
  True

def Pre_AdamOddInIdeal (m : (ℓ : Loc Cert.AdamOddInIdeal.nD Cert.AdamOddInIdeal.τ Cert.AdamOddInIdeal.sig) → Buf (Elt Ideal) ℓ) : Prop :=
  True

def Pre_AdamOddInRefIdeal (m : (ℓ : Loc Cert.AdamOddInRefIdeal.nD Cert.AdamOddInRefIdeal.τ Cert.AdamOddInRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_AdamEarly (m : (ℓ : Loc Cert.AdamEarly.nD Cert.AdamEarly.τ Cert.AdamEarly.sig) → Buf (Elt Bits) ℓ) : Prop :=
  True

def Pre_AdamEarlyIdeal (m : (ℓ : Loc Cert.AdamEarlyIdeal.nD Cert.AdamEarlyIdeal.τ Cert.AdamEarlyIdeal.sig) → Buf (Elt Ideal) ℓ) : Prop :=
  True

def Pre_AdamEarlyRefIdeal (m : (ℓ : Loc Cert.AdamEarlyRefIdeal.nD Cert.AdamEarlyRefIdeal.τ Cert.AdamEarlyRefIdeal.sig) → Buf (Elt Ideal) ℓ) : Prop :=
  True

def Pre_AdamMid (m : (ℓ : Loc Cert.AdamMid.nD Cert.AdamMid.τ Cert.AdamMid.sig) → Buf (Elt Bits) ℓ) : Prop :=
  True

def Pre_AdamMidIdeal (m : (ℓ : Loc Cert.AdamMidIdeal.nD Cert.AdamMidIdeal.τ Cert.AdamMidIdeal.sig) → Buf (Elt Ideal) ℓ) : Prop :=
  True

def Pre_AdamMidRefIdeal (m : (ℓ : Loc Cert.AdamMidRefIdeal.nD Cert.AdamMidRefIdeal.τ Cert.AdamMidRefIdeal.sig) → Buf (Elt Ideal) ℓ) : Prop :=
  True

def Pre_AdamLate (m : (ℓ : Loc Cert.AdamLate.nD Cert.AdamLate.τ Cert.AdamLate.sig) → Buf (Elt Bits) ℓ) : Prop :=
  True

def Pre_AdamLateIdeal (m : (ℓ : Loc Cert.AdamLateIdeal.nD Cert.AdamLateIdeal.τ Cert.AdamLateIdeal.sig) → Buf (Elt Ideal) ℓ) : Prop :=
  True

def Pre_AdamLateRefIdeal (m : (ℓ : Loc Cert.AdamLateRefIdeal.nD Cert.AdamLateRefIdeal.τ Cert.AdamLateRefIdeal.sig) → Buf (Elt Ideal) ℓ) : Prop :=
  True

def quiescent_OddInBwd [hOddInBwd : Cert.OddInBwd.Facts] : Prop :=
  ∀ (m : (ℓ : Loc Cert.OddInBwd.nD Cert.OddInBwd.τ Cert.OddInBwd.sig) → Buf (Elt Bits) ℓ) (g : Dev Cert.OddInBwd.nD → PrngReg), Pre_OddInBwd m →
    θ_run (Cert.OddInBwd.defs (F := Bits)) (onTc (τ := Cert.OddInBwd.τ) (Cert.OddInBwd.main (F := Bits))) ⟨m, fun _ => 0, g⟩ (fun r => (∀ c : Dev Cert.OddInBwd.nD,
      r.2.mem ((c.tc : Thread Cert.OddInBwd.nD Cert.OddInBwd.τ).loc Cert.OddInBwd.main_arg0) = m ((c.tc : Thread Cert.OddInBwd.nD Cert.OddInBwd.τ).loc Cert.OddInBwd.main_arg0)
      ∧ r.2.mem ((c.tc : Thread Cert.OddInBwd.nD Cert.OddInBwd.τ).loc Cert.OddInBwd.main_arg1) = m ((c.tc : Thread Cert.OddInBwd.nD Cert.OddInBwd.τ).loc Cert.OddInBwd.main_arg1)
      ∧ r.2.mem ((c.tc : Thread Cert.OddInBwd.nD Cert.OddInBwd.τ).loc Cert.OddInBwd.main_arg2) = m ((c.tc : Thread Cert.OddInBwd.nD Cert.OddInBwd.τ).loc Cert.OddInBwd.main_arg2)
      ∧ r.2.mem ((c.tc : Thread Cert.OddInBwd.nD Cert.OddInBwd.τ).loc Cert.OddInBwd.main_arg3) = m ((c.tc : Thread Cert.OddInBwd.nD Cert.OddInBwd.τ).loc Cert.OddInBwd.main_arg3)
      ∧ r.2.mem ((c.tc : Thread Cert.OddInBwd.nD Cert.OddInBwd.τ).loc Cert.OddInBwd.main_arg4) = m ((c.tc : Thread Cert.OddInBwd.nD Cert.OddInBwd.τ).loc Cert.OddInBwd.main_arg4)
      ∧ r.2.mem ((c.tc : Thread Cert.OddInBwd.nD Cert.OddInBwd.τ).loc Cert.OddInBwd.main_arg5) = m ((c.tc : Thread Cert.OddInBwd.nD Cert.OddInBwd.τ).loc Cert.OddInBwd.main_arg5))
      ∧ r.2.sem = fun _ => 0)

def quiescent_OddInBwdIdeal [hOddInBwdIdeal : Cert.OddInBwdIdeal.Facts] : Prop :=
  ∀ (m : (ℓ : Loc Cert.OddInBwdIdeal.nD Cert.OddInBwdIdeal.τ Cert.OddInBwdIdeal.sig) → Buf (Elt Ideal) ℓ) (g : Dev Cert.OddInBwdIdeal.nD → PrngReg), Pre_OddInBwdIdeal m →
    θ_run (Cert.OddInBwdIdeal.defs (F := Ideal)) (onTc (τ := Cert.OddInBwdIdeal.τ) (Cert.OddInBwdIdeal.main (F := Ideal))) ⟨m, fun _ => 0, g⟩ (fun r => (∀ c : Dev Cert.OddInBwdIdeal.nD,
      r.2.mem ((c.tc : Thread Cert.OddInBwdIdeal.nD Cert.OddInBwdIdeal.τ).loc Cert.OddInBwdIdeal.main_arg0) = m ((c.tc : Thread Cert.OddInBwdIdeal.nD Cert.OddInBwdIdeal.τ).loc Cert.OddInBwdIdeal.main_arg0)
      ∧ r.2.mem ((c.tc : Thread Cert.OddInBwdIdeal.nD Cert.OddInBwdIdeal.τ).loc Cert.OddInBwdIdeal.main_arg1) = m ((c.tc : Thread Cert.OddInBwdIdeal.nD Cert.OddInBwdIdeal.τ).loc Cert.OddInBwdIdeal.main_arg1)
      ∧ r.2.mem ((c.tc : Thread Cert.OddInBwdIdeal.nD Cert.OddInBwdIdeal.τ).loc Cert.OddInBwdIdeal.main_arg2) = m ((c.tc : Thread Cert.OddInBwdIdeal.nD Cert.OddInBwdIdeal.τ).loc Cert.OddInBwdIdeal.main_arg2)
      ∧ r.2.mem ((c.tc : Thread Cert.OddInBwdIdeal.nD Cert.OddInBwdIdeal.τ).loc Cert.OddInBwdIdeal.main_arg3) = m ((c.tc : Thread Cert.OddInBwdIdeal.nD Cert.OddInBwdIdeal.τ).loc Cert.OddInBwdIdeal.main_arg3)
      ∧ r.2.mem ((c.tc : Thread Cert.OddInBwdIdeal.nD Cert.OddInBwdIdeal.τ).loc Cert.OddInBwdIdeal.main_arg4) = m ((c.tc : Thread Cert.OddInBwdIdeal.nD Cert.OddInBwdIdeal.τ).loc Cert.OddInBwdIdeal.main_arg4)
      ∧ r.2.mem ((c.tc : Thread Cert.OddInBwdIdeal.nD Cert.OddInBwdIdeal.τ).loc Cert.OddInBwdIdeal.main_arg5) = m ((c.tc : Thread Cert.OddInBwdIdeal.nD Cert.OddInBwdIdeal.τ).loc Cert.OddInBwdIdeal.main_arg5))
      ∧ r.2.sem = fun _ => 0)

def quiescent_OddInGradIdeal [hOddInGradIdeal : Cert.OddInGradIdeal.Facts] : Prop :=
  ∀ (m : (ℓ : Loc Cert.OddInGradIdeal.nD Cert.OddInGradIdeal.τ Cert.OddInGradIdeal.sig) → Buf (Elt Ideal) ℓ) (g : Dev Cert.OddInGradIdeal.nD → PrngReg), Pre_OddInGradIdeal m →
    θ_run (Cert.OddInGradIdeal.defs (F := Ideal)) (onTc (τ := Cert.OddInGradIdeal.τ) (Cert.OddInGradIdeal.main (F := Ideal))) ⟨m, fun _ => 0, g⟩ (fun r => (∀ c : Dev Cert.OddInGradIdeal.nD,
      r.2.mem ((c.tc : Thread Cert.OddInGradIdeal.nD Cert.OddInGradIdeal.τ).loc Cert.OddInGradIdeal.main_arg0) = m ((c.tc : Thread Cert.OddInGradIdeal.nD Cert.OddInGradIdeal.τ).loc Cert.OddInGradIdeal.main_arg0)
      ∧ r.2.mem ((c.tc : Thread Cert.OddInGradIdeal.nD Cert.OddInGradIdeal.τ).loc Cert.OddInGradIdeal.main_arg1) = m ((c.tc : Thread Cert.OddInGradIdeal.nD Cert.OddInGradIdeal.τ).loc Cert.OddInGradIdeal.main_arg1)
      ∧ r.2.mem ((c.tc : Thread Cert.OddInGradIdeal.nD Cert.OddInGradIdeal.τ).loc Cert.OddInGradIdeal.main_arg2) = m ((c.tc : Thread Cert.OddInGradIdeal.nD Cert.OddInGradIdeal.τ).loc Cert.OddInGradIdeal.main_arg2)
      ∧ r.2.mem ((c.tc : Thread Cert.OddInGradIdeal.nD Cert.OddInGradIdeal.τ).loc Cert.OddInGradIdeal.main_arg3) = m ((c.tc : Thread Cert.OddInGradIdeal.nD Cert.OddInGradIdeal.τ).loc Cert.OddInGradIdeal.main_arg3)
      ∧ r.2.mem ((c.tc : Thread Cert.OddInGradIdeal.nD Cert.OddInGradIdeal.τ).loc Cert.OddInGradIdeal.main_arg4) = m ((c.tc : Thread Cert.OddInGradIdeal.nD Cert.OddInGradIdeal.τ).loc Cert.OddInGradIdeal.main_arg4)
      ∧ r.2.mem ((c.tc : Thread Cert.OddInGradIdeal.nD Cert.OddInGradIdeal.τ).loc Cert.OddInGradIdeal.main_arg5) = m ((c.tc : Thread Cert.OddInGradIdeal.nD Cert.OddInGradIdeal.τ).loc Cert.OddInGradIdeal.main_arg5))
      ∧ r.2.sem = fun _ => 0)

def quiescent_OddOut [hOddOut : Cert.OddOut.Facts] : Prop :=
  ∀ (m : (ℓ : Loc Cert.OddOut.nD Cert.OddOut.τ Cert.OddOut.sig) → Buf (Elt Bits) ℓ) (g : Dev Cert.OddOut.nD → PrngReg), Pre_OddOut m →
    θ_run (Cert.OddOut.defs (F := Bits)) (onTc (τ := Cert.OddOut.τ) (Cert.OddOut.main (F := Bits))) ⟨m, fun _ => 0, g⟩ (fun r => (∀ c : Dev Cert.OddOut.nD,
      r.2.mem ((c.tc : Thread Cert.OddOut.nD Cert.OddOut.τ).loc Cert.OddOut.main_arg0) = m ((c.tc : Thread Cert.OddOut.nD Cert.OddOut.τ).loc Cert.OddOut.main_arg0)
      ∧ r.2.mem ((c.tc : Thread Cert.OddOut.nD Cert.OddOut.τ).loc Cert.OddOut.main_arg1) = m ((c.tc : Thread Cert.OddOut.nD Cert.OddOut.τ).loc Cert.OddOut.main_arg1)
      ∧ r.2.mem ((c.tc : Thread Cert.OddOut.nD Cert.OddOut.τ).loc Cert.OddOut.main_arg2) = m ((c.tc : Thread Cert.OddOut.nD Cert.OddOut.τ).loc Cert.OddOut.main_arg2)
      ∧ r.2.mem ((c.tc : Thread Cert.OddOut.nD Cert.OddOut.τ).loc Cert.OddOut.main_arg3) = m ((c.tc : Thread Cert.OddOut.nD Cert.OddOut.τ).loc Cert.OddOut.main_arg3)
      ∧ r.2.mem ((c.tc : Thread Cert.OddOut.nD Cert.OddOut.τ).loc Cert.OddOut.main_arg4) = m ((c.tc : Thread Cert.OddOut.nD Cert.OddOut.τ).loc Cert.OddOut.main_arg4)
      ∧ r.2.mem ((c.tc : Thread Cert.OddOut.nD Cert.OddOut.τ).loc Cert.OddOut.main_arg5) = m ((c.tc : Thread Cert.OddOut.nD Cert.OddOut.τ).loc Cert.OddOut.main_arg5)
      ∧ r.2.mem ((c.tc : Thread Cert.OddOut.nD Cert.OddOut.τ).loc Cert.OddOut.main_arg6) = m ((c.tc : Thread Cert.OddOut.nD Cert.OddOut.τ).loc Cert.OddOut.main_arg6)
      ∧ r.2.mem ((c.tc : Thread Cert.OddOut.nD Cert.OddOut.τ).loc Cert.OddOut.main_arg7) = m ((c.tc : Thread Cert.OddOut.nD Cert.OddOut.τ).loc Cert.OddOut.main_arg7)
      ∧ r.2.mem ((c.tc : Thread Cert.OddOut.nD Cert.OddOut.τ).loc Cert.OddOut.main_arg8) = m ((c.tc : Thread Cert.OddOut.nD Cert.OddOut.τ).loc Cert.OddOut.main_arg8))
      ∧ r.2.sem = fun _ => 0)

def quiescent_OddOutIdeal [hOddOutIdeal : Cert.OddOutIdeal.Facts] : Prop :=
  ∀ (m : (ℓ : Loc Cert.OddOutIdeal.nD Cert.OddOutIdeal.τ Cert.OddOutIdeal.sig) → Buf (Elt Ideal) ℓ) (g : Dev Cert.OddOutIdeal.nD → PrngReg), Pre_OddOutIdeal m →
    θ_run (Cert.OddOutIdeal.defs (F := Ideal)) (onTc (τ := Cert.OddOutIdeal.τ) (Cert.OddOutIdeal.main (F := Ideal))) ⟨m, fun _ => 0, g⟩ (fun r => (∀ c : Dev Cert.OddOutIdeal.nD,
      r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
      ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
      ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2)
      ∧ r.2.mem ((c.tc : Thread Cert.OddOutIdeal.nD Cert.OddOutIdeal.τ).loc Cert.OddOutIdeal.main_arg3) = m ((c.tc : Thread Cert.OddOutIdeal.nD Cert.OddOutIdeal.τ).loc Cert.OddOutIdeal.main_arg3)
      ∧ r.2.mem ((c.tc : Thread Cert.OddOutIdeal.nD Cert.OddOutIdeal.τ).loc Cert.OddOutIdeal.main_arg4) = m ((c.tc : Thread Cert.OddOutIdeal.nD Cert.OddOutIdeal.τ).loc Cert.OddOutIdeal.main_arg4)
      ∧ r.2.mem ((c.tc : Thread Cert.OddOutIdeal.nD Cert.OddOutIdeal.τ).loc Cert.OddOutIdeal.main_arg5) = m ((c.tc : Thread Cert.OddOutIdeal.nD Cert.OddOutIdeal.τ).loc Cert.OddOutIdeal.main_arg5)
      ∧ r.2.mem ((c.tc : Thread Cert.OddOutIdeal.nD Cert.OddOutIdeal.τ).loc Cert.OddOutIdeal.main_arg6) = m ((c.tc : Thread Cert.OddOutIdeal.nD Cert.OddOutIdeal.τ).loc Cert.OddOutIdeal.main_arg6)
      ∧ r.2.mem ((c.tc : Thread Cert.OddOutIdeal.nD Cert.OddOutIdeal.τ).loc Cert.OddOutIdeal.main_arg7) = m ((c.tc : Thread Cert.OddOutIdeal.nD Cert.OddOutIdeal.τ).loc Cert.OddOutIdeal.main_arg7)
      ∧ r.2.mem ((c.tc : Thread Cert.OddOutIdeal.nD Cert.OddOutIdeal.τ).loc Cert.OddOutIdeal.main_arg8) = m ((c.tc : Thread Cert.OddOutIdeal.nD Cert.OddOutIdeal.τ).loc Cert.OddOutIdeal.main_arg8))
      ∧ r.2.sem = fun _ => 0)

def quiescent_OddOutGradIdeal [hOddOutGradIdeal : Cert.OddOutGradIdeal.Facts] : Prop :=
  ∀ (m : (ℓ : Loc Cert.OddOutGradIdeal.nD Cert.OddOutGradIdeal.τ Cert.OddOutGradIdeal.sig) → Buf (Elt Ideal) ℓ) (g : Dev Cert.OddOutGradIdeal.nD → PrngReg), Pre_OddOutGradIdeal m →
    θ_run (Cert.OddOutGradIdeal.defs (F := Ideal)) (onTc (τ := Cert.OddOutGradIdeal.τ) (Cert.OddOutGradIdeal.main (F := Ideal))) ⟨m, fun _ => 0, g⟩ (fun r => (∀ c : Dev Cert.OddOutGradIdeal.nD,
      r.2.mem ((c.tc : Thread Cert.OddOutGradIdeal.nD Cert.OddOutGradIdeal.τ).loc Cert.OddOutGradIdeal.main_arg0) = m ((c.tc : Thread Cert.OddOutGradIdeal.nD Cert.OddOutGradIdeal.τ).loc Cert.OddOutGradIdeal.main_arg0)
      ∧ r.2.mem ((c.tc : Thread Cert.OddOutGradIdeal.nD Cert.OddOutGradIdeal.τ).loc Cert.OddOutGradIdeal.main_arg1) = m ((c.tc : Thread Cert.OddOutGradIdeal.nD Cert.OddOutGradIdeal.τ).loc Cert.OddOutGradIdeal.main_arg1)
      ∧ r.2.mem ((c.tc : Thread Cert.OddOutGradIdeal.nD Cert.OddOutGradIdeal.τ).loc Cert.OddOutGradIdeal.main_arg2) = m ((c.tc : Thread Cert.OddOutGradIdeal.nD Cert.OddOutGradIdeal.τ).loc Cert.OddOutGradIdeal.main_arg2)
      ∧ r.2.mem ((c.tc : Thread Cert.OddOutGradIdeal.nD Cert.OddOutGradIdeal.τ).loc Cert.OddOutGradIdeal.main_arg3) = m ((c.tc : Thread Cert.OddOutGradIdeal.nD Cert.OddOutGradIdeal.τ).loc Cert.OddOutGradIdeal.main_arg3)
      ∧ r.2.mem ((c.tc : Thread Cert.OddOutGradIdeal.nD Cert.OddOutGradIdeal.τ).loc Cert.OddOutGradIdeal.main_arg4) = m ((c.tc : Thread Cert.OddOutGradIdeal.nD Cert.OddOutGradIdeal.τ).loc Cert.OddOutGradIdeal.main_arg4)
      ∧ r.2.mem ((c.tc : Thread Cert.OddOutGradIdeal.nD Cert.OddOutGradIdeal.τ).loc Cert.OddOutGradIdeal.main_arg5) = m ((c.tc : Thread Cert.OddOutGradIdeal.nD Cert.OddOutGradIdeal.τ).loc Cert.OddOutGradIdeal.main_arg5)
      ∧ r.2.mem ((c.tc : Thread Cert.OddOutGradIdeal.nD Cert.OddOutGradIdeal.τ).loc Cert.OddOutGradIdeal.main_arg6) = m ((c.tc : Thread Cert.OddOutGradIdeal.nD Cert.OddOutGradIdeal.τ).loc Cert.OddOutGradIdeal.main_arg6)
      ∧ r.2.mem ((c.tc : Thread Cert.OddOutGradIdeal.nD Cert.OddOutGradIdeal.τ).loc Cert.OddOutGradIdeal.main_arg7) = m ((c.tc : Thread Cert.OddOutGradIdeal.nD Cert.OddOutGradIdeal.τ).loc Cert.OddOutGradIdeal.main_arg7)
      ∧ r.2.mem ((c.tc : Thread Cert.OddOutGradIdeal.nD Cert.OddOutGradIdeal.τ).loc Cert.OddOutGradIdeal.main_arg8) = m ((c.tc : Thread Cert.OddOutGradIdeal.nD Cert.OddOutGradIdeal.τ).loc Cert.OddOutGradIdeal.main_arg8))
      ∧ r.2.sem = fun _ => 0)

def quiescent_DwOddIn [hDwOddIn : Cert.DwOddIn.Facts] : Prop :=
  ∀ (m : (ℓ : Loc Cert.DwOddIn.nD Cert.DwOddIn.τ Cert.DwOddIn.sig) → Buf (Elt Bits) ℓ) (g : Dev Cert.DwOddIn.nD → PrngReg), Pre_DwOddIn m →
    θ_run (Cert.DwOddIn.defs (F := Bits)) (onTc (τ := Cert.DwOddIn.τ) (Cert.DwOddIn.main (F := Bits))) ⟨m, fun _ => 0, g⟩ (fun r => (∀ c : Dev Cert.DwOddIn.nD,
      r.2.mem ((c.tc : Thread Cert.DwOddIn.nD Cert.DwOddIn.τ).loc Cert.DwOddIn.main_arg0) = m ((c.tc : Thread Cert.DwOddIn.nD Cert.DwOddIn.τ).loc Cert.DwOddIn.main_arg0)
      ∧ r.2.mem ((c.tc : Thread Cert.DwOddIn.nD Cert.DwOddIn.τ).loc Cert.DwOddIn.main_arg1) = m ((c.tc : Thread Cert.DwOddIn.nD Cert.DwOddIn.τ).loc Cert.DwOddIn.main_arg1))
      ∧ r.2.sem = fun _ => 0)

def quiescent_DwOddInIdeal [hDwOddInIdeal : Cert.DwOddInIdeal.Facts] : Prop :=
  ∀ (m : (ℓ : Loc Cert.DwOddInIdeal.nD Cert.DwOddInIdeal.τ Cert.DwOddInIdeal.sig) → Buf (Elt Ideal) ℓ) (g : Dev Cert.DwOddInIdeal.nD → PrngReg), Pre_DwOddInIdeal m →
    θ_run (Cert.DwOddInIdeal.defs (F := Ideal)) (onTc (τ := Cert.DwOddInIdeal.τ) (Cert.DwOddInIdeal.main (F := Ideal))) ⟨m, fun _ => 0, g⟩ (fun r => (∀ c : Dev Cert.DwOddInIdeal.nD,
      r.2.mem ((c.tc : Thread Cert.DwOddInIdeal.nD Cert.DwOddInIdeal.τ).loc Cert.DwOddInIdeal.main_arg0) = m ((c.tc : Thread Cert.DwOddInIdeal.nD Cert.DwOddInIdeal.τ).loc Cert.DwOddInIdeal.main_arg0)
      ∧ r.2.mem ((c.tc : Thread Cert.DwOddInIdeal.nD Cert.DwOddInIdeal.τ).loc Cert.DwOddInIdeal.main_arg1) = m ((c.tc : Thread Cert.DwOddInIdeal.nD Cert.DwOddInIdeal.τ).loc Cert.DwOddInIdeal.main_arg1))
      ∧ r.2.sem = fun _ => 0)

def quiescent_OddInWeightGradIdeal [hOddInWeightGradIdeal : Cert.OddInWeightGradIdeal.Facts] : Prop :=
  ∀ (m : (ℓ : Loc Cert.OddInWeightGradIdeal.nD Cert.OddInWeightGradIdeal.τ Cert.OddInWeightGradIdeal.sig) → Buf (Elt Ideal) ℓ) (g : Dev Cert.OddInWeightGradIdeal.nD → PrngReg), Pre_OddInWeightGradIdeal m →
    θ_run (Cert.OddInWeightGradIdeal.defs (F := Ideal)) (onTc (τ := Cert.OddInWeightGradIdeal.τ) (Cert.OddInWeightGradIdeal.main (F := Ideal))) ⟨m, fun _ => 0, g⟩ (fun r => (∀ c : Dev Cert.OddInWeightGradIdeal.nD,
      r.2.mem ((c.tc : Thread Cert.OddInWeightGradIdeal.nD Cert.OddInWeightGradIdeal.τ).loc Cert.OddInWeightGradIdeal.main_arg0) = m ((c.tc : Thread Cert.OddInWeightGradIdeal.nD Cert.OddInWeightGradIdeal.τ).loc Cert.OddInWeightGradIdeal.main_arg0)
      ∧ r.2.mem ((c.tc : Thread Cert.OddInWeightGradIdeal.nD Cert.OddInWeightGradIdeal.τ).loc Cert.OddInWeightGradIdeal.main_arg1) = m ((c.tc : Thread Cert.OddInWeightGradIdeal.nD Cert.OddInWeightGradIdeal.τ).loc Cert.OddInWeightGradIdeal.main_arg1))
      ∧ r.2.sem = fun _ => 0)

def quiescent_DwSquare [hDwSquare : Cert.DwSquare.Facts] : Prop :=
  ∀ (m : (ℓ : Loc Cert.DwSquare.nD Cert.DwSquare.τ Cert.DwSquare.sig) → Buf (Elt Bits) ℓ) (g : Dev Cert.DwSquare.nD → PrngReg), Pre_DwSquare m →
    θ_run (Cert.DwSquare.defs (F := Bits)) (onTc (τ := Cert.DwSquare.τ) (Cert.DwSquare.main (F := Bits))) ⟨m, fun _ => 0, g⟩ (fun r => (∀ c : Dev Cert.DwSquare.nD,
      r.2.mem ((c.tc : Thread Cert.DwSquare.nD Cert.DwSquare.τ).loc Cert.DwSquare.main_arg0) = m ((c.tc : Thread Cert.DwSquare.nD Cert.DwSquare.τ).loc Cert.DwSquare.main_arg0)
      ∧ r.2.mem ((c.tc : Thread Cert.DwSquare.nD Cert.DwSquare.τ).loc Cert.DwSquare.main_arg1) = m ((c.tc : Thread Cert.DwSquare.nD Cert.DwSquare.τ).loc Cert.DwSquare.main_arg1))
      ∧ r.2.sem = fun _ => 0)

def quiescent_DwSquareIdeal [hDwSquareIdeal : Cert.DwSquareIdeal.Facts] : Prop :=
  ∀ (m : (ℓ : Loc Cert.DwSquareIdeal.nD Cert.DwSquareIdeal.τ Cert.DwSquareIdeal.sig) → Buf (Elt Ideal) ℓ) (g : Dev Cert.DwSquareIdeal.nD → PrngReg), Pre_DwSquareIdeal m →
    θ_run (Cert.DwSquareIdeal.defs (F := Ideal)) (onTc (τ := Cert.DwSquareIdeal.τ) (Cert.DwSquareIdeal.main (F := Ideal))) ⟨m, fun _ => 0, g⟩ (fun r => (∀ c : Dev Cert.DwSquareIdeal.nD,
      r.2.mem ((c.tc : Thread Cert.DwSquareIdeal.nD Cert.DwSquareIdeal.τ).loc Cert.DwSquareIdeal.main_arg0) = m ((c.tc : Thread Cert.DwSquareIdeal.nD Cert.DwSquareIdeal.τ).loc Cert.DwSquareIdeal.main_arg0)
      ∧ r.2.mem ((c.tc : Thread Cert.DwSquareIdeal.nD Cert.DwSquareIdeal.τ).loc Cert.DwSquareIdeal.main_arg1) = m ((c.tc : Thread Cert.DwSquareIdeal.nD Cert.DwSquareIdeal.τ).loc Cert.DwSquareIdeal.main_arg1))
      ∧ r.2.sem = fun _ => 0)

def quiescent_SquareWeightGradIdeal [hSquareWeightGradIdeal : Cert.SquareWeightGradIdeal.Facts] : Prop :=
  ∀ (m : (ℓ : Loc Cert.SquareWeightGradIdeal.nD Cert.SquareWeightGradIdeal.τ Cert.SquareWeightGradIdeal.sig) → Buf (Elt Ideal) ℓ) (g : Dev Cert.SquareWeightGradIdeal.nD → PrngReg), Pre_SquareWeightGradIdeal m →
    θ_run (Cert.SquareWeightGradIdeal.defs (F := Ideal)) (onTc (τ := Cert.SquareWeightGradIdeal.τ) (Cert.SquareWeightGradIdeal.main (F := Ideal))) ⟨m, fun _ => 0, g⟩ (fun r => (∀ c : Dev Cert.SquareWeightGradIdeal.nD,
      r.2.mem ((c.tc : Thread Cert.SquareWeightGradIdeal.nD Cert.SquareWeightGradIdeal.τ).loc Cert.SquareWeightGradIdeal.main_arg0) = m ((c.tc : Thread Cert.SquareWeightGradIdeal.nD Cert.SquareWeightGradIdeal.τ).loc Cert.SquareWeightGradIdeal.main_arg0)
      ∧ r.2.mem ((c.tc : Thread Cert.SquareWeightGradIdeal.nD Cert.SquareWeightGradIdeal.τ).loc Cert.SquareWeightGradIdeal.main_arg1) = m ((c.tc : Thread Cert.SquareWeightGradIdeal.nD Cert.SquareWeightGradIdeal.τ).loc Cert.SquareWeightGradIdeal.main_arg1))
      ∧ r.2.sem = fun _ => 0)

def quiescent_DwHalf [hDwHalf : Cert.DwHalf.Facts] : Prop :=
  ∀ (m : (ℓ : Loc Cert.DwHalf.nD Cert.DwHalf.τ Cert.DwHalf.sig) → Buf (Elt Bits) ℓ) (g : Dev Cert.DwHalf.nD → PrngReg), Pre_DwHalf m →
    θ_run (Cert.DwHalf.defs (F := Bits)) (onTc (τ := Cert.DwHalf.τ) (Cert.DwHalf.main (F := Bits))) ⟨m, fun _ => 0, g⟩ (fun r => (∀ c : Dev Cert.DwHalf.nD,
      r.2.mem ((c.tc : Thread Cert.DwHalf.nD Cert.DwHalf.τ).loc Cert.DwHalf.main_arg0) = m ((c.tc : Thread Cert.DwHalf.nD Cert.DwHalf.τ).loc Cert.DwHalf.main_arg0)
      ∧ r.2.mem ((c.tc : Thread Cert.DwHalf.nD Cert.DwHalf.τ).loc Cert.DwHalf.main_arg1) = m ((c.tc : Thread Cert.DwHalf.nD Cert.DwHalf.τ).loc Cert.DwHalf.main_arg1))
      ∧ r.2.sem = fun _ => 0)

def quiescent_DwHalfIdeal [hDwHalfIdeal : Cert.DwHalfIdeal.Facts] : Prop :=
  ∀ (m : (ℓ : Loc Cert.DwHalfIdeal.nD Cert.DwHalfIdeal.τ Cert.DwHalfIdeal.sig) → Buf (Elt Ideal) ℓ) (g : Dev Cert.DwHalfIdeal.nD → PrngReg), Pre_DwHalfIdeal m →
    θ_run (Cert.DwHalfIdeal.defs (F := Ideal)) (onTc (τ := Cert.DwHalfIdeal.τ) (Cert.DwHalfIdeal.main (F := Ideal))) ⟨m, fun _ => 0, g⟩ (fun r => (∀ c : Dev Cert.DwHalfIdeal.nD,
      r.2.mem ((c.tc : Thread Cert.DwHalfIdeal.nD Cert.DwHalfIdeal.τ).loc Cert.DwHalfIdeal.main_arg0) = m ((c.tc : Thread Cert.DwHalfIdeal.nD Cert.DwHalfIdeal.τ).loc Cert.DwHalfIdeal.main_arg0)
      ∧ r.2.mem ((c.tc : Thread Cert.DwHalfIdeal.nD Cert.DwHalfIdeal.τ).loc Cert.DwHalfIdeal.main_arg1) = m ((c.tc : Thread Cert.DwHalfIdeal.nD Cert.DwHalfIdeal.τ).loc Cert.DwHalfIdeal.main_arg1))
      ∧ r.2.sem = fun _ => 0)

def quiescent_HalfWeightGradIdeal [hHalfWeightGradIdeal : Cert.HalfWeightGradIdeal.Facts] : Prop :=
  ∀ (m : (ℓ : Loc Cert.HalfWeightGradIdeal.nD Cert.HalfWeightGradIdeal.τ Cert.HalfWeightGradIdeal.sig) → Buf (Elt Ideal) ℓ) (g : Dev Cert.HalfWeightGradIdeal.nD → PrngReg), Pre_HalfWeightGradIdeal m →
    θ_run (Cert.HalfWeightGradIdeal.defs (F := Ideal)) (onTc (τ := Cert.HalfWeightGradIdeal.τ) (Cert.HalfWeightGradIdeal.main (F := Ideal))) ⟨m, fun _ => 0, g⟩ (fun r => (∀ c : Dev Cert.HalfWeightGradIdeal.nD,
      r.2.mem ((c.tc : Thread Cert.HalfWeightGradIdeal.nD Cert.HalfWeightGradIdeal.τ).loc Cert.HalfWeightGradIdeal.main_arg0) = m ((c.tc : Thread Cert.HalfWeightGradIdeal.nD Cert.HalfWeightGradIdeal.τ).loc Cert.HalfWeightGradIdeal.main_arg0)
      ∧ r.2.mem ((c.tc : Thread Cert.HalfWeightGradIdeal.nD Cert.HalfWeightGradIdeal.τ).loc Cert.HalfWeightGradIdeal.main_arg1) = m ((c.tc : Thread Cert.HalfWeightGradIdeal.nD Cert.HalfWeightGradIdeal.τ).loc Cert.HalfWeightGradIdeal.main_arg1))
      ∧ r.2.sem = fun _ => 0)

def quiescent_DwGlu [hDwGlu : Cert.DwGlu.Facts] : Prop :=
  ∀ (m : (ℓ : Loc Cert.DwGlu.nD Cert.DwGlu.τ Cert.DwGlu.sig) → Buf (Elt Bits) ℓ) (g : Dev Cert.DwGlu.nD → PrngReg), Pre_DwGlu m →
    θ_run (Cert.DwGlu.defs (F := Bits)) (onTc (τ := Cert.DwGlu.τ) (Cert.DwGlu.main (F := Bits))) ⟨m, fun _ => 0, g⟩ (fun r => (∀ c : Dev Cert.DwGlu.nD,
      r.2.mem ((c.tc : Thread Cert.DwGlu.nD Cert.DwGlu.τ).loc Cert.DwGlu.main_arg0) = m ((c.tc : Thread Cert.DwGlu.nD Cert.DwGlu.τ).loc Cert.DwGlu.main_arg0)
      ∧ r.2.mem ((c.tc : Thread Cert.DwGlu.nD Cert.DwGlu.τ).loc Cert.DwGlu.main_arg1) = m ((c.tc : Thread Cert.DwGlu.nD Cert.DwGlu.τ).loc Cert.DwGlu.main_arg1))
      ∧ r.2.sem = fun _ => 0)

def quiescent_DwGluIdeal [hDwGluIdeal : Cert.DwGluIdeal.Facts] : Prop :=
  ∀ (m : (ℓ : Loc Cert.DwGluIdeal.nD Cert.DwGluIdeal.τ Cert.DwGluIdeal.sig) → Buf (Elt Ideal) ℓ) (g : Dev Cert.DwGluIdeal.nD → PrngReg), Pre_DwGluIdeal m →
    θ_run (Cert.DwGluIdeal.defs (F := Ideal)) (onTc (τ := Cert.DwGluIdeal.τ) (Cert.DwGluIdeal.main (F := Ideal))) ⟨m, fun _ => 0, g⟩ (fun r => (∀ c : Dev Cert.DwGluIdeal.nD,
      r.2.mem ((c.tc : Thread Cert.DwGluIdeal.nD Cert.DwGluIdeal.τ).loc Cert.DwGluIdeal.main_arg0) = m ((c.tc : Thread Cert.DwGluIdeal.nD Cert.DwGluIdeal.τ).loc Cert.DwGluIdeal.main_arg0)
      ∧ r.2.mem ((c.tc : Thread Cert.DwGluIdeal.nD Cert.DwGluIdeal.τ).loc Cert.DwGluIdeal.main_arg1) = m ((c.tc : Thread Cert.DwGluIdeal.nD Cert.DwGluIdeal.τ).loc Cert.DwGluIdeal.main_arg1))
      ∧ r.2.sem = fun _ => 0)

def quiescent_GluWeightGradIdeal [hGluWeightGradIdeal : Cert.GluWeightGradIdeal.Facts] : Prop :=
  ∀ (m : (ℓ : Loc Cert.GluWeightGradIdeal.nD Cert.GluWeightGradIdeal.τ Cert.GluWeightGradIdeal.sig) → Buf (Elt Ideal) ℓ) (g : Dev Cert.GluWeightGradIdeal.nD → PrngReg), Pre_GluWeightGradIdeal m →
    θ_run (Cert.GluWeightGradIdeal.defs (F := Ideal)) (onTc (τ := Cert.GluWeightGradIdeal.τ) (Cert.GluWeightGradIdeal.main (F := Ideal))) ⟨m, fun _ => 0, g⟩ (fun r => (∀ c : Dev Cert.GluWeightGradIdeal.nD,
      r.2.mem ((c.tc : Thread Cert.GluWeightGradIdeal.nD Cert.GluWeightGradIdeal.τ).loc Cert.GluWeightGradIdeal.main_arg0) = m ((c.tc : Thread Cert.GluWeightGradIdeal.nD Cert.GluWeightGradIdeal.τ).loc Cert.GluWeightGradIdeal.main_arg0)
      ∧ r.2.mem ((c.tc : Thread Cert.GluWeightGradIdeal.nD Cert.GluWeightGradIdeal.τ).loc Cert.GluWeightGradIdeal.main_arg1) = m ((c.tc : Thread Cert.GluWeightGradIdeal.nD Cert.GluWeightGradIdeal.τ).loc Cert.GluWeightGradIdeal.main_arg1))
      ∧ r.2.sem = fun _ => 0)

def quiescent_EvenInBwd [hEvenInBwd : Cert.EvenInBwd.Facts] : Prop :=
  ∀ (m : (ℓ : Loc Cert.EvenInBwd.nD Cert.EvenInBwd.τ Cert.EvenInBwd.sig) → Buf (Elt Bits) ℓ) (g : Dev Cert.EvenInBwd.nD → PrngReg), Pre_EvenInBwd m →
    θ_run (Cert.EvenInBwd.defs (F := Bits)) (onTc (τ := Cert.EvenInBwd.τ) (Cert.EvenInBwd.main (F := Bits))) ⟨m, fun _ => 0, g⟩ (fun r => (∀ c : Dev Cert.EvenInBwd.nD,
      r.2.mem ((c.tc : Thread Cert.EvenInBwd.nD Cert.EvenInBwd.τ).loc Cert.EvenInBwd.main_arg0) = m ((c.tc : Thread Cert.EvenInBwd.nD Cert.EvenInBwd.τ).loc Cert.EvenInBwd.main_arg0)
      ∧ r.2.mem ((c.tc : Thread Cert.EvenInBwd.nD Cert.EvenInBwd.τ).loc Cert.EvenInBwd.main_arg1) = m ((c.tc : Thread Cert.EvenInBwd.nD Cert.EvenInBwd.τ).loc Cert.EvenInBwd.main_arg1)
      ∧ r.2.mem ((c.tc : Thread Cert.EvenInBwd.nD Cert.EvenInBwd.τ).loc Cert.EvenInBwd.main_arg2) = m ((c.tc : Thread Cert.EvenInBwd.nD Cert.EvenInBwd.τ).loc Cert.EvenInBwd.main_arg2)
      ∧ r.2.mem ((c.tc : Thread Cert.EvenInBwd.nD Cert.EvenInBwd.τ).loc Cert.EvenInBwd.main_arg3) = m ((c.tc : Thread Cert.EvenInBwd.nD Cert.EvenInBwd.τ).loc Cert.EvenInBwd.main_arg3)
      ∧ r.2.mem ((c.tc : Thread Cert.EvenInBwd.nD Cert.EvenInBwd.τ).loc Cert.EvenInBwd.main_arg4) = m ((c.tc : Thread Cert.EvenInBwd.nD Cert.EvenInBwd.τ).loc Cert.EvenInBwd.main_arg4)
      ∧ r.2.mem ((c.tc : Thread Cert.EvenInBwd.nD Cert.EvenInBwd.τ).loc Cert.EvenInBwd.main_arg5) = m ((c.tc : Thread Cert.EvenInBwd.nD Cert.EvenInBwd.τ).loc Cert.EvenInBwd.main_arg5)
      ∧ r.2.mem ((c.tc : Thread Cert.EvenInBwd.nD Cert.EvenInBwd.τ).loc Cert.EvenInBwd.main_arg6) = m ((c.tc : Thread Cert.EvenInBwd.nD Cert.EvenInBwd.τ).loc Cert.EvenInBwd.main_arg6))
      ∧ r.2.sem = fun _ => 0)

def quiescent_EvenInBwdIdeal [hEvenInBwdIdeal : Cert.EvenInBwdIdeal.Facts] : Prop :=
  ∀ (m : (ℓ : Loc Cert.EvenInBwdIdeal.nD Cert.EvenInBwdIdeal.τ Cert.EvenInBwdIdeal.sig) → Buf (Elt Ideal) ℓ) (g : Dev Cert.EvenInBwdIdeal.nD → PrngReg), Pre_EvenInBwdIdeal m →
    θ_run (Cert.EvenInBwdIdeal.defs (F := Ideal)) (onTc (τ := Cert.EvenInBwdIdeal.τ) (Cert.EvenInBwdIdeal.main (F := Ideal))) ⟨m, fun _ => 0, g⟩ (fun r => (∀ c : Dev Cert.EvenInBwdIdeal.nD,
      r.2.mem ((c.tc : Thread Cert.EvenInBwdIdeal.nD Cert.EvenInBwdIdeal.τ).loc Cert.EvenInBwdIdeal.main_arg0) = m ((c.tc : Thread Cert.EvenInBwdIdeal.nD Cert.EvenInBwdIdeal.τ).loc Cert.EvenInBwdIdeal.main_arg0)
      ∧ r.2.mem ((c.tc : Thread Cert.EvenInBwdIdeal.nD Cert.EvenInBwdIdeal.τ).loc Cert.EvenInBwdIdeal.main_arg1) = m ((c.tc : Thread Cert.EvenInBwdIdeal.nD Cert.EvenInBwdIdeal.τ).loc Cert.EvenInBwdIdeal.main_arg1)
      ∧ r.2.mem ((c.tc : Thread Cert.EvenInBwdIdeal.nD Cert.EvenInBwdIdeal.τ).loc Cert.EvenInBwdIdeal.main_arg2) = m ((c.tc : Thread Cert.EvenInBwdIdeal.nD Cert.EvenInBwdIdeal.τ).loc Cert.EvenInBwdIdeal.main_arg2)
      ∧ r.2.mem ((c.tc : Thread Cert.EvenInBwdIdeal.nD Cert.EvenInBwdIdeal.τ).loc Cert.EvenInBwdIdeal.main_arg3) = m ((c.tc : Thread Cert.EvenInBwdIdeal.nD Cert.EvenInBwdIdeal.τ).loc Cert.EvenInBwdIdeal.main_arg3)
      ∧ r.2.mem ((c.tc : Thread Cert.EvenInBwdIdeal.nD Cert.EvenInBwdIdeal.τ).loc Cert.EvenInBwdIdeal.main_arg4) = m ((c.tc : Thread Cert.EvenInBwdIdeal.nD Cert.EvenInBwdIdeal.τ).loc Cert.EvenInBwdIdeal.main_arg4)
      ∧ r.2.mem ((c.tc : Thread Cert.EvenInBwdIdeal.nD Cert.EvenInBwdIdeal.τ).loc Cert.EvenInBwdIdeal.main_arg5) = m ((c.tc : Thread Cert.EvenInBwdIdeal.nD Cert.EvenInBwdIdeal.τ).loc Cert.EvenInBwdIdeal.main_arg5)
      ∧ r.2.mem ((c.tc : Thread Cert.EvenInBwdIdeal.nD Cert.EvenInBwdIdeal.τ).loc Cert.EvenInBwdIdeal.main_arg6) = m ((c.tc : Thread Cert.EvenInBwdIdeal.nD Cert.EvenInBwdIdeal.τ).loc Cert.EvenInBwdIdeal.main_arg6))
      ∧ r.2.sem = fun _ => 0)

def quiescent_EvenInGradIdeal [hEvenInGradIdeal : Cert.EvenInGradIdeal.Facts] : Prop :=
  ∀ (m : (ℓ : Loc Cert.EvenInGradIdeal.nD Cert.EvenInGradIdeal.τ Cert.EvenInGradIdeal.sig) → Buf (Elt Ideal) ℓ) (g : Dev Cert.EvenInGradIdeal.nD → PrngReg), Pre_EvenInGradIdeal m →
    θ_run (Cert.EvenInGradIdeal.defs (F := Ideal)) (onTc (τ := Cert.EvenInGradIdeal.τ) (Cert.EvenInGradIdeal.main (F := Ideal))) ⟨m, fun _ => 0, g⟩ (fun r => (∀ c : Dev Cert.EvenInGradIdeal.nD,
      r.2.mem ((c.tc : Thread Cert.EvenInGradIdeal.nD Cert.EvenInGradIdeal.τ).loc Cert.EvenInGradIdeal.main_arg0) = m ((c.tc : Thread Cert.EvenInGradIdeal.nD Cert.EvenInGradIdeal.τ).loc Cert.EvenInGradIdeal.main_arg0)
      ∧ r.2.mem ((c.tc : Thread Cert.EvenInGradIdeal.nD Cert.EvenInGradIdeal.τ).loc Cert.EvenInGradIdeal.main_arg1) = m ((c.tc : Thread Cert.EvenInGradIdeal.nD Cert.EvenInGradIdeal.τ).loc Cert.EvenInGradIdeal.main_arg1)
      ∧ r.2.mem ((c.tc : Thread Cert.EvenInGradIdeal.nD Cert.EvenInGradIdeal.τ).loc Cert.EvenInGradIdeal.main_arg2) = m ((c.tc : Thread Cert.EvenInGradIdeal.nD Cert.EvenInGradIdeal.τ).loc Cert.EvenInGradIdeal.main_arg2)
      ∧ r.2.mem ((c.tc : Thread Cert.EvenInGradIdeal.nD Cert.EvenInGradIdeal.τ).loc Cert.EvenInGradIdeal.main_arg3) = m ((c.tc : Thread Cert.EvenInGradIdeal.nD Cert.EvenInGradIdeal.τ).loc Cert.EvenInGradIdeal.main_arg3)
      ∧ r.2.mem ((c.tc : Thread Cert.EvenInGradIdeal.nD Cert.EvenInGradIdeal.τ).loc Cert.EvenInGradIdeal.main_arg4) = m ((c.tc : Thread Cert.EvenInGradIdeal.nD Cert.EvenInGradIdeal.τ).loc Cert.EvenInGradIdeal.main_arg4)
      ∧ r.2.mem ((c.tc : Thread Cert.EvenInGradIdeal.nD Cert.EvenInGradIdeal.τ).loc Cert.EvenInGradIdeal.main_arg5) = m ((c.tc : Thread Cert.EvenInGradIdeal.nD Cert.EvenInGradIdeal.τ).loc Cert.EvenInGradIdeal.main_arg5)
      ∧ r.2.mem ((c.tc : Thread Cert.EvenInGradIdeal.nD Cert.EvenInGradIdeal.τ).loc Cert.EvenInGradIdeal.main_arg6) = m ((c.tc : Thread Cert.EvenInGradIdeal.nD Cert.EvenInGradIdeal.τ).loc Cert.EvenInGradIdeal.main_arg6))
      ∧ r.2.sem = fun _ => 0)

def quiescent_OddInFwd [hOddInFwd : Cert.OddInFwd.Facts] : Prop :=
  ∀ (m : (ℓ : Loc Cert.OddInFwd.nD Cert.OddInFwd.τ Cert.OddInFwd.sig) → Buf (Elt Bits) ℓ) (g : Dev Cert.OddInFwd.nD → PrngReg), Pre_OddInFwd m →
    θ_run (Cert.OddInFwd.defs (F := Bits)) (onTc (τ := Cert.OddInFwd.τ) (Cert.OddInFwd.main (F := Bits))) ⟨m, fun _ => 0, g⟩ (fun r => (∀ c : Dev Cert.OddInFwd.nD,
      r.2.mem ((c.tc : Thread Cert.OddInFwd.nD Cert.OddInFwd.τ).loc Cert.OddInFwd.main_arg0) = m ((c.tc : Thread Cert.OddInFwd.nD Cert.OddInFwd.τ).loc Cert.OddInFwd.main_arg0)
      ∧ r.2.mem ((c.tc : Thread Cert.OddInFwd.nD Cert.OddInFwd.τ).loc Cert.OddInFwd.main_arg1) = m ((c.tc : Thread Cert.OddInFwd.nD Cert.OddInFwd.τ).loc Cert.OddInFwd.main_arg1)
      ∧ r.2.mem ((c.tc : Thread Cert.OddInFwd.nD Cert.OddInFwd.τ).loc Cert.OddInFwd.main_arg2) = m ((c.tc : Thread Cert.OddInFwd.nD Cert.OddInFwd.τ).loc Cert.OddInFwd.main_arg2))
      ∧ r.2.sem = fun _ => 0)

def quiescent_OddInFwdIdeal [hOddInFwdIdeal : Cert.OddInFwdIdeal.Facts] : Prop :=
  ∀ (m : (ℓ : Loc Cert.OddInFwdIdeal.nD Cert.OddInFwdIdeal.τ Cert.OddInFwdIdeal.sig) → Buf (Elt Ideal) ℓ) (g : Dev Cert.OddInFwdIdeal.nD → PrngReg), Pre_OddInFwdIdeal m →
    θ_run (Cert.OddInFwdIdeal.defs (F := Ideal)) (onTc (τ := Cert.OddInFwdIdeal.τ) (Cert.OddInFwdIdeal.main (F := Ideal))) ⟨m, fun _ => 0, g⟩ (fun r => (∀ c : Dev Cert.OddInFwdIdeal.nD,
      r.2.mem ((c.tc : Thread Cert.OddInFwdIdeal.nD Cert.OddInFwdIdeal.τ).loc Cert.OddInFwdIdeal.main_arg0) = m ((c.tc : Thread Cert.OddInFwdIdeal.nD Cert.OddInFwdIdeal.τ).loc Cert.OddInFwdIdeal.main_arg0)
      ∧ r.2.mem ((c.tc : Thread Cert.OddInFwdIdeal.nD Cert.OddInFwdIdeal.τ).loc Cert.OddInFwdIdeal.main_arg1) = m ((c.tc : Thread Cert.OddInFwdIdeal.nD Cert.OddInFwdIdeal.τ).loc Cert.OddInFwdIdeal.main_arg1)
      ∧ r.2.mem ((c.tc : Thread Cert.OddInFwdIdeal.nD Cert.OddInFwdIdeal.τ).loc Cert.OddInFwdIdeal.main_arg2) = m ((c.tc : Thread Cert.OddInFwdIdeal.nD Cert.OddInFwdIdeal.τ).loc Cert.OddInFwdIdeal.main_arg2))
      ∧ r.2.sem = fun _ => 0)

def quiescent_OddInRefIdeal [hOddInRefIdeal : Cert.OddInRefIdeal.Facts] : Prop :=
  ∀ (m : (ℓ : Loc Cert.OddInRefIdeal.nD Cert.OddInRefIdeal.τ Cert.OddInRefIdeal.sig) → Buf (Elt Ideal) ℓ) (g : Dev Cert.OddInRefIdeal.nD → PrngReg), Pre_OddInRefIdeal m →
    θ_run (Cert.OddInRefIdeal.defs (F := Ideal)) (onTc (τ := Cert.OddInRefIdeal.τ) (Cert.OddInRefIdeal.main (F := Ideal))) ⟨m, fun _ => 0, g⟩ (fun r => (∀ c : Dev Cert.OddInRefIdeal.nD,
      r.2.mem ((c.tc : Thread Cert.OddInRefIdeal.nD Cert.OddInRefIdeal.τ).loc Cert.OddInRefIdeal.main_arg0) = m ((c.tc : Thread Cert.OddInRefIdeal.nD Cert.OddInRefIdeal.τ).loc Cert.OddInRefIdeal.main_arg0)
      ∧ r.2.mem ((c.tc : Thread Cert.OddInRefIdeal.nD Cert.OddInRefIdeal.τ).loc Cert.OddInRefIdeal.main_arg1) = m ((c.tc : Thread Cert.OddInRefIdeal.nD Cert.OddInRefIdeal.τ).loc Cert.OddInRefIdeal.main_arg1)
      ∧ r.2.mem ((c.tc : Thread Cert.OddInRefIdeal.nD Cert.OddInRefIdeal.τ).loc Cert.OddInRefIdeal.main_arg2) = m ((c.tc : Thread Cert.OddInRefIdeal.nD Cert.OddInRefIdeal.τ).loc Cert.OddInRefIdeal.main_arg2))
      ∧ r.2.sem = fun _ => 0)

def quiescent_EvenInFwd [hEvenInFwd : Cert.EvenInFwd.Facts] : Prop :=
  ∀ (m : (ℓ : Loc Cert.EvenInFwd.nD Cert.EvenInFwd.τ Cert.EvenInFwd.sig) → Buf (Elt Bits) ℓ) (g : Dev Cert.EvenInFwd.nD → PrngReg), Pre_EvenInFwd m →
    θ_run (Cert.EvenInFwd.defs (F := Bits)) (onTc (τ := Cert.EvenInFwd.τ) (Cert.EvenInFwd.main (F := Bits))) ⟨m, fun _ => 0, g⟩ (fun r => (∀ c : Dev Cert.EvenInFwd.nD,
      r.2.mem ((c.tc : Thread Cert.EvenInFwd.nD Cert.EvenInFwd.τ).loc Cert.EvenInFwd.main_arg0) = m ((c.tc : Thread Cert.EvenInFwd.nD Cert.EvenInFwd.τ).loc Cert.EvenInFwd.main_arg0)
      ∧ r.2.mem ((c.tc : Thread Cert.EvenInFwd.nD Cert.EvenInFwd.τ).loc Cert.EvenInFwd.main_arg1) = m ((c.tc : Thread Cert.EvenInFwd.nD Cert.EvenInFwd.τ).loc Cert.EvenInFwd.main_arg1)
      ∧ r.2.mem ((c.tc : Thread Cert.EvenInFwd.nD Cert.EvenInFwd.τ).loc Cert.EvenInFwd.main_arg2) = m ((c.tc : Thread Cert.EvenInFwd.nD Cert.EvenInFwd.τ).loc Cert.EvenInFwd.main_arg2))
      ∧ r.2.sem = fun _ => 0)

def quiescent_EvenInFwdIdeal [hEvenInFwdIdeal : Cert.EvenInFwdIdeal.Facts] : Prop :=
  ∀ (m : (ℓ : Loc Cert.EvenInFwdIdeal.nD Cert.EvenInFwdIdeal.τ Cert.EvenInFwdIdeal.sig) → Buf (Elt Ideal) ℓ) (g : Dev Cert.EvenInFwdIdeal.nD → PrngReg), Pre_EvenInFwdIdeal m →
    θ_run (Cert.EvenInFwdIdeal.defs (F := Ideal)) (onTc (τ := Cert.EvenInFwdIdeal.τ) (Cert.EvenInFwdIdeal.main (F := Ideal))) ⟨m, fun _ => 0, g⟩ (fun r => (∀ c : Dev Cert.EvenInFwdIdeal.nD,
      r.2.mem ((c.tc : Thread Cert.EvenInFwdIdeal.nD Cert.EvenInFwdIdeal.τ).loc Cert.EvenInFwdIdeal.main_arg0) = m ((c.tc : Thread Cert.EvenInFwdIdeal.nD Cert.EvenInFwdIdeal.τ).loc Cert.EvenInFwdIdeal.main_arg0)
      ∧ r.2.mem ((c.tc : Thread Cert.EvenInFwdIdeal.nD Cert.EvenInFwdIdeal.τ).loc Cert.EvenInFwdIdeal.main_arg1) = m ((c.tc : Thread Cert.EvenInFwdIdeal.nD Cert.EvenInFwdIdeal.τ).loc Cert.EvenInFwdIdeal.main_arg1)
      ∧ r.2.mem ((c.tc : Thread Cert.EvenInFwdIdeal.nD Cert.EvenInFwdIdeal.τ).loc Cert.EvenInFwdIdeal.main_arg2) = m ((c.tc : Thread Cert.EvenInFwdIdeal.nD Cert.EvenInFwdIdeal.τ).loc Cert.EvenInFwdIdeal.main_arg2))
      ∧ r.2.sem = fun _ => 0)

def quiescent_EvenInRefIdeal [hEvenInRefIdeal : Cert.EvenInRefIdeal.Facts] : Prop :=
  ∀ (m : (ℓ : Loc Cert.EvenInRefIdeal.nD Cert.EvenInRefIdeal.τ Cert.EvenInRefIdeal.sig) → Buf (Elt Ideal) ℓ) (g : Dev Cert.EvenInRefIdeal.nD → PrngReg), Pre_EvenInRefIdeal m →
    θ_run (Cert.EvenInRefIdeal.defs (F := Ideal)) (onTc (τ := Cert.EvenInRefIdeal.τ) (Cert.EvenInRefIdeal.main (F := Ideal))) ⟨m, fun _ => 0, g⟩ (fun r => (∀ c : Dev Cert.EvenInRefIdeal.nD,
      r.2.mem ((c.tc : Thread Cert.EvenInRefIdeal.nD Cert.EvenInRefIdeal.τ).loc Cert.EvenInRefIdeal.main_arg0) = m ((c.tc : Thread Cert.EvenInRefIdeal.nD Cert.EvenInRefIdeal.τ).loc Cert.EvenInRefIdeal.main_arg0)
      ∧ r.2.mem ((c.tc : Thread Cert.EvenInRefIdeal.nD Cert.EvenInRefIdeal.τ).loc Cert.EvenInRefIdeal.main_arg1) = m ((c.tc : Thread Cert.EvenInRefIdeal.nD Cert.EvenInRefIdeal.τ).loc Cert.EvenInRefIdeal.main_arg1)
      ∧ r.2.mem ((c.tc : Thread Cert.EvenInRefIdeal.nD Cert.EvenInRefIdeal.τ).loc Cert.EvenInRefIdeal.main_arg2) = m ((c.tc : Thread Cert.EvenInRefIdeal.nD Cert.EvenInRefIdeal.τ).loc Cert.EvenInRefIdeal.main_arg2))
      ∧ r.2.sem = fun _ => 0)

def quiescent_EvenMixFwd [hEvenMixFwd : Cert.EvenMixFwd.Facts] : Prop :=
  ∀ (m : (ℓ : Loc Cert.EvenMixFwd.nD Cert.EvenMixFwd.τ Cert.EvenMixFwd.sig) → Buf (Elt Bits) ℓ) (g : Dev Cert.EvenMixFwd.nD → PrngReg), Pre_EvenMixFwd m →
    θ_run (Cert.EvenMixFwd.defs (F := Bits)) (onTc (τ := Cert.EvenMixFwd.τ) (Cert.EvenMixFwd.main (F := Bits))) ⟨m, fun _ => 0, g⟩ (fun r => (∀ c : Dev Cert.EvenMixFwd.nD,
      r.2.mem ((c.tc : Thread Cert.EvenMixFwd.nD Cert.EvenMixFwd.τ).loc Cert.EvenMixFwd.main_arg0) = m ((c.tc : Thread Cert.EvenMixFwd.nD Cert.EvenMixFwd.τ).loc Cert.EvenMixFwd.main_arg0)
      ∧ r.2.mem ((c.tc : Thread Cert.EvenMixFwd.nD Cert.EvenMixFwd.τ).loc Cert.EvenMixFwd.main_arg1) = m ((c.tc : Thread Cert.EvenMixFwd.nD Cert.EvenMixFwd.τ).loc Cert.EvenMixFwd.main_arg1)
      ∧ r.2.mem ((c.tc : Thread Cert.EvenMixFwd.nD Cert.EvenMixFwd.τ).loc Cert.EvenMixFwd.main_arg2) = m ((c.tc : Thread Cert.EvenMixFwd.nD Cert.EvenMixFwd.τ).loc Cert.EvenMixFwd.main_arg2)
      ∧ r.2.mem ((c.tc : Thread Cert.EvenMixFwd.nD Cert.EvenMixFwd.τ).loc Cert.EvenMixFwd.main_arg3) = m ((c.tc : Thread Cert.EvenMixFwd.nD Cert.EvenMixFwd.τ).loc Cert.EvenMixFwd.main_arg3)
      ∧ r.2.mem ((c.tc : Thread Cert.EvenMixFwd.nD Cert.EvenMixFwd.τ).loc Cert.EvenMixFwd.main_arg4) = m ((c.tc : Thread Cert.EvenMixFwd.nD Cert.EvenMixFwd.τ).loc Cert.EvenMixFwd.main_arg4)
      ∧ r.2.mem ((c.tc : Thread Cert.EvenMixFwd.nD Cert.EvenMixFwd.τ).loc Cert.EvenMixFwd.main_arg5) = m ((c.tc : Thread Cert.EvenMixFwd.nD Cert.EvenMixFwd.τ).loc Cert.EvenMixFwd.main_arg5)
      ∧ r.2.mem ((c.tc : Thread Cert.EvenMixFwd.nD Cert.EvenMixFwd.τ).loc Cert.EvenMixFwd.main_arg6) = m ((c.tc : Thread Cert.EvenMixFwd.nD Cert.EvenMixFwd.τ).loc Cert.EvenMixFwd.main_arg6)
      ∧ r.2.mem ((c.tc : Thread Cert.EvenMixFwd.nD Cert.EvenMixFwd.τ).loc Cert.EvenMixFwd.main_arg7) = m ((c.tc : Thread Cert.EvenMixFwd.nD Cert.EvenMixFwd.τ).loc Cert.EvenMixFwd.main_arg7)
      ∧ r.2.mem ((c.tc : Thread Cert.EvenMixFwd.nD Cert.EvenMixFwd.τ).loc Cert.EvenMixFwd.main_arg8) = m ((c.tc : Thread Cert.EvenMixFwd.nD Cert.EvenMixFwd.τ).loc Cert.EvenMixFwd.main_arg8)
      ∧ r.2.mem ((c.tc : Thread Cert.EvenMixFwd.nD Cert.EvenMixFwd.τ).loc Cert.EvenMixFwd.main_arg9) = m ((c.tc : Thread Cert.EvenMixFwd.nD Cert.EvenMixFwd.τ).loc Cert.EvenMixFwd.main_arg9)
      ∧ r.2.mem ((c.tc : Thread Cert.EvenMixFwd.nD Cert.EvenMixFwd.τ).loc Cert.EvenMixFwd.main_arg10) = m ((c.tc : Thread Cert.EvenMixFwd.nD Cert.EvenMixFwd.τ).loc Cert.EvenMixFwd.main_arg10)
      ∧ r.2.mem ((c.tc : Thread Cert.EvenMixFwd.nD Cert.EvenMixFwd.τ).loc Cert.EvenMixFwd.main_arg11) = m ((c.tc : Thread Cert.EvenMixFwd.nD Cert.EvenMixFwd.τ).loc Cert.EvenMixFwd.main_arg11))
      ∧ r.2.sem = fun _ => 0)

def quiescent_EvenMixFwdIdeal [hEvenMixFwdIdeal : Cert.EvenMixFwdIdeal.Facts] : Prop :=
  ∀ (m : (ℓ : Loc Cert.EvenMixFwdIdeal.nD Cert.EvenMixFwdIdeal.τ Cert.EvenMixFwdIdeal.sig) → Buf (Elt Ideal) ℓ) (g : Dev Cert.EvenMixFwdIdeal.nD → PrngReg), Pre_EvenMixFwdIdeal m →
    θ_run (Cert.EvenMixFwdIdeal.defs (F := Ideal)) (onTc (τ := Cert.EvenMixFwdIdeal.τ) (Cert.EvenMixFwdIdeal.main (F := Ideal))) ⟨m, fun _ => 0, g⟩ (fun r => (∀ c : Dev Cert.EvenMixFwdIdeal.nD,
      r.2.mem ((c.tc : Thread Cert.EvenMixFwdIdeal.nD Cert.EvenMixFwdIdeal.τ).loc Cert.EvenMixFwdIdeal.main_arg0) = m ((c.tc : Thread Cert.EvenMixFwdIdeal.nD Cert.EvenMixFwdIdeal.τ).loc Cert.EvenMixFwdIdeal.main_arg0)
      ∧ r.2.mem ((c.tc : Thread Cert.EvenMixFwdIdeal.nD Cert.EvenMixFwdIdeal.τ).loc Cert.EvenMixFwdIdeal.main_arg1) = m ((c.tc : Thread Cert.EvenMixFwdIdeal.nD Cert.EvenMixFwdIdeal.τ).loc Cert.EvenMixFwdIdeal.main_arg1)
      ∧ r.2.mem ((c.tc : Thread Cert.EvenMixFwdIdeal.nD Cert.EvenMixFwdIdeal.τ).loc Cert.EvenMixFwdIdeal.main_arg2) = m ((c.tc : Thread Cert.EvenMixFwdIdeal.nD Cert.EvenMixFwdIdeal.τ).loc Cert.EvenMixFwdIdeal.main_arg2)
      ∧ r.2.mem ((c.tc : Thread Cert.EvenMixFwdIdeal.nD Cert.EvenMixFwdIdeal.τ).loc Cert.EvenMixFwdIdeal.main_arg3) = m ((c.tc : Thread Cert.EvenMixFwdIdeal.nD Cert.EvenMixFwdIdeal.τ).loc Cert.EvenMixFwdIdeal.main_arg3)
      ∧ r.2.mem ((c.tc : Thread Cert.EvenMixFwdIdeal.nD Cert.EvenMixFwdIdeal.τ).loc Cert.EvenMixFwdIdeal.main_arg4) = m ((c.tc : Thread Cert.EvenMixFwdIdeal.nD Cert.EvenMixFwdIdeal.τ).loc Cert.EvenMixFwdIdeal.main_arg4)
      ∧ r.2.mem ((c.tc : Thread Cert.EvenMixFwdIdeal.nD Cert.EvenMixFwdIdeal.τ).loc Cert.EvenMixFwdIdeal.main_arg5) = m ((c.tc : Thread Cert.EvenMixFwdIdeal.nD Cert.EvenMixFwdIdeal.τ).loc Cert.EvenMixFwdIdeal.main_arg5)
      ∧ r.2.mem ((c.tc : Thread Cert.EvenMixFwdIdeal.nD Cert.EvenMixFwdIdeal.τ).loc Cert.EvenMixFwdIdeal.main_arg6) = m ((c.tc : Thread Cert.EvenMixFwdIdeal.nD Cert.EvenMixFwdIdeal.τ).loc Cert.EvenMixFwdIdeal.main_arg6)
      ∧ r.2.mem ((c.tc : Thread Cert.EvenMixFwdIdeal.nD Cert.EvenMixFwdIdeal.τ).loc Cert.EvenMixFwdIdeal.main_arg7) = m ((c.tc : Thread Cert.EvenMixFwdIdeal.nD Cert.EvenMixFwdIdeal.τ).loc Cert.EvenMixFwdIdeal.main_arg7)
      ∧ r.2.mem ((c.tc : Thread Cert.EvenMixFwdIdeal.nD Cert.EvenMixFwdIdeal.τ).loc Cert.EvenMixFwdIdeal.main_arg8) = m ((c.tc : Thread Cert.EvenMixFwdIdeal.nD Cert.EvenMixFwdIdeal.τ).loc Cert.EvenMixFwdIdeal.main_arg8)
      ∧ r.2.mem ((c.tc : Thread Cert.EvenMixFwdIdeal.nD Cert.EvenMixFwdIdeal.τ).loc Cert.EvenMixFwdIdeal.main_arg9) = m ((c.tc : Thread Cert.EvenMixFwdIdeal.nD Cert.EvenMixFwdIdeal.τ).loc Cert.EvenMixFwdIdeal.main_arg9)
      ∧ r.2.mem ((c.tc : Thread Cert.EvenMixFwdIdeal.nD Cert.EvenMixFwdIdeal.τ).loc Cert.EvenMixFwdIdeal.main_arg10) = m ((c.tc : Thread Cert.EvenMixFwdIdeal.nD Cert.EvenMixFwdIdeal.τ).loc Cert.EvenMixFwdIdeal.main_arg10)
      ∧ r.2.mem ((c.tc : Thread Cert.EvenMixFwdIdeal.nD Cert.EvenMixFwdIdeal.τ).loc Cert.EvenMixFwdIdeal.main_arg11) = m ((c.tc : Thread Cert.EvenMixFwdIdeal.nD Cert.EvenMixFwdIdeal.τ).loc Cert.EvenMixFwdIdeal.main_arg11))
      ∧ r.2.sem = fun _ => 0)

def quiescent_EvenMixRefIdeal [hEvenMixRefIdeal : Cert.EvenMixRefIdeal.Facts] : Prop :=
  ∀ (m : (ℓ : Loc Cert.EvenMixRefIdeal.nD Cert.EvenMixRefIdeal.τ Cert.EvenMixRefIdeal.sig) → Buf (Elt Ideal) ℓ) (g : Dev Cert.EvenMixRefIdeal.nD → PrngReg), Pre_EvenMixRefIdeal m →
    θ_run (Cert.EvenMixRefIdeal.defs (F := Ideal)) (onTc (τ := Cert.EvenMixRefIdeal.τ) (Cert.EvenMixRefIdeal.main (F := Ideal))) ⟨m, fun _ => 0, g⟩ (fun r => (∀ c : Dev Cert.EvenMixRefIdeal.nD,
      r.2.mem ((c.tc : Thread Cert.EvenMixRefIdeal.nD Cert.EvenMixRefIdeal.τ).loc Cert.EvenMixRefIdeal.main_arg0) = m ((c.tc : Thread Cert.EvenMixRefIdeal.nD Cert.EvenMixRefIdeal.τ).loc Cert.EvenMixRefIdeal.main_arg0)
      ∧ r.2.mem ((c.tc : Thread Cert.EvenMixRefIdeal.nD Cert.EvenMixRefIdeal.τ).loc Cert.EvenMixRefIdeal.main_arg1) = m ((c.tc : Thread Cert.EvenMixRefIdeal.nD Cert.EvenMixRefIdeal.τ).loc Cert.EvenMixRefIdeal.main_arg1)
      ∧ r.2.mem ((c.tc : Thread Cert.EvenMixRefIdeal.nD Cert.EvenMixRefIdeal.τ).loc Cert.EvenMixRefIdeal.main_arg2) = m ((c.tc : Thread Cert.EvenMixRefIdeal.nD Cert.EvenMixRefIdeal.τ).loc Cert.EvenMixRefIdeal.main_arg2)
      ∧ r.2.mem ((c.tc : Thread Cert.EvenMixRefIdeal.nD Cert.EvenMixRefIdeal.τ).loc Cert.EvenMixRefIdeal.main_arg3) = m ((c.tc : Thread Cert.EvenMixRefIdeal.nD Cert.EvenMixRefIdeal.τ).loc Cert.EvenMixRefIdeal.main_arg3)
      ∧ r.2.mem ((c.tc : Thread Cert.EvenMixRefIdeal.nD Cert.EvenMixRefIdeal.τ).loc Cert.EvenMixRefIdeal.main_arg4) = m ((c.tc : Thread Cert.EvenMixRefIdeal.nD Cert.EvenMixRefIdeal.τ).loc Cert.EvenMixRefIdeal.main_arg4)
      ∧ r.2.mem ((c.tc : Thread Cert.EvenMixRefIdeal.nD Cert.EvenMixRefIdeal.τ).loc Cert.EvenMixRefIdeal.main_arg5) = m ((c.tc : Thread Cert.EvenMixRefIdeal.nD Cert.EvenMixRefIdeal.τ).loc Cert.EvenMixRefIdeal.main_arg5)
      ∧ r.2.mem ((c.tc : Thread Cert.EvenMixRefIdeal.nD Cert.EvenMixRefIdeal.τ).loc Cert.EvenMixRefIdeal.main_arg6) = m ((c.tc : Thread Cert.EvenMixRefIdeal.nD Cert.EvenMixRefIdeal.τ).loc Cert.EvenMixRefIdeal.main_arg6)
      ∧ r.2.mem ((c.tc : Thread Cert.EvenMixRefIdeal.nD Cert.EvenMixRefIdeal.τ).loc Cert.EvenMixRefIdeal.main_arg7) = m ((c.tc : Thread Cert.EvenMixRefIdeal.nD Cert.EvenMixRefIdeal.τ).loc Cert.EvenMixRefIdeal.main_arg7)
      ∧ r.2.mem ((c.tc : Thread Cert.EvenMixRefIdeal.nD Cert.EvenMixRefIdeal.τ).loc Cert.EvenMixRefIdeal.main_arg8) = m ((c.tc : Thread Cert.EvenMixRefIdeal.nD Cert.EvenMixRefIdeal.τ).loc Cert.EvenMixRefIdeal.main_arg8)
      ∧ r.2.mem ((c.tc : Thread Cert.EvenMixRefIdeal.nD Cert.EvenMixRefIdeal.τ).loc Cert.EvenMixRefIdeal.main_arg9) = m ((c.tc : Thread Cert.EvenMixRefIdeal.nD Cert.EvenMixRefIdeal.τ).loc Cert.EvenMixRefIdeal.main_arg9)
      ∧ r.2.mem ((c.tc : Thread Cert.EvenMixRefIdeal.nD Cert.EvenMixRefIdeal.τ).loc Cert.EvenMixRefIdeal.main_arg10) = m ((c.tc : Thread Cert.EvenMixRefIdeal.nD Cert.EvenMixRefIdeal.τ).loc Cert.EvenMixRefIdeal.main_arg10)
      ∧ r.2.mem ((c.tc : Thread Cert.EvenMixRefIdeal.nD Cert.EvenMixRefIdeal.τ).loc Cert.EvenMixRefIdeal.main_arg11) = m ((c.tc : Thread Cert.EvenMixRefIdeal.nD Cert.EvenMixRefIdeal.τ).loc Cert.EvenMixRefIdeal.main_arg11))
      ∧ r.2.sem = fun _ => 0)

def quiescent_DwReadRe [hDwReadRe : Cert.DwReadRe.Facts] : Prop :=
  ∀ (m : (ℓ : Loc Cert.DwReadRe.nD Cert.DwReadRe.τ Cert.DwReadRe.sig) → Buf (Elt Bits) ℓ) (g : Dev Cert.DwReadRe.nD → PrngReg), Pre_DwReadRe m →
    θ_run (Cert.DwReadRe.defs (F := Bits)) (onTc (τ := Cert.DwReadRe.τ) (Cert.DwReadRe.main (F := Bits))) ⟨m, fun _ => 0, g⟩ (fun r => (∀ c : Dev Cert.DwReadRe.nD,
      r.2.mem ((c.tc : Thread Cert.DwReadRe.nD Cert.DwReadRe.τ).loc Cert.DwReadRe.main_arg0) = m ((c.tc : Thread Cert.DwReadRe.nD Cert.DwReadRe.τ).loc Cert.DwReadRe.main_arg0)
      ∧ r.2.mem ((c.tc : Thread Cert.DwReadRe.nD Cert.DwReadRe.τ).loc Cert.DwReadRe.main_arg1) = m ((c.tc : Thread Cert.DwReadRe.nD Cert.DwReadRe.τ).loc Cert.DwReadRe.main_arg1))
      ∧ r.2.sem = fun _ => 0)

def quiescent_DwReadReIdeal [hDwReadReIdeal : Cert.DwReadReIdeal.Facts] : Prop :=
  ∀ (m : (ℓ : Loc Cert.DwReadReIdeal.nD Cert.DwReadReIdeal.τ Cert.DwReadReIdeal.sig) → Buf (Elt Ideal) ℓ) (g : Dev Cert.DwReadReIdeal.nD → PrngReg), Pre_DwReadReIdeal m →
    θ_run (Cert.DwReadReIdeal.defs (F := Ideal)) (onTc (τ := Cert.DwReadReIdeal.τ) (Cert.DwReadReIdeal.main (F := Ideal))) ⟨m, fun _ => 0, g⟩ (fun r => (∀ c : Dev Cert.DwReadReIdeal.nD,
      r.2.mem ((c.tc : Thread Cert.DwReadReIdeal.nD Cert.DwReadReIdeal.τ).loc Cert.DwReadReIdeal.main_arg0) = m ((c.tc : Thread Cert.DwReadReIdeal.nD Cert.DwReadReIdeal.τ).loc Cert.DwReadReIdeal.main_arg0)
      ∧ r.2.mem ((c.tc : Thread Cert.DwReadReIdeal.nD Cert.DwReadReIdeal.τ).loc Cert.DwReadReIdeal.main_arg1) = m ((c.tc : Thread Cert.DwReadReIdeal.nD Cert.DwReadReIdeal.τ).loc Cert.DwReadReIdeal.main_arg1))
      ∧ r.2.sem = fun _ => 0)

def quiescent_ReadReGradIdeal [hReadReGradIdeal : Cert.ReadReGradIdeal.Facts] : Prop :=
  ∀ (m : (ℓ : Loc Cert.ReadReGradIdeal.nD Cert.ReadReGradIdeal.τ Cert.ReadReGradIdeal.sig) → Buf (Elt Ideal) ℓ) (g : Dev Cert.ReadReGradIdeal.nD → PrngReg), Pre_ReadReGradIdeal m →
    θ_run (Cert.ReadReGradIdeal.defs (F := Ideal)) (onTc (τ := Cert.ReadReGradIdeal.τ) (Cert.ReadReGradIdeal.main (F := Ideal))) ⟨m, fun _ => 0, g⟩ (fun r => (∀ c : Dev Cert.ReadReGradIdeal.nD,
      r.2.mem ((c.tc : Thread Cert.ReadReGradIdeal.nD Cert.ReadReGradIdeal.τ).loc Cert.ReadReGradIdeal.main_arg0) = m ((c.tc : Thread Cert.ReadReGradIdeal.nD Cert.ReadReGradIdeal.τ).loc Cert.ReadReGradIdeal.main_arg0)
      ∧ r.2.mem ((c.tc : Thread Cert.ReadReGradIdeal.nD Cert.ReadReGradIdeal.τ).loc Cert.ReadReGradIdeal.main_arg1) = m ((c.tc : Thread Cert.ReadReGradIdeal.nD Cert.ReadReGradIdeal.τ).loc Cert.ReadReGradIdeal.main_arg1))
      ∧ r.2.sem = fun _ => 0)

def quiescent_DwBbar [hDwBbar : Cert.DwBbar.Facts] : Prop :=
  ∀ (m : (ℓ : Loc Cert.DwBbar.nD Cert.DwBbar.τ Cert.DwBbar.sig) → Buf (Elt Bits) ℓ) (g : Dev Cert.DwBbar.nD → PrngReg), Pre_DwBbar m →
    θ_run (Cert.DwBbar.defs (F := Bits)) (onTc (τ := Cert.DwBbar.τ) (Cert.DwBbar.main (F := Bits))) ⟨m, fun _ => 0, g⟩ (fun r => (∀ c : Dev Cert.DwBbar.nD,
      r.2.mem ((c.tc : Thread Cert.DwBbar.nD Cert.DwBbar.τ).loc Cert.DwBbar.main_arg0) = m ((c.tc : Thread Cert.DwBbar.nD Cert.DwBbar.τ).loc Cert.DwBbar.main_arg0)
      ∧ r.2.mem ((c.tc : Thread Cert.DwBbar.nD Cert.DwBbar.τ).loc Cert.DwBbar.main_arg1) = m ((c.tc : Thread Cert.DwBbar.nD Cert.DwBbar.τ).loc Cert.DwBbar.main_arg1)
      ∧ r.2.mem ((c.tc : Thread Cert.DwBbar.nD Cert.DwBbar.τ).loc Cert.DwBbar.main_arg2) = m ((c.tc : Thread Cert.DwBbar.nD Cert.DwBbar.τ).loc Cert.DwBbar.main_arg2))
      ∧ r.2.sem = fun _ => 0)

def quiescent_DwBbarIdeal [hDwBbarIdeal : Cert.DwBbarIdeal.Facts] : Prop :=
  ∀ (m : (ℓ : Loc Cert.DwBbarIdeal.nD Cert.DwBbarIdeal.τ Cert.DwBbarIdeal.sig) → Buf (Elt Ideal) ℓ) (g : Dev Cert.DwBbarIdeal.nD → PrngReg), Pre_DwBbarIdeal m →
    θ_run (Cert.DwBbarIdeal.defs (F := Ideal)) (onTc (τ := Cert.DwBbarIdeal.τ) (Cert.DwBbarIdeal.main (F := Ideal))) ⟨m, fun _ => 0, g⟩ (fun r => (∀ c : Dev Cert.DwBbarIdeal.nD,
      r.2.mem ((c.tc : Thread Cert.DwBbarIdeal.nD Cert.DwBbarIdeal.τ).loc Cert.DwBbarIdeal.main_arg0) = m ((c.tc : Thread Cert.DwBbarIdeal.nD Cert.DwBbarIdeal.τ).loc Cert.DwBbarIdeal.main_arg0)
      ∧ r.2.mem ((c.tc : Thread Cert.DwBbarIdeal.nD Cert.DwBbarIdeal.τ).loc Cert.DwBbarIdeal.main_arg1) = m ((c.tc : Thread Cert.DwBbarIdeal.nD Cert.DwBbarIdeal.τ).loc Cert.DwBbarIdeal.main_arg1)
      ∧ r.2.mem ((c.tc : Thread Cert.DwBbarIdeal.nD Cert.DwBbarIdeal.τ).loc Cert.DwBbarIdeal.main_arg2) = m ((c.tc : Thread Cert.DwBbarIdeal.nD Cert.DwBbarIdeal.τ).loc Cert.DwBbarIdeal.main_arg2))
      ∧ r.2.sem = fun _ => 0)

def quiescent_BbarGradIdeal [hBbarGradIdeal : Cert.BbarGradIdeal.Facts] : Prop :=
  ∀ (m : (ℓ : Loc Cert.BbarGradIdeal.nD Cert.BbarGradIdeal.τ Cert.BbarGradIdeal.sig) → Buf (Elt Ideal) ℓ) (g : Dev Cert.BbarGradIdeal.nD → PrngReg), Pre_BbarGradIdeal m →
    θ_run (Cert.BbarGradIdeal.defs (F := Ideal)) (onTc (τ := Cert.BbarGradIdeal.τ) (Cert.BbarGradIdeal.main (F := Ideal))) ⟨m, fun _ => 0, g⟩ (fun r => (∀ c : Dev Cert.BbarGradIdeal.nD,
      r.2.mem ((c.tc : Thread Cert.BbarGradIdeal.nD Cert.BbarGradIdeal.τ).loc Cert.BbarGradIdeal.main_arg0) = m ((c.tc : Thread Cert.BbarGradIdeal.nD Cert.BbarGradIdeal.τ).loc Cert.BbarGradIdeal.main_arg0)
      ∧ r.2.mem ((c.tc : Thread Cert.BbarGradIdeal.nD Cert.BbarGradIdeal.τ).loc Cert.BbarGradIdeal.main_arg1) = m ((c.tc : Thread Cert.BbarGradIdeal.nD Cert.BbarGradIdeal.τ).loc Cert.BbarGradIdeal.main_arg1)
      ∧ r.2.mem ((c.tc : Thread Cert.BbarGradIdeal.nD Cert.BbarGradIdeal.τ).loc Cert.BbarGradIdeal.main_arg2) = m ((c.tc : Thread Cert.BbarGradIdeal.nD Cert.BbarGradIdeal.τ).loc Cert.BbarGradIdeal.main_arg2))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamGlu [hAdamGlu : Cert.AdamGlu.Facts] : Prop :=
  ∀ (m : (ℓ : Loc Cert.AdamGlu.nD Cert.AdamGlu.τ Cert.AdamGlu.sig) → Buf (Elt Bits) ℓ) (g : Dev Cert.AdamGlu.nD → PrngReg), Pre_AdamGlu m →
    θ_run (Cert.AdamGlu.defs (F := Bits)) (onTc (τ := Cert.AdamGlu.τ) (Cert.AdamGlu.main (F := Bits))) ⟨m, fun _ => 0, g⟩ (fun r => (∀ c : Dev Cert.AdamGlu.nD,
      r.2.mem ((c.tc : Thread Cert.AdamGlu.nD Cert.AdamGlu.τ).loc Cert.AdamGlu.main_arg0) = m ((c.tc : Thread Cert.AdamGlu.nD Cert.AdamGlu.τ).loc Cert.AdamGlu.main_arg0)
      ∧ r.2.mem ((c.tc : Thread Cert.AdamGlu.nD Cert.AdamGlu.τ).loc Cert.AdamGlu.main_arg1) = m ((c.tc : Thread Cert.AdamGlu.nD Cert.AdamGlu.τ).loc Cert.AdamGlu.main_arg1)
      ∧ r.2.mem ((c.tc : Thread Cert.AdamGlu.nD Cert.AdamGlu.τ).loc Cert.AdamGlu.main_arg2) = m ((c.tc : Thread Cert.AdamGlu.nD Cert.AdamGlu.τ).loc Cert.AdamGlu.main_arg2)
      ∧ r.2.mem ((c.tc : Thread Cert.AdamGlu.nD Cert.AdamGlu.τ).loc Cert.AdamGlu.main_arg3) = m ((c.tc : Thread Cert.AdamGlu.nD Cert.AdamGlu.τ).loc Cert.AdamGlu.main_arg3))
      ∧ r.2.sem = fun _ => 0)

def quiescent_AdamGluIdeal [hAdamGluIdeal : Cert.AdamGluIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg), Pre_AdamGluIdeal m →
    θ_run (Cert.AdamGluIdeal.defs (F := Ideal)) (onTc (τ := Cert.AdamGluIdeal.τ) (Cert.AdamGluIdeal.main (F := Ideal))) ⟨m, fun _ => 0, g⟩ (fun r => (∀ c : Dev Cert.AdamGluIdeal.nD,
      r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
      ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
      ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
      ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3))
      ∧ r.2.sem = fun _ => 0)

def quiescent_AdamGluRefIdeal [hAdamGluRefIdeal : Cert.AdamGluRefIdeal.Facts] : Prop :=
  ∀ (m : (ℓ : Loc Cert.AdamGluRefIdeal.nD Cert.AdamGluRefIdeal.τ Cert.AdamGluRefIdeal.sig) → Buf (Elt Ideal) ℓ) (g : Dev Cert.AdamGluRefIdeal.nD → PrngReg), Pre_AdamGluRefIdeal m →
    θ_run (Cert.AdamGluRefIdeal.defs (F := Ideal)) (onTc (τ := Cert.AdamGluRefIdeal.τ) (Cert.AdamGluRefIdeal.main (F := Ideal))) ⟨m, fun _ => 0, g⟩ (fun r => (∀ c : Dev Cert.AdamGluRefIdeal.nD,
      r.2.mem ((c.tc : Thread Cert.AdamGluRefIdeal.nD Cert.AdamGluRefIdeal.τ).loc Cert.AdamGluRefIdeal.main_arg0) = m ((c.tc : Thread Cert.AdamGluRefIdeal.nD Cert.AdamGluRefIdeal.τ).loc Cert.AdamGluRefIdeal.main_arg0)
      ∧ r.2.mem ((c.tc : Thread Cert.AdamGluRefIdeal.nD Cert.AdamGluRefIdeal.τ).loc Cert.AdamGluRefIdeal.main_arg1) = m ((c.tc : Thread Cert.AdamGluRefIdeal.nD Cert.AdamGluRefIdeal.τ).loc Cert.AdamGluRefIdeal.main_arg1)
      ∧ r.2.mem ((c.tc : Thread Cert.AdamGluRefIdeal.nD Cert.AdamGluRefIdeal.τ).loc Cert.AdamGluRefIdeal.main_arg2) = m ((c.tc : Thread Cert.AdamGluRefIdeal.nD Cert.AdamGluRefIdeal.τ).loc Cert.AdamGluRefIdeal.main_arg2)
      ∧ r.2.mem ((c.tc : Thread Cert.AdamGluRefIdeal.nD Cert.AdamGluRefIdeal.τ).loc Cert.AdamGluRefIdeal.main_arg3) = m ((c.tc : Thread Cert.AdamGluRefIdeal.nD Cert.AdamGluRefIdeal.τ).loc Cert.AdamGluRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamOddIn [hAdamOddIn : Cert.AdamOddIn.Facts] : Prop :=
  ∀ (m : (ℓ : Loc Cert.AdamOddIn.nD Cert.AdamOddIn.τ Cert.AdamOddIn.sig) → Buf (Elt Bits) ℓ) (g : Dev Cert.AdamOddIn.nD → PrngReg), Pre_AdamOddIn m →
    θ_run (Cert.AdamOddIn.defs (F := Bits)) (onTc (τ := Cert.AdamOddIn.τ) (Cert.AdamOddIn.main (F := Bits))) ⟨m, fun _ => 0, g⟩ (fun r => (∀ c : Dev Cert.AdamOddIn.nD,
      r.2.mem ((c.tc : Thread Cert.AdamOddIn.nD Cert.AdamOddIn.τ).loc Cert.AdamOddIn.main_arg0) = m ((c.tc : Thread Cert.AdamOddIn.nD Cert.AdamOddIn.τ).loc Cert.AdamOddIn.main_arg0)
      ∧ r.2.mem ((c.tc : Thread Cert.AdamOddIn.nD Cert.AdamOddIn.τ).loc Cert.AdamOddIn.main_arg1) = m ((c.tc : Thread Cert.AdamOddIn.nD Cert.AdamOddIn.τ).loc Cert.AdamOddIn.main_arg1)
      ∧ r.2.mem ((c.tc : Thread Cert.AdamOddIn.nD Cert.AdamOddIn.τ).loc Cert.AdamOddIn.main_arg2) = m ((c.tc : Thread Cert.AdamOddIn.nD Cert.AdamOddIn.τ).loc Cert.AdamOddIn.main_arg2)
      ∧ r.2.mem ((c.tc : Thread Cert.AdamOddIn.nD Cert.AdamOddIn.τ).loc Cert.AdamOddIn.main_arg3) = m ((c.tc : Thread Cert.AdamOddIn.nD Cert.AdamOddIn.τ).loc Cert.AdamOddIn.main_arg3))
      ∧ r.2.sem = fun _ => 0)

def quiescent_AdamOddInIdeal [hAdamOddInIdeal : Cert.AdamOddInIdeal.Facts] : Prop :=
  ∀ (m : (ℓ : Loc Cert.AdamOddInIdeal.nD Cert.AdamOddInIdeal.τ Cert.AdamOddInIdeal.sig) → Buf (Elt Ideal) ℓ) (g : Dev Cert.AdamOddInIdeal.nD → PrngReg), Pre_AdamOddInIdeal m →
    θ_run (Cert.AdamOddInIdeal.defs (F := Ideal)) (onTc (τ := Cert.AdamOddInIdeal.τ) (Cert.AdamOddInIdeal.main (F := Ideal))) ⟨m, fun _ => 0, g⟩ (fun r => (∀ c : Dev Cert.AdamOddInIdeal.nD,
      r.2.mem ((c.tc : Thread Cert.AdamOddInIdeal.nD Cert.AdamOddInIdeal.τ).loc Cert.AdamOddInIdeal.main_arg0) = m ((c.tc : Thread Cert.AdamOddInIdeal.nD Cert.AdamOddInIdeal.τ).loc Cert.AdamOddInIdeal.main_arg0)
      ∧ r.2.mem ((c.tc : Thread Cert.AdamOddInIdeal.nD Cert.AdamOddInIdeal.τ).loc Cert.AdamOddInIdeal.main_arg1) = m ((c.tc : Thread Cert.AdamOddInIdeal.nD Cert.AdamOddInIdeal.τ).loc Cert.AdamOddInIdeal.main_arg1)
      ∧ r.2.mem ((c.tc : Thread Cert.AdamOddInIdeal.nD Cert.AdamOddInIdeal.τ).loc Cert.AdamOddInIdeal.main_arg2) = m ((c.tc : Thread Cert.AdamOddInIdeal.nD Cert.AdamOddInIdeal.τ).loc Cert.AdamOddInIdeal.main_arg2)
      ∧ r.2.mem ((c.tc : Thread Cert.AdamOddInIdeal.nD Cert.AdamOddInIdeal.τ).loc Cert.AdamOddInIdeal.main_arg3) = m ((c.tc : Thread Cert.AdamOddInIdeal.nD Cert.AdamOddInIdeal.τ).loc Cert.AdamOddInIdeal.main_arg3))
      ∧ r.2.sem = fun _ => 0)

def quiescent_AdamOddInRefIdeal [hAdamOddInRefIdeal : Cert.AdamOddInRefIdeal.Facts] : Prop :=
  ∀ (m : (ℓ : Loc Cert.AdamOddInRefIdeal.nD Cert.AdamOddInRefIdeal.τ Cert.AdamOddInRefIdeal.sig) → Buf (Elt Ideal) ℓ) (g : Dev Cert.AdamOddInRefIdeal.nD → PrngReg), Pre_AdamOddInRefIdeal m →
    θ_run (Cert.AdamOddInRefIdeal.defs (F := Ideal)) (onTc (τ := Cert.AdamOddInRefIdeal.τ) (Cert.AdamOddInRefIdeal.main (F := Ideal))) ⟨m, fun _ => 0, g⟩ (fun r => (∀ c : Dev Cert.AdamOddInRefIdeal.nD,
      r.2.mem ((c.tc : Thread Cert.AdamOddInRefIdeal.nD Cert.AdamOddInRefIdeal.τ).loc Cert.AdamOddInRefIdeal.main_arg0) = m ((c.tc : Thread Cert.AdamOddInRefIdeal.nD Cert.AdamOddInRefIdeal.τ).loc Cert.AdamOddInRefIdeal.main_arg0)
      ∧ r.2.mem ((c.tc : Thread Cert.AdamOddInRefIdeal.nD Cert.AdamOddInRefIdeal.τ).loc Cert.AdamOddInRefIdeal.main_arg1) = m ((c.tc : Thread Cert.AdamOddInRefIdeal.nD Cert.AdamOddInRefIdeal.τ).loc Cert.AdamOddInRefIdeal.main_arg1)
      ∧ r.2.mem ((c.tc : Thread Cert.AdamOddInRefIdeal.nD Cert.AdamOddInRefIdeal.τ).loc Cert.AdamOddInRefIdeal.main_arg2) = m ((c.tc : Thread Cert.AdamOddInRefIdeal.nD Cert.AdamOddInRefIdeal.τ).loc Cert.AdamOddInRefIdeal.main_arg2)
      ∧ r.2.mem ((c.tc : Thread Cert.AdamOddInRefIdeal.nD Cert.AdamOddInRefIdeal.τ).loc Cert.AdamOddInRefIdeal.main_arg3) = m ((c.tc : Thread Cert.AdamOddInRefIdeal.nD Cert.AdamOddInRefIdeal.τ).loc Cert.AdamOddInRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_AdamEarly [hAdamEarly : Cert.AdamEarly.Facts] : Prop :=
  ∀ (m : (ℓ : Loc Cert.AdamEarly.nD Cert.AdamEarly.τ Cert.AdamEarly.sig) → Buf (Elt Bits) ℓ) (g : Dev Cert.AdamEarly.nD → PrngReg), Pre_AdamEarly m →
    θ_run (Cert.AdamEarly.defs (F := Bits)) (onTc (τ := Cert.AdamEarly.τ) (Cert.AdamEarly.main (F := Bits))) ⟨m, fun _ => 0, g⟩ (fun r => (∀ c : Dev Cert.AdamEarly.nD,
      r.2.mem ((c.tc : Thread Cert.AdamEarly.nD Cert.AdamEarly.τ).loc Cert.AdamEarly.main_arg0) = m ((c.tc : Thread Cert.AdamEarly.nD Cert.AdamEarly.τ).loc Cert.AdamEarly.main_arg0)
      ∧ r.2.mem ((c.tc : Thread Cert.AdamEarly.nD Cert.AdamEarly.τ).loc Cert.AdamEarly.main_arg1) = m ((c.tc : Thread Cert.AdamEarly.nD Cert.AdamEarly.τ).loc Cert.AdamEarly.main_arg1)
      ∧ r.2.mem ((c.tc : Thread Cert.AdamEarly.nD Cert.AdamEarly.τ).loc Cert.AdamEarly.main_arg2) = m ((c.tc : Thread Cert.AdamEarly.nD Cert.AdamEarly.τ).loc Cert.AdamEarly.main_arg2)
      ∧ r.2.mem ((c.tc : Thread Cert.AdamEarly.nD Cert.AdamEarly.τ).loc Cert.AdamEarly.main_arg3) = m ((c.tc : Thread Cert.AdamEarly.nD Cert.AdamEarly.τ).loc Cert.AdamEarly.main_arg3))
      ∧ r.2.sem = fun _ => 0)

def quiescent_AdamEarlyIdeal [hAdamEarlyIdeal : Cert.AdamEarlyIdeal.Facts] : Prop :=
  ∀ (m : (ℓ : Loc Cert.AdamEarlyIdeal.nD Cert.AdamEarlyIdeal.τ Cert.AdamEarlyIdeal.sig) → Buf (Elt Ideal) ℓ) (g : Dev Cert.AdamEarlyIdeal.nD → PrngReg), Pre_AdamEarlyIdeal m →
    θ_run (Cert.AdamEarlyIdeal.defs (F := Ideal)) (onTc (τ := Cert.AdamEarlyIdeal.τ) (Cert.AdamEarlyIdeal.main (F := Ideal))) ⟨m, fun _ => 0, g⟩ (fun r => (∀ c : Dev Cert.AdamEarlyIdeal.nD,
      r.2.mem ((c.tc : Thread Cert.AdamEarlyIdeal.nD Cert.AdamEarlyIdeal.τ).loc Cert.AdamEarlyIdeal.main_arg0) = m ((c.tc : Thread Cert.AdamEarlyIdeal.nD Cert.AdamEarlyIdeal.τ).loc Cert.AdamEarlyIdeal.main_arg0)
      ∧ r.2.mem ((c.tc : Thread Cert.AdamEarlyIdeal.nD Cert.AdamEarlyIdeal.τ).loc Cert.AdamEarlyIdeal.main_arg1) = m ((c.tc : Thread Cert.AdamEarlyIdeal.nD Cert.AdamEarlyIdeal.τ).loc Cert.AdamEarlyIdeal.main_arg1)
      ∧ r.2.mem ((c.tc : Thread Cert.AdamEarlyIdeal.nD Cert.AdamEarlyIdeal.τ).loc Cert.AdamEarlyIdeal.main_arg2) = m ((c.tc : Thread Cert.AdamEarlyIdeal.nD Cert.AdamEarlyIdeal.τ).loc Cert.AdamEarlyIdeal.main_arg2)
      ∧ r.2.mem ((c.tc : Thread Cert.AdamEarlyIdeal.nD Cert.AdamEarlyIdeal.τ).loc Cert.AdamEarlyIdeal.main_arg3) = m ((c.tc : Thread Cert.AdamEarlyIdeal.nD Cert.AdamEarlyIdeal.τ).loc Cert.AdamEarlyIdeal.main_arg3))
      ∧ r.2.sem = fun _ => 0)

def quiescent_AdamEarlyRefIdeal [hAdamEarlyRefIdeal : Cert.AdamEarlyRefIdeal.Facts] : Prop :=
  ∀ (m : (ℓ : Loc Cert.AdamEarlyRefIdeal.nD Cert.AdamEarlyRefIdeal.τ Cert.AdamEarlyRefIdeal.sig) → Buf (Elt Ideal) ℓ) (g : Dev Cert.AdamEarlyRefIdeal.nD → PrngReg), Pre_AdamEarlyRefIdeal m →
    θ_run (Cert.AdamEarlyRefIdeal.defs (F := Ideal)) (onTc (τ := Cert.AdamEarlyRefIdeal.τ) (Cert.AdamEarlyRefIdeal.main (F := Ideal))) ⟨m, fun _ => 0, g⟩ (fun r => (∀ c : Dev Cert.AdamEarlyRefIdeal.nD,
      r.2.mem ((c.tc : Thread Cert.AdamEarlyRefIdeal.nD Cert.AdamEarlyRefIdeal.τ).loc Cert.AdamEarlyRefIdeal.main_arg0) = m ((c.tc : Thread Cert.AdamEarlyRefIdeal.nD Cert.AdamEarlyRefIdeal.τ).loc Cert.AdamEarlyRefIdeal.main_arg0)
      ∧ r.2.mem ((c.tc : Thread Cert.AdamEarlyRefIdeal.nD Cert.AdamEarlyRefIdeal.τ).loc Cert.AdamEarlyRefIdeal.main_arg1) = m ((c.tc : Thread Cert.AdamEarlyRefIdeal.nD Cert.AdamEarlyRefIdeal.τ).loc Cert.AdamEarlyRefIdeal.main_arg1)
      ∧ r.2.mem ((c.tc : Thread Cert.AdamEarlyRefIdeal.nD Cert.AdamEarlyRefIdeal.τ).loc Cert.AdamEarlyRefIdeal.main_arg2) = m ((c.tc : Thread Cert.AdamEarlyRefIdeal.nD Cert.AdamEarlyRefIdeal.τ).loc Cert.AdamEarlyRefIdeal.main_arg2)
      ∧ r.2.mem ((c.tc : Thread Cert.AdamEarlyRefIdeal.nD Cert.AdamEarlyRefIdeal.τ).loc Cert.AdamEarlyRefIdeal.main_arg3) = m ((c.tc : Thread Cert.AdamEarlyRefIdeal.nD Cert.AdamEarlyRefIdeal.τ).loc Cert.AdamEarlyRefIdeal.main_arg3))
      ∧ r.2.sem = fun _ => 0)

def quiescent_AdamMid [hAdamMid : Cert.AdamMid.Facts] : Prop :=
  ∀ (m : (ℓ : Loc Cert.AdamMid.nD Cert.AdamMid.τ Cert.AdamMid.sig) → Buf (Elt Bits) ℓ) (g : Dev Cert.AdamMid.nD → PrngReg), Pre_AdamMid m →
    θ_run (Cert.AdamMid.defs (F := Bits)) (onTc (τ := Cert.AdamMid.τ) (Cert.AdamMid.main (F := Bits))) ⟨m, fun _ => 0, g⟩ (fun r => (∀ c : Dev Cert.AdamMid.nD,
      r.2.mem ((c.tc : Thread Cert.AdamMid.nD Cert.AdamMid.τ).loc Cert.AdamMid.main_arg0) = m ((c.tc : Thread Cert.AdamMid.nD Cert.AdamMid.τ).loc Cert.AdamMid.main_arg0)
      ∧ r.2.mem ((c.tc : Thread Cert.AdamMid.nD Cert.AdamMid.τ).loc Cert.AdamMid.main_arg1) = m ((c.tc : Thread Cert.AdamMid.nD Cert.AdamMid.τ).loc Cert.AdamMid.main_arg1)
      ∧ r.2.mem ((c.tc : Thread Cert.AdamMid.nD Cert.AdamMid.τ).loc Cert.AdamMid.main_arg2) = m ((c.tc : Thread Cert.AdamMid.nD Cert.AdamMid.τ).loc Cert.AdamMid.main_arg2)
      ∧ r.2.mem ((c.tc : Thread Cert.AdamMid.nD Cert.AdamMid.τ).loc Cert.AdamMid.main_arg3) = m ((c.tc : Thread Cert.AdamMid.nD Cert.AdamMid.τ).loc Cert.AdamMid.main_arg3))
      ∧ r.2.sem = fun _ => 0)

def quiescent_AdamMidIdeal [hAdamMidIdeal : Cert.AdamMidIdeal.Facts] : Prop :=
  ∀ (m : (ℓ : Loc Cert.AdamMidIdeal.nD Cert.AdamMidIdeal.τ Cert.AdamMidIdeal.sig) → Buf (Elt Ideal) ℓ) (g : Dev Cert.AdamMidIdeal.nD → PrngReg), Pre_AdamMidIdeal m →
    θ_run (Cert.AdamMidIdeal.defs (F := Ideal)) (onTc (τ := Cert.AdamMidIdeal.τ) (Cert.AdamMidIdeal.main (F := Ideal))) ⟨m, fun _ => 0, g⟩ (fun r => (∀ c : Dev Cert.AdamMidIdeal.nD,
      r.2.mem ((c.tc : Thread Cert.AdamMidIdeal.nD Cert.AdamMidIdeal.τ).loc Cert.AdamMidIdeal.main_arg0) = m ((c.tc : Thread Cert.AdamMidIdeal.nD Cert.AdamMidIdeal.τ).loc Cert.AdamMidIdeal.main_arg0)
      ∧ r.2.mem ((c.tc : Thread Cert.AdamMidIdeal.nD Cert.AdamMidIdeal.τ).loc Cert.AdamMidIdeal.main_arg1) = m ((c.tc : Thread Cert.AdamMidIdeal.nD Cert.AdamMidIdeal.τ).loc Cert.AdamMidIdeal.main_arg1)
      ∧ r.2.mem ((c.tc : Thread Cert.AdamMidIdeal.nD Cert.AdamMidIdeal.τ).loc Cert.AdamMidIdeal.main_arg2) = m ((c.tc : Thread Cert.AdamMidIdeal.nD Cert.AdamMidIdeal.τ).loc Cert.AdamMidIdeal.main_arg2)
      ∧ r.2.mem ((c.tc : Thread Cert.AdamMidIdeal.nD Cert.AdamMidIdeal.τ).loc Cert.AdamMidIdeal.main_arg3) = m ((c.tc : Thread Cert.AdamMidIdeal.nD Cert.AdamMidIdeal.τ).loc Cert.AdamMidIdeal.main_arg3))
      ∧ r.2.sem = fun _ => 0)

def quiescent_AdamMidRefIdeal [hAdamMidRefIdeal : Cert.AdamMidRefIdeal.Facts] : Prop :=
  ∀ (m : (ℓ : Loc Cert.AdamMidRefIdeal.nD Cert.AdamMidRefIdeal.τ Cert.AdamMidRefIdeal.sig) → Buf (Elt Ideal) ℓ) (g : Dev Cert.AdamMidRefIdeal.nD → PrngReg), Pre_AdamMidRefIdeal m →
    θ_run (Cert.AdamMidRefIdeal.defs (F := Ideal)) (onTc (τ := Cert.AdamMidRefIdeal.τ) (Cert.AdamMidRefIdeal.main (F := Ideal))) ⟨m, fun _ => 0, g⟩ (fun r => (∀ c : Dev Cert.AdamMidRefIdeal.nD,
      r.2.mem ((c.tc : Thread Cert.AdamMidRefIdeal.nD Cert.AdamMidRefIdeal.τ).loc Cert.AdamMidRefIdeal.main_arg0) = m ((c.tc : Thread Cert.AdamMidRefIdeal.nD Cert.AdamMidRefIdeal.τ).loc Cert.AdamMidRefIdeal.main_arg0)
      ∧ r.2.mem ((c.tc : Thread Cert.AdamMidRefIdeal.nD Cert.AdamMidRefIdeal.τ).loc Cert.AdamMidRefIdeal.main_arg1) = m ((c.tc : Thread Cert.AdamMidRefIdeal.nD Cert.AdamMidRefIdeal.τ).loc Cert.AdamMidRefIdeal.main_arg1)
      ∧ r.2.mem ((c.tc : Thread Cert.AdamMidRefIdeal.nD Cert.AdamMidRefIdeal.τ).loc Cert.AdamMidRefIdeal.main_arg2) = m ((c.tc : Thread Cert.AdamMidRefIdeal.nD Cert.AdamMidRefIdeal.τ).loc Cert.AdamMidRefIdeal.main_arg2)
      ∧ r.2.mem ((c.tc : Thread Cert.AdamMidRefIdeal.nD Cert.AdamMidRefIdeal.τ).loc Cert.AdamMidRefIdeal.main_arg3) = m ((c.tc : Thread Cert.AdamMidRefIdeal.nD Cert.AdamMidRefIdeal.τ).loc Cert.AdamMidRefIdeal.main_arg3))
      ∧ r.2.sem = fun _ => 0)

def quiescent_AdamLate [hAdamLate : Cert.AdamLate.Facts] : Prop :=
  ∀ (m : (ℓ : Loc Cert.AdamLate.nD Cert.AdamLate.τ Cert.AdamLate.sig) → Buf (Elt Bits) ℓ) (g : Dev Cert.AdamLate.nD → PrngReg), Pre_AdamLate m →
    θ_run (Cert.AdamLate.defs (F := Bits)) (onTc (τ := Cert.AdamLate.τ) (Cert.AdamLate.main (F := Bits))) ⟨m, fun _ => 0, g⟩ (fun r => (∀ c : Dev Cert.AdamLate.nD,
      r.2.mem ((c.tc : Thread Cert.AdamLate.nD Cert.AdamLate.τ).loc Cert.AdamLate.main_arg0) = m ((c.tc : Thread Cert.AdamLate.nD Cert.AdamLate.τ).loc Cert.AdamLate.main_arg0)
      ∧ r.2.mem ((c.tc : Thread Cert.AdamLate.nD Cert.AdamLate.τ).loc Cert.AdamLate.main_arg1) = m ((c.tc : Thread Cert.AdamLate.nD Cert.AdamLate.τ).loc Cert.AdamLate.main_arg1)
      ∧ r.2.mem ((c.tc : Thread Cert.AdamLate.nD Cert.AdamLate.τ).loc Cert.AdamLate.main_arg2) = m ((c.tc : Thread Cert.AdamLate.nD Cert.AdamLate.τ).loc Cert.AdamLate.main_arg2)
      ∧ r.2.mem ((c.tc : Thread Cert.AdamLate.nD Cert.AdamLate.τ).loc Cert.AdamLate.main_arg3) = m ((c.tc : Thread Cert.AdamLate.nD Cert.AdamLate.τ).loc Cert.AdamLate.main_arg3))
      ∧ r.2.sem = fun _ => 0)

def quiescent_AdamLateIdeal [hAdamLateIdeal : Cert.AdamLateIdeal.Facts] : Prop :=
  ∀ (m : (ℓ : Loc Cert.AdamLateIdeal.nD Cert.AdamLateIdeal.τ Cert.AdamLateIdeal.sig) → Buf (Elt Ideal) ℓ) (g : Dev Cert.AdamLateIdeal.nD → PrngReg), Pre_AdamLateIdeal m →
    θ_run (Cert.AdamLateIdeal.defs (F := Ideal)) (onTc (τ := Cert.AdamLateIdeal.τ) (Cert.AdamLateIdeal.main (F := Ideal))) ⟨m, fun _ => 0, g⟩ (fun r => (∀ c : Dev Cert.AdamLateIdeal.nD,
      r.2.mem ((c.tc : Thread Cert.AdamLateIdeal.nD Cert.AdamLateIdeal.τ).loc Cert.AdamLateIdeal.main_arg0) = m ((c.tc : Thread Cert.AdamLateIdeal.nD Cert.AdamLateIdeal.τ).loc Cert.AdamLateIdeal.main_arg0)
      ∧ r.2.mem ((c.tc : Thread Cert.AdamLateIdeal.nD Cert.AdamLateIdeal.τ).loc Cert.AdamLateIdeal.main_arg1) = m ((c.tc : Thread Cert.AdamLateIdeal.nD Cert.AdamLateIdeal.τ).loc Cert.AdamLateIdeal.main_arg1)
      ∧ r.2.mem ((c.tc : Thread Cert.AdamLateIdeal.nD Cert.AdamLateIdeal.τ).loc Cert.AdamLateIdeal.main_arg2) = m ((c.tc : Thread Cert.AdamLateIdeal.nD Cert.AdamLateIdeal.τ).loc Cert.AdamLateIdeal.main_arg2)
      ∧ r.2.mem ((c.tc : Thread Cert.AdamLateIdeal.nD Cert.AdamLateIdeal.τ).loc Cert.AdamLateIdeal.main_arg3) = m ((c.tc : Thread Cert.AdamLateIdeal.nD Cert.AdamLateIdeal.τ).loc Cert.AdamLateIdeal.main_arg3))
      ∧ r.2.sem = fun _ => 0)

def quiescent_AdamLateRefIdeal [hAdamLateRefIdeal : Cert.AdamLateRefIdeal.Facts] : Prop :=
  ∀ (m : (ℓ : Loc Cert.AdamLateRefIdeal.nD Cert.AdamLateRefIdeal.τ Cert.AdamLateRefIdeal.sig) → Buf (Elt Ideal) ℓ) (g : Dev Cert.AdamLateRefIdeal.nD → PrngReg), Pre_AdamLateRefIdeal m →
    θ_run (Cert.AdamLateRefIdeal.defs (F := Ideal)) (onTc (τ := Cert.AdamLateRefIdeal.τ) (Cert.AdamLateRefIdeal.main (F := Ideal))) ⟨m, fun _ => 0, g⟩ (fun r => (∀ c : Dev Cert.AdamLateRefIdeal.nD,
      r.2.mem ((c.tc : Thread Cert.AdamLateRefIdeal.nD Cert.AdamLateRefIdeal.τ).loc Cert.AdamLateRefIdeal.main_arg0) = m ((c.tc : Thread Cert.AdamLateRefIdeal.nD Cert.AdamLateRefIdeal.τ).loc Cert.AdamLateRefIdeal.main_arg0)
      ∧ r.2.mem ((c.tc : Thread Cert.AdamLateRefIdeal.nD Cert.AdamLateRefIdeal.τ).loc Cert.AdamLateRefIdeal.main_arg1) = m ((c.tc : Thread Cert.AdamLateRefIdeal.nD Cert.AdamLateRefIdeal.τ).loc Cert.AdamLateRefIdeal.main_arg1)
      ∧ r.2.mem ((c.tc : Thread Cert.AdamLateRefIdeal.nD Cert.AdamLateRefIdeal.τ).loc Cert.AdamLateRefIdeal.main_arg2) = m ((c.tc : Thread Cert.AdamLateRefIdeal.nD Cert.AdamLateRefIdeal.τ).loc Cert.AdamLateRefIdeal.main_arg2)
      ∧ r.2.mem ((c.tc : Thread Cert.AdamLateRefIdeal.nD Cert.AdamLateRefIdeal.τ).loc Cert.AdamLateRefIdeal.main_arg3) = m ((c.tc : Thread Cert.AdamLateRefIdeal.nD Cert.AdamLateRefIdeal.τ).loc Cert.AdamLateRefIdeal.main_arg3))
      ∧ r.2.sem = fun _ => 0)

def preserves_OddInBwd_OddInBwdIdeal : Prop :=
  True

def algebraic_OddInBwdIdeal_OddInGradIdeal [hOddInBwdIdeal : Cert.OddInBwdIdeal.Facts] [hOddInGradIdeal : Cert.OddInGradIdeal.Facts] : Prop :=
  ∀ (m : (ℓ : Loc Cert.OddInBwdIdeal.nD Cert.OddInBwdIdeal.τ Cert.OddInBwdIdeal.sig) → Buf (Elt Ideal) ℓ) (g : Dev Cert.OddInBwdIdeal.nD → PrngReg)
    (m' : (ℓ : Loc Cert.OddInGradIdeal.nD Cert.OddInGradIdeal.τ Cert.OddInGradIdeal.sig) → Buf (Elt Ideal) ℓ) (g' : Dev Cert.OddInGradIdeal.nD → PrngReg), Pre_OddInBwdIdeal m →
    (∀ c : Dev Cert.OddInBwdIdeal.nD,
      m' ((c.tc : Thread Cert.OddInGradIdeal.nD Cert.OddInGradIdeal.τ).loc Cert.OddInGradIdeal.main_arg0) = m ((c.tc : Thread Cert.OddInBwdIdeal.nD Cert.OddInBwdIdeal.τ).loc Cert.OddInBwdIdeal.main_arg0)
      ∧ m' ((c.tc : Thread Cert.OddInGradIdeal.nD Cert.OddInGradIdeal.τ).loc Cert.OddInGradIdeal.main_arg1) = m ((c.tc : Thread Cert.OddInBwdIdeal.nD Cert.OddInBwdIdeal.τ).loc Cert.OddInBwdIdeal.main_arg1)
      ∧ m' ((c.tc : Thread Cert.OddInGradIdeal.nD Cert.OddInGradIdeal.τ).loc Cert.OddInGradIdeal.main_arg2) = m ((c.tc : Thread Cert.OddInBwdIdeal.nD Cert.OddInBwdIdeal.τ).loc Cert.OddInBwdIdeal.main_arg2)
      ∧ m' ((c.tc : Thread Cert.OddInGradIdeal.nD Cert.OddInGradIdeal.τ).loc Cert.OddInGradIdeal.main_arg3) = m ((c.tc : Thread Cert.OddInBwdIdeal.nD Cert.OddInBwdIdeal.τ).loc Cert.OddInBwdIdeal.main_arg3)
      ∧ m' ((c.tc : Thread Cert.OddInGradIdeal.nD Cert.OddInGradIdeal.τ).loc Cert.OddInGradIdeal.main_arg4) = m ((c.tc : Thread Cert.OddInBwdIdeal.nD Cert.OddInBwdIdeal.τ).loc Cert.OddInBwdIdeal.main_arg4)
      ∧ m' ((c.tc : Thread Cert.OddInGradIdeal.nD Cert.OddInGradIdeal.τ).loc Cert.OddInGradIdeal.main_arg5) = m ((c.tc : Thread Cert.OddInBwdIdeal.nD Cert.OddInBwdIdeal.τ).loc Cert.OddInBwdIdeal.main_arg5)) →
    ∃ (v0 : (c : Dev Cert.OddInBwdIdeal.nD) → Buf (Elt Ideal) ((c.tc : Thread Cert.OddInBwdIdeal.nD Cert.OddInBwdIdeal.τ).loc Cert.OddInBwdIdeal.main_v14_0)) (v1 : (c : Dev Cert.OddInBwdIdeal.nD) → Buf (Elt Ideal) ((c.tc : Thread Cert.OddInBwdIdeal.nD Cert.OddInBwdIdeal.τ).loc Cert.OddInBwdIdeal.main_v14_1)) (v2 : (c : Dev Cert.OddInBwdIdeal.nD) → Buf (Elt Ideal) ((c.tc : Thread Cert.OddInBwdIdeal.nD Cert.OddInBwdIdeal.τ).loc Cert.OddInBwdIdeal.main_v14_2)),
      θ_run (Cert.OddInBwdIdeal.defs (F := Ideal)) (onTc (τ := Cert.OddInBwdIdeal.τ) (Cert.OddInBwdIdeal.main (F := Ideal))) ⟨m, fun _ => 0, g⟩ (fun r => ∀ c : Dev Cert.OddInBwdIdeal.nD,
          r.2.mem ((c.tc : Thread Cert.OddInBwdIdeal.nD Cert.OddInBwdIdeal.τ).loc Cert.OddInBwdIdeal.main_v14_0) = v0 c
          ∧ r.2.mem ((c.tc : Thread Cert.OddInBwdIdeal.nD Cert.OddInBwdIdeal.τ).loc Cert.OddInBwdIdeal.main_v14_1) = v1 c
          ∧ r.2.mem ((c.tc : Thread Cert.OddInBwdIdeal.nD Cert.OddInBwdIdeal.τ).loc Cert.OddInBwdIdeal.main_v14_2) = v2 c
          ∧ r.2.mem ((c.tc : Thread Cert.OddInBwdIdeal.nD Cert.OddInBwdIdeal.τ).loc Cert.OddInBwdIdeal.main_arg0) = m ((c.tc : Thread Cert.OddInBwdIdeal.nD Cert.OddInBwdIdeal.τ).loc Cert.OddInBwdIdeal.main_arg0)
          ∧ r.2.mem ((c.tc : Thread Cert.OddInBwdIdeal.nD Cert.OddInBwdIdeal.τ).loc Cert.OddInBwdIdeal.main_arg1) = m ((c.tc : Thread Cert.OddInBwdIdeal.nD Cert.OddInBwdIdeal.τ).loc Cert.OddInBwdIdeal.main_arg1)
          ∧ r.2.mem ((c.tc : Thread Cert.OddInBwdIdeal.nD Cert.OddInBwdIdeal.τ).loc Cert.OddInBwdIdeal.main_arg2) = m ((c.tc : Thread Cert.OddInBwdIdeal.nD Cert.OddInBwdIdeal.τ).loc Cert.OddInBwdIdeal.main_arg2)
          ∧ r.2.mem ((c.tc : Thread Cert.OddInBwdIdeal.nD Cert.OddInBwdIdeal.τ).loc Cert.OddInBwdIdeal.main_arg3) = m ((c.tc : Thread Cert.OddInBwdIdeal.nD Cert.OddInBwdIdeal.τ).loc Cert.OddInBwdIdeal.main_arg3)
          ∧ r.2.mem ((c.tc : Thread Cert.OddInBwdIdeal.nD Cert.OddInBwdIdeal.τ).loc Cert.OddInBwdIdeal.main_arg4) = m ((c.tc : Thread Cert.OddInBwdIdeal.nD Cert.OddInBwdIdeal.τ).loc Cert.OddInBwdIdeal.main_arg4)
          ∧ r.2.mem ((c.tc : Thread Cert.OddInBwdIdeal.nD Cert.OddInBwdIdeal.τ).loc Cert.OddInBwdIdeal.main_arg5) = m ((c.tc : Thread Cert.OddInBwdIdeal.nD Cert.OddInBwdIdeal.τ).loc Cert.OddInBwdIdeal.main_arg5))
      ∧ θ_run (Cert.OddInGradIdeal.defs (F := Ideal)) (onTc (τ := Cert.OddInGradIdeal.τ) (Cert.OddInGradIdeal.main (F := Ideal))) ⟨m', fun _ => 0, g'⟩ (fun r => ∀ c : Dev Cert.OddInGradIdeal.nD,
          r.2.mem ((c.tc : Thread Cert.OddInGradIdeal.nD Cert.OddInGradIdeal.τ).loc Cert.OddInGradIdeal.main_v57) = v0 c
          ∧ r.2.mem ((c.tc : Thread Cert.OddInGradIdeal.nD Cert.OddInGradIdeal.τ).loc Cert.OddInGradIdeal.main_v58) = v1 c
          ∧ r.2.mem ((c.tc : Thread Cert.OddInGradIdeal.nD Cert.OddInGradIdeal.τ).loc Cert.OddInGradIdeal.main_v40) = v2 c
          ∧ r.2.mem ((c.tc : Thread Cert.OddInGradIdeal.nD Cert.OddInGradIdeal.τ).loc Cert.OddInGradIdeal.main_arg0) = m' ((c.tc : Thread Cert.OddInGradIdeal.nD Cert.OddInGradIdeal.τ).loc Cert.OddInGradIdeal.main_arg0)
          ∧ r.2.mem ((c.tc : Thread Cert.OddInGradIdeal.nD Cert.OddInGradIdeal.τ).loc Cert.OddInGradIdeal.main_arg1) = m' ((c.tc : Thread Cert.OddInGradIdeal.nD Cert.OddInGradIdeal.τ).loc Cert.OddInGradIdeal.main_arg1)
          ∧ r.2.mem ((c.tc : Thread Cert.OddInGradIdeal.nD Cert.OddInGradIdeal.τ).loc Cert.OddInGradIdeal.main_arg2) = m' ((c.tc : Thread Cert.OddInGradIdeal.nD Cert.OddInGradIdeal.τ).loc Cert.OddInGradIdeal.main_arg2)
          ∧ r.2.mem ((c.tc : Thread Cert.OddInGradIdeal.nD Cert.OddInGradIdeal.τ).loc Cert.OddInGradIdeal.main_arg3) = m' ((c.tc : Thread Cert.OddInGradIdeal.nD Cert.OddInGradIdeal.τ).loc Cert.OddInGradIdeal.main_arg3)
          ∧ r.2.mem ((c.tc : Thread Cert.OddInGradIdeal.nD Cert.OddInGradIdeal.τ).loc Cert.OddInGradIdeal.main_arg4) = m' ((c.tc : Thread Cert.OddInGradIdeal.nD Cert.OddInGradIdeal.τ).loc Cert.OddInGradIdeal.main_arg4)
          ∧ r.2.mem ((c.tc : Thread Cert.OddInGradIdeal.nD Cert.OddInGradIdeal.τ).loc Cert.OddInGradIdeal.main_arg5) = m' ((c.tc : Thread Cert.OddInGradIdeal.nD Cert.OddInGradIdeal.τ).loc Cert.OddInGradIdeal.main_arg5))

def preserves_OddOut_OddOutIdeal : Prop :=
  True

def algebraic_OddOutIdeal_OddOutGradIdeal [hOddOutIdeal : Cert.OddOutIdeal.Facts] [hOddOutGradIdeal : Cert.OddOutGradIdeal.Facts] : Prop :=
  ∀ (m : (ℓ : Loc Cert.OddOutIdeal.nD Cert.OddOutIdeal.τ Cert.OddOutIdeal.sig) → Buf (Elt Ideal) ℓ) (g : Dev Cert.OddOutIdeal.nD → PrngReg)
    (m' : (ℓ : Loc Cert.OddOutGradIdeal.nD Cert.OddOutGradIdeal.τ Cert.OddOutGradIdeal.sig) → Buf (Elt Ideal) ℓ) (g' : Dev Cert.OddOutGradIdeal.nD → PrngReg), Pre_OddOutIdeal m →
    (∀ c : Dev Cert.OddOutIdeal.nD,
      m' ((c.tc : Thread Cert.OddOutGradIdeal.nD Cert.OddOutGradIdeal.τ).loc Cert.OddOutGradIdeal.main_arg0) = m ((c.tc : Thread Cert.OddOutIdeal.nD Cert.OddOutIdeal.τ).loc Cert.OddOutIdeal.main_arg0)
      ∧ m' ((c.tc : Thread Cert.OddOutGradIdeal.nD Cert.OddOutGradIdeal.τ).loc Cert.OddOutGradIdeal.main_arg1) = m ((c.tc : Thread Cert.OddOutIdeal.nD Cert.OddOutIdeal.τ).loc Cert.OddOutIdeal.main_arg1)
      ∧ m' ((c.tc : Thread Cert.OddOutGradIdeal.nD Cert.OddOutGradIdeal.τ).loc Cert.OddOutGradIdeal.main_arg2) = m ((c.tc : Thread Cert.OddOutIdeal.nD Cert.OddOutIdeal.τ).loc Cert.OddOutIdeal.main_arg2)
      ∧ m' ((c.tc : Thread Cert.OddOutGradIdeal.nD Cert.OddOutGradIdeal.τ).loc Cert.OddOutGradIdeal.main_arg3) = m ((c.tc : Thread Cert.OddOutIdeal.nD Cert.OddOutIdeal.τ).loc Cert.OddOutIdeal.main_arg3)
      ∧ m' ((c.tc : Thread Cert.OddOutGradIdeal.nD Cert.OddOutGradIdeal.τ).loc Cert.OddOutGradIdeal.main_arg4) = m ((c.tc : Thread Cert.OddOutIdeal.nD Cert.OddOutIdeal.τ).loc Cert.OddOutIdeal.main_arg4)
      ∧ m' ((c.tc : Thread Cert.OddOutGradIdeal.nD Cert.OddOutGradIdeal.τ).loc Cert.OddOutGradIdeal.main_arg5) = m ((c.tc : Thread Cert.OddOutIdeal.nD Cert.OddOutIdeal.τ).loc Cert.OddOutIdeal.main_arg5)
      ∧ m' ((c.tc : Thread Cert.OddOutGradIdeal.nD Cert.OddOutGradIdeal.τ).loc Cert.OddOutGradIdeal.main_arg6) = m ((c.tc : Thread Cert.OddOutIdeal.nD Cert.OddOutIdeal.τ).loc Cert.OddOutIdeal.main_arg6)
      ∧ m' ((c.tc : Thread Cert.OddOutGradIdeal.nD Cert.OddOutGradIdeal.τ).loc Cert.OddOutGradIdeal.main_arg7) = m ((c.tc : Thread Cert.OddOutIdeal.nD Cert.OddOutIdeal.τ).loc Cert.OddOutIdeal.main_arg7)
      ∧ m' ((c.tc : Thread Cert.OddOutGradIdeal.nD Cert.OddOutGradIdeal.τ).loc Cert.OddOutGradIdeal.main_arg8) = m ((c.tc : Thread Cert.OddOutIdeal.nD Cert.OddOutIdeal.τ).loc Cert.OddOutIdeal.main_arg8)) →
    ∃ (v0 : (c : Dev Cert.OddOutIdeal.nD) → Buf (Elt Ideal) ((c.tc : Thread Cert.OddOutIdeal.nD Cert.OddOutIdeal.τ).loc Cert.OddOutIdeal.main_v1_0)) (v1 : (c : Dev Cert.OddOutIdeal.nD) → Buf (Elt Ideal) ((c.tc : Thread Cert.OddOutIdeal.nD Cert.OddOutIdeal.τ).loc Cert.OddOutIdeal.main_v1_1)) (v2 : (c : Dev Cert.OddOutIdeal.nD) → Buf (Elt Ideal) ((c.tc : Thread Cert.OddOutIdeal.nD Cert.OddOutIdeal.τ).loc Cert.OddOutIdeal.main_v1_2)) (v3 : (c : Dev Cert.OddOutIdeal.nD) → Buf (Elt Ideal) ((c.tc : Thread Cert.OddOutIdeal.nD Cert.OddOutIdeal.τ).loc Cert.OddOutIdeal.main_v1_3)) (v4 : (c : Dev Cert.OddOutIdeal.nD) → Buf (Elt Ideal) ((c.tc : Thread Cert.OddOutIdeal.nD Cert.OddOutIdeal.τ).loc Cert.OddOutIdeal.main_v1_4)) (v5 : (c : Dev Cert.OddOutIdeal.nD) → Buf (Elt Ideal) ((c.tc : Thread Cert.OddOutIdeal.nD Cert.OddOutIdeal.τ).loc Cert.OddOutIdeal.main_v1_5)) (v6 : (c : Dev Cert.OddOutIdeal.nD) → Buf (Elt Ideal) ((c.tc : Thread Cert.OddOutIdeal.nD Cert.OddOutIdeal.τ).loc Cert.OddOutIdeal.main_v1_6)) (v7 : (c : Dev Cert.OddOutIdeal.nD) → Buf (Elt Ideal) ((c.tc : Thread Cert.OddOutIdeal.nD Cert.OddOutIdeal.τ).loc Cert.OddOutIdeal.main_v1_7)) (v8 : (c : Dev Cert.OddOutIdeal.nD) → Buf (Elt Ideal) ((c.tc : Thread Cert.OddOutIdeal.nD Cert.OddOutIdeal.τ).loc Cert.OddOutIdeal.main_v1_8)),
      θ_run (Cert.OddOutIdeal.defs (F := Ideal)) (onTc (τ := Cert.OddOutIdeal.τ) (Cert.OddOutIdeal.main (F := Ideal))) ⟨m, fun _ => 0, g⟩ (fun r => ∀ c : Dev Cert.OddOutIdeal.nD,
          r.2.mem ((c.tc : Thread Cert.OddOutIdeal.nD Cert.OddOutIdeal.τ).loc Cert.OddOutIdeal.main_v1_0) = v0 c
          ∧ r.2.mem ((c.tc : Thread Cert.OddOutIdeal.nD Cert.OddOutIdeal.τ).loc Cert.OddOutIdeal.main_v1_1) = v1 c
          ∧ r.2.mem ((c.tc : Thread Cert.OddOutIdeal.nD Cert.OddOutIdeal.τ).loc Cert.OddOutIdeal.main_v1_2) = v2 c
          ∧ r.2.mem ((c.tc : Thread Cert.OddOutIdeal.nD Cert.OddOutIdeal.τ).loc Cert.OddOutIdeal.main_v1_3) = v3 c
          ∧ r.2.mem ((c.tc : Thread Cert.OddOutIdeal.nD Cert.OddOutIdeal.τ).loc Cert.OddOutIdeal.main_v1_4) = v4 c
          ∧ r.2.mem ((c.tc : Thread Cert.OddOutIdeal.nD Cert.OddOutIdeal.τ).loc Cert.OddOutIdeal.main_v1_5) = v5 c
          ∧ r.2.mem ((c.tc : Thread Cert.OddOutIdeal.nD Cert.OddOutIdeal.τ).loc Cert.OddOutIdeal.main_v1_6) = v6 c
          ∧ r.2.mem ((c.tc : Thread Cert.OddOutIdeal.nD Cert.OddOutIdeal.τ).loc Cert.OddOutIdeal.main_v1_7) = v7 c
          ∧ r.2.mem ((c.tc : Thread Cert.OddOutIdeal.nD Cert.OddOutIdeal.τ).loc Cert.OddOutIdeal.main_v1_8) = v8 c
          ∧ r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
          ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
          ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2)
          ∧ r.2.mem ((c.tc : Thread Cert.OddOutIdeal.nD Cert.OddOutIdeal.τ).loc Cert.OddOutIdeal.main_arg3) = m ((c.tc : Thread Cert.OddOutIdeal.nD Cert.OddOutIdeal.τ).loc Cert.OddOutIdeal.main_arg3)
          ∧ r.2.mem ((c.tc : Thread Cert.OddOutIdeal.nD Cert.OddOutIdeal.τ).loc Cert.OddOutIdeal.main_arg4) = m ((c.tc : Thread Cert.OddOutIdeal.nD Cert.OddOutIdeal.τ).loc Cert.OddOutIdeal.main_arg4)
          ∧ r.2.mem ((c.tc : Thread Cert.OddOutIdeal.nD Cert.OddOutIdeal.τ).loc Cert.OddOutIdeal.main_arg5) = m ((c.tc : Thread Cert.OddOutIdeal.nD Cert.OddOutIdeal.τ).loc Cert.OddOutIdeal.main_arg5)
          ∧ r.2.mem ((c.tc : Thread Cert.OddOutIdeal.nD Cert.OddOutIdeal.τ).loc Cert.OddOutIdeal.main_arg6) = m ((c.tc : Thread Cert.OddOutIdeal.nD Cert.OddOutIdeal.τ).loc Cert.OddOutIdeal.main_arg6)
          ∧ r.2.mem ((c.tc : Thread Cert.OddOutIdeal.nD Cert.OddOutIdeal.τ).loc Cert.OddOutIdeal.main_arg7) = m ((c.tc : Thread Cert.OddOutIdeal.nD Cert.OddOutIdeal.τ).loc Cert.OddOutIdeal.main_arg7)
          ∧ r.2.mem ((c.tc : Thread Cert.OddOutIdeal.nD Cert.OddOutIdeal.τ).loc Cert.OddOutIdeal.main_arg8) = m ((c.tc : Thread Cert.OddOutIdeal.nD Cert.OddOutIdeal.τ).loc Cert.OddOutIdeal.main_arg8))
      ∧ θ_run (Cert.OddOutGradIdeal.defs (F := Ideal)) (onTc (τ := Cert.OddOutGradIdeal.τ) (Cert.OddOutGradIdeal.main (F := Ideal))) ⟨m', fun _ => 0, g'⟩ (fun r => ∀ c : Dev Cert.OddOutGradIdeal.nD,
          r.2.mem ((c.tc : Thread Cert.OddOutGradIdeal.nD Cert.OddOutGradIdeal.τ).loc Cert.OddOutGradIdeal.main_v113) = v0 c
          ∧ r.2.mem ((c.tc : Thread Cert.OddOutGradIdeal.nD Cert.OddOutGradIdeal.τ).loc Cert.OddOutGradIdeal.main_v83) = v1 c
          ∧ r.2.mem ((c.tc : Thread Cert.OddOutGradIdeal.nD Cert.OddOutGradIdeal.τ).loc Cert.OddOutGradIdeal.main_v79) = v2 c
          ∧ r.2.mem ((c.tc : Thread Cert.OddOutGradIdeal.nD Cert.OddOutGradIdeal.τ).loc Cert.OddOutGradIdeal.main_v116) = v3 c
          ∧ r.2.mem ((c.tc : Thread Cert.OddOutGradIdeal.nD Cert.OddOutGradIdeal.τ).loc Cert.OddOutGradIdeal.main_v117) = v4 c
          ∧ r.2.mem ((c.tc : Thread Cert.OddOutGradIdeal.nD Cert.OddOutGradIdeal.τ).loc Cert.OddOutGradIdeal.main_v115) = v5 c
          ∧ r.2.mem ((c.tc : Thread Cert.OddOutGradIdeal.nD Cert.OddOutGradIdeal.τ).loc Cert.OddOutGradIdeal.main_v89) = v6 c
          ∧ r.2.mem ((c.tc : Thread Cert.OddOutGradIdeal.nD Cert.OddOutGradIdeal.τ).loc Cert.OddOutGradIdeal.main_v86) = v7 c
          ∧ r.2.mem ((c.tc : Thread Cert.OddOutGradIdeal.nD Cert.OddOutGradIdeal.τ).loc Cert.OddOutGradIdeal.main_v63) = v8 c
          ∧ r.2.mem ((c.tc : Thread Cert.OddOutGradIdeal.nD Cert.OddOutGradIdeal.τ).loc Cert.OddOutGradIdeal.main_arg0) = m' ((c.tc : Thread Cert.OddOutGradIdeal.nD Cert.OddOutGradIdeal.τ).loc Cert.OddOutGradIdeal.main_arg0)
          ∧ r.2.mem ((c.tc : Thread Cert.OddOutGradIdeal.nD Cert.OddOutGradIdeal.τ).loc Cert.OddOutGradIdeal.main_arg1) = m' ((c.tc : Thread Cert.OddOutGradIdeal.nD Cert.OddOutGradIdeal.τ).loc Cert.OddOutGradIdeal.main_arg1)
          ∧ r.2.mem ((c.tc : Thread Cert.OddOutGradIdeal.nD Cert.OddOutGradIdeal.τ).loc Cert.OddOutGradIdeal.main_arg2) = m' ((c.tc : Thread Cert.OddOutGradIdeal.nD Cert.OddOutGradIdeal.τ).loc Cert.OddOutGradIdeal.main_arg2)
          ∧ r.2.mem ((c.tc : Thread Cert.OddOutGradIdeal.nD Cert.OddOutGradIdeal.τ).loc Cert.OddOutGradIdeal.main_arg3) = m' ((c.tc : Thread Cert.OddOutGradIdeal.nD Cert.OddOutGradIdeal.τ).loc Cert.OddOutGradIdeal.main_arg3)
          ∧ r.2.mem ((c.tc : Thread Cert.OddOutGradIdeal.nD Cert.OddOutGradIdeal.τ).loc Cert.OddOutGradIdeal.main_arg4) = m' ((c.tc : Thread Cert.OddOutGradIdeal.nD Cert.OddOutGradIdeal.τ).loc Cert.OddOutGradIdeal.main_arg4)
          ∧ r.2.mem ((c.tc : Thread Cert.OddOutGradIdeal.nD Cert.OddOutGradIdeal.τ).loc Cert.OddOutGradIdeal.main_arg5) = m' ((c.tc : Thread Cert.OddOutGradIdeal.nD Cert.OddOutGradIdeal.τ).loc Cert.OddOutGradIdeal.main_arg5)
          ∧ r.2.mem ((c.tc : Thread Cert.OddOutGradIdeal.nD Cert.OddOutGradIdeal.τ).loc Cert.OddOutGradIdeal.main_arg6) = m' ((c.tc : Thread Cert.OddOutGradIdeal.nD Cert.OddOutGradIdeal.τ).loc Cert.OddOutGradIdeal.main_arg6)
          ∧ r.2.mem ((c.tc : Thread Cert.OddOutGradIdeal.nD Cert.OddOutGradIdeal.τ).loc Cert.OddOutGradIdeal.main_arg7) = m' ((c.tc : Thread Cert.OddOutGradIdeal.nD Cert.OddOutGradIdeal.τ).loc Cert.OddOutGradIdeal.main_arg7)
          ∧ r.2.mem ((c.tc : Thread Cert.OddOutGradIdeal.nD Cert.OddOutGradIdeal.τ).loc Cert.OddOutGradIdeal.main_arg8) = m' ((c.tc : Thread Cert.OddOutGradIdeal.nD Cert.OddOutGradIdeal.τ).loc Cert.OddOutGradIdeal.main_arg8))

def preserves_DwOddIn_DwOddInIdeal : Prop :=
  True

def algebraic_DwOddInIdeal_OddInWeightGradIdeal [hDwOddInIdeal : Cert.DwOddInIdeal.Facts] [hOddInWeightGradIdeal : Cert.OddInWeightGradIdeal.Facts] : Prop :=
  ∀ (m : (ℓ : Loc Cert.DwOddInIdeal.nD Cert.DwOddInIdeal.τ Cert.DwOddInIdeal.sig) → Buf (Elt Ideal) ℓ) (g : Dev Cert.DwOddInIdeal.nD → PrngReg)
    (m' : (ℓ : Loc Cert.OddInWeightGradIdeal.nD Cert.OddInWeightGradIdeal.τ Cert.OddInWeightGradIdeal.sig) → Buf (Elt Ideal) ℓ) (g' : Dev Cert.OddInWeightGradIdeal.nD → PrngReg), Pre_DwOddInIdeal m →
    (∀ c : Dev Cert.DwOddInIdeal.nD,
      m' ((c.tc : Thread Cert.OddInWeightGradIdeal.nD Cert.OddInWeightGradIdeal.τ).loc Cert.OddInWeightGradIdeal.main_arg0) = m ((c.tc : Thread Cert.DwOddInIdeal.nD Cert.DwOddInIdeal.τ).loc Cert.DwOddInIdeal.main_arg0)
      ∧ m' ((c.tc : Thread Cert.OddInWeightGradIdeal.nD Cert.OddInWeightGradIdeal.τ).loc Cert.OddInWeightGradIdeal.main_arg1) = m ((c.tc : Thread Cert.DwOddInIdeal.nD Cert.DwOddInIdeal.τ).loc Cert.DwOddInIdeal.main_arg1)) →
    ∃ (v0 : (c : Dev Cert.DwOddInIdeal.nD) → Buf (Elt Ideal) ((c.tc : Thread Cert.DwOddInIdeal.nD Cert.DwOddInIdeal.τ).loc Cert.DwOddInIdeal.main_v0)),
      θ_run (Cert.DwOddInIdeal.defs (F := Ideal)) (onTc (τ := Cert.DwOddInIdeal.τ) (Cert.DwOddInIdeal.main (F := Ideal))) ⟨m, fun _ => 0, g⟩ (fun r => ∀ c : Dev Cert.DwOddInIdeal.nD,
          r.2.mem ((c.tc : Thread Cert.DwOddInIdeal.nD Cert.DwOddInIdeal.τ).loc Cert.DwOddInIdeal.main_v0) = v0 c
          ∧ r.2.mem ((c.tc : Thread Cert.DwOddInIdeal.nD Cert.DwOddInIdeal.τ).loc Cert.DwOddInIdeal.main_arg0) = m ((c.tc : Thread Cert.DwOddInIdeal.nD Cert.DwOddInIdeal.τ).loc Cert.DwOddInIdeal.main_arg0)
          ∧ r.2.mem ((c.tc : Thread Cert.DwOddInIdeal.nD Cert.DwOddInIdeal.τ).loc Cert.DwOddInIdeal.main_arg1) = m ((c.tc : Thread Cert.DwOddInIdeal.nD Cert.DwOddInIdeal.τ).loc Cert.DwOddInIdeal.main_arg1))
      ∧ θ_run (Cert.OddInWeightGradIdeal.defs (F := Ideal)) (onTc (τ := Cert.OddInWeightGradIdeal.τ) (Cert.OddInWeightGradIdeal.main (F := Ideal))) ⟨m', fun _ => 0, g'⟩ (fun r => ∀ c : Dev Cert.OddInWeightGradIdeal.nD,
          r.2.mem ((c.tc : Thread Cert.OddInWeightGradIdeal.nD Cert.OddInWeightGradIdeal.τ).loc Cert.OddInWeightGradIdeal.main_v6) = v0 c
          ∧ r.2.mem ((c.tc : Thread Cert.OddInWeightGradIdeal.nD Cert.OddInWeightGradIdeal.τ).loc Cert.OddInWeightGradIdeal.main_arg0) = m' ((c.tc : Thread Cert.OddInWeightGradIdeal.nD Cert.OddInWeightGradIdeal.τ).loc Cert.OddInWeightGradIdeal.main_arg0)
          ∧ r.2.mem ((c.tc : Thread Cert.OddInWeightGradIdeal.nD Cert.OddInWeightGradIdeal.τ).loc Cert.OddInWeightGradIdeal.main_arg1) = m' ((c.tc : Thread Cert.OddInWeightGradIdeal.nD Cert.OddInWeightGradIdeal.τ).loc Cert.OddInWeightGradIdeal.main_arg1))

def preserves_DwSquare_DwSquareIdeal : Prop :=
  True

def algebraic_DwSquareIdeal_SquareWeightGradIdeal [hDwSquareIdeal : Cert.DwSquareIdeal.Facts] [hSquareWeightGradIdeal : Cert.SquareWeightGradIdeal.Facts] : Prop :=
  ∀ (m : (ℓ : Loc Cert.DwSquareIdeal.nD Cert.DwSquareIdeal.τ Cert.DwSquareIdeal.sig) → Buf (Elt Ideal) ℓ) (g : Dev Cert.DwSquareIdeal.nD → PrngReg)
    (m' : (ℓ : Loc Cert.SquareWeightGradIdeal.nD Cert.SquareWeightGradIdeal.τ Cert.SquareWeightGradIdeal.sig) → Buf (Elt Ideal) ℓ) (g' : Dev Cert.SquareWeightGradIdeal.nD → PrngReg), Pre_DwSquareIdeal m →
    (∀ c : Dev Cert.DwSquareIdeal.nD,
      m' ((c.tc : Thread Cert.SquareWeightGradIdeal.nD Cert.SquareWeightGradIdeal.τ).loc Cert.SquareWeightGradIdeal.main_arg0) = m ((c.tc : Thread Cert.DwSquareIdeal.nD Cert.DwSquareIdeal.τ).loc Cert.DwSquareIdeal.main_arg0)
      ∧ m' ((c.tc : Thread Cert.SquareWeightGradIdeal.nD Cert.SquareWeightGradIdeal.τ).loc Cert.SquareWeightGradIdeal.main_arg1) = m ((c.tc : Thread Cert.DwSquareIdeal.nD Cert.DwSquareIdeal.τ).loc Cert.DwSquareIdeal.main_arg1)) →
    ∃ (v0 : (c : Dev Cert.DwSquareIdeal.nD) → Buf (Elt Ideal) ((c.tc : Thread Cert.DwSquareIdeal.nD Cert.DwSquareIdeal.τ).loc Cert.DwSquareIdeal.main_v0)),
      θ_run (Cert.DwSquareIdeal.defs (F := Ideal)) (onTc (τ := Cert.DwSquareIdeal.τ) (Cert.DwSquareIdeal.main (F := Ideal))) ⟨m, fun _ => 0, g⟩ (fun r => ∀ c : Dev Cert.DwSquareIdeal.nD,
          r.2.mem ((c.tc : Thread Cert.DwSquareIdeal.nD Cert.DwSquareIdeal.τ).loc Cert.DwSquareIdeal.main_v0) = v0 c
          ∧ r.2.mem ((c.tc : Thread Cert.DwSquareIdeal.nD Cert.DwSquareIdeal.τ).loc Cert.DwSquareIdeal.main_arg0) = m ((c.tc : Thread Cert.DwSquareIdeal.nD Cert.DwSquareIdeal.τ).loc Cert.DwSquareIdeal.main_arg0)
          ∧ r.2.mem ((c.tc : Thread Cert.DwSquareIdeal.nD Cert.DwSquareIdeal.τ).loc Cert.DwSquareIdeal.main_arg1) = m ((c.tc : Thread Cert.DwSquareIdeal.nD Cert.DwSquareIdeal.τ).loc Cert.DwSquareIdeal.main_arg1))
      ∧ θ_run (Cert.SquareWeightGradIdeal.defs (F := Ideal)) (onTc (τ := Cert.SquareWeightGradIdeal.τ) (Cert.SquareWeightGradIdeal.main (F := Ideal))) ⟨m', fun _ => 0, g'⟩ (fun r => ∀ c : Dev Cert.SquareWeightGradIdeal.nD,
          r.2.mem ((c.tc : Thread Cert.SquareWeightGradIdeal.nD Cert.SquareWeightGradIdeal.τ).loc Cert.SquareWeightGradIdeal.main_v5) = v0 c
          ∧ r.2.mem ((c.tc : Thread Cert.SquareWeightGradIdeal.nD Cert.SquareWeightGradIdeal.τ).loc Cert.SquareWeightGradIdeal.main_arg0) = m' ((c.tc : Thread Cert.SquareWeightGradIdeal.nD Cert.SquareWeightGradIdeal.τ).loc Cert.SquareWeightGradIdeal.main_arg0)
          ∧ r.2.mem ((c.tc : Thread Cert.SquareWeightGradIdeal.nD Cert.SquareWeightGradIdeal.τ).loc Cert.SquareWeightGradIdeal.main_arg1) = m' ((c.tc : Thread Cert.SquareWeightGradIdeal.nD Cert.SquareWeightGradIdeal.τ).loc Cert.SquareWeightGradIdeal.main_arg1))

def preserves_DwHalf_DwHalfIdeal : Prop :=
  True

def algebraic_DwHalfIdeal_HalfWeightGradIdeal [hDwHalfIdeal : Cert.DwHalfIdeal.Facts] [hHalfWeightGradIdeal : Cert.HalfWeightGradIdeal.Facts] : Prop :=
  ∀ (m : (ℓ : Loc Cert.DwHalfIdeal.nD Cert.DwHalfIdeal.τ Cert.DwHalfIdeal.sig) → Buf (Elt Ideal) ℓ) (g : Dev Cert.DwHalfIdeal.nD → PrngReg)
    (m' : (ℓ : Loc Cert.HalfWeightGradIdeal.nD Cert.HalfWeightGradIdeal.τ Cert.HalfWeightGradIdeal.sig) → Buf (Elt Ideal) ℓ) (g' : Dev Cert.HalfWeightGradIdeal.nD → PrngReg), Pre_DwHalfIdeal m →
    (∀ c : Dev Cert.DwHalfIdeal.nD,
      m' ((c.tc : Thread Cert.HalfWeightGradIdeal.nD Cert.HalfWeightGradIdeal.τ).loc Cert.HalfWeightGradIdeal.main_arg0) = m ((c.tc : Thread Cert.DwHalfIdeal.nD Cert.DwHalfIdeal.τ).loc Cert.DwHalfIdeal.main_arg0)
      ∧ m' ((c.tc : Thread Cert.HalfWeightGradIdeal.nD Cert.HalfWeightGradIdeal.τ).loc Cert.HalfWeightGradIdeal.main_arg1) = m ((c.tc : Thread Cert.DwHalfIdeal.nD Cert.DwHalfIdeal.τ).loc Cert.DwHalfIdeal.main_arg1)) →
    ∃ (v0 : (c : Dev Cert.DwHalfIdeal.nD) → Buf (Elt Ideal) ((c.tc : Thread Cert.DwHalfIdeal.nD Cert.DwHalfIdeal.τ).loc Cert.DwHalfIdeal.main_v0)),
      θ_run (Cert.DwHalfIdeal.defs (F := Ideal)) (onTc (τ := Cert.DwHalfIdeal.τ) (Cert.DwHalfIdeal.main (F := Ideal))) ⟨m, fun _ => 0, g⟩ (fun r => ∀ c : Dev Cert.DwHalfIdeal.nD,
          r.2.mem ((c.tc : Thread Cert.DwHalfIdeal.nD Cert.DwHalfIdeal.τ).loc Cert.DwHalfIdeal.main_v0) = v0 c
          ∧ r.2.mem ((c.tc : Thread Cert.DwHalfIdeal.nD Cert.DwHalfIdeal.τ).loc Cert.DwHalfIdeal.main_arg0) = m ((c.tc : Thread Cert.DwHalfIdeal.nD Cert.DwHalfIdeal.τ).loc Cert.DwHalfIdeal.main_arg0)
          ∧ r.2.mem ((c.tc : Thread Cert.DwHalfIdeal.nD Cert.DwHalfIdeal.τ).loc Cert.DwHalfIdeal.main_arg1) = m ((c.tc : Thread Cert.DwHalfIdeal.nD Cert.DwHalfIdeal.τ).loc Cert.DwHalfIdeal.main_arg1))
      ∧ θ_run (Cert.HalfWeightGradIdeal.defs (F := Ideal)) (onTc (τ := Cert.HalfWeightGradIdeal.τ) (Cert.HalfWeightGradIdeal.main (F := Ideal))) ⟨m', fun _ => 0, g'⟩ (fun r => ∀ c : Dev Cert.HalfWeightGradIdeal.nD,
          r.2.mem ((c.tc : Thread Cert.HalfWeightGradIdeal.nD Cert.HalfWeightGradIdeal.τ).loc Cert.HalfWeightGradIdeal.main_v5) = v0 c
          ∧ r.2.mem ((c.tc : Thread Cert.HalfWeightGradIdeal.nD Cert.HalfWeightGradIdeal.τ).loc Cert.HalfWeightGradIdeal.main_arg0) = m' ((c.tc : Thread Cert.HalfWeightGradIdeal.nD Cert.HalfWeightGradIdeal.τ).loc Cert.HalfWeightGradIdeal.main_arg0)
          ∧ r.2.mem ((c.tc : Thread Cert.HalfWeightGradIdeal.nD Cert.HalfWeightGradIdeal.τ).loc Cert.HalfWeightGradIdeal.main_arg1) = m' ((c.tc : Thread Cert.HalfWeightGradIdeal.nD Cert.HalfWeightGradIdeal.τ).loc Cert.HalfWeightGradIdeal.main_arg1))

def preserves_DwGlu_DwGluIdeal : Prop :=
  True

def algebraic_DwGluIdeal_GluWeightGradIdeal [hDwGluIdeal : Cert.DwGluIdeal.Facts] [hGluWeightGradIdeal : Cert.GluWeightGradIdeal.Facts] : Prop :=
  ∀ (m : (ℓ : Loc Cert.DwGluIdeal.nD Cert.DwGluIdeal.τ Cert.DwGluIdeal.sig) → Buf (Elt Ideal) ℓ) (g : Dev Cert.DwGluIdeal.nD → PrngReg)
    (m' : (ℓ : Loc Cert.GluWeightGradIdeal.nD Cert.GluWeightGradIdeal.τ Cert.GluWeightGradIdeal.sig) → Buf (Elt Ideal) ℓ) (g' : Dev Cert.GluWeightGradIdeal.nD → PrngReg), Pre_DwGluIdeal m →
    (∀ c : Dev Cert.DwGluIdeal.nD,
      m' ((c.tc : Thread Cert.GluWeightGradIdeal.nD Cert.GluWeightGradIdeal.τ).loc Cert.GluWeightGradIdeal.main_arg0) = m ((c.tc : Thread Cert.DwGluIdeal.nD Cert.DwGluIdeal.τ).loc Cert.DwGluIdeal.main_arg0)
      ∧ m' ((c.tc : Thread Cert.GluWeightGradIdeal.nD Cert.GluWeightGradIdeal.τ).loc Cert.GluWeightGradIdeal.main_arg1) = m ((c.tc : Thread Cert.DwGluIdeal.nD Cert.DwGluIdeal.τ).loc Cert.DwGluIdeal.main_arg1)) →
    ∃ (v0 : (c : Dev Cert.DwGluIdeal.nD) → Buf (Elt Ideal) ((c.tc : Thread Cert.DwGluIdeal.nD Cert.DwGluIdeal.τ).loc Cert.DwGluIdeal.main_v0)),
      θ_run (Cert.DwGluIdeal.defs (F := Ideal)) (onTc (τ := Cert.DwGluIdeal.τ) (Cert.DwGluIdeal.main (F := Ideal))) ⟨m, fun _ => 0, g⟩ (fun r => ∀ c : Dev Cert.DwGluIdeal.nD,
          r.2.mem ((c.tc : Thread Cert.DwGluIdeal.nD Cert.DwGluIdeal.τ).loc Cert.DwGluIdeal.main_v0) = v0 c
          ∧ r.2.mem ((c.tc : Thread Cert.DwGluIdeal.nD Cert.DwGluIdeal.τ).loc Cert.DwGluIdeal.main_arg0) = m ((c.tc : Thread Cert.DwGluIdeal.nD Cert.DwGluIdeal.τ).loc Cert.DwGluIdeal.main_arg0)
          ∧ r.2.mem ((c.tc : Thread Cert.DwGluIdeal.nD Cert.DwGluIdeal.τ).loc Cert.DwGluIdeal.main_arg1) = m ((c.tc : Thread Cert.DwGluIdeal.nD Cert.DwGluIdeal.τ).loc Cert.DwGluIdeal.main_arg1))
      ∧ θ_run (Cert.GluWeightGradIdeal.defs (F := Ideal)) (onTc (τ := Cert.GluWeightGradIdeal.τ) (Cert.GluWeightGradIdeal.main (F := Ideal))) ⟨m', fun _ => 0, g'⟩ (fun r => ∀ c : Dev Cert.GluWeightGradIdeal.nD,
          r.2.mem ((c.tc : Thread Cert.GluWeightGradIdeal.nD Cert.GluWeightGradIdeal.τ).loc Cert.GluWeightGradIdeal.main_v5) = v0 c
          ∧ r.2.mem ((c.tc : Thread Cert.GluWeightGradIdeal.nD Cert.GluWeightGradIdeal.τ).loc Cert.GluWeightGradIdeal.main_arg0) = m' ((c.tc : Thread Cert.GluWeightGradIdeal.nD Cert.GluWeightGradIdeal.τ).loc Cert.GluWeightGradIdeal.main_arg0)
          ∧ r.2.mem ((c.tc : Thread Cert.GluWeightGradIdeal.nD Cert.GluWeightGradIdeal.τ).loc Cert.GluWeightGradIdeal.main_arg1) = m' ((c.tc : Thread Cert.GluWeightGradIdeal.nD Cert.GluWeightGradIdeal.τ).loc Cert.GluWeightGradIdeal.main_arg1))

def preserves_EvenInBwd_EvenInBwdIdeal : Prop :=
  True

def algebraic_EvenInBwdIdeal_EvenInGradIdeal [hEvenInBwdIdeal : Cert.EvenInBwdIdeal.Facts] [hEvenInGradIdeal : Cert.EvenInGradIdeal.Facts] : Prop :=
  ∀ (m : (ℓ : Loc Cert.EvenInBwdIdeal.nD Cert.EvenInBwdIdeal.τ Cert.EvenInBwdIdeal.sig) → Buf (Elt Ideal) ℓ) (g : Dev Cert.EvenInBwdIdeal.nD → PrngReg)
    (m' : (ℓ : Loc Cert.EvenInGradIdeal.nD Cert.EvenInGradIdeal.τ Cert.EvenInGradIdeal.sig) → Buf (Elt Ideal) ℓ) (g' : Dev Cert.EvenInGradIdeal.nD → PrngReg), Pre_EvenInBwdIdeal m →
    (∀ c : Dev Cert.EvenInBwdIdeal.nD,
      m' ((c.tc : Thread Cert.EvenInGradIdeal.nD Cert.EvenInGradIdeal.τ).loc Cert.EvenInGradIdeal.main_arg0) = m ((c.tc : Thread Cert.EvenInBwdIdeal.nD Cert.EvenInBwdIdeal.τ).loc Cert.EvenInBwdIdeal.main_arg0)
      ∧ m' ((c.tc : Thread Cert.EvenInGradIdeal.nD Cert.EvenInGradIdeal.τ).loc Cert.EvenInGradIdeal.main_arg1) = m ((c.tc : Thread Cert.EvenInBwdIdeal.nD Cert.EvenInBwdIdeal.τ).loc Cert.EvenInBwdIdeal.main_arg1)
      ∧ m' ((c.tc : Thread Cert.EvenInGradIdeal.nD Cert.EvenInGradIdeal.τ).loc Cert.EvenInGradIdeal.main_arg2) = m ((c.tc : Thread Cert.EvenInBwdIdeal.nD Cert.EvenInBwdIdeal.τ).loc Cert.EvenInBwdIdeal.main_arg2)
      ∧ m' ((c.tc : Thread Cert.EvenInGradIdeal.nD Cert.EvenInGradIdeal.τ).loc Cert.EvenInGradIdeal.main_arg3) = m ((c.tc : Thread Cert.EvenInBwdIdeal.nD Cert.EvenInBwdIdeal.τ).loc Cert.EvenInBwdIdeal.main_arg3)
      ∧ m' ((c.tc : Thread Cert.EvenInGradIdeal.nD Cert.EvenInGradIdeal.τ).loc Cert.EvenInGradIdeal.main_arg4) = m ((c.tc : Thread Cert.EvenInBwdIdeal.nD Cert.EvenInBwdIdeal.τ).loc Cert.EvenInBwdIdeal.main_arg4)
      ∧ m' ((c.tc : Thread Cert.EvenInGradIdeal.nD Cert.EvenInGradIdeal.τ).loc Cert.EvenInGradIdeal.main_arg5) = m ((c.tc : Thread Cert.EvenInBwdIdeal.nD Cert.EvenInBwdIdeal.τ).loc Cert.EvenInBwdIdeal.main_arg5)
      ∧ m' ((c.tc : Thread Cert.EvenInGradIdeal.nD Cert.EvenInGradIdeal.τ).loc Cert.EvenInGradIdeal.main_arg6) = m ((c.tc : Thread Cert.EvenInBwdIdeal.nD Cert.EvenInBwdIdeal.τ).loc Cert.EvenInBwdIdeal.main_arg6)) →
    ∃ (v0 : (c : Dev Cert.EvenInBwdIdeal.nD) → Buf (Elt Ideal) ((c.tc : Thread Cert.EvenInBwdIdeal.nD Cert.EvenInBwdIdeal.τ).loc Cert.EvenInBwdIdeal.main_v3_0)) (v1 : (c : Dev Cert.EvenInBwdIdeal.nD) → Buf (Elt Ideal) ((c.tc : Thread Cert.EvenInBwdIdeal.nD Cert.EvenInBwdIdeal.τ).loc Cert.EvenInBwdIdeal.main_v3_1)),
      θ_run (Cert.EvenInBwdIdeal.defs (F := Ideal)) (onTc (τ := Cert.EvenInBwdIdeal.τ) (Cert.EvenInBwdIdeal.main (F := Ideal))) ⟨m, fun _ => 0, g⟩ (fun r => ∀ c : Dev Cert.EvenInBwdIdeal.nD,
          r.2.mem ((c.tc : Thread Cert.EvenInBwdIdeal.nD Cert.EvenInBwdIdeal.τ).loc Cert.EvenInBwdIdeal.main_v3_0) = v0 c
          ∧ r.2.mem ((c.tc : Thread Cert.EvenInBwdIdeal.nD Cert.EvenInBwdIdeal.τ).loc Cert.EvenInBwdIdeal.main_v3_1) = v1 c
          ∧ r.2.mem ((c.tc : Thread Cert.EvenInBwdIdeal.nD Cert.EvenInBwdIdeal.τ).loc Cert.EvenInBwdIdeal.main_arg0) = m ((c.tc : Thread Cert.EvenInBwdIdeal.nD Cert.EvenInBwdIdeal.τ).loc Cert.EvenInBwdIdeal.main_arg0)
          ∧ r.2.mem ((c.tc : Thread Cert.EvenInBwdIdeal.nD Cert.EvenInBwdIdeal.τ).loc Cert.EvenInBwdIdeal.main_arg1) = m ((c.tc : Thread Cert.EvenInBwdIdeal.nD Cert.EvenInBwdIdeal.τ).loc Cert.EvenInBwdIdeal.main_arg1)
          ∧ r.2.mem ((c.tc : Thread Cert.EvenInBwdIdeal.nD Cert.EvenInBwdIdeal.τ).loc Cert.EvenInBwdIdeal.main_arg2) = m ((c.tc : Thread Cert.EvenInBwdIdeal.nD Cert.EvenInBwdIdeal.τ).loc Cert.EvenInBwdIdeal.main_arg2)
          ∧ r.2.mem ((c.tc : Thread Cert.EvenInBwdIdeal.nD Cert.EvenInBwdIdeal.τ).loc Cert.EvenInBwdIdeal.main_arg3) = m ((c.tc : Thread Cert.EvenInBwdIdeal.nD Cert.EvenInBwdIdeal.τ).loc Cert.EvenInBwdIdeal.main_arg3)
          ∧ r.2.mem ((c.tc : Thread Cert.EvenInBwdIdeal.nD Cert.EvenInBwdIdeal.τ).loc Cert.EvenInBwdIdeal.main_arg4) = m ((c.tc : Thread Cert.EvenInBwdIdeal.nD Cert.EvenInBwdIdeal.τ).loc Cert.EvenInBwdIdeal.main_arg4)
          ∧ r.2.mem ((c.tc : Thread Cert.EvenInBwdIdeal.nD Cert.EvenInBwdIdeal.τ).loc Cert.EvenInBwdIdeal.main_arg5) = m ((c.tc : Thread Cert.EvenInBwdIdeal.nD Cert.EvenInBwdIdeal.τ).loc Cert.EvenInBwdIdeal.main_arg5)
          ∧ r.2.mem ((c.tc : Thread Cert.EvenInBwdIdeal.nD Cert.EvenInBwdIdeal.τ).loc Cert.EvenInBwdIdeal.main_arg6) = m ((c.tc : Thread Cert.EvenInBwdIdeal.nD Cert.EvenInBwdIdeal.τ).loc Cert.EvenInBwdIdeal.main_arg6))
      ∧ θ_run (Cert.EvenInGradIdeal.defs (F := Ideal)) (onTc (τ := Cert.EvenInGradIdeal.τ) (Cert.EvenInGradIdeal.main (F := Ideal))) ⟨m', fun _ => 0, g'⟩ (fun r => ∀ c : Dev Cert.EvenInGradIdeal.nD,
          r.2.mem ((c.tc : Thread Cert.EvenInGradIdeal.nD Cert.EvenInGradIdeal.τ).loc Cert.EvenInGradIdeal.main_v44) = v0 c
          ∧ r.2.mem ((c.tc : Thread Cert.EvenInGradIdeal.nD Cert.EvenInGradIdeal.τ).loc Cert.EvenInGradIdeal.main_v27) = v1 c
          ∧ r.2.mem ((c.tc : Thread Cert.EvenInGradIdeal.nD Cert.EvenInGradIdeal.τ).loc Cert.EvenInGradIdeal.main_arg0) = m' ((c.tc : Thread Cert.EvenInGradIdeal.nD Cert.EvenInGradIdeal.τ).loc Cert.EvenInGradIdeal.main_arg0)
          ∧ r.2.mem ((c.tc : Thread Cert.EvenInGradIdeal.nD Cert.EvenInGradIdeal.τ).loc Cert.EvenInGradIdeal.main_arg1) = m' ((c.tc : Thread Cert.EvenInGradIdeal.nD Cert.EvenInGradIdeal.τ).loc Cert.EvenInGradIdeal.main_arg1)
          ∧ r.2.mem ((c.tc : Thread Cert.EvenInGradIdeal.nD Cert.EvenInGradIdeal.τ).loc Cert.EvenInGradIdeal.main_arg2) = m' ((c.tc : Thread Cert.EvenInGradIdeal.nD Cert.EvenInGradIdeal.τ).loc Cert.EvenInGradIdeal.main_arg2)
          ∧ r.2.mem ((c.tc : Thread Cert.EvenInGradIdeal.nD Cert.EvenInGradIdeal.τ).loc Cert.EvenInGradIdeal.main_arg3) = m' ((c.tc : Thread Cert.EvenInGradIdeal.nD Cert.EvenInGradIdeal.τ).loc Cert.EvenInGradIdeal.main_arg3)
          ∧ r.2.mem ((c.tc : Thread Cert.EvenInGradIdeal.nD Cert.EvenInGradIdeal.τ).loc Cert.EvenInGradIdeal.main_arg4) = m' ((c.tc : Thread Cert.EvenInGradIdeal.nD Cert.EvenInGradIdeal.τ).loc Cert.EvenInGradIdeal.main_arg4)
          ∧ r.2.mem ((c.tc : Thread Cert.EvenInGradIdeal.nD Cert.EvenInGradIdeal.τ).loc Cert.EvenInGradIdeal.main_arg5) = m' ((c.tc : Thread Cert.EvenInGradIdeal.nD Cert.EvenInGradIdeal.τ).loc Cert.EvenInGradIdeal.main_arg5)
          ∧ r.2.mem ((c.tc : Thread Cert.EvenInGradIdeal.nD Cert.EvenInGradIdeal.τ).loc Cert.EvenInGradIdeal.main_arg6) = m' ((c.tc : Thread Cert.EvenInGradIdeal.nD Cert.EvenInGradIdeal.τ).loc Cert.EvenInGradIdeal.main_arg6))

def preserves_OddInFwd_OddInFwdIdeal : Prop :=
  True

def algebraic_OddInFwdIdeal_OddInRefIdeal [hOddInFwdIdeal : Cert.OddInFwdIdeal.Facts] [hOddInRefIdeal : Cert.OddInRefIdeal.Facts] : Prop :=
  ∀ (m : (ℓ : Loc Cert.OddInFwdIdeal.nD Cert.OddInFwdIdeal.τ Cert.OddInFwdIdeal.sig) → Buf (Elt Ideal) ℓ) (g : Dev Cert.OddInFwdIdeal.nD → PrngReg)
    (m' : (ℓ : Loc Cert.OddInRefIdeal.nD Cert.OddInRefIdeal.τ Cert.OddInRefIdeal.sig) → Buf (Elt Ideal) ℓ) (g' : Dev Cert.OddInRefIdeal.nD → PrngReg), Pre_OddInFwdIdeal m →
    (∀ c : Dev Cert.OddInFwdIdeal.nD,
      m' ((c.tc : Thread Cert.OddInRefIdeal.nD Cert.OddInRefIdeal.τ).loc Cert.OddInRefIdeal.main_arg0) = m ((c.tc : Thread Cert.OddInFwdIdeal.nD Cert.OddInFwdIdeal.τ).loc Cert.OddInFwdIdeal.main_arg0)
      ∧ m' ((c.tc : Thread Cert.OddInRefIdeal.nD Cert.OddInRefIdeal.τ).loc Cert.OddInRefIdeal.main_arg1) = m ((c.tc : Thread Cert.OddInFwdIdeal.nD Cert.OddInFwdIdeal.τ).loc Cert.OddInFwdIdeal.main_arg1)
      ∧ m' ((c.tc : Thread Cert.OddInRefIdeal.nD Cert.OddInRefIdeal.τ).loc Cert.OddInRefIdeal.main_arg2) = m ((c.tc : Thread Cert.OddInFwdIdeal.nD Cert.OddInFwdIdeal.τ).loc Cert.OddInFwdIdeal.main_arg2)) →
    ∃ (v0 : (c : Dev Cert.OddInFwdIdeal.nD) → Buf (Elt Ideal) ((c.tc : Thread Cert.OddInFwdIdeal.nD Cert.OddInFwdIdeal.τ).loc Cert.OddInFwdIdeal.main_v1_0)) (v1 : (c : Dev Cert.OddInFwdIdeal.nD) → Buf (Elt Ideal) ((c.tc : Thread Cert.OddInFwdIdeal.nD Cert.OddInFwdIdeal.τ).loc Cert.OddInFwdIdeal.main_v1_1)) (v2 : (c : Dev Cert.OddInFwdIdeal.nD) → Buf (Elt Ideal) ((c.tc : Thread Cert.OddInFwdIdeal.nD Cert.OddInFwdIdeal.τ).loc Cert.OddInFwdIdeal.main_v1_2)),
      θ_run (Cert.OddInFwdIdeal.defs (F := Ideal)) (onTc (τ := Cert.OddInFwdIdeal.τ) (Cert.OddInFwdIdeal.main (F := Ideal))) ⟨m, fun _ => 0, g⟩ (fun r => ∀ c : Dev Cert.OddInFwdIdeal.nD,
          r.2.mem ((c.tc : Thread Cert.OddInFwdIdeal.nD Cert.OddInFwdIdeal.τ).loc Cert.OddInFwdIdeal.main_v1_0) = v0 c
          ∧ r.2.mem ((c.tc : Thread Cert.OddInFwdIdeal.nD Cert.OddInFwdIdeal.τ).loc Cert.OddInFwdIdeal.main_v1_1) = v1 c
          ∧ r.2.mem ((c.tc : Thread Cert.OddInFwdIdeal.nD Cert.OddInFwdIdeal.τ).loc Cert.OddInFwdIdeal.main_v1_2) = v2 c
          ∧ r.2.mem ((c.tc : Thread Cert.OddInFwdIdeal.nD Cert.OddInFwdIdeal.τ).loc Cert.OddInFwdIdeal.main_arg0) = m ((c.tc : Thread Cert.OddInFwdIdeal.nD Cert.OddInFwdIdeal.τ).loc Cert.OddInFwdIdeal.main_arg0)
          ∧ r.2.mem ((c.tc : Thread Cert.OddInFwdIdeal.nD Cert.OddInFwdIdeal.τ).loc Cert.OddInFwdIdeal.main_arg1) = m ((c.tc : Thread Cert.OddInFwdIdeal.nD Cert.OddInFwdIdeal.τ).loc Cert.OddInFwdIdeal.main_arg1)
          ∧ r.2.mem ((c.tc : Thread Cert.OddInFwdIdeal.nD Cert.OddInFwdIdeal.τ).loc Cert.OddInFwdIdeal.main_arg2) = m ((c.tc : Thread Cert.OddInFwdIdeal.nD Cert.OddInFwdIdeal.τ).loc Cert.OddInFwdIdeal.main_arg2))
      ∧ θ_run (Cert.OddInRefIdeal.defs (F := Ideal)) (onTc (τ := Cert.OddInRefIdeal.τ) (Cert.OddInRefIdeal.main (F := Ideal))) ⟨m', fun _ => 0, g'⟩ (fun r => ∀ c : Dev Cert.OddInRefIdeal.nD,
          r.2.mem ((c.tc : Thread Cert.OddInRefIdeal.nD Cert.OddInRefIdeal.τ).loc Cert.OddInRefIdeal.main_v12) = v0 c
          ∧ r.2.mem ((c.tc : Thread Cert.OddInRefIdeal.nD Cert.OddInRefIdeal.τ).loc Cert.OddInRefIdeal.main_v21) = v1 c
          ∧ r.2.mem ((c.tc : Thread Cert.OddInRefIdeal.nD Cert.OddInRefIdeal.τ).loc Cert.OddInRefIdeal.main_v22) = v2 c
          ∧ r.2.mem ((c.tc : Thread Cert.OddInRefIdeal.nD Cert.OddInRefIdeal.τ).loc Cert.OddInRefIdeal.main_arg0) = m' ((c.tc : Thread Cert.OddInRefIdeal.nD Cert.OddInRefIdeal.τ).loc Cert.OddInRefIdeal.main_arg0)
          ∧ r.2.mem ((c.tc : Thread Cert.OddInRefIdeal.nD Cert.OddInRefIdeal.τ).loc Cert.OddInRefIdeal.main_arg1) = m' ((c.tc : Thread Cert.OddInRefIdeal.nD Cert.OddInRefIdeal.τ).loc Cert.OddInRefIdeal.main_arg1)
          ∧ r.2.mem ((c.tc : Thread Cert.OddInRefIdeal.nD Cert.OddInRefIdeal.τ).loc Cert.OddInRefIdeal.main_arg2) = m' ((c.tc : Thread Cert.OddInRefIdeal.nD Cert.OddInRefIdeal.τ).loc Cert.OddInRefIdeal.main_arg2))

def preserves_EvenInFwd_EvenInFwdIdeal : Prop :=
  True

def algebraic_EvenInFwdIdeal_EvenInRefIdeal [hEvenInFwdIdeal : Cert.EvenInFwdIdeal.Facts] [hEvenInRefIdeal : Cert.EvenInRefIdeal.Facts] : Prop :=
  ∀ (m : (ℓ : Loc Cert.EvenInFwdIdeal.nD Cert.EvenInFwdIdeal.τ Cert.EvenInFwdIdeal.sig) → Buf (Elt Ideal) ℓ) (g : Dev Cert.EvenInFwdIdeal.nD → PrngReg)
    (m' : (ℓ : Loc Cert.EvenInRefIdeal.nD Cert.EvenInRefIdeal.τ Cert.EvenInRefIdeal.sig) → Buf (Elt Ideal) ℓ) (g' : Dev Cert.EvenInRefIdeal.nD → PrngReg), Pre_EvenInFwdIdeal m →
    (∀ c : Dev Cert.EvenInFwdIdeal.nD,
      m' ((c.tc : Thread Cert.EvenInRefIdeal.nD Cert.EvenInRefIdeal.τ).loc Cert.EvenInRefIdeal.main_arg0) = m ((c.tc : Thread Cert.EvenInFwdIdeal.nD Cert.EvenInFwdIdeal.τ).loc Cert.EvenInFwdIdeal.main_arg0)
      ∧ m' ((c.tc : Thread Cert.EvenInRefIdeal.nD Cert.EvenInRefIdeal.τ).loc Cert.EvenInRefIdeal.main_arg1) = m ((c.tc : Thread Cert.EvenInFwdIdeal.nD Cert.EvenInFwdIdeal.τ).loc Cert.EvenInFwdIdeal.main_arg1)
      ∧ m' ((c.tc : Thread Cert.EvenInRefIdeal.nD Cert.EvenInRefIdeal.τ).loc Cert.EvenInRefIdeal.main_arg2) = m ((c.tc : Thread Cert.EvenInFwdIdeal.nD Cert.EvenInFwdIdeal.τ).loc Cert.EvenInFwdIdeal.main_arg2)) →
    ∃ (v0 : (c : Dev Cert.EvenInFwdIdeal.nD) → Buf (Elt Ideal) ((c.tc : Thread Cert.EvenInFwdIdeal.nD Cert.EvenInFwdIdeal.τ).loc Cert.EvenInFwdIdeal.main_v3_0)) (v1 : (c : Dev Cert.EvenInFwdIdeal.nD) → Buf (Elt Ideal) ((c.tc : Thread Cert.EvenInFwdIdeal.nD Cert.EvenInFwdIdeal.τ).loc Cert.EvenInFwdIdeal.main_v3_1)),
      θ_run (Cert.EvenInFwdIdeal.defs (F := Ideal)) (onTc (τ := Cert.EvenInFwdIdeal.τ) (Cert.EvenInFwdIdeal.main (F := Ideal))) ⟨m, fun _ => 0, g⟩ (fun r => ∀ c : Dev Cert.EvenInFwdIdeal.nD,
          r.2.mem ((c.tc : Thread Cert.EvenInFwdIdeal.nD Cert.EvenInFwdIdeal.τ).loc Cert.EvenInFwdIdeal.main_v3_0) = v0 c
          ∧ r.2.mem ((c.tc : Thread Cert.EvenInFwdIdeal.nD Cert.EvenInFwdIdeal.τ).loc Cert.EvenInFwdIdeal.main_v3_1) = v1 c
          ∧ r.2.mem ((c.tc : Thread Cert.EvenInFwdIdeal.nD Cert.EvenInFwdIdeal.τ).loc Cert.EvenInFwdIdeal.main_arg0) = m ((c.tc : Thread Cert.EvenInFwdIdeal.nD Cert.EvenInFwdIdeal.τ).loc Cert.EvenInFwdIdeal.main_arg0)
          ∧ r.2.mem ((c.tc : Thread Cert.EvenInFwdIdeal.nD Cert.EvenInFwdIdeal.τ).loc Cert.EvenInFwdIdeal.main_arg1) = m ((c.tc : Thread Cert.EvenInFwdIdeal.nD Cert.EvenInFwdIdeal.τ).loc Cert.EvenInFwdIdeal.main_arg1)
          ∧ r.2.mem ((c.tc : Thread Cert.EvenInFwdIdeal.nD Cert.EvenInFwdIdeal.τ).loc Cert.EvenInFwdIdeal.main_arg2) = m ((c.tc : Thread Cert.EvenInFwdIdeal.nD Cert.EvenInFwdIdeal.τ).loc Cert.EvenInFwdIdeal.main_arg2))
      ∧ θ_run (Cert.EvenInRefIdeal.defs (F := Ideal)) (onTc (τ := Cert.EvenInRefIdeal.τ) (Cert.EvenInRefIdeal.main (F := Ideal))) ⟨m', fun _ => 0, g'⟩ (fun r => ∀ c : Dev Cert.EvenInRefIdeal.nD,
          r.2.mem ((c.tc : Thread Cert.EvenInRefIdeal.nD Cert.EvenInRefIdeal.τ).loc Cert.EvenInRefIdeal.main_v12) = v0 c
          ∧ r.2.mem ((c.tc : Thread Cert.EvenInRefIdeal.nD Cert.EvenInRefIdeal.τ).loc Cert.EvenInRefIdeal.main_v13) = v1 c
          ∧ r.2.mem ((c.tc : Thread Cert.EvenInRefIdeal.nD Cert.EvenInRefIdeal.τ).loc Cert.EvenInRefIdeal.main_arg0) = m' ((c.tc : Thread Cert.EvenInRefIdeal.nD Cert.EvenInRefIdeal.τ).loc Cert.EvenInRefIdeal.main_arg0)
          ∧ r.2.mem ((c.tc : Thread Cert.EvenInRefIdeal.nD Cert.EvenInRefIdeal.τ).loc Cert.EvenInRefIdeal.main_arg1) = m' ((c.tc : Thread Cert.EvenInRefIdeal.nD Cert.EvenInRefIdeal.τ).loc Cert.EvenInRefIdeal.main_arg1)
          ∧ r.2.mem ((c.tc : Thread Cert.EvenInRefIdeal.nD Cert.EvenInRefIdeal.τ).loc Cert.EvenInRefIdeal.main_arg2) = m' ((c.tc : Thread Cert.EvenInRefIdeal.nD Cert.EvenInRefIdeal.τ).loc Cert.EvenInRefIdeal.main_arg2))

def preserves_EvenMixFwd_EvenMixFwdIdeal : Prop :=
  True

def algebraic_EvenMixFwdIdeal_EvenMixRefIdeal [hEvenMixFwdIdeal : Cert.EvenMixFwdIdeal.Facts] [hEvenMixRefIdeal : Cert.EvenMixRefIdeal.Facts] : Prop :=
  ∀ (m : (ℓ : Loc Cert.EvenMixFwdIdeal.nD Cert.EvenMixFwdIdeal.τ Cert.EvenMixFwdIdeal.sig) → Buf (Elt Ideal) ℓ) (g : Dev Cert.EvenMixFwdIdeal.nD → PrngReg)
    (m' : (ℓ : Loc Cert.EvenMixRefIdeal.nD Cert.EvenMixRefIdeal.τ Cert.EvenMixRefIdeal.sig) → Buf (Elt Ideal) ℓ) (g' : Dev Cert.EvenMixRefIdeal.nD → PrngReg), Pre_EvenMixFwdIdeal m →
    (∀ c : Dev Cert.EvenMixFwdIdeal.nD,
      m' ((c.tc : Thread Cert.EvenMixRefIdeal.nD Cert.EvenMixRefIdeal.τ).loc Cert.EvenMixRefIdeal.main_arg0) = m ((c.tc : Thread Cert.EvenMixFwdIdeal.nD Cert.EvenMixFwdIdeal.τ).loc Cert.EvenMixFwdIdeal.main_arg0)
      ∧ m' ((c.tc : Thread Cert.EvenMixRefIdeal.nD Cert.EvenMixRefIdeal.τ).loc Cert.EvenMixRefIdeal.main_arg1) = m ((c.tc : Thread Cert.EvenMixFwdIdeal.nD Cert.EvenMixFwdIdeal.τ).loc Cert.EvenMixFwdIdeal.main_arg1)
      ∧ m' ((c.tc : Thread Cert.EvenMixRefIdeal.nD Cert.EvenMixRefIdeal.τ).loc Cert.EvenMixRefIdeal.main_arg2) = m ((c.tc : Thread Cert.EvenMixFwdIdeal.nD Cert.EvenMixFwdIdeal.τ).loc Cert.EvenMixFwdIdeal.main_arg2)
      ∧ m' ((c.tc : Thread Cert.EvenMixRefIdeal.nD Cert.EvenMixRefIdeal.τ).loc Cert.EvenMixRefIdeal.main_arg3) = m ((c.tc : Thread Cert.EvenMixFwdIdeal.nD Cert.EvenMixFwdIdeal.τ).loc Cert.EvenMixFwdIdeal.main_arg3)
      ∧ m' ((c.tc : Thread Cert.EvenMixRefIdeal.nD Cert.EvenMixRefIdeal.τ).loc Cert.EvenMixRefIdeal.main_arg4) = m ((c.tc : Thread Cert.EvenMixFwdIdeal.nD Cert.EvenMixFwdIdeal.τ).loc Cert.EvenMixFwdIdeal.main_arg4)
      ∧ m' ((c.tc : Thread Cert.EvenMixRefIdeal.nD Cert.EvenMixRefIdeal.τ).loc Cert.EvenMixRefIdeal.main_arg5) = m ((c.tc : Thread Cert.EvenMixFwdIdeal.nD Cert.EvenMixFwdIdeal.τ).loc Cert.EvenMixFwdIdeal.main_arg5)
      ∧ m' ((c.tc : Thread Cert.EvenMixRefIdeal.nD Cert.EvenMixRefIdeal.τ).loc Cert.EvenMixRefIdeal.main_arg6) = m ((c.tc : Thread Cert.EvenMixFwdIdeal.nD Cert.EvenMixFwdIdeal.τ).loc Cert.EvenMixFwdIdeal.main_arg6)
      ∧ m' ((c.tc : Thread Cert.EvenMixRefIdeal.nD Cert.EvenMixRefIdeal.τ).loc Cert.EvenMixRefIdeal.main_arg7) = m ((c.tc : Thread Cert.EvenMixFwdIdeal.nD Cert.EvenMixFwdIdeal.τ).loc Cert.EvenMixFwdIdeal.main_arg7)
      ∧ m' ((c.tc : Thread Cert.EvenMixRefIdeal.nD Cert.EvenMixRefIdeal.τ).loc Cert.EvenMixRefIdeal.main_arg8) = m ((c.tc : Thread Cert.EvenMixFwdIdeal.nD Cert.EvenMixFwdIdeal.τ).loc Cert.EvenMixFwdIdeal.main_arg8)
      ∧ m' ((c.tc : Thread Cert.EvenMixRefIdeal.nD Cert.EvenMixRefIdeal.τ).loc Cert.EvenMixRefIdeal.main_arg9) = m ((c.tc : Thread Cert.EvenMixFwdIdeal.nD Cert.EvenMixFwdIdeal.τ).loc Cert.EvenMixFwdIdeal.main_arg9)
      ∧ m' ((c.tc : Thread Cert.EvenMixRefIdeal.nD Cert.EvenMixRefIdeal.τ).loc Cert.EvenMixRefIdeal.main_arg10) = m ((c.tc : Thread Cert.EvenMixFwdIdeal.nD Cert.EvenMixFwdIdeal.τ).loc Cert.EvenMixFwdIdeal.main_arg10)
      ∧ m' ((c.tc : Thread Cert.EvenMixRefIdeal.nD Cert.EvenMixRefIdeal.τ).loc Cert.EvenMixRefIdeal.main_arg11) = m ((c.tc : Thread Cert.EvenMixFwdIdeal.nD Cert.EvenMixFwdIdeal.τ).loc Cert.EvenMixFwdIdeal.main_arg11)) →
    ∃ (v0 : (c : Dev Cert.EvenMixFwdIdeal.nD) → Buf (Elt Ideal) ((c.tc : Thread Cert.EvenMixFwdIdeal.nD Cert.EvenMixFwdIdeal.τ).loc Cert.EvenMixFwdIdeal.main_v27_0)) (v1 : (c : Dev Cert.EvenMixFwdIdeal.nD) → Buf (Elt Ideal) ((c.tc : Thread Cert.EvenMixFwdIdeal.nD Cert.EvenMixFwdIdeal.τ).loc Cert.EvenMixFwdIdeal.main_v27_1)) (v2 : (c : Dev Cert.EvenMixFwdIdeal.nD) → Buf (Elt Ideal) ((c.tc : Thread Cert.EvenMixFwdIdeal.nD Cert.EvenMixFwdIdeal.τ).loc Cert.EvenMixFwdIdeal.main_v27_2)) (v3 : (c : Dev Cert.EvenMixFwdIdeal.nD) → Buf (Elt Ideal) ((c.tc : Thread Cert.EvenMixFwdIdeal.nD Cert.EvenMixFwdIdeal.τ).loc Cert.EvenMixFwdIdeal.main_v27_3)) (v4 : (c : Dev Cert.EvenMixFwdIdeal.nD) → Buf (Elt Ideal) ((c.tc : Thread Cert.EvenMixFwdIdeal.nD Cert.EvenMixFwdIdeal.τ).loc Cert.EvenMixFwdIdeal.main_v27_4)),
      θ_run (Cert.EvenMixFwdIdeal.defs (F := Ideal)) (onTc (τ := Cert.EvenMixFwdIdeal.τ) (Cert.EvenMixFwdIdeal.main (F := Ideal))) ⟨m, fun _ => 0, g⟩ (fun r => ∀ c : Dev Cert.EvenMixFwdIdeal.nD,
          r.2.mem ((c.tc : Thread Cert.EvenMixFwdIdeal.nD Cert.EvenMixFwdIdeal.τ).loc Cert.EvenMixFwdIdeal.main_v27_0) = v0 c
          ∧ r.2.mem ((c.tc : Thread Cert.EvenMixFwdIdeal.nD Cert.EvenMixFwdIdeal.τ).loc Cert.EvenMixFwdIdeal.main_v27_1) = v1 c
          ∧ r.2.mem ((c.tc : Thread Cert.EvenMixFwdIdeal.nD Cert.EvenMixFwdIdeal.τ).loc Cert.EvenMixFwdIdeal.main_v27_2) = v2 c
          ∧ r.2.mem ((c.tc : Thread Cert.EvenMixFwdIdeal.nD Cert.EvenMixFwdIdeal.τ).loc Cert.EvenMixFwdIdeal.main_v27_3) = v3 c
          ∧ r.2.mem ((c.tc : Thread Cert.EvenMixFwdIdeal.nD Cert.EvenMixFwdIdeal.τ).loc Cert.EvenMixFwdIdeal.main_v27_4) = v4 c
          ∧ r.2.mem ((c.tc : Thread Cert.EvenMixFwdIdeal.nD Cert.EvenMixFwdIdeal.τ).loc Cert.EvenMixFwdIdeal.main_arg0) = m ((c.tc : Thread Cert.EvenMixFwdIdeal.nD Cert.EvenMixFwdIdeal.τ).loc Cert.EvenMixFwdIdeal.main_arg0)
          ∧ r.2.mem ((c.tc : Thread Cert.EvenMixFwdIdeal.nD Cert.EvenMixFwdIdeal.τ).loc Cert.EvenMixFwdIdeal.main_arg1) = m ((c.tc : Thread Cert.EvenMixFwdIdeal.nD Cert.EvenMixFwdIdeal.τ).loc Cert.EvenMixFwdIdeal.main_arg1)
          ∧ r.2.mem ((c.tc : Thread Cert.EvenMixFwdIdeal.nD Cert.EvenMixFwdIdeal.τ).loc Cert.EvenMixFwdIdeal.main_arg2) = m ((c.tc : Thread Cert.EvenMixFwdIdeal.nD Cert.EvenMixFwdIdeal.τ).loc Cert.EvenMixFwdIdeal.main_arg2)
          ∧ r.2.mem ((c.tc : Thread Cert.EvenMixFwdIdeal.nD Cert.EvenMixFwdIdeal.τ).loc Cert.EvenMixFwdIdeal.main_arg3) = m ((c.tc : Thread Cert.EvenMixFwdIdeal.nD Cert.EvenMixFwdIdeal.τ).loc Cert.EvenMixFwdIdeal.main_arg3)
          ∧ r.2.mem ((c.tc : Thread Cert.EvenMixFwdIdeal.nD Cert.EvenMixFwdIdeal.τ).loc Cert.EvenMixFwdIdeal.main_arg4) = m ((c.tc : Thread Cert.EvenMixFwdIdeal.nD Cert.EvenMixFwdIdeal.τ).loc Cert.EvenMixFwdIdeal.main_arg4)
          ∧ r.2.mem ((c.tc : Thread Cert.EvenMixFwdIdeal.nD Cert.EvenMixFwdIdeal.τ).loc Cert.EvenMixFwdIdeal.main_arg5) = m ((c.tc : Thread Cert.EvenMixFwdIdeal.nD Cert.EvenMixFwdIdeal.τ).loc Cert.EvenMixFwdIdeal.main_arg5)
          ∧ r.2.mem ((c.tc : Thread Cert.EvenMixFwdIdeal.nD Cert.EvenMixFwdIdeal.τ).loc Cert.EvenMixFwdIdeal.main_arg6) = m ((c.tc : Thread Cert.EvenMixFwdIdeal.nD Cert.EvenMixFwdIdeal.τ).loc Cert.EvenMixFwdIdeal.main_arg6)
          ∧ r.2.mem ((c.tc : Thread Cert.EvenMixFwdIdeal.nD Cert.EvenMixFwdIdeal.τ).loc Cert.EvenMixFwdIdeal.main_arg7) = m ((c.tc : Thread Cert.EvenMixFwdIdeal.nD Cert.EvenMixFwdIdeal.τ).loc Cert.EvenMixFwdIdeal.main_arg7)
          ∧ r.2.mem ((c.tc : Thread Cert.EvenMixFwdIdeal.nD Cert.EvenMixFwdIdeal.τ).loc Cert.EvenMixFwdIdeal.main_arg8) = m ((c.tc : Thread Cert.EvenMixFwdIdeal.nD Cert.EvenMixFwdIdeal.τ).loc Cert.EvenMixFwdIdeal.main_arg8)
          ∧ r.2.mem ((c.tc : Thread Cert.EvenMixFwdIdeal.nD Cert.EvenMixFwdIdeal.τ).loc Cert.EvenMixFwdIdeal.main_arg9) = m ((c.tc : Thread Cert.EvenMixFwdIdeal.nD Cert.EvenMixFwdIdeal.τ).loc Cert.EvenMixFwdIdeal.main_arg9)
          ∧ r.2.mem ((c.tc : Thread Cert.EvenMixFwdIdeal.nD Cert.EvenMixFwdIdeal.τ).loc Cert.EvenMixFwdIdeal.main_arg10) = m ((c.tc : Thread Cert.EvenMixFwdIdeal.nD Cert.EvenMixFwdIdeal.τ).loc Cert.EvenMixFwdIdeal.main_arg10)
          ∧ r.2.mem ((c.tc : Thread Cert.EvenMixFwdIdeal.nD Cert.EvenMixFwdIdeal.τ).loc Cert.EvenMixFwdIdeal.main_arg11) = m ((c.tc : Thread Cert.EvenMixFwdIdeal.nD Cert.EvenMixFwdIdeal.τ).loc Cert.EvenMixFwdIdeal.main_arg11))
      ∧ θ_run (Cert.EvenMixRefIdeal.defs (F := Ideal)) (onTc (τ := Cert.EvenMixRefIdeal.τ) (Cert.EvenMixRefIdeal.main (F := Ideal))) ⟨m', fun _ => 0, g'⟩ (fun r => ∀ c : Dev Cert.EvenMixRefIdeal.nD,
          r.2.mem ((c.tc : Thread Cert.EvenMixRefIdeal.nD Cert.EvenMixRefIdeal.τ).loc Cert.EvenMixRefIdeal.main_v33) = v0 c
          ∧ r.2.mem ((c.tc : Thread Cert.EvenMixRefIdeal.nD Cert.EvenMixRefIdeal.τ).loc Cert.EvenMixRefIdeal.main_v34) = v1 c
          ∧ r.2.mem ((c.tc : Thread Cert.EvenMixRefIdeal.nD Cert.EvenMixRefIdeal.τ).loc Cert.EvenMixRefIdeal.main_v5) = v2 c
          ∧ r.2.mem ((c.tc : Thread Cert.EvenMixRefIdeal.nD Cert.EvenMixRefIdeal.τ).loc Cert.EvenMixRefIdeal.main_v16) = v3 c
          ∧ r.2.mem ((c.tc : Thread Cert.EvenMixRefIdeal.nD Cert.EvenMixRefIdeal.τ).loc Cert.EvenMixRefIdeal.main_v17) = v4 c
          ∧ r.2.mem ((c.tc : Thread Cert.EvenMixRefIdeal.nD Cert.EvenMixRefIdeal.τ).loc Cert.EvenMixRefIdeal.main_arg0) = m' ((c.tc : Thread Cert.EvenMixRefIdeal.nD Cert.EvenMixRefIdeal.τ).loc Cert.EvenMixRefIdeal.main_arg0)
          ∧ r.2.mem ((c.tc : Thread Cert.EvenMixRefIdeal.nD Cert.EvenMixRefIdeal.τ).loc Cert.EvenMixRefIdeal.main_arg1) = m' ((c.tc : Thread Cert.EvenMixRefIdeal.nD Cert.EvenMixRefIdeal.τ).loc Cert.EvenMixRefIdeal.main_arg1)
          ∧ r.2.mem ((c.tc : Thread Cert.EvenMixRefIdeal.nD Cert.EvenMixRefIdeal.τ).loc Cert.EvenMixRefIdeal.main_arg2) = m' ((c.tc : Thread Cert.EvenMixRefIdeal.nD Cert.EvenMixRefIdeal.τ).loc Cert.EvenMixRefIdeal.main_arg2)
          ∧ r.2.mem ((c.tc : Thread Cert.EvenMixRefIdeal.nD Cert.EvenMixRefIdeal.τ).loc Cert.EvenMixRefIdeal.main_arg3) = m' ((c.tc : Thread Cert.EvenMixRefIdeal.nD Cert.EvenMixRefIdeal.τ).loc Cert.EvenMixRefIdeal.main_arg3)
          ∧ r.2.mem ((c.tc : Thread Cert.EvenMixRefIdeal.nD Cert.EvenMixRefIdeal.τ).loc Cert.EvenMixRefIdeal.main_arg4) = m' ((c.tc : Thread Cert.EvenMixRefIdeal.nD Cert.EvenMixRefIdeal.τ).loc Cert.EvenMixRefIdeal.main_arg4)
          ∧ r.2.mem ((c.tc : Thread Cert.EvenMixRefIdeal.nD Cert.EvenMixRefIdeal.τ).loc Cert.EvenMixRefIdeal.main_arg5) = m' ((c.tc : Thread Cert.EvenMixRefIdeal.nD Cert.EvenMixRefIdeal.τ).loc Cert.EvenMixRefIdeal.main_arg5)
          ∧ r.2.mem ((c.tc : Thread Cert.EvenMixRefIdeal.nD Cert.EvenMixRefIdeal.τ).loc Cert.EvenMixRefIdeal.main_arg6) = m' ((c.tc : Thread Cert.EvenMixRefIdeal.nD Cert.EvenMixRefIdeal.τ).loc Cert.EvenMixRefIdeal.main_arg6)
          ∧ r.2.mem ((c.tc : Thread Cert.EvenMixRefIdeal.nD Cert.EvenMixRefIdeal.τ).loc Cert.EvenMixRefIdeal.main_arg7) = m' ((c.tc : Thread Cert.EvenMixRefIdeal.nD Cert.EvenMixRefIdeal.τ).loc Cert.EvenMixRefIdeal.main_arg7)
          ∧ r.2.mem ((c.tc : Thread Cert.EvenMixRefIdeal.nD Cert.EvenMixRefIdeal.τ).loc Cert.EvenMixRefIdeal.main_arg8) = m' ((c.tc : Thread Cert.EvenMixRefIdeal.nD Cert.EvenMixRefIdeal.τ).loc Cert.EvenMixRefIdeal.main_arg8)
          ∧ r.2.mem ((c.tc : Thread Cert.EvenMixRefIdeal.nD Cert.EvenMixRefIdeal.τ).loc Cert.EvenMixRefIdeal.main_arg9) = m' ((c.tc : Thread Cert.EvenMixRefIdeal.nD Cert.EvenMixRefIdeal.τ).loc Cert.EvenMixRefIdeal.main_arg9)
          ∧ r.2.mem ((c.tc : Thread Cert.EvenMixRefIdeal.nD Cert.EvenMixRefIdeal.τ).loc Cert.EvenMixRefIdeal.main_arg10) = m' ((c.tc : Thread Cert.EvenMixRefIdeal.nD Cert.EvenMixRefIdeal.τ).loc Cert.EvenMixRefIdeal.main_arg10)
          ∧ r.2.mem ((c.tc : Thread Cert.EvenMixRefIdeal.nD Cert.EvenMixRefIdeal.τ).loc Cert.EvenMixRefIdeal.main_arg11) = m' ((c.tc : Thread Cert.EvenMixRefIdeal.nD Cert.EvenMixRefIdeal.τ).loc Cert.EvenMixRefIdeal.main_arg11))

def preserves_DwReadRe_DwReadReIdeal : Prop :=
  True

def algebraic_DwReadReIdeal_ReadReGradIdeal [hDwReadReIdeal : Cert.DwReadReIdeal.Facts] [hReadReGradIdeal : Cert.ReadReGradIdeal.Facts] : Prop :=
  ∀ (m : (ℓ : Loc Cert.DwReadReIdeal.nD Cert.DwReadReIdeal.τ Cert.DwReadReIdeal.sig) → Buf (Elt Ideal) ℓ) (g : Dev Cert.DwReadReIdeal.nD → PrngReg)
    (m' : (ℓ : Loc Cert.ReadReGradIdeal.nD Cert.ReadReGradIdeal.τ Cert.ReadReGradIdeal.sig) → Buf (Elt Ideal) ℓ) (g' : Dev Cert.ReadReGradIdeal.nD → PrngReg), Pre_DwReadReIdeal m →
    (∀ c : Dev Cert.DwReadReIdeal.nD,
      m' ((c.tc : Thread Cert.ReadReGradIdeal.nD Cert.ReadReGradIdeal.τ).loc Cert.ReadReGradIdeal.main_arg0) = m ((c.tc : Thread Cert.DwReadReIdeal.nD Cert.DwReadReIdeal.τ).loc Cert.DwReadReIdeal.main_arg0)
      ∧ m' ((c.tc : Thread Cert.ReadReGradIdeal.nD Cert.ReadReGradIdeal.τ).loc Cert.ReadReGradIdeal.main_arg1) = m ((c.tc : Thread Cert.DwReadReIdeal.nD Cert.DwReadReIdeal.τ).loc Cert.DwReadReIdeal.main_arg1)) →
    ∃ (v0 : (c : Dev Cert.DwReadReIdeal.nD) → Buf (Elt Ideal) ((c.tc : Thread Cert.DwReadReIdeal.nD Cert.DwReadReIdeal.τ).loc Cert.DwReadReIdeal.main_v0)),
      θ_run (Cert.DwReadReIdeal.defs (F := Ideal)) (onTc (τ := Cert.DwReadReIdeal.τ) (Cert.DwReadReIdeal.main (F := Ideal))) ⟨m, fun _ => 0, g⟩ (fun r => ∀ c : Dev Cert.DwReadReIdeal.nD,
          r.2.mem ((c.tc : Thread Cert.DwReadReIdeal.nD Cert.DwReadReIdeal.τ).loc Cert.DwReadReIdeal.main_v0) = v0 c
          ∧ r.2.mem ((c.tc : Thread Cert.DwReadReIdeal.nD Cert.DwReadReIdeal.τ).loc Cert.DwReadReIdeal.main_arg0) = m ((c.tc : Thread Cert.DwReadReIdeal.nD Cert.DwReadReIdeal.τ).loc Cert.DwReadReIdeal.main_arg0)
          ∧ r.2.mem ((c.tc : Thread Cert.DwReadReIdeal.nD Cert.DwReadReIdeal.τ).loc Cert.DwReadReIdeal.main_arg1) = m ((c.tc : Thread Cert.DwReadReIdeal.nD Cert.DwReadReIdeal.τ).loc Cert.DwReadReIdeal.main_arg1))
      ∧ θ_run (Cert.ReadReGradIdeal.defs (F := Ideal)) (onTc (τ := Cert.ReadReGradIdeal.τ) (Cert.ReadReGradIdeal.main (F := Ideal))) ⟨m', fun _ => 0, g'⟩ (fun r => ∀ c : Dev Cert.ReadReGradIdeal.nD,
          r.2.mem ((c.tc : Thread Cert.ReadReGradIdeal.nD Cert.ReadReGradIdeal.τ).loc Cert.ReadReGradIdeal.main_v7) = v0 c
          ∧ r.2.mem ((c.tc : Thread Cert.ReadReGradIdeal.nD Cert.ReadReGradIdeal.τ).loc Cert.ReadReGradIdeal.main_arg0) = m' ((c.tc : Thread Cert.ReadReGradIdeal.nD Cert.ReadReGradIdeal.τ).loc Cert.ReadReGradIdeal.main_arg0)
          ∧ r.2.mem ((c.tc : Thread Cert.ReadReGradIdeal.nD Cert.ReadReGradIdeal.τ).loc Cert.ReadReGradIdeal.main_arg1) = m' ((c.tc : Thread Cert.ReadReGradIdeal.nD Cert.ReadReGradIdeal.τ).loc Cert.ReadReGradIdeal.main_arg1))

def preserves_DwBbar_DwBbarIdeal : Prop :=
  True

def algebraic_DwBbarIdeal_BbarGradIdeal [hDwBbarIdeal : Cert.DwBbarIdeal.Facts] [hBbarGradIdeal : Cert.BbarGradIdeal.Facts] : Prop :=
  ∀ (m : (ℓ : Loc Cert.DwBbarIdeal.nD Cert.DwBbarIdeal.τ Cert.DwBbarIdeal.sig) → Buf (Elt Ideal) ℓ) (g : Dev Cert.DwBbarIdeal.nD → PrngReg)
    (m' : (ℓ : Loc Cert.BbarGradIdeal.nD Cert.BbarGradIdeal.τ Cert.BbarGradIdeal.sig) → Buf (Elt Ideal) ℓ) (g' : Dev Cert.BbarGradIdeal.nD → PrngReg), Pre_DwBbarIdeal m →
    (∀ c : Dev Cert.DwBbarIdeal.nD,
      m' ((c.tc : Thread Cert.BbarGradIdeal.nD Cert.BbarGradIdeal.τ).loc Cert.BbarGradIdeal.main_arg0) = m ((c.tc : Thread Cert.DwBbarIdeal.nD Cert.DwBbarIdeal.τ).loc Cert.DwBbarIdeal.main_arg0)
      ∧ m' ((c.tc : Thread Cert.BbarGradIdeal.nD Cert.BbarGradIdeal.τ).loc Cert.BbarGradIdeal.main_arg1) = m ((c.tc : Thread Cert.DwBbarIdeal.nD Cert.DwBbarIdeal.τ).loc Cert.DwBbarIdeal.main_arg1)
      ∧ m' ((c.tc : Thread Cert.BbarGradIdeal.nD Cert.BbarGradIdeal.τ).loc Cert.BbarGradIdeal.main_arg2) = m ((c.tc : Thread Cert.DwBbarIdeal.nD Cert.DwBbarIdeal.τ).loc Cert.DwBbarIdeal.main_arg2)) →
    ∃ (v0 : (c : Dev Cert.DwBbarIdeal.nD) → Buf (Elt Ideal) ((c.tc : Thread Cert.DwBbarIdeal.nD Cert.DwBbarIdeal.τ).loc Cert.DwBbarIdeal.main_v0_0)) (v1 : (c : Dev Cert.DwBbarIdeal.nD) → Buf (Elt Ideal) ((c.tc : Thread Cert.DwBbarIdeal.nD Cert.DwBbarIdeal.τ).loc Cert.DwBbarIdeal.main_v0_1)),
      θ_run (Cert.DwBbarIdeal.defs (F := Ideal)) (onTc (τ := Cert.DwBbarIdeal.τ) (Cert.DwBbarIdeal.main (F := Ideal))) ⟨m, fun _ => 0, g⟩ (fun r => ∀ c : Dev Cert.DwBbarIdeal.nD,
          r.2.mem ((c.tc : Thread Cert.DwBbarIdeal.nD Cert.DwBbarIdeal.τ).loc Cert.DwBbarIdeal.main_v0_0) = v0 c
          ∧ r.2.mem ((c.tc : Thread Cert.DwBbarIdeal.nD Cert.DwBbarIdeal.τ).loc Cert.DwBbarIdeal.main_v0_1) = v1 c
          ∧ r.2.mem ((c.tc : Thread Cert.DwBbarIdeal.nD Cert.DwBbarIdeal.τ).loc Cert.DwBbarIdeal.main_arg0) = m ((c.tc : Thread Cert.DwBbarIdeal.nD Cert.DwBbarIdeal.τ).loc Cert.DwBbarIdeal.main_arg0)
          ∧ r.2.mem ((c.tc : Thread Cert.DwBbarIdeal.nD Cert.DwBbarIdeal.τ).loc Cert.DwBbarIdeal.main_arg1) = m ((c.tc : Thread Cert.DwBbarIdeal.nD Cert.DwBbarIdeal.τ).loc Cert.DwBbarIdeal.main_arg1)
          ∧ r.2.mem ((c.tc : Thread Cert.DwBbarIdeal.nD Cert.DwBbarIdeal.τ).loc Cert.DwBbarIdeal.main_arg2) = m ((c.tc : Thread Cert.DwBbarIdeal.nD Cert.DwBbarIdeal.τ).loc Cert.DwBbarIdeal.main_arg2))
      ∧ θ_run (Cert.BbarGradIdeal.defs (F := Ideal)) (onTc (τ := Cert.BbarGradIdeal.τ) (Cert.BbarGradIdeal.main (F := Ideal))) ⟨m', fun _ => 0, g'⟩ (fun r => ∀ c : Dev Cert.BbarGradIdeal.nD,
          r.2.mem ((c.tc : Thread Cert.BbarGradIdeal.nD Cert.BbarGradIdeal.τ).loc Cert.BbarGradIdeal.main_v7) = v0 c
          ∧ r.2.mem ((c.tc : Thread Cert.BbarGradIdeal.nD Cert.BbarGradIdeal.τ).loc Cert.BbarGradIdeal.main_v12) = v1 c
          ∧ r.2.mem ((c.tc : Thread Cert.BbarGradIdeal.nD Cert.BbarGradIdeal.τ).loc Cert.BbarGradIdeal.main_arg0) = m' ((c.tc : Thread Cert.BbarGradIdeal.nD Cert.BbarGradIdeal.τ).loc Cert.BbarGradIdeal.main_arg0)
          ∧ r.2.mem ((c.tc : Thread Cert.BbarGradIdeal.nD Cert.BbarGradIdeal.τ).loc Cert.BbarGradIdeal.main_arg1) = m' ((c.tc : Thread Cert.BbarGradIdeal.nD Cert.BbarGradIdeal.τ).loc Cert.BbarGradIdeal.main_arg1)
          ∧ r.2.mem ((c.tc : Thread Cert.BbarGradIdeal.nD Cert.BbarGradIdeal.τ).loc Cert.BbarGradIdeal.main_arg2) = m' ((c.tc : Thread Cert.BbarGradIdeal.nD Cert.BbarGradIdeal.τ).loc Cert.BbarGradIdeal.main_arg2))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v1) = v0 c
          ∧ r.2.mem ((c.tc : Thread Cert.AdamInRefIdeal.nD Cert.AdamInRefIdeal.τ).loc Cert.AdamInRefIdeal.main_v25) = v1 c
          ∧ r.2.mem ((c.tc : Thread Cert.AdamInRefIdeal.nD Cert.AdamInRefIdeal.τ).loc Cert.AdamInRefIdeal.main_v6) = v2 c
          ∧ r.2.mem ((c.tc : Thread Cert.AdamInRefIdeal.nD Cert.AdamInRefIdeal.τ).loc Cert.AdamInRefIdeal.main_v12) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamGlu_AdamGluIdeal : Prop :=
  True

def algebraic_AdamGluIdeal_AdamGluRefIdeal [hAdamGluIdeal : Cert.AdamGluIdeal.Facts] [hAdamGluRefIdeal : Cert.AdamGluRefIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg)
    (m' : (ℓ : Loc Cert.AdamGluRefIdeal.nD Cert.AdamGluRefIdeal.τ Cert.AdamGluRefIdeal.sig) → Buf (Elt Ideal) ℓ) (g' : Dev Cert.AdamGluRefIdeal.nD → PrngReg), Pre_AdamGluIdeal m →
    (∀ c : Dev Cert.AdamGluIdeal.nD,
      m' ((c.tc : Thread Cert.AdamGluRefIdeal.nD Cert.AdamGluRefIdeal.τ).loc Cert.AdamGluRefIdeal.main_arg0) = m ((c.tc : Thread Cert.AdamGluIdeal.nD Cert.AdamGluIdeal.τ).loc Cert.AdamGluIdeal.main_arg0)
      ∧ m' ((c.tc : Thread Cert.AdamGluRefIdeal.nD Cert.AdamGluRefIdeal.τ).loc Cert.AdamGluRefIdeal.main_arg1) = m ((c.tc : Thread Cert.AdamGluIdeal.nD Cert.AdamGluIdeal.τ).loc Cert.AdamGluIdeal.main_arg1)
      ∧ m' ((c.tc : Thread Cert.AdamGluRefIdeal.nD Cert.AdamGluRefIdeal.τ).loc Cert.AdamGluRefIdeal.main_arg2) = m ((c.tc : Thread Cert.AdamGluIdeal.nD Cert.AdamGluIdeal.τ).loc Cert.AdamGluIdeal.main_arg2)
      ∧ m' ((c.tc : Thread Cert.AdamGluRefIdeal.nD Cert.AdamGluRefIdeal.τ).loc Cert.AdamGluRefIdeal.main_arg3) = m ((c.tc : Thread Cert.AdamGluIdeal.nD Cert.AdamGluIdeal.τ).loc Cert.AdamGluIdeal.main_arg3)) →
    ∃ (v0 : (c : Dev Cert.AdamGluIdeal.nD) → Buf (Elt Ideal) ((c.tc : Thread Cert.AdamGluIdeal.nD Cert.AdamGluIdeal.τ).loc Cert.AdamGluIdeal.main_v0_0)) (v1 : (c : Dev Cert.AdamGluIdeal.nD) → Buf (Elt Ideal) ((c.tc : Thread Cert.AdamGluIdeal.nD Cert.AdamGluIdeal.τ).loc Cert.AdamGluIdeal.main_v0_1)) (v2 : (c : Dev Cert.AdamGluIdeal.nD) → Buf (Elt Ideal) ((c.tc : Thread Cert.AdamGluIdeal.nD Cert.AdamGluIdeal.τ).loc Cert.AdamGluIdeal.main_v0_2)) (v3 : (c : Dev Cert.AdamGluIdeal.nD) → Buf (Elt Ideal) ((c.tc : Thread Cert.AdamGluIdeal.nD Cert.AdamGluIdeal.τ).loc Cert.AdamGluIdeal.main_v0_3)),
      θ_run (Cert.AdamGluIdeal.defs (F := Ideal)) (onTc (τ := Cert.AdamGluIdeal.τ) (Cert.AdamGluIdeal.main (F := Ideal))) ⟨m, fun _ => 0, g⟩ (fun r => ∀ c : Dev Cert.AdamGluIdeal.nD,
          r.2.mem ((c.tc : Thread Cert.AdamGluIdeal.nD Cert.AdamGluIdeal.τ).loc Cert.AdamGluIdeal.main_v0_0) = v0 c
          ∧ r.2.mem ((c.tc : Thread Cert.AdamGluIdeal.nD Cert.AdamGluIdeal.τ).loc Cert.AdamGluIdeal.main_v0_1) = v1 c
          ∧ r.2.mem ((c.tc : Thread Cert.AdamGluIdeal.nD Cert.AdamGluIdeal.τ).loc Cert.AdamGluIdeal.main_v0_2) = v2 c
          ∧ r.2.mem ((c.tc : Thread Cert.AdamGluIdeal.nD Cert.AdamGluIdeal.τ).loc Cert.AdamGluIdeal.main_v0_3) = v3 c
          ∧ r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
          ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
          ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
          ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3))
      ∧ θ_run (Cert.AdamGluRefIdeal.defs (F := Ideal)) (onTc (τ := Cert.AdamGluRefIdeal.τ) (Cert.AdamGluRefIdeal.main (F := Ideal))) ⟨m', fun _ => 0, g'⟩ (fun r => ∀ c : Dev Cert.AdamGluRefIdeal.nD,
          r.2.mem ((c.tc : Thread Cert.AdamGluRefIdeal.nD Cert.AdamGluRefIdeal.τ).loc Cert.AdamGluRefIdeal.main_v1) = v0 c
          ∧ r.2.mem ((c.tc : Thread Cert.AdamGluRefIdeal.nD Cert.AdamGluRefIdeal.τ).loc Cert.AdamGluRefIdeal.main_v25) = v1 c
          ∧ r.2.mem ((c.tc : Thread Cert.AdamGluRefIdeal.nD Cert.AdamGluRefIdeal.τ).loc Cert.AdamGluRefIdeal.main_v6) = v2 c
          ∧ r.2.mem ((c.tc : Thread Cert.AdamGluRefIdeal.nD Cert.AdamGluRefIdeal.τ).loc Cert.AdamGluRefIdeal.main_v12) = v3 c
          ∧ r.2.mem ((c.tc : Thread Cert.AdamGluRefIdeal.nD Cert.AdamGluRefIdeal.τ).loc Cert.AdamGluRefIdeal.main_arg0) = m' ((c.tc : Thread Cert.AdamGluRefIdeal.nD Cert.AdamGluRefIdeal.τ).loc Cert.AdamGluRefIdeal.main_arg0)
          ∧ r.2.mem ((c.tc : Thread Cert.AdamGluRefIdeal.nD Cert.AdamGluRefIdeal.τ).loc Cert.AdamGluRefIdeal.main_arg1) = m' ((c.tc : Thread Cert.AdamGluRefIdeal.nD Cert.AdamGluRefIdeal.τ).loc Cert.AdamGluRefIdeal.main_arg1)
          ∧ r.2.mem ((c.tc : Thread Cert.AdamGluRefIdeal.nD Cert.AdamGluRefIdeal.τ).loc Cert.AdamGluRefIdeal.main_arg2) = m' ((c.tc : Thread Cert.AdamGluRefIdeal.nD Cert.AdamGluRefIdeal.τ).loc Cert.AdamGluRefIdeal.main_arg2)
          ∧ r.2.mem ((c.tc : Thread Cert.AdamGluRefIdeal.nD Cert.AdamGluRefIdeal.τ).loc Cert.AdamGluRefIdeal.main_arg3) = m' ((c.tc : Thread Cert.AdamGluRefIdeal.nD Cert.AdamGluRefIdeal.τ).loc Cert.AdamGluRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v1) = v0 c
          ∧ r.2.mem ((c.tc : Thread Cert.AdamOutRefIdeal.nD Cert.AdamOutRefIdeal.τ).loc Cert.AdamOutRefIdeal.main_v25) = v1 c
          ∧ r.2.mem ((c.tc : Thread Cert.AdamOutRefIdeal.nD Cert.AdamOutRefIdeal.τ).loc Cert.AdamOutRefIdeal.main_v6) = v2 c
          ∧ r.2.mem ((c.tc : Thread Cert.AdamOutRefIdeal.nD Cert.AdamOutRefIdeal.τ).loc Cert.AdamOutRefIdeal.main_v12) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamOddIn_AdamOddInIdeal : Prop :=
  True

def algebraic_AdamOddInIdeal_AdamOddInRefIdeal [hAdamOddInIdeal : Cert.AdamOddInIdeal.Facts] [hAdamOddInRefIdeal : Cert.AdamOddInRefIdeal.Facts] : Prop :=
  ∀ (m : (ℓ : Loc Cert.AdamOddInIdeal.nD Cert.AdamOddInIdeal.τ Cert.AdamOddInIdeal.sig) → Buf (Elt Ideal) ℓ) (g : Dev Cert.AdamOddInIdeal.nD → PrngReg)
    (m' : (ℓ : Loc Cert.AdamOddInRefIdeal.nD Cert.AdamOddInRefIdeal.τ Cert.AdamOddInRefIdeal.sig) → Buf (Elt Ideal) ℓ) (g' : Dev Cert.AdamOddInRefIdeal.nD → PrngReg), Pre_AdamOddInIdeal m →
    (∀ c : Dev Cert.AdamOddInIdeal.nD,
      m' ((c.tc : Thread Cert.AdamOddInRefIdeal.nD Cert.AdamOddInRefIdeal.τ).loc Cert.AdamOddInRefIdeal.main_arg0) = m ((c.tc : Thread Cert.AdamOddInIdeal.nD Cert.AdamOddInIdeal.τ).loc Cert.AdamOddInIdeal.main_arg0)
      ∧ m' ((c.tc : Thread Cert.AdamOddInRefIdeal.nD Cert.AdamOddInRefIdeal.τ).loc Cert.AdamOddInRefIdeal.main_arg1) = m ((c.tc : Thread Cert.AdamOddInIdeal.nD Cert.AdamOddInIdeal.τ).loc Cert.AdamOddInIdeal.main_arg1)
      ∧ m' ((c.tc : Thread Cert.AdamOddInRefIdeal.nD Cert.AdamOddInRefIdeal.τ).loc Cert.AdamOddInRefIdeal.main_arg2) = m ((c.tc : Thread Cert.AdamOddInIdeal.nD Cert.AdamOddInIdeal.τ).loc Cert.AdamOddInIdeal.main_arg2)
      ∧ m' ((c.tc : Thread Cert.AdamOddInRefIdeal.nD Cert.AdamOddInRefIdeal.τ).loc Cert.AdamOddInRefIdeal.main_arg3) = m ((c.tc : Thread Cert.AdamOddInIdeal.nD Cert.AdamOddInIdeal.τ).loc Cert.AdamOddInIdeal.main_arg3)) →
    ∃ (v0 : (c : Dev Cert.AdamOddInIdeal.nD) → Buf (Elt Ideal) ((c.tc : Thread Cert.AdamOddInIdeal.nD Cert.AdamOddInIdeal.τ).loc Cert.AdamOddInIdeal.main_v0_0)) (v1 : (c : Dev Cert.AdamOddInIdeal.nD) → Buf (Elt Ideal) ((c.tc : Thread Cert.AdamOddInIdeal.nD Cert.AdamOddInIdeal.τ).loc Cert.AdamOddInIdeal.main_v0_1)) (v2 : (c : Dev Cert.AdamOddInIdeal.nD) → Buf (Elt Ideal) ((c.tc : Thread Cert.AdamOddInIdeal.nD Cert.AdamOddInIdeal.τ).loc Cert.AdamOddInIdeal.main_v0_2)) (v3 : (c : Dev Cert.AdamOddInIdeal.nD) → Buf (Elt Ideal) ((c.tc : Thread Cert.AdamOddInIdeal.nD Cert.AdamOddInIdeal.τ).loc Cert.AdamOddInIdeal.main_v0_3)),
      θ_run (Cert.AdamOddInIdeal.defs (F := Ideal)) (onTc (τ := Cert.AdamOddInIdeal.τ) (Cert.AdamOddInIdeal.main (F := Ideal))) ⟨m, fun _ => 0, g⟩ (fun r => ∀ c : Dev Cert.AdamOddInIdeal.nD,
          r.2.mem ((c.tc : Thread Cert.AdamOddInIdeal.nD Cert.AdamOddInIdeal.τ).loc Cert.AdamOddInIdeal.main_v0_0) = v0 c
          ∧ r.2.mem ((c.tc : Thread Cert.AdamOddInIdeal.nD Cert.AdamOddInIdeal.τ).loc Cert.AdamOddInIdeal.main_v0_1) = v1 c
          ∧ r.2.mem ((c.tc : Thread Cert.AdamOddInIdeal.nD Cert.AdamOddInIdeal.τ).loc Cert.AdamOddInIdeal.main_v0_2) = v2 c
          ∧ r.2.mem ((c.tc : Thread Cert.AdamOddInIdeal.nD Cert.AdamOddInIdeal.τ).loc Cert.AdamOddInIdeal.main_v0_3) = v3 c
          ∧ r.2.mem ((c.tc : Thread Cert.AdamOddInIdeal.nD Cert.AdamOddInIdeal.τ).loc Cert.AdamOddInIdeal.main_arg0) = m ((c.tc : Thread Cert.AdamOddInIdeal.nD Cert.AdamOddInIdeal.τ).loc Cert.AdamOddInIdeal.main_arg0)
          ∧ r.2.mem ((c.tc : Thread Cert.AdamOddInIdeal.nD Cert.AdamOddInIdeal.τ).loc Cert.AdamOddInIdeal.main_arg1) = m ((c.tc : Thread Cert.AdamOddInIdeal.nD Cert.AdamOddInIdeal.τ).loc Cert.AdamOddInIdeal.main_arg1)
          ∧ r.2.mem ((c.tc : Thread Cert.AdamOddInIdeal.nD Cert.AdamOddInIdeal.τ).loc Cert.AdamOddInIdeal.main_arg2) = m ((c.tc : Thread Cert.AdamOddInIdeal.nD Cert.AdamOddInIdeal.τ).loc Cert.AdamOddInIdeal.main_arg2)
          ∧ r.2.mem ((c.tc : Thread Cert.AdamOddInIdeal.nD Cert.AdamOddInIdeal.τ).loc Cert.AdamOddInIdeal.main_arg3) = m ((c.tc : Thread Cert.AdamOddInIdeal.nD Cert.AdamOddInIdeal.τ).loc Cert.AdamOddInIdeal.main_arg3))
      ∧ θ_run (Cert.AdamOddInRefIdeal.defs (F := Ideal)) (onTc (τ := Cert.AdamOddInRefIdeal.τ) (Cert.AdamOddInRefIdeal.main (F := Ideal))) ⟨m', fun _ => 0, g'⟩ (fun r => ∀ c : Dev Cert.AdamOddInRefIdeal.nD,
          r.2.mem ((c.tc : Thread Cert.AdamOddInRefIdeal.nD Cert.AdamOddInRefIdeal.τ).loc Cert.AdamOddInRefIdeal.main_v1) = v0 c
          ∧ r.2.mem ((c.tc : Thread Cert.AdamOddInRefIdeal.nD Cert.AdamOddInRefIdeal.τ).loc Cert.AdamOddInRefIdeal.main_v25) = v1 c
          ∧ r.2.mem ((c.tc : Thread Cert.AdamOddInRefIdeal.nD Cert.AdamOddInRefIdeal.τ).loc Cert.AdamOddInRefIdeal.main_v6) = v2 c
          ∧ r.2.mem ((c.tc : Thread Cert.AdamOddInRefIdeal.nD Cert.AdamOddInRefIdeal.τ).loc Cert.AdamOddInRefIdeal.main_v12) = v3 c
          ∧ r.2.mem ((c.tc : Thread Cert.AdamOddInRefIdeal.nD Cert.AdamOddInRefIdeal.τ).loc Cert.AdamOddInRefIdeal.main_arg0) = m' ((c.tc : Thread Cert.AdamOddInRefIdeal.nD Cert.AdamOddInRefIdeal.τ).loc Cert.AdamOddInRefIdeal.main_arg0)
          ∧ r.2.mem ((c.tc : Thread Cert.AdamOddInRefIdeal.nD Cert.AdamOddInRefIdeal.τ).loc Cert.AdamOddInRefIdeal.main_arg1) = m' ((c.tc : Thread Cert.AdamOddInRefIdeal.nD Cert.AdamOddInRefIdeal.τ).loc Cert.AdamOddInRefIdeal.main_arg1)
          ∧ r.2.mem ((c.tc : Thread Cert.AdamOddInRefIdeal.nD Cert.AdamOddInRefIdeal.τ).loc Cert.AdamOddInRefIdeal.main_arg2) = m' ((c.tc : Thread Cert.AdamOddInRefIdeal.nD Cert.AdamOddInRefIdeal.τ).loc Cert.AdamOddInRefIdeal.main_arg2)
          ∧ r.2.mem ((c.tc : Thread Cert.AdamOddInRefIdeal.nD Cert.AdamOddInRefIdeal.τ).loc Cert.AdamOddInRefIdeal.main_arg3) = m' ((c.tc : Thread Cert.AdamOddInRefIdeal.nD Cert.AdamOddInRefIdeal.τ).loc Cert.AdamOddInRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v0) = v0 c
          ∧ r.2.mem ((c.tc : Thread Cert.AdamSmallRefIdeal.nD Cert.AdamSmallRefIdeal.τ).loc Cert.AdamSmallRefIdeal.main_v24) = v1 c
          ∧ r.2.mem ((c.tc : Thread Cert.AdamSmallRefIdeal.nD Cert.AdamSmallRefIdeal.τ).loc Cert.AdamSmallRefIdeal.main_v5) = v2 c
          ∧ r.2.mem ((c.tc : Thread Cert.AdamSmallRefIdeal.nD Cert.AdamSmallRefIdeal.τ).loc Cert.AdamSmallRefIdeal.main_v11) = v3 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_AdamEarly_AdamEarlyIdeal : Prop :=
  True

def algebraic_AdamEarlyIdeal_AdamEarlyRefIdeal [hAdamEarlyIdeal : Cert.AdamEarlyIdeal.Facts] [hAdamEarlyRefIdeal : Cert.AdamEarlyRefIdeal.Facts] : Prop :=
  ∀ (m : (ℓ : Loc Cert.AdamEarlyIdeal.nD Cert.AdamEarlyIdeal.τ Cert.AdamEarlyIdeal.sig) → Buf (Elt Ideal) ℓ) (g : Dev Cert.AdamEarlyIdeal.nD → PrngReg)
    (m' : (ℓ : Loc Cert.AdamEarlyRefIdeal.nD Cert.AdamEarlyRefIdeal.τ Cert.AdamEarlyRefIdeal.sig) → Buf (Elt Ideal) ℓ) (g' : Dev Cert.AdamEarlyRefIdeal.nD → PrngReg), Pre_AdamEarlyIdeal m →
    (∀ c : Dev Cert.AdamEarlyIdeal.nD,
      m' ((c.tc : Thread Cert.AdamEarlyRefIdeal.nD Cert.AdamEarlyRefIdeal.τ).loc Cert.AdamEarlyRefIdeal.main_arg0) = m ((c.tc : Thread Cert.AdamEarlyIdeal.nD Cert.AdamEarlyIdeal.τ).loc Cert.AdamEarlyIdeal.main_arg0)
      ∧ m' ((c.tc : Thread Cert.AdamEarlyRefIdeal.nD Cert.AdamEarlyRefIdeal.τ).loc Cert.AdamEarlyRefIdeal.main_arg1) = m ((c.tc : Thread Cert.AdamEarlyIdeal.nD Cert.AdamEarlyIdeal.τ).loc Cert.AdamEarlyIdeal.main_arg1)
      ∧ m' ((c.tc : Thread Cert.AdamEarlyRefIdeal.nD Cert.AdamEarlyRefIdeal.τ).loc Cert.AdamEarlyRefIdeal.main_arg2) = m ((c.tc : Thread Cert.AdamEarlyIdeal.nD Cert.AdamEarlyIdeal.τ).loc Cert.AdamEarlyIdeal.main_arg2)
      ∧ m' ((c.tc : Thread Cert.AdamEarlyRefIdeal.nD Cert.AdamEarlyRefIdeal.τ).loc Cert.AdamEarlyRefIdeal.main_arg3) = m ((c.tc : Thread Cert.AdamEarlyIdeal.nD Cert.AdamEarlyIdeal.τ).loc Cert.AdamEarlyIdeal.main_arg3)) →
    ∃ (v0 : (c : Dev Cert.AdamEarlyIdeal.nD) → Buf (Elt Ideal) ((c.tc : Thread Cert.AdamEarlyIdeal.nD Cert.AdamEarlyIdeal.τ).loc Cert.AdamEarlyIdeal.main_v0_0)) (v1 : (c : Dev Cert.AdamEarlyIdeal.nD) → Buf (Elt Ideal) ((c.tc : Thread Cert.AdamEarlyIdeal.nD Cert.AdamEarlyIdeal.τ).loc Cert.AdamEarlyIdeal.main_v0_1)) (v2 : (c : Dev Cert.AdamEarlyIdeal.nD) → Buf (Elt Ideal) ((c.tc : Thread Cert.AdamEarlyIdeal.nD Cert.AdamEarlyIdeal.τ).loc Cert.AdamEarlyIdeal.main_v0_2)) (v3 : (c : Dev Cert.AdamEarlyIdeal.nD) → Buf (Elt Ideal) ((c.tc : Thread Cert.AdamEarlyIdeal.nD Cert.AdamEarlyIdeal.τ).loc Cert.AdamEarlyIdeal.main_v0_3)),
      θ_run (Cert.AdamEarlyIdeal.defs (F := Ideal)) (onTc (τ := Cert.AdamEarlyIdeal.τ) (Cert.AdamEarlyIdeal.main (F := Ideal))) ⟨m, fun _ => 0, g⟩ (fun r => ∀ c : Dev Cert.AdamEarlyIdeal.nD,
          r.2.mem ((c.tc : Thread Cert.AdamEarlyIdeal.nD Cert.AdamEarlyIdeal.τ).loc Cert.AdamEarlyIdeal.main_v0_0) = v0 c
          ∧ r.2.mem ((c.tc : Thread Cert.AdamEarlyIdeal.nD Cert.AdamEarlyIdeal.τ).loc Cert.AdamEarlyIdeal.main_v0_1) = v1 c
          ∧ r.2.mem ((c.tc : Thread Cert.AdamEarlyIdeal.nD Cert.AdamEarlyIdeal.τ).loc Cert.AdamEarlyIdeal.main_v0_2) = v2 c
          ∧ r.2.mem ((c.tc : Thread Cert.AdamEarlyIdeal.nD Cert.AdamEarlyIdeal.τ).loc Cert.AdamEarlyIdeal.main_v0_3) = v3 c
          ∧ r.2.mem ((c.tc : Thread Cert.AdamEarlyIdeal.nD Cert.AdamEarlyIdeal.τ).loc Cert.AdamEarlyIdeal.main_arg0) = m ((c.tc : Thread Cert.AdamEarlyIdeal.nD Cert.AdamEarlyIdeal.τ).loc Cert.AdamEarlyIdeal.main_arg0)
          ∧ r.2.mem ((c.tc : Thread Cert.AdamEarlyIdeal.nD Cert.AdamEarlyIdeal.τ).loc Cert.AdamEarlyIdeal.main_arg1) = m ((c.tc : Thread Cert.AdamEarlyIdeal.nD Cert.AdamEarlyIdeal.τ).loc Cert.AdamEarlyIdeal.main_arg1)
          ∧ r.2.mem ((c.tc : Thread Cert.AdamEarlyIdeal.nD Cert.AdamEarlyIdeal.τ).loc Cert.AdamEarlyIdeal.main_arg2) = m ((c.tc : Thread Cert.AdamEarlyIdeal.nD Cert.AdamEarlyIdeal.τ).loc Cert.AdamEarlyIdeal.main_arg2)
          ∧ r.2.mem ((c.tc : Thread Cert.AdamEarlyIdeal.nD Cert.AdamEarlyIdeal.τ).loc Cert.AdamEarlyIdeal.main_arg3) = m ((c.tc : Thread Cert.AdamEarlyIdeal.nD Cert.AdamEarlyIdeal.τ).loc Cert.AdamEarlyIdeal.main_arg3))
      ∧ θ_run (Cert.AdamEarlyRefIdeal.defs (F := Ideal)) (onTc (τ := Cert.AdamEarlyRefIdeal.τ) (Cert.AdamEarlyRefIdeal.main (F := Ideal))) ⟨m', fun _ => 0, g'⟩ (fun r => ∀ c : Dev Cert.AdamEarlyRefIdeal.nD,
          r.2.mem ((c.tc : Thread Cert.AdamEarlyRefIdeal.nD Cert.AdamEarlyRefIdeal.τ).loc Cert.AdamEarlyRefIdeal.main_v0) = v0 c
          ∧ r.2.mem ((c.tc : Thread Cert.AdamEarlyRefIdeal.nD Cert.AdamEarlyRefIdeal.τ).loc Cert.AdamEarlyRefIdeal.main_v24) = v1 c
          ∧ r.2.mem ((c.tc : Thread Cert.AdamEarlyRefIdeal.nD Cert.AdamEarlyRefIdeal.τ).loc Cert.AdamEarlyRefIdeal.main_v5) = v2 c
          ∧ r.2.mem ((c.tc : Thread Cert.AdamEarlyRefIdeal.nD Cert.AdamEarlyRefIdeal.τ).loc Cert.AdamEarlyRefIdeal.main_v11) = v3 c
          ∧ r.2.mem ((c.tc : Thread Cert.AdamEarlyRefIdeal.nD Cert.AdamEarlyRefIdeal.τ).loc Cert.AdamEarlyRefIdeal.main_arg0) = m' ((c.tc : Thread Cert.AdamEarlyRefIdeal.nD Cert.AdamEarlyRefIdeal.τ).loc Cert.AdamEarlyRefIdeal.main_arg0)
          ∧ r.2.mem ((c.tc : Thread Cert.AdamEarlyRefIdeal.nD Cert.AdamEarlyRefIdeal.τ).loc Cert.AdamEarlyRefIdeal.main_arg1) = m' ((c.tc : Thread Cert.AdamEarlyRefIdeal.nD Cert.AdamEarlyRefIdeal.τ).loc Cert.AdamEarlyRefIdeal.main_arg1)
          ∧ r.2.mem ((c.tc : Thread Cert.AdamEarlyRefIdeal.nD Cert.AdamEarlyRefIdeal.τ).loc Cert.AdamEarlyRefIdeal.main_arg2) = m' ((c.tc : Thread Cert.AdamEarlyRefIdeal.nD Cert.AdamEarlyRefIdeal.τ).loc Cert.AdamEarlyRefIdeal.main_arg2)
          ∧ r.2.mem ((c.tc : Thread Cert.AdamEarlyRefIdeal.nD Cert.AdamEarlyRefIdeal.τ).loc Cert.AdamEarlyRefIdeal.main_arg3) = m' ((c.tc : Thread Cert.AdamEarlyRefIdeal.nD Cert.AdamEarlyRefIdeal.τ).loc Cert.AdamEarlyRefIdeal.main_arg3))

def preserves_AdamMid_AdamMidIdeal : Prop :=
  True

def algebraic_AdamMidIdeal_AdamMidRefIdeal [hAdamMidIdeal : Cert.AdamMidIdeal.Facts] [hAdamMidRefIdeal : Cert.AdamMidRefIdeal.Facts] : Prop :=
  ∀ (m : (ℓ : Loc Cert.AdamMidIdeal.nD Cert.AdamMidIdeal.τ Cert.AdamMidIdeal.sig) → Buf (Elt Ideal) ℓ) (g : Dev Cert.AdamMidIdeal.nD → PrngReg)
    (m' : (ℓ : Loc Cert.AdamMidRefIdeal.nD Cert.AdamMidRefIdeal.τ Cert.AdamMidRefIdeal.sig) → Buf (Elt Ideal) ℓ) (g' : Dev Cert.AdamMidRefIdeal.nD → PrngReg), Pre_AdamMidIdeal m →
    (∀ c : Dev Cert.AdamMidIdeal.nD,
      m' ((c.tc : Thread Cert.AdamMidRefIdeal.nD Cert.AdamMidRefIdeal.τ).loc Cert.AdamMidRefIdeal.main_arg0) = m ((c.tc : Thread Cert.AdamMidIdeal.nD Cert.AdamMidIdeal.τ).loc Cert.AdamMidIdeal.main_arg0)
      ∧ m' ((c.tc : Thread Cert.AdamMidRefIdeal.nD Cert.AdamMidRefIdeal.τ).loc Cert.AdamMidRefIdeal.main_arg1) = m ((c.tc : Thread Cert.AdamMidIdeal.nD Cert.AdamMidIdeal.τ).loc Cert.AdamMidIdeal.main_arg1)
      ∧ m' ((c.tc : Thread Cert.AdamMidRefIdeal.nD Cert.AdamMidRefIdeal.τ).loc Cert.AdamMidRefIdeal.main_arg2) = m ((c.tc : Thread Cert.AdamMidIdeal.nD Cert.AdamMidIdeal.τ).loc Cert.AdamMidIdeal.main_arg2)
      ∧ m' ((c.tc : Thread Cert.AdamMidRefIdeal.nD Cert.AdamMidRefIdeal.τ).loc Cert.AdamMidRefIdeal.main_arg3) = m ((c.tc : Thread Cert.AdamMidIdeal.nD Cert.AdamMidIdeal.τ).loc Cert.AdamMidIdeal.main_arg3)) →
    ∃ (v0 : (c : Dev Cert.AdamMidIdeal.nD) → Buf (Elt Ideal) ((c.tc : Thread Cert.AdamMidIdeal.nD Cert.AdamMidIdeal.τ).loc Cert.AdamMidIdeal.main_v0_0)) (v1 : (c : Dev Cert.AdamMidIdeal.nD) → Buf (Elt Ideal) ((c.tc : Thread Cert.AdamMidIdeal.nD Cert.AdamMidIdeal.τ).loc Cert.AdamMidIdeal.main_v0_1)) (v2 : (c : Dev Cert.AdamMidIdeal.nD) → Buf (Elt Ideal) ((c.tc : Thread Cert.AdamMidIdeal.nD Cert.AdamMidIdeal.τ).loc Cert.AdamMidIdeal.main_v0_2)) (v3 : (c : Dev Cert.AdamMidIdeal.nD) → Buf (Elt Ideal) ((c.tc : Thread Cert.AdamMidIdeal.nD Cert.AdamMidIdeal.τ).loc Cert.AdamMidIdeal.main_v0_3)),
      θ_run (Cert.AdamMidIdeal.defs (F := Ideal)) (onTc (τ := Cert.AdamMidIdeal.τ) (Cert.AdamMidIdeal.main (F := Ideal))) ⟨m, fun _ => 0, g⟩ (fun r => ∀ c : Dev Cert.AdamMidIdeal.nD,
          r.2.mem ((c.tc : Thread Cert.AdamMidIdeal.nD Cert.AdamMidIdeal.τ).loc Cert.AdamMidIdeal.main_v0_0) = v0 c
          ∧ r.2.mem ((c.tc : Thread Cert.AdamMidIdeal.nD Cert.AdamMidIdeal.τ).loc Cert.AdamMidIdeal.main_v0_1) = v1 c
          ∧ r.2.mem ((c.tc : Thread Cert.AdamMidIdeal.nD Cert.AdamMidIdeal.τ).loc Cert.AdamMidIdeal.main_v0_2) = v2 c
          ∧ r.2.mem ((c.tc : Thread Cert.AdamMidIdeal.nD Cert.AdamMidIdeal.τ).loc Cert.AdamMidIdeal.main_v0_3) = v3 c
          ∧ r.2.mem ((c.tc : Thread Cert.AdamMidIdeal.nD Cert.AdamMidIdeal.τ).loc Cert.AdamMidIdeal.main_arg0) = m ((c.tc : Thread Cert.AdamMidIdeal.nD Cert.AdamMidIdeal.τ).loc Cert.AdamMidIdeal.main_arg0)
          ∧ r.2.mem ((c.tc : Thread Cert.AdamMidIdeal.nD Cert.AdamMidIdeal.τ).loc Cert.AdamMidIdeal.main_arg1) = m ((c.tc : Thread Cert.AdamMidIdeal.nD Cert.AdamMidIdeal.τ).loc Cert.AdamMidIdeal.main_arg1)
          ∧ r.2.mem ((c.tc : Thread Cert.AdamMidIdeal.nD Cert.AdamMidIdeal.τ).loc Cert.AdamMidIdeal.main_arg2) = m ((c.tc : Thread Cert.AdamMidIdeal.nD Cert.AdamMidIdeal.τ).loc Cert.AdamMidIdeal.main_arg2)
          ∧ r.2.mem ((c.tc : Thread Cert.AdamMidIdeal.nD Cert.AdamMidIdeal.τ).loc Cert.AdamMidIdeal.main_arg3) = m ((c.tc : Thread Cert.AdamMidIdeal.nD Cert.AdamMidIdeal.τ).loc Cert.AdamMidIdeal.main_arg3))
      ∧ θ_run (Cert.AdamMidRefIdeal.defs (F := Ideal)) (onTc (τ := Cert.AdamMidRefIdeal.τ) (Cert.AdamMidRefIdeal.main (F := Ideal))) ⟨m', fun _ => 0, g'⟩ (fun r => ∀ c : Dev Cert.AdamMidRefIdeal.nD,
          r.2.mem ((c.tc : Thread Cert.AdamMidRefIdeal.nD Cert.AdamMidRefIdeal.τ).loc Cert.AdamMidRefIdeal.main_v0) = v0 c
          ∧ r.2.mem ((c.tc : Thread Cert.AdamMidRefIdeal.nD Cert.AdamMidRefIdeal.τ).loc Cert.AdamMidRefIdeal.main_v24) = v1 c
          ∧ r.2.mem ((c.tc : Thread Cert.AdamMidRefIdeal.nD Cert.AdamMidRefIdeal.τ).loc Cert.AdamMidRefIdeal.main_v5) = v2 c
          ∧ r.2.mem ((c.tc : Thread Cert.AdamMidRefIdeal.nD Cert.AdamMidRefIdeal.τ).loc Cert.AdamMidRefIdeal.main_v11) = v3 c
          ∧ r.2.mem ((c.tc : Thread Cert.AdamMidRefIdeal.nD Cert.AdamMidRefIdeal.τ).loc Cert.AdamMidRefIdeal.main_arg0) = m' ((c.tc : Thread Cert.AdamMidRefIdeal.nD Cert.AdamMidRefIdeal.τ).loc Cert.AdamMidRefIdeal.main_arg0)
          ∧ r.2.mem ((c.tc : Thread Cert.AdamMidRefIdeal.nD Cert.AdamMidRefIdeal.τ).loc Cert.AdamMidRefIdeal.main_arg1) = m' ((c.tc : Thread Cert.AdamMidRefIdeal.nD Cert.AdamMidRefIdeal.τ).loc Cert.AdamMidRefIdeal.main_arg1)
          ∧ r.2.mem ((c.tc : Thread Cert.AdamMidRefIdeal.nD Cert.AdamMidRefIdeal.τ).loc Cert.AdamMidRefIdeal.main_arg2) = m' ((c.tc : Thread Cert.AdamMidRefIdeal.nD Cert.AdamMidRefIdeal.τ).loc Cert.AdamMidRefIdeal.main_arg2)
          ∧ r.2.mem ((c.tc : Thread Cert.AdamMidRefIdeal.nD Cert.AdamMidRefIdeal.τ).loc Cert.AdamMidRefIdeal.main_arg3) = m' ((c.tc : Thread Cert.AdamMidRefIdeal.nD Cert.AdamMidRefIdeal.τ).loc Cert.AdamMidRefIdeal.main_arg3))

def preserves_AdamLate_AdamLateIdeal : Prop :=
  True

def algebraic_AdamLateIdeal_AdamLateRefIdeal [hAdamLateIdeal : Cert.AdamLateIdeal.Facts] [hAdamLateRefIdeal : Cert.AdamLateRefIdeal.Facts] : Prop :=
  ∀ (m : (ℓ : Loc Cert.AdamLateIdeal.nD Cert.AdamLateIdeal.τ Cert.AdamLateIdeal.sig) → Buf (Elt Ideal) ℓ) (g : Dev Cert.AdamLateIdeal.nD → PrngReg)
    (m' : (ℓ : Loc Cert.AdamLateRefIdeal.nD Cert.AdamLateRefIdeal.τ Cert.AdamLateRefIdeal.sig) → Buf (Elt Ideal) ℓ) (g' : Dev Cert.AdamLateRefIdeal.nD → PrngReg), Pre_AdamLateIdeal m →
    (∀ c : Dev Cert.AdamLateIdeal.nD,
      m' ((c.tc : Thread Cert.AdamLateRefIdeal.nD Cert.AdamLateRefIdeal.τ).loc Cert.AdamLateRefIdeal.main_arg0) = m ((c.tc : Thread Cert.AdamLateIdeal.nD Cert.AdamLateIdeal.τ).loc Cert.AdamLateIdeal.main_arg0)
      ∧ m' ((c.tc : Thread Cert.AdamLateRefIdeal.nD Cert.AdamLateRefIdeal.τ).loc Cert.AdamLateRefIdeal.main_arg1) = m ((c.tc : Thread Cert.AdamLateIdeal.nD Cert.AdamLateIdeal.τ).loc Cert.AdamLateIdeal.main_arg1)
      ∧ m' ((c.tc : Thread Cert.AdamLateRefIdeal.nD Cert.AdamLateRefIdeal.τ).loc Cert.AdamLateRefIdeal.main_arg2) = m ((c.tc : Thread Cert.AdamLateIdeal.nD Cert.AdamLateIdeal.τ).loc Cert.AdamLateIdeal.main_arg2)
      ∧ m' ((c.tc : Thread Cert.AdamLateRefIdeal.nD Cert.AdamLateRefIdeal.τ).loc Cert.AdamLateRefIdeal.main_arg3) = m ((c.tc : Thread Cert.AdamLateIdeal.nD Cert.AdamLateIdeal.τ).loc Cert.AdamLateIdeal.main_arg3)) →
    ∃ (v0 : (c : Dev Cert.AdamLateIdeal.nD) → Buf (Elt Ideal) ((c.tc : Thread Cert.AdamLateIdeal.nD Cert.AdamLateIdeal.τ).loc Cert.AdamLateIdeal.main_v0_0)) (v1 : (c : Dev Cert.AdamLateIdeal.nD) → Buf (Elt Ideal) ((c.tc : Thread Cert.AdamLateIdeal.nD Cert.AdamLateIdeal.τ).loc Cert.AdamLateIdeal.main_v0_1)) (v2 : (c : Dev Cert.AdamLateIdeal.nD) → Buf (Elt Ideal) ((c.tc : Thread Cert.AdamLateIdeal.nD Cert.AdamLateIdeal.τ).loc Cert.AdamLateIdeal.main_v0_2)) (v3 : (c : Dev Cert.AdamLateIdeal.nD) → Buf (Elt Ideal) ((c.tc : Thread Cert.AdamLateIdeal.nD Cert.AdamLateIdeal.τ).loc Cert.AdamLateIdeal.main_v0_3)),
      θ_run (Cert.AdamLateIdeal.defs (F := Ideal)) (onTc (τ := Cert.AdamLateIdeal.τ) (Cert.AdamLateIdeal.main (F := Ideal))) ⟨m, fun _ => 0, g⟩ (fun r => ∀ c : Dev Cert.AdamLateIdeal.nD,
          r.2.mem ((c.tc : Thread Cert.AdamLateIdeal.nD Cert.AdamLateIdeal.τ).loc Cert.AdamLateIdeal.main_v0_0) = v0 c
          ∧ r.2.mem ((c.tc : Thread Cert.AdamLateIdeal.nD Cert.AdamLateIdeal.τ).loc Cert.AdamLateIdeal.main_v0_1) = v1 c
          ∧ r.2.mem ((c.tc : Thread Cert.AdamLateIdeal.nD Cert.AdamLateIdeal.τ).loc Cert.AdamLateIdeal.main_v0_2) = v2 c
          ∧ r.2.mem ((c.tc : Thread Cert.AdamLateIdeal.nD Cert.AdamLateIdeal.τ).loc Cert.AdamLateIdeal.main_v0_3) = v3 c
          ∧ r.2.mem ((c.tc : Thread Cert.AdamLateIdeal.nD Cert.AdamLateIdeal.τ).loc Cert.AdamLateIdeal.main_arg0) = m ((c.tc : Thread Cert.AdamLateIdeal.nD Cert.AdamLateIdeal.τ).loc Cert.AdamLateIdeal.main_arg0)
          ∧ r.2.mem ((c.tc : Thread Cert.AdamLateIdeal.nD Cert.AdamLateIdeal.τ).loc Cert.AdamLateIdeal.main_arg1) = m ((c.tc : Thread Cert.AdamLateIdeal.nD Cert.AdamLateIdeal.τ).loc Cert.AdamLateIdeal.main_arg1)
          ∧ r.2.mem ((c.tc : Thread Cert.AdamLateIdeal.nD Cert.AdamLateIdeal.τ).loc Cert.AdamLateIdeal.main_arg2) = m ((c.tc : Thread Cert.AdamLateIdeal.nD Cert.AdamLateIdeal.τ).loc Cert.AdamLateIdeal.main_arg2)
          ∧ r.2.mem ((c.tc : Thread Cert.AdamLateIdeal.nD Cert.AdamLateIdeal.τ).loc Cert.AdamLateIdeal.main_arg3) = m ((c.tc : Thread Cert.AdamLateIdeal.nD Cert.AdamLateIdeal.τ).loc Cert.AdamLateIdeal.main_arg3))
      ∧ θ_run (Cert.AdamLateRefIdeal.defs (F := Ideal)) (onTc (τ := Cert.AdamLateRefIdeal.τ) (Cert.AdamLateRefIdeal.main (F := Ideal))) ⟨m', fun _ => 0, g'⟩ (fun r => ∀ c : Dev Cert.AdamLateRefIdeal.nD,
          r.2.mem ((c.tc : Thread Cert.AdamLateRefIdeal.nD Cert.AdamLateRefIdeal.τ).loc Cert.AdamLateRefIdeal.main_v0) = v0 c
          ∧ r.2.mem ((c.tc : Thread Cert.AdamLateRefIdeal.nD Cert.AdamLateRefIdeal.τ).loc Cert.AdamLateRefIdeal.main_v24) = v1 c
          ∧ r.2.mem ((c.tc : Thread Cert.AdamLateRefIdeal.nD Cert.AdamLateRefIdeal.τ).loc Cert.AdamLateRefIdeal.main_v5) = v2 c
          ∧ r.2.mem ((c.tc : Thread Cert.AdamLateRefIdeal.nD Cert.AdamLateRefIdeal.τ).loc Cert.AdamLateRefIdeal.main_v11) = v3 c
          ∧ r.2.mem ((c.tc : Thread Cert.AdamLateRefIdeal.nD Cert.AdamLateRefIdeal.τ).loc Cert.AdamLateRefIdeal.main_arg0) = m' ((c.tc : Thread Cert.AdamLateRefIdeal.nD Cert.AdamLateRefIdeal.τ).loc Cert.AdamLateRefIdeal.main_arg0)
          ∧ r.2.mem ((c.tc : Thread Cert.AdamLateRefIdeal.nD Cert.AdamLateRefIdeal.τ).loc Cert.AdamLateRefIdeal.main_arg1) = m' ((c.tc : Thread Cert.AdamLateRefIdeal.nD Cert.AdamLateRefIdeal.τ).loc Cert.AdamLateRefIdeal.main_arg1)
          ∧ r.2.mem ((c.tc : Thread Cert.AdamLateRefIdeal.nD Cert.AdamLateRefIdeal.τ).loc Cert.AdamLateRefIdeal.main_arg2) = m' ((c.tc : Thread Cert.AdamLateRefIdeal.nD Cert.AdamLateRefIdeal.τ).loc Cert.AdamLateRefIdeal.main_arg2)
          ∧ r.2.mem ((c.tc : Thread Cert.AdamLateRefIdeal.nD Cert.AdamLateRefIdeal.τ).loc Cert.AdamLateRefIdeal.main_arg3) = m' ((c.tc : Thread Cert.AdamLateRefIdeal.nD Cert.AdamLateRefIdeal.τ).loc Cert.AdamLateRefIdeal.main_arg3))

def Claim : Prop :=
  ∃ (hOddInBwd : Cert.OddInBwd.Facts) (hOddInBwdIdeal : Cert.OddInBwdIdeal.Facts) (hOddInGradIdeal : Cert.OddInGradIdeal.Facts) (hOddOut : Cert.OddOut.Facts) (hOddOutIdeal : Cert.OddOutIdeal.Facts) (hOddOutGradIdeal : Cert.OddOutGradIdeal.Facts) (hDwOddIn : Cert.DwOddIn.Facts) (hDwOddInIdeal : Cert.DwOddInIdeal.Facts) (hOddInWeightGradIdeal : Cert.OddInWeightGradIdeal.Facts) (hDwSquare : Cert.DwSquare.Facts) (hDwSquareIdeal : Cert.DwSquareIdeal.Facts) (hSquareWeightGradIdeal : Cert.SquareWeightGradIdeal.Facts) (hDwHalf : Cert.DwHalf.Facts) (hDwHalfIdeal : Cert.DwHalfIdeal.Facts) (hHalfWeightGradIdeal : Cert.HalfWeightGradIdeal.Facts) (hDwGlu : Cert.DwGlu.Facts) (hDwGluIdeal : Cert.DwGluIdeal.Facts) (hGluWeightGradIdeal : Cert.GluWeightGradIdeal.Facts) (hEvenInBwd : Cert.EvenInBwd.Facts) (hEvenInBwdIdeal : Cert.EvenInBwdIdeal.Facts) (hEvenInGradIdeal : Cert.EvenInGradIdeal.Facts) (hOddInFwd : Cert.OddInFwd.Facts) (hOddInFwdIdeal : Cert.OddInFwdIdeal.Facts) (hOddInRefIdeal : Cert.OddInRefIdeal.Facts) (hEvenInFwd : Cert.EvenInFwd.Facts) (hEvenInFwdIdeal : Cert.EvenInFwdIdeal.Facts) (hEvenInRefIdeal : Cert.EvenInRefIdeal.Facts) (hEvenMixFwd : Cert.EvenMixFwd.Facts) (hEvenMixFwdIdeal : Cert.EvenMixFwdIdeal.Facts) (hEvenMixRefIdeal : Cert.EvenMixRefIdeal.Facts) (hDwReadRe : Cert.DwReadRe.Facts) (hDwReadReIdeal : Cert.DwReadReIdeal.Facts) (hReadReGradIdeal : Cert.ReadReGradIdeal.Facts) (hDwBbar : Cert.DwBbar.Facts) (hDwBbarIdeal : Cert.DwBbarIdeal.Facts) (hBbarGradIdeal : Cert.BbarGradIdeal.Facts) (hAdamIn : Cert.AdamIn.Facts) (hAdamInIdeal : Cert.AdamInIdeal.Facts) (hAdamInRefIdeal : Cert.AdamInRefIdeal.Facts) (hAdamGlu : Cert.AdamGlu.Facts) (hAdamGluIdeal : Cert.AdamGluIdeal.Facts) (hAdamGluRefIdeal : Cert.AdamGluRefIdeal.Facts) (hAdamOut : Cert.AdamOut.Facts) (hAdamOutIdeal : Cert.AdamOutIdeal.Facts) (hAdamOutRefIdeal : Cert.AdamOutRefIdeal.Facts) (hAdamOddIn : Cert.AdamOddIn.Facts) (hAdamOddInIdeal : Cert.AdamOddInIdeal.Facts) (hAdamOddInRefIdeal : Cert.AdamOddInRefIdeal.Facts) (hAdamSmall : Cert.AdamSmall.Facts) (hAdamSmallIdeal : Cert.AdamSmallIdeal.Facts) (hAdamSmallRefIdeal : Cert.AdamSmallRefIdeal.Facts) (hAdamEarly : Cert.AdamEarly.Facts) (hAdamEarlyIdeal : Cert.AdamEarlyIdeal.Facts) (hAdamEarlyRefIdeal : Cert.AdamEarlyRefIdeal.Facts) (hAdamMid : Cert.AdamMid.Facts) (hAdamMidIdeal : Cert.AdamMidIdeal.Facts) (hAdamMidRefIdeal : Cert.AdamMidRefIdeal.Facts) (hAdamLate : Cert.AdamLate.Facts) (hAdamLateIdeal : Cert.AdamLateIdeal.Facts) (hAdamLateRefIdeal : Cert.AdamLateRefIdeal.Facts),
    quiescent_OddInBwd (hOddInBwd := hOddInBwd)
    ∧ quiescent_OddInBwdIdeal (hOddInBwdIdeal := hOddInBwdIdeal)
    ∧ quiescent_OddInGradIdeal (hOddInGradIdeal := hOddInGradIdeal)
    ∧ quiescent_OddOut (hOddOut := hOddOut)
    ∧ quiescent_OddOutIdeal (hOddOutIdeal := hOddOutIdeal)
    ∧ quiescent_OddOutGradIdeal (hOddOutGradIdeal := hOddOutGradIdeal)
    ∧ quiescent_DwOddIn (hDwOddIn := hDwOddIn)
    ∧ quiescent_DwOddInIdeal (hDwOddInIdeal := hDwOddInIdeal)
    ∧ quiescent_OddInWeightGradIdeal (hOddInWeightGradIdeal := hOddInWeightGradIdeal)
    ∧ quiescent_DwSquare (hDwSquare := hDwSquare)
    ∧ quiescent_DwSquareIdeal (hDwSquareIdeal := hDwSquareIdeal)
    ∧ quiescent_SquareWeightGradIdeal (hSquareWeightGradIdeal := hSquareWeightGradIdeal)
    ∧ quiescent_DwHalf (hDwHalf := hDwHalf)
    ∧ quiescent_DwHalfIdeal (hDwHalfIdeal := hDwHalfIdeal)
    ∧ quiescent_HalfWeightGradIdeal (hHalfWeightGradIdeal := hHalfWeightGradIdeal)
    ∧ quiescent_DwGlu (hDwGlu := hDwGlu)
    ∧ quiescent_DwGluIdeal (hDwGluIdeal := hDwGluIdeal)
    ∧ quiescent_GluWeightGradIdeal (hGluWeightGradIdeal := hGluWeightGradIdeal)
    ∧ quiescent_EvenInBwd (hEvenInBwd := hEvenInBwd)
    ∧ quiescent_EvenInBwdIdeal (hEvenInBwdIdeal := hEvenInBwdIdeal)
    ∧ quiescent_EvenInGradIdeal (hEvenInGradIdeal := hEvenInGradIdeal)
    ∧ quiescent_OddInFwd (hOddInFwd := hOddInFwd)
    ∧ quiescent_OddInFwdIdeal (hOddInFwdIdeal := hOddInFwdIdeal)
    ∧ quiescent_OddInRefIdeal (hOddInRefIdeal := hOddInRefIdeal)
    ∧ quiescent_EvenInFwd (hEvenInFwd := hEvenInFwd)
    ∧ quiescent_EvenInFwdIdeal (hEvenInFwdIdeal := hEvenInFwdIdeal)
    ∧ quiescent_EvenInRefIdeal (hEvenInRefIdeal := hEvenInRefIdeal)
    ∧ quiescent_EvenMixFwd (hEvenMixFwd := hEvenMixFwd)
    ∧ quiescent_EvenMixFwdIdeal (hEvenMixFwdIdeal := hEvenMixFwdIdeal)
    ∧ quiescent_EvenMixRefIdeal (hEvenMixRefIdeal := hEvenMixRefIdeal)
    ∧ quiescent_DwReadRe (hDwReadRe := hDwReadRe)
    ∧ quiescent_DwReadReIdeal (hDwReadReIdeal := hDwReadReIdeal)
    ∧ quiescent_ReadReGradIdeal (hReadReGradIdeal := hReadReGradIdeal)
    ∧ quiescent_DwBbar (hDwBbar := hDwBbar)
    ∧ quiescent_DwBbarIdeal (hDwBbarIdeal := hDwBbarIdeal)
    ∧ quiescent_BbarGradIdeal (hBbarGradIdeal := hBbarGradIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamGlu (hAdamGlu := hAdamGlu)
    ∧ quiescent_AdamGluIdeal (hAdamGluIdeal := hAdamGluIdeal)
    ∧ quiescent_AdamGluRefIdeal (hAdamGluRefIdeal := hAdamGluRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamOddIn (hAdamOddIn := hAdamOddIn)
    ∧ quiescent_AdamOddInIdeal (hAdamOddInIdeal := hAdamOddInIdeal)
    ∧ quiescent_AdamOddInRefIdeal (hAdamOddInRefIdeal := hAdamOddInRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_AdamEarly (hAdamEarly := hAdamEarly)
    ∧ quiescent_AdamEarlyIdeal (hAdamEarlyIdeal := hAdamEarlyIdeal)
    ∧ quiescent_AdamEarlyRefIdeal (hAdamEarlyRefIdeal := hAdamEarlyRefIdeal)
    ∧ quiescent_AdamMid (hAdamMid := hAdamMid)
    ∧ quiescent_AdamMidIdeal (hAdamMidIdeal := hAdamMidIdeal)
    ∧ quiescent_AdamMidRefIdeal (hAdamMidRefIdeal := hAdamMidRefIdeal)
    ∧ quiescent_AdamLate (hAdamLate := hAdamLate)
    ∧ quiescent_AdamLateIdeal (hAdamLateIdeal := hAdamLateIdeal)
    ∧ quiescent_AdamLateRefIdeal (hAdamLateRefIdeal := hAdamLateRefIdeal)
    ∧ preserves_OddInBwd_OddInBwdIdeal
    ∧ algebraic_OddInBwdIdeal_OddInGradIdeal (hOddInBwdIdeal := hOddInBwdIdeal) (hOddInGradIdeal := hOddInGradIdeal)
    ∧ preserves_OddOut_OddOutIdeal
    ∧ algebraic_OddOutIdeal_OddOutGradIdeal (hOddOutIdeal := hOddOutIdeal) (hOddOutGradIdeal := hOddOutGradIdeal)
    ∧ preserves_DwOddIn_DwOddInIdeal
    ∧ algebraic_DwOddInIdeal_OddInWeightGradIdeal (hDwOddInIdeal := hDwOddInIdeal) (hOddInWeightGradIdeal := hOddInWeightGradIdeal)
    ∧ preserves_DwSquare_DwSquareIdeal
    ∧ algebraic_DwSquareIdeal_SquareWeightGradIdeal (hDwSquareIdeal := hDwSquareIdeal) (hSquareWeightGradIdeal := hSquareWeightGradIdeal)
    ∧ preserves_DwHalf_DwHalfIdeal
    ∧ algebraic_DwHalfIdeal_HalfWeightGradIdeal (hDwHalfIdeal := hDwHalfIdeal) (hHalfWeightGradIdeal := hHalfWeightGradIdeal)
    ∧ preserves_DwGlu_DwGluIdeal
    ∧ algebraic_DwGluIdeal_GluWeightGradIdeal (hDwGluIdeal := hDwGluIdeal) (hGluWeightGradIdeal := hGluWeightGradIdeal)
    ∧ preserves_EvenInBwd_EvenInBwdIdeal
    ∧ algebraic_EvenInBwdIdeal_EvenInGradIdeal (hEvenInBwdIdeal := hEvenInBwdIdeal) (hEvenInGradIdeal := hEvenInGradIdeal)
    ∧ preserves_OddInFwd_OddInFwdIdeal
    ∧ algebraic_OddInFwdIdeal_OddInRefIdeal (hOddInFwdIdeal := hOddInFwdIdeal) (hOddInRefIdeal := hOddInRefIdeal)
    ∧ preserves_EvenInFwd_EvenInFwdIdeal
    ∧ algebraic_EvenInFwdIdeal_EvenInRefIdeal (hEvenInFwdIdeal := hEvenInFwdIdeal) (hEvenInRefIdeal := hEvenInRefIdeal)
    ∧ preserves_EvenMixFwd_EvenMixFwdIdeal
    ∧ algebraic_EvenMixFwdIdeal_EvenMixRefIdeal (hEvenMixFwdIdeal := hEvenMixFwdIdeal) (hEvenMixRefIdeal := hEvenMixRefIdeal)
    ∧ preserves_DwReadRe_DwReadReIdeal
    ∧ algebraic_DwReadReIdeal_ReadReGradIdeal (hDwReadReIdeal := hDwReadReIdeal) (hReadReGradIdeal := hReadReGradIdeal)
    ∧ preserves_DwBbar_DwBbarIdeal
    ∧ algebraic_DwBbarIdeal_BbarGradIdeal (hDwBbarIdeal := hDwBbarIdeal) (hBbarGradIdeal := hBbarGradIdeal)
    ∧ preserves_AdamIn_AdamInIdeal
    ∧ algebraic_AdamInIdeal_AdamInRefIdeal (hAdamInIdeal := hAdamInIdeal) (hAdamInRefIdeal := hAdamInRefIdeal)
    ∧ preserves_AdamGlu_AdamGluIdeal
    ∧ algebraic_AdamGluIdeal_AdamGluRefIdeal (hAdamGluIdeal := hAdamGluIdeal) (hAdamGluRefIdeal := hAdamGluRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamOddIn_AdamOddInIdeal
    ∧ algebraic_AdamOddInIdeal_AdamOddInRefIdeal (hAdamOddInIdeal := hAdamOddInIdeal) (hAdamOddInRefIdeal := hAdamOddInRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_AdamEarly_AdamEarlyIdeal
    ∧ algebraic_AdamEarlyIdeal_AdamEarlyRefIdeal (hAdamEarlyIdeal := hAdamEarlyIdeal) (hAdamEarlyRefIdeal := hAdamEarlyRefIdeal)
    ∧ preserves_AdamMid_AdamMidIdeal
    ∧ algebraic_AdamMidIdeal_AdamMidRefIdeal (hAdamMidIdeal := hAdamMidIdeal) (hAdamMidRefIdeal := hAdamMidRefIdeal)
    ∧ preserves_AdamLate_AdamLateIdeal
    ∧ algebraic_AdamLateIdeal_AdamLateRefIdeal (hAdamLateIdeal := hAdamLateIdeal) (hAdamLateRefIdeal := hAdamLateRefIdeal)
-- ==== OddInBwd.lean ====
abbrev S8192x1024 : Shape := ⟨2, ![8192, 1024]⟩
abbrev S1x1024 : Shape := ⟨2, ![1, 1024]⟩
abbrev S1024x3072 : Shape := ⟨2, ![1024, 3072]⟩
abbrev S_ : Shape := ⟨0, ![]⟩
abbrev S8192 : Shape := ⟨1, ![8192]⟩
abbrev S8192x1 : Shape := ⟨2, ![8192, 1]⟩
abbrev S8192x3072 : Shape := ⟨2, ![8192, 3072]⟩
abbrev S256x1024 : Shape := ⟨2, ![256, 1024]⟩
abbrev S256x2048 : Shape := ⟨2, ![256, 2048]⟩
abbrev S256x3072 : Shape := ⟨2, ![256, 3072]⟩
abbrev S256 : Shape := ⟨1, ![256]⟩
abbrev S256x1 : Shape := ⟨2, ![256, 1]⟩
abbrev S1024 : Shape := ⟨1, ![1024]⟩

abbrev nBuf : Space → Nat
  | .hbm => 26
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3072, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x3072, .f32⟩
  | .hbm, ⟨22, _⟩ => ⟨S1024x3072, .bf16⟩
  | .hbm, ⟨23, _⟩ => ⟨S8192x1024, .f32⟩
  | .hbm, ⟨24, _⟩ => ⟨S8192x3072, .bf16⟩
  | .hbm, ⟨25, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x2048, .f32⟩
  | .local _ .vmem, ⟨3, _⟩ => ⟨S256x2048, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S1024x3072, .bf16⟩
  | .local _ .vmem, ⟨12, _⟩ => ⟨S256x1024, .f32⟩
  | .local _ .vmem, ⟨13, _⟩ => ⟨S256x1024, .f32⟩
  | .local _ .vmem, ⟨14, _⟩ => ⟨S256x3072, .bf16⟩
  | .local _ .vmem, ⟨15, _⟩ => ⟨S256x3072, .bf16⟩
  | .local _ .vmem, ⟨16, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev main_v14_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== OddInGradIdeal.lean ====
abbrev S8192x1024 : Shape := ⟨2, ![8192, 1024]⟩
abbrev S1x1024 : Shape := ⟨2, ![1, 1024]⟩
abbrev S1024x3072 : Shape := ⟨2, ![1024, 3072]⟩
abbrev S_ : Shape := ⟨0, ![]⟩
abbrev S8192 : Shape := ⟨1, ![8192]⟩
abbrev S8192x1 : Shape := ⟨2, ![8192, 1]⟩
abbrev S8192x3072 : Shape := ⟨2, ![8192, 3072]⟩
abbrev S1024 : Shape := ⟨1, ![1024]⟩

abbrev nBuf : Space → Nat
  | .hbm => 79
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3072, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x3072, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192x3072, .f32⟩
  | .hbm, ⟨47, _⟩ => ⟨S_, .f32⟩
  | .hbm, ⟨48, _⟩ => ⟨S8192x3072, .f32⟩
  | .hbm, ⟨49, _⟩ => ⟨S8192x3072, .f32⟩
  | .hbm, ⟨50, _⟩ => ⟨S_, .f32⟩
  | .hbm, ⟨51, _⟩ => ⟨S8192x3072, .f32⟩
  | .hbm, ⟨52, _⟩ => ⟨S8192x3072, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S8192x1024, .f32⟩
  | .hbm, ⟨65, _⟩ => ⟨S8192x1024, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S_, .f32⟩
  | .hbm, ⟨71, _⟩ => ⟨S8192, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x3072, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_11 : Ref sig .tc := ⟨.hbm, 67, rfl⟩
abbrev main_v49 : Ref sig .tc := ⟨.hbm, 68, rfl⟩
abbrev main_v50 : Ref sig .tc := ⟨.hbm, 69, rfl⟩
abbrev main_cst_12 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩

abbrev nD : Nat := 1
abbrev τ : Topo := Topo.v7x

variable {F : FTy → Type} [FloatOps F]
-- ==== OddOut.lean ====
abbrev S8192x1024 : Shape := ⟨2, ![8192, 1024]⟩
abbrev S8192x3072 : Shape := ⟨2, ![8192, 3072]⟩
abbrev S1x1024 : Shape := ⟨2, ![1, 1024]⟩
abbrev S1024x1024 : Shape := ⟨2, ![1024, 1024]⟩
abbrev S8x128 : Shape := ⟨2, ![8, 128]⟩
abbrev S256x1024 : Shape := ⟨2, ![256, 1024]⟩
abbrev S256 : Shape := ⟨1, ![256]⟩
abbrev S256x1 : Shape := ⟨2, ![256, 1]⟩
abbrev S1x256 : Shape := ⟨2, ![1, 256]⟩
abbrev S1 : Shape := ⟨1, ![1]⟩
abbrev S1x1 : Shape := ⟨2, ![1, 1]⟩
abbrev S1024 : Shape := ⟨1, ![1024]⟩

abbrev nBuf : Space → Nat
  | .hbm => 19
  | .vmem => 26
  | .smem => 0
  | _ => 0

abbrev bufTy : (tb : Table) → Fin (tcTables nBuf tb) → BufTy
  | .hbm, ⟨0, _⟩ => ⟨S8192x1024, .f32⟩
  | .hbm, ⟨1, _⟩ => ⟨S8192x3072, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1024x1024, .f32⟩
  | .hbm, ⟨8, _⟩ => ⟨S1x1024, .f32⟩
  | .hbm, ⟨9, _⟩ => ⟨S1024x1024, .bf16⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .bf16⟩
  | .hbm, ⟨14, _⟩ => ⟨S8x128, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1024x1024, .bf16⟩
  | .local _ .vmem, ⟨12, _⟩ => ⟨S1x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .bf16⟩
  | .local _ .vmem, ⟨20, _⟩ => ⟨S256x1024, .bf16⟩
  | .local _ .vmem, ⟨21, _⟩ => ⟨S8x128, .f32⟩
  | .local _ .vmem, ⟨22, _⟩ => ⟨S1x1024, .f32⟩
  | .local _ .vmem, ⟨23, _⟩ => ⟨S1x1024, .f32⟩
  | .local _ .vmem, ⟨24, _⟩ => ⟨S1x1024, .f32⟩
  | .local _ .vmem, ⟨25, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v1_4 : Ref sig .tc := ⟨.hbm, 14, rfl⟩
abbrev main_v1_5 : Ref sig .tc := ⟨.hbm, 15, rfl⟩
abbrev main_v1_6 : Ref sig .tc := ⟨.hbm, 16, rfl⟩
abbrev main_v1_7 : Ref sig .tc := ⟨.hbm, 17, rfl⟩
abbrev main_v1_8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== OddOutGradIdeal.lean ====
abbrev S8192x1024 : Shape := ⟨2, ![8192, 1024]⟩
abbrev S8192x3072 : Shape := ⟨2, ![8192, 3072]⟩
abbrev S1x1024 : Shape := ⟨2, ![1, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S8x128 : Shape := ⟨2, ![8, 128]⟩

abbrev nBuf : Space → Nat
  | .hbm => 188
  | .vmem => 0
  | .smem => 0
  | _ => 0

abbrev hbmTy0_0 (i : Nat) : BufTy := match i % 128 with
  | 0 => ⟨S8192x1024, .f32⟩
  | 1 => ⟨S8192x3072, .f32⟩
  | 2 => ⟨S8192x1024, .f32⟩
  | 3 => ⟨S8192x1024, .f32⟩
  | 4 => ⟨S1x1024, .f32⟩
  | 5 => ⟨S1x1024, .f32⟩
  | 6 => ⟨S1x1024, .f32⟩
  | 7 => ⟨S1024x1024, .f32⟩
  | 8 => ⟨S1x1024, .f32⟩
  | 9 => ⟨S8192x1024, .f32⟩
  | 10 => ⟨S8192x1024, .f32⟩
  | 11 => ⟨S8192x1024, .f32⟩
  | 12 => ⟨S_, .f32⟩
  | 13 => ⟨S8192, .f32⟩
  | 14 => ⟨S8192x1, .f32⟩
  | 15 => ⟨S_, .f32⟩
  | 16 => ⟨S8192x1, .f32⟩
  | 17 => ⟨S8192x1, .f32⟩
  | 18 => ⟨S8192x1024, .f32⟩
  | 19 => ⟨S8192x1024, .f32⟩
  | 20 => ⟨S8192x1024, .f32⟩
  | 21 => ⟨S_, .f32⟩
  | 22 => ⟨S8192, .f32⟩
  | 23 => ⟨S8192x1, .f32⟩
  | 24 => ⟨S_, .f32⟩
  | 25 => ⟨S8192x1, .f32⟩
  | 26 => ⟨S8192x1, .f32⟩
  | 27 => ⟨S_, .f32⟩
  | 28 => ⟨S8192x1, .f32⟩
  | 29 => ⟨S8192x1, .f32⟩
  | 30 => ⟨S8192x1, .f32⟩
  | 31 => ⟨S8192x1, .f32⟩
  | 32 => ⟨S_, .f32⟩
  | 33 => ⟨S8192x1, .f32⟩
  | 34 => ⟨S8192x1, .f32⟩
  | 35 => ⟨S8192x1024, .f32⟩
  | 36 => ⟨S8192x1024, .f32⟩
  | 37 => ⟨S8192x1024, .f32⟩
  | 38 => ⟨S8192x1024, .f32⟩
  | 39 => ⟨S8192x1024, .f32⟩
  | 40 => ⟨S8192x1024, .f32⟩
  | 41 => ⟨S8192x1024, .f32⟩
  | 42 => ⟨S8192x1024, .f32⟩
  | 43 => ⟨S_, .f32⟩
  | 44 => ⟨S8192x1024, .f32⟩
  | 45 => ⟨S8192x1024, .f32⟩
  | 46 => ⟨S_, .f32⟩
  | 47 => ⟨S8192x1024, .f32⟩
  | 48 => ⟨S8192x1024, .f32⟩
  | 49 => ⟨S_, .f32⟩
  | 50 => ⟨S8192x1024, .f32⟩
  | 51 => ⟨S8192x1024, .f32⟩
  | 52 => ⟨S8192x1024, .f32⟩
  | 53 => ⟨S8192x1024, .f32⟩
  | 54 => ⟨S8192x1024, .f32⟩
  | 55 => ⟨S8192x1024, .f32⟩
  | 56 => ⟨S_, .f32⟩
  | 57 => ⟨S8192x1024, .f32⟩
  | 58 => ⟨S8192x1024, .f32⟩
  | 59 => ⟨S_, .f32⟩
  | 60 => ⟨S8192x1024, .f32⟩
  | 61 => ⟨S8192x1024, .f32⟩
  | 62 => ⟨S_, .f32⟩
  | 63 => ⟨S8192x1024, .f32⟩
  | 64 => ⟨S8192x1024, .f32⟩
  | 65 => ⟨S8192x1024, .f32⟩
  | 66 => ⟨S8192x1024, .f32⟩
  | 67 => ⟨S8192x1024, .f32⟩
  | 68 => ⟨S8192x1024, .f32⟩
  | 69 => ⟨S8192x1024, .f32⟩
  | 70 => ⟨S8192x1024, .f32⟩
  | 71 => ⟨S_, .f32⟩
  | 72 => ⟨S8192, .f32⟩
  | 73 => ⟨S8192x1, .f32⟩
  | 74 => ⟨S_, .f32⟩
  | 75 => ⟨S8192x1, .f32⟩
  | 76 => ⟨S8192x1, .f32⟩
  | 77 => ⟨S_, .f32⟩
  | 78 => ⟨S8192x1, .f32⟩
  | 79 => ⟨S8192x1, .f32⟩
  | 80 => ⟨S8192x1, .f32⟩
  | 81 => ⟨S8192x1, .f32⟩
  | 82 => ⟨S_, .f32⟩
  | 83 => ⟨S8192x1, .f32⟩
  | 84 => ⟨S8192x1, .f32⟩
  | 85 => ⟨S8192x1024, .f32⟩
  | 86 => ⟨S8192x1024, .f32⟩
  | 87 => ⟨S8192x1024, .f32⟩
  | 88 => ⟨S8192x1024, .f32⟩
  | 89 => ⟨S8192x1024, .f32⟩
  | 90 => ⟨S8192x1024, .f32⟩
  | 91 => ⟨S_, .f32⟩
  | 92 => ⟨S8192x1024, .f32⟩
  | 93 => ⟨S8192x1024, .f32⟩
  | 94 => ⟨S_, .f32⟩
  | 95 => ⟨S8192, .f32⟩
  | 96 => ⟨S_, .f32⟩
  | 97 => ⟨S8192, .f32⟩
  | 98 => ⟨S8192, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S8192, .f32⟩
  | 107 => ⟨S_, .f32⟩
  | 108 => ⟨S8192, .f32⟩
  | 109 => ⟨S8192, .f32⟩
  | 110 => ⟨S8192x1024, .f32⟩
  | 111 => ⟨S8192x1024, .f32⟩
  | 112 => ⟨S8192x1024, .f32⟩
  | 113 => ⟨S_, .f32⟩
  | 114 => ⟨S1024, .f32⟩
  | 115 => ⟨S1x1024, .f32⟩
  | 116 => ⟨S8192x1024, .f32⟩
  | 117 => ⟨S8192x1024, .f32⟩
  | 118 => ⟨S8192x1024, .f32⟩
  | 119 => ⟨S_, .f32⟩
  | 120 => ⟨S8192, .f32⟩
  | 121 => ⟨S8192x1, .f32⟩
  | 122 => ⟨S8192x1024, .f32⟩
  | 123 => ⟨S8192x1024, .f32⟩
  | 124 => ⟨S8192x1, .f32⟩
  | 125 => ⟨S_, .f32⟩
  | 126 => ⟨S8192x1, .f32⟩
  | 127 => ⟨S8192x1, .f32⟩
  | _ => ⟨S8192x1024, .f32⟩

abbrev hbmTy0_1 (i : Nat) : BufTy := match i % 128 with
  | 0 => ⟨S_, .f32⟩
  | 1 => ⟨S8192, .f32⟩
  | 2 => ⟨S8192x1024, .f32⟩
  | 3 => ⟨S8192x1024, .f32⟩
  | 4 => ⟨S8192x1024, .f32⟩
  | 5 => ⟨S8192x1024, .f32⟩
  | 6 => ⟨S8192x1024, .f32⟩
  | 7 => ⟨S8192x1024, .f32⟩
  | 8 => ⟨S8192x1024, .f32⟩
  | 9 => ⟨S8192x1024, .f32⟩
  | 10 => ⟨S8192x1024, .f32⟩
  | 11 => ⟨S8192x1024, .f32⟩
  | 12 => ⟨S8192x1024, .f32⟩
  | 13 => ⟨S8192x1024, .f32⟩
  | 14 => ⟨S8192x1024, .f32⟩
  | 15 => ⟨S8192x1024, .f32⟩
  | 16 => ⟨S8192x1024, .f32⟩
  | 17 => ⟨S8192x1024, .f32⟩
  | 18 => ⟨S_, .f32⟩
  | 19 => ⟨S1024, .f32⟩
  | 20 => ⟨S1x1024, .f32⟩
  | 21 => ⟨S8192x1024, .f32⟩
  | 22 => ⟨S_, .f32⟩
  | 23 => ⟨S1024, .f32⟩
  | 24 => ⟨S1x1024, .f32⟩
  | 25 => ⟨S8192x1024, .f32⟩
  | 26 => ⟨S8192x1024, .f32⟩
  | 27 => ⟨S8192x1024, .f32⟩
  | 28 => ⟨S_, .f32⟩
  | 29 => ⟨S8192, .f32⟩
  | 30 => ⟨S8192x1, .f32⟩
  | 31 => ⟨S8192x1024, .f32⟩
  | 32 => ⟨S8192x1024, .f32⟩
  | 33 => ⟨S8192x1, .f32⟩
  | 34 => ⟨S_, .f32⟩
  | 35 => ⟨S8192x1, .f32⟩
  | 36 => ⟨S8192x1, .f32⟩
  | 37 => ⟨S_, .f32⟩
  | 38 => ⟨S8192, .f32⟩
  | 39 => ⟨S8192x1024, .f32⟩
  | 40 => ⟨S8192x1024, .f32⟩
  | 41 => ⟨S8192x1024, .f32⟩
  | 42 => ⟨S8192x1024, .f32⟩
  | 43 => ⟨S8192x1024, .f32⟩
  | 44 => ⟨S8192x1024, .f32⟩
  | 45 => ⟨S_, .f32⟩
  | 46 => ⟨S8192, .f32⟩
  | 47 => ⟨S8192x1, .f32⟩
  | 48 => ⟨S_, .f32⟩
  | 49 => ⟨S8192x1, .f32⟩
  | 50 => ⟨S8192x1, .f32⟩
  | 51 => ⟨S_, .f32⟩
  | 52 => ⟨S8192, .f32⟩
  | 53 => ⟨S8192x1024, .f32⟩
  | 54 => ⟨S8192x1024, .f32⟩
  | 55 => ⟨S_, .f32⟩
  | 56 => ⟨S1024, .f32⟩
  | 57 => ⟨S1x1024, .f32⟩
  | 58 => ⟨S8192x1024, .bf16⟩
  | 59 => ⟨S8x128, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_v26_2 : Ref sig .tc := ⟨.hbm, 48, rfl⟩
abbrev main_call0_cst_1 : Ref sig .tc := ⟨.hbm, 49, rfl⟩
abbrev main_call0_v6 : Ref sig .tc := ⟨.hbm, 50, rfl⟩
abbrev main_call0_v7 : Ref sig .tc := ⟨.hbm, 51, rfl⟩
abbrev main_v26_1 : Ref sig .tc := ⟨.hbm, 52, rfl⟩
abbrev main_v26_0 : Ref sig .tc := ⟨.hbm, 53, rfl⟩
abbrev main_call1_v0 : Ref sig .tc := ⟨.hbm, 54, rfl⟩
abbrev main_call1_v1 : Ref sig .tc := ⟨.hbm, 55, rfl⟩
abbrev main_call1_cst : Ref sig .tc := ⟨.hbm, 56, rfl⟩
abbrev main_call1_v2 : Ref sig .tc := ⟨.hbm, 57, rfl⟩
abbrev main_call1_v3 : Ref sig .tc := ⟨.hbm, 58, rfl⟩
abbrev main_call1_cst_0 : Ref sig .tc := ⟨.hbm, 59, rfl⟩
abbrev main_call1_v4 : Ref sig .tc := ⟨.hbm, 60, rfl⟩
abbrev main_v27_2 : Ref sig .tc := ⟨.hbm, 61, rfl⟩
abbrev main_call1_cst_1 : Ref sig .tc := ⟨.hbm, 62, rfl⟩
abbrev main_call1_v6 : Ref sig .tc := ⟨.hbm, 63, rfl⟩
abbrev main_call1_v7 : Ref sig .tc := ⟨.hbm, 64, rfl⟩
abbrev main_v27_1 : Ref sig .tc := ⟨.hbm, 65, rfl⟩
abbrev main_v27_0 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_cst_5 : Ref sig .tc := ⟨.hbm, 71, rfl⟩
abbrev main_v32 : Ref sig .tc := ⟨.hbm, 72, rfl⟩
abbrev main_v33 : Ref sig .tc := ⟨.hbm, 73, rfl⟩
abbrev main_cst_6 : Ref sig .tc := ⟨.hbm, 74, rfl⟩
abbrev main_v34 : Ref sig .tc := ⟨.hbm, 75, rfl⟩
abbrev main_v35 : Ref sig .tc := ⟨.hbm, 76, rfl⟩
abbrev main_cst_7 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_cst_8 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_cst_9 : Ref sig .tc := ⟨.hbm, 91, rfl⟩
abbrev main_v48 : Ref sig .tc := ⟨.hbm, 92, rfl⟩
abbrev main_v49 : Ref sig .tc := ⟨.hbm, 93, rfl⟩
abbrev main_cst_10 : Ref sig .tc := ⟨.hbm, 94, rfl⟩
abbrev main_v50 : Ref sig .tc := ⟨.hbm, 95, rfl⟩
abbrev main_cst_11 : Ref sig .tc := ⟨.hbm, 96, rfl⟩
abbrev main_v51 : Ref sig .tc := ⟨.hbm, 97, rfl⟩
abbrev main_v52 : Ref sig .tc := ⟨.hbm, 98, rfl⟩
abbrev main_cst_12 : Ref sig .tc := ⟨.hbm, 99, rfl⟩
abbrev main_v53 : Ref sig .tc := ⟨.hbm, 100, rfl⟩
abbrev main_cst_13 : Ref sig .tc := ⟨.hbm, 101, rfl⟩
abbrev main_v54 : Ref sig .tc := ⟨.hbm, 102, rfl⟩
abbrev main_cst_14 : Ref sig .tc := ⟨.hbm, 103, rfl⟩
abbrev main_cst_15 : Ref sig .tc := ⟨.hbm, 104, rfl⟩
abbrev main_v55 : Ref sig .tc := ⟨.hbm, 105, rfl⟩
abbrev main_v56 : Ref sig .tc := ⟨.hbm, 106, rfl⟩
abbrev main_cst_16 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_cst_17 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_cst_18 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_cst_19 : Ref sig .tc := ⟨.hbm, 125, rfl⟩
abbrev main_v72 : Ref sig .tc := ⟨.hbm, 126, rfl⟩
abbrev main_v73 : Ref sig .tc := ⟨.hbm, 127, rfl⟩
abbrev main_cst_20 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_call2_v0 : Ref sig .tc := ⟨.hbm, 138, rfl⟩
abbrev main_call2_v1 : Ref sig .tc := ⟨.hbm, 139, rfl⟩
abbrev main_call2_v2 : Ref sig .tc := ⟨.hbm, 140, rfl⟩
abbrev main_v83 : Ref sig .tc := ⟨.hbm, 141, rfl⟩
abbrev main_call3_v0 : Ref sig .tc := ⟨.hbm, 142, rfl⟩
abbrev main_call3_v1 : Ref sig .tc := ⟨.hbm, 143, rfl⟩
abbrev main_call3_v2 : Ref sig .tc := ⟨.hbm, 144, rfl⟩
abbrev main_v84 : Ref sig .tc := ⟨.hbm, 145, rfl⟩
abbrev main_cst_21 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_cst_22 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_cst_23 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_cst_24 : Ref sig .tc := ⟨.hbm, 162, rfl⟩
abbrev main_v98 : Ref sig .tc := ⟨.hbm, 163, rfl⟩
abbrev main_v99 : Ref sig .tc := ⟨.hbm, 164, rfl⟩
abbrev main_cst_25 : Ref sig .tc := ⟨.hbm, 165, rfl⟩
abbrev main_v100 : Ref sig .tc := ⟨.hbm, 166, rfl⟩
abbrev main_v101 : Ref sig .tc := ⟨.hbm, 167, rfl⟩
abbrev main_v102 : Ref sig .tc := ⟨.hbm, 168, rfl⟩
abbrev main_v103 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_cst_26 : Ref sig .tc := ⟨.hbm, 173, rfl⟩
abbrev main_v107 : Ref sig .tc := ⟨.hbm, 174, rfl⟩
abbrev main_v108 : Ref sig .tc := ⟨.hbm, 175, rfl⟩
abbrev main_cst_27 : Ref sig .tc := ⟨.hbm, 176, rfl⟩
abbrev main_v109 : Ref sig .tc := ⟨.hbm, 177, rfl⟩
abbrev main_v110 : Ref sig .tc := ⟨.hbm, 178, rfl⟩
abbrev main_cst_28 : Ref sig .tc := ⟨.hbm, 179, rfl⟩
abbrev main_v111 : Ref sig .tc := ⟨.hbm, 180, rfl⟩
abbrev main_v112 : Ref sig .tc := ⟨.hbm, 181, rfl⟩
abbrev main_v113 : Ref sig .tc := ⟨.hbm, 182, rfl⟩
abbrev main_cst_29 : Ref sig .tc := ⟨.hbm, 183, rfl⟩
abbrev main_v114 : Ref sig .tc := ⟨.hbm, 184, rfl⟩
abbrev main_v115 : Ref sig .tc := ⟨.hbm, 185, rfl⟩
abbrev main_v116 : Ref sig .tc := ⟨.hbm, 186, rfl⟩
abbrev main_v117 : Ref sig .tc := ⟨.hbm, 187, rfl⟩

abbrev nD : Nat := 1
abbrev τ : Topo := Topo.v7x

variable {F : FTy → Type} [FloatOps F]
-- ==== DwOddIn.lean ====
abbrev S8192x1024 : Shape := ⟨2, ![8192, 1024]⟩
abbrev S8192x3072 : Shape := ⟨2, ![8192, 3072]⟩
abbrev S1024x3072 : Shape := ⟨2, ![1024, 3072]⟩
abbrev S512x1024 : Shape := ⟨2, ![512, 1024]⟩
abbrev S512x3072 : Shape := ⟨2, ![512, 3072]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S1024x3072, .bf16⟩
  | .local _ .vmem, ⟨0, _⟩ => ⟨S512x1024, .bf16⟩
  | .local _ .vmem, ⟨1, _⟩ => ⟨S512x1024, .bf16⟩
  | .local _ .vmem, ⟨2, _⟩ => ⟨S512x3072, .bf16⟩
  | .local _ .vmem, ⟨3, _⟩ => ⟨S512x3072, .bf16⟩
  | .local _ .vmem, ⟨4, _⟩ => ⟨S1024x3072, .bf16⟩
  | .local _ .vmem, ⟨5, _⟩ => ⟨S1024x3072, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v11 : BitVec 1 := Scalar.cmpi .eq arg0 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== OddInWeightGradIdeal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S8192x1024, .f32⟩
  | .hbm, ⟨3, _⟩ => ⟨S_, .f32⟩
  | .hbm, ⟨4, _⟩ => ⟨S1024x3072, .f32⟩
  | .hbm, ⟨5, _⟩ => ⟨S8192x3072, .f32⟩
  | .hbm, ⟨6, _⟩ => ⟨S8192x3072, .f32⟩
  | .hbm, ⟨7, _⟩ => ⟨S3072x1024, .f32⟩
  | .hbm, ⟨8, _⟩ => ⟨S1024x3072, .f32⟩
  | .hbm, ⟨9, _⟩ => ⟨S1024x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwSquare.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v12 : BitVec 1 := Scalar.cmpi .eq arg0 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== SquareWeightGradIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8192x1024, .f32⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwHalf.lean ====
abbrev S8192x1024 : Shape := ⟨2, ![8192, 1024]⟩
abbrev S8192x512 : Shape := ⟨2, ![8192, 512]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x512, .f32⟩
  | .hbm, ⟨2, _⟩ => ⟨S1024x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .f32⟩
  | .local _ .vmem, ⟨3, _⟩ => ⟨S1024x512, .f32⟩
  | .local _ .vmem, ⟨4, _⟩ => ⟨S1024x512, .bf16⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v12 : BitVec 1 := Scalar.cmpi .eq arg0 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== HalfWeightGradIdeal.lean ====
abbrev S8192x1024 : Shape := ⟨2, ![8192, 1024]⟩
abbrev S8192x512 : Shape := ⟨2, ![8192, 512]⟩
abbrev S_ : Shape := ⟨0, ![]⟩
abbrev S1024x512 : Shape := ⟨2, ![1024, 512]⟩
abbrev S512x1024 : Shape := ⟨2, ![512, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .f32⟩
  | .hbm, ⟨2, _⟩ => ⟨S8192x1024, .f32⟩
  | .hbm, ⟨3, _⟩ => ⟨S_, .f32⟩
  | .hbm, ⟨4, _⟩ => ⟨S1024x512, .f32⟩
  | .hbm, ⟨5, _⟩ => ⟨S8192x512, .f32⟩
  | .hbm, ⟨6, _⟩ => ⟨S512x1024, .f32⟩
  | .hbm, ⟨7, _⟩ => ⟨S1024x512, .f32⟩
  | .hbm, ⟨8, _⟩ => ⟨S1024x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwGlu.lean ====
abbrev S8192x512 : Shape := ⟨2, ![8192, 512]⟩
abbrev S8192x1024 : Shape := ⟨2, ![8192, 1024]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S8192x1024, .bf16⟩
  | .hbm, ⟨2, _⟩ => ⟨S512x1024, .bf16⟩
  | .local _ .vmem, ⟨0, _⟩ => ⟨S1024x512, .f32⟩
  | .local _ .vmem, ⟨1, _⟩ => ⟨S1024x512, .f32⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v12 : BitVec 1 := Scalar.cmpi .eq arg0 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== GluWeightGradIdeal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x1024, .bf16⟩
  | .hbm, ⟨2, _⟩ => ⟨S_, .f32⟩
  | .hbm, ⟨3, _⟩ => ⟨S512x1024, .f32⟩
  | .hbm, ⟨4, _⟩ => ⟨S8192x1024, .f32⟩
  | .hbm, ⟨5, _⟩ => ⟨S8192x1024, .f32⟩
  | .hbm, ⟨6, _⟩ => ⟨S1024x512, .f32⟩
  | .hbm, ⟨7, _⟩ => ⟨S512x1024, .f32⟩
  | .hbm, ⟨8, _⟩ => ⟨S512x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== EvenInBwd.lean ====
abbrev S8192x1024 : Shape := ⟨2, ![8192, 1024]⟩
abbrev S1x1024 : Shape := ⟨2, ![1, 1024]⟩
abbrev S1024x2048 : Shape := ⟨2, ![1024, 2048]⟩
abbrev S8192x512 : Shape := ⟨2, ![8192, 512]⟩
abbrev S1024x8x256 : Shape := ⟨3, ![1024, 8, 256]⟩
abbrev S8x1024x256 : Shape := ⟨3, ![8, 1024, 256]⟩
abbrev S512x1024 : Shape := ⟨2, ![512, 1024]⟩
abbrev S512x512 : Shape := ⟨2, ![512, 512]⟩
abbrev S512x2048 : Shape := ⟨2, ![512, 2048]⟩
abbrev S512x256 : Shape := ⟨2, ![512, 256]⟩
abbrev S1x1024x256 : Shape := ⟨3, ![1, 1024, 256]⟩
abbrev S1024x256 : Shape := ⟨2, ![1024, 256]⟩
abbrev S512 : Shape := ⟨1, ![512]⟩
abbrev S512x1 : Shape := ⟨2, ![512, 1]⟩
abbrev S1024 : Shape := ⟨1, ![1024]⟩

abbrev nBuf : Space → Nat
  | .hbm => 12
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2048, .f32⟩
  | .hbm, ⟨3, _⟩ => ⟨S8192x512, .f32⟩
  | .hbm, ⟨4, _⟩ => ⟨S8192x512, .f32⟩
  | .hbm, ⟨5, _⟩ => ⟨S8192x1024, .f32⟩
  | .hbm, ⟨6, _⟩ => ⟨S8192x1024, .f32⟩
  | .hbm, ⟨7, _⟩ => ⟨S1024x8x256, .f32⟩
  | .hbm, ⟨8, _⟩ => ⟨S8x1024x256, .f32⟩
  | .hbm, ⟨9, _⟩ => ⟨S8x1024x256, .bf16⟩
  | .hbm, ⟨10, _⟩ => ⟨S8192x1024, .f32⟩
  | .hbm, ⟨11, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S8x1024x256, .bf16⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== EvenInGradIdeal.lean ====
abbrev S8192x1024 : Shape := ⟨2, ![8192, 1024]⟩
abbrev S1x1024 : Shape := ⟨2, ![1, 1024]⟩
abbrev S1024x2048 : Shape := ⟨2, ![1024, 2048]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S8192x2048 : Shape := ⟨2, ![8192, 2048]⟩
abbrev S1024 : Shape := ⟨1, ![1024]⟩

abbrev nBuf : Space → Nat
  | .hbm => 63
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2048, .f32⟩
  | .hbm, ⟨3, _⟩ => ⟨S8192x512, .f32⟩
  | .hbm, ⟨4, _⟩ => ⟨S8192x512, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x2048, .f32⟩
  | .hbm, ⟨27, _⟩ => ⟨S8192x512, .f32⟩
  | .hbm, ⟨28, _⟩ => ⟨S8192x512, .f32⟩
  | .hbm, ⟨29, _⟩ => ⟨S8192x1024, .f32⟩
  | .hbm, ⟨30, _⟩ => ⟨S_, .f32⟩
  | .hbm, ⟨31, _⟩ => ⟨S8192x2048, .f32⟩
  | .hbm, ⟨32, _⟩ => ⟨S_, .f32⟩
  | .hbm, ⟨33, _⟩ => ⟨S8192x2048, .f32⟩
  | .hbm, ⟨34, _⟩ => ⟨S8192x2048, .f32⟩
  | .hbm, ⟨35, _⟩ => ⟨S_, .f32⟩
  | .hbm, ⟨36, _⟩ => ⟨S8192x2048, .f32⟩
  | .hbm, ⟨37, _⟩ => ⟨S8192x2048, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192, .f32⟩
  | .hbm, ⟨48, _⟩ => ⟨S8192x1, .f32⟩
  | .hbm, ⟨49, _⟩ => ⟨S8192x1024, .f32⟩
  | .hbm, ⟨50, _⟩ => ⟨S8192x1024, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S_, .f32⟩
  | .hbm, ⟨56, _⟩ => ⟨S8192, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_cst_9 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩

abbrev nD : Nat := 1
abbrev τ : Topo := Topo.v7x

variable {F : FTy → Type} [FloatOps F]
-- ==== OddInFwd.lean ====
abbrev S8192x1024 : Shape := ⟨2, ![8192, 1024]⟩
abbrev S1x1024 : Shape := ⟨2, ![1, 1024]⟩
abbrev S1024x3072 : Shape := ⟨2, ![1024, 3072]⟩
abbrev S8192x3072 : Shape := ⟨2, ![8192, 3072]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3072, .f32⟩
  | .hbm, ⟨3, _⟩ => ⟨S1024x3072, .bf16⟩
  | .hbm, ⟨4, _⟩ => ⟨S8192x3072, .f32⟩
  | .hbm, ⟨5, _⟩ => ⟨S8192x1024, .f32⟩
  | .hbm, ⟨6, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S512x3072, .f32⟩
  | .local _ .vmem, ⟨5, _⟩ => ⟨S512x3072, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OddInRefIdeal.lean ====
abbrev S8192x1024 : Shape := ⟨2, ![8192, 1024]⟩
abbrev S1x1024 : Shape := ⟨2, ![1, 1024]⟩
abbrev S1024x3072 : Shape := ⟨2, ![1024, 3072]⟩
abbrev S_ : Shape := ⟨0, ![]⟩
abbrev S8192 : Shape := ⟨1, ![8192]⟩
abbrev S8192x1 : Shape := ⟨2, ![8192, 1]⟩
abbrev S8192x3072 : Shape := ⟨2, ![8192, 3072]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3072, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x3072, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== EvenInFwd.lean ====
abbrev S8192x1024 : Shape := ⟨2, ![8192, 1024]⟩
abbrev S1x1024 : Shape := ⟨2, ![1, 1024]⟩
abbrev S1024x2048 : Shape := ⟨2, ![1024, 2048]⟩
abbrev S1024x8x256 : Shape := ⟨3, ![1024, 8, 256]⟩
abbrev S8x1024x256 : Shape := ⟨3, ![8, 1024, 256]⟩
abbrev S8192x2048 : Shape := ⟨2, ![8192, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩

abbrev nBuf : Space → Nat
  | .hbm => 8
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2048, .f32⟩
  | .hbm, ⟨3, _⟩ => ⟨S1024x8x256, .f32⟩
  | .hbm, ⟨4, _⟩ => ⟨S8x1024x256, .f32⟩
  | .hbm, ⟨5, _⟩ => ⟨S8x1024x256, .bf16⟩
  | .hbm, ⟨6, _⟩ => ⟨S8192x2048, .f32⟩
  | .hbm, ⟨7, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S8x1024x256, .bf16⟩
  | .local _ .vmem, ⟨4, _⟩ => ⟨S512x2048, .f32⟩
  | .local _ .vmem, ⟨5, _⟩ => ⟨S512x2048, .f32⟩
  | .local _ .vmem, ⟨6, _⟩ => ⟨S512x1024, .bf16⟩
  | .local _ .vmem, ⟨7, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== EvenInRefIdeal.lean ====
abbrev S8192x1024 : Shape := ⟨2, ![8192, 1024]⟩
abbrev S1x1024 : Shape := ⟨2, ![1, 1024]⟩
abbrev S1024x2048 : Shape := ⟨2, ![1024, 2048]⟩
abbrev S_ : Shape := ⟨0, ![]⟩
abbrev S8192 : Shape := ⟨1, ![8192]⟩
abbrev S8192x1 : Shape := ⟨2, ![8192, 1]⟩
abbrev S8192x2048 : Shape := ⟨2, ![8192, 2048]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2048, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x2048, .f32⟩
  | .hbm, ⟨19, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== EvenMixFwd.lean ====
abbrev S8192x512 : Shape := ⟨2, ![8192, 512]⟩
abbrev S8192x2048 : Shape := ⟨2, ![8192, 2048]⟩
abbrev S8192x1024 : Shape := ⟨2, ![8192, 1024]⟩
abbrev S4x128x128 : Shape := ⟨3, ![4, 128, 128]⟩
abbrev S1x512 : Shape := ⟨2, ![1, 512]⟩
abbrev S32x16x64 : Shape := ⟨3, ![32, 16, 64]⟩
abbrev S512x1024 : Shape := ⟨2, ![512, 1024]⟩
abbrev S1024x1024 : Shape := ⟨2, ![1024, 1024]⟩
abbrev S32x64x16 : Shape := ⟨3, ![32, 64, 16]⟩
abbrev S4x8x64x16 : Shape := ⟨4, ![4, 8, 64, 16]⟩
abbrev S8x8 : Shape := ⟨2, ![8, 8]⟩
abbrev S_ : Shape := ⟨0, ![]⟩
abbrev S1x8x1x8x1 : Shape := ⟨5, ![1, 8, 1, 8, 1]⟩
abbrev S4x8x64x1x16 : Shape := ⟨5, ![4, 8, 64, 1, 16]⟩
abbrev S4x8x64x8x16 : Shape := ⟨5, ![4, 8, 64, 8, 16]⟩
abbrev S4x512x128 : Shape := ⟨3, ![4, 512, 128]⟩
abbrev S256x512 : Shape := ⟨2, ![256, 512]⟩
abbrev S256x1024 : Shape := ⟨2, ![256, 1024]⟩
abbrev S256x2048 : Shape := ⟨2, ![256, 2048]⟩
abbrev S256x128 : Shape := ⟨2, ![256, 128]⟩
abbrev S1x128x128 : Shape := ⟨3, ![1, 128, 128]⟩
abbrev S128x128 : Shape := ⟨2, ![128, 128]⟩
abbrev S1x512x128 : Shape := ⟨3, ![1, 512, 128]⟩
abbrev S512x128 : Shape := ⟨2, ![512, 128]⟩
abbrev S1x128 : Shape := ⟨2, ![1, 128]⟩

abbrev nBuf : Space → Nat
  | .hbm => 56
  | .vmem => 29
  | .smem => 0
  | _ => 0

abbrev bufTy : (tb : Table) → Fin (tcTables nBuf tb) → BufTy
  | .hbm, ⟨0, _⟩ => ⟨S8192x512, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x1024, .f32⟩
  | .hbm, ⟨5, _⟩ => ⟨S4x128x128, .f32⟩
  | .hbm, ⟨6, _⟩ => ⟨S1x512, .f32⟩
  | .hbm, ⟨7, _⟩ => ⟨S32x16x64, .f32⟩
  | .hbm, ⟨8, _⟩ => ⟨S32x16x64, .f32⟩
  | .hbm, ⟨9, _⟩ => ⟨S1x512, .f32⟩
  | .hbm, ⟨10, _⟩ => ⟨S512x1024, .f32⟩
  | .hbm, ⟨11, _⟩ => ⟨S1024x1024, .f32⟩
  | .hbm, ⟨12, _⟩ => ⟨S32x64x16, .f32⟩
  | .hbm, ⟨13, _⟩ => ⟨S4x8x64x16, .f32⟩
  | .hbm, ⟨14, _⟩ => ⟨S8x8, .i32⟩
  | .hbm, ⟨15, _⟩ => ⟨S8x8, .i32⟩
  | .hbm, ⟨16, _⟩ => ⟨S_, .i32⟩
  | .hbm, ⟨17, _⟩ => ⟨S8x8, .i32⟩
  | .hbm, ⟨18, _⟩ => ⟨S8x8, .i32⟩
  | .hbm, ⟨19, _⟩ => ⟨S8x8, .i1⟩
  | .hbm, ⟨20, _⟩ => ⟨S1x8x1x8x1, .i1⟩
  | .hbm, ⟨21, _⟩ => ⟨S4x8x64x1x16, .f32⟩
  | .hbm, ⟨22, _⟩ => ⟨S_, .f32⟩
  | .hbm, ⟨23, _⟩ => ⟨S_, .f32⟩
  | .hbm, ⟨24, _⟩ => ⟨S4x8x64x8x16, .i1⟩
  | .hbm, ⟨25, _⟩ => ⟨S4x8x64x8x16, .f32⟩
  | .hbm, ⟨26, _⟩ => ⟨S4x8x64x8x16, .f32⟩
  | .hbm, ⟨27, _⟩ => ⟨S4x8x64x8x16, .f32⟩
  | .hbm, ⟨28, _⟩ => ⟨S4x512x128, .f32⟩
  | .hbm, ⟨29, _⟩ => ⟨S4x512x128, .bf16⟩
  | .hbm, ⟨30, _⟩ => ⟨S32x64x16, .f32⟩
  | .hbm, ⟨31, _⟩ => ⟨S4x8x64x16, .f32⟩
  | .hbm, ⟨32, _⟩ => ⟨S8x8, .i32⟩
  | .hbm, ⟨33, _⟩ => ⟨S8x8, .i32⟩
  | .hbm, ⟨34, _⟩ => ⟨S_, .i32⟩
  | .hbm, ⟨35, _⟩ => ⟨S8x8, .i32⟩
  | .hbm, ⟨36, _⟩ => ⟨S8x8, .i32⟩
  | .hbm, ⟨37, _⟩ => ⟨S8x8, .i1⟩
  | .hbm, ⟨38, _⟩ => ⟨S1x8x1x8x1, .i1⟩
  | .hbm, ⟨39, _⟩ => ⟨S4x8x64x1x16, .f32⟩
  | .hbm, ⟨40, _⟩ => ⟨S_, .f32⟩
  | .hbm, ⟨41, _⟩ => ⟨S_, .f32⟩
  | .hbm, ⟨42, _⟩ => ⟨S4x8x64x8x16, .i1⟩
  | .hbm, ⟨43, _⟩ => ⟨S4x8x64x8x16, .f32⟩
  | .hbm, ⟨44, _⟩ => ⟨S4x8x64x8x16, .f32⟩
  | .hbm, ⟨45, _⟩ => ⟨S4x8x64x8x16, .f32⟩
  | .hbm, ⟨46, _⟩ => ⟨S4x512x128, .f32⟩
  | .hbm, ⟨47, _⟩ => ⟨S4x512x128, .bf16⟩
  | .hbm, ⟨48, _⟩ => ⟨S4x128x128, .bf16⟩
  | .hbm, ⟨49, _⟩ => ⟨S512x1024, .bf16⟩
  | .hbm, ⟨50, _⟩ => ⟨S1024x1024, .bf16⟩
  | .hbm, ⟨51, _⟩ => ⟨S8192x1024, .f32⟩
  | .hbm, ⟨52, _⟩ => ⟨S8192x1024, .bf16⟩
  | .hbm, ⟨53, _⟩ => ⟨S8192x512, .f32⟩
  | .hbm, ⟨54, _⟩ => ⟨S8192x512, .f32⟩
  | .hbm, ⟨55, _⟩ => ⟨S8192x1024, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x1024, .f32⟩
  | .local _ .vmem, ⟨5, _⟩ => ⟨S256x1024, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x1024, .f32⟩
  | .local _ .vmem, ⟨11, _⟩ => ⟨S256x1024, .f32⟩
  | .local _ .vmem, ⟨12, _⟩ => ⟨S4x128x128, .bf16⟩
  | .local _ .vmem, ⟨13, _⟩ => ⟨S1x512, .f32⟩
  | .local _ .vmem, ⟨14, _⟩ => ⟨S4x512x128, .bf16⟩
  | .local _ .vmem, ⟨15, _⟩ => ⟨S4x512x128, .bf16⟩
  | .local _ .vmem, ⟨16, _⟩ => ⟨S1x512, .f32⟩
  | .local _ .vmem, ⟨17, _⟩ => ⟨S512x1024, .bf16⟩
  | .local _ .vmem, ⟨18, _⟩ => ⟨S1024x1024, .bf16⟩
  | .local _ .vmem, ⟨19, _⟩ => ⟨S256x1024, .f32⟩
  | .local _ .vmem, ⟨20, _⟩ => ⟨S256x1024, .f32⟩
  | .local _ .vmem, ⟨21, _⟩ => ⟨S256x1024, .bf16⟩
  | .local _ .vmem, ⟨22, _⟩ => ⟨S256x1024, .bf16⟩
  | .local _ .vmem, ⟨23, _⟩ => ⟨S256x512, .f32⟩
  | .local _ .vmem, ⟨24, _⟩ => ⟨S256x512, .f32⟩
  | .local _ .vmem, ⟨25, _⟩ => ⟨S256x512, .f32⟩
  | .local _ .vmem, ⟨26, _⟩ => ⟨S256x512, .f32⟩
  | .local _ .vmem, ⟨27, _⟩ => ⟨S256x1024, .f32⟩
  | .local _ .vmem, ⟨28, _⟩ => ⟨S256x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c_0 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_1 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27_0 : Ref sig .tc := ⟨.hbm, 51, rfl⟩
abbrev main_v27_1 : Ref sig .tc := ⟨.hbm, 52, rfl⟩
abbrev main_v27_2 : Ref sig .tc := ⟨.hbm, 53, rfl⟩
abbrev main_v27_3 : Ref sig .tc := ⟨.hbm, 54, rfl⟩
abbrev main_v27_4 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x512x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x512x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== EvenMixRefIdeal.lean ====
abbrev S8192x512 : Shape := ⟨2, ![8192, 512]⟩
abbrev S8192x2048 : Shape := ⟨2, ![8192, 2048]⟩
abbrev S8192x1024 : Shape := ⟨2, ![8192, 1024]⟩
abbrev S4x128x128 : Shape := ⟨3, ![4, 128, 128]⟩
abbrev S1x512 : Shape := ⟨2, ![1, 512]⟩
abbrev S32x16x64 : Shape := ⟨3, ![32, 16, 64]⟩
abbrev S512x1024 : Shape := ⟨2, ![512, 1024]⟩
abbrev S1024x1024 : Shape := ⟨2, ![1024, 1024]⟩
abbrev S8192x4x128 : Shape := ⟨3, ![8192, 4, 128]⟩
abbrev S4x128x8192 : Shape := ⟨3, ![4, 128, 8192]⟩
abbrev S8192x32x64 : Shape := ⟨3, ![8192, 32, 64]⟩
abbrev S32x16x8192 : Shape := ⟨3, ![32, 16, 8192]⟩
abbrev S8192x32x16 : Shape := ⟨3, ![8192, 32, 16]⟩
abbrev S_ : Shape := ⟨0, ![]⟩

abbrev nBuf : Space → Nat
  | .hbm => 57
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x1024, .f32⟩
  | .hbm, ⟨5, _⟩ => ⟨S4x128x128, .f32⟩
  | .hbm, ⟨6, _⟩ => ⟨S1x512, .f32⟩
  | .hbm, ⟨7, _⟩ => ⟨S32x16x64, .f32⟩
  | .hbm, ⟨8, _⟩ => ⟨S32x16x64, .f32⟩
  | .hbm, ⟨9, _⟩ => ⟨S1x512, .f32⟩
  | .hbm, ⟨10, _⟩ => ⟨S512x1024, .f32⟩
  | .hbm, ⟨11, _⟩ => ⟨S1024x1024, .f32⟩
  | .hbm, ⟨12, _⟩ => ⟨S8192x512, .f32⟩
  | .hbm, ⟨13, _⟩ => ⟨S8192x1024, .f32⟩
  | .hbm, ⟨14, _⟩ => ⟨S8192x4x128, .f32⟩
  | .hbm, ⟨15, _⟩ => ⟨S4x128x8192, .f32⟩
  | .hbm, ⟨16, _⟩ => ⟨S8192x4x128, .f32⟩
  | .hbm, ⟨17, _⟩ => ⟨S8192x512, .f32⟩
  | .hbm, ⟨18, _⟩ => ⟨S8192x32x64, .f32⟩
  | .hbm, ⟨19, _⟩ => ⟨S8192x32x64, .f32⟩
  | .hbm, ⟨20, _⟩ => ⟨S32x16x8192, .f32⟩
  | .hbm, ⟨21, _⟩ => ⟨S8192x32x16, .f32⟩
  | .hbm, ⟨22, _⟩ => ⟨S32x16x8192, .f32⟩
  | .hbm, ⟨23, _⟩ => ⟨S8192x32x16, .f32⟩
  | .hbm, ⟨24, _⟩ => ⟨S8192x32x16, .f32⟩
  | .hbm, ⟨25, _⟩ => ⟨S8192x512, .f32⟩
  | .hbm, ⟨26, _⟩ => ⟨S8192x512, .f32⟩
  | .hbm, ⟨27, _⟩ => ⟨S8192x512, .f32⟩
  | .hbm, ⟨28, _⟩ => ⟨S8192x512, .f32⟩
  | .hbm, ⟨29, _⟩ => ⟨S8192x1024, .f32⟩
  | .hbm, ⟨30, _⟩ => ⟨S8192x512, .f32⟩
  | .hbm, ⟨31, _⟩ => ⟨S8192x512, .f32⟩
  | .hbm, ⟨32, _⟩ => ⟨S8192x512, .f32⟩
  | .hbm, ⟨33, _⟩ => ⟨S8192x512, .f32⟩
  | .hbm, ⟨34, _⟩ => ⟨S_, .f32⟩
  | .hbm, ⟨35, _⟩ => ⟨S8192x512, .f32⟩
  | .hbm, ⟨36, _⟩ => ⟨S8192x512, .f32⟩
  | .hbm, ⟨37, _⟩ => ⟨S_, .f32⟩
  | .hbm, ⟨38, _⟩ => ⟨S8192x512, .f32⟩
  | .hbm, ⟨39, _⟩ => ⟨S8192x512, .f32⟩
  | .hbm, ⟨40, _⟩ => ⟨S8192x512, .f32⟩
  | .hbm, ⟨41, _⟩ => ⟨S8192x512, .f32⟩
  | .hbm, ⟨42, _⟩ => ⟨S8192x512, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst : Ref sig .tc := ⟨.hbm, 34, rfl⟩
abbrev main_v22 : Ref sig .tc := ⟨.hbm, 35, rfl⟩
abbrev main_v23 : Ref sig .tc := ⟨.hbm, 36, rfl⟩
abbrev main_cst_0 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩

abbrev nD : Nat := 1
abbrev τ : Topo := Topo.v7x

variable {F : FTy → Type} [FloatOps F]
-- ==== DwReadRe.lean ====
abbrev S8192x2048 : Shape := ⟨2, ![8192, 2048]⟩
abbrev S8192x512 : Shape := ⟨2, ![8192, 512]⟩
abbrev S4x512x128 : Shape := ⟨3, ![4, 512, 128]⟩
abbrev S2048x512 : Shape := ⟨2, ![2048, 512]⟩
abbrev S2048x128 : Shape := ⟨2, ![2048, 128]⟩
abbrev S1x512x128 : Shape := ⟨3, ![1, 512, 128]⟩
abbrev S512x128 : Shape := ⟨2, ![512, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S8192x512, .f32⟩
  | .hbm, ⟨2, _⟩ => ⟨S4x512x128, .f32⟩
  | .local _ .vmem, ⟨0, _⟩ => ⟨S2048x512, .f32⟩
  | .local _ .vmem, ⟨1, _⟩ => ⟨S2048x512, .f32⟩
  | .local _ .vmem, ⟨2, _⟩ => ⟨S2048x128, .f32⟩
  | .local _ .vmem, ⟨3, _⟩ => ⟨S2048x128, .f32⟩
  | .local _ .vmem, ⟨4, _⟩ => ⟨S1x512x128, .f32⟩
  | .local _ .vmem, ⟨5, _⟩ => ⟨S1x512x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReadReGradIdeal.lean ====
abbrev S8192x2048 : Shape := ⟨2, ![8192, 2048]⟩
abbrev S8192x512 : Shape := ⟨2, ![8192, 512]⟩
abbrev S_ : Shape := ⟨0, ![]⟩
abbrev S4x512x128 : Shape := ⟨3, ![4, 512, 128]⟩
abbrev S8192x4x512 : Shape := ⟨3, ![8192, 4, 512]⟩
abbrev S4x128x8192 : Shape := ⟨3, ![4, 128, 8192]⟩
abbrev S8192x4x128 : Shape := ⟨3, ![8192, 4, 128]⟩
abbrev S4x128x512 : Shape := ⟨3, ![4, 128, 512]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x512, .f32⟩
  | .hbm, ⟨2, _⟩ => ⟨S_, .f32⟩
  | .hbm, ⟨3, _⟩ => ⟨S4x512x128, .f32⟩
  | .hbm, ⟨4, _⟩ => ⟨S8192x4x512, .f32⟩
  | .hbm, ⟨5, _⟩ => ⟨S4x128x8192, .f32⟩
  | .hbm, ⟨6, _⟩ => ⟨S8192x4x128, .f32⟩
  | .hbm, ⟨7, _⟩ => ⟨S8192x4x128, .f32⟩
  | .hbm, ⟨8, _⟩ => ⟨S4x128x8192, .f32⟩
  | .hbm, ⟨9, _⟩ => ⟨S4x128x512, .f32⟩
  | .hbm, ⟨10, _⟩ => ⟨S4x512x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwBbar.lean ====
abbrev S8192x2048 : Shape := ⟨2, ![8192, 2048]⟩
abbrev S4x512x128 : Shape := ⟨3, ![4, 512, 128]⟩
abbrev S2048x128 : Shape := ⟨2, ![2048, 128]⟩
abbrev S2048x512 : Shape := ⟨2, ![2048, 512]⟩
abbrev S1x512x128 : Shape := ⟨3, ![1, 512, 128]⟩
abbrev S512x128 : Shape := ⟨2, ![512, 128]⟩

abbrev nBuf : Space → Nat
  | .hbm => 5
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S4x512x128, .f32⟩
  | .hbm, ⟨4, _⟩ => ⟨S4x512x128, .f32⟩
  | .local _ .vmem, ⟨0, _⟩ => ⟨S2048x128, .f32⟩
  | .local _ .vmem, ⟨1, _⟩ => ⟨S2048x128, .f32⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S1x512x128, .f32⟩
  | .local _ .vmem, ⟨7, _⟩ => ⟨S1x512x128, .f32⟩
  | .local _ .vmem, ⟨8, _⟩ => ⟨S1x512x128, .f32⟩
  | .local _ .vmem, ⟨9, _⟩ => ⟨S1x512x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== BbarGradIdeal.lean ====
abbrev S8192x2048 : Shape := ⟨2, ![8192, 2048]⟩
abbrev S8192x512 : Shape := ⟨2, ![8192, 512]⟩
abbrev S8192x4x128 : Shape := ⟨3, ![8192, 4, 128]⟩
abbrev S_ : Shape := ⟨0, ![]⟩
abbrev S4x512x128 : Shape := ⟨3, ![4, 512, 128]⟩
abbrev S4x512x8192 : Shape := ⟨3, ![4, 512, 8192]⟩
abbrev S8192x4x512 : Shape := ⟨3, ![8192, 4, 512]⟩

abbrev nBuf : Space → Nat
  | .hbm => 17
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x512, .f32⟩
  | .hbm, ⟨4, _⟩ => ⟨S8192x4x128, .f32⟩
  | .hbm, ⟨5, _⟩ => ⟨S_, .f32⟩
  | .hbm, ⟨6, _⟩ => ⟨S4x512x128, .f32⟩
  | .hbm, ⟨7, _⟩ => ⟨S4x512x8192, .f32⟩
  | .hbm, ⟨8, _⟩ => ⟨S8192x4x512, .f32⟩
  | .hbm, ⟨9, _⟩ => ⟨S8192x4x512, .f32⟩
  | .hbm, ⟨10, _⟩ => ⟨S4x512x8192, .f32⟩
  | .hbm, ⟨11, _⟩ => ⟨S4x512x128, .f32⟩
  | .hbm, ⟨12, _⟩ => ⟨S4x512x8192, .f32⟩
  | .hbm, ⟨13, _⟩ => ⟨S8192x4x512, .f32⟩
  | .hbm, ⟨14, _⟩ => ⟨S8192x4x512, .f32⟩
  | .hbm, ⟨15, _⟩ => ⟨S4x512x8192, .f32⟩
  | .hbm, ⟨16, _⟩ => ⟨S4x512x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== AdamIn.lean ====
abbrev S8x1024x256 : Shape := ⟨3, ![8, 1024, 256]⟩
abbrev S1024x256 : Shape := ⟨2, ![1024, 256]⟩
abbrev S8x128x256 : Shape := ⟨3, ![8, 128, 256]⟩
abbrev S128x256 : Shape := ⟨2, ![128, 256]⟩
abbrev S1x128x256 : Shape := ⟨3, ![1, 128, 256]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x256, .bf16⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .local _ .vmem, ⟨0, _⟩ => ⟨S8x128x256, .bf16⟩
  | .local _ .vmem, ⟨1, _⟩ => ⟨S8x128x256, .bf16⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | .local _ .vmem, ⟨14, _⟩ => ⟨S128x256, .f32⟩
  | .local _ .vmem, ⟨15, _⟩ => ⟨S128x256, .f32⟩
  | _, _ => ⟨S8x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInRefIdeal.lean ====
abbrev S8x1024x256 : Shape := ⟨3, ![8, 1024, 256]⟩
abbrev S1024x256 : Shape := ⟨2, ![1024, 256]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x256, .bf16⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S8x1024x256, .f32⟩
  | .hbm, ⟨5, _⟩ => ⟨S_, .f32⟩
  | .hbm, ⟨6, _⟩ => ⟨S1024x256, .f32⟩
  | .hbm, ⟨7, _⟩ => ⟨S_, .f32⟩
  | .hbm, ⟨8, _⟩ => ⟨S1024x256, .f32⟩
  | .hbm, ⟨9, _⟩ => ⟨S1024x256, .f32⟩
  | .hbm, ⟨10, _⟩ => ⟨S_, .f32⟩
  | .hbm, ⟨11, _⟩ => ⟨S1024x256, .f32⟩
  | .hbm, ⟨12, _⟩ => ⟨S1024x256, .f32⟩
  | .hbm, ⟨13, _⟩ => ⟨S1024x256, .f32⟩
  | .hbm, ⟨14, _⟩ => ⟨S_, .f32⟩
  | .hbm, ⟨15, _⟩ => ⟨S1024x256, .f32⟩
  | .hbm, ⟨16, _⟩ => ⟨S1024x256, .f32⟩
  | .hbm, ⟨17, _⟩ => ⟨S1024x256, .f32⟩
  | .hbm, ⟨18, _⟩ => ⟨S_, .f32⟩
  | .hbm, ⟨19, _⟩ => ⟨S1024x256, .f32⟩
  | .hbm, ⟨20, _⟩ => ⟨S1024x256, .f32⟩
  | .hbm, ⟨21, _⟩ => ⟨S1024x256, .f32⟩
  | .hbm, ⟨22, _⟩ => ⟨S_, .f32⟩
  | .hbm, ⟨23, _⟩ => ⟨S1024x256, .f32⟩
  | .hbm, ⟨24, _⟩ => ⟨S1024x256, .f32⟩
  | .hbm, ⟨25, _⟩ => ⟨S_, .f32⟩
  | .hbm, ⟨26, _⟩ => ⟨S1024x256, .f32⟩
  | .hbm, ⟨27, _⟩ => ⟨S1024x256, .f32⟩
  | .hbm, ⟨28, _⟩ => ⟨S1024x256, .f32⟩
  | .hbm, ⟨29, _⟩ => ⟨S_, .f32⟩
  | .hbm, ⟨30, _⟩ => ⟨S1024x256, .f32⟩
  | .hbm, ⟨31, _⟩ => ⟨S1024x256, .f32⟩
  | .hbm, ⟨32, _⟩ => ⟨S1024x256, .f32⟩
  | .hbm, ⟨33, _⟩ => ⟨S_, .f32⟩
  | .hbm, ⟨34, _⟩ => ⟨S1024x256, .f32⟩
  | .hbm, ⟨35, _⟩ => ⟨S1024x256, .f32⟩
  | .hbm, ⟨36, _⟩ => ⟨S1024x256, .f32⟩
  | .hbm, ⟨37, _⟩ => ⟨S_, .f32⟩
  | .hbm, ⟨38, _⟩ => ⟨S1024x256, .f32⟩
  | .hbm, ⟨39, _⟩ => ⟨S1024x256, .f32⟩
  | _, _ => ⟨S8x1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamGlu.lean ====
abbrev S8x512x128 : Shape := ⟨3, ![8, 512, 128]⟩
abbrev S512x128 : Shape := ⟨2, ![512, 128]⟩
abbrev S8x128x128 : Shape := ⟨3, ![8, 128, 128]⟩
abbrev S128x128 : Shape := ⟨2, ![128, 128]⟩
abbrev S1x128x128 : Shape := ⟨3, ![1, 128, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x512x128, .bf16⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .local _ .vmem, ⟨0, _⟩ => ⟨S8x128x128, .bf16⟩
  | .local _ .vmem, ⟨1, _⟩ => ⟨S8x128x128, .bf16⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | _, _ => ⟨S8x512x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamGluRefIdeal.lean ====
abbrev S8x512x128 : Shape := ⟨3, ![8, 512, 128]⟩
abbrev S512x128 : Shape := ⟨2, ![512, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x512x128, .bf16⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S8x512x128, .f32⟩
  | .hbm, ⟨5, _⟩ => ⟨S_, .f32⟩
  | .hbm, ⟨6, _⟩ => ⟨S512x128, .f32⟩
  | .hbm, ⟨7, _⟩ => ⟨S_, .f32⟩
  | .hbm, ⟨8, _⟩ => ⟨S512x128, .f32⟩
  | .hbm, ⟨9, _⟩ => ⟨S512x128, .f32⟩
  | .hbm, ⟨10, _⟩ => ⟨S_, .f32⟩
  | .hbm, ⟨11, _⟩ => ⟨S512x128, .f32⟩
  | .hbm, ⟨12, _⟩ => ⟨S512x128, .f32⟩
  | .hbm, ⟨13, _⟩ => ⟨S512x128, .f32⟩
  | .hbm, ⟨14, _⟩ => ⟨S_, .f32⟩
  | .hbm, ⟨15, _⟩ => ⟨S512x128, .f32⟩
  | .hbm, ⟨16, _⟩ => ⟨S512x128, .f32⟩
  | .hbm, ⟨17, _⟩ => ⟨S512x128, .f32⟩
  | .hbm, ⟨18, _⟩ => ⟨S_, .f32⟩
  | .hbm, ⟨19, _⟩ => ⟨S512x128, .f32⟩
  | .hbm, ⟨20, _⟩ => ⟨S512x128, .f32⟩
  | .hbm, ⟨21, _⟩ => ⟨S512x128, .f32⟩
  | .hbm, ⟨22, _⟩ => ⟨S_, .f32⟩
  | .hbm, ⟨23, _⟩ => ⟨S512x128, .f32⟩
  | .hbm, ⟨24, _⟩ => ⟨S512x128, .f32⟩
  | .hbm, ⟨25, _⟩ => ⟨S_, .f32⟩
  | .hbm, ⟨26, _⟩ => ⟨S512x128, .f32⟩
  | .hbm, ⟨27, _⟩ => ⟨S512x128, .f32⟩
  | .hbm, ⟨28, _⟩ => ⟨S512x128, .f32⟩
  | .hbm, ⟨29, _⟩ => ⟨S_, .f32⟩
  | .hbm, ⟨30, _⟩ => ⟨S512x128, .f32⟩
  | .hbm, ⟨31, _⟩ => ⟨S512x128, .f32⟩
  | .hbm, ⟨32, _⟩ => ⟨S512x128, .f32⟩
  | .hbm, ⟨33, _⟩ => ⟨S_, .f32⟩
  | .hbm, ⟨34, _⟩ => ⟨S512x128, .f32⟩
  | .hbm, ⟨35, _⟩ => ⟨S512x128, .f32⟩
  | .hbm, ⟨36, _⟩ => ⟨S512x128, .f32⟩
  | .hbm, ⟨37, _⟩ => ⟨S_, .f32⟩
  | .hbm, ⟨38, _⟩ => ⟨S512x128, .f32⟩
  | .hbm, ⟨39, _⟩ => ⟨S512x128, .f32⟩
  | _, _ => ⟨S8x512x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamOut.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamOutRefIdeal.lean ====
abbrev S8x128x1024 : Shape := ⟨3, ![8, 128, 1024]⟩
abbrev S128x1024 : Shape := ⟨2, ![128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamOddIn.lean ====
abbrev S8x1024x384 : Shape := ⟨3, ![8, 1024, 384]⟩
abbrev S1024x384 : Shape := ⟨2, ![1024, 384]⟩
abbrev S8x128x384 : Shape := ⟨3, ![8, 128, 384]⟩
abbrev S128x384 : Shape := ⟨2, ![128, 384]⟩
abbrev S1x128x384 : Shape := ⟨3, ![1, 128, 384]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x384, .bf16⟩
  | .hbm, ⟨1, _⟩ => ⟨S1024x384, .f32⟩
  | .hbm, ⟨2, _⟩ => ⟨S1024x384, .f32⟩
  | .hbm, ⟨3, _⟩ => ⟨S1024x384, .f32⟩
  | .hbm, ⟨4, _⟩ => ⟨S1024x384, .f32⟩
  | .hbm, ⟨5, _⟩ => ⟨S1024x384, .f32⟩
  | .hbm, ⟨6, _⟩ => ⟨S1024x384, .f32⟩
  | .hbm, ⟨7, _⟩ => ⟨S1024x384, .f32⟩
  | .local _ .vmem, ⟨0, _⟩ => ⟨S8x128x384, .bf16⟩
  | .local _ .vmem, ⟨1, _⟩ => ⟨S8x128x384, .bf16⟩
  | .local _ .vmem, ⟨2, _⟩ => ⟨S128x384, .f32⟩
  | .local _ .vmem, ⟨3, _⟩ => ⟨S128x384, .f32⟩
  | .local _ .vmem, ⟨4, _⟩ => ⟨S128x384, .f32⟩
  | .local _ .vmem, ⟨5, _⟩ => ⟨S128x384, .f32⟩
  | .local _ .vmem, ⟨6, _⟩ => ⟨S128x384, .f32⟩
  | .local _ .vmem, ⟨7, _⟩ => ⟨S128x384, .f32⟩
  | .local _ .vmem, ⟨8, _⟩ => ⟨S128x384, .f32⟩
  | .local _ .vmem, ⟨9, _⟩ => ⟨S128x384, .f32⟩
  | .local _ .vmem, ⟨10, _⟩ => ⟨S128x384, .f32⟩
  | .local _ .vmem, ⟨11, _⟩ => ⟨S128x384, .f32⟩
  | .local _ .vmem, ⟨12, _⟩ => ⟨S128x384, .f32⟩
  | .local _ .vmem, ⟨13, _⟩ => ⟨S128x384, .f32⟩
  | .local _ .vmem, ⟨14, _⟩ => ⟨S128x384, .f32⟩
  | .local _ .vmem, ⟨15, _⟩ => ⟨S128x384, .f32⟩
  | _, _ => ⟨S8x1024x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOddInRefIdeal.lean ====
abbrev S8x1024x384 : Shape := ⟨3, ![8, 1024, 384]⟩
abbrev S1024x384 : Shape := ⟨2, ![1024, 384]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x384, .bf16⟩
  | .hbm, ⟨1, _⟩ => ⟨S1024x384, .f32⟩
  | .hbm, ⟨2, _⟩ => ⟨S1024x384, .f32⟩
  | .hbm, ⟨3, _⟩ => ⟨S1024x384, .f32⟩
  | .hbm, ⟨4, _⟩ => ⟨S8x1024x384, .f32⟩
  | .hbm, ⟨5, _⟩ => ⟨S_, .f32⟩
  | .hbm, ⟨6, _⟩ => ⟨S1024x384, .f32⟩
  | .hbm, ⟨7, _⟩ => ⟨S_, .f32⟩
  | .hbm, ⟨8, _⟩ => ⟨S1024x384, .f32⟩
  | .hbm, ⟨9, _⟩ => ⟨S1024x384, .f32⟩
  | .hbm, ⟨10, _⟩ => ⟨S_, .f32⟩
  | .hbm, ⟨11, _⟩ => ⟨S1024x384, .f32⟩
  | .hbm, ⟨12, _⟩ => ⟨S1024x384, .f32⟩
  | .hbm, ⟨13, _⟩ => ⟨S1024x384, .f32⟩
  | .hbm, ⟨14, _⟩ => ⟨S_, .f32⟩
  | .hbm, ⟨15, _⟩ => ⟨S1024x384, .f32⟩
  | .hbm, ⟨16, _⟩ => ⟨S1024x384, .f32⟩
  | .hbm, ⟨17, _⟩ => ⟨S1024x384, .f32⟩
  | .hbm, ⟨18, _⟩ => ⟨S_, .f32⟩
  | .hbm, ⟨19, _⟩ => ⟨S1024x384, .f32⟩
  | .hbm, ⟨20, _⟩ => ⟨S1024x384, .f32⟩
  | .hbm, ⟨21, _⟩ => ⟨S1024x384, .f32⟩
  | .hbm, ⟨22, _⟩ => ⟨S_, .f32⟩
  | .hbm, ⟨23, _⟩ => ⟨S1024x384, .f32⟩
  | .hbm, ⟨24, _⟩ => ⟨S1024x384, .f32⟩
  | .hbm, ⟨25, _⟩ => ⟨S_, .f32⟩
  | .hbm, ⟨26, _⟩ => ⟨S1024x384, .f32⟩
  | .hbm, ⟨27, _⟩ => ⟨S1024x384, .f32⟩
  | .hbm, ⟨28, _⟩ => ⟨S1024x384, .f32⟩
  | .hbm, ⟨29, _⟩ => ⟨S_, .f32⟩
  | .hbm, ⟨30, _⟩ => ⟨S1024x384, .f32⟩
  | .hbm, ⟨31, _⟩ => ⟨S1024x384, .f32⟩
  | .hbm, ⟨32, _⟩ => ⟨S1024x384, .f32⟩
  | .hbm, ⟨33, _⟩ => ⟨S_, .f32⟩
  | .hbm, ⟨34, _⟩ => ⟨S1024x384, .f32⟩
  | .hbm, ⟨35, _⟩ => ⟨S1024x384, .f32⟩
  | .hbm, ⟨36, _⟩ => ⟨S1024x384, .f32⟩
  | .hbm, ⟨37, _⟩ => ⟨S_, .f32⟩
  | .hbm, ⟨38, _⟩ => ⟨S1024x384, .f32⟩
  | .hbm, ⟨39, _⟩ => ⟨S1024x384, .f32⟩
  | _, _ => ⟨S8x1024x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamSmall.lean ====
abbrev S8x64x128 : Shape := ⟨3, ![8, 64, 128]⟩
abbrev S64x128 : Shape := ⟨2, ![64, 128]⟩
abbrev S1x64x128 : Shape := ⟨3, ![1, 64, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x64x128, .f32⟩
  | .hbm, ⟨1, _⟩ => ⟨S64x128, .f32⟩
  | .hbm, ⟨2, _⟩ => ⟨S64x128, .f32⟩
  | .hbm, ⟨3, _⟩ => ⟨S64x128, .f32⟩
  | .hbm, ⟨4, _⟩ => ⟨S64x128, .f32⟩
  | .hbm, ⟨5, _⟩ => ⟨S64x128, .f32⟩
  | .hbm, ⟨6, _⟩ => ⟨S64x128, .f32⟩
  | .hbm, ⟨7, _⟩ => ⟨S64x128, .f32⟩
  | .local _ .vmem, ⟨0, _⟩ => ⟨S8x64x128, .f32⟩
  | .local _ .vmem, ⟨1, _⟩ => ⟨S64x128, .f32⟩
  | .local _ .vmem, ⟨2, _⟩ => ⟨S64x128, .f32⟩
  | .local _ .vmem, ⟨3, _⟩ => ⟨S64x128, .f32⟩
  | .local _ .vmem, ⟨4, _⟩ => ⟨S64x128, .f32⟩
  | .local _ .vmem, ⟨5, _⟩ => ⟨S64x128, .f32⟩
  | .local _ .vmem, ⟨6, _⟩ => ⟨S64x128, .f32⟩
  | .local _ .vmem, ⟨7, _⟩ => ⟨S64x128, .f32⟩
  | _, _ => ⟨S8x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamSmallRefIdeal.lean ====
abbrev S8x64x128 : Shape := ⟨3, ![8, 64, 128]⟩
abbrev S64x128 : Shape := ⟨2, ![64, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x64x128, .f32⟩
  | .hbm, ⟨1, _⟩ => ⟨S64x128, .f32⟩
  | .hbm, ⟨2, _⟩ => ⟨S64x128, .f32⟩
  | .hbm, ⟨3, _⟩ => ⟨S64x128, .f32⟩
  | .hbm, ⟨4, _⟩ => ⟨S_, .f32⟩
  | .hbm, ⟨5, _⟩ => ⟨S64x128, .f32⟩
  | .hbm, ⟨6, _⟩ => ⟨S_, .f32⟩
  | .hbm, ⟨7, _⟩ => ⟨S64x128, .f32⟩
  | .hbm, ⟨8, _⟩ => ⟨S64x128, .f32⟩
  | .hbm, ⟨9, _⟩ => ⟨S_, .f32⟩
  | .hbm, ⟨10, _⟩ => ⟨S64x128, .f32⟩
  | .hbm, ⟨11, _⟩ => ⟨S64x128, .f32⟩
  | .hbm, ⟨12, _⟩ => ⟨S64x128, .f32⟩
  | .hbm, ⟨13, _⟩ => ⟨S_, .f32⟩
  | .hbm, ⟨14, _⟩ => ⟨S64x128, .f32⟩
  | .hbm, ⟨15, _⟩ => ⟨S64x128, .f32⟩
  | .hbm, ⟨16, _⟩ => ⟨S64x128, .f32⟩
  | .hbm, ⟨17, _⟩ => ⟨S_, .f32⟩
  | .hbm, ⟨18, _⟩ => ⟨S64x128, .f32⟩
  | .hbm, ⟨19, _⟩ => ⟨S64x128, .f32⟩
  | .hbm, ⟨20, _⟩ => ⟨S64x128, .f32⟩
  | .hbm, ⟨21, _⟩ => ⟨S_, .f32⟩
  | .hbm, ⟨22, _⟩ => ⟨S64x128, .f32⟩
  | .hbm, ⟨23, _⟩ => ⟨S64x128, .f32⟩
  | .hbm, ⟨24, _⟩ => ⟨S_, .f32⟩
  | .hbm, ⟨25, _⟩ => ⟨S64x128, .f32⟩
  | .hbm, ⟨26, _⟩ => ⟨S64x128, .f32⟩
  | .hbm, ⟨27, _⟩ => ⟨S64x128, .f32⟩
  | .hbm, ⟨28, _⟩ => ⟨S_, .f32⟩
  | .hbm, ⟨29, _⟩ => ⟨S64x128, .f32⟩
  | .hbm, ⟨30, _⟩ => ⟨S64x128, .f32⟩
  | .hbm, ⟨31, _⟩ => ⟨S64x128, .f32⟩
  | .hbm, ⟨32, _⟩ => ⟨S_, .f32⟩
  | .hbm, ⟨33, _⟩ => ⟨S64x128, .f32⟩
  | .hbm, ⟨34, _⟩ => ⟨S64x128, .f32⟩
  | .hbm, ⟨35, _⟩ => ⟨S64x128, .f32⟩
  | .hbm, ⟨36, _⟩ => ⟨S_, .f32⟩
  | .hbm, ⟨37, _⟩ => ⟨S64x128, .f32⟩
  | .hbm, ⟨38, _⟩ => ⟨S64x128, .f32⟩
  | _, _ => ⟨S8x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamEarly.lean ====
abbrev S8x1056x128 : Shape := ⟨3, ![8, 1056, 128]⟩
abbrev S1056x128 : Shape := ⟨2, ![1056, 128]⟩
abbrev S1x1056x128 : Shape := ⟨3, ![1, 1056, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x1056x128, .f32⟩
  | .hbm, ⟨1, _⟩ => ⟨S1056x128, .f32⟩
  | .hbm, ⟨2, _⟩ => ⟨S1056x128, .f32⟩
  | .hbm, ⟨3, _⟩ => ⟨S1056x128, .f32⟩
  | .hbm, ⟨4, _⟩ => ⟨S1056x128, .f32⟩
  | .hbm, ⟨5, _⟩ => ⟨S1056x128, .f32⟩
  | .hbm, ⟨6, _⟩ => ⟨S1056x128, .f32⟩
  | .hbm, ⟨7, _⟩ => ⟨S1056x128, .f32⟩
  | .local _ .vmem, ⟨0, _⟩ => ⟨S8x1056x128, .f32⟩
  | .local _ .vmem, ⟨1, _⟩ => ⟨S1056x128, .f32⟩
  | .local _ .vmem, ⟨2, _⟩ => ⟨S1056x128, .f32⟩
  | .local _ .vmem, ⟨3, _⟩ => ⟨S1056x128, .f32⟩
  | .local _ .vmem, ⟨4, _⟩ => ⟨S1056x128, .f32⟩
  | .local _ .vmem, ⟨5, _⟩ => ⟨S1056x128, .f32⟩
  | .local _ .vmem, ⟨6, _⟩ => ⟨S1056x128, .f32⟩
  | .local _ .vmem, ⟨7, _⟩ => ⟨S1056x128, .f32⟩
  | _, _ => ⟨S8x1056x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1056x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1056x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1056x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1056x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1056x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1056x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1056x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1056x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamEarlyRefIdeal.lean ====
abbrev S8x1056x128 : Shape := ⟨3, ![8, 1056, 128]⟩
abbrev S1056x128 : Shape := ⟨2, ![1056, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x1056x128, .f32⟩
  | .hbm, ⟨1, _⟩ => ⟨S1056x128, .f32⟩
  | .hbm, ⟨2, _⟩ => ⟨S1056x128, .f32⟩
  | .hbm, ⟨3, _⟩ => ⟨S1056x128, .f32⟩
  | .hbm, ⟨4, _⟩ => ⟨S_, .f32⟩
  | .hbm, ⟨5, _⟩ => ⟨S1056x128, .f32⟩
  | .hbm, ⟨6, _⟩ => ⟨S_, .f32⟩
  | .hbm, ⟨7, _⟩ => ⟨S1056x128, .f32⟩
  | .hbm, ⟨8, _⟩ => ⟨S1056x128, .f32⟩
  | .hbm, ⟨9, _⟩ => ⟨S_, .f32⟩
  | .hbm, ⟨10, _⟩ => ⟨S1056x128, .f32⟩
  | .hbm, ⟨11, _⟩ => ⟨S1056x128, .f32⟩
  | .hbm, ⟨12, _⟩ => ⟨S1056x128, .f32⟩
  | .hbm, ⟨13, _⟩ => ⟨S_, .f32⟩
  | .hbm, ⟨14, _⟩ => ⟨S1056x128, .f32⟩
  | .hbm, ⟨15, _⟩ => ⟨S1056x128, .f32⟩
  | .hbm, ⟨16, _⟩ => ⟨S1056x128, .f32⟩
  | .hbm, ⟨17, _⟩ => ⟨S_, .f32⟩
  | .hbm, ⟨18, _⟩ => ⟨S1056x128, .f32⟩
  | .hbm, ⟨19, _⟩ => ⟨S1056x128, .f32⟩
  | .hbm, ⟨20, _⟩ => ⟨S1056x128, .f32⟩
  | .hbm, ⟨21, _⟩ => ⟨S_, .f32⟩
  | .hbm, ⟨22, _⟩ => ⟨S1056x128, .f32⟩
  | .hbm, ⟨23, _⟩ => ⟨S1056x128, .f32⟩
  | .hbm, ⟨24, _⟩ => ⟨S_, .f32⟩
  | .hbm, ⟨25, _⟩ => ⟨S1056x128, .f32⟩
  | .hbm, ⟨26, _⟩ => ⟨S1056x128, .f32⟩
  | .hbm, ⟨27, _⟩ => ⟨S1056x128, .f32⟩
  | .hbm, ⟨28, _⟩ => ⟨S_, .f32⟩
  | .hbm, ⟨29, _⟩ => ⟨S1056x128, .f32⟩
  | .hbm, ⟨30, _⟩ => ⟨S1056x128, .f32⟩
  | .hbm, ⟨31, _⟩ => ⟨S1056x128, .f32⟩
  | .hbm, ⟨32, _⟩ => ⟨S_, .f32⟩
  | .hbm, ⟨33, _⟩ => ⟨S1056x128, .f32⟩
  | .hbm, ⟨34, _⟩ => ⟨S1056x128, .f32⟩
  | .hbm, ⟨35, _⟩ => ⟨S1056x128, .f32⟩
  | .hbm, ⟨36, _⟩ => ⟨S_, .f32⟩
  | .hbm, ⟨37, _⟩ => ⟨S1056x128, .f32⟩
  | .hbm, ⟨38, _⟩ => ⟨S1056x128, .f32⟩
  | _, _ => ⟨S8x1056x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamMid.lean ====
abbrev S8x8x128 : Shape := ⟨3, ![8, 8, 128]⟩
abbrev S8x128 : Shape := ⟨2, ![8, 128]⟩
abbrev S1x8x128 : Shape := ⟨3, ![1, 8, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x8x128, .f32⟩
  | .hbm, ⟨1, _⟩ => ⟨S8x128, .f32⟩
  | .hbm, ⟨2, _⟩ => ⟨S8x128, .f32⟩
  | .hbm, ⟨3, _⟩ => ⟨S8x128, .f32⟩
  | .hbm, ⟨4, _⟩ => ⟨S8x128, .f32⟩
  | .hbm, ⟨5, _⟩ => ⟨S8x128, .f32⟩
  | .hbm, ⟨6, _⟩ => ⟨S8x128, .f32⟩
  | .hbm, ⟨7, _⟩ => ⟨S8x128, .f32⟩
  | .local _ .vmem, ⟨0, _⟩ => ⟨S8x8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | _, _ => ⟨S8x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamMidRefIdeal.lean ====
abbrev S8x8x128 : Shape := ⟨3, ![8, 8, 128]⟩
abbrev S8x128 : Shape := ⟨2, ![8, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x8x128, .f32⟩
  | .hbm, ⟨1, _⟩ => ⟨S8x128, .f32⟩
  | .hbm, ⟨2, _⟩ => ⟨S8x128, .f32⟩
  | .hbm, ⟨3, _⟩ => ⟨S8x128, .f32⟩
  | .hbm, ⟨4, _⟩ => ⟨S_, .f32⟩
  | .hbm, ⟨5, _⟩ => ⟨S8x128, .f32⟩
  | .hbm, ⟨6, _⟩ => ⟨S_, .f32⟩
  | .hbm, ⟨7, _⟩ => ⟨S8x128, .f32⟩
  | .hbm, ⟨8, _⟩ => ⟨S8x128, .f32⟩
  | .hbm, ⟨9, _⟩ => ⟨S_, .f32⟩
  | .hbm, ⟨10, _⟩ => ⟨S8x128, .f32⟩
  | .hbm, ⟨11, _⟩ => ⟨S8x128, .f32⟩
  | .hbm, ⟨12, _⟩ => ⟨S8x128, .f32⟩
  | .hbm, ⟨13, _⟩ => ⟨S_, .f32⟩
  | .hbm, ⟨14, _⟩ => ⟨S8x128, .f32⟩
  | .hbm, ⟨15, _⟩ => ⟨S8x128, .f32⟩
  | .hbm, ⟨16, _⟩ => ⟨S8x128, .f32⟩
  | .hbm, ⟨17, _⟩ => ⟨S_, .f32⟩
  | .hbm, ⟨18, _⟩ => ⟨S8x128, .f32⟩
  | .hbm, ⟨19, _⟩ => ⟨S8x128, .f32⟩
  | .hbm, ⟨20, _⟩ => ⟨S8x128, .f32⟩
  | .hbm, ⟨21, _⟩ => ⟨S_, .f32⟩
  | .hbm, ⟨22, _⟩ => ⟨S8x128, .f32⟩
  | .hbm, ⟨23, _⟩ => ⟨S8x128, .f32⟩
  | .hbm, ⟨24, _⟩ => ⟨S_, .f32⟩
  | .hbm, ⟨25, _⟩ => ⟨S8x128, .f32⟩
  | .hbm, ⟨26, _⟩ => ⟨S8x128, .f32⟩
  | .hbm, ⟨27, _⟩ => ⟨S8x128, .f32⟩
  | .hbm, ⟨28, _⟩ => ⟨S_, .f32⟩
  | .hbm, ⟨29, _⟩ => ⟨S8x128, .f32⟩
  | .hbm, ⟨30, _⟩ => ⟨S8x128, .f32⟩
  | .hbm, ⟨31, _⟩ => ⟨S8x128, .f32⟩
  | .hbm, ⟨32, _⟩ => ⟨S_, .f32⟩
  | .hbm, ⟨33, _⟩ => ⟨S8x128, .f32⟩
  | .hbm, ⟨34, _⟩ => ⟨S8x128, .f32⟩
  | .hbm, ⟨35, _⟩ => ⟨S8x128, .f32⟩
  | .hbm, ⟨36, _⟩ => ⟨S_, .f32⟩
  | .hbm, ⟨37, _⟩ => ⟨S8x128, .f32⟩
  | .hbm, ⟨38, _⟩ => ⟨S8x128, .f32⟩
  | _, _ => ⟨S8x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamLate.lean ====
abbrev S8x552x128 : Shape := ⟨3, ![8, 552, 128]⟩
abbrev S552x128 : Shape := ⟨2, ![552, 128]⟩
abbrev S1x552x128 : Shape := ⟨3, ![1, 552, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x552x128, .f32⟩
  | .hbm, ⟨1, _⟩ => ⟨S552x128, .f32⟩
  | .hbm, ⟨2, _⟩ => ⟨S552x128, .f32⟩
  | .hbm, ⟨3, _⟩ => ⟨S552x128, .f32⟩
  | .hbm, ⟨4, _⟩ => ⟨S552x128, .f32⟩
  | .hbm, ⟨5, _⟩ => ⟨S552x128, .f32⟩
  | .hbm, ⟨6, _⟩ => ⟨S552x128, .f32⟩
  | .hbm, ⟨7, _⟩ => ⟨S552x128, .f32⟩
  | .local _ .vmem, ⟨0, _⟩ => ⟨S8x552x128, .f32⟩
  | .local _ .vmem, ⟨1, _⟩ => ⟨S552x128, .f32⟩
  | .local _ .vmem, ⟨2, _⟩ => ⟨S552x128, .f32⟩
  | .local _ .vmem, ⟨3, _⟩ => ⟨S552x128, .f32⟩
  | .local _ .vmem, ⟨4, _⟩ => ⟨S552x128, .f32⟩
  | .local _ .vmem, ⟨5, _⟩ => ⟨S552x128, .f32⟩
  | .local _ .vmem, ⟨6, _⟩ => ⟨S552x128, .f32⟩
  | .local _ .vmem, ⟨7, _⟩ => ⟨S552x128, .f32⟩
  | _, _ => ⟨S8x552x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x552x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S552x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S552x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S552x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S552x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S552x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S552x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S552x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamLateRefIdeal.lean ====
abbrev S8x552x128 : Shape := ⟨3, ![8, 552, 128]⟩
abbrev S552x128 : Shape := ⟨2, ![552, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x552x128, .f32⟩
  | .hbm, ⟨1, _⟩ => ⟨S552x128, .f32⟩
  | .hbm, ⟨2, _⟩ => ⟨S552x128, .f32⟩
  | .hbm, ⟨3, _⟩ => ⟨S552x128, .f32⟩
  | .hbm, ⟨4, _⟩ => ⟨S_, .f32⟩
  | .hbm, ⟨5, _⟩ => ⟨S552x128, .f32⟩
  | .hbm, ⟨6, _⟩ => ⟨S_, .f32⟩
  | .hbm, ⟨7, _⟩ => ⟨S552x128, .f32⟩
  | .hbm, ⟨8, _⟩ => ⟨S552x128, .f32⟩
  | .hbm, ⟨9, _⟩ => ⟨S_, .f32⟩
  | .hbm, ⟨10, _⟩ => ⟨S552x128, .f32⟩
  | .hbm, ⟨11, _⟩ => ⟨S552x128, .f32⟩
  | .hbm, ⟨12, _⟩ => ⟨S552x128, .f32⟩
  | .hbm, ⟨13, _⟩ => ⟨S_, .f32⟩
  | .hbm, ⟨14, _⟩ => ⟨S552x128, .f32⟩
  | .hbm, ⟨15, _⟩ => ⟨S552x128, .f32⟩
  | .hbm, ⟨16, _⟩ => ⟨S552x128, .f32⟩
  | .hbm, ⟨17, _⟩ => ⟨S_, .f32⟩
  | .hbm, ⟨18, _⟩ => ⟨S552x128, .f32⟩
  | .hbm, ⟨19, _⟩ => ⟨S552x128, .f32⟩
  | .hbm, ⟨20, _⟩ => ⟨S552x128, .f32⟩
  | .hbm, ⟨21, _⟩ => ⟨S_, .f32⟩
  | .hbm, ⟨22, _⟩ => ⟨S552x128, .f32⟩
  | .hbm, ⟨23, _⟩ => ⟨S552x128, .f32⟩
  | .hbm, ⟨24, _⟩ => ⟨S_, .f32⟩
  | .hbm, ⟨25, _⟩ => ⟨S552x128, .f32⟩
  | .hbm, ⟨26, _⟩ => ⟨S552x128, .f32⟩
  | .hbm, ⟨27, _⟩ => ⟨S552x128, .f32⟩
  | .hbm, ⟨28, _⟩ => ⟨S_, .f32⟩
  | .hbm, ⟨29, _⟩ => ⟨S552x128, .f32⟩
  | .hbm, ⟨30, _⟩ => ⟨S552x128, .f32⟩
  | .hbm, ⟨31, _⟩ => ⟨S552x128, .f32⟩
  | .hbm, ⟨32, _⟩ => ⟨S_, .f32⟩
  | .hbm, ⟨33, _⟩ => ⟨S552x128, .f32⟩
  | .hbm, ⟨34, _⟩ => ⟨S552x128, .f32⟩
  | .hbm, ⟨35, _⟩ => ⟨S552x128, .f32⟩
  | .hbm, ⟨36, _⟩ => ⟨S_, .f32⟩
  | .hbm, ⟨37, _⟩ => ⟨S552x128, .f32⟩
  | .hbm, ⟨38, _⟩ => ⟨S552x128, .f32⟩
  | _, _ => ⟨S8x552x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.Rows.lean ====
/- The scalar formulas, one row of the token axis at a time, that the calls and their references share: the
   gradient of the RMS normalisation and of the gated linear unit. -/
module

public import Idealize.ShloMosaic.Lib.Pointwise

@[expose] public section

set_option maxRecDepth 16384

noncomputable section

namespace Cert.Rows

open Idealize.ShloMosaic

/-- The mean square of a row of 1024 numbers plus the normalisation's epsilon. -/
def msq (x : Fin 1024 → EReal) : EReal :=
  Ideal.div (∑ k, x k * x k) (Ideal.ofBits .f32 0x44800000#32) + Ideal.ofBits .f32 0x358637BD#32

/-- The reciprocal root of the mean square. -/
def inv (x : Fin 1024 → EReal) : EReal := Ideal.rsqrt (msq x)

/-- Entry `l` of the RMS-normalised row, scaled by `g`. -/
def norm (x g : Fin 1024 → EReal) (l : Fin 1024) : EReal := x l * inv x * g l

/-- What the mean square passes on to each entry of the row: `dy` is the cotangent of the unscaled normalised row. -/
def slope (x dy : Fin 1024 → EReal) : EReal :=
  Ideal.div ((∑ k, x k * dy k) * (Ideal.ofBits .f32 0xBF000000#32 * Ideal.div (inv x) (msq x)))
    (Ideal.ofBits .f32 0x44800000#32)

/-- Entry `l` of the gradient of the RMS normalisation by its row, for a cotangent `dh` of the result. -/
def normGrad (x g dh : Fin 1024 → EReal) (l : Fin 1024) : EReal :=
  dh l * g l * inv x + x l * slope x (fun k => dh k * g k) + slope x (fun k => dh k * g k) * x l

/-- What one row adds to entry `l` of the gradient of the RMS normalisation by its scale. -/
def scaleGrad (x dh : Fin 1024 → EReal) (l : Fin 1024) : EReal := x l * inv x * dh l

/-- The sigmoid's derivative. -/
def dsig (x : EReal) : EReal := Ideal.logistic x * (1 - Ideal.logistic x)

/-- Entry `e` of the cotangent of a projected row `[val | gate | z]` whose value half is gated by the sigmoid of the
    gate half, the rest being passed on. -/
def gluGrad (val gt dglu dz : Fin 1024 → EReal) (e : Fin 3072) : EReal :=
  if h : e.val < 1024 then dglu ⟨e.val, h⟩ * Ideal.logistic (gt ⟨e.val, h⟩)
  else if h' : e.val - 1024 < 1024 then val ⟨e.val - 1024, h'⟩ * dglu ⟨e.val - 1024, h'⟩ * dsig (gt ⟨e.val - 1024, h'⟩)
  else dz ⟨e.val - 1024 - 1024, by omega⟩

/-- Entry `l` of the row `dp` sent back through a product with the matrix `w` of 3072 columns. -/
def back (dp : Fin 3072 → EReal) (w : Fin 1024 → Fin 3072 → EReal) (l : Fin 1024) : EReal := ∑ e, dp e * w l e

end Cert.Rows

end
-- ==== Proof.OddInK.lean ====
/- What the backward call of the odd layer's input half leaves, entry by entry. -/
module

public import proofs.«01_k».proof.Proof.Gen.OddInBwdIdeal.Value
public import proofs.«01_k».proof.Proof.Rows
public import Idealize.ShloMosaic.Lib.Pipeline.ValueKit
public import Idealize.ShloMosaic.Lib.Pointwise

@[expose] public section
set_option maxRecDepth 16384
noncomputable section
open Idealize.ShloMosaic Idealize.ShloMosaic.TcCoe Idealize.SL.Sem
open Idealize.ShloMosaic.Pipeline (Dat)
namespace Cert.OddInBwdIdeal.Value
open Cert.OddInBwdIdeal Cert.OddInBwdIdeal.Gen Cert.Rows
variable (m : (ℓ : Loc nD τ sig) → Buf (Elt Ideal) ℓ)

/-- Which block every window shows at a grid point. -/
theorem idx : ∀ t : Fin cfg0.N, win0_0.index t = ![t.val, 0] ∧ win0_1.index t = ![t.val, 0] ∧ win0_2.index t = ![t.val, 0] ∧ win0_3.index t = ![t.val, 0]
     ∧ win0_4.index t = ![t.val, 0]  ∧ win0_5.index t = ![0, 0] ∧ win0_6.index t = ![0, 0] ∧ win0_7.index t = ![t.val, 0] ∧ win0_8.index t = ![t.val, 0] ∧ win0_9.index t = ![0, 0] :=
  (by decide +kernel : ∀ t : Fin grid0.N, _)

/-- Row `r` of block `t`, in the whole array. -/
def row (t : Fin cfg0.N) (r : Fin 256) : Fin 8192 := ⟨t.val * 256 + r.val, by have := lt_of_lt_of_eq t.isLt N_0; omega⟩

/-- What a grid point reads of the first operand. -/
theorem rd0 (c : Dev nD) (t : Fin cfg0.N) (r : Fin 256) (k : Fin 1024) : iblk m c 0 t (ix2 r k) = V m c main_arg0 (ix2 (row t r) k) := by
  blk_ext [iblk, idx t, row]
/-- What it reads of the norm's scale. -/
theorem rd5 (c : Dev nD) (t : Fin cfg0.N) (r : Fin 1) (k : Fin 1024) : iblk m c 5 t (ix2 r k) = V m c main_arg1 (ix2 r k) := by
  blk_ext [iblk, idx t, row]
/-- What it reads of the weight. -/
theorem rd6 (c : Dev nD) (t : Fin cfg0.N) (r : Fin 1024) (k : Fin 3072) : iblk m c 6 t (ix2 r k) = V m c main_v13 (ix2 r k) := by
  blk_ext [iblk, idx t, row]
/-- Where an entry of its block of the stream's gradient lies. -/
theorem emb7 (t : Fin cfg0.N) (r : Fin 256) (k : Fin 1024) : ((cfg0.win 7).blk t).view.emb (ix2 r k) = (ix2 (row t r) k : S8192x1024.Idx) := by
  blk_ext [idx t, row]
/-- What it reads of the third operand. -/
theorem rd2 (c : Dev nD) (t : Fin cfg0.N) (r : Fin 256) (k : Fin 1024) : iblk m c 2 t (ix2 r k) = V m c main_arg3 (ix2 (row t r) k) := by
  blk_ext [iblk, idx t, row]
/-- What it reads of the fourth operand. -/
theorem rd3 (c : Dev nD) (t : Fin cfg0.N) (r : Fin 256) (k : Fin 1024) : iblk m c 3 t (ix2 r k) = V m c main_arg4 (ix2 (row t r) k) := by
  blk_ext [iblk, idx t, row]
/-- What it reads of the fifth operand. -/
theorem rd4 (c : Dev nD) (t : Fin cfg0.N) (r : Fin 256) (k : Fin 1024) : iblk m c 4 t (ix2 r k) = V m c main_arg5 (ix2 (row t r) k) := by
  blk_ext [iblk, idx t, row]
/-- Where an entry of its block of the cotangent lies. -/
theorem emb8 (t : Fin cfg0.N) (r : Fin 256) (k : Fin 3072) : ((cfg0.win 8).blk t).view.emb (ix2 r k) = (ix2 (row t r) k : S8192x3072.Idx) := by
  blk_ext [idx t, row]
/-- Where an entry of the scale's gradient lies. -/
theorem emb9 (t : Fin cfg0.N) (r : Fin 1) (k : Fin 1024) : ((cfg0.win 9).blk t).view.emb (ix2 r k) = (ix2 r k : S1x1024.Idx) := by
  blk_ext [idx t, row]
/-- The projection's block lies inside the array. -/
theorem full1 : ∀ t : Fin cfg0.N, ∀ a, win0_1.xsize (cfg0.grid.coords t) a = ![256, 2048] a :=
  (by decide +kernel : ∀ t : Fin grid0.N, _)
/-- So every entry of the block is moved. -/
theorem moved1 (t : Fin cfg0.N) (j : win0_1.block.Idx) : win0_1.moved (cfg0.grid.coords t) j = true :=
  (win0_1.moved_iff _ _).mpr fun a => by
    rw [full1 t a]
    have := (j a).isLt
    fin_cases a
    · exact this
    · exact this
/-- What a grid point reads of the projection. -/
theorem rd1 (c : Dev nD) (t : Fin cfg0.N) (r : Fin 256) (k : Fin 2048) : X0_1 m c t (ix2 r k) = V m c main_v12 (ix2 (row t r) ⟨k.val, by omega⟩) := by
  unfold X0_1 Pipeline.Window.fill
  rw [dif_pos (moved1 t _)]
  show V m c main_v12 (((cfg0.win 1).blk t).view.emb _) = _
  refine congrArg (V m c main_v12) (funext fun a => Fin.ext ?_)
  have h1 := (idx t).2.1
  match a with
  | ⟨0, _⟩ =>
    show win0_1.index t 0 * 256 + 1 * r.val = t.val * 256 + r.val
    rw [h1]; simp
  | ⟨1, _⟩ =>
    show win0_1.index t 1 * 2048 + 1 * k.val = k.val
    rw [h1]; simp

/-- The cotangent of the projection on a tile, entry by entry. -/
theorem pay4_at (v3 v4 v9 v13 : FVec Ideal S256x1024 .f32) (r : Fin 256) (l : Fin 3072) :
    k0_pay4 (F := Ideal) v3 v4 v9 v13 (ix2 r l) = gluGrad (fun k => v3 (ix2 r k)) (fun k => v4 (ix2 r k))
      (fun k => v9 (ix2 r k)) (fun k => v13 (ix2 r k)) l := by
  pointwise [k0_pay4, gluGrad, dsig]

/-- The cotangent of the normalised stream on a tile, entry by entry. -/
theorem pay5_at (v3 v4 v9 v13 : FVec Ideal S256x1024 .f32) (w : FVec Ideal S1024x3072 .bf16) (r : Fin 256) (l : Fin 1024) :
    k0_pay5 (F := Ideal) v3 v4 v9 v13 w (ix2 r l) = ∑ e : Fin 3072, gluGrad (fun k => v3 (ix2 r k)) (fun k => v4 (ix2 r k))
      (fun k => v9 (ix2 r k)) (fun k => v13 (ix2 r k)) e * w (ix2 l e) := by
  pointwise [k0_pay5, pay4_at]

/-- The gradient of the stream on a tile, entry by entry. -/
theorem pay1_at (dh x dx2 : FVec Ideal S256x1024 .f32) (g : FVec Ideal S1x1024 .f32) (r : Fin 256) (l : Fin 1024) :
    k0_pay1 (F := Ideal) dh x g (k0_pay7 x) (k0_pay8 x) (FloatOps.ofBits FTy.f32 0xBF000000#32) dx2 (ix2 r l)
      = normGrad (fun k => x (ix2 r k)) (fun k => g (ix2 0 k)) (fun k => dh (ix2 r k)) l + dx2 (ix2 r l) := by
  pointwise [k0_pay1, k0_pay7, k0_pay6, k0_pay8]
  simp only [Fin.sum_univ_one]
  rfl

/-- What a tile adds to the scale's gradient, entry by entry. -/
theorem pay2_at (dh x : FVec Ideal S256x1024 .f32) (acc : FVec Ideal S1x1024 .f32) (r : Fin 1) (l : Fin 1024) :
    k0_pay2 (F := Ideal) dh x (k0_pay7 x) acc (ix2 r l)
      = acc (ix2 r l) + ∑ k : Fin 256, x (ix2 k l) * inv (fun j => x (ix2 k j)) * dh (ix2 k l) := by
  pointwise [k0_pay2, k0_pay7, k0_pay6]
  rfl

/-- The call leaves the gradient of the stream. -/
theorem fin7 (c : Dev nD) : (dats m 0 c).arrAt 7 (cfgs 0).N = fun i : S8192x1024.Idx =>
    normGrad (fun k => V m c main_arg0 (ix2 (i 0) k)) (fun k => V m c main_arg1 (ix2 0 k))
      (fun k => ∑ e : Fin 3072, gluGrad (fun k => V m c main_v12 (ix2 (i 0) ⟨k.val, by omega⟩)) (fun k => V m c main_v12 (ix2 (i 0) ⟨1024 + k.val, by omega⟩))
        (fun k => V m c main_arg3 (ix2 (i 0) k)) (fun k => V m c main_arg4 (ix2 (i 0) k)) e * V m c main_v13 (ix2 k e)) (i 1)
     + V m c main_arg5 i := by
  refine (dats m 0 c).arrAt_eq_of_covers 7 _ (by decide +kernel) fun t hf y => ?_
  blk_simp
  rw [after0_7]
  have hout : ∀ (r : Fin 256) (l : Fin 1024), (outsAt0 m c t.val t.isLt).1 (ix2 r l) =
      normGrad (fun k => iblk m c 0 t (ix2 r k)) (fun k => iblk m c 5 t (ix2 0 k))
      (fun k => ∑ e : Fin 3072, gluGrad (fun k => X0_1 m c t (ix2 r ⟨k.val, by omega⟩)) (fun k => X0_1 m c t (ix2 r ⟨1024 + k.val, by omega⟩))
        (fun k => iblk m c 2 t (ix2 r k)) (fun k => iblk m c 3 t (ix2 r k)) e * iblk m c 6 t (ix2 k e)) l
     + iblk m c 4 t (ix2 r l) := by
    intro r l
    by_cases h : t.val % 32 = 0
    · rw [outsAt0_A m c t h]
      frame_out
      refine (pay1_at _ _ _ _ r l).trans ?_
      simp only [pay5_at]
      pointwise
    · rw [outsAt0_B m c t h]
      frame_out
      refine (pay1_at _ _ _ _ r l).trans ?_
      simp only [pay5_at]
      pointwise
  idx_vars y
  refine (hout y0 y1).trans ?_
  have he := emb7 t y0 y1
  change ((View.whole main_v14_0).slice (win0_7.rect t)).emb (ix2 y0 y1) = _ at he
  rw [he]
  simp only [rd0, rd1, rd2, rd3, rd4, rd5, rd6]
  rfl

/-- The call leaves the cotangent of the projection. -/
theorem fin8 (c : Dev nD) : (dats m 0 c).arrAt 8 (cfgs 0).N = fun i : S8192x3072.Idx =>
    gluGrad (fun k => V m c main_v12 (ix2 (i 0) ⟨k.val, by omega⟩)) (fun k => V m c main_v12 (ix2 (i 0) ⟨1024 + k.val, by omega⟩))
        (fun k => V m c main_arg3 (ix2 (i 0) k)) (fun k => V m c main_arg4 (ix2 (i 0) k)) (i 1) := by
  refine (dats m 0 c).arrAt_eq_of_covers 8 _ (by decide +kernel) fun t hf y => ?_
  blk_simp
  rw [after0_8]
  have hout : ∀ (r : Fin 256) (l : Fin 3072), (outsAt0 m c t.val t.isLt).2.1 (ix2 r l) =
      gluGrad (fun k => X0_1 m c t (ix2 r ⟨k.val, by omega⟩)) (fun k => X0_1 m c t (ix2 r ⟨1024 + k.val, by omega⟩))
        (fun k => iblk m c 2 t (ix2 r k)) (fun k => iblk m c 3 t (ix2 r k)) l := by
    intro r l
    by_cases h : t.val % 32 = 0
    · rw [outsAt0_A m c t h]
      frame_out
      refine (pay4_at _ _ _ _ r l).trans ?_
      pointwise
    · rw [outsAt0_B m c t h]
      frame_out
      refine (pay4_at _ _ _ _ r l).trans ?_
      pointwise
  idx_vars y
  refine (hout y0 y1).trans ?_
  have he := emb8 t y0 y1
  change ((View.whole main_v14_1).slice (win0_8.rect t)).emb (ix2 y0 y1) = _ at he
  rw [he]
  simp only [rd1, rd2, rd3]
  rfl

/-- What block `t` adds to the accumulated gradient of the scale. -/
def part9 (c : Dev nD) (t : Fin cfg0.N) (j : S1x1024.Idx) : EReal :=
  ∑ r : Fin 256, scaleGrad (fun k => iblk m c 0 t (ix2 r k))
    (back (gluGrad (fun k => X0_1 m c t (ix2 r ⟨k.val, by omega⟩)) (fun k => X0_1 m c t (ix2 r ⟨1024 + k.val, by omega⟩))
        (fun k => iblk m c 2 t (ix2 r k)) (fun k => iblk m c 3 t (ix2 r k))) fun k e => iblk m c 6 t (ix2 k e)) (j 1)

/-- The first tile starts the scale's gradient. -/
theorem part9_A (c : Dev nD) (t : Fin cfg0.N) (h : t.val % 32 = 0) (j : S1x1024.Idx) :
    (outsAt0 m c t.val t.isLt).2.2 j = 0 + part9 m c t j := by
  rw [outsAt0_A m c t h]
  frame_out
  idx_vars j
  refine (pay2_at _ _ _ j0 j1).trans ?_
  simp only [pay5_at]
  pointwise [k0_pay3]
  rfl

/-- Every further tile adds to it. -/
theorem part9_B (c : Dev nD) (t : Fin cfg0.N) (h : ¬t.val % 32 = 0) (j : S1x1024.Idx) :
    (outsAt0 m c t.val t.isLt).2.2 j = (outsAt0 m c (t.val - 1) (Nat.lt_of_le_of_lt (Nat.sub_le _ _) t.isLt)).2.2 j + part9 m c t j := by
  rw [outsAt0_B m c t h]
  frame_out
  idx_vars j
  refine (pay2_at _ _ _ j0 j1).trans ?_
  simp only [pay5_at]
  pointwise
  rfl

/-- So the call leaves the sum over all tokens. -/
theorem fin9 (c : Dev nD) : (dats m 0 c).arrAt 9 (cfgs 0).N = fun i : S1x1024.Idx =>
    ∑ s : Fin 8192, scaleGrad (fun k => V m c main_arg0 (ix2 s k))
      (back (gluGrad (fun k => V m c main_v12 (ix2 s ⟨k.val, by omega⟩)) (fun k => V m c main_v12 (ix2 s ⟨1024 + k.val, by omega⟩))
        (fun k => V m c main_arg3 (ix2 s k)) (fun k => V m c main_arg4 (ix2 s k))) fun k e => V m c main_v13 (ix2 k e)) (i 1) := by
  refine (dats m 0 c).arrAt_eq_of_covers 9 _ (by decide +kernel) fun t hf y => ?_
  blk_simp
  rw [after0_9]
  have hsum := Pipeline.eq_sum_fin_of_reset_step_apply_of_flush (ι := S1x1024.Idx) (M := EReal)
    (fun n h => (outsAt0 m c n h).2.2) 32 (fun _ => 0) (part9 m c) (part9_A m c) (part9_B m c) t ((flush0_9 t).mp hf)
  idx_vars y
  refine (hsum _).trans ?_
  have he := emb9 t y0 y1
  change ((View.whole main_v14_2).slice (win0_9.rect t)).emb (ix2 y0 y1) = _ at he
  rw [he]
  simp only [part9, rd0, rd1, rd2, rd3, rd6]
  refine (zero_add _).trans (Fin.sum_mul_add_congr (n := 256) (L := 8192) (M := EReal) fun s k hl => ?_)
  have hr : ∀ h, row ⟨32 * (t.val / 32) + s.val, h⟩ k = ⟨s.val * 256 + k.val, hl⟩ := fun h => Fin.ext (by
    show (32 * (t.val / 32) + s.val) * 256 + k.val = s.val * 256 + k.val
    have := lt_of_lt_of_eq t.isLt N_0
    omega)
  simp only [hr]
end Cert.OddInBwdIdeal.Value
-- ==== Proof.OddInR.lean ====
/- What the gradient of the odd layer's input half is, entry by entry. -/
module

public import proofs.«01_k».proof.Proof.Gen.OddInGradIdeal.Read
public import proofs.«01_k».proof.Proof.Rows
public import Idealize.ShloMosaic.Lib.Pointwise

@[expose] public section
set_option maxRecDepth 16384
noncomputable section
open Idealize.ShloMosaic Idealize.ShloMosaic.TcCoe Idealize.SL.Sem
namespace Cert.OddInGradIdeal.Read
open Cert.OddInGradIdeal Cert.Rows

/-- The reference's cotangent of the projection, entry by entry. -/
theorem dproj_at (x0 : FVec Ideal S8192x1024 .f32) (x1 : FVec Ideal S1x1024 .f32) (x2 : FVec Ideal S1024x3072 .f32) (x3 x4 : FVec Ideal S8192x1024 .f32) (s : Fin 8192) (e : Fin 3072) :
    val_main_v36 (F := Ideal) x0 x1 x2 x3 x4 (ix2 s e) = gluGrad (fun k => val_main_v15 (F := Ideal) x0 x1 x2 (ix2 s ⟨k.val, by omega⟩)) (fun k => val_main_v15 (F := Ideal) x0 x1 x2 (ix2 s ⟨1024 + k.val, by omega⟩))
        (fun k => x3 (ix2 s k)) (fun k => x4 (ix2 s k)) e := by
  pointwise [val_main_v36, val_main_v35, val_main_v34, val_main_v33, val_main_v32, val_main_v31, val_main_v30, val_main_v29, val_main_v28, val_main_v27,
    val_main_v26, val_main_v25, val_main_v24, val_main_v23, val_main_v22, val_main_v21, val_main_v20, val_main_v19, val_main_v18, val_main_v17, val_main_v16, gluGrad, dsig,
    val_main_cst_3, val_main_cst_4, val_main_cst_5, val_main_cst_6, val_main_cst_7, val_main_cst_8, Ideal.logistic]
  split_ifs <;> first | omega | (simp; done) | simp [Nat.sub_sub]

/-- Its cotangent of the normalised stream. -/
theorem dh_at (x0 : FVec Ideal S8192x1024 .f32) (x1 : FVec Ideal S1x1024 .f32) (x2 : FVec Ideal S1024x3072 .f32) (x3 x4 : FVec Ideal S8192x1024 .f32) (s : Fin 8192) (l : Fin 1024) :
    val_main_v37 (F := Ideal) x0 x1 x2 x3 x4 (ix2 s l) = back (fun e => val_main_v36 (F := Ideal) x0 x1 x2 x3 x4 (ix2 s e)) (fun k e => x2 (ix2 k e)) l := by
  pointwise [val_main_v37, back]

/-- Its mean square of a token. -/
theorem msq_at (x0 : FVec Ideal S8192x1024 .f32) (s : Fin 8192) (z : Fin 1) :
    val_main_v6 (F := Ideal) x0 (ix2 s z) = msq fun k => x0 (ix2 s k) := by
  pointwise [val_main_v6, val_main_v5, val_main_v4, val_main_v3, val_main_v2, val_main_v1, val_main_v0, val_main_cst, val_main_cst_0, val_main_cst_1]
  rfl

/-- Its inverse root. -/
theorem inv_at (x0 : FVec Ideal S8192x1024 .f32) (s : Fin 8192) (z : Fin 1) :
    val_main_v7 (F := Ideal) x0 (ix2 s z) = inv fun k => x0 (ix2 s k) := by
  pointwise [val_main_v7, val_main_v6, val_main_v5, val_main_v4, val_main_v3, val_main_v2, val_main_v1, val_main_v0, val_main_cst, val_main_cst_0, val_main_cst_1]
  rfl

/-- Its gradient of the stream. -/
theorem dx_at (x0 : FVec Ideal S8192x1024 .f32) (x1 : FVec Ideal S1x1024 .f32) (x2 : FVec Ideal S1024x3072 .f32) (x3 x4 : FVec Ideal S8192x1024 .f32) (x5 : FVec Ideal S8192x1024 .f32) (s : Fin 8192) (l : Fin 1024) :
    val_main_v57 (F := Ideal) x0 x1 x2 x3 x4 x5 (ix2 s l) = normGrad (fun k => x0 (ix2 s k)) (fun k => x1 (ix2 0 k))
      (fun k => val_main_v37 (F := Ideal) x0 x1 x2 x3 x4 (ix2 s k)) l + x5 (ix2 s l) := by
  pointwise [val_main_v57, val_main_v56, val_main_v55, val_main_v54, val_main_v53, val_main_v52, val_main_v51, val_main_v50, val_main_v49, val_main_v48,
    val_main_v47, val_main_v46, val_main_v45, val_main_v44, val_main_v43, val_main_v42, val_main_v41, val_main_v10, val_main_v9, val_main_v8, val_main_cst_2, val_main_cst_10, val_main_cst_11, val_main_cst_12]
  simp only [inv_at, msq_at, Fin.sum_univ_one]
  rfl

/-- Its gradient of the scale. -/
theorem dg_at (x0 : FVec Ideal S8192x1024 .f32) (x1 : FVec Ideal S1x1024 .f32) (x2 : FVec Ideal S1024x3072 .f32) (x3 x4 : FVec Ideal S8192x1024 .f32) (s : Fin 1) (l : Fin 1024) :
    val_main_v40 (F := Ideal) x0 x1 x2 x3 x4 (ix2 s l) = ∑ s, scaleGrad (fun k => x0 (ix2 s k))
      (fun k => val_main_v37 (F := Ideal) x0 x1 x2 x3 x4 (ix2 s k)) l := by
  pointwise [val_main_v40, val_main_v39, val_main_v38, val_main_v12, val_main_v11, val_main_cst_9, inv_at, scaleGrad]
end Cert.OddInGradIdeal.Read
-- ==== Proof.OddIn.lean ====
/- The odd layer's input half: the call leaves what the gradient of the reference leaves. -/
module

public import proofs.«01_k».proof.Defs
public import proofs.«01_k».proof.Proof.Gen.OddInGradIdeal.Run
public import proofs.«01_k».proof.Proof.OddInK
public import proofs.«01_k».proof.Proof.OddInR
public import Idealize.ShloMosaic.Lib.Claim

@[expose] public section
set_option maxRecDepth 16384
noncomputable section
open Idealize.ShloMosaic Idealize.ShloMosaic.TcCoe Idealize.SL.Sem
namespace Cert.Proof.OddIn
open Cert.OddInBwdIdeal Cert.OddInBwdIdeal.Gen Cert.OddInGradIdeal.Read Cert.Rows

variable (m : (ℓ : Loc nD τ sig) → Buf (Elt Ideal) ℓ)

/-- The projection the call is given is the reference's. -/
theorem proj_eq (c : Dev nD) : V m c main_v12 = val_main_v15 (F := Ideal) (m ((c.tc : Thread nD τ).loc main_arg0)) (m ((c.tc : Thread nD τ).loc main_arg1)) (m ((c.tc : Thread nD τ).loc main_arg2)) := by
  entry_read
  rfl

/-- The weight the call is given is the cast weight. -/
theorem w_eq (c : Dev nD) : V m c main_v13 = m ((c.tc : Thread nD τ).loc main_arg2) := by
  entry_read
  rfl

/-- The call leaves the gradient of the residual stream. -/
theorem final7 (c : Dev nD) : (dats m 0 c).arrAt 7 (cfgs 0).N = val_main_v57 (F := Ideal) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) := by
  refine (Cert.OddInBwdIdeal.Value.fin7 m c).trans (funext fun i => ?_)
  idx_vars i
  refine Eq.trans ?_ (dx_at _ _ _ _ _ _ i0 i1).symm
  simp only [dh_at, dproj_at, V_main_arg0, V_main_arg1, V_main_arg3, V_main_arg4, V_main_arg5, w_eq, proj_eq]
  rfl

/-- The call leaves the cotangent of the projection. -/
theorem final8 (c : Dev nD) : (dats m 0 c).arrAt 8 (cfgs 0).N = val_main_v58 (F := Ideal) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) := by
  refine (Cert.OddInBwdIdeal.Value.fin8 m c).trans (funext fun i => ?_)
  idx_vars i
  refine Eq.trans ?_ (dproj_at _ _ _ _ _ i0 i1).symm
  show gluGrad _ _ _ _ i1 = _
  rw [V_main_arg3, V_main_arg4, proj_eq]

/-- The call leaves the gradient of the norm's scale. -/
theorem final9 (c : Dev nD) : (dats m 0 c).arrAt 9 (cfgs 0).N = val_main_v40 (F := Ideal) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) := by
  refine (Cert.OddInBwdIdeal.Value.fin9 m c).trans (funext fun i => ?_)
  idx_vars i
  refine Eq.trans ?_ (dg_at _ _ _ _ _ i0 i1).symm
  simp only [dh_at, dproj_at, V_main_arg0, V_main_arg3, V_main_arg4, w_eq, proj_eq]
  rfl

/-- The reference runs to its end and leaves nothing behind. -/
theorem frameR : Cert.quiescent_OddInGradIdeal := fun m ρ _ =>
  (θ_run Cert.OddInGradIdeal.defs _ _).mono (fun r h => ⟨fun c => (h c).2.2.2, sem_eq_zero_of_no_sems (by decide) r.2⟩)
    (Cert.OddInGradIdeal.Value.run (F := Ideal) m ρ)

/-- The call and the reference leave equal results. -/
theorem algebraic : Cert.algebraic_OddInBwdIdeal_OddInGradIdeal := by
  intro m g m' g' _ hin
  refine ⟨_, _, _, Cert.OddInBwdIdeal.Value.run_blocks m g, (θ_run _ _ _).mono (fun r h c => ?_) (Cert.OddInGradIdeal.Value.run m' g')⟩
  obtain ⟨h0, h1, h2, hk⟩ := h c
  obtain ⟨a0, a1, a2, a3, a4, a5⟩ := hin c
  refine ⟨?_, ?_, ?_, hk⟩
  · rw [h0, val_main_v57_eq, final7, a0, a1, a2, a3, a4, a5]
  · rw [h1, val_main_v58_eq, final8, a0, a1, a2, a3, a4]
  · rw [h2, val_main_v40_eq, final9, a0, a1, a2, a3, a4]
end Cert.Proof.OddIn
-- ==== Proof.Tiles.lean ====
/- A tile of an array: some of its rows, named by the map from the tile's rows to the array's. The calls work tile by
   tile, the references on whole arrays; every stage of a tile is the tile of the stage. -/
module

public import Idealize.ShloMosaic.Lib.Pointwise

@[expose] public section

set_option maxRecDepth 16384

noncomputable section

namespace Cert.Tiles

open Idealize.ShloMosaic

/-- The rows `s 0, s 1, …` of an array. -/
def tile {φ : FTy} {a b k : ℕ} (s : Fin a → Fin b) (x : FVec Ideal ⟨2, ![b, k]⟩ φ) : FVec Ideal ⟨2, ![a, k]⟩ φ :=
  fun i => x (ix2 (s (i 0)) (i 1))

/-- A tile read at an index. -/
theorem tile_at {φ : FTy} {a b k : ℕ} (s : Fin a → Fin b) (x : FVec Ideal ⟨2, ![b, k]⟩ φ) (r : Fin a) (l : Fin k) :
    tile s x (ix2 r l) = x (ix2 (s r) l) := rfl

/-- Columns `o, o + 1, …` of the rows `s 0, s 1, …` of an array. -/
def tileFrom {φ : FTy} {a b k n : ℕ} (s : Fin a → Fin b) (o : ℕ) (h : o + k ≤ n) (x : FVec Ideal ⟨2, ![b, n]⟩ φ) :
    FVec Ideal ⟨2, ![a, k]⟩ φ :=
  fun i => x (ix2 (s (i 0)) ⟨o + (i 1).val, lt_of_lt_of_le (Nat.add_lt_add_left (i 1).isLt o) h⟩)

/-- Such a tile read at an index. -/
theorem tileFrom_at {φ : FTy} {a b k n : ℕ} (s : Fin a → Fin b) (o : ℕ) (h : o + k ≤ n) (x : FVec Ideal ⟨2, ![b, n]⟩ φ)
    (r : Fin a) (l : Fin k) :
    tileFrom s o h x (ix2 r l) = x (ix2 (s r) ⟨o + l.val, lt_of_lt_of_le (Nat.add_lt_add_left l.isLt o) h⟩) := rfl

/-- A finite factor that is not negative passes through a sum of extended reals. -/
theorem mul_sum_of_real {ι : Type} [DecidableEq ι] (a : EReal) (h0 : 0 ≤ a) (ht : a ≠ ⊤) (s : Finset ι) (f : ι → EReal) :
    a * ∑ i ∈ s, f i = ∑ i ∈ s, a * f i := by
  induction s using Finset.induction_on with
  | empty => simp
  | insert i s hi ih => rw [Finset.sum_insert hi, Finset.sum_insert hi, EReal.left_distrib_of_nonneg_of_ne_top h0 ht, ih]

/-- The number one half, as the calls' constant writes it. -/
theorem half_eq : Ideal.ofBits .f32 0x3F000000#32 = (((1 : ℝ) / 2 : ℝ) : EReal) := by
  simp [Ideal.ofBits, Ideal.ieee, -EReal.coe_mul]; norm_num

/-- One half is not negative. -/
theorem half_nonneg : 0 ≤ Ideal.ofBits .f32 0x3F000000#32 := by
  rw [half_eq]; exact_mod_cast (by norm_num : (0 : ℝ) ≤ 1 / 2)

/-- One half is finite. -/
theorem half_ne_top : Ideal.ofBits .f32 0x3F000000#32 ≠ ⊤ := by
  rw [half_eq]; exact EReal.coe_ne_top _

end Cert.Tiles

end
-- ==== Proof.OddOutRows.lean ====
/- The stages of the odd layer's output half and the loss head, on a tile of rows: each of the call's stages is the tile of
   the reference's. -/
module

public import proofs.«01_k».proof.Proof.Gen.OddOutIdeal.Value
public import proofs.«01_k».proof.Proof.Gen.OddOutGradIdeal.Read
public import proofs.«01_k».proof.Proof.Tiles
public import Idealize.ShloMosaic.Lib.Pointwise

@[expose] public section

set_option maxRecDepth 16384

noncomputable section

open Idealize.ShloMosaic Idealize.ShloMosaic.TcCoe Idealize.SL.Sem

namespace Cert.Proof.OddOut

open Cert.OddOutIdeal.Gen Cert.OddOutGradIdeal.Read Cert.Tiles
open Cert.OddOutGradIdeal (S8192x1024 S8192x3072 S1x1024 S1024x1024)

variable (s : Fin 256 → Fin 8192) (x0 : FVec Ideal S8192x1024 .f32) (x1 : FVec Ideal S8192x3072 .f32)
  (x2 x3 : FVec Ideal S8192x1024 .f32) (x4 x5 x6 : FVec Ideal S1x1024 .f32) (x7 : FVec Ideal S1024x1024 .f32)
  (w : FVec Ideal S1024x1024 .bf16) (hw : ∀ i, w i = x7 i) (x8 : FVec Ideal S1x1024 .f32)

/-- The tile of the gate's rows, the last third of the projection. -/
abbrev zt : FVec Ideal ⟨2, ![256, 1024]⟩ .f32 := tileFrom s 2048 (by decide) x1

/-- Centred. -/
theorem st9 : k0_pay9 (F := Ideal) (tile s x0) x4 = tile s (val_main_v8 (F := Ideal) x0 x4) := by
  funext i
  idx_vars i
  show _ = (val_main_v8 (F := Ideal) x0 x4) (ix2 (s i0) i1)
  pointwise [k0_pay9, val_main_v8, val_main_v2, val_main_v1, val_main_v7, val_main_v6, val_main_v4, val_main_v3, val_main_cst, val_main_v5, val_main_cst_0, tile_at, tileFrom_at]

/-- The variance plus epsilon. -/
theorem st10 : k0_pay10 (F := Ideal) (tile s x0) x4 = tile s (val_main_v15 (F := Ideal) x0 x4) := by
  funext i
  idx_vars i
  show _ = (val_main_v15 (F := Ideal) x0 x4) (ix2 (s i0) i1)
  pointwise [k0_pay10, st9, val_main_v15, val_main_v13, val_main_v11, val_main_v10, val_main_v9, val_main_cst_1, val_main_v12, val_main_cst_2, val_main_v14, val_main_cst_3, tile_at, tileFrom_at]

/-- Its reciprocal root. -/
theorem st11 : k0_pay11 (F := Ideal) (tile s x0) x4 = tile s (val_main_v16 (F := Ideal) x0 x4) := by
  funext i
  idx_vars i
  show _ = (val_main_v16 (F := Ideal) x0 x4) (ix2 (s i0) i1)
  pointwise [k0_pay11, st10, val_main_v16, tile_at, tileFrom_at]

/-- Half of the quotient of the two, negated. -/
theorem st12 : k0_pay12 (F := Ideal) (tile s x0) x4 = tile s (val_main_v19 (F := Ideal) x0 x4) := by
  funext i
  idx_vars i
  show _ = (val_main_v19 (F := Ideal) x0 x4) (ix2 (s i0) i1)
  pointwise [k0_pay12, st11, st10, val_main_v19, val_main_v18, val_main_cst_4, val_main_v17, tile_at, tileFrom_at]

/-- Normalised. -/
theorem st13 : k0_pay13 (F := Ideal) (tile s x0) x4 = tile s (val_main_v21 (F := Ideal) x0 x4) := by
  funext i
  idx_vars i
  show _ = (val_main_v21 (F := Ideal) x0 x4) (ix2 (s i0) i1)
  pointwise [k0_pay13, st9, st11, val_main_v21, val_main_v20, tile_at, tileFrom_at]

/-- Scaled and shifted. -/
theorem st14 : k0_pay14 (F := Ideal) (tile s x0) x4 x5 x6 = tile s (val_main_v25 (F := Ideal) x0 x4 x5 x6) := by
  funext i
  idx_vars i
  show _ = (val_main_v25 (F := Ideal) x0 x4 x5 x6) (ix2 (s i0) i1)
  pointwise [k0_pay14, st13, val_main_v25, val_main_v23, val_main_v22, val_main_v24, tile_at, tileFrom_at]

/-- The sigmoid of the normalised channel. -/
theorem st15 : k0_pay15 (F := Ideal) (tile s x0) x4 x5 x6 = tile s (val_main_v26_2 (F := Ideal) x0 x4 x5 x6) := by
  funext i
  idx_vars i
  show _ = (val_main_v26_2 (F := Ideal) x0 x4 x5 x6) (ix2 (s i0) i1)
  pointwise [k0_pay15, st14, val_main_v26_2, val_main_call0_v4, val_main_call0_cst_0, val_main_call0_v3, val_main_call0_v2, val_main_call0_cst, val_main_call0_v1, val_main_call0_v0, Ideal.logistic, tile_at, tileFrom_at]

/-- The sigmoid's derivative there. -/
theorem st16 : k0_pay16 (F := Ideal) (tile s x0) x4 x5 x6 = tile s (val_main_v26_1 (F := Ideal) x0 x4 x5 x6) := by
  funext i
  idx_vars i
  show _ = (val_main_v26_1 (F := Ideal) x0 x4 x5 x6) (ix2 (s i0) i1)
  pointwise [k0_pay16, st15, val_main_v26_1, val_main_call0_v7, val_main_call0_v6, val_main_call0_cst_1, tile_at, tileFrom_at]

/-- The first factor of the gated product. -/
theorem st17 : k0_pay17 (F := Ideal) (tile s x0) x4 x5 x6 = tile s (val_main_v26_0 (F := Ideal) x0 x4 x5 x6) := by
  funext i
  idx_vars i
  show _ = (val_main_v26_0 (F := Ideal) x0 x4 x5 x6) (ix2 (s i0) i1)
  pointwise [k0_pay17, st14, st15, val_main_v26_0, tile_at, tileFrom_at]

/-- The sigmoid of the gate. -/
theorem st18 : k0_pay18 (F := Ideal) (zt s x1) = tile s (val_main_v27_2 (F := Ideal) x1) := by
  funext i
  idx_vars i
  show _ = (val_main_v27_2 (F := Ideal) x1) (ix2 (s i0) i1)
  pointwise [k0_pay18, zt, val_main_v27_2, val_main_call1_v4, val_main_call1_cst_0, val_main_call1_v3, val_main_call1_v2, val_main_call1_cst, val_main_call1_v1, val_main_call1_v0, val_main_v0, Ideal.logistic, tile_at, tileFrom_at]

/-- The sigmoid's derivative at the gate. -/
theorem st19 : k0_pay19 (F := Ideal) (tile s (val_main_v27_2 (F := Ideal) x1)) = tile s (val_main_v27_1 (F := Ideal) x1) := by
  funext i
  idx_vars i
  show _ = (val_main_v27_1 (F := Ideal) x1) (ix2 (s i0) i1)
  pointwise [k0_pay19, val_main_v27_1, val_main_call1_v7, val_main_call1_v6, val_main_call1_cst_1, tile_at, tileFrom_at]

/-- The second factor of the gated product. -/
theorem st20 : k0_pay20 (F := Ideal) (zt s x1) (tile s (val_main_v27_2 (F := Ideal) x1)) = tile s (val_main_v27_0 (F := Ideal) x1) := by
  funext i
  idx_vars i
  show _ = (val_main_v27_0 (F := Ideal) x1) (ix2 (s i0) i1)
  pointwise [k0_pay20, zt, val_main_v27_0, val_main_v0, tile_at, tileFrom_at]

/-- The gated product, as it is kept. -/
theorem st21 : k0_pay21 (F := Ideal) (zt s x1) (tile s (val_main_v26_0 (F := Ideal) x0 x4 x5 x6)) (tile s (val_main_v27_2 (F := Ideal) x1)) = tile s (val_main_v116 (F := Ideal) x0 x1 x4 x5 x6) := by
  funext i
  idx_vars i
  show _ = (val_main_v116 (F := Ideal) x0 x1 x4 x5 x6) (ix2 (s i0) i1)
  pointwise [k0_pay21, st20, val_main_v116, val_main_v28, tile_at, tileFrom_at]

include hw in
/-- The residual stream after the layer. -/
theorem st22 : k0_pay22 (F := Ideal) (zt s x1) (tile s (val_main_v26_0 (F := Ideal) x0 x4 x5 x6)) (tile s (val_main_v27_2 (F := Ideal) x1)) (tile s x2) w = tile s (val_main_v30 (F := Ideal) x0 x1 x2 x4 x5 x6 x7) := by
  funext i
  idx_vars i
  show _ = (val_main_v30 (F := Ideal) x0 x1 x2 x4 x5 x6 x7) (ix2 (s i0) i1)
  pointwise [k0_pay22, st21, val_main_v116, val_main_v30, val_main_v29, hw, tile_at, tileFrom_at]

include hw in
/-- Its mean square plus epsilon. -/
theorem st23 : k0_pay23 (F := Ideal) (zt s x1) (tile s (val_main_v26_0 (F := Ideal) x0 x4 x5 x6)) (tile s (val_main_v27_2 (F := Ideal) x1)) (tile s x2) w = tile s (val_main_v37 (F := Ideal) x0 x1 x2 x4 x5 x6 x7) := by
  funext i
  idx_vars i
  show _ = (val_main_v37 (F := Ideal) x0 x1 x2 x4 x5 x6 x7) (ix2 (s i0) i1)
  pointwise [k0_pay23, st22 s x0 x1 x2 x4 x5 x6 x7 w hw, val_main_v37, val_main_v35, val_main_v33, val_main_v32, val_main_v31, val_main_cst_5, val_main_v34, val_main_cst_6, val_main_v36, val_main_cst_7, tile_at, tileFrom_at]

include hw in
/-- The reciprocal root of that. -/
theorem st24 : k0_pay24 (F := Ideal) (zt s x1) (tile s (val_main_v26_0 (F := Ideal) x0 x4 x5 x6)) (tile s (val_main_v27_2 (F := Ideal) x1)) (tile s x2) w = tile s (val_main_v38 (F := Ideal) x0 x1 x2 x4 x5 x6 x7) := by
  funext i
  idx_vars i
  show _ = (val_main_v38 (F := Ideal) x0 x1 x2 x4 x5 x6 x7) (ix2 (s i0) i1)
  pointwise [k0_pay24, st23 s x0 x1 x2 x4 x5 x6 x7 w hw, val_main_v38, tile_at, tileFrom_at]

include hw in
/-- Half of the quotient of the two, negated. -/
theorem st25 : k0_pay25 (F := Ideal) (zt s x1) (tile s (val_main_v26_0 (F := Ideal) x0 x4 x5 x6)) (tile s (val_main_v27_2 (F := Ideal) x1)) (tile s x2) w = tile s (val_main_v41 (F := Ideal) x0 x1 x2 x4 x5 x6 x7) := by
  funext i
  idx_vars i
  show _ = (val_main_v41 (F := Ideal) x0 x1 x2 x4 x5 x6 x7) (ix2 (s i0) i1)
  pointwise [k0_pay25, st24 s x0 x1 x2 x4 x5 x6 x7 w hw, st23 s x0 x1 x2 x4 x5 x6 x7 w hw, val_main_v41, val_main_v40, val_main_cst_8, val_main_v39, tile_at, tileFrom_at]

include hw in
/-- The normalised residual stream. -/
theorem st26 : k0_pay26 (F := Ideal) (zt s x1) (tile s (val_main_v26_0 (F := Ideal) x0 x4 x5 x6)) (tile s (val_main_v27_2 (F := Ideal) x1)) (tile s x2) w = tile s (val_main_v43 (F := Ideal) x0 x1 x2 x4 x5 x6 x7) := by
  funext i
  idx_vars i
  show _ = (val_main_v43 (F := Ideal) x0 x1 x2 x4 x5 x6 x7) (ix2 (s i0) i1)
  pointwise [k0_pay26, st24 s x0 x1 x2 x4 x5 x6 x7 w hw, st22 s x0 x1 x2 x4 x5 x6 x7 w hw, val_main_v43, val_main_v42, tile_at, tileFrom_at]

include hw in
/-- The error against the target. -/
theorem st27 : k0_pay27 (F := Ideal) (zt s x1) (tile s (val_main_v26_0 (F := Ideal) x0 x4 x5 x6)) (tile s (val_main_v27_2 (F := Ideal) x1)) (tile s x2) w (tile s x3) x8 = tile s (val_main_v46 (F := Ideal) x0 x1 x2 x3 x4 x5 x6 x7 x8) := by
  funext i
  idx_vars i
  show _ = (val_main_v46 (F := Ideal) x0 x1 x2 x3 x4 x5 x6 x7 x8) (ix2 (s i0) i1)
  pointwise [k0_pay27, st26 s x0 x1 x2 x4 x5 x6 x7 w hw, val_main_v46, val_main_v45, val_main_v44, tile_at, tileFrom_at]

include hw in
/-- Twice the error. -/
theorem st28 : k0_pay28 (F := Ideal) (zt s x1) (tile s (val_main_v26_0 (F := Ideal) x0 x4 x5 x6)) (tile s (val_main_v27_2 (F := Ideal) x1)) (tile s x2) w (tile s x3) x8 = tile s (val_main_v49 (F := Ideal) x0 x1 x2 x3 x4 x5 x6 x7 x8) := by
  funext i
  idx_vars i
  show _ = (val_main_v49 (F := Ideal) x0 x1 x2 x3 x4 x5 x6 x7 x8) (ix2 (s i0) i1)
  pointwise [k0_pay28, st27 s x0 x1 x2 x3 x4 x5 x6 x7 w hw x8, val_main_v49, val_main_v48, val_main_cst_9, tile_at, tileFrom_at]

/-- The cotangent of the scaled normalised stream. -/
theorem st30 : k0_pay30 (F := Ideal) (tile s (val_main_v49 (F := Ideal) x0 x1 x2 x3 x4 x5 x6 x7 x8)) = tile s (val_main_v60 (F := Ideal) x0 x1 x2 x3 x4 x5 x6 x7 x8) := by
  funext i
  idx_vars i
  show _ = (val_main_v60 (F := Ideal) x0 x1 x2 x3 x4 x5 x6 x7 x8) (ix2 (s i0) i1)
  pointwise [k0_pay30, val_main_v60, val_main_v59, val_main_v58, val_main_v56, val_main_v55, val_main_cst_14, val_main_cst_15, val_main_v57, val_main_cst_16, tile_at, tileFrom_at]

/-- The gradient of the residual stream. -/
theorem st31 : k0_pay31 (F := Ideal) (tile s (val_main_v30 (F := Ideal) x0 x1 x2 x4 x5 x6 x7)) x8 (tile s (val_main_v38 (F := Ideal) x0 x1 x2 x4 x5 x6 x7)) (tile s (val_main_v41 (F := Ideal) x0 x1 x2 x4 x5 x6 x7)) (tile s (val_main_v49 (F := Ideal) x0 x1 x2 x3 x4 x5 x6 x7 x8)) = tile s (val_main_v79 (F := Ideal) x0 x1 x2 x3 x4 x5 x6 x7 x8) := by
  funext i
  idx_vars i
  show _ = (val_main_v79 (F := Ideal) x0 x1 x2 x3 x4 x5 x6 x7 x8) (ix2 (s i0) i1)
  pointwise [k0_pay31, st30, val_main_v79, val_main_v77, val_main_v70, val_main_v65, val_main_v64, val_main_v69, val_main_v76, val_main_v75, val_main_v74, val_main_v73, val_main_v71, val_main_v68, val_main_v67, val_main_v66, val_main_cst_18, val_main_v72, val_main_cst_19, val_main_cst_20, val_main_v78, tile_at, tileFrom_at]

include hw in
/-- The gradient sent back through the output projection. -/
theorem st34 : k0_pay34 (F := Ideal) (tile s (val_main_v79 (F := Ideal) x0 x1 x2 x3 x4 x5 x6 x7 x8)) w = tile s (val_main_v80 (F := Ideal) x0 x1 x2 x3 x4 x5 x6 x7 x8) := by
  funext i
  idx_vars i
  show _ = (val_main_v80 (F := Ideal) x0 x1 x2 x3 x4 x5 x6 x7 x8) (ix2 (s i0) i1)
  pointwise [k0_pay34, val_main_v80, hw, tile_at, tileFrom_at]

include hw in
/-- The gradient of the gate. -/
theorem st35 : k0_pay35 (F := Ideal) (zt s x1) (tile s (val_main_v26_0 (F := Ideal) x0 x4 x5 x6)) (tile s (val_main_v27_2 (F := Ideal) x1)) (tile s (val_main_v27_1 (F := Ideal) x1)) (tile s (val_main_v79 (F := Ideal) x0 x1 x2 x3 x4 x5 x6 x7 x8)) w = tile s (val_main_v83 (F := Ideal) x0 x1 x2 x3 x4 x5 x6 x7 x8) := by
  funext i
  idx_vars i
  show _ = (val_main_v83 (F := Ideal) x0 x1 x2 x3 x4 x5 x6 x7 x8) (ix2 (s i0) i1)
  pointwise [k0_pay35, zt, st34 s x0 x1 x2 x3 x4 x5 x6 x7 w hw x8, val_main_v83, val_main_call2_v1, val_main_v81, val_main_call2_v2, val_main_call2_v0, val_main_v0, tile_at, tileFrom_at]

include hw in
/-- The gradient of the scaled and shifted channel. -/
theorem st36 : k0_pay36 (F := Ideal) (tile s (val_main_v25 (F := Ideal) x0 x4 x5 x6)) (tile s (val_main_v26_2 (F := Ideal) x0 x4 x5 x6)) (tile s (val_main_v26_1 (F := Ideal) x0 x4 x5 x6)) (tile s (val_main_v27_0 (F := Ideal) x1)) (tile s (val_main_v79 (F := Ideal) x0 x1 x2 x3 x4 x5 x6 x7 x8)) w = tile s (val_main_v84 (F := Ideal) x0 x1 x2 x3 x4 x5 x6 x7 x8) := by
  funext i
  idx_vars i
  show _ = (val_main_v84 (F := Ideal) x0 x1 x2 x3 x4 x5 x6 x7 x8) (ix2 (s i0) i1)
  pointwise [k0_pay36, st34 s x0 x1 x2 x3 x4 x5 x6 x7 w hw x8, val_main_v84, val_main_call3_v1, val_main_v82, val_main_call3_v2, val_main_call3_v0, tile_at, tileFrom_at]

include hw in
/-- The gradient of the convolution's result. -/
theorem st39 : k0_pay39 (F := Ideal) x5 (tile s (val_main_v8 (F := Ideal) x0 x4)) (tile s (val_main_v16 (F := Ideal) x0 x4)) (tile s (val_main_v19 (F := Ideal) x0 x4)) (tile s (val_main_v25 (F := Ideal) x0 x4 x5 x6)) (tile s (val_main_v26_2 (F := Ideal) x0 x4 x5 x6)) (tile s (val_main_v26_1 (F := Ideal) x0 x4 x5 x6)) (tile s (val_main_v27_0 (F := Ideal) x1)) (tile s (val_main_v79 (F := Ideal) x0 x1 x2 x3 x4 x5 x6 x7 x8)) w = tile s (val_main_v113 (F := Ideal) x0 x1 x2 x3 x4 x5 x6 x7 x8) := by
  funext i
  idx_vars i
  show _ = (val_main_v113 (F := Ideal) x0 x1 x2 x3 x4 x5 x6 x7 x8) (ix2 (s i0) i1)
  pointwise [k0_pay39, st36 s x0 x1 x2 x3 x4 x5 x6 x7 w hw x8, val_main_v113, val_main_v105, val_main_v103, val_main_v96, val_main_v91, val_main_v90, val_main_v95, val_main_v102, val_main_v101, val_main_v100, val_main_v99, val_main_v97, val_main_v94, val_main_v93, val_main_v92, val_main_cst_23, val_main_v98, val_main_cst_24, val_main_cst_25, val_main_v104, val_main_v112, val_main_v111, val_main_v110, val_main_v108, val_main_v107, val_main_v106, val_main_cst_26, val_main_v109, val_main_cst_27, val_main_cst_28, tile_at, tileFrom_at]
  simp only [zero_sub]

include hw in
/-- One tile's part of the gradient of the convolution's bias. -/
theorem acc1 (a : FVec Ideal S1x1024 .f32) (r : Fin 1) (l : Fin 1024) : k0_pay1 (F := Ideal) (k0_pay40 (F := Ideal) x5 (tile s (val_main_v8 (F := Ideal) x0 x4)) (tile s (val_main_v16 (F := Ideal) x0 x4)) (tile s (val_main_v19 (F := Ideal) x0 x4)) (tile s (val_main_v25 (F := Ideal) x0 x4 x5 x6)) (tile s (val_main_v26_2 (F := Ideal) x0 x4 x5 x6)) (tile s (val_main_v26_1 (F := Ideal) x0 x4 x5 x6)) (tile s (val_main_v27_0 (F := Ideal) x1)) (tile s (val_main_v79 (F := Ideal) x0 x1 x2 x3 x4 x5 x6 x7 x8)) w) a (ix2 r l) = a (ix2 r l) + ∑ k : Fin 256, (val_main_v113 (F := Ideal) x0 x1 x2 x3 x4 x5 x6 x7 x8) (ix2 (s k) l) := by
  pointwise [k0_pay1, k0_pay40, st39 s x0 x1 x2 x3 x4 x5 x6 x7 w hw x8, tile_at]

include hw in
/-- One tile's part of the gradient of the scale. -/
theorem acc2 (a : FVec Ideal S1x1024 .f32) (r : Fin 1) (l : Fin 1024) : k0_pay2 (F := Ideal) (k0_pay38 (F := Ideal) (tile s (val_main_v21 (F := Ideal) x0 x4)) (tile s (val_main_v25 (F := Ideal) x0 x4 x5 x6)) (tile s (val_main_v26_2 (F := Ideal) x0 x4 x5 x6)) (tile s (val_main_v26_1 (F := Ideal) x0 x4 x5 x6)) (tile s (val_main_v27_0 (F := Ideal) x1)) (tile s (val_main_v79 (F := Ideal) x0 x1 x2 x3 x4 x5 x6 x7 x8)) w) a (ix2 r l) = a (ix2 r l) + ∑ k : Fin 256, (val_main_v87 (F := Ideal) x0 x1 x2 x3 x4 x5 x6 x7 x8) (ix2 (s k) l) := by
  pointwise [k0_pay2, k0_pay38, st36 s x0 x1 x2 x3 x4 x5 x6 x7 w hw x8, val_main_v87, tile_at]

include hw in
/-- One tile's part of the gradient of the shift. -/
theorem acc3 (a : FVec Ideal S1x1024 .f32) (r : Fin 1) (l : Fin 1024) : k0_pay3 (F := Ideal) (k0_pay37 (F := Ideal) (tile s (val_main_v25 (F := Ideal) x0 x4 x5 x6)) (tile s (val_main_v26_2 (F := Ideal) x0 x4 x5 x6)) (tile s (val_main_v26_1 (F := Ideal) x0 x4 x5 x6)) (tile s (val_main_v27_0 (F := Ideal) x1)) (tile s (val_main_v79 (F := Ideal) x0 x1 x2 x3 x4 x5 x6 x7 x8)) w) a (ix2 r l) = a (ix2 r l) + ∑ k : Fin 256, (val_main_v84 (F := Ideal) x0 x1 x2 x3 x4 x5 x6 x7 x8) (ix2 (s k) l) := by
  pointwise [k0_pay3, k0_pay37, st36 s x0 x1 x2 x3 x4 x5 x6 x7 w hw x8, tile_at]

/-- One tile's part of the gradient of the last scale. -/
theorem acc33 (a : FVec Ideal S1x1024 .f32) (r : Fin 1) (l : Fin 1024) : k0_pay33 (F := Ideal) (tile s (val_main_v43 (F := Ideal) x0 x1 x2 x4 x5 x6 x7)) (tile s (val_main_v49 (F := Ideal) x0 x1 x2 x3 x4 x5 x6 x7 x8)) a (ix2 r l) = a (ix2 r l) + ∑ k : Fin 256, (val_main_v61 (F := Ideal) x0 x1 x2 x3 x4 x5 x6 x7 x8) (ix2 (s k) l) := by
  pointwise [k0_pay33, st30, val_main_v61, tile_at]

include hw in
/-- One tile's part of the loss. -/
theorem acc32 (a : FVec Ideal ⟨2, ![8, 128]⟩ .f32) (r : Fin 8) (l : Fin 128) : k0_pay32 (F := Ideal) (k0_pay29 (F := Ideal) (zt s x1) (tile s (val_main_v26_0 (F := Ideal) x0 x4 x5 x6)) (tile s (val_main_v27_2 (F := Ideal) x1)) (tile s x2) w (tile s x3) x8) a (ix2 r l)
    = a (ix2 r l) + Ideal.ofBits .f32 0x3F000000#32 * ∑ k : Fin 256, (val_main_v52 (F := Ideal) x0 x1 x2 x3 x4 x5 x6 x7 x8) (ix1 (s k)) := by
  pointwise [k0_pay32, k0_pay29, st27 s x0 x1 x2 x3 x4 x5 x6 x7 w hw x8, val_main_v52, val_main_v50, val_main_v47, val_main_cst_10, val_main_v51, val_main_cst_11, tile_at]

/-- The reference's gradient of the bias. -/
theorem ref115 (r : Fin 1) (l : Fin 1024) : (val_main_v115 (F := Ideal) x0 x1 x2 x3 x4 x5 x6 x7 x8) (ix2 r l) = ∑ k : Fin 8192, (val_main_v113 (F := Ideal) x0 x1 x2 x3 x4 x5 x6 x7 x8) (ix2 k l) := by
  pointwise [val_main_v115, val_main_v114, val_main_cst_29]

/-- The reference's gradient of the scale. -/
theorem ref89 (r : Fin 1) (l : Fin 1024) : (val_main_v89 (F := Ideal) x0 x1 x2 x3 x4 x5 x6 x7 x8) (ix2 r l) = ∑ k : Fin 8192, (val_main_v87 (F := Ideal) x0 x1 x2 x3 x4 x5 x6 x7 x8) (ix2 k l) := by
  pointwise [val_main_v89, val_main_v88, val_main_cst_22]

/-- The reference's gradient of the shift. -/
theorem ref86 (r : Fin 1) (l : Fin 1024) : (val_main_v86 (F := Ideal) x0 x1 x2 x3 x4 x5 x6 x7 x8) (ix2 r l) = ∑ k : Fin 8192, (val_main_v84 (F := Ideal) x0 x1 x2 x3 x4 x5 x6 x7 x8) (ix2 k l) := by
  pointwise [val_main_v86, val_main_v85, val_main_cst_21]

/-- The reference's gradient of the last scale. -/
theorem ref63 (r : Fin 1) (l : Fin 1024) : (val_main_v63 (F := Ideal) x0 x1 x2 x3 x4 x5 x6 x7 x8) (ix2 r l) = ∑ k : Fin 8192, (val_main_v61 (F := Ideal) x0 x1 x2 x3 x4 x5 x6 x7 x8) (ix2 k l) := by
  pointwise [val_main_v63, val_main_v62, val_main_cst_17]

/-- The reference's loss. -/
theorem ref117 (r : Fin 8) (l : Fin 128) : (val_main_v117 (F := Ideal) x0 x1 x2 x3 x4 x5 x6 x7 x8) (ix2 r l) = Ideal.ofBits .f32 0x3F000000#32 * ∑ k : Fin 8192, (val_main_v52 (F := Ideal) x0 x1 x2 x3 x4 x5 x6 x7 x8) (ix1 k) := by
  pointwise [val_main_v117, val_main_v54, val_main_cst_13, val_main_v53, val_main_cst_12]

end Cert.Proof.OddOut

end
-- ==== Proof.OddOut.lean ====
/- The odd layer's output half, the loss head and the gradient of both: the call and the reference leave equal results. -/
module

public import proofs.«01_k».proof.Defs
public import proofs.«01_k».proof.Proof.Gen.OddOutGradIdeal.Run
public import proofs.«01_k».proof.Proof.OddOutRows
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.OddOut

open Cert.OddOutIdeal Cert.OddOutIdeal.Gen Cert.OddOutGradIdeal.Read Cert.Tiles

variable (m : (ℓ : Loc nD τ sig) → Buf (Elt Ideal) ℓ)

/-- Grid point `t` reads and writes tile `t` of the arrays of tokens, and the whole of the others. -/
theorem idx : ∀ t : Fin cfg0.N, win0_0.index t = ![t.val, 0] ∧ win0_1.index t = ![t.val, 2] ∧ win0_2.index t = ![t.val, 0] ∧ win0_3.index t = ![t.val, 0]
    ∧ win0_4.index t = ![0, 0] ∧ win0_5.index t = ![0, 0] ∧ win0_6.index t = ![0, 0] ∧ win0_7.index t = ![0, 0] ∧ win0_8.index t = ![0, 0]
    ∧ win0_9.index t = ![t.val, 0] ∧ win0_10.index t = ![t.val, 0] ∧ win0_11.index t = ![t.val, 0] ∧ win0_12.index t = ![t.val, 0]
    ∧ win0_13.index t = ![0, 0] ∧ win0_14.index t = ![0, 0] ∧ win0_15.index t = ![0, 0] ∧ win0_16.index t = ![0, 0] ∧ win0_17.index t = ![0, 0] :=
  (by decide +kernel : ∀ t : Fin grid0.N, _)

/-- Row `r` of tile `t`, in the whole array. -/
def row (t : Fin cfg0.N) (r : Fin 256) : Fin 8192 := ⟨t.val * 256 + r.val, by have := lt_of_lt_of_eq t.isLt N_0; omega⟩

/-- What grid point `t` reads of the array of tokens number 0 is its tile. -/
theorem rd0 (c : Dev nD) (t : Fin cfg0.N) : iblk m c 0 t = tile (φ := .f32) (row t) (V m c main_arg0) := by
  funext i
  idx_vars i
  show _ = V m c main_arg0 (ix2 (row t i0) i1)
  blk_ext [iblk, idx t, row]

/-- What grid point `t` reads of the array of tokens number 2 is its tile. -/
theorem rd2 (c : Dev nD) (t : Fin cfg0.N) : iblk m c 2 t = tile (φ := .f32) (row t) (V m c main_arg2) := by
  funext i
  idx_vars i
  show _ = V m c main_arg2 (ix2 (row t i0) i1)
  blk_ext [iblk, idx t, row]

/-- What grid point `t` reads of the array of tokens number 3 is its tile. -/
theorem rd3 (c : Dev nD) (t : Fin cfg0.N) : iblk m c 3 t = tile (φ := .f32) (row t) (V m c main_arg3) := by
  funext i
  idx_vars i
  show _ = V m c main_arg3 (ix2 (row t i0) i1)
  blk_ext [iblk, idx t, row]

/-- What it reads of the projection is the gate's third of the tile. -/
theorem rd1 (c : Dev nD) (t : Fin cfg0.N) : iblk m c 1 t = zt (row t) (V m c main_arg1) := by
  funext i
  idx_vars i
  show _ = V m c main_arg1 (ix2 (row t i0) ⟨2048 + i1.val, by omega⟩)
  blk_ext [iblk, idx t, row]

/-- Operand 4 is read whole. -/
theorem rd4 (c : Dev nD) (t : Fin cfg0.N) : iblk m c 4 t = V m c main_arg4 := by
  funext i
  idx_vars i
  blk_ext [iblk, idx t, row]

/-- Operand 5 is read whole. -/
theorem rd5 (c : Dev nD) (t : Fin cfg0.N) : iblk m c 5 t = V m c main_arg5 := by
  funext i
  idx_vars i
  blk_ext [iblk, idx t, row]

/-- Operand 6 is read whole. -/
theorem rd6 (c : Dev nD) (t : Fin cfg0.N) : iblk m c 6 t = V m c main_arg6 := by
  funext i
  idx_vars i
  blk_ext [iblk, idx t, row]

/-- Operand 7 is read whole. -/
theorem rd7 (c : Dev nD) (t : Fin cfg0.N) : iblk m c 7 t = V m c main_v0 := by
  funext i
  idx_vars i
  blk_ext [iblk, idx t, row]

/-- Operand 8 is read whole. -/
theorem rd8 (c : Dev nD) (t : Fin cfg0.N) : iblk m c 8 t = V m c main_arg8 := by
  funext i
  idx_vars i
  blk_ext [iblk, idx t, row]

/-- Over the extended reals the cast weight is the weight. -/
theorem hw (c : Dev nD) (i : S1024x1024.Idx) : V m c main_v0 i = V m c main_arg7 i := by
  revert i
  refine congrFun ?_
  rw [V_main_arg7]
  entry_read
  rfl

/-- Where entry `(r, l)` of point `t`'s block of result 9 lies. -/
theorem emb9 (t : Fin cfg0.N) (r : Fin 256) (l : Fin 1024) : ((View.whole main_v1_0).slice (win0_9.rect t)).emb (ix2 r l) = ix2 (row t r) l := by
  blk_ext [idx t, row]

/-- Grid point `t` leaves its tile of the gradient of the convolution. -/
theorem out9 (c : Dev nD) (t : Fin cfg0.N) : (outsAt0 m c t.val t.isLt).1 = tile (φ := .f32) (row t) (val_main_v113 (F := Ideal) (V m c main_arg0) (V m c main_arg1) (V m c main_arg2) (V m c main_arg3) (V m c main_arg4) (V m c main_arg5) (V m c main_arg6) (V m c main_arg7) (V m c main_arg8)) := by
  funext i
  by_cases h : t.val % 32 = 0
  · rw [outsAt0_A m c t h]
    frame_out
    simp only [rd0, rd1, rd2, rd3, rd4, rd5, rd6, rd7, rd8, st9, st10, st11, st12, st13, st14, st15, st16, st17, st18, st19, st20, st21, st30, st31, st22 (hw := hw m c), st23 (hw := hw m c), st24 (hw := hw m c), st25 (hw := hw m c), st26 (hw := hw m c), st27 (hw := hw m c), st28 (hw := hw m c), st34 (hw := hw m c), st35 (hw := hw m c), st36 (hw := hw m c), st39 (hw := hw m c)]
  · rw [outsAt0_B m c t h]
    frame_out
    simp only [rd0, rd1, rd2, rd3, rd4, rd5, rd6, rd7, rd8, st9, st10, st11, st12, st13, st14, st15, st16, st17, st18, st19, st20, st21, st30, st31, st22 (hw := hw m c), st23 (hw := hw m c), st24 (hw := hw m c), st25 (hw := hw m c), st26 (hw := hw m c), st27 (hw := hw m c), st28 (hw := hw m c), st34 (hw := hw m c), st35 (hw := hw m c), st36 (hw := hw m c), st39 (hw := hw m c)]

/-- So the call leaves the gradient of the convolution. -/
theorem fin9 (c : Dev nD) : (dats m 0 c).arrAt 9 (cfgs 0).N = (val_main_v113 (F := Ideal) (V m c main_arg0) (V m c main_arg1) (V m c main_arg2) (V m c main_arg3) (V m c main_arg4) (V m c main_arg5) (V m c main_arg6) (V m c main_arg7) (V m c main_arg8)) := by
  refine (dats m 0 c).arrAt_eq_of_covers 9 _ (by decide +kernel) fun t hf y => ?_
  blk_simp
  rw [after0_9, out9]
  idx_vars y
  have he := emb9 t y0 y1
  change ((View.whole main_v1_0).slice (win0_9.rect t)).emb (ix2 y0 y1) = _ at he
  rw [he]
  rfl

/-- Where entry `(r, l)` of point `t`'s block of result 10 lies. -/
theorem emb10 (t : Fin cfg0.N) (r : Fin 256) (l : Fin 1024) : ((View.whole main_v1_1).slice (win0_10.rect t)).emb (ix2 r l) = ix2 (row t r) l := by
  blk_ext [idx t, row]

/-- Grid point `t` leaves its tile of the gradient of the gate. -/
theorem out10 (c : Dev nD) (t : Fin cfg0.N) : (outsAt0 m c t.val t.isLt).2.1 = tile (φ := .f32) (row t) (val_main_v83 (F := Ideal) (V m c main_arg0) (V m c main_arg1) (V m c main_arg2) (V m c main_arg3) (V m c main_arg4) (V m c main_arg5) (V m c main_arg6) (V m c main_arg7) (V m c main_arg8)) := by
  funext i
  by_cases h : t.val % 32 = 0
  · rw [outsAt0_A m c t h]
    frame_out
    simp only [rd0, rd1, rd2, rd3, rd4, rd5, rd6, rd7, rd8, st9, st10, st11, st12, st13, st14, st15, st16, st17, st18, st19, st20, st21, st30, st31, st22 (hw := hw m c), st23 (hw := hw m c), st24 (hw := hw m c), st25 (hw := hw m c), st26 (hw := hw m c), st27 (hw := hw m c), st28 (hw := hw m c), st34 (hw := hw m c), st35 (hw := hw m c), st36 (hw := hw m c), st39 (hw := hw m c)]
  · rw [outsAt0_B m c t h]
    frame_out
    simp only [rd0, rd1, rd2, rd3, rd4, rd5, rd6, rd7, rd8, st9, st10, st11, st12, st13, st14, st15, st16, st17, st18, st19, st20, st21, st30, st31, st22 (hw := hw m c), st23 (hw := hw m c), st24 (hw := hw m c), st25 (hw := hw m c), st26 (hw := hw m c), st27 (hw := hw m c), st28 (hw := hw m c), st34 (hw := hw m c), st35 (hw := hw m c), st36 (hw := hw m c), st39 (hw := hw m c)]

/-- So the call leaves the gradient of the gate. -/
theorem fin10 (c : Dev nD) : (dats m 0 c).arrAt 10 (cfgs 0).N = (val_main_v83 (F := Ideal) (V m c main_arg0) (V m c main_arg1) (V m c main_arg2) (V m c main_arg3) (V m c main_arg4) (V m c main_arg5) (V m c main_arg6) (V m c main_arg7) (V m c main_arg8)) := by
  refine (dats m 0 c).arrAt_eq_of_covers 10 _ (by decide +kernel) fun t hf y => ?_
  blk_simp
  rw [after0_10, out10]
  idx_vars y
  have he := emb10 t y0 y1
  change ((View.whole main_v1_1).slice (win0_10.rect t)).emb (ix2 y0 y1) = _ at he
  rw [he]
  rfl

/-- Where entry `(r, l)` of point `t`'s block of result 11 lies. -/
theorem emb11 (t : Fin cfg0.N) (r : Fin 256) (l : Fin 1024) : ((View.whole main_v1_2).slice (win0_11.rect t)).emb (ix2 r l) = ix2 (row t r) l := by
  blk_ext [idx t, row]

/-- Grid point `t` leaves its tile of the gradient of the residual stream. -/
theorem out11 (c : Dev nD) (t : Fin cfg0.N) : (outsAt0 m c t.val t.isLt).2.2.1 = tile (φ := .f32) (row t) (val_main_v79 (F := Ideal) (V m c main_arg0) (V m c main_arg1) (V m c main_arg2) (V m c main_arg3) (V m c main_arg4) (V m c main_arg5) (V m c main_arg6) (V m c main_arg7) (V m c main_arg8)) := by
  funext i
  by_cases h : t.val % 32 = 0
  · rw [outsAt0_A m c t h]
    frame_out
    simp only [rd0, rd1, rd2, rd3, rd4, rd5, rd6, rd7, rd8, st9, st10, st11, st12, st13, st14, st15, st16, st17, st18, st19, st20, st21, st30, st31, st22 (hw := hw m c), st23 (hw := hw m c), st24 (hw := hw m c), st25 (hw := hw m c), st26 (hw := hw m c), st27 (hw := hw m c), st28 (hw := hw m c), st34 (hw := hw m c), st35 (hw := hw m c), st36 (hw := hw m c), st39 (hw := hw m c)]
  · rw [outsAt0_B m c t h]
    frame_out
    simp only [rd0, rd1, rd2, rd3, rd4, rd5, rd6, rd7, rd8, st9, st10, st11, st12, st13, st14, st15, st16, st17, st18, st19, st20, st21, st30, st31, st22 (hw := hw m c), st23 (hw := hw m c), st24 (hw := hw m c), st25 (hw := hw m c), st26 (hw := hw m c), st27 (hw := hw m c), st28 (hw := hw m c), st34 (hw := hw m c), st35 (hw := hw m c), st36 (hw := hw m c), st39 (hw := hw m c)]

/-- So the call leaves the gradient of the residual stream. -/
theorem fin11 (c : Dev nD) : (dats m 0 c).arrAt 11 (cfgs 0).N = (val_main_v79 (F := Ideal) (V m c main_arg0) (V m c main_arg1) (V m c main_arg2) (V m c main_arg3) (V m c main_arg4) (V m c main_arg5) (V m c main_arg6) (V m c main_arg7) (V m c main_arg8)) := by
  refine (dats m 0 c).arrAt_eq_of_covers 11 _ (by decide +kernel) fun t hf y => ?_
  blk_simp
  rw [after0_11, out11]
  idx_vars y
  have he := emb11 t y0 y1
  change ((View.whole main_v1_2).slice (win0_11.rect t)).emb (ix2 y0 y1) = _ at he
  rw [he]
  rfl

/-- Where entry `(r, l)` of point `t`'s block of result 12 lies. -/
theorem emb12 (t : Fin cfg0.N) (r : Fin 256) (l : Fin 1024) : ((View.whole main_v1_3).slice (win0_12.rect t)).emb (ix2 r l) = ix2 (row t r) l := by
  blk_ext [idx t, row]

/-- Grid point `t` leaves its tile of the gated product. -/
theorem out12 (c : Dev nD) (t : Fin cfg0.N) : (outsAt0 m c t.val t.isLt).2.2.2.1 = tile (φ := .bf16) (row t) (val_main_v116 (F := Ideal) (V m c main_arg0) (V m c main_arg1) (V m c main_arg4) (V m c main_arg5) (V m c main_arg6)) := by
  funext i
  by_cases h : t.val % 32 = 0
  · rw [outsAt0_A m c t h]
    frame_out
    simp only [rd0, rd1, rd2, rd3, rd4, rd5, rd6, rd7, rd8, st9, st10, st11, st12, st13, st14, st15, st16, st17, st18, st19, st20, st21, st30, st31, st22 (hw := hw m c), st23 (hw := hw m c), st24 (hw := hw m c), st25 (hw := hw m c), st26 (hw := hw m c), st27 (hw := hw m c), st28 (hw := hw m c), st34 (hw := hw m c), st35 (hw := hw m c), st36 (hw := hw m c), st39 (hw := hw m c)]
  · rw [outsAt0_B m c t h]
    frame_out
    simp only [rd0, rd1, rd2, rd3, rd4, rd5, rd6, rd7, rd8, st9, st10, st11, st12, st13, st14, st15, st16, st17, st18, st19, st20, st21, st30, st31, st22 (hw := hw m c), st23 (hw := hw m c), st24 (hw := hw m c), st25 (hw := hw m c), st26 (hw := hw m c), st27 (hw := hw m c), st28 (hw := hw m c), st34 (hw := hw m c), st35 (hw := hw m c), st36 (hw := hw m c), st39 (hw := hw m c)]

/-- So the call leaves the gated product. -/
theorem fin12 (c : Dev nD) : (dats m 0 c).arrAt 12 (cfgs 0).N = (val_main_v116 (F := Ideal) (V m c main_arg0) (V m c main_arg1) (V m c main_arg4) (V m c main_arg5) (V m c main_arg6)) := by
  refine (dats m 0 c).arrAt_eq_of_covers 12 _ (by decide +kernel) fun t hf y => ?_
  blk_simp
  rw [after0_12, out12]
  idx_vars y
  have he := emb12 t y0 y1
  change ((View.whole main_v1_3).slice (win0_12.rect t)).emb (ix2 y0 y1) = _ at he
  rw [he]
  rfl

/-- Where entry `(r, l)` of the block of result 13 lies. -/
theorem emb13 (t : Fin cfg0.N) (r : Fin 8) (l : Fin 128) : ((View.whole main_v1_4).slice (win0_13.rect t)).emb (ix2 r l) = ix2 r l := by
  blk_ext [idx t, row]

/-- What token `k` adds to the loss. -/
def term13 (c : Dev nD) (i : S8x128.Idx) (k : Fin 8192) : EReal := Ideal.ofBits .f32 0x3F000000#32 * (val_main_v52 (F := Ideal) (V m c main_arg0) (V m c main_arg1) (V m c main_arg2) (V m c main_arg3) (V m c main_arg4) (V m c main_arg5) (V m c main_arg6) (V m c main_arg7) (V m c main_arg8)) (ix1 k)

/-- What tile `t` adds to it. -/
def part13 (c : Dev nD) (t : Fin cfg0.N) (i : S8x128.Idx) : EReal := ∑ k : Fin 256, term13 m c i (row t k)

/-- The first tile starts the sum. -/
theorem acc13_A (c : Dev nD) (t : Fin cfg0.N) (h : t.val % 32 = 0) (i : S8x128.Idx) :
    (outsAt0 m c t.val t.isLt).2.2.2.2.1 i = 0 + part13 m c t i := by
  rw [outsAt0_A m c t h]
  frame_out
  idx_vars i
  simp only [rd0, rd1, rd2, rd3, rd4, rd5, rd6, rd7, rd8, st9, st10, st11, st12, st13, st14, st15, st16, st17, st18, st19, st20, st21, st30, st31, st22 (hw := hw m c), st23 (hw := hw m c), st24 (hw := hw m c), st25 (hw := hw m c), st26 (hw := hw m c), st27 (hw := hw m c), st28 (hw := hw m c), st34 (hw := hw m c), st35 (hw := hw m c), st36 (hw := hw m c), st39 (hw := hw m c)]
  refine (acc32 (hw := hw m c) ..).trans ?_
  rw [mul_sum_of_real _ half_nonneg half_ne_top]
  pointwise [k0_pay4, k0_pay5, k0_pay6, k0_pay7, k0_pay8]
  rfl

/-- Every further tile adds to it. -/
theorem acc13_B (c : Dev nD) (t : Fin cfg0.N) (h : ¬t.val % 32 = 0) (i : S8x128.Idx) :
    (outsAt0 m c t.val t.isLt).2.2.2.2.1 i = (outsAt0 m c (t.val - 1) (Nat.lt_of_le_of_lt (Nat.sub_le _ _) t.isLt)).2.2.2.2.1 i + part13 m c t i := by
  rw [outsAt0_B m c t h]
  frame_out
  idx_vars i
  simp only [rd0, rd1, rd2, rd3, rd4, rd5, rd6, rd7, rd8, st9, st10, st11, st12, st13, st14, st15, st16, st17, st18, st19, st20, st21, st30, st31, st22 (hw := hw m c), st23 (hw := hw m c), st24 (hw := hw m c), st25 (hw := hw m c), st26 (hw := hw m c), st27 (hw := hw m c), st28 (hw := hw m c), st34 (hw := hw m c), st35 (hw := hw m c), st36 (hw := hw m c), st39 (hw := hw m c)]
  refine (acc32 (hw := hw m c) ..).trans ?_
  rw [mul_sum_of_real _ half_nonneg half_ne_top]
  rfl

/-- The sum over all tokens is the reference's. -/
theorem ref13 (c : Dev nD) (i : S8x128.Idx) : ∑ k : Fin 8192, term13 m c i k = (val_main_v117 (F := Ideal) (V m c main_arg0) (V m c main_arg1) (V m c main_arg2) (V m c main_arg3) (V m c main_arg4) (V m c main_arg5) (V m c main_arg6) (V m c main_arg7) (V m c main_arg8)) i := by
  idx_vars i
  refine Eq.trans ?_ (ref117 ..).symm
  rw [mul_sum_of_real _ half_nonneg half_ne_top]
  rfl

/-- So the call leaves the loss. -/
theorem fin13 (c : Dev nD) : (dats m 0 c).arrAt 13 (cfgs 0).N = (val_main_v117 (F := Ideal) (V m c main_arg0) (V m c main_arg1) (V m c main_arg2) (V m c main_arg3) (V m c main_arg4) (V m c main_arg5) (V m c main_arg6) (V m c main_arg7) (V m c main_arg8)) := by
  refine (dats m 0 c).arrAt_eq_of_covers 13 _ (by decide +kernel) fun t hf y => ?_
  blk_simp
  rw [after0_13]
  have hl : t.val % 32 = 31 := (flush0_13 t).mp hf
  have hsum := Pipeline.eq_sum_fin_of_reset_step_apply_of_flush (ι := S8x128.Idx) (M := EReal)
    (fun n h => (outsAt0 m c n h).2.2.2.2.1) 32 (fun _ => 0) (part13 m c) (acc13_A m c) (acc13_B m c) t hl
  idx_vars y
  refine (hsum _).trans ?_
  have he := emb13 t y0 y1
  change ((View.whole main_v1_4).slice (win0_13.rect t)).emb (ix2 y0 y1) = _ at he
  rw [he, ← ref13]
  refine (zero_add _).trans (Fin.sum_mul_add_congr (n := 256) (L := 8192) (M := EReal) fun s k hl => ?_)
  refine congrArg (term13 m c (ix2 y0 y1)) (Fin.ext ?_)
  show (32 * (t.val / 32) + s.val) * 256 + k.val = s.val * 256 + k.val
  have := lt_of_lt_of_eq t.isLt N_0
  omega

/-- Where entry `(r, l)` of the block of result 14 lies. -/
theorem emb14 (t : Fin cfg0.N) (r : Fin 1) (l : Fin 1024) : ((View.whole main_v1_5).slice (win0_14.rect t)).emb (ix2 r l) = ix2 r l := by
  blk_ext [idx t, row]

/-- What token `k` adds to the gradient of the convolution's bias. -/
def term14 (c : Dev nD) (i : S1x1024.Idx) (k : Fin 8192) : EReal := (val_main_v113 (F := Ideal) (V m c main_arg0) (V m c main_arg1) (V m c main_arg2) (V m c main_arg3) (V m c main_arg4) (V m c main_arg5) (V m c main_arg6) (V m c main_arg7) (V m c main_arg8)) (ix2 k (i 1))

/-- What tile `t` adds to it. -/
def part14 (c : Dev nD) (t : Fin cfg0.N) (i : S1x1024.Idx) : EReal := ∑ k : Fin 256, term14 m c i (row t k)

/-- The first tile starts the sum. -/
theorem acc14_A (c : Dev nD) (t : Fin cfg0.N) (h : t.val % 32 = 0) (i : S1x1024.Idx) :
    (outsAt0 m c t.val t.isLt).2.2.2.2.2.1 i = 0 + part14 m c t i := by
  rw [outsAt0_A m c t h]
  frame_out
  idx_vars i
  simp only [rd0, rd1, rd2, rd3, rd4, rd5, rd6, rd7, rd8, st9, st10, st11, st12, st13, st14, st15, st16, st17, st18, st19, st20, st21, st30, st31, st22 (hw := hw m c), st23 (hw := hw m c), st24 (hw := hw m c), st25 (hw := hw m c), st26 (hw := hw m c), st27 (hw := hw m c), st28 (hw := hw m c), st34 (hw := hw m c), st35 (hw := hw m c), st36 (hw := hw m c), st39 (hw := hw m c)]
  refine (acc1 (hw := hw m c) ..).trans ?_
  skip
  pointwise [k0_pay4, k0_pay5, k0_pay6, k0_pay7, k0_pay8]
  rfl

/-- Every further tile adds to it. -/
theorem acc14_B (c : Dev nD) (t : Fin cfg0.N) (h : ¬t.val % 32 = 0) (i : S1x1024.Idx) :
    (outsAt0 m c t.val t.isLt).2.2.2.2.2.1 i = (outsAt0 m c (t.val - 1) (Nat.lt_of_le_of_lt (Nat.sub_le _ _) t.isLt)).2.2.2.2.2.1 i + part14 m c t i := by
  rw [outsAt0_B m c t h]
  frame_out
  idx_vars i
  simp only [rd0, rd1, rd2, rd3, rd4, rd5, rd6, rd7, rd8, st9, st10, st11, st12, st13, st14, st15, st16, st17, st18, st19, st20, st21, st30, st31, st22 (hw := hw m c), st23 (hw := hw m c), st24 (hw := hw m c), st25 (hw := hw m c), st26 (hw := hw m c), st27 (hw := hw m c), st28 (hw := hw m c), st34 (hw := hw m c), st35 (hw := hw m c), st36 (hw := hw m c), st39 (hw := hw m c)]
  refine (acc1 (hw := hw m c) ..).trans ?_
  skip
  rfl

/-- The sum over all tokens is the reference's. -/
theorem ref14 (c : Dev nD) (i : S1x1024.Idx) : ∑ k : Fin 8192, term14 m c i k = (val_main_v115 (F := Ideal) (V m c main_arg0) (V m c main_arg1) (V m c main_arg2) (V m c main_arg3) (V m c main_arg4) (V m c main_arg5) (V m c main_arg6) (V m c main_arg7) (V m c main_arg8)) i := by
  idx_vars i
  refine Eq.trans ?_ (ref115 ..).symm
  skip
  rfl

/-- So the call leaves the gradient of the convolution's bias. -/
theorem fin14 (c : Dev nD) : (dats m 0 c).arrAt 14 (cfgs 0).N = (val_main_v115 (F := Ideal) (V m c main_arg0) (V m c main_arg1) (V m c main_arg2) (V m c main_arg3) (V m c main_arg4) (V m c main_arg5) (V m c main_arg6) (V m c main_arg7) (V m c main_arg8)) := by
  refine (dats m 0 c).arrAt_eq_of_covers 14 _ (by decide +kernel) fun t hf y => ?_
  blk_simp
  rw [after0_14]
  have hl : t.val % 32 = 31 := (flush0_14 t).mp hf
  have hsum := Pipeline.eq_sum_fin_of_reset_step_apply_of_flush (ι := S1x1024.Idx) (M := EReal)
    (fun n h => (outsAt0 m c n h).2.2.2.2.2.1) 32 (fun _ => 0) (part14 m c) (acc14_A m c) (acc14_B m c) t hl
  idx_vars y
  refine (hsum _).trans ?_
  have he := emb14 t y0 y1
  change ((View.whole main_v1_5).slice (win0_14.rect t)).emb (ix2 y0 y1) = _ at he
  rw [he, ← ref14]
  refine (zero_add _).trans (Fin.sum_mul_add_congr (n := 256) (L := 8192) (M := EReal) fun s k hl => ?_)
  refine congrArg (term14 m c (ix2 y0 y1)) (Fin.ext ?_)
  show (32 * (t.val / 32) + s.val) * 256 + k.val = s.val * 256 + k.val
  have := lt_of_lt_of_eq t.isLt N_0
  omega

/-- Where entry `(r, l)` of the block of result 15 lies. -/
theorem emb15 (t : Fin cfg0.N) (r : Fin 1) (l : Fin 1024) : ((View.whole main_v1_6).slice (win0_15.rect t)).emb (ix2 r l) = ix2 r l := by
  blk_ext [idx t, row]

/-- What token `k` adds to the gradient of the scale. -/
def term15 (c : Dev nD) (i : S1x1024.Idx) (k : Fin 8192) : EReal := (val_main_v87 (F := Ideal) (V m c main_arg0) (V m c main_arg1) (V m c main_arg2) (V m c main_arg3) (V m c main_arg4) (V m c main_arg5) (V m c main_arg6) (V m c main_arg7) (V m c main_arg8)) (ix2 k (i 1))

/-- What tile `t` adds to it. -/
def part15 (c : Dev nD) (t : Fin cfg0.N) (i : S1x1024.Idx) : EReal := ∑ k : Fin 256, term15 m c i (row t k)

/-- The first tile starts the sum. -/
theorem acc15_A (c : Dev nD) (t : Fin cfg0.N) (h : t.val % 32 = 0) (i : S1x1024.Idx) :
    (outsAt0 m c t.val t.isLt).2.2.2.2.2.2.1 i = 0 + part15 m c t i := by
  rw [outsAt0_A m c t h]
  frame_out
  idx_vars i
  simp only [rd0, rd1, rd2, rd3, rd4, rd5, rd6, rd7, rd8, st9, st10, st11, st12, st13, st14, st15, st16, st17, st18, st19, st20, st21, st30, st31, st22 (hw := hw m c), st23 (hw := hw m c), st24 (hw := hw m c), st25 (hw := hw m c), st26 (hw := hw m c), st27 (hw := hw m c), st28 (hw := hw m c), st34 (hw := hw m c), st35 (hw := hw m c), st36 (hw := hw m c), st39 (hw := hw m c)]
  refine (acc2 (hw := hw m c) ..).trans ?_
  skip
  pointwise [k0_pay4, k0_pay5, k0_pay6, k0_pay7, k0_pay8]
  rfl

/-- Every further tile adds to it. -/
theorem acc15_B (c : Dev nD) (t : Fin cfg0.N) (h : ¬t.val % 32 = 0) (i : S1x1024.Idx) :
    (outsAt0 m c t.val t.isLt).2.2.2.2.2.2.1 i = (outsAt0 m c (t.val - 1) (Nat.lt_of_le_of_lt (Nat.sub_le _ _) t.isLt)).2.2.2.2.2.2.1 i + part15 m c t i := by
  rw [outsAt0_B m c t h]
  frame_out
  idx_vars i
  simp only [rd0, rd1, rd2, rd3, rd4, rd5, rd6, rd7, rd8, st9, st10, st11, st12, st13, st14, st15, st16, st17, st18, st19, st20, st21, st30, st31, st22 (hw := hw m c), st23 (hw := hw m c), st24 (hw := hw m c), st25 (hw := hw m c), st26 (hw := hw m c), st27 (hw := hw m c), st28 (hw := hw m c), st34 (hw := hw m c), st35 (hw := hw m c), st36 (hw := hw m c), st39 (hw := hw m c)]
  refine (acc2 (hw := hw m c) ..).trans ?_
  skip
  rfl

/-- The sum over all tokens is the reference's. -/
theorem ref15 (c : Dev nD) (i : S1x1024.Idx) : ∑ k : Fin 8192, term15 m c i k = (val_main_v89 (F := Ideal) (V m c main_arg0) (V m c main_arg1) (V m c main_arg2) (V m c main_arg3) (V m c main_arg4) (V m c main_arg5) (V m c main_arg6) (V m c main_arg7) (V m c main_arg8)) i := by
  idx_vars i
  refine Eq.trans ?_ (ref89 ..).symm
  skip
  rfl

/-- So the call leaves the gradient of the scale. -/
theorem fin15 (c : Dev nD) : (dats m 0 c).arrAt 15 (cfgs 0).N = (val_main_v89 (F := Ideal) (V m c main_arg0) (V m c main_arg1) (V m c main_arg2) (V m c main_arg3) (V m c main_arg4) (V m c main_arg5) (V m c main_arg6) (V m c main_arg7) (V m c main_arg8)) := by
  refine (dats m 0 c).arrAt_eq_of_covers 15 _ (by decide +kernel) fun t hf y => ?_
  blk_simp
  rw [after0_15]
  have hl : t.val % 32 = 31 := (flush0_15 t).mp hf
  have hsum := Pipeline.eq_sum_fin_of_reset_step_apply_of_flush (ι := S1x1024.Idx) (M := EReal)
    (fun n h => (outsAt0 m c n h).2.2.2.2.2.2.1) 32 (fun _ => 0) (part15 m c) (acc15_A m c) (acc15_B m c) t hl
  idx_vars y
  refine (hsum _).trans ?_
  have he := emb15 t y0 y1
  change ((View.whole main_v1_6).slice (win0_15.rect t)).emb (ix2 y0 y1) = _ at he
  rw [he, ← ref15]
  refine (zero_add _).trans (Fin.sum_mul_add_congr (n := 256) (L := 8192) (M := EReal) fun s k hl => ?_)
  refine congrArg (term15 m c (ix2 y0 y1)) (Fin.ext ?_)
  show (32 * (t.val / 32) + s.val) * 256 + k.val = s.val * 256 + k.val
  have := lt_of_lt_of_eq t.isLt N_0
  omega

/-- Where entry `(r, l)` of the block of result 16 lies. -/
theorem emb16 (t : Fin cfg0.N) (r : Fin 1) (l : Fin 1024) : ((View.whole main_v1_7).slice (win0_16.rect t)).emb (ix2 r l) = ix2 r l := by
  blk_ext [idx t, row]

/-- What token `k` adds to the gradient of the shift. -/
def term16 (c : Dev nD) (i : S1x1024.Idx) (k : Fin 8192) : EReal := (val_main_v84 (F := Ideal) (V m c main_arg0) (V m c main_arg1) (V m c main_arg2) (V m c main_arg3) (V m c main_arg4) (V m c main_arg5) (V m c main_arg6) (V m c main_arg7) (V m c main_arg8)) (ix2 k (i 1))

/-- What tile `t` adds to it. -/
def part16 (c : Dev nD) (t : Fin cfg0.N) (i : S1x1024.Idx) : EReal := ∑ k : Fin 256, term16 m c i (row t k)

/-- The first tile starts the sum. -/
theorem acc16_A (c : Dev nD) (t : Fin cfg0.N) (h : t.val % 32 = 0) (i : S1x1024.Idx) :
    (outsAt0 m c t.val t.isLt).2.2.2.2.2.2.2.1 i = 0 + part16 m c t i := by
  rw [outsAt0_A m c t h]
  frame_out
  idx_vars i
  simp only [rd0, rd1, rd2, rd3, rd4, rd5, rd6, rd7, rd8, st9, st10, st11, st12, st13, st14, st15, st16, st17, st18, st19, st20, st21, st30, st31, st22 (hw := hw m c), st23 (hw := hw m c), st24 (hw := hw m c), st25 (hw := hw m c), st26 (hw := hw m c), st27 (hw := hw m c), st28 (hw := hw m c), st34 (hw := hw m c), st35 (hw := hw m c), st36 (hw := hw m c), st39 (hw := hw m c)]
  refine (acc3 (hw := hw m c) ..).trans ?_
  skip
  pointwise [k0_pay4, k0_pay5, k0_pay6, k0_pay7, k0_pay8]
  rfl

/-- Every further tile adds to it. -/
theorem acc16_B (c : Dev nD) (t : Fin cfg0.N) (h : ¬t.val % 32 = 0) (i : S1x1024.Idx) :
    (outsAt0 m c t.val t.isLt).2.2.2.2.2.2.2.1 i = (outsAt0 m c (t.val - 1) (Nat.lt_of_le_of_lt (Nat.sub_le _ _) t.isLt)).2.2.2.2.2.2.2.1 i + part16 m c t i := by
  rw [outsAt0_B m c t h]
  frame_out
  idx_vars i
  simp only [rd0, rd1, rd2, rd3, rd4, rd5, rd6, rd7, rd8, st9, st10, st11, st12, st13, st14, st15, st16, st17, st18, st19, st20, st21, st30, st31, st22 (hw := hw m c), st23 (hw := hw m c), st24 (hw := hw m c), st25 (hw := hw m c), st26 (hw := hw m c), st27 (hw := hw m c), st28 (hw := hw m c), st34 (hw := hw m c), st35 (hw := hw m c), st36 (hw := hw m c), st39 (hw := hw m c)]
  refine (acc3 (hw := hw m c) ..).trans ?_
  skip
  rfl

/-- The sum over all tokens is the reference's. -/
theorem ref16 (c : Dev nD) (i : S1x1024.Idx) : ∑ k : Fin 8192, term16 m c i k = (val_main_v86 (F := Ideal) (V m c main_arg0) (V m c main_arg1) (V m c main_arg2) (V m c main_arg3) (V m c main_arg4) (V m c main_arg5) (V m c main_arg6) (V m c main_arg7) (V m c main_arg8)) i := by
  idx_vars i
  refine Eq.trans ?_ (ref86 ..).symm
  skip
  rfl

/-- So the call leaves the gradient of the shift. -/
theorem fin16 (c : Dev nD) : (dats m 0 c).arrAt 16 (cfgs 0).N = (val_main_v86 (F := Ideal) (V m c main_arg0) (V m c main_arg1) (V m c main_arg2) (V m c main_arg3) (V m c main_arg4) (V m c main_arg5) (V m c main_arg6) (V m c main_arg7) (V m c main_arg8)) := by
  refine (dats m 0 c).arrAt_eq_of_covers 16 _ (by decide +kernel) fun t hf y => ?_
  blk_simp
  rw [after0_16]
  have hl : t.val % 32 = 31 := (flush0_16 t).mp hf
  have hsum := Pipeline.eq_sum_fin_of_reset_step_apply_of_flush (ι := S1x1024.Idx) (M := EReal)
    (fun n h => (outsAt0 m c n h).2.2.2.2.2.2.2.1) 32 (fun _ => 0) (part16 m c) (acc16_A m c) (acc16_B m c) t hl
  idx_vars y
  refine (hsum _).trans ?_
  have he := emb16 t y0 y1
  change ((View.whole main_v1_7).slice (win0_16.rect t)).emb (ix2 y0 y1) = _ at he
  rw [he, ← ref16]
  refine (zero_add _).trans (Fin.sum_mul_add_congr (n := 256) (L := 8192) (M := EReal) fun s k hl => ?_)
  refine congrArg (term16 m c (ix2 y0 y1)) (Fin.ext ?_)
  show (32 * (t.val / 32) + s.val) * 256 + k.val = s.val * 256 + k.val
  have := lt_of_lt_of_eq t.isLt N_0
  omega

/-- Where entry `(r, l)` of the block of result 17 lies. -/
theorem emb17 (t : Fin cfg0.N) (r : Fin 1) (l : Fin 1024) : ((View.whole main_v1_8).slice (win0_17.rect t)).emb (ix2 r l) = ix2 r l := by
  blk_ext [idx t, row]

/-- What token `k` adds to the gradient of the last scale. -/
def term17 (c : Dev nD) (i : S1x1024.Idx) (k : Fin 8192) : EReal := (val_main_v61 (F := Ideal) (V m c main_arg0) (V m c main_arg1) (V m c main_arg2) (V m c main_arg3) (V m c main_arg4) (V m c main_arg5) (V m c main_arg6) (V m c main_arg7) (V m c main_arg8)) (ix2 k (i 1))

/-- What tile `t` adds to it. -/
def part17 (c : Dev nD) (t : Fin cfg0.N) (i : S1x1024.Idx) : EReal := ∑ k : Fin 256, term17 m c i (row t k)

/-- The first tile starts the sum. -/
theorem acc17_A (c : Dev nD) (t : Fin cfg0.N) (h : t.val % 32 = 0) (i : S1x1024.Idx) :
    (outsAt0 m c t.val t.isLt).2.2.2.2.2.2.2.2 i = 0 + part17 m c t i := by
  rw [outsAt0_A m c t h]
  frame_out
  idx_vars i
  simp only [rd0, rd1, rd2, rd3, rd4, rd5, rd6, rd7, rd8, st9, st10, st11, st12, st13, st14, st15, st16, st17, st18, st19, st20, st21, st30, st31, st22 (hw := hw m c), st23 (hw := hw m c), st24 (hw := hw m c), st25 (hw := hw m c), st26 (hw := hw m c), st27 (hw := hw m c), st28 (hw := hw m c), st34 (hw := hw m c), st35 (hw := hw m c), st36 (hw := hw m c), st39 (hw := hw m c)]
  refine (acc33 ..).trans ?_
  skip
  pointwise [k0_pay4, k0_pay5, k0_pay6, k0_pay7, k0_pay8]
  rfl

/-- Every further tile adds to it. -/
theorem acc17_B (c : Dev nD) (t : Fin cfg0.N) (h : ¬t.val % 32 = 0) (i : S1x1024.Idx) :
    (outsAt0 m c t.val t.isLt).2.2.2.2.2.2.2.2 i = (outsAt0 m c (t.val - 1) (Nat.lt_of_le_of_lt (Nat.sub_le _ _) t.isLt)).2.2.2.2.2.2.2.2 i + part17 m c t i := by
  rw [outsAt0_B m c t h]
  frame_out
  idx_vars i
  simp only [rd0, rd1, rd2, rd3, rd4, rd5, rd6, rd7, rd8, st9, st10, st11, st12, st13, st14, st15, st16, st17, st18, st19, st20, st21, st30, st31, st22 (hw := hw m c), st23 (hw := hw m c), st24 (hw := hw m c), st25 (hw := hw m c), st26 (hw := hw m c), st27 (hw := hw m c), st28 (hw := hw m c), st34 (hw := hw m c), st35 (hw := hw m c), st36 (hw := hw m c), st39 (hw := hw m c)]
  refine (acc33 ..).trans ?_
  skip
  rfl

/-- The sum over all tokens is the reference's. -/
theorem ref17 (c : Dev nD) (i : S1x1024.Idx) : ∑ k : Fin 8192, term17 m c i k = (val_main_v63 (F := Ideal) (V m c main_arg0) (V m c main_arg1) (V m c main_arg2) (V m c main_arg3) (V m c main_arg4) (V m c main_arg5) (V m c main_arg6) (V m c main_arg7) (V m c main_arg8)) i := by
  idx_vars i
  refine Eq.trans ?_ (ref63 ..).symm
  skip
  rfl

/-- So the call leaves the gradient of the last scale. -/
theorem fin17 (c : Dev nD) : (dats m 0 c).arrAt 17 (cfgs 0).N = (val_main_v63 (F := Ideal) (V m c main_arg0) (V m c main_arg1) (V m c main_arg2) (V m c main_arg3) (V m c main_arg4) (V m c main_arg5) (V m c main_arg6) (V m c main_arg7) (V m c main_arg8)) := by
  refine (dats m 0 c).arrAt_eq_of_covers 17 _ (by decide +kernel) fun t hf y => ?_
  blk_simp
  rw [after0_17]
  have hl : t.val % 32 = 31 := (flush0_17 t).mp hf
  have hsum := Pipeline.eq_sum_fin_of_reset_step_apply_of_flush (ι := S1x1024.Idx) (M := EReal)
    (fun n h => (outsAt0 m c n h).2.2.2.2.2.2.2.2) 32 (fun _ => 0) (part17 m c) (acc17_A m c) (acc17_B m c) t hl
  idx_vars y
  refine (hsum _).trans ?_
  have he := emb17 t y0 y1
  change ((View.whole main_v1_8).slice (win0_17.rect t)).emb (ix2 y0 y1) = _ at he
  rw [he, ← ref17]
  refine (zero_add _).trans (Fin.sum_mul_add_congr (n := 256) (L := 8192) (M := EReal) fun s k hl => ?_)
  refine congrArg (term17 m c (ix2 y0 y1)) (Fin.ext ?_)
  show (32 * (t.val / 32) + s.val) * 256 + k.val = s.val * 256 + k.val
  have := lt_of_lt_of_eq t.isLt N_0
  omega

/-- The reference runs to its end and leaves nothing behind. -/
theorem frameR : Cert.quiescent_OddOutGradIdeal := fun m ρ _ =>
  (θ_run Cert.OddOutGradIdeal.defs _ _).mono (fun r h => ⟨fun c => (h c).2.2.2.2.2.2.2.2.2, sem_eq_zero_of_no_sems (by decide) r.2⟩)
    (Cert.OddOutGradIdeal.Value.run (F := Ideal) m ρ)

set_option maxHeartbeats 2000000 in
/-- The call and the reference leave equal results. -/
theorem algebraic : Cert.algebraic_OddOutIdeal_OddOutGradIdeal := by
  intro m g m' g' _ hin
  refine ⟨_, _, _, _, _, _, _, _, _, Cert.OddOutIdeal.Value.run_blocks m g, (θ_run _ _ _).mono (fun r h c => ?_) (Cert.OddOutGradIdeal.Value.run m' g')⟩
  obtain ⟨h0, h1, h2, h3, h4, h5, h6, h7, h8, hk⟩ := h c
  obtain ⟨a0, a1, a2, a3, a4, a5, a6, a7, a8⟩ := hin c
  refine ⟨?_, ?_, ?_, ?_, ?_, ?_, ?_, ?_, ?_, hk⟩
  · have e : val_main_v113 (F := Ideal) (m' ((c.tc : Thread nD τ).loc Cert.OddOutGradIdeal.main_arg0)) (m' ((c.tc : Thread nD τ).loc Cert.OddOutGradIdeal.main_arg1)) (m' ((c.tc : Thread nD τ).loc Cert.OddOutGradIdeal.main_arg2)) (m' ((c.tc : Thread nD τ).loc Cert.OddOutGradIdeal.main_arg3)) (m' ((c.tc : Thread nD τ).loc Cert.OddOutGradIdeal.main_arg4)) (m' ((c.tc : Thread nD τ).loc Cert.OddOutGradIdeal.main_arg5)) (m' ((c.tc : Thread nD τ).loc Cert.OddOutGradIdeal.main_arg6)) (m' ((c.tc : Thread nD τ).loc Cert.OddOutGradIdeal.main_arg7)) (m' ((c.tc : Thread nD τ).loc Cert.OddOutGradIdeal.main_arg8)) = (val_main_v113 (F := Ideal) (V m c main_arg0) (V m c main_arg1) (V m c main_arg2) (V m c main_arg3) (V m c main_arg4) (V m c main_arg5) (V m c main_arg6) (V m c main_arg7) (V m c main_arg8)) := by
      rw [V_main_arg0, V_main_arg1, V_main_arg2, V_main_arg3, V_main_arg4, V_main_arg5, V_main_arg6, V_main_arg7, V_main_arg8, a0, a1, a2, a3, a4, a5, a6, a7, a8]
    exact (h0.trans (val_main_v113_eq _)).trans (e.trans (fin9 m c).symm)
  · have e : val_main_v83 (F := Ideal) (m' ((c.tc : Thread nD τ).loc Cert.OddOutGradIdeal.main_arg0)) (m' ((c.tc : Thread nD τ).loc Cert.OddOutGradIdeal.main_arg1)) (m' ((c.tc : Thread nD τ).loc Cert.OddOutGradIdeal.main_arg2)) (m' ((c.tc : Thread nD τ).loc Cert.OddOutGradIdeal.main_arg3)) (m' ((c.tc : Thread nD τ).loc Cert.OddOutGradIdeal.main_arg4)) (m' ((c.tc : Thread nD τ).loc Cert.OddOutGradIdeal.main_arg5)) (m' ((c.tc : Thread nD τ).loc Cert.OddOutGradIdeal.main_arg6)) (m' ((c.tc : Thread nD τ).loc Cert.OddOutGradIdeal.main_arg7)) (m' ((c.tc : Thread nD τ).loc Cert.OddOutGradIdeal.main_arg8)) = (val_main_v83 (F := Ideal) (V m c main_arg0) (V m c main_arg1) (V m c main_arg2) (V m c main_arg3) (V m c main_arg4) (V m c main_arg5) (V m c main_arg6) (V m c main_arg7) (V m c main_arg8)) := by
      rw [V_main_arg0, V_main_arg1, V_main_arg2, V_main_arg3, V_main_arg4, V_main_arg5, V_main_arg6, V_main_arg7, V_main_arg8, a0, a1, a2, a3, a4, a5, a6, a7, a8]
    exact (h1.trans (val_main_v83_eq _)).trans (e.trans (fin10 m c).symm)
  · have e : val_main_v79 (F := Ideal) (m' ((c.tc : Thread nD τ).loc Cert.OddOutGradIdeal.main_arg0)) (m' ((c.tc : Thread nD τ).loc Cert.OddOutGradIdeal.main_arg1)) (m' ((c.tc : Thread nD τ).loc Cert.OddOutGradIdeal.main_arg2)) (m' ((c.tc : Thread nD τ).loc Cert.OddOutGradIdeal.main_arg3)) (m' ((c.tc : Thread nD τ).loc Cert.OddOutGradIdeal.main_arg4)) (m' ((c.tc : Thread nD τ).loc Cert.OddOutGradIdeal.main_arg5)) (m' ((c.tc : Thread nD τ).loc Cert.OddOutGradIdeal.main_arg6)) (m' ((c.tc : Thread nD τ).loc Cert.OddOutGradIdeal.main_arg7)) (m' ((c.tc : Thread nD τ).loc Cert.OddOutGradIdeal.main_arg8)) = (val_main_v79 (F := Ideal) (V m c main_arg0) (V m c main_arg1) (V m c main_arg2) (V m c main_arg3) (V m c main_arg4) (V m c main_arg5) (V m c main_arg6) (V m c main_arg7) (V m c main_arg8)) := by
      rw [V_main_arg0, V_main_arg1, V_main_arg2, V_main_arg3, V_main_arg4, V_main_arg5, V_main_arg6, V_main_arg7, V_main_arg8, a0, a1, a2, a3, a4, a5, a6, a7, a8]
    exact (h2.trans (val_main_v79_eq _)).trans (e.trans (fin11 m c).symm)
  · have e : val_main_v116 (F := Ideal) (m' ((c.tc : Thread nD τ).loc Cert.OddOutGradIdeal.main_arg0)) (m' ((c.tc : Thread nD τ).loc Cert.OddOutGradIdeal.main_arg1)) (m' ((c.tc : Thread nD τ).loc Cert.OddOutGradIdeal.main_arg4)) (m' ((c.tc : Thread nD τ).loc Cert.OddOutGradIdeal.main_arg5)) (m' ((c.tc : Thread nD τ).loc Cert.OddOutGradIdeal.main_arg6)) = (val_main_v116 (F := Ideal) (V m c main_arg0) (V m c main_arg1) (V m c main_arg4) (V m c main_arg5) (V m c main_arg6)) := by
      rw [V_main_arg0, V_main_arg1, V_main_arg4, V_main_arg5, V_main_arg6, a0, a1, a4, a5, a6]
    exact (h3.trans (val_main_v116_eq _)).trans (e.trans (fin12 m c).symm)
  · have e : val_main_v117 (F := Ideal) (m' ((c.tc : Thread nD τ).loc Cert.OddOutGradIdeal.main_arg0)) (m' ((c.tc : Thread nD τ).loc Cert.OddOutGradIdeal.main_arg1)) (m' ((c.tc : Thread nD τ).loc Cert.OddOutGradIdeal.main_arg2)) (m' ((c.tc : Thread nD τ).loc Cert.OddOutGradIdeal.main_arg3)) (m' ((c.tc : Thread nD τ).loc Cert.OddOutGradIdeal.main_arg4)) (m' ((c.tc : Thread nD τ).loc Cert.OddOutGradIdeal.main_arg5)) (m' ((c.tc : Thread nD τ).loc Cert.OddOutGradIdeal.main_arg6)) (m' ((c.tc : Thread nD τ).loc Cert.OddOutGradIdeal.main_arg7)) (m' ((c.tc : Thread nD τ).loc Cert.OddOutGradIdeal.main_arg8)) = (val_main_v117 (F := Ideal) (V m c main_arg0) (V m c main_arg1) (V m c main_arg2) (V m c main_arg3) (V m c main_arg4) (V m c main_arg5) (V m c main_arg6) (V m c main_arg7) (V m c main_arg8)) := by
      rw [V_main_arg0, V_main_arg1, V_main_arg2, V_main_arg3, V_main_arg4, V_main_arg5, V_main_arg6, V_main_arg7, V_main_arg8, a0, a1, a2, a3, a4, a5, a6, a7, a8]
    exact (h4.trans (val_main_v117_eq _)).trans (e.trans (fin13 m c).symm)
  · have e : val_main_v115 (F := Ideal) (m' ((c.tc : Thread nD τ).loc Cert.OddOutGradIdeal.main_arg0)) (m' ((c.tc : Thread nD τ).loc Cert.OddOutGradIdeal.main_arg1)) (m' ((c.tc : Thread nD τ).loc Cert.OddOutGradIdeal.main_arg2)) (m' ((c.tc : Thread nD τ).loc Cert.OddOutGradIdeal.main_arg3)) (m' ((c.tc : Thread nD τ).loc Cert.OddOutGradIdeal.main_arg4)) (m' ((c.tc : Thread nD τ).loc Cert.OddOutGradIdeal.main_arg5)) (m' ((c.tc : Thread nD τ).loc Cert.OddOutGradIdeal.main_arg6)) (m' ((c.tc : Thread nD τ).loc Cert.OddOutGradIdeal.main_arg7)) (m' ((c.tc : Thread nD τ).loc Cert.OddOutGradIdeal.main_arg8)) = (val_main_v115 (F := Ideal) (V m c main_arg0) (V m c main_arg1) (V m c main_arg2) (V m c main_arg3) (V m c main_arg4) (V m c main_arg5) (V m c main_arg6) (V m c main_arg7) (V m c main_arg8)) := by
      rw [V_main_arg0, V_main_arg1, V_main_arg2, V_main_arg3, V_main_arg4, V_main_arg5, V_main_arg6, V_main_arg7, V_main_arg8, a0, a1, a2, a3, a4, a5, a6, a7, a8]
    exact (h5.trans (val_main_v115_eq _)).trans (e.trans (fin14 m c).symm)
  · have e : val_main_v89 (F := Ideal) (m' ((c.tc : Thread nD τ).loc Cert.OddOutGradIdeal.main_arg0)) (m' ((c.tc : Thread nD τ).loc Cert.OddOutGradIdeal.main_arg1)) (m' ((c.tc : Thread nD τ).loc Cert.OddOutGradIdeal.main_arg2)) (m' ((c.tc : Thread nD τ).loc Cert.OddOutGradIdeal.main_arg3)) (m' ((c.tc : Thread nD τ).loc Cert.OddOutGradIdeal.main_arg4)) (m' ((c.tc : Thread nD τ).loc Cert.OddOutGradIdeal.main_arg5)) (m' ((c.tc : Thread nD τ).loc Cert.OddOutGradIdeal.main_arg6)) (m' ((c.tc : Thread nD τ).loc Cert.OddOutGradIdeal.main_arg7)) (m' ((c.tc : Thread nD τ).loc Cert.OddOutGradIdeal.main_arg8)) = (val_main_v89 (F := Ideal) (V m c main_arg0) (V m c main_arg1) (V m c main_arg2) (V m c main_arg3) (V m c main_arg4) (V m c main_arg5) (V m c main_arg6) (V m c main_arg7) (V m c main_arg8)) := by
      rw [V_main_arg0, V_main_arg1, V_main_arg2, V_main_arg3, V_main_arg4, V_main_arg5, V_main_arg6, V_main_arg7, V_main_arg8, a0, a1, a2, a3, a4, a5, a6, a7, a8]
    exact (h6.trans (val_main_v89_eq _)).trans (e.trans (fin15 m c).symm)
  · have e : val_main_v86 (F := Ideal) (m' ((c.tc : Thread nD τ).loc Cert.OddOutGradIdeal.main_arg0)) (m' ((c.tc : Thread nD τ).loc Cert.OddOutGradIdeal.main_arg1)) (m' ((c.tc : Thread nD τ).loc Cert.OddOutGradIdeal.main_arg2)) (m' ((c.tc : Thread nD τ).loc Cert.OddOutGradIdeal.main_arg3)) (m' ((c.tc : Thread nD τ).loc Cert.OddOutGradIdeal.main_arg4)) (m' ((c.tc : Thread nD τ).loc Cert.OddOutGradIdeal.main_arg5)) (m' ((c.tc : Thread nD τ).loc Cert.OddOutGradIdeal.main_arg6)) (m' ((c.tc : Thread nD τ).loc Cert.OddOutGradIdeal.main_arg7)) (m' ((c.tc : Thread nD τ).loc Cert.OddOutGradIdeal.main_arg8)) = (val_main_v86 (F := Ideal) (V m c main_arg0) (V m c main_arg1) (V m c main_arg2) (V m c main_arg3) (V m c main_arg4) (V m c main_arg5) (V m c main_arg6) (V m c main_arg7) (V m c main_arg8)) := by
      rw [V_main_arg0, V_main_arg1, V_main_arg2, V_main_arg3, V_main_arg4, V_main_arg5, V_main_arg6, V_main_arg7, V_main_arg8, a0, a1, a2, a3, a4, a5, a6, a7, a8]
    exact (h7.trans (val_main_v86_eq _)).trans (e.trans (fin16 m c).symm)
  · have e : val_main_v63 (F := Ideal) (m' ((c.tc : Thread nD τ).loc Cert.OddOutGradIdeal.main_arg0)) (m' ((c.tc : Thread nD τ).loc Cert.OddOutGradIdeal.main_arg1)) (m' ((c.tc : Thread nD τ).loc Cert.OddOutGradIdeal.main_arg2)) (m' ((c.tc : Thread nD τ).loc Cert.OddOutGradIdeal.main_arg3)) (m' ((c.tc : Thread nD τ).loc Cert.OddOutGradIdeal.main_arg4)) (m' ((c.tc : Thread nD τ).loc Cert.OddOutGradIdeal.main_arg5)) (m' ((c.tc : Thread nD τ).loc Cert.OddOutGradIdeal.main_arg6)) (m' ((c.tc : Thread nD τ).loc Cert.OddOutGradIdeal.main_arg7)) (m' ((c.tc : Thread nD τ).loc Cert.OddOutGradIdeal.main_arg8)) = (val_main_v63 (F := Ideal) (V m c main_arg0) (V m c main_arg1) (V m c main_arg2) (V m c main_arg3) (V m c main_arg4) (V m c main_arg5) (V m c main_arg6) (V m c main_arg7) (V m c main_arg8)) := by
      rw [V_main_arg0, V_main_arg1, V_main_arg2, V_main_arg3, V_main_arg4, V_main_arg5, V_main_arg6, V_main_arg7, V_main_arg8, a0, a1, a2, a3, a4, a5, a6, a7, a8]
    exact (h8.trans (val_main_v63_eq _)).trans (e.trans (fin17 m c).symm)

end Cert.Proof.OddOut

end
-- ==== Proof.DwOddIn.lean ====
/- The gradient of a weight matrix, `dw_odd_in`: a product over the token axis, accumulated tile by tile in scratch by
   the kernel and written out at the last tile, is the reference's product over all tokens at once. -/
module

public import proofs.«01_k».proof.Defs
public import proofs.«01_k».proof.Proof.Gen.DwOddInIdeal.Value
public import proofs.«01_k».proof.Proof.Gen.OddInWeightGradIdeal.Run
public import proofs.«01_k».proof.Proof.Gen.OddInWeightGradIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.DwOddIn

open Cert.DwOddInIdeal Cert.DwOddInIdeal.Gen

variable (m : (ℓ : Loc nD τ sig) → Buf (Elt Ideal) ℓ)

/-- Grid point `t` reads tile `t` of both operands and holds the whole result. -/
theorem idx : ∀ t : Fin cfg0.N, win0_0.index t = ![t.val, 0] ∧ win0_1.index t = ![t.val, 0] ∧ win0_2.index t = ![0, 0] :=
  (by decide +kernel : ∀ t : Fin grid0.N, _)

/-- Row `r` of tile `t`, in the whole array. -/
def row (t : Fin cfg0.N) (r : Fin 512) : Fin 8192 := ⟨t.val * 512 + r.val, by have := lt_of_lt_of_eq t.isLt N_0; omega⟩

/-- The left operand's tile, read in the whole array. -/
theorem rd0 (c : Dev nD) (t : Fin cfg0.N) (r : Fin 512) (k : Fin 1024) : iblk m c 0 t (ix2 r k) = V m c main_arg0 (ix2 (row t r) k) := by
  blk_ext [iblk, idx t, row]

/-- The right operand's tile, read in the whole array. -/
theorem rd1 (c : Dev nD) (t : Fin cfg0.N) (r : Fin 512) (k : Fin 3072) : iblk m c 1 t (ix2 r k) = V m c main_arg1 (ix2 (row t r) k) := by
  blk_ext [iblk, idx t, row]

/-- The result's block is the whole result. -/
theorem emb2 (t : Fin cfg0.N) (r : Fin 1024) (k : Fin 3072) : ((cfg0.win 2).blk t).view.emb (ix2 r k) = (ix2 r k : S1024x3072.Idx) := by
  blk_ext [idx t]

/-- One product of the sum, over the extended reals. -/
def term (a b : EReal) : EReal := a * b

/-- Its factors may be exchanged. -/
theorem term_comm (a b : EReal) : a * b = term b a := mul_comm a b

/-- What tile `t` adds to the accumulator. -/
def part (c : Dev nD) (t : Fin cfg0.N) (j : S1024x3072.Idx) : EReal :=
  ∑ r : Fin 512, term (iblk m c 0 t (ix2 r (j 0))) (iblk m c 1 t (ix2 r (j 1)))

/-- The accumulator's step adds the tile's product. -/
theorem pay2_at (acc : FVec Ideal S1024x3072 .f32) (a : FVec Ideal S512x1024 .bf16) (b : FVec Ideal S512x3072 .bf16) (i : Fin 1024) (j : Fin 3072) :
    k0_pay2 (F := Ideal) acc a b (ix2 i j) = acc (ix2 i j) + ∑ r : Fin 512, term (a (ix2 r i)) (b (ix2 r j)) := by
  pointwise [k0_pay2, term]

/-- The first tile starts the accumulator at nought. -/
theorem acc_A (c : Dev nD) (t : Fin cfg0.N) (h : t.val % 16 = 0) (j : S1024x3072.Idx) :
    (outsAt0 m c t.val t.isLt).2 j = 0 + part m c t j := by
  rw [outsAt0_A m c t h (by omega)]
  frame_out
  idx_vars j
  refine (pay2_at _ _ _ j0 j1).trans ?_
  pointwise [k0_pay1]
  rfl

/-- Every further tile adds to it. -/
theorem acc_B (c : Dev nD) (t : Fin cfg0.N) (h : ¬t.val % 16 = 0) (j : S1024x3072.Idx) :
    (outsAt0 m c t.val t.isLt).2 j = (outsAt0 m c (t.val - 1) (Nat.lt_of_le_of_lt (Nat.sub_le _ _) t.isLt)).2 j + part m c t j := by
  idx_vars j
  by_cases h1 : t.val % 16 = 15
  · rw [outsAt0_C m c t h h1]
    frame_out
    refine (pay2_at _ _ _ j0 j1).trans ?_
    exact congrArg₂ (fun a b : EReal => a + b) (congrFun (read_unread_whole cc0_scratch0 _ _) _) rfl
  · rw [outsAt0_B m c t h h1]
    frame_out
    refine (pay2_at _ _ _ j0 j1).trans ?_
    exact congrArg₂ (fun a b : EReal => a + b) (congrFun (read_unread_whole cc0_scratch0 _ _) _) rfl

/-- The last tile writes the accumulator out. -/
theorem out_C (c : Dev nD) (t : Fin cfg0.N) (h : t.val % 16 = 15) (i : Fin 1024) (j : Fin 3072) :
    (outsAt0 m c t.val t.isLt).1 (ix2 i j) = (outsAt0 m c t.val t.isLt).2 (ix2 i j) := by
  rw [outsAt0_C m c t (by omega) h]
  frame_out
  pointwise [k0_pay3]

/-- The kernel's result is the product over all tokens. -/
theorem fin2 (c : Dev nD) : (dats m 0 c).arrAt 2 (cfgs 0).N = fun i : S1024x3072.Idx =>
    ∑ s : Fin 8192, term (V m c main_arg0 (ix2 s (i 0))) (V m c main_arg1 (ix2 s (i 1))) := by
  refine (dats m 0 c).arrAt_eq_of_covers 2 _ (by decide +kernel) fun t hf y => ?_
  blk_simp
  rw [after0_2]
  have hl : t.val % 16 = 15 := (flush0_2 t).mp hf
  have hsum := Pipeline.eq_sum_fin_of_reset_step_apply_of_flush (ι := S1024x3072.Idx) (M := EReal)
    (fun n h => (outsAt0 m c n h).2) 16 (fun _ => 0) (part m c) (acc_A m c) (acc_B m c) t hl
  idx_vars y
  refine (out_C m c t hl y0 y1).trans ((hsum _).trans ?_)
  have he := emb2 t y0 y1
  change ((View.whole main_v0).slice (win0_2.rect t)).emb (ix2 y0 y1) = _ at he
  rw [he]
  have hp : ∀ t', part m c t' (ix2 y0 y1) = ∑ r : Fin 512, term (V m c main_arg0 (ix2 (row t' r) y0)) (V m c main_arg1 (ix2 (row t' r) y1)) := by
    intro t'
    refine Finset.sum_congr rfl fun r _ => ?_
    show term (iblk m c 0 t' (ix2 r y0)) (iblk m c 1 t' (ix2 r y1)) = _
    rw [rd0, rd1]
  simp only [hp]
  refine (zero_add _).trans (Fin.sum_mul_add_congr (n := 512) (L := 8192) (M := EReal) fun s k hl => ?_)
  have hr : ∀ h, row ⟨16 * (t.val / 16) + s.val, h⟩ k = ⟨s.val * 512 + k.val, hl⟩ := fun h => Fin.ext (by
    show (16 * (t.val / 16) + s.val) * 512 + k.val = s.val * 512 + k.val
    have := lt_of_lt_of_eq t.isLt N_0
    omega)
  simp only [hr]
  rfl

open Cert.OddInWeightGradIdeal.Read in
/-- The reference's result is the same product. -/
theorem ref_at (x0 : FVec Ideal S8192x1024 .bf16) (x1 : FVec Ideal S8192x3072 .bf16) (i : Fin 1024) (j : Fin 3072) :
    val_main_v6 (F := Ideal) x0 x1 (ix2 i j) = ∑ s : Fin 8192, term (x0 (ix2 s i)) (x1 (ix2 s j)) := by
  pointwise [val_main_v6, val_main_v5, val_main_v4, val_main_v2, val_main_v1, val_main_cst, val_main_v0]
  exact Finset.sum_congr rfl fun s _ => term_comm _ _

/-- The reference runs to its end and leaves nothing behind. -/
theorem frameR : Cert.quiescent_OddInWeightGradIdeal := fun m ρ _ =>
  (θ_run Cert.OddInWeightGradIdeal.defs _ _).mono (fun r h => ⟨fun c => (h c).2, sem_eq_zero_of_no_sems (by decide) r.2⟩)
    (Cert.OddInWeightGradIdeal.Value.run (F := Ideal) m ρ)

/-- The kernel and the reference leave equal results. -/
theorem algebraic : Cert.algebraic_DwOddInIdeal_OddInWeightGradIdeal := by
  intro m g m' g' _ hin
  refine ⟨_, Cert.DwOddInIdeal.Value.run_blocks m g, (θ_run _ _ _).mono (fun r h c => ?_) (Cert.OddInWeightGradIdeal.Value.run m' g')⟩
  obtain ⟨h0, hk⟩ := h c
  obtain ⟨a0, a1⟩ := hin c
  refine ⟨?_, hk⟩
  rw [h0, Cert.OddInWeightGradIdeal.Read.val_main_v6_eq, fin2, a0, a1]
  refine funext fun i => ?_
  idx_vars i
  refine (ref_at _ _ i0 i1).trans ?_
  simp only [V_main_arg0, V_main_arg1]

end Cert.Proof.DwOddIn

end
-- ==== Proof.DwSquare.lean ====
/- The gradient of a weight matrix, `dw_odd_out, dw_even_out and dw_even_in_gate`: a product over the token axis, accumulated tile by tile in scratch by
   the kernel and written out at the last tile, is the reference's product over all tokens at once. -/
module

public import proofs.«01_k».proof.Defs
public import proofs.«01_k».proof.Proof.Gen.DwSquareIdeal.Value
public import proofs.«01_k».proof.Proof.Gen.SquareWeightGradIdeal.Run
public import proofs.«01_k».proof.Proof.Gen.SquareWeightGradIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.DwSquare

open Cert.DwSquareIdeal Cert.DwSquareIdeal.Gen

variable (m : (ℓ : Loc nD τ sig) → Buf (Elt Ideal) ℓ)

/-- Grid point `t` reads tile `t` of both operands and holds the whole result. -/
theorem idx : ∀ t : Fin cfg0.N, win0_0.index t = ![t.val, 0] ∧ win0_1.index t = ![t.val, 0] ∧ win0_2.index t = ![0, 0] :=
  (by decide +kernel : ∀ t : Fin grid0.N, _)

/-- Row `r` of tile `t`, in the whole array. -/
def row (t : Fin cfg0.N) (r : Fin 1024) : Fin 8192 := ⟨t.val * 1024 + r.val, by have := lt_of_lt_of_eq t.isLt N_0; omega⟩

/-- The left operand's tile, read in the whole array. -/
theorem rd0 (c : Dev nD) (t : Fin cfg0.N) (r : Fin 1024) (k : Fin 1024) : iblk m c 0 t (ix2 r k) = V m c main_arg0 (ix2 (row t r) k) := by
  blk_ext [iblk, idx t, row]

/-- The right operand's tile, read in the whole array. -/
theorem rd1 (c : Dev nD) (t : Fin cfg0.N) (r : Fin 1024) (k : Fin 1024) : iblk m c 1 t (ix2 r k) = V m c main_arg1 (ix2 (row t r) k) := by
  blk_ext [iblk, idx t, row]

/-- The result's block is the whole result. -/
theorem emb2 (t : Fin cfg0.N) (r : Fin 1024) (k : Fin 1024) : ((cfg0.win 2).blk t).view.emb (ix2 r k) = (ix2 r k : S1024x1024.Idx) := by
  blk_ext [idx t]

/-- One product of the sum, over the extended reals. -/
def term (a b : EReal) : EReal := a * b

/-- Its factors may be exchanged. -/
theorem term_comm (a b : EReal) : a * b = term b a := mul_comm a b

/-- What tile `t` adds to the accumulator. -/
def part (c : Dev nD) (t : Fin cfg0.N) (j : S1024x1024.Idx) : EReal :=
  ∑ r : Fin 1024, term (iblk m c 0 t (ix2 r (j 0))) (iblk m c 1 t (ix2 r (j 1)))

/-- The accumulator's step adds the tile's product. -/
theorem pay2_at (acc : FVec Ideal S1024x1024 .f32) (a : FVec Ideal S1024x1024 .bf16) (b : FVec Ideal S1024x1024 .f32) (i : Fin 1024) (j : Fin 1024) :
    k0_pay2 (F := Ideal) acc a b (ix2 i j) = acc (ix2 i j) + ∑ r : Fin 1024, term (a (ix2 r i)) (b (ix2 r j)) := by
  pointwise [k0_pay2, term]

/-- The first tile starts the accumulator at nought. -/
theorem acc_A (c : Dev nD) (t : Fin cfg0.N) (h : t.val % 8 = 0) (j : S1024x1024.Idx) :
    (outsAt0 m c t.val t.isLt).2 j = 0 + part m c t j := by
  rw [outsAt0_A m c t h (by omega)]
  frame_out
  idx_vars j
  refine (pay2_at _ _ _ j0 j1).trans ?_
  pointwise [k0_pay1]
  rfl

/-- Every further tile adds to it. -/
theorem acc_B (c : Dev nD) (t : Fin cfg0.N) (h : ¬t.val % 8 = 0) (j : S1024x1024.Idx) :
    (outsAt0 m c t.val t.isLt).2 j = (outsAt0 m c (t.val - 1) (Nat.lt_of_le_of_lt (Nat.sub_le _ _) t.isLt)).2 j + part m c t j := by
  idx_vars j
  by_cases h1 : t.val % 8 = 7
  · rw [outsAt0_C m c t h h1]
    frame_out
    refine (pay2_at _ _ _ j0 j1).trans ?_
    exact congrArg₂ (fun a b : EReal => a + b) (congrFun (read_unread_whole cc0_scratch0 _ _) _) rfl
  · rw [outsAt0_B m c t h h1]
    frame_out
    refine (pay2_at _ _ _ j0 j1).trans ?_
    exact congrArg₂ (fun a b : EReal => a + b) (congrFun (read_unread_whole cc0_scratch0 _ _) _) rfl

/-- The last tile writes the accumulator out. -/
theorem out_C (c : Dev nD) (t : Fin cfg0.N) (h : t.val % 8 = 7) (i : Fin 1024) (j : Fin 1024) :
    (outsAt0 m c t.val t.isLt).1 (ix2 i j) = (outsAt0 m c t.val t.isLt).2 (ix2 i j) := by
  rw [outsAt0_C m c t (by omega) h]
  frame_out
  pointwise [k0_pay3]

/-- The kernel's result is the product over all tokens. -/
theorem fin2 (c : Dev nD) : (dats m 0 c).arrAt 2 (cfgs 0).N = fun i : S1024x1024.Idx =>
    ∑ s : Fin 8192, term (V m c main_arg0 (ix2 s (i 0))) (V m c main_arg1 (ix2 s (i 1))) := by
  refine (dats m 0 c).arrAt_eq_of_covers 2 _ (by decide +kernel) fun t hf y => ?_
  blk_simp
  rw [after0_2]
  have hl : t.val % 8 = 7 := (flush0_2 t).mp hf
  have hsum := Pipeline.eq_sum_fin_of_reset_step_apply_of_flush (ι := S1024x1024.Idx) (M := EReal)
    (fun n h => (outsAt0 m c n h).2) 8 (fun _ => 0) (part m c) (acc_A m c) (acc_B m c) t hl
  idx_vars y
  refine (out_C m c t hl y0 y1).trans ((hsum _).trans ?_)
  have he := emb2 t y0 y1
  change ((View.whole main_v0).slice (win0_2.rect t)).emb (ix2 y0 y1) = _ at he
  rw [he]
  have hp : ∀ t', part m c t' (ix2 y0 y1) = ∑ r : Fin 1024, term (V m c main_arg0 (ix2 (row t' r) y0)) (V m c main_arg1 (ix2 (row t' r) y1)) := by
    intro t'
    refine Finset.sum_congr rfl fun r _ => ?_
    show term (iblk m c 0 t' (ix2 r y0)) (iblk m c 1 t' (ix2 r y1)) = _
    rw [rd0, rd1]
  simp only [hp]
  refine (zero_add _).trans (Fin.sum_mul_add_congr (n := 1024) (L := 8192) (M := EReal) fun s k hl => ?_)
  have hr : ∀ h, row ⟨8 * (t.val / 8) + s.val, h⟩ k = ⟨s.val * 1024 + k.val, hl⟩ := fun h => Fin.ext (by
    show (8 * (t.val / 8) + s.val) * 1024 + k.val = s.val * 1024 + k.val
    have := lt_of_lt_of_eq t.isLt N_0
    omega)
  simp only [hr]
  rfl

open Cert.SquareWeightGradIdeal.Read in
/-- The reference's result is the same product. -/
theorem ref_at (x0 : FVec Ideal S8192x1024 .bf16) (x1 : FVec Ideal S8192x1024 .f32) (i : Fin 1024) (j : Fin 1024) :
    val_main_v5 (F := Ideal) x0 x1 (ix2 i j) = ∑ s : Fin 8192, term (x0 (ix2 s i)) (x1 (ix2 s j)) := by
  pointwise [val_main_v5, val_main_v4, val_main_v3, val_main_v2, val_main_v1, val_main_cst, val_main_v0]
  exact Finset.sum_congr rfl fun s _ => term_comm _ _

/-- The reference runs to its end and leaves nothing behind. -/
theorem frameR : Cert.quiescent_SquareWeightGradIdeal := fun m ρ _ =>
  (θ_run Cert.SquareWeightGradIdeal.defs _ _).mono (fun r h => ⟨fun c => (h c).2, sem_eq_zero_of_no_sems (by decide) r.2⟩)
    (Cert.SquareWeightGradIdeal.Value.run (F := Ideal) m ρ)

/-- The kernel and the reference leave equal results. -/
theorem algebraic : Cert.algebraic_DwSquareIdeal_SquareWeightGradIdeal := by
  intro m g m' g' _ hin
  refine ⟨_, Cert.DwSquareIdeal.Value.run_blocks m g, (θ_run _ _ _).mono (fun r h c => ?_) (Cert.SquareWeightGradIdeal.Value.run m' g')⟩
  obtain ⟨h0, hk⟩ := h c
  obtain ⟨a0, a1⟩ := hin c
  refine ⟨?_, hk⟩
  rw [h0, Cert.SquareWeightGradIdeal.Read.val_main_v5_eq, fin2, a0, a1]
  refine funext fun i => ?_
  idx_vars i
  refine (ref_at _ _ i0 i1).trans ?_
  simp only [V_main_arg0, V_main_arg1]

end Cert.Proof.DwSquare

end
-- ==== Proof.DwHalf.lean ====
/- The gradient of a weight matrix, `dw_even_in_pool and dw_even_in_ssm`: a product over the token axis, accumulated tile by tile in scratch by
   the kernel and written out at the last tile, is the reference's product over all tokens at once. -/
module

public import proofs.«01_k».proof.Defs
public import proofs.«01_k».proof.Proof.Gen.DwHalfIdeal.Value
public import proofs.«01_k».proof.Proof.Gen.HalfWeightGradIdeal.Run
public import proofs.«01_k».proof.Proof.Gen.HalfWeightGradIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.DwHalf

open Cert.DwHalfIdeal Cert.DwHalfIdeal.Gen

variable (m : (ℓ : Loc nD τ sig) → Buf (Elt Ideal) ℓ)

/-- Grid point `t` reads tile `t` of both operands and holds the whole result. -/
theorem idx : ∀ t : Fin cfg0.N, win0_0.index t = ![t.val, 0] ∧ win0_1.index t = ![t.val, 0] ∧ win0_2.index t = ![0, 0] :=
  (by decide +kernel : ∀ t : Fin grid0.N, _)

/-- Row `r` of tile `t`, in the whole array. -/
def row (t : Fin cfg0.N) (r : Fin 1024) : Fin 8192 := ⟨t.val * 1024 + r.val, by have := lt_of_lt_of_eq t.isLt N_0; omega⟩

/-- The left operand's tile, read in the whole array. -/
theorem rd0 (c : Dev nD) (t : Fin cfg0.N) (r : Fin 1024) (k : Fin 1024) : iblk m c 0 t (ix2 r k) = V m c main_arg0 (ix2 (row t r) k) := by
  blk_ext [iblk, idx t, row]

/-- The right operand's tile, read in the whole array. -/
theorem rd1 (c : Dev nD) (t : Fin cfg0.N) (r : Fin 1024) (k : Fin 512) : iblk m c 1 t (ix2 r k) = V m c main_arg1 (ix2 (row t r) k) := by
  blk_ext [iblk, idx t, row]

/-- The result's block is the whole result. -/
theorem emb2 (t : Fin cfg0.N) (r : Fin 1024) (k : Fin 512) : ((cfg0.win 2).blk t).view.emb (ix2 r k) = (ix2 r k : S1024x512.Idx) := by
  blk_ext [idx t]

/-- One product of the sum, over the extended reals. -/
def term (a b : EReal) : EReal := a * b

/-- Its factors may be exchanged. -/
theorem term_comm (a b : EReal) : a * b = term b a := mul_comm a b

/-- What tile `t` adds to the accumulator. -/
def part (c : Dev nD) (t : Fin cfg0.N) (j : S1024x512.Idx) : EReal :=
  ∑ r : Fin 1024, term (iblk m c 0 t (ix2 r (j 0))) (iblk m c 1 t (ix2 r (j 1)))

/-- The accumulator's step adds the tile's product. -/
theorem pay2_at (acc : FVec Ideal S1024x512 .f32) (a : FVec Ideal S1024x1024 .bf16) (b : FVec Ideal S1024x512 .f32) (i : Fin 1024) (j : Fin 512) :
    k0_pay2 (F := Ideal) acc a b (ix2 i j) = acc (ix2 i j) + ∑ r : Fin 1024, term (a (ix2 r i)) (b (ix2 r j)) := by
  pointwise [k0_pay2, term]

/-- The first tile starts the accumulator at nought. -/
theorem acc_A (c : Dev nD) (t : Fin cfg0.N) (h : t.val % 8 = 0) (j : S1024x512.Idx) :
    (outsAt0 m c t.val t.isLt).2 j = 0 + part m c t j := by
  rw [outsAt0_A m c t h (by omega)]
  frame_out
  idx_vars j
  refine (pay2_at _ _ _ j0 j1).trans ?_
  pointwise [k0_pay1]
  rfl

/-- Every further tile adds to it. -/
theorem acc_B (c : Dev nD) (t : Fin cfg0.N) (h : ¬t.val % 8 = 0) (j : S1024x512.Idx) :
    (outsAt0 m c t.val t.isLt).2 j = (outsAt0 m c (t.val - 1) (Nat.lt_of_le_of_lt (Nat.sub_le _ _) t.isLt)).2 j + part m c t j := by
  idx_vars j
  by_cases h1 : t.val % 8 = 7
  · rw [outsAt0_C m c t h h1]
    frame_out
    refine (pay2_at _ _ _ j0 j1).trans ?_
    exact congrArg₂ (fun a b : EReal => a + b) (congrFun (read_unread_whole cc0_scratch0 _ _) _) rfl
  · rw [outsAt0_B m c t h h1]
    frame_out
    refine (pay2_at _ _ _ j0 j1).trans ?_
    exact congrArg₂ (fun a b : EReal => a + b) (congrFun (read_unread_whole cc0_scratch0 _ _) _) rfl

/-- The last tile writes the accumulator out. -/
theorem out_C (c : Dev nD) (t : Fin cfg0.N) (h : t.val % 8 = 7) (i : Fin 1024) (j : Fin 512) :
    (outsAt0 m c t.val t.isLt).1 (ix2 i j) = (outsAt0 m c t.val t.isLt).2 (ix2 i j) := by
  rw [outsAt0_C m c t (by omega) h]
  frame_out
  pointwise [k0_pay3]

/-- The kernel's result is the product over all tokens. -/
theorem fin2 (c : Dev nD) : (dats m 0 c).arrAt 2 (cfgs 0).N = fun i : S1024x512.Idx =>
    ∑ s : Fin 8192, term (V m c main_arg0 (ix2 s (i 0))) (V m c main_arg1 (ix2 s (i 1))) := by
  refine (dats m 0 c).arrAt_eq_of_covers 2 _ (by decide +kernel) fun t hf y => ?_
  blk_simp
  rw [after0_2]
  have hl : t.val % 8 = 7 := (flush0_2 t).mp hf
  have hsum := Pipeline.eq_sum_fin_of_reset_step_apply_of_flush (ι := S1024x512.Idx) (M := EReal)
    (fun n h => (outsAt0 m c n h).2) 8 (fun _ => 0) (part m c) (acc_A m c) (acc_B m c) t hl
  idx_vars y
  refine (out_C m c t hl y0 y1).trans ((hsum _).trans ?_)
  have he := emb2 t y0 y1
  change ((View.whole main_v0).slice (win0_2.rect t)).emb (ix2 y0 y1) = _ at he
  rw [he]
  have hp : ∀ t', part m c t' (ix2 y0 y1) = ∑ r : Fin 1024, term (V m c main_arg0 (ix2 (row t' r) y0)) (V m c main_arg1 (ix2 (row t' r) y1)) := by
    intro t'
    refine Finset.sum_congr rfl fun r _ => ?_
    show term (iblk m c 0 t' (ix2 r y0)) (iblk m c 1 t' (ix2 r y1)) = _
    rw [rd0, rd1]
  simp only [hp]
  refine (zero_add _).trans (Fin.sum_mul_add_congr (n := 1024) (L := 8192) (M := EReal) fun s k hl => ?_)
  have hr : ∀ h, row ⟨8 * (t.val / 8) + s.val, h⟩ k = ⟨s.val * 1024 + k.val, hl⟩ := fun h => Fin.ext (by
    show (8 * (t.val / 8) + s.val) * 1024 + k.val = s.val * 1024 + k.val
    have := lt_of_lt_of_eq t.isLt N_0
    omega)
  simp only [hr]
  rfl

open Cert.HalfWeightGradIdeal.Read in
/-- The reference's result is the same product. -/
theorem ref_at (x0 : FVec Ideal S8192x1024 .bf16) (x1 : FVec Ideal S8192x512 .f32) (i : Fin 1024) (j : Fin 512) :
    val_main_v5 (F := Ideal) x0 x1 (ix2 i j) = ∑ s : Fin 8192, term (x0 (ix2 s i)) (x1 (ix2 s j)) := by
  pointwise [val_main_v5, val_main_v4, val_main_v3, val_main_v2, val_main_v1, val_main_cst, val_main_v0]
  exact Finset.sum_congr rfl fun s _ => term_comm _ _

/-- The reference runs to its end and leaves nothing behind. -/
theorem frameR : Cert.quiescent_HalfWeightGradIdeal := fun m ρ _ =>
  (θ_run Cert.HalfWeightGradIdeal.defs _ _).mono (fun r h => ⟨fun c => (h c).2, sem_eq_zero_of_no_sems (by decide) r.2⟩)
    (Cert.HalfWeightGradIdeal.Value.run (F := Ideal) m ρ)

/-- The kernel and the reference leave equal results. -/
theorem algebraic : Cert.algebraic_DwHalfIdeal_HalfWeightGradIdeal := by
  intro m g m' g' _ hin
  refine ⟨_, Cert.DwHalfIdeal.Value.run_blocks m g, (θ_run _ _ _).mono (fun r h c => ?_) (Cert.HalfWeightGradIdeal.Value.run m' g')⟩
  obtain ⟨h0, hk⟩ := h c
  obtain ⟨a0, a1⟩ := hin c
  refine ⟨?_, hk⟩
  rw [h0, Cert.HalfWeightGradIdeal.Read.val_main_v5_eq, fin2, a0, a1]
  refine funext fun i => ?_
  idx_vars i
  refine (ref_at _ _ i0 i1).trans ?_
  simp only [V_main_arg0, V_main_arg1]

end Cert.Proof.DwHalf

end
-- ==== Proof.DwGlu.lean ====
/- The gradient of a weight matrix, `dw_glu`: a product over the token axis, accumulated tile by tile in scratch by
   the kernel and written out at the last tile, is the reference's product over all tokens at once. -/
module

public import proofs.«01_k».proof.Defs
public import proofs.«01_k».proof.Proof.Gen.DwGluIdeal.Value
public import proofs.«01_k».proof.Proof.Gen.GluWeightGradIdeal.Run
public import proofs.«01_k».proof.Proof.Gen.GluWeightGradIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.DwGlu

open Cert.DwGluIdeal Cert.DwGluIdeal.Gen

variable (m : (ℓ : Loc nD τ sig) → Buf (Elt Ideal) ℓ)

/-- Grid point `t` reads tile `t` of both operands and holds the whole result. -/
theorem idx : ∀ t : Fin cfg0.N, win0_0.index t = ![t.val, 0] ∧ win0_1.index t = ![t.val, 0] ∧ win0_2.index t = ![0, 0] :=
  (by decide +kernel : ∀ t : Fin grid0.N, _)

/-- Row `r` of tile `t`, in the whole array. -/
def row (t : Fin cfg0.N) (r : Fin 1024) : Fin 8192 := ⟨t.val * 1024 + r.val, by have := lt_of_lt_of_eq t.isLt N_0; omega⟩

/-- The left operand's tile, read in the whole array. -/
theorem rd0 (c : Dev nD) (t : Fin cfg0.N) (r : Fin 1024) (k : Fin 512) : iblk m c 0 t (ix2 r k) = V m c main_arg0 (ix2 (row t r) k) := by
  blk_ext [iblk, idx t, row]

/-- The right operand's tile, read in the whole array. -/
theorem rd1 (c : Dev nD) (t : Fin cfg0.N) (r : Fin 1024) (k : Fin 1024) : iblk m c 1 t (ix2 r k) = V m c main_arg1 (ix2 (row t r) k) := by
  blk_ext [iblk, idx t, row]

/-- The result's block is the whole result. -/
theorem emb2 (t : Fin cfg0.N) (r : Fin 512) (k : Fin 1024) : ((cfg0.win 2).blk t).view.emb (ix2 r k) = (ix2 r k : S512x1024.Idx) := by
  blk_ext [idx t]

/-- One product of the sum, over the extended reals. -/
def term (a b : EReal) : EReal := a * b

/-- Its factors may be exchanged. -/
theorem term_comm (a b : EReal) : a * b = term b a := mul_comm a b

/-- What tile `t` adds to the accumulator. -/
def part (c : Dev nD) (t : Fin cfg0.N) (j : S512x1024.Idx) : EReal :=
  ∑ r : Fin 1024, term (iblk m c 0 t (ix2 r (j 0))) (iblk m c 1 t (ix2 r (j 1)))

/-- The accumulator's step adds the tile's product. -/
theorem pay2_at (acc : FVec Ideal S512x1024 .f32) (a : FVec Ideal S1024x512 .f32) (b : FVec Ideal S1024x1024 .bf16) (i : Fin 512) (j : Fin 1024) :
    k0_pay2 (F := Ideal) acc a b (ix2 i j) = acc (ix2 i j) + ∑ r : Fin 1024, term (a (ix2 r i)) (b (ix2 r j)) := by
  pointwise [k0_pay2, term]

/-- The first tile starts the accumulator at nought. -/
theorem acc_A (c : Dev nD) (t : Fin cfg0.N) (h : t.val % 8 = 0) (j : S512x1024.Idx) :
    (outsAt0 m c t.val t.isLt).2 j = 0 + part m c t j := by
  rw [outsAt0_A m c t h (by omega)]
  frame_out
  idx_vars j
  refine (pay2_at _ _ _ j0 j1).trans ?_
  pointwise [k0_pay1]
  rfl

/-- Every further tile adds to it. -/
theorem acc_B (c : Dev nD) (t : Fin cfg0.N) (h : ¬t.val % 8 = 0) (j : S512x1024.Idx) :
    (outsAt0 m c t.val t.isLt).2 j = (outsAt0 m c (t.val - 1) (Nat.lt_of_le_of_lt (Nat.sub_le _ _) t.isLt)).2 j + part m c t j := by
  idx_vars j
  by_cases h1 : t.val % 8 = 7
  · rw [outsAt0_C m c t h h1]
    frame_out
    refine (pay2_at _ _ _ j0 j1).trans ?_
    exact congrArg₂ (fun a b : EReal => a + b) (congrFun (read_unread_whole cc0_scratch0 _ _) _) rfl
  · rw [outsAt0_B m c t h h1]
    frame_out
    refine (pay2_at _ _ _ j0 j1).trans ?_
    exact congrArg₂ (fun a b : EReal => a + b) (congrFun (read_unread_whole cc0_scratch0 _ _) _) rfl

/-- The last tile writes the accumulator out. -/
theorem out_C (c : Dev nD) (t : Fin cfg0.N) (h : t.val % 8 = 7) (i : Fin 512) (j : Fin 1024) :
    (outsAt0 m c t.val t.isLt).1 (ix2 i j) = (outsAt0 m c t.val t.isLt).2 (ix2 i j) := by
  rw [outsAt0_C m c t (by omega) h]
  frame_out
  pointwise [k0_pay3]

/-- The kernel's result is the product over all tokens. -/
theorem fin2 (c : Dev nD) : (dats m 0 c).arrAt 2 (cfgs 0).N = fun i : S512x1024.Idx =>
    ∑ s : Fin 8192, term (V m c main_arg0 (ix2 s (i 0))) (V m c main_arg1 (ix2 s (i 1))) := by
  refine (dats m 0 c).arrAt_eq_of_covers 2 _ (by decide +kernel) fun t hf y => ?_
  blk_simp
  rw [after0_2]
  have hl : t.val % 8 = 7 := (flush0_2 t).mp hf
  have hsum := Pipeline.eq_sum_fin_of_reset_step_apply_of_flush (ι := S512x1024.Idx) (M := EReal)
    (fun n h => (outsAt0 m c n h).2) 8 (fun _ => 0) (part m c) (acc_A m c) (acc_B m c) t hl
  idx_vars y
  refine (out_C m c t hl y0 y1).trans ((hsum _).trans ?_)
  have he := emb2 t y0 y1
  change ((View.whole main_v0).slice (win0_2.rect t)).emb (ix2 y0 y1) = _ at he
  rw [he]
  have hp : ∀ t', part m c t' (ix2 y0 y1) = ∑ r : Fin 1024, term (V m c main_arg0 (ix2 (row t' r) y0)) (V m c main_arg1 (ix2 (row t' r) y1)) := by
    intro t'
    refine Finset.sum_congr rfl fun r _ => ?_
    show term (iblk m c 0 t' (ix2 r y0)) (iblk m c 1 t' (ix2 r y1)) = _
    rw [rd0, rd1]
  simp only [hp]
  refine (zero_add _).trans (Fin.sum_mul_add_congr (n := 1024) (L := 8192) (M := EReal) fun s k hl => ?_)
  have hr : ∀ h, row ⟨8 * (t.val / 8) + s.val, h⟩ k = ⟨s.val * 1024 + k.val, hl⟩ := fun h => Fin.ext (by
    show (8 * (t.val / 8) + s.val) * 1024 + k.val = s.val * 1024 + k.val
    have := lt_of_lt_of_eq t.isLt N_0
    omega)
  simp only [hr]
  rfl

open Cert.GluWeightGradIdeal.Read in
/-- The reference's result is the same product. -/
theorem ref_at (x0 : FVec Ideal S8192x512 .f32) (x1 : FVec Ideal S8192x1024 .bf16) (i : Fin 512) (j : Fin 1024) :
    val_main_v5 (F := Ideal) x0 x1 (ix2 i j) = ∑ s : Fin 8192, term (x0 (ix2 s i)) (x1 (ix2 s j)) := by
  pointwise [val_main_v5, val_main_v4, val_main_v3, val_main_v2, val_main_v1, val_main_v0, val_main_cst]
  exact Finset.sum_congr rfl fun s _ => term_comm _ _

/-- The reference runs to its end and leaves nothing behind. -/
theorem frameR : Cert.quiescent_GluWeightGradIdeal := fun m ρ _ =>
  (θ_run Cert.GluWeightGradIdeal.defs _ _).mono (fun r h => ⟨fun c => (h c).2, sem_eq_zero_of_no_sems (by decide) r.2⟩)
    (Cert.GluWeightGradIdeal.Value.run (F := Ideal) m ρ)

/-- The kernel and the reference leave equal results. -/
theorem algebraic : Cert.algebraic_DwGluIdeal_GluWeightGradIdeal := by
  intro m g m' g' _ hin
  refine ⟨_, Cert.DwGluIdeal.Value.run_blocks m g, (θ_run _ _ _).mono (fun r h c => ?_) (Cert.GluWeightGradIdeal.Value.run m' g')⟩
  obtain ⟨h0, hk⟩ := h c
  obtain ⟨a0, a1⟩ := hin c
  refine ⟨?_, hk⟩
  rw [h0, Cert.GluWeightGradIdeal.Read.val_main_v5_eq, fin2, a0, a1]
  refine funext fun i => ?_
  idx_vars i
  refine (ref_at _ _ i0 i1).trans ?_
  simp only [V_main_arg0, V_main_arg1]

end Cert.Proof.DwGlu

end
-- ==== Proof.Cols.lean ====
/- Reading back some of the columns of a tile that has just been stored whole. -/
module

public import proofs.«01_k».proof.Proof.Tiles
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Tiles

open Idealize.ShloMosaic

/-- A load of `k` columns from column `off` on, after a tile was stored whole, reads the tile of these columns. -/
theorem readCov_cols {sig : RefSig} {κ : Kind} {sp : Space} {a b n k off : ℕ} (s : Fin a → Fin b) (X : FVec Ideal ⟨2, ![b, n]⟩ .f32)
    (v : View sig κ sp ⟨2, ![a, n]⟩ .f32) (h : off + k ≤ n)
    (inb : ∀ x, (![0, 0] : Fin 2 → ℕ) x + (⟨2, ![a, n]⟩ : Shape).size x ≤ (⟨2, ![a, n]⟩ : Shape).size x)
    (inb' : ∀ x, (![0, off] : Fin 2 → ℕ) x + (⟨2, ![a, k]⟩ : Shape).size x ≤ (⟨2, ![a, n]⟩ : Shape).size x) :
    v.readCov (Val := Elt Ideal) [⟨Rect.unit (s := ⟨2, ![a, n]⟩) ![0, 0] (⟨2, ![a, n]⟩ : Shape).size inb, tile (φ := .f32) s X⟩] (Rect.unit (s := ⟨2, ![a, n]⟩) ![0, off] (⟨2, ![a, k]⟩ : Shape).size inb').toLoadRect
      = tileFrom (φ := .f32) s off h X := by
  refine (View.readCov_fill (Val := Elt Ideal) v inb (tile (φ := .f32) s X) [] _ (fun x => by fin_cases x <;> rfl)).trans ?_
  funext i
  refine congrArg X ?_
  funext x
  apply Fin.ext
  fin_cases x
  · show (s _).val = (s (i 0)).val
    refine congrArg (fun r => (s r).val) (Fin.ext ?_)
    show 0 + 1 * (i 0).val = (i 0).val
    omega
  · show off + 1 * (i 1).val = off + (i 1).val
    omega

/-- The tile of some columns is the block of the tile at these columns. -/
theorem tileFrom_emb {a b n k off : ℕ} (s : Fin a → Fin b) (X : FVec Ideal ⟨2, ![b, n]⟩ .f32) (h : off + k ≤ n)
    (inb : ∀ x, (![0, off] : Fin 2 → ℕ) x + (⟨2, ![a, k]⟩ : Shape).size x ≤ (⟨2, ![a, n]⟩ : Shape).size x) (i : (⟨2, ![a, k]⟩ : Shape).Idx) :
    tileFrom (φ := .f32) s off h X i = tile (φ := .f32) s X ((Rect.unit (s := ⟨2, ![a, n]⟩) ![0, off] (⟨2, ![a, k]⟩ : Shape).size inb).emb i) := by
  refine congrArg X ?_
  funext x
  apply Fin.ext
  fin_cases x
  · show (s (i 0)).val = (s _).val
    refine congrArg (fun r => (s r).val) (Fin.ext ?_)
    show (i 0).val = 0 + 1 * (i 0).val
    omega
  · show off + (i 1).val = off + 1 * (i 1).val
    omega

end Cert.Tiles

end
-- ==== Proof.EvenIn.lean ====
/- The gradient of the even layer's input half: the product with the weight, a shard of its columns after the other, and the gradient of the normalisation. -/
module

public import proofs.«01_k».proof.Defs
public import proofs.«01_k».proof.Proof.Gen.EvenInGradIdeal.Run
public import proofs.«01_k».proof.Proof.Gen.EvenInGradIdeal.Read
public import proofs.«01_k».proof.Proof.Gen.EvenInBwdIdeal.Value
public import proofs.«01_k».proof.Proof.Tiles
public import proofs.«01_k».proof.Proof.Cols
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.EvenIn

open Cert.EvenInBwdIdeal Cert.EvenInBwdIdeal.Gen Cert.EvenInGradIdeal.Read Cert.Tiles

variable (m : (ℓ : Loc nD τ sig) → Buf (Elt Ideal) ℓ)

/-- Which block every grid point reads and writes of every operand. -/
theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![0, 0]
    ∧ win0_6.index t = ![0, 0, 0]
    ∧ win0_7.index t = ![t.val, 0]
    ∧ win0_8.index t = ![0, 0] :=
  (by decide +kernel : ∀ t : Fin grid0.N, _)

/-- Row `r` of tile `t`, in the whole array. -/
def row (t : Fin cfg0.N) (r : Fin 512) : Fin 8192 := ⟨t.val * 512 + r.val, by have := lt_of_lt_of_eq t.isLt N_0; omega⟩

/-- A sum over 2048 numbers is the sum of its eight eighths. -/
theorem sum_shards (f : Fin 2048 → EReal) : ∑ k, f k
    = (∑ k : Fin 256, f ⟨k.val, by omega⟩) + (∑ k : Fin 256, f ⟨256 + k.val, by omega⟩) + (∑ k : Fin 256, f ⟨512 + k.val, by omega⟩)
      + (∑ k : Fin 256, f ⟨768 + k.val, by omega⟩) + (∑ k : Fin 256, f ⟨1024 + k.val, by omega⟩) + (∑ k : Fin 256, f ⟨1280 + k.val, by omega⟩)
      + (∑ k : Fin 256, f ⟨1536 + k.val, by omega⟩) + (∑ k : Fin 256, f ⟨1792 + k.val, by omega⟩) := by
  refine (Fin.sum_mul_add_congr (S := 8) (n := 256) (L := 2048) (f := f) (F := fun (q : Fin 8) (k : Fin 256) => f ⟨q.val * 256 + k.val, by omega⟩) (fun s k hl => rfl)).symm.trans ?_
  simp only [Fin.sum_univ_eight]
  rfl
section
variable (s : Fin 512 → Fin 8192) (x0 : FVec Ideal ⟨2, ![8192, 1024]⟩ .f32) (x1 : FVec Ideal ⟨2, ![1, 1024]⟩ .f32) (x2 : FVec Ideal ⟨2, ![1024, 2048]⟩ .f32)
  (x3 x4 : FVec Ideal ⟨2, ![8192, 512]⟩ .f32) (x5 x6 : FVec Ideal ⟨2, ![8192, 1024]⟩ .f32)
  (w : FVec Ideal ⟨3, ![8, 1024, 256]⟩ .bf16) (hw : ∀ (k : Fin 8) (i : Fin 1024) (j : Fin 256), w (ix3 k i j) = x2 (ix2 i ⟨256 * k.val + j.val, by omega⟩))

/-- The cotangent of the projection. -/
theorem st4 : k0_pay4 (F := Ideal) (tile s x3) (tile s x4) (tile s x5) = tile (φ := .bf16) s (val_main_v23 (F := Ideal) x3 x4 x5) := by
  funext i
  idx_vars i
  show _ = (val_main_v23 (F := Ideal) x3 x4 x5) (ix2 (s i0) i1)
  pointwise [k0_pay4, val_main_v23, val_main_v21, val_main_v19, val_main_cst_3, val_main_v20, val_main_cst_4, val_main_v22, val_main_cst_5, tile_at, tileFrom_at]
  by_cases h1 : i1.val < 512
  · rw [dif_pos h1, dif_pos h1, dif_neg (by omega), dif_neg (by omega), zero_add, zero_add]
  · rw [dif_neg h1, dif_neg h1, add_zero]
    by_cases h2 : i1.val - 512 < 512
    · rw [dif_pos h2, dif_neg (by omega), dif_pos (by omega), zero_add]
    · rw [dif_neg h2, dif_pos (by omega), dif_neg (by omega), add_zero]
      refine congrArg x5 (congrArg (ix2 (s i0)) (Fin.ext ?_))
      show i1.val - 512 - 512 = i1.val - 1024
      omega

include hw in
/-- The cotangent of the normalised stream. -/
theorem st8 : k0_pay8 (F := Ideal) (tile (φ := .bf16) s (val_main_v23 (F := Ideal) x3 x4 x5)) (k0_pay5 (tile s x3) (tile s x4) (tile s x5) (View.ld w (Rect.unit (s := ⟨3, ![8, 1024, 256]⟩) ![0, 0, 0] S1x1024x256.size inb_S8x1024x256_S1x1024x256_0_0_0)) (View.ld w (Rect.unit (s := ⟨3, ![8, 1024, 256]⟩) ![1, 0, 0] S1x1024x256.size inb_S8x1024x256_S1x1024x256_1_0_0)) (View.ld w (Rect.unit (s := ⟨3, ![8, 1024, 256]⟩) ![2, 0, 0] S1x1024x256.size inb_S8x1024x256_S1x1024x256_2_0_0)) (View.ld w (Rect.unit (s := ⟨3, ![8, 1024, 256]⟩) ![3, 0, 0] S1x1024x256.size inb_S8x1024x256_S1x1024x256_3_0_0))) (k0_pay6 (tile s x3) (tile s x4) (tile s x5)) (k0_pay7 (View.ld w (Rect.unit (s := ⟨3, ![8, 1024, 256]⟩) ![4, 0, 0] S1x1024x256.size inb_S8x1024x256_S1x1024x256_4_0_0))) (constant (F := Ideal) S512x1024 .f32 0x00000000#32) (View.ld w (Rect.unit (s := ⟨3, ![8, 1024, 256]⟩) ![5, 0, 0] S1x1024x256.size inb_S8x1024x256_S1x1024x256_5_0_0)) (View.ld w (Rect.unit (s := ⟨3, ![8, 1024, 256]⟩) ![6, 0, 0] S1x1024x256.size inb_S8x1024x256_S1x1024x256_6_0_0)) (View.ld w (Rect.unit (s := ⟨3, ![8, 1024, 256]⟩) ![7, 0, 0] S1x1024x256.size inb_S8x1024x256_S1x1024x256_7_0_0)) = tile s (val_main_v24 (F := Ideal) x2 x3 x4 x5) := by
  funext i
  idx_vars i
  show _ = (val_main_v24 (F := Ideal) x2 x3 x4 x5) (ix2 (s i0) i1)
  rw [show (val_main_v24 (F := Ideal) x2 x3 x4 x5) (ix2 (s i0) i1) = ∑ e : Fin 2048, (val_main_v23 (F := Ideal) x3 x4 x5) (ix2 (s i0) e) * x2 (ix2 i1 e) by pointwise [val_main_v24], sum_shards]
  pointwise [k0_pay8, k0_pay5, k0_pay6, k0_pay7, st4, tile_at, hw]

/-- The mean square of a token, and the small constant. -/
theorem st9 : k0_pay9 (F := Ideal) (tile s x0) = tile s (val_main_v6 (F := Ideal) x0) := by
  funext i
  idx_vars i
  show _ = (val_main_v6 (F := Ideal) x0) (ix2 (s i0) i1)
  pointwise [k0_pay9, val_main_v6, val_main_v4, val_main_v2, val_main_v1, val_main_v0, val_main_cst, val_main_v3, val_main_cst_0, val_main_v5, val_main_cst_1, tile_at, tileFrom_at]

/-- Its inverse root. -/
theorem st10 : k0_pay10 (F := Ideal) (tile s x0) = tile s (val_main_v7 (F := Ideal) x0) := by
  funext i
  idx_vars i
  show _ = (val_main_v7 (F := Ideal) x0) (ix2 (s i0) i1)
  pointwise [k0_pay10, st9, val_main_v7, tile_at, tileFrom_at]

/-- The derivative of the inverse root by the mean square. -/
theorem st11 : k0_pay11 (F := Ideal) (tile s x0) = tile s (val_main_v10 (F := Ideal) x0) := by
  funext i
  idx_vars i
  show _ = (val_main_v10 (F := Ideal) x0) (ix2 (s i0) i1)
  pointwise [k0_pay11, st10, st9, val_main_v10, val_main_v9, val_main_cst_2, val_main_v8, tile_at, tileFrom_at]

include hw in
/-- The cotangent of the normalised stream, times the scale. -/
theorem st13 : k0_pay13 (F := Ideal) (tile (φ := .bf16) s (val_main_v23 (F := Ideal) x3 x4 x5)) (k0_pay5 (tile s x3) (tile s x4) (tile s x5) (View.ld w (Rect.unit (s := ⟨3, ![8, 1024, 256]⟩) ![0, 0, 0] S1x1024x256.size inb_S8x1024x256_S1x1024x256_0_0_0)) (View.ld w (Rect.unit (s := ⟨3, ![8, 1024, 256]⟩) ![1, 0, 0] S1x1024x256.size inb_S8x1024x256_S1x1024x256_1_0_0)) (View.ld w (Rect.unit (s := ⟨3, ![8, 1024, 256]⟩) ![2, 0, 0] S1x1024x256.size inb_S8x1024x256_S1x1024x256_2_0_0)) (View.ld w (Rect.unit (s := ⟨3, ![8, 1024, 256]⟩) ![3, 0, 0] S1x1024x256.size inb_S8x1024x256_S1x1024x256_3_0_0))) (k0_pay6 (tile s x3) (tile s x4) (tile s x5)) (k0_pay7 (View.ld w (Rect.unit (s := ⟨3, ![8, 1024, 256]⟩) ![4, 0, 0] S1x1024x256.size inb_S8x1024x256_S1x1024x256_4_0_0))) (constant (F := Ideal) S512x1024 .f32 0x00000000#32) (View.ld w (Rect.unit (s := ⟨3, ![8, 1024, 256]⟩) ![5, 0, 0] S1x1024x256.size inb_S8x1024x256_S1x1024x256_5_0_0)) (View.ld w (Rect.unit (s := ⟨3, ![8, 1024, 256]⟩) ![6, 0, 0] S1x1024x256.size inb_S8x1024x256_S1x1024x256_6_0_0)) (View.ld w (Rect.unit (s := ⟨3, ![8, 1024, 256]⟩) ![7, 0, 0] S1x1024x256.size inb_S8x1024x256_S1x1024x256_7_0_0)) x1 = tile s (val_main_v29 (F := Ideal) x1 x2 x3 x4 x5) := by
  funext i
  idx_vars i
  show _ = (val_main_v29 (F := Ideal) x1 x2 x3 x4 x5) (ix2 (s i0) i1)
  pointwise [k0_pay13, st8 (hw := hw), val_main_v29, val_main_v28, tile_at, tileFrom_at]

include hw in
/-- That, times the stream. -/
theorem st14 : k0_pay14 (F := Ideal) (tile (φ := .bf16) s (val_main_v23 (F := Ideal) x3 x4 x5)) (k0_pay5 (tile s x3) (tile s x4) (tile s x5) (View.ld w (Rect.unit (s := ⟨3, ![8, 1024, 256]⟩) ![0, 0, 0] S1x1024x256.size inb_S8x1024x256_S1x1024x256_0_0_0)) (View.ld w (Rect.unit (s := ⟨3, ![8, 1024, 256]⟩) ![1, 0, 0] S1x1024x256.size inb_S8x1024x256_S1x1024x256_1_0_0)) (View.ld w (Rect.unit (s := ⟨3, ![8, 1024, 256]⟩) ![2, 0, 0] S1x1024x256.size inb_S8x1024x256_S1x1024x256_2_0_0)) (View.ld w (Rect.unit (s := ⟨3, ![8, 1024, 256]⟩) ![3, 0, 0] S1x1024x256.size inb_S8x1024x256_S1x1024x256_3_0_0))) (k0_pay6 (tile s x3) (tile s x4) (tile s x5)) (k0_pay7 (View.ld w (Rect.unit (s := ⟨3, ![8, 1024, 256]⟩) ![4, 0, 0] S1x1024x256.size inb_S8x1024x256_S1x1024x256_4_0_0))) (constant (F := Ideal) S512x1024 .f32 0x00000000#32) (View.ld w (Rect.unit (s := ⟨3, ![8, 1024, 256]⟩) ![5, 0, 0] S1x1024x256.size inb_S8x1024x256_S1x1024x256_5_0_0)) (View.ld w (Rect.unit (s := ⟨3, ![8, 1024, 256]⟩) ![6, 0, 0] S1x1024x256.size inb_S8x1024x256_S1x1024x256_6_0_0)) (View.ld w (Rect.unit (s := ⟨3, ![8, 1024, 256]⟩) ![7, 0, 0] S1x1024x256.size inb_S8x1024x256_S1x1024x256_7_0_0)) (tile s x0) x1 = tile s (val_main_v30 (F := Ideal) x0 x1 x2 x3 x4 x5) := by
  funext i
  idx_vars i
  show _ = (val_main_v30 (F := Ideal) x0 x1 x2 x3 x4 x5) (ix2 (s i0) i1)
  pointwise [k0_pay14, st13 (hw := hw), val_main_v30, tile_at, tileFrom_at]

/-- The gradient of the stream. -/
theorem st1 : k0_pay1 (F := Ideal) (tile s x0) (tile s (val_main_v7 (F := Ideal) x0)) (tile s (val_main_v10 (F := Ideal) x0)) (tile s (val_main_v29 (F := Ideal) x1 x2 x3 x4 x5)) (tile s (val_main_v30 (F := Ideal) x0 x1 x2 x3 x4 x5)) (tile s x6) = tile s (val_main_v44 (F := Ideal) x0 x1 x2 x3 x4 x5 x6) := by
  funext i
  idx_vars i
  show _ = (val_main_v44 (F := Ideal) x0 x1 x2 x3 x4 x5 x6) (ix2 (s i0) i1)
  pointwise [k0_pay1, val_main_v44, val_main_v43, val_main_v41, val_main_v34, val_main_v33, val_main_v40, val_main_v39, val_main_v38, val_main_v37, val_main_v35, val_main_v32, val_main_v31, val_main_cst_7, val_main_v36, val_main_cst_8, val_main_cst_9, val_main_v42, tile_at, tileFrom_at]

include hw in
/-- One tile's part of the gradient of the scale. -/
theorem st12 (r : Fin 1) (l : Fin 1024) : k0_pay12 (F := Ideal) (tile (φ := .bf16) s (val_main_v23 (F := Ideal) x3 x4 x5)) (k0_pay5 (tile s x3) (tile s x4) (tile s x5) (View.ld w (Rect.unit (s := ⟨3, ![8, 1024, 256]⟩) ![0, 0, 0] S1x1024x256.size inb_S8x1024x256_S1x1024x256_0_0_0)) (View.ld w (Rect.unit (s := ⟨3, ![8, 1024, 256]⟩) ![1, 0, 0] S1x1024x256.size inb_S8x1024x256_S1x1024x256_1_0_0)) (View.ld w (Rect.unit (s := ⟨3, ![8, 1024, 256]⟩) ![2, 0, 0] S1x1024x256.size inb_S8x1024x256_S1x1024x256_2_0_0)) (View.ld w (Rect.unit (s := ⟨3, ![8, 1024, 256]⟩) ![3, 0, 0] S1x1024x256.size inb_S8x1024x256_S1x1024x256_3_0_0))) (k0_pay6 (tile s x3) (tile s x4) (tile s x5)) (k0_pay7 (View.ld w (Rect.unit (s := ⟨3, ![8, 1024, 256]⟩) ![4, 0, 0] S1x1024x256.size inb_S8x1024x256_S1x1024x256_4_0_0))) (constant (F := Ideal) S512x1024 .f32 0x00000000#32) (View.ld w (Rect.unit (s := ⟨3, ![8, 1024, 256]⟩) ![5, 0, 0] S1x1024x256.size inb_S8x1024x256_S1x1024x256_5_0_0)) (View.ld w (Rect.unit (s := ⟨3, ![8, 1024, 256]⟩) ![6, 0, 0] S1x1024x256.size inb_S8x1024x256_S1x1024x256_6_0_0)) (View.ld w (Rect.unit (s := ⟨3, ![8, 1024, 256]⟩) ![7, 0, 0] S1x1024x256.size inb_S8x1024x256_S1x1024x256_7_0_0)) (tile s x0) (ix2 r l) = ∑ k : Fin 512, (val_main_v25 (F := Ideal) x0 x2 x3 x4 x5) (ix2 (s k) l) := by
  pointwise [k0_pay12, st8 (hw := hw), st10, val_main_v25, val_main_v12, val_main_v11, tile_at]

include hw in
/-- One tile's part added to what the tiles before left. -/
theorem acc2 (a : FVec Ideal S1x1024 .f32) (r : Fin 1) (l : Fin 1024) : k0_pay2 (F := Ideal) (k0_pay12 (F := Ideal) (tile (φ := .bf16) s (val_main_v23 (F := Ideal) x3 x4 x5)) (k0_pay5 (tile s x3) (tile s x4) (tile s x5) (View.ld w (Rect.unit (s := ⟨3, ![8, 1024, 256]⟩) ![0, 0, 0] S1x1024x256.size inb_S8x1024x256_S1x1024x256_0_0_0)) (View.ld w (Rect.unit (s := ⟨3, ![8, 1024, 256]⟩) ![1, 0, 0] S1x1024x256.size inb_S8x1024x256_S1x1024x256_1_0_0)) (View.ld w (Rect.unit (s := ⟨3, ![8, 1024, 256]⟩) ![2, 0, 0] S1x1024x256.size inb_S8x1024x256_S1x1024x256_2_0_0)) (View.ld w (Rect.unit (s := ⟨3, ![8, 1024, 256]⟩) ![3, 0, 0] S1x1024x256.size inb_S8x1024x256_S1x1024x256_3_0_0))) (k0_pay6 (tile s x3) (tile s x4) (tile s x5)) (k0_pay7 (View.ld w (Rect.unit (s := ⟨3, ![8, 1024, 256]⟩) ![4, 0, 0] S1x1024x256.size inb_S8x1024x256_S1x1024x256_4_0_0))) (constant (F := Ideal) S512x1024 .f32 0x00000000#32) (View.ld w (Rect.unit (s := ⟨3, ![8, 1024, 256]⟩) ![5, 0, 0] S1x1024x256.size inb_S8x1024x256_S1x1024x256_5_0_0)) (View.ld w (Rect.unit (s := ⟨3, ![8, 1024, 256]⟩) ![6, 0, 0] S1x1024x256.size inb_S8x1024x256_S1x1024x256_6_0_0)) (View.ld w (Rect.unit (s := ⟨3, ![8, 1024, 256]⟩) ![7, 0, 0] S1x1024x256.size inb_S8x1024x256_S1x1024x256_7_0_0)) (tile s x0)) a (ix2 r l) = a (ix2 r l) + ∑ k : Fin 512, (val_main_v25 (F := Ideal) x0 x2 x3 x4 x5) (ix2 (s k) l) := by
  pointwise [k0_pay2, st12 s x0 x2 x3 x4 x5 w hw, tile_at]
end

/-- What grid point `t` reads of operand 0 is its tile. -/
theorem rd0 (c : Dev nD) (t : Fin cfg0.N) : iblk m c 0 t = tile (φ := .f32) (row t) (V m c main_arg0) := by
  funext i
  idx_vars i
  show _ = V m c main_arg0 (ix2 (row t i0) i1)
  blk_ext [iblk, idx t, row]

/-- What grid point `t` reads of operand 1 is its tile. -/
theorem rd1 (c : Dev nD) (t : Fin cfg0.N) : iblk m c 1 t = tile (φ := .f32) (row t) (V m c main_arg3) := by
  funext i
  idx_vars i
  show _ = V m c main_arg3 (ix2 (row t i0) i1)
  blk_ext [iblk, idx t, row]

/-- What grid point `t` reads of operand 2 is its tile. -/
theorem rd2 (c : Dev nD) (t : Fin cfg0.N) : iblk m c 2 t = tile (φ := .f32) (row t) (V m c main_arg4) := by
  funext i
  idx_vars i
  show _ = V m c main_arg4 (ix2 (row t i0) i1)
  blk_ext [iblk, idx t, row]

/-- What grid point `t` reads of operand 3 is its tile. -/
theorem rd3 (c : Dev nD) (t : Fin cfg0.N) : iblk m c 3 t = tile (φ := .f32) (row t) (V m c main_arg5) := by
  funext i
  idx_vars i
  show _ = V m c main_arg5 (ix2 (row t i0) i1)
  blk_ext [iblk, idx t, row]

/-- What grid point `t` reads of operand 4 is its tile. -/
theorem rd4 (c : Dev nD) (t : Fin cfg0.N) : iblk m c 4 t = tile (φ := .f32) (row t) (V m c main_arg6) := by
  funext i
  idx_vars i
  show _ = V m c main_arg6 (ix2 (row t i0) i1)
  blk_ext [iblk, idx t, row]

/-- Operand 5 is read whole. -/
theorem rd5 (c : Dev nD) (t : Fin cfg0.N) : iblk m c 5 t = V m c main_arg1 := by
  funext i
  idx_vars i
  blk_ext [iblk, idx t, row]

/-- Operand 6 is read whole. -/
theorem rd6 (c : Dev nD) (t : Fin cfg0.N) : iblk m c 6 t = V m c main_v2 := by
  funext i
  idx_vars i
  blk_ext [iblk, idx t, row]

/-- Over the extended reals shard `k` of the cast weight holds columns `256 k, 256 k + 1, …` of the weight. -/
theorem hw (c : Dev nD) (k : Fin 8) (i : Fin 1024) (j : Fin 256) : V m c main_v2 (ix3 k i j) = V m c main_arg2 (ix2 i ⟨256 * k.val + j.val, by omega⟩) := by
  rw [V_main_arg2]
  entry_read
  pointwise []
  refine congrArg (m (c.tc.loc main_arg2)) (congrArg (ix2 i) (Fin.ext ?_))
  show k.val * 256 + j.val = 256 * k.val + j.val
  omega

/-- Where entry `(r, l)` of point `t`'s block of result 7 lies. -/
theorem emb7 (t : Fin cfg0.N) (r : Fin 512) (l : Fin 1024) : ((View.whole main_v3_0).slice (win0_7.rect t)).emb (ix2 r l) = ix2 (row t r) l := by
  blk_ext [idx t, row]

/-- Grid point `t` leaves its tile of the gradient of the stream. -/
theorem out7 (c : Dev nD) (t : Fin cfg0.N) : (outsAt0 m c t.val t.isLt).1 = tile (φ := .f32) (row t) (val_main_v44 (F := Ideal) (V m c main_arg0) (V m c main_arg1) (V m c main_arg2) (V m c main_arg3) (V m c main_arg4) (V m c main_arg5) (V m c main_arg6)) := by
  funext i
  by_cases h : t.val % 16 = 0
  · rw [outsAt0_A m c t h]
    frame_out
    simp only [rd0, rd1, rd2, rd3, rd4, rd5, rd6, st4, st9, st10, st11, st13 (hw := hw m c), st14 (hw := hw m c), st1]
  · rw [outsAt0_B m c t h]
    frame_out
    simp only [rd0, rd1, rd2, rd3, rd4, rd5, rd6, st4, st9, st10, st11, st13 (hw := hw m c), st14 (hw := hw m c), st1]

/-- So the call leaves the gradient of the stream. -/
theorem fin7 (c : Dev nD) : (dats m 0 c).arrAt 7 (cfgs 0).N = (val_main_v44 (F := Ideal) (V m c main_arg0) (V m c main_arg1) (V m c main_arg2) (V m c main_arg3) (V m c main_arg4) (V m c main_arg5) (V m c main_arg6)) := by
  refine (dats m 0 c).arrAt_eq_of_covers 7 _ (by decide +kernel) fun t hf y => ?_
  blk_simp
  rw [after0_7, out7]
  idx_vars y
  have he := emb7 t y0 y1
  change ((View.whole main_v3_0).slice (win0_7.rect t)).emb (ix2 y0 y1) = _ at he
  rw [he]
  rfl

/-- Where entry `(r, l)` of the block of result 8 lies. -/
theorem emb8 (t : Fin cfg0.N) (r : Fin 1) (l : Fin 1024) : ((View.whole main_v3_1).slice (win0_8.rect t)).emb (ix2 r l) = ix2 r l := by
  blk_ext [idx t, row]

/-- What token `k` adds to the gradient of the norm's scale. -/
def term8 (c : Dev nD) (i : S1x1024.Idx) (k : Fin 8192) : EReal := (val_main_v25 (F := Ideal) (V m c main_arg0) (V m c main_arg2) (V m c main_arg3) (V m c main_arg4) (V m c main_arg5)) (ix2 k (i 1))

/-- What tile `t` adds to it. -/
def part8 (c : Dev nD) (t : Fin cfg0.N) (i : S1x1024.Idx) : EReal := ∑ k : Fin 512, term8 m c i (row t k)

/-- The first tile starts the sum. -/
theorem acc8_A (c : Dev nD) (t : Fin cfg0.N) (h : t.val % 16 = 0) (i : S1x1024.Idx) :
    (outsAt0 m c t.val t.isLt).2 i = 0 + part8 m c t i := by
  rw [outsAt0_A m c t h]
  frame_out
  idx_vars i
  simp only [rd0, rd1, rd2, rd3, rd4, rd5, rd6, st4]
  refine (acc2 (hw := hw m c) ..).trans ?_
  pointwise [k0_pay3]
  rfl

/-- Every further tile adds to it. -/
theorem acc8_B (c : Dev nD) (t : Fin cfg0.N) (h : ¬t.val % 16 = 0) (i : S1x1024.Idx) :
    (outsAt0 m c t.val t.isLt).2 i = (outsAt0 m c (t.val - 1) (Nat.lt_of_le_of_lt (Nat.sub_le _ _) t.isLt)).2 i + part8 m c t i := by
  rw [outsAt0_B m c t h]
  frame_out
  idx_vars i
  simp only [rd0, rd1, rd2, rd3, rd4, rd5, rd6, st4]
  refine (acc2 (hw := hw m c) ..).trans ?_
  rfl

/-- The sum over all tokens is the reference's. -/
theorem ref8 (c : Dev nD) (i : S1x1024.Idx) : ∑ k : Fin 8192, term8 m c i k = (val_main_v27 (F := Ideal) (V m c main_arg0) (V m c main_arg2) (V m c main_arg3) (V m c main_arg4) (V m c main_arg5)) i := by
  idx_vars i
  pointwise [val_main_v27, val_main_v26, val_main_cst_6]
  rfl

/-- So the call leaves the gradient of the norm's scale. -/
theorem fin8 (c : Dev nD) : (dats m 0 c).arrAt 8 (cfgs 0).N = (val_main_v27 (F := Ideal) (V m c main_arg0) (V m c main_arg2) (V m c main_arg3) (V m c main_arg4) (V m c main_arg5)) := by
  refine (dats m 0 c).arrAt_eq_of_covers 8 _ (by decide +kernel) fun t hf y => ?_
  blk_simp
  rw [after0_8]
  have hl : t.val % 16 = 15 := (flush0_8 t).mp hf
  have hsum := Pipeline.eq_sum_fin_of_reset_step_apply_of_flush (ι := S1x1024.Idx) (M := EReal)
    (fun n h => (outsAt0 m c n h).2) 16 (fun _ => 0) (part8 m c) (acc8_A m c) (acc8_B m c) t hl
  idx_vars y
  refine (hsum _).trans ?_
  have he := emb8 t y0 y1
  change ((View.whole main_v3_1).slice (win0_8.rect t)).emb (ix2 y0 y1) = _ at he
  rw [he, ← ref8]
  refine (zero_add _).trans (Fin.sum_mul_add_congr (n := 512) (L := 8192) (M := EReal) fun s k hl => ?_)
  refine congrArg (term8 m c (ix2 y0 y1)) (Fin.ext ?_)
  show (16 * (t.val / 16) + s.val) * 512 + k.val = s.val * 512 + k.val
  have := lt_of_lt_of_eq t.isLt N_0
  omega

/-- The reference runs to its end and leaves nothing behind. -/
theorem frameR : Cert.quiescent_EvenInGradIdeal := fun m ρ _ =>
  (θ_run Cert.EvenInGradIdeal.defs _ _).mono (fun r h => ⟨fun c => (h c).2.2, sem_eq_zero_of_no_sems (by decide) r.2⟩)
    (Cert.EvenInGradIdeal.Value.run (F := Ideal) m ρ)

set_option maxHeartbeats 2000000 in
/-- The call and the reference leave equal results. -/
theorem algebraic : Cert.algebraic_EvenInBwdIdeal_EvenInGradIdeal := by
  intro m g m' g' _ hin
  refine ⟨_, _, Cert.EvenInBwdIdeal.Value.run_blocks m g, (θ_run _ _ _).mono (fun r h c => ?_) (Cert.EvenInGradIdeal.Value.run m' g')⟩
  obtain ⟨h0, h1, hk⟩ := h c
  obtain ⟨a0, a1, a2, a3, a4, a5, a6⟩ := hin c
  refine ⟨?_, ?_, hk⟩
  · have e : val_main_v44 (F := Ideal) (m' ((c.tc : Thread nD τ).loc Cert.EvenInGradIdeal.main_arg0)) (m' ((c.tc : Thread nD τ).loc Cert.EvenInGradIdeal.main_arg1)) (m' ((c.tc : Thread nD τ).loc Cert.EvenInGradIdeal.main_arg2)) (m' ((c.tc : Thread nD τ).loc Cert.EvenInGradIdeal.main_arg3)) (m' ((c.tc : Thread nD τ).loc Cert.EvenInGradIdeal.main_arg4)) (m' ((c.tc : Thread nD τ).loc Cert.EvenInGradIdeal.main_arg5)) (m' ((c.tc : Thread nD τ).loc Cert.EvenInGradIdeal.main_arg6)) = (val_main_v44 (F := Ideal) (V m c main_arg0) (V m c main_arg1) (V m c main_arg2) (V m c main_arg3) (V m c main_arg4) (V m c main_arg5) (V m c main_arg6)) := by
      rw [V_main_arg0, V_main_arg1, V_main_arg2, V_main_arg3, V_main_arg4, V_main_arg5, V_main_arg6, a0, a1, a2, a3, a4, a5, a6]
    refine (h0.trans ?_).trans (e.trans (fin7 m c).symm)
    exact val_main_v44_eq ..
  · have e : val_main_v27 (F := Ideal) (m' ((c.tc : Thread nD τ).loc Cert.EvenInGradIdeal.main_arg0)) (m' ((c.tc : Thread nD τ).loc Cert.EvenInGradIdeal.main_arg2)) (m' ((c.tc : Thread nD τ).loc Cert.EvenInGradIdeal.main_arg3)) (m' ((c.tc : Thread nD τ).loc Cert.EvenInGradIdeal.main_arg4)) (m' ((c.tc : Thread nD τ).loc Cert.EvenInGradIdeal.main_arg5)) = (val_main_v27 (F := Ideal) (V m c main_arg0) (V m c main_arg2) (V m c main_arg3) (V m c main_arg4) (V m c main_arg5)) := by
      rw [V_main_arg0, V_main_arg2, V_main_arg3, V_main_arg4, V_main_arg5, a0, a2, a3, a4, a5]
    refine (h1.trans ?_).trans (e.trans (fin8 m c).symm)
    exact val_main_v27_eq ..

end Cert.Proof.EvenIn

end
-- ==== Proof.OddInFwd.lean ====
/- The odd layer's input half, forward: the call leaves the projection, the gated value and the normalised stream. -/
module

public import proofs.«01_k».proof.Defs
public import proofs.«01_k».proof.Proof.Gen.OddInRefIdeal.Run
public import proofs.«01_k».proof.Proof.Gen.OddInRefIdeal.Read
public import proofs.«01_k».proof.Proof.Gen.OddInFwdIdeal.Value
public import proofs.«01_k».proof.Proof.Tiles
public import proofs.«01_k».proof.Proof.Cols
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.OddInFwd

open Cert.OddInFwdIdeal Cert.OddInFwdIdeal.Gen Cert.OddInRefIdeal.Read Cert.Tiles

variable (m : (ℓ : Loc nD τ sig) → Buf (Elt Ideal) ℓ)

/-- Which block every grid point reads and writes of every operand. -/
theorem idx : ∀ t : Fin cfg0.N, win0_0.index t = ![t.val, 0]
    ∧ win0_1.index t = ![0, 0]
    ∧ win0_2.index t = ![0, 0]
    ∧ win0_3.index t = ![t.val, 0]
    ∧ win0_4.index t = ![t.val, 0]
    ∧ win0_5.index t = ![t.val, 0] :=
  (by decide +kernel : ∀ t : Fin grid0.N, _)

/-- Row `r` of tile `t`, in the whole array. -/
def row (t : Fin cfg0.N) (r : Fin 512) : Fin 8192 := ⟨t.val * 512 + r.val, by have := lt_of_lt_of_eq t.isLt N_0; omega⟩

section
variable (s : Fin 512 → Fin 8192) (x0 : FVec Ideal ⟨2, ![8192, 1024]⟩ .f32) (x1 : FVec Ideal ⟨2, ![1, 1024]⟩ .f32) (x2 : FVec Ideal ⟨2, ![1024, 3072]⟩ .f32)
  (w : FVec Ideal ⟨2, ![1024, 3072]⟩ .bf16) (hw : ∀ i, w i = x2 i)

/-- The normalised stream. -/
theorem st1 : k0_pay1 (F := Ideal) (tile s x0) x1 = tile s (val_main_v22 (F := Ideal) x0 x1) := by
  funext i
  idx_vars i
  show _ = (val_main_v22 (F := Ideal) x0 x1) (ix2 (s i0) i1)
  pointwise [k0_pay1, val_main_v22, val_main_v11, val_main_v9, val_main_v8, val_main_v7, val_main_v6, val_main_v4, val_main_v2, val_main_v1, val_main_v0, val_main_cst, val_main_v3, val_main_cst_0, val_main_v5, val_main_cst_1, val_main_v10, tile_at, tileFrom_at]

include hw in
/-- The projection. -/
theorem st2 : k0_pay2 (F := Ideal) (tile s x0) x1 w = tile s (val_main_v12 (F := Ideal) x0 x1 x2) := by
  funext i
  idx_vars i
  show _ = (val_main_v12 (F := Ideal) x0 x1 x2) (ix2 (s i0) i1)
  pointwise [k0_pay2, st1, hw, val_main_v22, val_main_v12, tile_at, tileFrom_at]

/-- The gated value. -/
theorem st3 : k0_pay3 (F := Ideal) (tileFrom (φ := .f32) s 0 (by decide) (val_main_v12 (F := Ideal) x0 x1 x2)) (tileFrom (φ := .f32) s 1024 (by decide) (val_main_v12 (F := Ideal) x0 x1 x2)) = tile s (val_main_v21 (F := Ideal) x0 x1 x2) := by
  funext i
  idx_vars i
  show _ = (val_main_v21 (F := Ideal) x0 x1 x2) (ix2 (s i0) i1)
  pointwise [k0_pay3, val_main_v21, val_main_v13, val_main_v20, val_main_v19, val_main_cst_3, val_main_v18, val_main_v17, val_main_cst_2, val_main_v16, val_main_v15, val_main_v14, Ideal.logistic, tile_at, tileFrom_at]
end

/-- What grid point `t` reads of operand 0 is its tile. -/
theorem rd0 (c : Dev nD) (t : Fin cfg0.N) : iblk m c 0 t = tile (φ := .f32) (row t) (V m c main_arg0) := by
  funext i
  idx_vars i
  show _ = V m c main_arg0 (ix2 (row t i0) i1)
  blk_ext [iblk, idx t, row]

/-- Operand 1 is read whole. -/
theorem rd1 (c : Dev nD) (t : Fin cfg0.N) : iblk m c 1 t = V m c main_arg1 := by
  funext i
  idx_vars i
  blk_ext [iblk, idx t, row]

/-- Operand 2 is read whole. -/
theorem rd2 (c : Dev nD) (t : Fin cfg0.N) : iblk m c 2 t = V m c main_v0 := by
  funext i
  idx_vars i
  blk_ext [iblk, idx t, row]

/-- Over the extended reals the cast weight is the weight. -/
theorem hw (c : Dev nD) (i : S1024x3072.Idx) : V m c main_v0 i = V m c main_arg2 i := by
  revert i
  refine congrFun ?_
  rw [V_main_arg2]
  entry_read
  rfl

/-- Where entry `(r, l)` of point `t`'s block of result 3 lies. -/
theorem emb3 (t : Fin cfg0.N) (r : Fin 512) (l : Fin 3072) : ((View.whole main_v1_0).slice (win0_3.rect t)).emb (ix2 r l) = ix2 (row t r) l := by
  blk_ext [idx t, row]

/-- Grid point `t` leaves its tile of the projection. -/
theorem out3 (c : Dev nD) (t : Fin cfg0.N) : (outsAt0 m c t).1 = tile (φ := .f32) (row t) (val_main_v12 (F := Ideal) (V m c main_arg0) (V m c main_arg1) (V m c main_arg2)) := by
  unfold outsAt0
  funext i
  frame_out
  simp only [rd0, rd1, rd2, st1, st2 (hw := hw m c)]

/-- So the call leaves the projection. -/
theorem fin3 (c : Dev nD) : (dats m 0 c).arrAt 3 (cfgs 0).N = (val_main_v12 (F := Ideal) (V m c main_arg0) (V m c main_arg1) (V m c main_arg2)) := by
  refine (dats m 0 c).arrAt_eq_of_covers 3 _ (by decide +kernel) fun t hf y => ?_
  blk_simp
  rw [after0_3, out3]
  idx_vars y
  have he := emb3 t y0 y1
  change ((View.whole main_v1_0).slice (win0_3.rect t)).emb (ix2 y0 y1) = _ at he
  rw [he]
  rfl

/-- Where entry `(r, l)` of point `t`'s block of result 4 lies. -/
theorem emb4 (t : Fin cfg0.N) (r : Fin 512) (l : Fin 1024) : ((View.whole main_v1_1).slice (win0_4.rect t)).emb (ix2 r l) = ix2 (row t r) l := by
  blk_ext [idx t, row]

/-- Grid point `t` leaves its tile of the gated value. -/
theorem out4 (c : Dev nD) (t : Fin cfg0.N) : (outsAt0 m c t).2.1 = tile (φ := .f32) (row t) (val_main_v21 (F := Ideal) (V m c main_arg0) (V m c main_arg1) (V m c main_arg2)) := by
  unfold outsAt0
  funext i
  frame_out
  rw [rd0, rd1, rd2, st2 (hw := hw m c)]
  refine (congrFun (congrArg₂ k0_pay3 (readCov_cols (row t) (val_main_v12 (F := Ideal) (V m c main_arg0) (V m c main_arg1) (V m c main_arg2)) _ (by decide) _ _) (readCov_cols (row t) (val_main_v12 (F := Ideal) (V m c main_arg0) (V m c main_arg1) (V m c main_arg2)) _ (by decide) _ _)) i).trans ?_
  rw [st3]

/-- So the call leaves the gated value. -/
theorem fin4 (c : Dev nD) : (dats m 0 c).arrAt 4 (cfgs 0).N = (val_main_v21 (F := Ideal) (V m c main_arg0) (V m c main_arg1) (V m c main_arg2)) := by
  refine (dats m 0 c).arrAt_eq_of_covers 4 _ (by decide +kernel) fun t hf y => ?_
  blk_simp
  rw [after0_4, out4]
  idx_vars y
  have he := emb4 t y0 y1
  change ((View.whole main_v1_1).slice (win0_4.rect t)).emb (ix2 y0 y1) = _ at he
  rw [he]
  rfl

/-- Where entry `(r, l)` of point `t`'s block of result 5 lies. -/
theorem emb5 (t : Fin cfg0.N) (r : Fin 512) (l : Fin 1024) : ((View.whole main_v1_2).slice (win0_5.rect t)).emb (ix2 r l) = ix2 (row t r) l := by
  blk_ext [idx t, row]

/-- Grid point `t` leaves its tile of the normalised stream. -/
theorem out5 (c : Dev nD) (t : Fin cfg0.N) : (outsAt0 m c t).2.2 = tile (φ := .bf16) (row t) (val_main_v22 (F := Ideal) (V m c main_arg0) (V m c main_arg1)) := by
  unfold outsAt0
  funext i
  frame_out
  simp only [rd0, rd1, rd2, st1, st2 (hw := hw m c)]

/-- So the call leaves the normalised stream. -/
theorem fin5 (c : Dev nD) : (dats m 0 c).arrAt 5 (cfgs 0).N = (val_main_v22 (F := Ideal) (V m c main_arg0) (V m c main_arg1)) := by
  refine (dats m 0 c).arrAt_eq_of_covers 5 _ (by decide +kernel) fun t hf y => ?_
  blk_simp
  rw [after0_5, out5]
  idx_vars y
  have he := emb5 t y0 y1
  change ((View.whole main_v1_2).slice (win0_5.rect t)).emb (ix2 y0 y1) = _ at he
  rw [he]
  rfl

/-- The reference runs to its end and leaves nothing behind. -/
theorem frameR : Cert.quiescent_OddInRefIdeal := fun m ρ _ =>
  (θ_run Cert.OddInRefIdeal.defs _ _).mono (fun r h => ⟨fun c => (h c).2.2.2, sem_eq_zero_of_no_sems (by decide) r.2⟩)
    (Cert.OddInRefIdeal.Value.run (F := Ideal) m ρ)

set_option maxHeartbeats 2000000 in
/-- The call and the reference leave equal results. -/
theorem algebraic : Cert.algebraic_OddInFwdIdeal_OddInRefIdeal := by
  intro m g m' g' _ hin
  refine ⟨_, _, _, Cert.OddInFwdIdeal.Value.run_blocks m g, (θ_run _ _ _).mono (fun r h c => ?_) (Cert.OddInRefIdeal.Value.run m' g')⟩
  obtain ⟨h0, h1, h2, hk⟩ := h c
  obtain ⟨a0, a1, a2⟩ := hin c
  refine ⟨?_, ?_, ?_, hk⟩
  · have e : val_main_v12 (F := Ideal) (m' ((c.tc : Thread nD τ).loc Cert.OddInRefIdeal.main_arg0)) (m' ((c.tc : Thread nD τ).loc Cert.OddInRefIdeal.main_arg1)) (m' ((c.tc : Thread nD τ).loc Cert.OddInRefIdeal.main_arg2)) = (val_main_v12 (F := Ideal) (V m c main_arg0) (V m c main_arg1) (V m c main_arg2)) := by
      rw [V_main_arg0, V_main_arg1, V_main_arg2, a0, a1, a2]
    refine (h0.trans ?_).trans (e.trans (fin3 m c).symm)
    exact val_main_v12_eq ..
  · have e : val_main_v21 (F := Ideal) (m' ((c.tc : Thread nD τ).loc Cert.OddInRefIdeal.main_arg0)) (m' ((c.tc : Thread nD τ).loc Cert.OddInRefIdeal.main_arg1)) (m' ((c.tc : Thread nD τ).loc Cert.OddInRefIdeal.main_arg2)) = (val_main_v21 (F := Ideal) (V m c main_arg0) (V m c main_arg1) (V m c main_arg2)) := by
      rw [V_main_arg0, V_main_arg1, V_main_arg2, a0, a1, a2]
    refine (h1.trans ?_).trans (e.trans (fin4 m c).symm)
    exact val_main_v21_eq ..
  · have e : val_main_v22 (F := Ideal) (m' ((c.tc : Thread nD τ).loc Cert.OddInRefIdeal.main_arg0)) (m' ((c.tc : Thread nD τ).loc Cert.OddInRefIdeal.main_arg1)) = (val_main_v22 (F := Ideal) (V m c main_arg0) (V m c main_arg1)) := by
      rw [V_main_arg0, V_main_arg1, a0, a1]
    refine (h2.trans ?_).trans (e.trans (fin5 m c).symm)
    exact val_main_v22_eq ..

end Cert.Proof.OddInFwd

end
-- ==== Proof.EvenInFwd.lean ====
/- The even layer's input half, forward: the call leaves the projection, a shard of the weight's columns after the other, and the normalised stream. -/
module

public import proofs.«01_k».proof.Defs
public import proofs.«01_k».proof.Proof.Gen.EvenInRefIdeal.Run
public import proofs.«01_k».proof.Proof.Gen.EvenInRefIdeal.Read
public import proofs.«01_k».proof.Proof.Gen.EvenInFwdIdeal.Value
public import proofs.«01_k».proof.Proof.Tiles
public import proofs.«01_k».proof.Proof.Cols
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.EvenInFwd

open Cert.EvenInFwdIdeal Cert.EvenInFwdIdeal.Gen Cert.EvenInRefIdeal.Read Cert.Tiles

variable (m : (ℓ : Loc nD τ sig) → Buf (Elt Ideal) ℓ)

/-- Which block every grid point reads and writes of every operand. -/
theorem idx : ∀ t : Fin cfg0.N, win0_0.index t = ![t.val, 0]
    ∧ win0_1.index t = ![0, 0]
    ∧ win0_2.index t = ![0, 0, 0]
    ∧ win0_3.index t = ![t.val, 0]
    ∧ win0_4.index t = ![t.val, 0] :=
  (by decide +kernel : ∀ t : Fin grid0.N, _)

/-- Row `r` of tile `t`, in the whole array. -/
def row (t : Fin cfg0.N) (r : Fin 512) : Fin 8192 := ⟨t.val * 512 + r.val, by have := lt_of_lt_of_eq t.isLt N_0; omega⟩

section
variable (s : Fin 512 → Fin 8192) (x0 : FVec Ideal ⟨2, ![8192, 1024]⟩ .f32) (x1 : FVec Ideal ⟨2, ![1, 1024]⟩ .f32) (x2 : FVec Ideal ⟨2, ![1024, 2048]⟩ .f32)
  (w : FVec Ideal ⟨3, ![8, 1024, 256]⟩ .bf16) (hw : ∀ (k : Fin 8) (i : Fin 1024) (j : Fin 256), w (ix3 k i j) = x2 (ix2 i ⟨256 * k.val + j.val, by omega⟩))

/-- The normalised stream. -/
theorem st6 : k0_pay6 (F := Ideal) (tile s x0) x1 = tile s (val_main_v13 (F := Ideal) x0 x1) := by
  funext i
  idx_vars i
  show _ = (val_main_v13 (F := Ideal) x0 x1) (ix2 (s i0) i1)
  pointwise [k0_pay6, val_main_v13, val_main_v11, val_main_v9, val_main_v8, val_main_v7, val_main_v6, val_main_v4, val_main_v2, val_main_v1, val_main_v0, val_main_cst, val_main_v3, val_main_cst_0, val_main_v5, val_main_cst_1, val_main_v10, tile_at, tileFrom_at]

include hw in
/-- The projection on shard 0 of the columns. -/
theorem st7 : k0_pay7 (F := Ideal) (tile s x0) x1 (View.ld w r0_2) = tileFrom (φ := .f32) s 0 (by decide) (val_main_v12 (F := Ideal) x0 x1 x2) := by
  funext i
  idx_vars i
  show _ = (val_main_v12 (F := Ideal) x0 x1 x2) (ix2 (s i0) ⟨0 + i1.val, by omega⟩)
  pointwise [k0_pay7, st6, val_main_v13, val_main_v12, tile_at, hw]

include hw in
/-- The projection on shard 1 of the columns. -/
theorem st8 : k0_pay8 (F := Ideal) (tile s x0) x1 (View.ld w r0_4) = tileFrom (φ := .f32) s 256 (by decide) (val_main_v12 (F := Ideal) x0 x1 x2) := by
  funext i
  idx_vars i
  show _ = (val_main_v12 (F := Ideal) x0 x1 x2) (ix2 (s i0) ⟨256 + i1.val, by omega⟩)
  pointwise [k0_pay8, st6, val_main_v13, val_main_v12, tile_at, hw]

include hw in
/-- The projection on shard 2 of the columns. -/
theorem st9 : k0_pay9 (F := Ideal) (tile s x0) x1 (View.ld w r0_6) = tileFrom (φ := .f32) s 512 (by decide) (val_main_v12 (F := Ideal) x0 x1 x2) := by
  funext i
  idx_vars i
  show _ = (val_main_v12 (F := Ideal) x0 x1 x2) (ix2 (s i0) ⟨512 + i1.val, by omega⟩)
  pointwise [k0_pay9, st6, val_main_v13, val_main_v12, tile_at, hw]

include hw in
/-- The projection on shard 3 of the columns. -/
theorem st1 : k0_pay1 (F := Ideal) (tile s (val_main_v13 (F := Ideal) x0 x1)) (View.ld w r0_8) = tileFrom (φ := .f32) s 768 (by decide) (val_main_v12 (F := Ideal) x0 x1 x2) := by
  funext i
  idx_vars i
  show _ = (val_main_v12 (F := Ideal) x0 x1 x2) (ix2 (s i0) ⟨768 + i1.val, by omega⟩)
  pointwise [k0_pay1, val_main_v13, val_main_v12, tile_at, hw]

include hw in
/-- The projection on shard 4 of the columns. -/
theorem st2 : k0_pay2 (F := Ideal) (tile s (val_main_v13 (F := Ideal) x0 x1)) (View.ld w r0_10) = tileFrom (φ := .f32) s 1024 (by decide) (val_main_v12 (F := Ideal) x0 x1 x2) := by
  funext i
  idx_vars i
  show _ = (val_main_v12 (F := Ideal) x0 x1 x2) (ix2 (s i0) ⟨1024 + i1.val, by omega⟩)
  pointwise [k0_pay2, val_main_v13, val_main_v12, tile_at, hw]

include hw in
/-- The projection on shard 5 of the columns. -/
theorem st3 : k0_pay3 (F := Ideal) (tile s (val_main_v13 (F := Ideal) x0 x1)) (View.ld w r0_12) = tileFrom (φ := .f32) s 1280 (by decide) (val_main_v12 (F := Ideal) x0 x1 x2) := by
  funext i
  idx_vars i
  show _ = (val_main_v12 (F := Ideal) x0 x1 x2) (ix2 (s i0) ⟨1280 + i1.val, by omega⟩)
  pointwise [k0_pay3, val_main_v13, val_main_v12, tile_at, hw]

include hw in
/-- The projection on shard 6 of the columns. -/
theorem st4 : k0_pay4 (F := Ideal) (tile s (val_main_v13 (F := Ideal) x0 x1)) (View.ld w r0_14) = tileFrom (φ := .f32) s 1536 (by decide) (val_main_v12 (F := Ideal) x0 x1 x2) := by
  funext i
  idx_vars i
  show _ = (val_main_v12 (F := Ideal) x0 x1 x2) (ix2 (s i0) ⟨1536 + i1.val, by omega⟩)
  pointwise [k0_pay4, val_main_v13, val_main_v12, tile_at, hw]

include hw in
/-- The projection on shard 7 of the columns. -/
theorem st5 : k0_pay5 (F := Ideal) (tile s (val_main_v13 (F := Ideal) x0 x1)) (View.ld w r0_16) = tileFrom (φ := .f32) s 1792 (by decide) (val_main_v12 (F := Ideal) x0 x1 x2) := by
  funext i
  idx_vars i
  show _ = (val_main_v12 (F := Ideal) x0 x1 x2) (ix2 (s i0) ⟨1792 + i1.val, by omega⟩)
  pointwise [k0_pay5, val_main_v13, val_main_v12, tile_at, hw]
end

/-- What grid point `t` reads of operand 0 is its tile. -/
theorem rd0 (c : Dev nD) (t : Fin cfg0.N) : iblk m c 0 t = tile (φ := .f32) (row t) (V m c main_arg0) := by
  funext i
  idx_vars i
  show _ = V m c main_arg0 (ix2 (row t i0) i1)
  blk_ext [iblk, idx t, row]

/-- Operand 1 is read whole. -/
theorem rd1 (c : Dev nD) (t : Fin cfg0.N) : iblk m c 1 t = V m c main_arg1 := by
  funext i
  idx_vars i
  blk_ext [iblk, idx t, row]

/-- Operand 2 is read whole. -/
theorem rd2 (c : Dev nD) (t : Fin cfg0.N) : iblk m c 2 t = V m c main_v2 := by
  funext i
  idx_vars i
  blk_ext [iblk, idx t, row]

/-- Over the extended reals shard `k` of the cast weight holds columns `256 k, 256 k + 1, …` of the weight. -/
theorem hw (c : Dev nD) (k : Fin 8) (i : Fin 1024) (j : Fin 256) : V m c main_v2 (ix3 k i j) = V m c main_arg2 (ix2 i ⟨256 * k.val + j.val, by omega⟩) := by
  rw [V_main_arg2]
  entry_read
  pointwise []
  refine congrArg (m (c.tc.loc main_arg2)) (congrArg (ix2 i) (Fin.ext ?_))
  show k.val * 256 + j.val = 256 * k.val + j.val
  omega

/-- Where entry `(r, l)` of point `t`'s block of result 3 lies. -/
theorem emb3 (t : Fin cfg0.N) (r : Fin 512) (l : Fin 2048) : ((View.whole main_v3_0).slice (win0_3.rect t)).emb (ix2 r l) = ix2 (row t r) l := by
  blk_ext [idx t, row]

/-- Grid point `t` leaves its tile of the projection. -/
theorem out3 (c : Dev nD) (t : Fin cfg0.N) : out0_3 (iblk m c 0 t) (iblk m c 1 t) (iblk m c 2 t) = tile (φ := .f32) (row t) (val_main_v12 (F := Ideal) (V m c main_arg0) (V m c main_arg1) (V m c main_arg2)) := by
  rw [rd0, rd1, rd2]
  unfold out0_3 k0_pay10
  funext i
  refine View.canon_apply_of_pieces (Val := Elt Ideal) (tile (φ := .f32) (row t) (val_main_v12 (F := Ideal) (V m c main_arg0) (V m c main_arg1) (V m c main_arg2))) _ (View.PiecesOf.mem ?_) i (cover0_3 _ _ _ _ _ _ _ _ i)
  rw [View.ld_unit_zero (by funext a; fin_cases a <;> rfl), View.ld_unit_zero (by funext a; fin_cases a <;> rfl), st6,
    st7 (hw := hw m c), st8 (hw := hw m c), st9 (hw := hw m c), st1 (hw := hw m c), st2 (hw := hw m c), st3 (hw := hw m c), st4 (hw := hw m c), st5 (hw := hw m c)]
  exact ⟨fun x => tileFrom_emb (off := 1792) (k := 256) (row t) (val_main_v12 (F := Ideal) (V m c main_arg0) (V m c main_arg1) (V m c main_arg2)) (by decide) inb_S512x2048_S512x256_0_1792 x, fun x => tileFrom_emb (off := 1536) (k := 256) (row t) (val_main_v12 (F := Ideal) (V m c main_arg0) (V m c main_arg1) (V m c main_arg2)) (by decide) inb_S512x2048_S512x256_0_1536 x, fun x => tileFrom_emb (off := 1280) (k := 256) (row t) (val_main_v12 (F := Ideal) (V m c main_arg0) (V m c main_arg1) (V m c main_arg2)) (by decide) inb_S512x2048_S512x256_0_1280 x, fun x => tileFrom_emb (off := 1024) (k := 256) (row t) (val_main_v12 (F := Ideal) (V m c main_arg0) (V m c main_arg1) (V m c main_arg2)) (by decide) inb_S512x2048_S512x256_0_1024 x, fun x => tileFrom_emb (off := 768) (k := 256) (row t) (val_main_v12 (F := Ideal) (V m c main_arg0) (V m c main_arg1) (V m c main_arg2)) (by decide) inb_S512x2048_S512x256_0_768 x, fun x => tileFrom_emb (off := 512) (k := 256) (row t) (val_main_v12 (F := Ideal) (V m c main_arg0) (V m c main_arg1) (V m c main_arg2)) (by decide) inb_S512x2048_S512x256_0_512 x, fun x => tileFrom_emb (off := 256) (k := 256) (row t) (val_main_v12 (F := Ideal) (V m c main_arg0) (V m c main_arg1) (V m c main_arg2)) (by decide) inb_S512x2048_S512x256_0_256 x, fun x => tileFrom_emb (off := 0) (k := 256) (row t) (val_main_v12 (F := Ideal) (V m c main_arg0) (V m c main_arg1) (V m c main_arg2)) (by decide) inb_S512x2048_S512x256_0_0 x, trivial⟩

/-- So the call leaves the projection. -/
theorem fin3 (c : Dev nD) : (dats m 0 c).arrAt 3 (cfgs 0).N = (val_main_v12 (F := Ideal) (V m c main_arg0) (V m c main_arg1) (V m c main_arg2)) := by
  refine (dats m 0 c).arrAt_eq_of_covers 3 _ (by decide +kernel) fun t hf y => ?_
  blk_simp
  rw [after0_3, out3]
  idx_vars y
  have he := emb3 t y0 y1
  change ((View.whole main_v3_0).slice (win0_3.rect t)).emb (ix2 y0 y1) = _ at he
  rw [he]
  rfl

/-- Where entry `(r, l)` of point `t`'s block of result 4 lies. -/
theorem emb4 (t : Fin cfg0.N) (r : Fin 512) (l : Fin 1024) : ((View.whole main_v3_1).slice (win0_4.rect t)).emb (ix2 r l) = ix2 (row t r) l := by
  blk_ext [idx t, row]

/-- Grid point `t` leaves its tile of the normalised stream. -/
theorem out4 (c : Dev nD) (t : Fin cfg0.N) : out0_4 (iblk m c 0 t) (iblk m c 1 t) (iblk m c 2 t) = tile (φ := .bf16) (row t) (val_main_v13 (F := Ideal) (V m c main_arg0) (V m c main_arg1)) := by
  rw [rd0, rd1, rd2]
  unfold out0_4
  rw [View.ld_unit_zero (by funext a; fin_cases a <;> rfl), View.ld_unit_zero (by funext a; fin_cases a <;> rfl), st6]
  exact View.canon_unit_zero (by funext a; fin_cases a <;> rfl) _ _

/-- So the call leaves the normalised stream. -/
theorem fin4 (c : Dev nD) : (dats m 0 c).arrAt 4 (cfgs 0).N = (val_main_v13 (F := Ideal) (V m c main_arg0) (V m c main_arg1)) := by
  refine (dats m 0 c).arrAt_eq_of_covers 4 _ (by decide +kernel) fun t hf y => ?_
  blk_simp
  rw [after0_4, out4]
  idx_vars y
  have he := emb4 t y0 y1
  change ((View.whole main_v3_1).slice (win0_4.rect t)).emb (ix2 y0 y1) = _ at he
  rw [he]
  rfl

/-- The reference runs to its end and leaves nothing behind. -/
theorem frameR : Cert.quiescent_EvenInRefIdeal := fun m ρ _ =>
  (θ_run Cert.EvenInRefIdeal.defs _ _).mono (fun r h => ⟨fun c => (h c).2.2, sem_eq_zero_of_no_sems (by decide) r.2⟩)
    (Cert.EvenInRefIdeal.Value.run (F := Ideal) m ρ)

set_option maxHeartbeats 2000000 in
/-- The call and the reference leave equal results. -/
theorem algebraic : Cert.algebraic_EvenInFwdIdeal_EvenInRefIdeal := by
  intro m g m' g' _ hin
  refine ⟨_, _, Cert.EvenInFwdIdeal.Value.run_blocks m g, (θ_run _ _ _).mono (fun r h c => ?_) (Cert.EvenInRefIdeal.Value.run m' g')⟩
  obtain ⟨h0, h1, hk⟩ := h c
  obtain ⟨a0, a1, a2⟩ := hin c
  refine ⟨?_, ?_, hk⟩
  · have e : val_main_v12 (F := Ideal) (m' ((c.tc : Thread nD τ).loc Cert.EvenInRefIdeal.main_arg0)) (m' ((c.tc : Thread nD τ).loc Cert.EvenInRefIdeal.main_arg1)) (m' ((c.tc : Thread nD τ).loc Cert.EvenInRefIdeal.main_arg2)) = (val_main_v12 (F := Ideal) (V m c main_arg0) (V m c main_arg1) (V m c main_arg2)) := by
      rw [V_main_arg0, V_main_arg1, V_main_arg2, a0, a1, a2]
    refine (h0.trans ?_).trans (e.trans (fin3 m c).symm)
    exact val_main_v12_eq ..
  · have e : val_main_v13 (F := Ideal) (m' ((c.tc : Thread nD τ).loc Cert.EvenInRefIdeal.main_arg0)) (m' ((c.tc : Thread nD τ).loc Cert.EvenInRefIdeal.main_arg1)) = (val_main_v13 (F := Ideal) (V m c main_arg0) (V m c main_arg1)) := by
      rw [V_main_arg0, V_main_arg1, a0, a1]
    refine (h1.trans ?_).trans (e.trans (fin4 m c).symm)
    exact val_main_v13_eq ..

end Cert.Proof.EvenInFwd

end
-- ==== Proof.EvenMixFwdTiles.lean ====
/- The even layer's output half, forward, on a tile of rows: the pooled mixing, the read-out of the states, its gated linear unit, the gate and the projection. -/
module

public import proofs.«01_k».proof.Defs
public import proofs.«01_k».proof.Proof.Gen.EvenMixRefIdeal.Run
public import proofs.«01_k».proof.Proof.Gen.EvenMixRefIdeal.Read
public import proofs.«01_k».proof.Proof.Gen.EvenMixFwdIdeal.Value
public import proofs.«01_k».proof.Proof.Tiles
public import proofs.«01_k».proof.Proof.Cols
public import Idealize.ShloMosaic.Lib.StableHlo.ReadAt
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.EvenMixFwd

open Cert.EvenMixFwdIdeal Cert.EvenMixFwdIdeal.Gen Cert.EvenMixRefIdeal.Read Cert.Tiles

variable (m : (ℓ : Loc nD τ sig) → Buf (Elt Ideal) ℓ)

/-- Which block every grid point reads and writes of every operand. -/
theorem idx : ∀ t : Fin cfg0.N, win0_0.index t = ![t.val, 0]
    ∧ win0_1.index t = ![t.val, 1]
    ∧ win0_2.index t = ![t.val, 1]
    ∧ win0_3.index t = ![t.val, 0]
    ∧ win0_4.index t = ![t.val, 0]
    ∧ win0_5.index t = ![t.val, 0]
    ∧ win0_6.index t = ![0, 0, 0]
    ∧ win0_7.index t = ![0, 0]
    ∧ win0_8.index t = ![0, 0, 0]
    ∧ win0_9.index t = ![0, 0, 0]
    ∧ win0_10.index t = ![0, 0]
    ∧ win0_11.index t = ![0, 0]
    ∧ win0_12.index t = ![0, 0]
    ∧ win0_13.index t = ![t.val, 0]
    ∧ win0_14.index t = ![t.val, 0]
    ∧ win0_15.index t = ![t.val, 0]
    ∧ win0_16.index t = ![t.val, 0]
    ∧ win0_17.index t = ![t.val, 0] :=
  (by decide +kernel : ∀ t : Fin grid0.N, _)

/-- Row `r` of tile `t`, in the whole array. -/
def row (t : Fin cfg0.N) (r : Fin 256) : Fin 8192 := ⟨t.val * 256 + r.val, by have := lt_of_lt_of_eq t.isLt N_0; omega⟩

/-- Entry `(i, j)` of block `b` of the read-out weight the call is given: state `i` and channel `j` of the block meet where they
    belong to one group. -/
def blockDiag (x : FVec Ideal ⟨3, ![32, 16, 64]⟩ .f32) (b : Fin 4) (i : Fin 512) (j : Fin 128) : EReal :=
  if i.val / 64 = j.val / 16 then x (ix3 ⟨b.val * 8 + i.val / 64, by omega⟩ ⟨j.val % 16, by omega⟩ ⟨i.val % 64, by omega⟩) else 0

/-- A sum over the 512 states of a block against such a weight is the sum over the 64 states of the channel's group. -/
theorem sum_group (f : Fin 512 → EReal) (x : FVec Ideal ⟨3, ![32, 16, 64]⟩ .f32) (b : Fin 4) (j : Fin 128) (g : Fin 32) (h : Fin 16) (q : Fin 64 → Fin 512)
    (hg : g.val = b.val * 8 + j.val / 16) (hh : h.val = j.val % 16) (hq : ∀ p, (q p).val = j.val / 16 * 64 + p.val) :
    ∑ i, f i * blockDiag x b i j = ∑ p : Fin 64, x (ix3 g h p) * f (q p) := by
  refine (Fin.sum_mul_add_congr (S := 8) (n := 64) (L := 512) (f := fun i => f i * blockDiag x b i j)
    (F := fun (a : Fin 8) (p : Fin 64) => f ⟨a.val * 64 + p.val, by omega⟩ * blockDiag x b ⟨a.val * 64 + p.val, by omega⟩ j) (fun s k hl => rfl)).symm.trans ?_
  rw [Finset.sum_eq_single (⟨j.val / 16, by omega⟩ : Fin 8)]
  · refine Finset.sum_congr rfl fun p _ => ?_
    have e1 : (⟨j.val / 16 * 64 + p.val, by omega⟩ : Fin 512) = q p := Fin.ext (hq p).symm
    have hq' := hq p
    show f ⟨j.val / 16 * 64 + p.val, _⟩ * blockDiag x b ⟨j.val / 16 * 64 + p.val, _⟩ j = _
    rw [e1, mul_comm]
    refine congrArg (· * f (q p)) ?_
    unfold blockDiag
    rw [if_pos (by omega)]
    refine congrArg x ?_
    congr 1 <;> apply Fin.ext <;> simp only <;> omega
  · intro a _ ha
    refine Finset.sum_eq_zero fun p _ => ?_
    have : a.val ≠ j.val / 16 := fun h => ha (Fin.ext h)
    unfold blockDiag
    rw [if_neg (by simp only; omega), mul_zero]
  · exact fun h => absurd (Finset.mem_univ _) h

/-- Choosing by the equality of two numbers, written as words. -/
theorem select_eq (p q : ℕ) (hp : p < 2 ^ 32) (hq : q < 2 ^ 32) (x y : EReal) :
    Scalar.select (IntOp.cmpi .eq (IntOp.addi (BitVec.ofNat 32 p) 0#32) (BitVec.ofNat 32 q)) x y = if p = q then x else y := by
  have e : IntOp.addi (BitVec.ofNat 32 p) 0#32 = BitVec.ofNat 32 p := BitVec.add_zero _
  rw [e, WordCmp.cmpi_eq_eq_toNat, BitVec.toNat_ofNat, BitVec.toNat_ofNat, Nat.mod_eq_of_lt hp, Nat.mod_eq_of_lt hq]
  by_cases h : p = q
  · rw [if_pos h, decide_eq_true h]
    rfl
  · rw [if_neg h, decide_eq_false h]
    rfl

/-- The read-out's sum over the states of block `b`, for column `j` of the block. -/
theorem block_sum (s : Fin 256 → Fin 8192) (r : Fin 256) (j : Fin 128) (X : FVec Ideal ⟨2, ![8192, 2048]⟩ .f32) (x : FVec Ideal ⟨3, ![32, 16, 64]⟩ .f32) (b : Fin 4) (n : ℕ) (hb : b.val = n)
    (o : Fin 512 → Fin 2048) (g : Fin 32) (h : Fin 16) (q : Fin 64 → Fin 2048) (ho : ∀ i, (o i).val = n * 512 + i.val) (hg : g.val = n * 8 + j.val / 16)
    (hh : h.val = j.val % 16) (hq : ∀ p, (q p).val = n * 512 + (j.val / 16 * 64 + p.val)) :
    ∑ i, X (ix2 (s r) (o i)) * blockDiag x b i j = ∑ p : Fin 64, x (ix3 g h p) * X (ix2 (s r) (q p)) := by
  subst hb
  refine (sum_group (fun i => X (ix2 (s r) (o i))) x b j g h (fun p => ⟨j.val / 16 * 64 + p.val, by omega⟩) hg hh (fun p => rfl)).trans ?_
  refine Finset.sum_congr rfl fun p _ => ?_
  have e : o ⟨j.val / 16 * 64 + p.val, by omega⟩ = q p := Fin.ext (by rw [ho, hq])
  simp only [e]

/-- The mixing's sum over the channels of group `b`, for column `j` of the group. -/
theorem mix_sum (s : Fin 256 → Fin 8192) (r : Fin 256) (j : Fin 128) (X : FVec Ideal ⟨2, ![8192, 512]⟩ .f32) (x : FVec Ideal ⟨3, ![4, 128, 128]⟩ .f32) (b : Fin 4) (n : ℕ) (hb : b.val = n)
    (o : Fin 128 → Fin 512) (g : Fin 4) (q : Fin 128 → Fin 512) (j' : Fin 128) (ho : ∀ i, (o i).val = n * 128 + i.val) (hg : g.val = n)
    (hq : ∀ p, (q p).val = n * 128 + p.val) (hj : j'.val = j.val) :
    ∑ i, X (ix2 (s r) (o i)) * x (ix3 b i j) = ∑ p : Fin 128, x (ix3 g p j') * X (ix2 (s r) (q p)) := by
  have eg : b = g := Fin.ext (by rw [hb, hg])
  have ej : j' = j := Fin.ext hj
  subst eg ej
  refine Finset.sum_congr rfl fun p _ => ?_
  have e : o p = q p := Fin.ext (by rw [ho, hq])
  rw [e, mul_comm]

/-- Four tiles of 128 columns, stored one after the other, are the tile of all 512 columns. -/
theorem canon_four (s : Fin 256 → Fin 8192) (X : FVec Ideal ⟨2, ![8192, 512]⟩ .f32) (i3 i2 i1 i0) :
    View.canon (Val := Elt Ideal) (e := .f32) (s := ⟨2, ![256, 512]⟩) [⟨Rect.unit (s := ⟨2, ![256, 512]⟩) ![0, 384] ![256, 128] i3, tileFrom (φ := .f32) s 384 (by decide) X⟩,
      ⟨Rect.unit (s := ⟨2, ![256, 512]⟩) ![0, 256] ![256, 128] i2, tileFrom (φ := .f32) s 256 (by decide) X⟩,
      ⟨Rect.unit (s := ⟨2, ![256, 512]⟩) ![0, 128] ![256, 128] i1, tileFrom (φ := .f32) s 128 (by decide) X⟩,
      ⟨Rect.unit (s := ⟨2, ![256, 512]⟩) ![0, 0] ![256, 128] i0, tileFrom (φ := .f32) s 0 (by decide) X⟩] = tile (φ := .f32) s X := by
  funext i
  refine View.canon_apply_of_pieces (Val := Elt Ideal) (e := .f32) (tile (φ := .f32) s X) _ (View.PiecesOf.mem ?_) i ?_
  swap
  · exact View.cover_of_tiled _ ![256, 128] (by rfl) i
  exact ⟨fun x => tileFrom_emb (off := 384) (k := 128) s X (by decide) i3 x, fun x => tileFrom_emb (off := 256) (k := 128) s X (by decide) i2 x,
    fun x => tileFrom_emb (off := 128) (k := 128) s X (by decide) i1 x, fun x => tileFrom_emb (off := 0) (k := 128) s X (by decide) i0 x, trivial⟩

/-- Read back, they are that tile. -/
theorem readCov_four {sig : RefSig} {κ : Kind} {sp : Space} (s : Fin 256 → Fin 8192) (X : FVec Ideal ⟨2, ![8192, 512]⟩ .f32) (v : View sig κ sp ⟨2, ![256, 512]⟩ .f32) (i3 i2 i1 i0 ii) :
    v.readCov (Val := Elt Ideal) [⟨Rect.unit (s := ⟨2, ![256, 512]⟩) ![0, 384] ![256, 128] i3, tileFrom (φ := .f32) s 384 (by decide) X⟩,
      ⟨Rect.unit (s := ⟨2, ![256, 512]⟩) ![0, 256] ![256, 128] i2, tileFrom (φ := .f32) s 256 (by decide) X⟩,
      ⟨Rect.unit (s := ⟨2, ![256, 512]⟩) ![0, 128] ![256, 128] i1, tileFrom (φ := .f32) s 128 (by decide) X⟩,
      ⟨Rect.unit (s := ⟨2, ![256, 512]⟩) ![0, 0] ![256, 128] i0, tileFrom (φ := .f32) s 0 (by decide) X⟩] (Rect.unit (s := ⟨2, ![256, 512]⟩) ![0, 0] ![256, 512] ii).toLoadRect = tile (φ := .f32) s X := by
  rw [View.readCov_eq_canon']
  rw [canon_four]
  change View.ld (Val := Elt Ideal) (e' := .f32) (tile (φ := .f32) s X) (Rect.unit (s := ⟨2, ![256, 512]⟩) ![0, 0] ![256, 512] ii) = _
  rw [View.ld_unit_zero (by funext a; fin_cases a <;> rfl)]

section
variable (s : Fin 256 → Fin 8192) (x0 : FVec Ideal ⟨2, ![8192, 512]⟩ .f32) (x1 x2 x3 : FVec Ideal ⟨2, ![8192, 2048]⟩ .f32) (x4 : FVec Ideal ⟨2, ![8192, 1024]⟩ .f32)
  (x5 : FVec Ideal ⟨3, ![4, 128, 128]⟩ .f32) (x6 : FVec Ideal ⟨2, ![1, 512]⟩ .f32) (x7 x8 : FVec Ideal ⟨3, ![32, 16, 64]⟩ .f32) (x9 : FVec Ideal ⟨2, ![1, 512]⟩ .f32)
  (x10 : FVec Ideal ⟨2, ![512, 1024]⟩ .f32) (x11 : FVec Ideal ⟨2, ![1024, 1024]⟩ .f32)
  (w5 : FVec Ideal ⟨3, ![4, 128, 128]⟩ .bf16) (w7 w8 : FVec Ideal ⟨3, ![4, 512, 128]⟩ .bf16) (w10 : FVec Ideal ⟨2, ![512, 1024]⟩ .bf16) (w11 : FVec Ideal ⟨2, ![1024, 1024]⟩ .bf16)
  (h5 : ∀ i, w5 i = x5 i) (h7 : ∀ b i j, w7 (ix3 b i j) = blockDiag x7 b i j) (h8 : ∀ b i j, w8 (ix3 b i j) = blockDiag x8 b i j)
  (h10 : ∀ i, w10 i = x10 i) (h11 : ∀ i, w11 i = x11 i)

include h5 in
/-- Group 0 of the pooled mixing. -/
theorem stm0 : k0_pay3 (F := Ideal) (View.ld (tile (φ := .f32) s x0) (Rect.unit (s := ⟨2, ![256, 512]⟩) ![0, 0] S256x128.size inb_S256x512_S256x128_0_0)) (View.ld w5 (Rect.unit (s := ⟨3, ![4, 128, 128]⟩) ![0, 0, 0] S1x128x128.size inb_S4x128x128_S1x128x128_0_0_0)) = tileFrom (φ := .f32) s 0 (by decide) (val_main_v5 (F := Ideal) x0 x5) := by
  funext i
  idx_vars i
  show _ = (val_main_v5 (F := Ideal) x0 x5) (ix2 (s i0) ⟨0 + i1.val, by omega⟩)
  pointwise [k0_pay3, val_main_v5, val_main_v4, val_main_v3, val_main_v2, tile_at, h5]
  exact mix_sum s i0 i1 x0 x5 0 0 rfl _ _ _ _ (by intro p; (try dsimp only) <;> omega) (by (try dsimp only) <;> omega) (by intro p; (try dsimp only) <;> omega) (by (try dsimp only) <;> omega)

include h5 in
/-- Group 1 of the pooled mixing. -/
theorem stm1 : k0_pay4 (F := Ideal) (View.ld (tile (φ := .f32) s x0) (Rect.unit (s := ⟨2, ![256, 512]⟩) ![0, 128] S256x128.size inb_S256x512_S256x128_0_128)) (View.ld w5 (Rect.unit (s := ⟨3, ![4, 128, 128]⟩) ![1, 0, 0] S1x128x128.size inb_S4x128x128_S1x128x128_1_0_0)) = tileFrom (φ := .f32) s 128 (by decide) (val_main_v5 (F := Ideal) x0 x5) := by
  funext i
  idx_vars i
  show _ = (val_main_v5 (F := Ideal) x0 x5) (ix2 (s i0) ⟨128 + i1.val, by omega⟩)
  pointwise [k0_pay4, val_main_v5, val_main_v4, val_main_v3, val_main_v2, tile_at, h5]
  exact mix_sum s i0 i1 x0 x5 1 1 rfl _ _ _ _ (by intro p; (try dsimp only) <;> omega) (by (try dsimp only) <;> omega) (by intro p; (try dsimp only) <;> omega) (by (try dsimp only) <;> omega)

include h5 in
/-- Group 2 of the pooled mixing. -/
theorem stm2 : k0_pay5 (F := Ideal) (View.ld (tile (φ := .f32) s x0) (Rect.unit (s := ⟨2, ![256, 512]⟩) ![0, 256] S256x128.size inb_S256x512_S256x128_0_256)) (View.ld w5 (Rect.unit (s := ⟨3, ![4, 128, 128]⟩) ![2, 0, 0] S1x128x128.size inb_S4x128x128_S1x128x128_2_0_0)) = tileFrom (φ := .f32) s 256 (by decide) (val_main_v5 (F := Ideal) x0 x5) := by
  funext i
  idx_vars i
  show _ = (val_main_v5 (F := Ideal) x0 x5) (ix2 (s i0) ⟨256 + i1.val, by omega⟩)
  pointwise [k0_pay5, val_main_v5, val_main_v4, val_main_v3, val_main_v2, tile_at, h5]
  exact mix_sum s i0 i1 x0 x5 2 2 rfl _ _ _ _ (by intro p; (try dsimp only) <;> omega) (by (try dsimp only) <;> omega) (by intro p; (try dsimp only) <;> omega) (by (try dsimp only) <;> omega)

include h5 in
/-- Group 3 of the pooled mixing. -/
theorem stm3 : k0_pay6 (F := Ideal) (View.ld (tile (φ := .f32) s x0) (Rect.unit (s := ⟨2, ![256, 512]⟩) ![0, 384] S256x128.size inb_S256x512_S256x128_0_384)) (View.ld w5 (Rect.unit (s := ⟨3, ![4, 128, 128]⟩) ![3, 0, 0] S1x128x128.size inb_S4x128x128_S1x128x128_3_0_0)) = tileFrom (φ := .f32) s 384 (by decide) (val_main_v5 (F := Ideal) x0 x5) := by
  funext i
  idx_vars i
  show _ = (val_main_v5 (F := Ideal) x0 x5) (ix2 (s i0) ⟨384 + i1.val, by omega⟩)
  pointwise [k0_pay6, val_main_v5, val_main_v4, val_main_v3, val_main_v2, tile_at, h5]
  exact mix_sum s i0 i1 x0 x5 3 3 rfl _ _ _ _ (by intro p; (try dsimp only) <;> omega) (by (try dsimp only) <;> omega) (by intro p; (try dsimp only) <;> omega) (by (try dsimp only) <;> omega)

include h7 h8 in
/-- Block 0 of the read-out. -/
theorem sty0 : k0_pay7 (F := Ideal) (View.ld (tile (φ := .f32) s x2) (Rect.unit (s := ⟨2, ![256, 2048]⟩) ![0, 0] S256x512.size inb_S256x2048_S256x512_0_0)) (View.ld w7 (Rect.unit (s := ⟨3, ![4, 512, 128]⟩) ![0, 0, 0] S1x512x128.size inb_S4x512x128_S1x512x128_0_0_0)) (View.ld (tile (φ := .f32) s x3) (Rect.unit (s := ⟨2, ![256, 2048]⟩) ![0, 0] S256x512.size inb_S256x2048_S256x512_0_0)) (View.ld w8 (Rect.unit (s := ⟨3, ![4, 512, 128]⟩) ![0, 0, 0] S1x512x128.size inb_S4x512x128_S1x512x128_0_0_0)) (View.ld x9 (Rect.unit (s := ⟨2, ![1, 512]⟩) ![0, 0] S1x128.size inb_S1x512_S1x128_0_0)) (View.ld (tileFrom (φ := .f32) s 512 (by decide) x1) (Rect.unit (s := ⟨2, ![256, 512]⟩) ![0, 0] S256x128.size inb_S256x512_S256x128_0_0)) = tileFrom (φ := .f32) s 0 (by decide) (val_main_v16 (F := Ideal) x1 x2 x3 x7 x8 x9) := by
  funext i
  idx_vars i
  show _ = (val_main_v16 (F := Ideal) x1 x2 x3 x7 x8 x9) (ix2 (s i0) ⟨0 + i1.val, by omega⟩)
  pointwise [k0_pay7, val_main_v16, val_main_v13, val_main_v12, val_main_v9, val_main_v8, val_main_v6, val_main_v11, val_main_v10, val_main_v7, val_main_v15, val_main_v14, val_main_v0, tile_at, tileFrom_at, h7, h8]
  refine congrArg₂ (· + ·) (congrArg₂ (· - ·) ?_ ?_) rfl
  · exact block_sum s i0 i1 x2 x7 0 0 rfl _ _ _ _ (by intro p; (try dsimp only) <;> omega) (by (try dsimp only) <;> omega) (by (try dsimp only) <;> omega) (by intro p; (try dsimp only) <;> omega)
  · exact block_sum s i0 i1 x3 x8 0 0 rfl _ _ _ _ (by intro p; (try dsimp only) <;> omega) (by (try dsimp only) <;> omega) (by (try dsimp only) <;> omega) (by intro p; (try dsimp only) <;> omega)

include h7 h8 in
/-- Block 1 of the read-out. -/
theorem sty1 : k0_pay9 (F := Ideal) (k0_pay8 (F := Ideal) (View.ld (tile (φ := .f32) s x2) (Rect.unit (s := ⟨2, ![256, 2048]⟩) ![0, 512] S256x512.size inb_S256x2048_S256x512_0_512)) (View.ld w7 (Rect.unit (s := ⟨3, ![4, 512, 128]⟩) ![1, 0, 0] S1x512x128.size inb_S4x512x128_S1x512x128_1_0_0)) (View.ld (tile (φ := .f32) s x3) (Rect.unit (s := ⟨2, ![256, 2048]⟩) ![0, 512] S256x512.size inb_S256x2048_S256x512_0_512)) (View.ld w8 (Rect.unit (s := ⟨3, ![4, 512, 128]⟩) ![1, 0, 0] S1x512x128.size inb_S4x512x128_S1x512x128_1_0_0))) (View.ld x9 (Rect.unit (s := ⟨2, ![1, 512]⟩) ![0, 128] S1x128.size inb_S1x512_S1x128_0_128)) (View.ld (tileFrom (φ := .f32) s 512 (by decide) x1) (Rect.unit (s := ⟨2, ![256, 512]⟩) ![0, 128] S256x128.size inb_S256x512_S256x128_0_128)) = tileFrom (φ := .f32) s 128 (by decide) (val_main_v16 (F := Ideal) x1 x2 x3 x7 x8 x9) := by
  funext i
  idx_vars i
  show _ = (val_main_v16 (F := Ideal) x1 x2 x3 x7 x8 x9) (ix2 (s i0) ⟨128 + i1.val, by omega⟩)
  pointwise [k0_pay9, k0_pay8, val_main_v16, val_main_v13, val_main_v12, val_main_v9, val_main_v8, val_main_v6, val_main_v11, val_main_v10, val_main_v7, val_main_v15, val_main_v14, val_main_v0, tile_at, tileFrom_at, h7, h8]
  refine congrArg₂ (· + ·) (congrArg₂ (· - ·) ?_ ?_) rfl
  · exact block_sum s i0 i1 x2 x7 1 1 rfl _ _ _ _ (by intro p; (try dsimp only) <;> omega) (by (try dsimp only) <;> omega) (by (try dsimp only) <;> omega) (by intro p; (try dsimp only) <;> omega)
  · exact block_sum s i0 i1 x3 x8 1 1 rfl _ _ _ _ (by intro p; (try dsimp only) <;> omega) (by (try dsimp only) <;> omega) (by (try dsimp only) <;> omega) (by intro p; (try dsimp only) <;> omega)

include h7 h8 in
/-- Block 2 of the read-out. -/
theorem sty2 : k0_pay10 (F := Ideal) (View.ld (tile (φ := .f32) s x2) (Rect.unit (s := ⟨2, ![256, 2048]⟩) ![0, 1024] S256x512.size inb_S256x2048_S256x512_0_1024)) (View.ld w7 (Rect.unit (s := ⟨3, ![4, 512, 128]⟩) ![2, 0, 0] S1x512x128.size inb_S4x512x128_S1x512x128_2_0_0)) (View.ld (tile (φ := .f32) s x3) (Rect.unit (s := ⟨2, ![256, 2048]⟩) ![0, 1024] S256x512.size inb_S256x2048_S256x512_0_1024)) (View.ld w8 (Rect.unit (s := ⟨3, ![4, 512, 128]⟩) ![2, 0, 0] S1x512x128.size inb_S4x512x128_S1x512x128_2_0_0)) (View.ld x9 (Rect.unit (s := ⟨2, ![1, 512]⟩) ![0, 256] S1x128.size inb_S1x512_S1x128_0_256)) (View.ld (tileFrom (φ := .f32) s 512 (by decide) x1) (Rect.unit (s := ⟨2, ![256, 512]⟩) ![0, 256] S256x128.size inb_S256x512_S256x128_0_256)) = tileFrom (φ := .f32) s 256 (by decide) (val_main_v16 (F := Ideal) x1 x2 x3 x7 x8 x9) := by
  funext i
  idx_vars i
  show _ = (val_main_v16 (F := Ideal) x1 x2 x3 x7 x8 x9) (ix2 (s i0) ⟨256 + i1.val, by omega⟩)
  pointwise [k0_pay10, val_main_v16, val_main_v13, val_main_v12, val_main_v9, val_main_v8, val_main_v6, val_main_v11, val_main_v10, val_main_v7, val_main_v15, val_main_v14, val_main_v0, tile_at, tileFrom_at, h7, h8]
  refine congrArg₂ (· + ·) (congrArg₂ (· - ·) ?_ ?_) rfl
  · exact block_sum s i0 i1 x2 x7 2 2 rfl _ _ _ _ (by intro p; (try dsimp only) <;> omega) (by (try dsimp only) <;> omega) (by (try dsimp only) <;> omega) (by intro p; (try dsimp only) <;> omega)
  · exact block_sum s i0 i1 x3 x8 2 2 rfl _ _ _ _ (by intro p; (try dsimp only) <;> omega) (by (try dsimp only) <;> omega) (by (try dsimp only) <;> omega) (by intro p; (try dsimp only) <;> omega)

include h7 h8 in
/-- Block 3 of the read-out. -/
theorem sty3 : k0_pay12 (F := Ideal) (k0_pay11 (F := Ideal) (View.ld (tile (φ := .f32) s x2) (Rect.unit (s := ⟨2, ![256, 2048]⟩) ![0, 1536] S256x512.size inb_S256x2048_S256x512_0_1536)) (View.ld w7 (Rect.unit (s := ⟨3, ![4, 512, 128]⟩) ![3, 0, 0] S1x512x128.size inb_S4x512x128_S1x512x128_3_0_0))) (View.ld (tile (φ := .f32) s x3) (Rect.unit (s := ⟨2, ![256, 2048]⟩) ![0, 1536] S256x512.size inb_S256x2048_S256x512_0_1536)) (View.ld w8 (Rect.unit (s := ⟨3, ![4, 512, 128]⟩) ![3, 0, 0] S1x512x128.size inb_S4x512x128_S1x512x128_3_0_0)) (View.ld x9 (Rect.unit (s := ⟨2, ![1, 512]⟩) ![0, 384] S1x128.size inb_S1x512_S1x128_0_384)) (View.ld (tileFrom (φ := .f32) s 512 (by decide) x1) (Rect.unit (s := ⟨2, ![256, 512]⟩) ![0, 384] S256x128.size inb_S256x512_S256x128_0_384)) = tileFrom (φ := .f32) s 384 (by decide) (val_main_v16 (F := Ideal) x1 x2 x3 x7 x8 x9) := by
  funext i
  idx_vars i
  show _ = (val_main_v16 (F := Ideal) x1 x2 x3 x7 x8 x9) (ix2 (s i0) ⟨384 + i1.val, by omega⟩)
  pointwise [k0_pay12, k0_pay11, val_main_v16, val_main_v13, val_main_v12, val_main_v9, val_main_v8, val_main_v6, val_main_v11, val_main_v10, val_main_v7, val_main_v15, val_main_v14, val_main_v0, tile_at, tileFrom_at, h7, h8]
  refine congrArg₂ (· + ·) (congrArg₂ (· - ·) ?_ ?_) rfl
  · exact block_sum s i0 i1 x2 x7 3 3 rfl _ _ _ _ (by intro p; (try dsimp only) <;> omega) (by (try dsimp only) <;> omega) (by (try dsimp only) <;> omega) (by intro p; (try dsimp only) <;> omega)
  · exact block_sum s i0 i1 x3 x8 3 3 rfl _ _ _ _ (by intro p; (try dsimp only) <;> omega) (by (try dsimp only) <;> omega) (by (try dsimp only) <;> omega) (by intro p; (try dsimp only) <;> omega)

include h10 in
/-- The gated linear unit's two halves on a tile. -/
theorem st13 : k0_pay13 (F := Ideal) (tile (φ := .f32) s (val_main_v16 (F := Ideal) x1 x2 x3 x7 x8 x9)) w10 = tile (φ := .f32) s (val_main_v17 (F := Ideal) x1 x2 x3 x7 x8 x9 x10) := by
  funext i
  idx_vars i
  show _ = (val_main_v17 (F := Ideal) x1 x2 x3 x7 x8 x9 x10) (ix2 (s i0) i1)
  pointwise [k0_pay13, h10, val_main_v17, tile_at, tileFrom_at]

include h10 in
/-- The gated halves on a tile. -/
theorem st1 : k0_pay1 (F := Ideal) (k0_pay14 (F := Ideal) (tile (φ := .f32) s (val_main_v5 (F := Ideal) x0 x5)) x6 (View.ld (tileFrom (φ := .f32) s 1024 (by decide) x1) (Rect.unit (s := ⟨2, ![256, 1024]⟩) ![0, 0] S256x512.size inb_S256x1024_S256x512_0_0))) (k0_pay15 (F := Ideal) (tile (φ := .f32) s (val_main_v16 (F := Ideal) x1 x2 x3 x7 x8 x9)) w10) (k0_pay16 (F := Ideal) (tile (φ := .f32) s (val_main_v16 (F := Ideal) x1 x2 x3 x7 x8 x9)) w10) (View.ld (tileFrom (φ := .f32) s 1024 (by decide) x1) (Rect.unit (s := ⟨2, ![256, 1024]⟩) ![0, 512] S256x512.size inb_S256x1024_S256x512_0_512)) = tile (φ := .bf16) s (val_main_v34 (F := Ideal) x0 x1 x2 x3 x5 x6 x7 x8 x9 x10) := by
  funext i
  idx_vars i
  show _ = (val_main_v34 (F := Ideal) x0 x1 x2 x3 x5 x6 x7 x8 x9 x10) (ix2 (s i0) i1)
  pointwise [k0_pay1, k0_pay14, k0_pay15, k0_pay16, st13 (h10 := h10), val_main_v34, val_main_v31, val_main_v29, val_main_v28, val_main_v27, val_main_v26, val_main_v18, val_main_v25, val_main_v24, val_main_cst_0, val_main_v23, val_main_v22, val_main_cst, val_main_v21, val_main_v20, val_main_v19, val_main_v30, val_main_v1, val_main_call0_v5, val_main_call0_v4, val_main_call0_cst_0, val_main_call0_v3, val_main_call0_v2, val_main_call0_cst, val_main_call0_v1, val_main_call0_v0, Ideal.logistic, tile_at, tileFrom_at]
  by_cases h : i1.val < 512 <;> simp only [h, dite_true, dite_false]
  have e : 512 + (i1.val - 512) = i1.val := by omega
  simp only [e]

include h10 h11 in
/-- The stream after the layer on a tile. -/
theorem st2 : k0_pay2 (F := Ideal) (k0_pay14 (F := Ideal) (tile (φ := .f32) s (val_main_v5 (F := Ideal) x0 x5)) x6 (View.ld (tileFrom (φ := .f32) s 1024 (by decide) x1) (Rect.unit (s := ⟨2, ![256, 1024]⟩) ![0, 0] S256x512.size inb_S256x1024_S256x512_0_0))) (k0_pay15 (F := Ideal) (tile (φ := .f32) s (val_main_v16 (F := Ideal) x1 x2 x3 x7 x8 x9)) w10) (k0_pay16 (F := Ideal) (tile (φ := .f32) s (val_main_v16 (F := Ideal) x1 x2 x3 x7 x8 x9)) w10) (View.ld (tileFrom (φ := .f32) s 1024 (by decide) x1) (Rect.unit (s := ⟨2, ![256, 1024]⟩) ![0, 512] S256x512.size inb_S256x1024_S256x512_0_512)) (tile (φ := .f32) s x4) w11 = tile (φ := .f32) s (val_main_v33 (F := Ideal) x0 x1 x2 x3 x4 x5 x6 x7 x8 x9 x10 x11) := by
  funext i
  idx_vars i
  show _ = (val_main_v33 (F := Ideal) x0 x1 x2 x3 x4 x5 x6 x7 x8 x9 x10 x11) (ix2 (s i0) i1)
  pointwise [k0_pay2, st1 (h10 := h10), h11, val_main_v34, val_main_v33, val_main_v32, tile_at, tileFrom_at]
end

/-- The real read-out weight, as the call is given it. -/
theorem hcr (c : Dev nD) (b : Fin 4) (i : Fin 512) (j : Fin 128) :
    (V m c main_v11 : FVec Ideal ⟨3, ![4, 512, 128]⟩ .bf16) (ix3 b i j) = blockDiag (V m c main_arg7) b i j := by
  generalize hy : blockDiag (V m c main_arg7) b i j = y
  rw [V_main_arg7] at hy
  unfold V
  after_reads_at
  rw [← hy]
  refine (select_eq _ _ (by omega) (by omega) _ _).trans ?_
  unfold blockDiag
  refine if_congr Iff.rfl ?_ ?_
  · rfl
  · exact Ideal.ofBits_zero_f32

/-- The imaginary read-out weight, as the call is given it. -/
theorem hci (c : Dev nD) (b : Fin 4) (i : Fin 512) (j : Fin 128) :
    (V m c main_v23 : FVec Ideal ⟨3, ![4, 512, 128]⟩ .bf16) (ix3 b i j) = blockDiag (V m c main_arg8) b i j := by
  generalize hy : blockDiag (V m c main_arg8) b i j = y
  rw [V_main_arg8] at hy
  unfold V
  after_reads_at
  rw [← hy]
  refine (select_eq _ _ (by omega) (by omega) _ _).trans ?_
  unfold blockDiag
  refine if_congr Iff.rfl ?_ ?_
  · rfl
  · exact Ideal.ofBits_zero_f32

/-- The call is given the mixing weight, cast. -/
theorem hpw (c : Dev nD) (i) : V m c main_v24 i = V m c main_arg5 i := by
  revert i
  refine congrFun ?_
  rw [V_main_arg5]
  entry_read
  rfl

/-- The call is given the weight of the gated linear unit, cast. -/
theorem hwg (c : Dev nD) (i) : V m c main_v25 i = V m c main_arg10 i := by
  revert i
  refine congrFun ?_
  rw [V_main_arg10]
  entry_read
  rfl

/-- The call is given the output weight, cast. -/
theorem hwo (c : Dev nD) (i) : V m c main_v26 i = V m c main_arg11 i := by
  revert i
  refine congrFun ?_
  rw [V_main_arg11]
  entry_read
  rfl

/-- What grid point `t` reads of operand 0 is its tile. -/
theorem rd0 (c : Dev nD) (t : Fin cfg0.N) : iblk m c 0 t = tile (φ := .f32) (row t) (V m c main_arg0) := by
  funext i
  idx_vars i
  show _ = V m c main_arg0 (ix2 (row t i0) i1)
  blk_ext [iblk, idx t, row]

/-- What grid point `t` reads of operand 1 is its tile of some of the columns. -/
theorem rd1 (c : Dev nD) (t : Fin cfg0.N) : iblk m c 1 t = tileFrom (φ := .f32) (a := 256) (b := 8192) (k := 512) (n := 2048) (row t) 512 (by decide) (V m c main_arg1) := by
  funext i
  idx_vars i
  show _ = V m c main_arg1 (ix2 (row t i0) ⟨512 + i1.val, by omega⟩)
  blk_ext [iblk, idx t, row]

/-- What grid point `t` reads of operand 2 is its tile of some of the columns. -/
theorem rd2 (c : Dev nD) (t : Fin cfg0.N) : iblk m c 2 t = tileFrom (φ := .f32) (a := 256) (b := 8192) (k := 1024) (n := 2048) (row t) 1024 (by decide) (V m c main_arg1) := by
  funext i
  idx_vars i
  show _ = V m c main_arg1 (ix2 (row t i0) ⟨1024 + i1.val, by omega⟩)
  blk_ext [iblk, idx t, row]

/-- What grid point `t` reads of operand 3 is its tile. -/
theorem rd3 (c : Dev nD) (t : Fin cfg0.N) : iblk m c 3 t = tile (φ := .f32) (row t) (V m c main_arg2) := by
  funext i
  idx_vars i
  show _ = V m c main_arg2 (ix2 (row t i0) i1)
  blk_ext [iblk, idx t, row]

/-- What grid point `t` reads of operand 4 is its tile. -/
theorem rd4 (c : Dev nD) (t : Fin cfg0.N) : iblk m c 4 t = tile (φ := .f32) (row t) (V m c main_arg3) := by
  funext i
  idx_vars i
  show _ = V m c main_arg3 (ix2 (row t i0) i1)
  blk_ext [iblk, idx t, row]

/-- What grid point `t` reads of operand 5 is its tile. -/
theorem rd5 (c : Dev nD) (t : Fin cfg0.N) : iblk m c 5 t = tile (φ := .f32) (row t) (V m c main_arg4) := by
  funext i
  idx_vars i
  show _ = V m c main_arg4 (ix2 (row t i0) i1)
  blk_ext [iblk, idx t, row]

/-- Operand 6 is read whole. -/
theorem rd6 (c : Dev nD) (t : Fin cfg0.N) : iblk m c 6 t = V m c main_v24 := by
  funext i
  idx_vars i
  blk_ext [iblk, idx t, row]

/-- Operand 7 is read whole. -/
theorem rd7 (c : Dev nD) (t : Fin cfg0.N) : iblk m c 7 t = V m c main_arg6 := by
  funext i
  idx_vars i
  blk_ext [iblk, idx t, row]

/-- Operand 8 is read whole. -/
theorem rd8 (c : Dev nD) (t : Fin cfg0.N) : iblk m c 8 t = V m c main_v11 := by
  funext i
  idx_vars i
  blk_ext [iblk, idx t, row]

/-- Operand 9 is read whole. -/
theorem rd9 (c : Dev nD) (t : Fin cfg0.N) : iblk m c 9 t = V m c main_v23 := by
  funext i
  idx_vars i
  blk_ext [iblk, idx t, row]

/-- Operand 10 is read whole. -/
theorem rd10 (c : Dev nD) (t : Fin cfg0.N) : iblk m c 10 t = V m c main_arg9 := by
  funext i
  idx_vars i
  blk_ext [iblk, idx t, row]

/-- Operand 11 is read whole. -/
theorem rd11 (c : Dev nD) (t : Fin cfg0.N) : iblk m c 11 t = V m c main_v25 := by
  funext i
  idx_vars i
  blk_ext [iblk, idx t, row]

/-- Operand 12 is read whole. -/
theorem rd12 (c : Dev nD) (t : Fin cfg0.N) : iblk m c 12 t = V m c main_v26 := by
  funext i
  idx_vars i
  blk_ext [iblk, idx t, row]

end Cert.Proof.EvenMixFwd

end
-- ==== Proof.EvenMixFwd.lean ====
/- The even layer's output half, forward: the pooled mixing, the read-out of the states, its gated linear unit, the gate and the projection: the call leaves what the reference leaves. -/
module

public import proofs.«01_k».proof.Defs
public import proofs.«01_k».proof.Proof.Gen.EvenMixRefIdeal.Run
public import proofs.«01_k».proof.Proof.Gen.EvenMixRefIdeal.Read
public import proofs.«01_k».proof.Proof.Gen.EvenMixFwdIdeal.Value
public import proofs.«01_k».proof.Proof.Tiles
public import proofs.«01_k».proof.Proof.Cols
public import proofs.«01_k».proof.Proof.EvenMixFwdTiles
public import Idealize.ShloMosaic.Lib.StableHlo.ReadAt
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.EvenMixFwd

open Cert.EvenMixFwdIdeal Cert.EvenMixFwdIdeal.Gen Cert.EvenMixRefIdeal.Read Cert.Tiles

variable (m : (ℓ : Loc nD τ sig) → Buf (Elt Ideal) ℓ)

/-- Where entry `(r, l)` of point `t`'s block of result 13 lies. -/
theorem emb13 (t : Fin cfg0.N) (r : Fin 256) (l : Fin 1024) : ((View.whole main_v27_0).slice (win0_13.rect t)).emb (ix2 r l) = ix2 (row t r) l := by
  blk_ext [idx t, row]

/-- Grid point `t` leaves its tile of the stream after the layer. -/
theorem out13 (c : Dev nD) (t : Fin cfg0.N) : (outsAt0 m c t).1 = tile (φ := .f32) (row t) (val_main_v33 (F := Ideal) (V m c main_arg0) (V m c main_arg1) (V m c main_arg2) (V m c main_arg3) (V m c main_arg4) (V m c main_arg5) (V m c main_arg6) (V m c main_arg7) (V m c main_arg8) (V m c main_arg9) (V m c main_arg10) (V m c main_arg11)) := by
  unfold outsAt0
  funext i
  frame_out
  simp only [rd0, rd1, rd2, rd3, rd4, rd5, rd6, rd7, rd8, rd9, rd10, rd11, rd12, stm0 (h5 := hpw m c), stm1 (h5 := hpw m c), stm2 (h5 := hpw m c), stm3 (h5 := hpw m c), sty0 (h7 := hcr m c) (h8 := hci m c), sty1 (h7 := hcr m c) (h8 := hci m c), sty2 (h7 := hcr m c) (h8 := hci m c), sty3 (h7 := hcr m c) (h8 := hci m c), readCov_four, st2 (h10 := hwg m c) (h11 := hwo m c)]

/-- So the call leaves the stream after the layer. -/
theorem fin13 (c : Dev nD) : (dats m 0 c).arrAt 13 (cfgs 0).N = (val_main_v33 (F := Ideal) (V m c main_arg0) (V m c main_arg1) (V m c main_arg2) (V m c main_arg3) (V m c main_arg4) (V m c main_arg5) (V m c main_arg6) (V m c main_arg7) (V m c main_arg8) (V m c main_arg9) (V m c main_arg10) (V m c main_arg11)) := by
  refine (dats m 0 c).arrAt_eq_of_covers 13 _ (by decide +kernel) fun t hf y => ?_
  blk_simp
  rw [after0_13, out13]
  idx_vars y
  have he := emb13 t y0 y1
  change ((View.whole main_v27_0).slice (win0_13.rect t)).emb (ix2 y0 y1) = _ at he
  rw [he]
  rfl

/-- Where entry `(r, l)` of point `t`'s block of result 14 lies. -/
theorem emb14 (t : Fin cfg0.N) (r : Fin 256) (l : Fin 1024) : ((View.whole main_v27_1).slice (win0_14.rect t)).emb (ix2 r l) = ix2 (row t r) l := by
  blk_ext [idx t, row]

/-- Grid point `t` leaves its tile of the gated halves. -/
theorem out14 (c : Dev nD) (t : Fin cfg0.N) : (outsAt0 m c t).2.1 = tile (φ := .bf16) (row t) (val_main_v34 (F := Ideal) (V m c main_arg0) (V m c main_arg1) (V m c main_arg2) (V m c main_arg3) (V m c main_arg5) (V m c main_arg6) (V m c main_arg7) (V m c main_arg8) (V m c main_arg9) (V m c main_arg10)) := by
  unfold outsAt0
  funext i
  frame_out
  simp only [rd0, rd1, rd2, rd3, rd4, rd5, rd6, rd7, rd8, rd9, rd10, rd11, rd12, stm0 (h5 := hpw m c), stm1 (h5 := hpw m c), stm2 (h5 := hpw m c), stm3 (h5 := hpw m c), sty0 (h7 := hcr m c) (h8 := hci m c), sty1 (h7 := hcr m c) (h8 := hci m c), sty2 (h7 := hcr m c) (h8 := hci m c), sty3 (h7 := hcr m c) (h8 := hci m c), readCov_four, st1 (h10 := hwg m c)]

/-- So the call leaves the gated halves. -/
theorem fin14 (c : Dev nD) : (dats m 0 c).arrAt 14 (cfgs 0).N = (val_main_v34 (F := Ideal) (V m c main_arg0) (V m c main_arg1) (V m c main_arg2) (V m c main_arg3) (V m c main_arg5) (V m c main_arg6) (V m c main_arg7) (V m c main_arg8) (V m c main_arg9) (V m c main_arg10)) := by
  refine (dats m 0 c).arrAt_eq_of_covers 14 _ (by decide +kernel) fun t hf y => ?_
  blk_simp
  rw [after0_14, out14]
  idx_vars y
  have he := emb14 t y0 y1
  change ((View.whole main_v27_1).slice (win0_14.rect t)).emb (ix2 y0 y1) = _ at he
  rw [he]
  rfl

/-- Where entry `(r, l)` of point `t`'s block of result 15 lies. -/
theorem emb15 (t : Fin cfg0.N) (r : Fin 256) (l : Fin 512) : ((View.whole main_v27_2).slice (win0_15.rect t)).emb (ix2 r l) = ix2 (row t r) l := by
  blk_ext [idx t, row]

/-- Grid point `t` leaves its tile of the mixed pool. -/
theorem out15 (c : Dev nD) (t : Fin cfg0.N) : (outsAt0 m c t).2.2.1 = tile (φ := .f32) (row t) (val_main_v5 (F := Ideal) (V m c main_arg0) (V m c main_arg5)) := by
  unfold outsAt0
  funext i
  frame_out
  simp only [rd0, rd1, rd2, rd3, rd4, rd5, rd6, rd7, rd8, rd9, rd10, rd11, rd12, stm0 (h5 := hpw m c), stm1 (h5 := hpw m c), stm2 (h5 := hpw m c), stm3 (h5 := hpw m c), canon_four]

/-- So the call leaves the mixed pool. -/
theorem fin15 (c : Dev nD) : (dats m 0 c).arrAt 15 (cfgs 0).N = (val_main_v5 (F := Ideal) (V m c main_arg0) (V m c main_arg5)) := by
  refine (dats m 0 c).arrAt_eq_of_covers 15 _ (by decide +kernel) fun t hf y => ?_
  blk_simp
  rw [after0_15, out15]
  idx_vars y
  have he := emb15 t y0 y1
  change ((View.whole main_v27_2).slice (win0_15.rect t)).emb (ix2 y0 y1) = _ at he
  rw [he]
  rfl

/-- Where entry `(r, l)` of point `t`'s block of result 16 lies. -/
theorem emb16 (t : Fin cfg0.N) (r : Fin 256) (l : Fin 512) : ((View.whole main_v27_3).slice (win0_16.rect t)).emb (ix2 r l) = ix2 (row t r) l := by
  blk_ext [idx t, row]

/-- Grid point `t` leaves its tile of the read-out. -/
theorem out16 (c : Dev nD) (t : Fin cfg0.N) : (outsAt0 m c t).2.2.2.1 = tile (φ := .f32) (row t) (val_main_v16 (F := Ideal) (V m c main_arg1) (V m c main_arg2) (V m c main_arg3) (V m c main_arg7) (V m c main_arg8) (V m c main_arg9)) := by
  unfold outsAt0
  funext i
  frame_out
  simp only [rd0, rd1, rd2, rd3, rd4, rd5, rd6, rd7, rd8, rd9, rd10, rd11, rd12, sty0 (h7 := hcr m c) (h8 := hci m c), sty1 (h7 := hcr m c) (h8 := hci m c), sty2 (h7 := hcr m c) (h8 := hci m c), sty3 (h7 := hcr m c) (h8 := hci m c), canon_four]

/-- So the call leaves the read-out. -/
theorem fin16 (c : Dev nD) : (dats m 0 c).arrAt 16 (cfgs 0).N = (val_main_v16 (F := Ideal) (V m c main_arg1) (V m c main_arg2) (V m c main_arg3) (V m c main_arg7) (V m c main_arg8) (V m c main_arg9)) := by
  refine (dats m 0 c).arrAt_eq_of_covers 16 _ (by decide +kernel) fun t hf y => ?_
  blk_simp
  rw [after0_16, out16]
  idx_vars y
  have he := emb16 t y0 y1
  change ((View.whole main_v27_3).slice (win0_16.rect t)).emb (ix2 y0 y1) = _ at he
  rw [he]
  rfl

/-- Where entry `(r, l)` of point `t`'s block of result 17 lies. -/
theorem emb17 (t : Fin cfg0.N) (r : Fin 256) (l : Fin 1024) : ((View.whole main_v27_4).slice (win0_17.rect t)).emb (ix2 r l) = ix2 (row t r) l := by
  blk_ext [idx t, row]

/-- Grid point `t` leaves its tile of the gated linear unit's two halves. -/
theorem out17 (c : Dev nD) (t : Fin cfg0.N) : (outsAt0 m c t).2.2.2.2 = tile (φ := .f32) (row t) (val_main_v17 (F := Ideal) (V m c main_arg1) (V m c main_arg2) (V m c main_arg3) (V m c main_arg7) (V m c main_arg8) (V m c main_arg9) (V m c main_arg10)) := by
  unfold outsAt0
  funext i
  frame_out
  simp only [rd0, rd1, rd2, rd3, rd4, rd5, rd6, rd7, rd8, rd9, rd10, rd11, rd12, sty0 (h7 := hcr m c) (h8 := hci m c), sty1 (h7 := hcr m c) (h8 := hci m c), sty2 (h7 := hcr m c) (h8 := hci m c), sty3 (h7 := hcr m c) (h8 := hci m c), readCov_four, st13 (h10 := hwg m c)]

/-- So the call leaves the gated linear unit's two halves. -/
theorem fin17 (c : Dev nD) : (dats m 0 c).arrAt 17 (cfgs 0).N = (val_main_v17 (F := Ideal) (V m c main_arg1) (V m c main_arg2) (V m c main_arg3) (V m c main_arg7) (V m c main_arg8) (V m c main_arg9) (V m c main_arg10)) := by
  refine (dats m 0 c).arrAt_eq_of_covers 17 _ (by decide +kernel) fun t hf y => ?_
  blk_simp
  rw [after0_17, out17]
  idx_vars y
  have he := emb17 t y0 y1
  change ((View.whole main_v27_4).slice (win0_17.rect t)).emb (ix2 y0 y1) = _ at he
  rw [he]
  rfl

/-- The reference runs to its end and leaves nothing behind. -/
theorem frameR : Cert.quiescent_EvenMixRefIdeal := fun m ρ _ =>
  (θ_run Cert.EvenMixRefIdeal.defs _ _).mono (fun r h => ⟨fun c => (h c).2.2.2.2.2, sem_eq_zero_of_no_sems (by decide) r.2⟩)
    (Cert.EvenMixRefIdeal.Value.run (F := Ideal) m ρ)

set_option maxHeartbeats 2000000 in
/-- The call and the reference leave equal results. -/
theorem algebraic : Cert.algebraic_EvenMixFwdIdeal_EvenMixRefIdeal := by
  intro m g m' g' _ hin
  refine ⟨_, _, _, _, _, Cert.EvenMixFwdIdeal.Value.run_blocks m g, (θ_run _ _ _).mono (fun r h c => ?_) (Cert.EvenMixRefIdeal.Value.run m' g')⟩
  obtain ⟨h0, h1, h2, h3, h4, hk⟩ := h c
  obtain ⟨a0, a1, a2, a3, a4, a5, a6, a7, a8, a9, a10, a11⟩ := hin c
  refine ⟨?_, ?_, ?_, ?_, ?_, hk⟩
  · have e : val_main_v33 (F := Ideal) (m' ((c.tc : Thread nD τ).loc Cert.EvenMixRefIdeal.main_arg0)) (m' ((c.tc : Thread nD τ).loc Cert.EvenMixRefIdeal.main_arg1)) (m' ((c.tc : Thread nD τ).loc Cert.EvenMixRefIdeal.main_arg2)) (m' ((c.tc : Thread nD τ).loc Cert.EvenMixRefIdeal.main_arg3)) (m' ((c.tc : Thread nD τ).loc Cert.EvenMixRefIdeal.main_arg4)) (m' ((c.tc : Thread nD τ).loc Cert.EvenMixRefIdeal.main_arg5)) (m' ((c.tc : Thread nD τ).loc Cert.EvenMixRefIdeal.main_arg6)) (m' ((c.tc : Thread nD τ).loc Cert.EvenMixRefIdeal.main_arg7)) (m' ((c.tc : Thread nD τ).loc Cert.EvenMixRefIdeal.main_arg8)) (m' ((c.tc : Thread nD τ).loc Cert.EvenMixRefIdeal.main_arg9)) (m' ((c.tc : Thread nD τ).loc Cert.EvenMixRefIdeal.main_arg10)) (m' ((c.tc : Thread nD τ).loc Cert.EvenMixRefIdeal.main_arg11)) = (val_main_v33 (F := Ideal) (V m c main_arg0) (V m c main_arg1) (V m c main_arg2) (V m c main_arg3) (V m c main_arg4) (V m c main_arg5) (V m c main_arg6) (V m c main_arg7) (V m c main_arg8) (V m c main_arg9) (V m c main_arg10) (V m c main_arg11)) := by
      rw [V_main_arg0, V_main_arg1, V_main_arg2, V_main_arg3, V_main_arg4, V_main_arg5, V_main_arg6, V_main_arg7, V_main_arg8, V_main_arg9, V_main_arg10, V_main_arg11, a0, a1, a2, a3, a4, a5, a6, a7, a8, a9, a10, a11]
    refine (h0.trans ?_).trans (e.trans (fin13 m c).symm)
    exact val_main_v33_eq ..
  · have e : val_main_v34 (F := Ideal) (m' ((c.tc : Thread nD τ).loc Cert.EvenMixRefIdeal.main_arg0)) (m' ((c.tc : Thread nD τ).loc Cert.EvenMixRefIdeal.main_arg1)) (m' ((c.tc : Thread nD τ).loc Cert.EvenMixRefIdeal.main_arg2)) (m' ((c.tc : Thread nD τ).loc Cert.EvenMixRefIdeal.main_arg3)) (m' ((c.tc : Thread nD τ).loc Cert.EvenMixRefIdeal.main_arg5)) (m' ((c.tc : Thread nD τ).loc Cert.EvenMixRefIdeal.main_arg6)) (m' ((c.tc : Thread nD τ).loc Cert.EvenMixRefIdeal.main_arg7)) (m' ((c.tc : Thread nD τ).loc Cert.EvenMixRefIdeal.main_arg8)) (m' ((c.tc : Thread nD τ).loc Cert.EvenMixRefIdeal.main_arg9)) (m' ((c.tc : Thread nD τ).loc Cert.EvenMixRefIdeal.main_arg10)) = (val_main_v34 (F := Ideal) (V m c main_arg0) (V m c main_arg1) (V m c main_arg2) (V m c main_arg3) (V m c main_arg5) (V m c main_arg6) (V m c main_arg7) (V m c main_arg8) (V m c main_arg9) (V m c main_arg10)) := by
      rw [V_main_arg0, V_main_arg1, V_main_arg2, V_main_arg3, V_main_arg5, V_main_arg6, V_main_arg7, V_main_arg8, V_main_arg9, V_main_arg10, a0, a1, a2, a3, a5, a6, a7, a8, a9, a10]
    refine (h1.trans ?_).trans (e.trans (fin14 m c).symm)
    exact val_main_v34_eq ..
  · have e : val_main_v5 (F := Ideal) (m' ((c.tc : Thread nD τ).loc Cert.EvenMixRefIdeal.main_arg0)) (m' ((c.tc : Thread nD τ).loc Cert.EvenMixRefIdeal.main_arg5)) = (val_main_v5 (F := Ideal) (V m c main_arg0) (V m c main_arg5)) := by
      rw [V_main_arg0, V_main_arg5, a0, a5]
    refine (h2.trans ?_).trans (e.trans (fin15 m c).symm)
    exact val_main_v5_eq ..
  · have e : val_main_v16 (F := Ideal) (m' ((c.tc : Thread nD τ).loc Cert.EvenMixRefIdeal.main_arg1)) (m' ((c.tc : Thread nD τ).loc Cert.EvenMixRefIdeal.main_arg2)) (m' ((c.tc : Thread nD τ).loc Cert.EvenMixRefIdeal.main_arg3)) (m' ((c.tc : Thread nD τ).loc Cert.EvenMixRefIdeal.main_arg7)) (m' ((c.tc : Thread nD τ).loc Cert.EvenMixRefIdeal.main_arg8)) (m' ((c.tc : Thread nD τ).loc Cert.EvenMixRefIdeal.main_arg9)) = (val_main_v16 (F := Ideal) (V m c main_arg1) (V m c main_arg2) (V m c main_arg3) (V m c main_arg7) (V m c main_arg8) (V m c main_arg9)) := by
      rw [V_main_arg1, V_main_arg2, V_main_arg3, V_main_arg7, V_main_arg8, V_main_arg9, a1, a2, a3, a7, a8, a9]
    refine (h3.trans ?_).trans (e.trans (fin16 m c).symm)
    exact val_main_v16_eq ..
  · have e : val_main_v17 (F := Ideal) (m' ((c.tc : Thread nD τ).loc Cert.EvenMixRefIdeal.main_arg1)) (m' ((c.tc : Thread nD τ).loc Cert.EvenMixRefIdeal.main_arg2)) (m' ((c.tc : Thread nD τ).loc Cert.EvenMixRefIdeal.main_arg3)) (m' ((c.tc : Thread nD τ).loc Cert.EvenMixRefIdeal.main_arg7)) (m' ((c.tc : Thread nD τ).loc Cert.EvenMixRefIdeal.main_arg8)) (m' ((c.tc : Thread nD τ).loc Cert.EvenMixRefIdeal.main_arg9)) (m' ((c.tc : Thread nD τ).loc Cert.EvenMixRefIdeal.main_arg10)) = (val_main_v17 (F := Ideal) (V m c main_arg1) (V m c main_arg2) (V m c main_arg3) (V m c main_arg7) (V m c main_arg8) (V m c main_arg9) (V m c main_arg10)) := by
      rw [V_main_arg1, V_main_arg2, V_main_arg3, V_main_arg7, V_main_arg8, V_main_arg9, V_main_arg10, a1, a2, a3, a7, a8, a9, a10]
    refine (h4.trans ?_).trans (e.trans (fin17 m c).symm)
    exact val_main_v17_eq ..

end Cert.Proof.EvenMixFwd

end
-- ==== Proof.DwReadRe.lean ====
/- The gradient of the read-out by its real block matrices, `dw_c_re`: for each of the four blocks a product over the token
   axis, accumulated tile by tile in the result by the kernel, is the reference's product over all tokens at once. -/
module

public import proofs.«01_k».proof.Defs
public import proofs.«01_k».proof.Proof.Gen.DwReadReIdeal.Value
public import proofs.«01_k».proof.Proof.Gen.ReadReGradIdeal.Run
public import proofs.«01_k».proof.Proof.Gen.ReadReGradIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.DwReadRe

open Cert.DwReadReIdeal Cert.DwReadReIdeal.Gen

variable (m : (ℓ : Loc nD τ sig) → Buf (Elt Ideal) ℓ)

/-- Grid point `t` reads tile `t % 4` of the tokens, in the columns of block `t / 4`, and holds block `t / 4` of the result. -/
theorem idx : ∀ t : Fin cfg0.N, win0_0.index t = ![t.val % 4, t.val / 4] ∧ win0_1.index t = ![t.val % 4, t.val / 4] ∧ win0_2.index t = ![t.val / 4, 0, 0] :=
  (by decide +kernel : ∀ t : Fin grid0.N, _)

/-- Row `r` of the tile of grid point `t`, in the whole array. -/
def row (t : Fin cfg0.N) (r : Fin 2048) : Fin 8192 := ⟨(t.val % 4) * 2048 + r.val, by omega⟩

/-- The block of grid point `t`. -/
def blk (t : Fin cfg0.N) : Fin 4 := ⟨t.val / 4, by have := lt_of_lt_of_eq t.isLt N_0; omega⟩

/-- Column `k` of the 512 of block `b`, in the whole array. -/
def wide (b : Fin 4) (k : Fin 512) : Fin 2048 := ⟨b.val * 512 + k.val, by omega⟩

/-- Column `k` of the 128 of block `b`, in the whole array. -/
def thin (b : Fin 4) (k : Fin 128) : Fin 512 := ⟨(b.val * 128 + k.val), by omega⟩

/-- One product of the sum, over the extended reals. -/
def term (a b : EReal) : EReal := a * b

/-- Its factors may be exchanged. -/
theorem term_comm (a b : EReal) : a * b = term b a := mul_comm a b

/-- The tile of argument 0, read in the whole array. -/
theorem rd0 (c : Dev nD) (t : Fin cfg0.N) (r : Fin 2048) (k : Fin 512) : iblk m c 0 t (ix2 r k) = V m c main_arg0 (ix2 (row t r) (wide (blk t) k)) := by
  blk_ext [iblk, idx t, row, blk, wide]

/-- The tile of argument 1, read in the whole array. -/
theorem rd1 (c : Dev nD) (t : Fin cfg0.N) (r : Fin 2048) (k : Fin 128) : iblk m c 1 t (ix2 r k) = V m c main_arg1 (ix2 (row t r) (thin (blk t) k)) := by
  blk_ext [iblk, idx t, row, blk, thin]

/-- The place of result 2's block in the whole result. -/
theorem emb2 (t : Fin cfg0.N) (u : Fin 1) (i : Fin 512) (j : Fin 128) :
    ((cfg0.win 2).blk t).view.emb (ix3 u i j) = (ix3 (blk t) i j : S4x512x128.Idx) := by
  blk_ext [idx t, blk]

/-- What grid point `t` adds to result 2's block. -/
def part2 (c : Dev nD) (t : Fin cfg0.N) (j : S1x512x128.Idx) : EReal :=
  ∑ r : Fin 2048, term (iblk m c 0 t (ix2 r (j 1))) (iblk m c 1 t (ix2 r (j 2)))

/-- The step adds the tile's product. -/
theorem step2_at (acc : FVec Ideal S1x512x128 .f32) (a : FVec Ideal S2048x512 .f32) (b : FVec Ideal S2048x128 .f32) (u : Fin 1) (i : Fin 512) (j : Fin 128) :
    k0_pay2 (F := Ideal) acc a b (ix3 u i j) = acc (ix3 u i j) + ∑ r : Fin 2048, term (a (ix2 r i)) (b (ix2 r j)) := by
  obtain rfl : u = 0 := Subsingleton.elim _ _
  pointwise [k0_pay2, term]

/-- The first tile of a block starts it at nought. -/
theorem acc2_A (c : Dev nD) (t : Fin cfg0.N) (h : t.val % 4 = 0) (j : S1x512x128.Idx) :
    (outsAt0 m c t.val t.isLt) j = 0 + part2 m c t j := by
  rw [outsAt0_A m c t h]
  idx_vars j
  refine (congrFun (Value.out_A_2_eq ..) _).trans ((step2_at _ _ _ j0 j1 j2).trans ?_)
  pointwise [k0_pay1]
  rfl

/-- Every further tile of the block adds to it. -/
theorem acc2_B (c : Dev nD) (t : Fin cfg0.N) (h : ¬t.val % 4 = 0) (j : S1x512x128.Idx) :
    (outsAt0 m c t.val t.isLt) j = (outsAt0 m c (t.val - 1) (Nat.lt_of_le_of_lt (Nat.sub_le _ _) t.isLt)) j + part2 m c t j := by
  rw [outsAt0_B m c t h]
  idx_vars j
  exact (congrFun (Value.out_B_2_eq ..) _).trans (step2_at _ _ _ j0 j1 j2)

/-- Result 2 of the kernel is, block by block, the product over all tokens. -/
theorem fin2 (c : Dev nD) : (dats m 0 c).arrAt 2 (cfgs 0).N = fun i : S4x512x128.Idx =>
    ∑ s : Fin 8192, term (V m c main_arg0 (ix2 s (wide (i 0) (i 1)))) (V m c main_arg1 (ix2 s (thin (i 0) (i 2)))) := by
  refine (dats m 0 c).arrAt_eq_of_covers 2 _ (by decide +kernel) fun t hf y => ?_
  blk_simp
  rw [after0_2]
  have hl : t.val % 4 = 3 := (flush0_2 t).mp hf
  have hsum := Pipeline.eq_sum_fin_of_reset_step_apply_of_flush (ι := S1x512x128.Idx) (M := EReal)
    (fun n h => (outsAt0 m c n h)) 4 (fun _ => 0) (part2 m c) (acc2_A m c) (acc2_B m c) t hl
  idx_vars y
  refine (hsum _).trans ?_
  have he := emb2 t y0 y1 y2
  change ((View.whole main_v0).slice (win0_2.rect t)).emb (ix3 y0 y1 y2) = _ at he
  rw [he]
  have hp : ∀ t', part2 m c t' (ix3 y0 y1 y2) =
      ∑ r : Fin 2048, term (V m c main_arg0 (ix2 (row t' r) (wide (blk t') y1))) (V m c main_arg1 (ix2 (row t' r) (thin (blk t') y2))) := by
    intro t'
    refine Finset.sum_congr rfl fun r _ => ?_
    show term (iblk m c 0 t' (ix2 r y1)) (iblk m c 1 t' (ix2 r y2)) = _
    rw [rd0, rd1]
  simp only [hp]
  refine (zero_add _).trans (Fin.sum_mul_add_congr (n := 2048) (L := 8192) (M := EReal) fun s k hl => ?_)
  have hr : ∀ h, row ⟨4 * (t.val / 4) + s.val, h⟩ k = ⟨s.val * 2048 + k.val, hl⟩ := fun h => Fin.ext (by
    show (4 * (t.val / 4) + s.val) % 4 * 2048 + k.val = s.val * 2048 + k.val
    omega)
  have hb : ∀ h, blk ⟨4 * (t.val / 4) + s.val, h⟩ = blk t := fun h => Fin.ext (by
    show (4 * (t.val / 4) + s.val) / 4 = t.val / 4
    omega)
  simp only [hr, hb]
  rfl

open Cert.ReadReGradIdeal.Read in
/-- Result 2 of the reference is the same product. -/
theorem ref2_at (x0 : FVec Ideal S8192x2048 .f32) (x1 : FVec Ideal S8192x512 .f32) (b : Fin 4) (i : Fin 512) (j : Fin 128) :
    val_main_v7 (F := Ideal) x0 x1 (ix3 b i j) = ∑ s : Fin 8192, term (x0 (ix2 s (wide b i))) (x1 (ix2 s (thin b j))) := by
  pointwise [val_main_v7, val_main_v6, val_main_v5, val_main_v4, val_main_v1]
  exact Finset.sum_congr rfl fun s _ => term_comm _ _

/-- The reference runs to its end and leaves nothing behind. -/
theorem frameR : Cert.quiescent_ReadReGradIdeal := fun m ρ _ =>
  (θ_run Cert.ReadReGradIdeal.defs _ _).mono (fun r h => ⟨fun c => (h c).2, sem_eq_zero_of_no_sems (by decide) r.2⟩)
    (Cert.ReadReGradIdeal.Value.run (F := Ideal) m ρ)

/-- The kernel and the reference leave equal results. -/
theorem algebraic : Cert.algebraic_DwReadReIdeal_ReadReGradIdeal := by
  intro m g m' g' _ hin
  refine ⟨_, Cert.DwReadReIdeal.Value.run_blocks m g, (θ_run _ _ _).mono (fun r h c => ?_) (Cert.ReadReGradIdeal.Value.run m' g')⟩
  obtain ⟨h0, hk⟩ := h c
  obtain ⟨a0, a1⟩ := hin c
  refine ⟨?_, hk⟩
  rw [h0, Cert.ReadReGradIdeal.Read.val_main_v7_eq, fin2, a0, a1]
  refine funext fun i => ?_
  idx_vars i
  refine (ref2_at _ _ i0 i1 i2).trans ?_
  simp only [V_main_arg0, V_main_arg1]

end Cert.Proof.DwReadRe

end
-- ==== Proof.DwBbar.lean ====
/- The gradient of the read-in by its block matrices, `dw_bbar`: for each of the four blocks, and for the real and the
   imaginary part, a product over the token axis, accumulated tile by tile in the result by the kernel, is the reference's
   product over all tokens at once. -/
module

public import proofs.«01_k».proof.Defs
public import proofs.«01_k».proof.Proof.Gen.DwBbarIdeal.Value
public import proofs.«01_k».proof.Proof.Gen.BbarGradIdeal.Run
public import proofs.«01_k».proof.Proof.Gen.BbarGradIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.DwBbar

open Cert.DwBbarIdeal Cert.DwBbarIdeal.Gen

variable (m : (ℓ : Loc nD τ sig) → Buf (Elt Ideal) ℓ)

/-- Grid point `t` reads tile `t % 4` of the tokens, in the columns of block `t / 4`, and holds block `t / 4` of the result. -/
theorem idx : ∀ t : Fin cfg0.N, win0_0.index t = ![t.val % 4, 4 + t.val / 4] ∧ win0_1.index t = ![t.val % 4, t.val / 4] ∧ win0_2.index t = ![t.val % 4, t.val / 4] ∧ win0_3.index t = ![t.val / 4, 0, 0] ∧ win0_4.index t = ![t.val / 4, 0, 0] :=
  (by decide +kernel : ∀ t : Fin grid0.N, _)

/-- Row `r` of the tile of grid point `t`, in the whole array. -/
def row (t : Fin cfg0.N) (r : Fin 2048) : Fin 8192 := ⟨(t.val % 4) * 2048 + r.val, by omega⟩

/-- The block of grid point `t`. -/
def blk (t : Fin cfg0.N) : Fin 4 := ⟨t.val / 4, by have := lt_of_lt_of_eq t.isLt N_0; omega⟩

/-- Column `k` of the 512 of block `b`, in the whole array. -/
def wide (b : Fin 4) (k : Fin 512) : Fin 2048 := ⟨b.val * 512 + k.val, by omega⟩

/-- Column `k` of the 128 of block `b`, in the whole array. -/
def thin (b : Fin 4) (k : Fin 128) : Fin 2048 := ⟨512 + (b.val * 128 + k.val), by omega⟩

/-- One product of the sum, over the extended reals. -/
def term (a b : EReal) : EReal := a * b

/-- Its factors may be exchanged. -/
theorem term_comm (a b : EReal) : a * b = term b a := mul_comm a b

/-- The tile of argument 0, read in the whole array. -/
theorem rd0 (c : Dev nD) (t : Fin cfg0.N) (r : Fin 2048) (k : Fin 128) : iblk m c 0 t (ix2 r k) = V m c main_arg0 (ix2 (row t r) (thin (blk t) k)) := by
  blk_ext [iblk, idx t, row, blk, thin]

/-- The tile of argument 1, read in the whole array. -/
theorem rd1 (c : Dev nD) (t : Fin cfg0.N) (r : Fin 2048) (k : Fin 512) : iblk m c 1 t (ix2 r k) = V m c main_arg1 (ix2 (row t r) (wide (blk t) k)) := by
  blk_ext [iblk, idx t, row, blk, wide]

/-- The tile of argument 2, read in the whole array. -/
theorem rd2 (c : Dev nD) (t : Fin cfg0.N) (r : Fin 2048) (k : Fin 512) : iblk m c 2 t (ix2 r k) = V m c main_arg2 (ix2 (row t r) (wide (blk t) k)) := by
  blk_ext [iblk, idx t, row, blk, wide]

/-- The place of result 3's block in the whole result. -/
theorem emb3 (t : Fin cfg0.N) (u : Fin 1) (i : Fin 512) (j : Fin 128) :
    ((cfg0.win 3).blk t).view.emb (ix3 u i j) = (ix3 (blk t) i j : S4x512x128.Idx) := by
  blk_ext [idx t, blk]

/-- What grid point `t` adds to result 3's block. -/
def part3 (c : Dev nD) (t : Fin cfg0.N) (j : S1x512x128.Idx) : EReal :=
  ∑ r : Fin 2048, term (iblk m c 1 t (ix2 r (j 1))) (iblk m c 0 t (ix2 r (j 2)))

/-- The step adds the tile's product. -/
theorem step3_at (acc : FVec Ideal S1x512x128 .f32) (a : FVec Ideal S2048x512 .f32) (b : FVec Ideal S2048x128 .f32) (u : Fin 1) (i : Fin 512) (j : Fin 128) :
    k0_pay4 (F := Ideal) b acc a (ix3 u i j) = acc (ix3 u i j) + ∑ r : Fin 2048, term (a (ix2 r i)) (b (ix2 r j)) := by
  obtain rfl : u = 0 := Subsingleton.elim _ _
  pointwise [k0_pay4, k0_pay3, term]

/-- The first tile of a block starts it at nought. -/
theorem acc3_A (c : Dev nD) (t : Fin cfg0.N) (h : t.val % 4 = 0) (j : S1x512x128.Idx) :
    (outsAt0 m c t.val t.isLt).1 j = 0 + part3 m c t j := by
  rw [outsAt0_A m c t h]
  idx_vars j
  refine (congrFun (Value.out_A_3_eq ..) _).trans ((step3_at _ _ _ j0 j1 j2).trans ?_)
  pointwise [k0_pay1]
  rfl

/-- Every further tile of the block adds to it. -/
theorem acc3_B (c : Dev nD) (t : Fin cfg0.N) (h : ¬t.val % 4 = 0) (j : S1x512x128.Idx) :
    (outsAt0 m c t.val t.isLt).1 j = (outsAt0 m c (t.val - 1) (Nat.lt_of_le_of_lt (Nat.sub_le _ _) t.isLt)).1 j + part3 m c t j := by
  rw [outsAt0_B m c t h]
  idx_vars j
  exact (congrFun (Value.out_B_3_eq ..) _).trans (step3_at _ _ _ j0 j1 j2)

/-- Result 3 of the kernel is, block by block, the product over all tokens. -/
theorem fin3 (c : Dev nD) : (dats m 0 c).arrAt 3 (cfgs 0).N = fun i : S4x512x128.Idx =>
    ∑ s : Fin 8192, term (V m c main_arg1 (ix2 s (wide (i 0) (i 1)))) (V m c main_arg0 (ix2 s (thin (i 0) (i 2)))) := by
  refine (dats m 0 c).arrAt_eq_of_covers 3 _ (by decide +kernel) fun t hf y => ?_
  blk_simp
  rw [after0_3]
  have hl : t.val % 4 = 3 := (flush0_3 t).mp hf
  have hsum := Pipeline.eq_sum_fin_of_reset_step_apply_of_flush (ι := S1x512x128.Idx) (M := EReal)
    (fun n h => (outsAt0 m c n h).1) 4 (fun _ => 0) (part3 m c) (acc3_A m c) (acc3_B m c) t hl
  idx_vars y
  refine (hsum _).trans ?_
  have he := emb3 t y0 y1 y2
  change ((View.whole main_v0_0).slice (win0_3.rect t)).emb (ix3 y0 y1 y2) = _ at he
  rw [he]
  have hp : ∀ t', part3 m c t' (ix3 y0 y1 y2) =
      ∑ r : Fin 2048, term (V m c main_arg1 (ix2 (row t' r) (wide (blk t') y1))) (V m c main_arg0 (ix2 (row t' r) (thin (blk t') y2))) := by
    intro t'
    refine Finset.sum_congr rfl fun r _ => ?_
    show term (iblk m c 1 t' (ix2 r y1)) (iblk m c 0 t' (ix2 r y2)) = _
    rw [rd1, rd0]
  simp only [hp]
  refine (zero_add _).trans (Fin.sum_mul_add_congr (n := 2048) (L := 8192) (M := EReal) fun s k hl => ?_)
  have hr : ∀ h, row ⟨4 * (t.val / 4) + s.val, h⟩ k = ⟨s.val * 2048 + k.val, hl⟩ := fun h => Fin.ext (by
    show (4 * (t.val / 4) + s.val) % 4 * 2048 + k.val = s.val * 2048 + k.val
    omega)
  have hb : ∀ h, blk ⟨4 * (t.val / 4) + s.val, h⟩ = blk t := fun h => Fin.ext (by
    show (4 * (t.val / 4) + s.val) / 4 = t.val / 4
    omega)
  simp only [hr, hb]
  rfl

/-- The place of result 4's block in the whole result. -/
theorem emb4 (t : Fin cfg0.N) (u : Fin 1) (i : Fin 512) (j : Fin 128) :
    ((cfg0.win 4).blk t).view.emb (ix3 u i j) = (ix3 (blk t) i j : S4x512x128.Idx) := by
  blk_ext [idx t, blk]

/-- What grid point `t` adds to result 4's block. -/
def part4 (c : Dev nD) (t : Fin cfg0.N) (j : S1x512x128.Idx) : EReal :=
  ∑ r : Fin 2048, term (iblk m c 2 t (ix2 r (j 1))) (iblk m c 0 t (ix2 r (j 2)))

/-- The step adds the tile's product. -/
theorem step4_at (acc : FVec Ideal S1x512x128 .f32) (a : FVec Ideal S2048x512 .f32) (b : FVec Ideal S2048x128 .f32) (u : Fin 1) (i : Fin 512) (j : Fin 128) :
    k0_pay5 (F := Ideal) b acc a (ix3 u i j) = acc (ix3 u i j) + ∑ r : Fin 2048, term (a (ix2 r i)) (b (ix2 r j)) := by
  obtain rfl : u = 0 := Subsingleton.elim _ _
  pointwise [k0_pay5, k0_pay3, term]

/-- The first tile of a block starts it at nought. -/
theorem acc4_A (c : Dev nD) (t : Fin cfg0.N) (h : t.val % 4 = 0) (j : S1x512x128.Idx) :
    (outsAt0 m c t.val t.isLt).2 j = 0 + part4 m c t j := by
  rw [outsAt0_A m c t h]
  idx_vars j
  refine (congrFun (Value.out_A_4_eq ..) _).trans ((step4_at _ _ _ j0 j1 j2).trans ?_)
  pointwise [k0_pay2]
  rfl

/-- Every further tile of the block adds to it. -/
theorem acc4_B (c : Dev nD) (t : Fin cfg0.N) (h : ¬t.val % 4 = 0) (j : S1x512x128.Idx) :
    (outsAt0 m c t.val t.isLt).2 j = (outsAt0 m c (t.val - 1) (Nat.lt_of_le_of_lt (Nat.sub_le _ _) t.isLt)).2 j + part4 m c t j := by
  rw [outsAt0_B m c t h]
  idx_vars j
  exact (congrFun (Value.out_B_4_eq ..) _).trans (step4_at _ _ _ j0 j1 j2)

/-- Result 4 of the kernel is, block by block, the product over all tokens. -/
theorem fin4 (c : Dev nD) : (dats m 0 c).arrAt 4 (cfgs 0).N = fun i : S4x512x128.Idx =>
    ∑ s : Fin 8192, term (V m c main_arg2 (ix2 s (wide (i 0) (i 1)))) (V m c main_arg0 (ix2 s (thin (i 0) (i 2)))) := by
  refine (dats m 0 c).arrAt_eq_of_covers 4 _ (by decide +kernel) fun t hf y => ?_
  blk_simp
  rw [after0_4]
  have hl : t.val % 4 = 3 := (flush0_4 t).mp hf
  have hsum := Pipeline.eq_sum_fin_of_reset_step_apply_of_flush (ι := S1x512x128.Idx) (M := EReal)
    (fun n h => (outsAt0 m c n h).2) 4 (fun _ => 0) (part4 m c) (acc4_A m c) (acc4_B m c) t hl
  idx_vars y
  refine (hsum _).trans ?_
  have he := emb4 t y0 y1 y2
  change ((View.whole main_v0_1).slice (win0_4.rect t)).emb (ix3 y0 y1 y2) = _ at he
  rw [he]
  have hp : ∀ t', part4 m c t' (ix3 y0 y1 y2) =
      ∑ r : Fin 2048, term (V m c main_arg2 (ix2 (row t' r) (wide (blk t') y1))) (V m c main_arg0 (ix2 (row t' r) (thin (blk t') y2))) := by
    intro t'
    refine Finset.sum_congr rfl fun r _ => ?_
    show term (iblk m c 2 t' (ix2 r y1)) (iblk m c 0 t' (ix2 r y2)) = _
    rw [rd2, rd0]
  simp only [hp]
  refine (zero_add _).trans (Fin.sum_mul_add_congr (n := 2048) (L := 8192) (M := EReal) fun s k hl => ?_)
  have hr : ∀ h, row ⟨4 * (t.val / 4) + s.val, h⟩ k = ⟨s.val * 2048 + k.val, hl⟩ := fun h => Fin.ext (by
    show (4 * (t.val / 4) + s.val) % 4 * 2048 + k.val = s.val * 2048 + k.val
    omega)
  have hb : ∀ h, blk ⟨4 * (t.val / 4) + s.val, h⟩ = blk t := fun h => Fin.ext (by
    show (4 * (t.val / 4) + s.val) / 4 = t.val / 4
    omega)
  simp only [hr, hb]
  rfl

open Cert.BbarGradIdeal.Read in
/-- Result 3 of the reference is the same product. -/
theorem ref3_at (x0 x1 : FVec Ideal S8192x2048 .f32) (b : Fin 4) (i : Fin 512) (j : Fin 128) :
    val_main_v7 (F := Ideal) x0 x1 (ix3 b i j) = ∑ s : Fin 8192, term (x1 (ix2 s (wide b i))) (x0 (ix2 s (thin b j))) := by
  pointwise [val_main_v7, val_main_v6, val_main_v5, val_main_v1, val_main_v0]
  rfl

open Cert.BbarGradIdeal.Read in
/-- Result 4 of the reference is the same product. -/
theorem ref4_at (x0 x1 : FVec Ideal S8192x2048 .f32) (b : Fin 4) (i : Fin 512) (j : Fin 128) :
    val_main_v12 (F := Ideal) x0 x1 (ix3 b i j) = ∑ s : Fin 8192, term (x1 (ix2 s (wide b i))) (x0 (ix2 s (thin b j))) := by
  pointwise [val_main_v12, val_main_v11, val_main_v10, val_main_v1, val_main_v0]
  rfl

/-- The reference runs to its end and leaves nothing behind. -/
theorem frameR : Cert.quiescent_BbarGradIdeal := fun m ρ _ =>
  (θ_run Cert.BbarGradIdeal.defs _ _).mono (fun r h => ⟨fun c => (h c).2.2, sem_eq_zero_of_no_sems (by decide) r.2⟩)
    (Cert.BbarGradIdeal.Value.run (F := Ideal) m ρ)

/-- The kernel and the reference leave equal results. -/
theorem algebraic : Cert.algebraic_DwBbarIdeal_BbarGradIdeal := by
  intro m g m' g' _ hin
  refine ⟨_, _, Cert.DwBbarIdeal.Value.run_blocks m g, (θ_run _ _ _).mono (fun r h c => ?_) (Cert.BbarGradIdeal.Value.run m' g')⟩
  obtain ⟨h0, h1, hk⟩ := h c
  obtain ⟨a0, a1, a2⟩ := hin c
  refine ⟨?_, ?_, hk⟩
  · rw [h0, Cert.BbarGradIdeal.Read.val_main_v7_eq, fin3, a0, a1]
    refine funext fun i => ?_
    idx_vars i
    refine (ref3_at _ _ i0 i1 i2).trans ?_
    simp only [V_main_arg0, V_main_arg1]
  · rw [h1, Cert.BbarGradIdeal.Read.val_main_v12_eq, fin4, a0, a2]
    refine funext fun i => ?_
    idx_vars i
    refine (ref4_at _ _ i0 i1 i2).trans ?_
    simp only [V_main_arg0, V_main_arg2]

end Cert.Proof.DwBbar

end
-- ==== Proof.AdamStep.lean ====
module

public import Idealize.ShloMosaic.Lib.Claim
public import Idealize.ShloMosaic.Lib.Pointwise

@[expose] public section

noncomputable section

open Idealize.ShloMosaic

namespace Cert.AdamStep

/-- The running mean moves a tenth of the way to the gradient. -/
def newMean (g mu : EReal) : EReal := Ideal.ofBits .f32 0x3F666666#32 * mu + Ideal.ofBits .f32 0x3DCCCCCD#32 * g

/-- The running square moves a thousandth of the way to the gradient's square. -/
def newSquare (g v : EReal) : EReal := Ideal.ofBits .f32 0x3F7FBE77#32 * v + Ideal.ofBits .f32 0x3A83126F#32 * (g * g)

/-- The weight's change: the corrected mean over the root of the corrected square, and the decay. -/
def change (g w mu v : EReal) : EReal :=
  Ideal.ofBits .f32 0xBA83126F#32 * (Ideal.div (Ideal.div (newMean g mu) (Ideal.ofBits .f32 0x3F26BD02#32))
      (Ideal.sqrt (Ideal.div (newSquare g v) (Ideal.ofBits .f32 0x3C231ACC#32)) + Ideal.ofBits .f32 0x322BCC77#32)
    + Ideal.ofBits .f32 0x3C23D70A#32 * w)

end Cert.AdamStep

end
-- ==== Proof.AdamIn.lean ====
/- The optimiser's step on the even layer's input weight: the parts of the gradient that the eight devices made are added up, and the running mean
   and the running square move towards it; the weight's change follows from them. -/
module

public import proofs.«01_k».proof.Defs
public import proofs.«01_k».proof.Proof.Gen.AdamInRefIdeal.Run
public import proofs.«01_k».proof.Proof.Gen.AdamInRefIdeal.Read
public import proofs.«01_k».proof.Proof.Gen.AdamInIdeal.Value
public import proofs.«01_k».proof.Proof.AdamStep
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.AdamIn

open Cert.AdamInIdeal Cert.AdamInIdeal.Gen Cert.AdamInRefIdeal.Read Cert.AdamStep

variable (m : (ℓ : Loc nD τ sig) → Buf (Elt Ideal) ℓ)

/-- Grid point `t` reads and writes tile `t` of every operand. -/
theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- Row `r` of tile `t`, in the whole array. -/
def row (t : Fin cfg0.N) (r : Fin 128) : Fin 1024 := ⟨t.val * 128 + r.val, by have := lt_of_lt_of_eq t.isLt N_0; omega⟩

/-- The tile of the devices' parts, read in the whole array. -/
theorem rd0 (c : Dev nD) (t : Fin cfg0.N) (k : Fin 8) (r : Fin 128) (l : Fin 256) : iblk m c 0 t (ix3 k r l) = V m c main_arg0 (ix3 k (row t r) l) := by
  blk_ext [iblk, idx t, row]

/-- The tile of the weight, read in the whole array. -/
theorem rd1 (c : Dev nD) (t : Fin cfg0.N) (r : Fin 128) (l : Fin 256) : iblk m c 1 t (ix2 r l) = V m c main_arg1 (ix2 (row t r) l) := by
  blk_ext [iblk, idx t, row]

/-- The tile of the running mean, read in the whole array. -/
theorem rd2 (c : Dev nD) (t : Fin cfg0.N) (r : Fin 128) (l : Fin 256) : iblk m c 2 t (ix2 r l) = V m c main_arg2 (ix2 (row t r) l) := by
  blk_ext [iblk, idx t, row]

/-- The tile of the running square, read in the whole array. -/
theorem rd3 (c : Dev nD) (t : Fin cfg0.N) (r : Fin 128) (l : Fin 256) : iblk m c 3 t (ix2 r l) = V m c main_arg3 (ix2 (row t r) l) := by
  blk_ext [iblk, idx t, row]

/-- Entry `(r, l)` of the gradient that a grid point leaves. -/
theorem out4 (x0 : FVec Ideal S8x128x256 .bf16) (x1 x2 x3 : FVec Ideal S128x256 .f32) (r : Fin 128) (l : Fin 256) :
    out0_4 (F := Ideal) x0 x1 x2 x3 (ix2 r l) = ∑ k : Fin 8, x0 (ix3 k r l) := by
  rw [Fin.sum_univ_eight]
  frame_out
  pointwise [k0_pay1, k0_pay2, k0_pay3, k0_pay4, k0_pay5, change, newMean, newSquare]

/-- Entry `(r, l)` of the weight's change that a grid point leaves. -/
theorem out5 (x0 : FVec Ideal S8x128x256 .bf16) (x1 x2 x3 : FVec Ideal S128x256 .f32) (r : Fin 128) (l : Fin 256) :
    out0_5 (F := Ideal) x0 x1 x2 x3 (ix2 r l) = change (∑ k : Fin 8, x0 (ix3 k r l)) (x1 (ix2 r l)) (x2 (ix2 r l)) (x3 (ix2 r l)) := by
  rw [Fin.sum_univ_eight]
  unfold out0_5
  try unfold k0_pay5
  frame_out
  pointwise [k0_pay1, k0_pay2, k0_pay3, k0_pay4, k0_pay5, change, newMean, newSquare]

/-- Entry `(r, l)` of the new running mean that a grid point leaves. -/
theorem out6 (x0 : FVec Ideal S8x128x256 .bf16) (x1 x2 x3 : FVec Ideal S128x256 .f32) (r : Fin 128) (l : Fin 256) :
    out0_6 (F := Ideal) x0 x1 x2 x3 (ix2 r l) = newMean (∑ k : Fin 8, x0 (ix3 k r l)) (x2 (ix2 r l)) := by
  rw [Fin.sum_univ_eight]
  unfold out0_6
  try unfold k0_pay5
  frame_out
  pointwise [k0_pay1, k0_pay2, k0_pay3, k0_pay4, k0_pay5, change, newMean, newSquare]

/-- Entry `(r, l)` of the new running square that a grid point leaves. -/
theorem out7 (x0 : FVec Ideal S8x128x256 .bf16) (x1 x2 x3 : FVec Ideal S128x256 .f32) (r : Fin 128) (l : Fin 256) :
    out0_7 (F := Ideal) x0 x1 x2 x3 (ix2 r l) = newSquare (∑ k : Fin 8, x0 (ix3 k r l)) (x3 (ix2 r l)) := by
  rw [Fin.sum_univ_eight]
  unfold out0_7
  try unfold k0_pay5
  frame_out
  pointwise [k0_pay1, k0_pay2, k0_pay3, k0_pay4, k0_pay5, change, newMean, newSquare]

/-- Entry `(r, l)` of the gradient of the reference. -/
theorem ref4 (x0 : FVec Ideal S8x1024x256 .bf16) (r : Fin 1024) (l : Fin 256) :
    val_main_v1 (F := Ideal) x0 (ix2 r l) = ∑ k : Fin 8, x0 (ix3 k r l) := by
  pointwise [val_main_v25, val_main_v24, val_main_cst_8, val_main_v23, val_main_v22, val_main_v21, val_main_cst_7, val_main_v20, val_main_v19, val_main_v18, val_main_cst_6, val_main_v17, val_main_v16, val_main_v15, val_main_cst_5, val_main_v14, val_main_v13, val_main_cst_4, val_main_v12, val_main_v11, val_main_v10, val_main_cst_3, val_main_v9, val_main_v8, val_main_v7, val_main_cst_2, val_main_v6, val_main_v5, val_main_v4, val_main_cst_1, val_main_v3, val_main_v2, val_main_cst_0, val_main_v1, val_main_cst, val_main_v0, change, newMean, newSquare]

/-- Entry `(r, l)` of the weight's change of the reference. -/
theorem ref5 (x0 : FVec Ideal S8x1024x256 .bf16) (x1 : FVec Ideal S1024x256 .f32) (x2 : FVec Ideal S1024x256 .f32) (x3 : FVec Ideal S1024x256 .f32) (r : Fin 1024) (l : Fin 256) :
    val_main_v25 (F := Ideal) x0 x1 x2 x3 (ix2 r l) = change (∑ k : Fin 8, x0 (ix3 k r l)) (x1 (ix2 r l)) (x2 (ix2 r l)) (x3 (ix2 r l)) := by
  pointwise [val_main_v25, val_main_v24, val_main_cst_8, val_main_v23, val_main_v22, val_main_v21, val_main_cst_7, val_main_v20, val_main_v19, val_main_v18, val_main_cst_6, val_main_v17, val_main_v16, val_main_v15, val_main_cst_5, val_main_v14, val_main_v13, val_main_cst_4, val_main_v12, val_main_v11, val_main_v10, val_main_cst_3, val_main_v9, val_main_v8, val_main_v7, val_main_cst_2, val_main_v6, val_main_v5, val_main_v4, val_main_cst_1, val_main_v3, val_main_v2, val_main_cst_0, val_main_v1, val_main_cst, val_main_v0, change, newMean, newSquare]

/-- Entry `(r, l)` of the new running mean of the reference. -/
theorem ref6 (x0 : FVec Ideal S8x1024x256 .bf16) (x2 : FVec Ideal S1024x256 .f32) (r : Fin 1024) (l : Fin 256) :
    val_main_v6 (F := Ideal) x0 x2 (ix2 r l) = newMean (∑ k : Fin 8, x0 (ix3 k r l)) (x2 (ix2 r l)) := by
  pointwise [val_main_v25, val_main_v24, val_main_cst_8, val_main_v23, val_main_v22, val_main_v21, val_main_cst_7, val_main_v20, val_main_v19, val_main_v18, val_main_cst_6, val_main_v17, val_main_v16, val_main_v15, val_main_cst_5, val_main_v14, val_main_v13, val_main_cst_4, val_main_v12, val_main_v11, val_main_v10, val_main_cst_3, val_main_v9, val_main_v8, val_main_v7, val_main_cst_2, val_main_v6, val_main_v5, val_main_v4, val_main_cst_1, val_main_v3, val_main_v2, val_main_cst_0, val_main_v1, val_main_cst, val_main_v0, change, newMean, newSquare]

/-- Entry `(r, l)` of the new running square of the reference. -/
theorem ref7 (x0 : FVec Ideal S8x1024x256 .bf16) (x3 : FVec Ideal S1024x256 .f32) (r : Fin 1024) (l : Fin 256) :
    val_main_v12 (F := Ideal) x0 x3 (ix2 r l) = newSquare (∑ k : Fin 8, x0 (ix3 k r l)) (x3 (ix2 r l)) := by
  pointwise [val_main_v25, val_main_v24, val_main_cst_8, val_main_v23, val_main_v22, val_main_v21, val_main_cst_7, val_main_v20, val_main_v19, val_main_v18, val_main_cst_6, val_main_v17, val_main_v16, val_main_v15, val_main_cst_5, val_main_v14, val_main_v13, val_main_cst_4, val_main_v12, val_main_v11, val_main_v10, val_main_cst_3, val_main_v9, val_main_v8, val_main_v7, val_main_cst_2, val_main_v6, val_main_v5, val_main_v4, val_main_cst_1, val_main_v3, val_main_v2, val_main_cst_0, val_main_v1, val_main_cst, val_main_v0, change, newMean, newSquare]

/-- Where entry `(r, l)` of point `t`'s block of result 0 lies. -/
theorem emb4 (t : Fin cfg0.N) (r : Fin 128) (l : Fin 256) : ((View.whole main_v0_0).slice (win0_4.rect t)).emb (ix2 r l) = ix2 (row t r) l := by
  blk_ext [idx t, row]

/-- So the call leaves the gradient. -/
theorem fin4 (c : Dev nD) : (dats m 0 c).arrAt 4 (cfgs 0).N = val_main_v1 (F := Ideal) (V m c main_arg0) := by
  refine (dats m 0 c).arrAt_eq_of_covers 4 _ (by decide +kernel) fun t hf y => ?_
  blk_simp
  rw [after0_4]
  idx_vars y
  rw [emb4 t y0 y1]
  refine (out4 _ _ _ _ y0 y1).trans (Eq.trans ?_ (ref4 _ (row t y0) y1).symm)
  simp only [rd0]

/-- Where entry `(r, l)` of point `t`'s block of result 1 lies. -/
theorem emb5 (t : Fin cfg0.N) (r : Fin 128) (l : Fin 256) : ((View.whole main_v0_1).slice (win0_5.rect t)).emb (ix2 r l) = ix2 (row t r) l := by
  blk_ext [idx t, row]

/-- So the call leaves the weight's change. -/
theorem fin5 (c : Dev nD) : (dats m 0 c).arrAt 5 (cfgs 0).N = val_main_v25 (F := Ideal) (V m c main_arg0) (V m c main_arg1) (V m c main_arg2) (V m c main_arg3) := by
  refine (dats m 0 c).arrAt_eq_of_covers 5 _ (by decide +kernel) fun t hf y => ?_
  blk_simp
  rw [after0_5]
  idx_vars y
  rw [emb5 t y0 y1]
  refine (out5 _ _ _ _ y0 y1).trans (Eq.trans ?_ (ref5 _ _ _ _ (row t y0) y1).symm)
  simp only [rd0, rd1, rd2, rd3]

/-- Where entry `(r, l)` of point `t`'s block of result 2 lies. -/
theorem emb6 (t : Fin cfg0.N) (r : Fin 128) (l : Fin 256) : ((View.whole main_v0_2).slice (win0_6.rect t)).emb (ix2 r l) = ix2 (row t r) l := by
  blk_ext [idx t, row]

/-- So the call leaves the new running mean. -/
theorem fin6 (c : Dev nD) : (dats m 0 c).arrAt 6 (cfgs 0).N = val_main_v6 (F := Ideal) (V m c main_arg0) (V m c main_arg2) := by
  refine (dats m 0 c).arrAt_eq_of_covers 6 _ (by decide +kernel) fun t hf y => ?_
  blk_simp
  rw [after0_6]
  idx_vars y
  rw [emb6 t y0 y1]
  refine (out6 _ _ _ _ y0 y1).trans (Eq.trans ?_ (ref6 _ _ (row t y0) y1).symm)
  simp only [rd0, rd2]

/-- Where entry `(r, l)` of point `t`'s block of result 3 lies. -/
theorem emb7 (t : Fin cfg0.N) (r : Fin 128) (l : Fin 256) : ((View.whole main_v0_3).slice (win0_7.rect t)).emb (ix2 r l) = ix2 (row t r) l := by
  blk_ext [idx t, row]

/-- So the call leaves the new running square. -/
theorem fin7 (c : Dev nD) : (dats m 0 c).arrAt 7 (cfgs 0).N = val_main_v12 (F := Ideal) (V m c main_arg0) (V m c main_arg3) := by
  refine (dats m 0 c).arrAt_eq_of_covers 7 _ (by decide +kernel) fun t hf y => ?_
  blk_simp
  rw [after0_7]
  idx_vars y
  rw [emb7 t y0 y1]
  refine (out7 _ _ _ _ y0 y1).trans (Eq.trans ?_ (ref7 _ _ (row t y0) y1).symm)
  simp only [rd0, rd3]

/-- The reference runs to its end and leaves nothing behind. -/
theorem frameR : Cert.quiescent_AdamInRefIdeal := fun m ρ _ =>
  (θ_run Cert.AdamInRefIdeal.defs _ _).mono (fun r h => ⟨fun c => (h c).2.2.2.2, sem_eq_zero_of_no_sems (by decide) r.2⟩)
    (Cert.AdamInRefIdeal.Value.run (F := Ideal) m ρ)

/-- The call and the reference leave equal results. -/
theorem algebraic : Cert.algebraic_AdamInIdeal_AdamInRefIdeal := by
  intro m g m' g' _ hin
  refine ⟨_, _, _, _, Cert.AdamInIdeal.Value.run_blocks m g, (θ_run _ _ _).mono (fun r h c => ?_) (Cert.AdamInRefIdeal.Value.run m' g')⟩
  obtain ⟨h0, h1, h2, h3, hk⟩ := h c
  obtain ⟨a0, a1, a2, a3⟩ := hin c
  refine ⟨?_, ?_, ?_, ?_, hk⟩
  · have e : val_main_v1 (F := Ideal) (m' ((c.tc : Thread nD τ).loc Cert.AdamInRefIdeal.main_arg0)) = val_main_v1 (F := Ideal) (V m c main_arg0) := by
      rw [V_main_arg0, a0]
    refine (h0.trans ?_).trans (e.trans (fin4 m c).symm)
    exact val_main_v1_eq ..
  · have e : val_main_v25 (F := Ideal) (m' ((c.tc : Thread nD τ).loc Cert.AdamInRefIdeal.main_arg0)) (m' ((c.tc : Thread nD τ).loc Cert.AdamInRefIdeal.main_arg1)) (m' ((c.tc : Thread nD τ).loc Cert.AdamInRefIdeal.main_arg2)) (m' ((c.tc : Thread nD τ).loc Cert.AdamInRefIdeal.main_arg3)) = val_main_v25 (F := Ideal) (V m c main_arg0) (V m c main_arg1) (V m c main_arg2) (V m c main_arg3) := by
      rw [V_main_arg0, V_main_arg1, V_main_arg2, V_main_arg3, a0, a1, a2, a3]
    refine (h1.trans ?_).trans (e.trans (fin5 m c).symm)
    exact val_main_v25_eq ..
  · have e : val_main_v6 (F := Ideal) (m' ((c.tc : Thread nD τ).loc Cert.AdamInRefIdeal.main_arg0)) (m' ((c.tc : Thread nD τ).loc Cert.AdamInRefIdeal.main_arg2)) = val_main_v6 (F := Ideal) (V m c main_arg0) (V m c main_arg2) := by
      rw [V_main_arg0, V_main_arg2, a0, a2]
    refine (h2.trans ?_).trans (e.trans (fin6 m c).symm)
    exact val_main_v6_eq ..
  · have e : val_main_v12 (F := Ideal) (m' ((c.tc : Thread nD τ).loc Cert.AdamInRefIdeal.main_arg0)) (m' ((c.tc : Thread nD τ).loc Cert.AdamInRefIdeal.main_arg3)) = val_main_v12 (F := Ideal) (V m c main_arg0) (V m c main_arg3) := by
      rw [V_main_arg0, V_main_arg3, a0, a3]
    refine (h3.trans ?_).trans (e.trans (fin7 m c).symm)
    exact val_main_v12_eq ..

end Cert.Proof.AdamIn

end
-- ==== Proof.AdamGlu.lean ====
/- The optimiser's step on the weight of the gated linear unit: the parts of the gradient that the eight devices made are added up, and the running mean
   and the running square move towards it; the weight's change follows from them. -/
module

public import proofs.«01_k».proof.Defs
public import proofs.«01_k».proof.Proof.Gen.AdamGluRefIdeal.Run
public import proofs.«01_k».proof.Proof.Gen.AdamGluRefIdeal.Read
public import proofs.«01_k».proof.Proof.Gen.AdamGluIdeal.Value
public import proofs.«01_k».proof.Proof.AdamStep
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.AdamGlu

open Cert.AdamGluIdeal Cert.AdamGluIdeal.Gen Cert.AdamGluRefIdeal.Read Cert.AdamStep

variable (m : (ℓ : Loc nD τ sig) → Buf (Elt Ideal) ℓ)

/-- Grid point `t` reads and writes tile `t` of every operand. -/
theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- Row `r` of tile `t`, in the whole array. -/
def row (t : Fin cfg0.N) (r : Fin 128) : Fin 512 := ⟨t.val * 128 + r.val, by have := lt_of_lt_of_eq t.isLt N_0; omega⟩

/-- The tile of the devices' parts, read in the whole array. -/
theorem rd0 (c : Dev nD) (t : Fin cfg0.N) (k : Fin 8) (r : Fin 128) (l : Fin 128) : iblk m c 0 t (ix3 k r l) = V m c main_arg0 (ix3 k (row t r) l) := by
  blk_ext [iblk, idx t, row]

/-- The tile of the weight, read in the whole array. -/
theorem rd1 (c : Dev nD) (t : Fin cfg0.N) (r : Fin 128) (l : Fin 128) : iblk m c 1 t (ix2 r l) = V m c main_arg1 (ix2 (row t r) l) := by
  blk_ext [iblk, idx t, row]

/-- The tile of the running mean, read in the whole array. -/
theorem rd2 (c : Dev nD) (t : Fin cfg0.N) (r : Fin 128) (l : Fin 128) : iblk m c 2 t (ix2 r l) = V m c main_arg2 (ix2 (row t r) l) := by
  blk_ext [iblk, idx t, row]

/-- The tile of the running square, read in the whole array. -/
theorem rd3 (c : Dev nD) (t : Fin cfg0.N) (r : Fin 128) (l : Fin 128) : iblk m c 3 t (ix2 r l) = V m c main_arg3 (ix2 (row t r) l) := by
  blk_ext [iblk, idx t, row]

/-- Entry `(r, l)` of the gradient that a grid point leaves. -/
theorem out4 (x0 : FVec Ideal S8x128x128 .bf16) (x1 x2 x3 : FVec Ideal S128x128 .f32) (r : Fin 128) (l : Fin 128) :
    out0_4 (F := Ideal) x0 x1 x2 x3 (ix2 r l) = ∑ k : Fin 8, x0 (ix3 k r l) := by
  rw [Fin.sum_univ_eight]
  frame_out
  pointwise [k0_pay1, k0_pay2, k0_pay3, k0_pay4, k0_pay5, change, newMean, newSquare]

/-- Entry `(r, l)` of the weight's change that a grid point leaves. -/
theorem out5 (x0 : FVec Ideal S8x128x128 .bf16) (x1 x2 x3 : FVec Ideal S128x128 .f32) (r : Fin 128) (l : Fin 128) :
    out0_5 (F := Ideal) x0 x1 x2 x3 (ix2 r l) = change (∑ k : Fin 8, x0 (ix3 k r l)) (x1 (ix2 r l)) (x2 (ix2 r l)) (x3 (ix2 r l)) := by
  rw [Fin.sum_univ_eight]
  unfold out0_5
  try unfold k0_pay5
  frame_out
  pointwise [k0_pay1, k0_pay2, k0_pay3, k0_pay4, k0_pay5, change, newMean, newSquare]

/-- Entry `(r, l)` of the new running mean that a grid point leaves. -/
theorem out6 (x0 : FVec Ideal S8x128x128 .bf16) (x1 x2 x3 : FVec Ideal S128x128 .f32) (r : Fin 128) (l : Fin 128) :
    out0_6 (F := Ideal) x0 x1 x2 x3 (ix2 r l) = newMean (∑ k : Fin 8, x0 (ix3 k r l)) (x2 (ix2 r l)) := by
  rw [Fin.sum_univ_eight]
  unfold out0_6
  try unfold k0_pay5
  frame_out
  pointwise [k0_pay1, k0_pay2, k0_pay3, k0_pay4, k0_pay5, change, newMean, newSquare]

/-- Entry `(r, l)` of the new running square that a grid point leaves. -/
theorem out7 (x0 : FVec Ideal S8x128x128 .bf16) (x1 x2 x3 : FVec Ideal S128x128 .f32) (r : Fin 128) (l : Fin 128) :
    out0_7 (F := Ideal) x0 x1 x2 x3 (ix2 r l) = newSquare (∑ k : Fin 8, x0 (ix3 k r l)) (x3 (ix2 r l)) := by
  rw [Fin.sum_univ_eight]
  unfold out0_7
  try unfold k0_pay5
  frame_out
  pointwise [k0_pay1, k0_pay2, k0_pay3, k0_pay4, k0_pay5, change, newMean, newSquare]

/-- Entry `(r, l)` of the gradient of the reference. -/
theorem ref4 (x0 : FVec Ideal S8x512x128 .bf16) (r : Fin 512) (l : Fin 128) :
    val_main_v1 (F := Ideal) x0 (ix2 r l) = ∑ k : Fin 8, x0 (ix3 k r l) := by
  pointwise [val_main_v25, val_main_v24, val_main_cst_8, val_main_v23, val_main_v22, val_main_v21, val_main_cst_7, val_main_v20, val_main_v19, val_main_v18, val_main_cst_6, val_main_v17, val_main_v16, val_main_v15, val_main_cst_5, val_main_v14, val_main_v13, val_main_cst_4, val_main_v12, val_main_v11, val_main_v10, val_main_cst_3, val_main_v9, val_main_v8, val_main_v7, val_main_cst_2, val_main_v6, val_main_v5, val_main_v4, val_main_cst_1, val_main_v3, val_main_v2, val_main_cst_0, val_main_v1, val_main_cst, val_main_v0, change, newMean, newSquare]

/-- Entry `(r, l)` of the weight's change of the reference. -/
theorem ref5 (x0 : FVec Ideal S8x512x128 .bf16) (x1 : FVec Ideal S512x128 .f32) (x2 : FVec Ideal S512x128 .f32) (x3 : FVec Ideal S512x128 .f32) (r : Fin 512) (l : Fin 128) :
    val_main_v25 (F := Ideal) x0 x1 x2 x3 (ix2 r l) = change (∑ k : Fin 8, x0 (ix3 k r l)) (x1 (ix2 r l)) (x2 (ix2 r l)) (x3 (ix2 r l)) := by
  pointwise [val_main_v25, val_main_v24, val_main_cst_8, val_main_v23, val_main_v22, val_main_v21, val_main_cst_7, val_main_v20, val_main_v19, val_main_v18, val_main_cst_6, val_main_v17, val_main_v16, val_main_v15, val_main_cst_5, val_main_v14, val_main_v13, val_main_cst_4, val_main_v12, val_main_v11, val_main_v10, val_main_cst_3, val_main_v9, val_main_v8, val_main_v7, val_main_cst_2, val_main_v6, val_main_v5, val_main_v4, val_main_cst_1, val_main_v3, val_main_v2, val_main_cst_0, val_main_v1, val_main_cst, val_main_v0, change, newMean, newSquare]

/-- Entry `(r, l)` of the new running mean of the reference. -/
theorem ref6 (x0 : FVec Ideal S8x512x128 .bf16) (x2 : FVec Ideal S512x128 .f32) (r : Fin 512) (l : Fin 128) :
    val_main_v6 (F := Ideal) x0 x2 (ix2 r l) = newMean (∑ k : Fin 8, x0 (ix3 k r l)) (x2 (ix2 r l)) := by
  pointwise [val_main_v25, val_main_v24, val_main_cst_8, val_main_v23, val_main_v22, val_main_v21, val_main_cst_7, val_main_v20, val_main_v19, val_main_v18, val_main_cst_6, val_main_v17, val_main_v16, val_main_v15, val_main_cst_5, val_main_v14, val_main_v13, val_main_cst_4, val_main_v12, val_main_v11, val_main_v10, val_main_cst_3, val_main_v9, val_main_v8, val_main_v7, val_main_cst_2, val_main_v6, val_main_v5, val_main_v4, val_main_cst_1, val_main_v3, val_main_v2, val_main_cst_0, val_main_v1, val_main_cst, val_main_v0, change, newMean, newSquare]

/-- Entry `(r, l)` of the new running square of the reference. -/
theorem ref7 (x0 : FVec Ideal S8x512x128 .bf16) (x3 : FVec Ideal S512x128 .f32) (r : Fin 512) (l : Fin 128) :
    val_main_v12 (F := Ideal) x0 x3 (ix2 r l) = newSquare (∑ k : Fin 8, x0 (ix3 k r l)) (x3 (ix2 r l)) := by
  pointwise [val_main_v25, val_main_v24, val_main_cst_8, val_main_v23, val_main_v22, val_main_v21, val_main_cst_7, val_main_v20, val_main_v19, val_main_v18, val_main_cst_6, val_main_v17, val_main_v16, val_main_v15, val_main_cst_5, val_main_v14, val_main_v13, val_main_cst_4, val_main_v12, val_main_v11, val_main_v10, val_main_cst_3, val_main_v9, val_main_v8, val_main_v7, val_main_cst_2, val_main_v6, val_main_v5, val_main_v4, val_main_cst_1, val_main_v3, val_main_v2, val_main_cst_0, val_main_v1, val_main_cst, val_main_v0, change, newMean, newSquare]

/-- Where entry `(r, l)` of point `t`'s block of result 0 lies. -/
theorem emb4 (t : Fin cfg0.N) (r : Fin 128) (l : Fin 128) : ((View.whole main_v0_0).slice (win0_4.rect t)).emb (ix2 r l) = ix2 (row t r) l := by
  blk_ext [idx t, row]

/-- So the call leaves the gradient. -/
theorem fin4 (c : Dev nD) : (dats m 0 c).arrAt 4 (cfgs 0).N = val_main_v1 (F := Ideal) (V m c main_arg0) := by
  refine (dats m 0 c).arrAt_eq_of_covers 4 _ (by decide +kernel) fun t hf y => ?_
  blk_simp
  rw [after0_4]
  idx_vars y
  rw [emb4 t y0 y1]
  refine (out4 _ _ _ _ y0 y1).trans (Eq.trans ?_ (ref4 _ (row t y0) y1).symm)
  simp only [rd0]

/-- Where entry `(r, l)` of point `t`'s block of result 1 lies. -/
theorem emb5 (t : Fin cfg0.N) (r : Fin 128) (l : Fin 128) : ((View.whole main_v0_1).slice (win0_5.rect t)).emb (ix2 r l) = ix2 (row t r) l := by
  blk_ext [idx t, row]

/-- So the call leaves the weight's change. -/
theorem fin5 (c : Dev nD) : (dats m 0 c).arrAt 5 (cfgs 0).N = val_main_v25 (F := Ideal) (V m c main_arg0) (V m c main_arg1) (V m c main_arg2) (V m c main_arg3) := by
  refine (dats m 0 c).arrAt_eq_of_covers 5 _ (by decide +kernel) fun t hf y => ?_
  blk_simp
  rw [after0_5]
  idx_vars y
  rw [emb5 t y0 y1]
  refine (out5 _ _ _ _ y0 y1).trans (Eq.trans ?_ (ref5 _ _ _ _ (row t y0) y1).symm)
  simp only [rd0, rd1, rd2, rd3]

/-- Where entry `(r, l)` of point `t`'s block of result 2 lies. -/
theorem emb6 (t : Fin cfg0.N) (r : Fin 128) (l : Fin 128) : ((View.whole main_v0_2).slice (win0_6.rect t)).emb (ix2 r l) = ix2 (row t r) l := by
  blk_ext [idx t, row]

/-- So the call leaves the new running mean. -/
theorem fin6 (c : Dev nD) : (dats m 0 c).arrAt 6 (cfgs 0).N = val_main_v6 (F := Ideal) (V m c main_arg0) (V m c main_arg2) := by
  refine (dats m 0 c).arrAt_eq_of_covers 6 _ (by decide +kernel) fun t hf y => ?_
  blk_simp
  rw [after0_6]
  idx_vars y
  rw [emb6 t y0 y1]
  refine (out6 _ _ _ _ y0 y1).trans (Eq.trans ?_ (ref6 _ _ (row t y0) y1).symm)
  simp only [rd0, rd2]

/-- Where entry `(r, l)` of point `t`'s block of result 3 lies. -/
theorem emb7 (t : Fin cfg0.N) (r : Fin 128) (l : Fin 128) : ((View.whole main_v0_3).slice (win0_7.rect t)).emb (ix2 r l) = ix2 (row t r) l := by
  blk_ext [idx t, row]

/-- So the call leaves the new running square. -/
theorem fin7 (c : Dev nD) : (dats m 0 c).arrAt 7 (cfgs 0).N = val_main_v12 (F := Ideal) (V m c main_arg0) (V m c main_arg3) := by
  refine (dats m 0 c).arrAt_eq_of_covers 7 _ (by decide +kernel) fun t hf y => ?_
  blk_simp
  rw [after0_7]
  idx_vars y
  rw [emb7 t y0 y1]
  refine (out7 _ _ _ _ y0 y1).trans (Eq.trans ?_ (ref7 _ _ (row t y0) y1).symm)
  simp only [rd0, rd3]

/-- The reference runs to its end and leaves nothing behind. -/
theorem frameR : Cert.quiescent_AdamGluRefIdeal := fun m ρ _ =>
  (θ_run Cert.AdamGluRefIdeal.defs _ _).mono (fun r h => ⟨fun c => (h c).2.2.2.2, sem_eq_zero_of_no_sems (by decide) r.2⟩)
    (Cert.AdamGluRefIdeal.Value.run (F := Ideal) m ρ)

/-- The call and the reference leave equal results. -/
theorem algebraic : Cert.algebraic_AdamGluIdeal_AdamGluRefIdeal := by
  intro m g m' g' _ hin
  refine ⟨_, _, _, _, Cert.AdamGluIdeal.Value.run_blocks m g, (θ_run _ _ _).mono (fun r h c => ?_) (Cert.AdamGluRefIdeal.Value.run m' g')⟩
  obtain ⟨h0, h1, h2, h3, hk⟩ := h c
  obtain ⟨a0, a1, a2, a3⟩ := hin c
  refine ⟨?_, ?_, ?_, ?_, hk⟩
  · have e : val_main_v1 (F := Ideal) (m' ((c.tc : Thread nD τ).loc Cert.AdamGluRefIdeal.main_arg0)) = val_main_v1 (F := Ideal) (V m c main_arg0) := by
      rw [V_main_arg0, a0]
    refine (h0.trans ?_).trans (e.trans (fin4 m c).symm)
    exact val_main_v1_eq ..
  · have e : val_main_v25 (F := Ideal) (m' ((c.tc : Thread nD τ).loc Cert.AdamGluRefIdeal.main_arg0)) (m' ((c.tc : Thread nD τ).loc Cert.AdamGluRefIdeal.main_arg1)) (m' ((c.tc : Thread nD τ).loc Cert.AdamGluRefIdeal.main_arg2)) (m' ((c.tc : Thread nD τ).loc Cert.AdamGluRefIdeal.main_arg3)) = val_main_v25 (F := Ideal) (V m c main_arg0) (V m c main_arg1) (V m c main_arg2) (V m c main_arg3) := by
      rw [V_main_arg0, V_main_arg1, V_main_arg2, V_main_arg3, a0, a1, a2, a3]
    refine (h1.trans ?_).trans (e.trans (fin5 m c).symm)
    exact val_main_v25_eq ..
  · have e : val_main_v6 (F := Ideal) (m' ((c.tc : Thread nD τ).loc Cert.AdamGluRefIdeal.main_arg0)) (m' ((c.tc : Thread nD τ).loc Cert.AdamGluRefIdeal.main_arg2)) = val_main_v6 (F := Ideal) (V m c main_arg0) (V m c main_arg2) := by
      rw [V_main_arg0, V_main_arg2, a0, a2]
    refine (h2.trans ?_).trans (e.trans (fin6 m c).symm)
    exact val_main_v6_eq ..
  · have e : val_main_v12 (F := Ideal) (m' ((c.tc : Thread nD τ).loc Cert.AdamGluRefIdeal.main_arg0)) (m' ((c.tc : Thread nD τ).loc Cert.AdamGluRefIdeal.main_arg3)) = val_main_v12 (F := Ideal) (V m c main_arg0) (V m c main_arg3) := by
      rw [V_main_arg0, V_main_arg3, a0, a3]
    refine (h3.trans ?_).trans (e.trans (fin7 m c).symm)
    exact val_main_v12_eq ..

end Cert.Proof.AdamGlu

end
-- ==== Proof.AdamOut.lean ====
/- The optimiser's step on an output weight: the parts of the gradient that the eight devices made are added up, and the running mean
   and the running square move towards it; the weight's change follows from them. -/
module

public import proofs.«01_k».proof.Defs
public import proofs.«01_k».proof.Proof.Gen.AdamOutRefIdeal.Run
public import proofs.«01_k».proof.Proof.Gen.AdamOutRefIdeal.Read
public import proofs.«01_k».proof.Proof.Gen.AdamOutIdeal.Value
public import proofs.«01_k».proof.Proof.AdamStep
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.AdamOut

open Cert.AdamOutIdeal Cert.AdamOutIdeal.Gen Cert.AdamOutRefIdeal.Read Cert.AdamStep

variable (m : (ℓ : Loc nD τ sig) → Buf (Elt Ideal) ℓ)

/-- Grid point `t` reads and writes tile `t` of every operand. -/
theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- Row `r` of tile `t`, in the whole array. -/
def row (t : Fin cfg0.N) (r : Fin 128) : Fin 128 := ⟨t.val * 128 + r.val, by have := lt_of_lt_of_eq t.isLt N_0; omega⟩

/-- The tile of the devices' parts, read in the whole array. -/
theorem rd0 (c : Dev nD) (t : Fin cfg0.N) (k : Fin 8) (r : Fin 128) (l : Fin 1024) : iblk m c 0 t (ix3 k r l) = V m c main_arg0 (ix3 k (row t r) l) := by
  blk_ext [iblk, idx t, row]

/-- The tile of the weight, read in the whole array. -/
theorem rd1 (c : Dev nD) (t : Fin cfg0.N) (r : Fin 128) (l : Fin 1024) : iblk m c 1 t (ix2 r l) = V m c main_arg1 (ix2 (row t r) l) := by
  blk_ext [iblk, idx t, row]

/-- The tile of the running mean, read in the whole array. -/
theorem rd2 (c : Dev nD) (t : Fin cfg0.N) (r : Fin 128) (l : Fin 1024) : iblk m c 2 t (ix2 r l) = V m c main_arg2 (ix2 (row t r) l) := by
  blk_ext [iblk, idx t, row]

/-- The tile of the running square, read in the whole array. -/
theorem rd3 (c : Dev nD) (t : Fin cfg0.N) (r : Fin 128) (l : Fin 1024) : iblk m c 3 t (ix2 r l) = V m c main_arg3 (ix2 (row t r) l) := by
  blk_ext [iblk, idx t, row]

/-- Entry `(r, l)` of the gradient that a grid point leaves. -/
theorem out4 (x0 : FVec Ideal S8x128x1024 .bf16) (x1 x2 x3 : FVec Ideal S128x1024 .f32) (r : Fin 128) (l : Fin 1024) :
    out0_4 (F := Ideal) x0 x1 x2 x3 (ix2 r l) = ∑ k : Fin 8, x0 (ix3 k r l) := by
  rw [Fin.sum_univ_eight]
  frame_out
  pointwise [k0_pay1, k0_pay2, k0_pay3, k0_pay4, k0_pay5, change, newMean, newSquare]

/-- Entry `(r, l)` of the weight's change that a grid point leaves. -/
theorem out5 (x0 : FVec Ideal S8x128x1024 .bf16) (x1 x2 x3 : FVec Ideal S128x1024 .f32) (r : Fin 128) (l : Fin 1024) :
    out0_5 (F := Ideal) x0 x1 x2 x3 (ix2 r l) = change (∑ k : Fin 8, x0 (ix3 k r l)) (x1 (ix2 r l)) (x2 (ix2 r l)) (x3 (ix2 r l)) := by
  rw [Fin.sum_univ_eight]
  unfold out0_5
  try unfold k0_pay5
  frame_out
  pointwise [k0_pay1, k0_pay2, k0_pay3, k0_pay4, k0_pay5, change, newMean, newSquare]

/-- Entry `(r, l)` of the new running mean that a grid point leaves. -/
theorem out6 (x0 : FVec Ideal S8x128x1024 .bf16) (x1 x2 x3 : FVec Ideal S128x1024 .f32) (r : Fin 128) (l : Fin 1024) :
    out0_6 (F := Ideal) x0 x1 x2 x3 (ix2 r l) = newMean (∑ k : Fin 8, x0 (ix3 k r l)) (x2 (ix2 r l)) := by
  rw [Fin.sum_univ_eight]
  unfold out0_6
  try unfold k0_pay5
  frame_out
  pointwise [k0_pay1, k0_pay2, k0_pay3, k0_pay4, k0_pay5, change, newMean, newSquare]

/-- Entry `(r, l)` of the new running square that a grid point leaves. -/
theorem out7 (x0 : FVec Ideal S8x128x1024 .bf16) (x1 x2 x3 : FVec Ideal S128x1024 .f32) (r : Fin 128) (l : Fin 1024) :
    out0_7 (F := Ideal) x0 x1 x2 x3 (ix2 r l) = newSquare (∑ k : Fin 8, x0 (ix3 k r l)) (x3 (ix2 r l)) := by
  rw [Fin.sum_univ_eight]
  unfold out0_7
  try unfold k0_pay5
  frame_out
  pointwise [k0_pay1, k0_pay2, k0_pay3, k0_pay4, k0_pay5, change, newMean, newSquare]

/-- Entry `(r, l)` of the gradient of the reference. -/
theorem ref4 (x0 : FVec Ideal S8x128x1024 .bf16) (r : Fin 128) (l : Fin 1024) :
    val_main_v1 (F := Ideal) x0 (ix2 r l) = ∑ k : Fin 8, x0 (ix3 k r l) := by
  pointwise [val_main_v25, val_main_v24, val_main_cst_8, val_main_v23, val_main_v22, val_main_v21, val_main_cst_7, val_main_v20, val_main_v19, val_main_v18, val_main_cst_6, val_main_v17, val_main_v16, val_main_v15, val_main_cst_5, val_main_v14, val_main_v13, val_main_cst_4, val_main_v12, val_main_v11, val_main_v10, val_main_cst_3, val_main_v9, val_main_v8, val_main_v7, val_main_cst_2, val_main_v6, val_main_v5, val_main_v4, val_main_cst_1, val_main_v3, val_main_v2, val_main_cst_0, val_main_v1, val_main_cst, val_main_v0, change, newMean, newSquare]

/-- Entry `(r, l)` of the weight's change of the reference. -/
theorem ref5 (x0 : FVec Ideal S8x128x1024 .bf16) (x1 : FVec Ideal S128x1024 .f32) (x2 : FVec Ideal S128x1024 .f32) (x3 : FVec Ideal S128x1024 .f32) (r : Fin 128) (l : Fin 1024) :
    val_main_v25 (F := Ideal) x0 x1 x2 x3 (ix2 r l) = change (∑ k : Fin 8, x0 (ix3 k r l)) (x1 (ix2 r l)) (x2 (ix2 r l)) (x3 (ix2 r l)) := by
  pointwise [val_main_v25, val_main_v24, val_main_cst_8, val_main_v23, val_main_v22, val_main_v21, val_main_cst_7, val_main_v20, val_main_v19, val_main_v18, val_main_cst_6, val_main_v17, val_main_v16, val_main_v15, val_main_cst_5, val_main_v14, val_main_v13, val_main_cst_4, val_main_v12, val_main_v11, val_main_v10, val_main_cst_3, val_main_v9, val_main_v8, val_main_v7, val_main_cst_2, val_main_v6, val_main_v5, val_main_v4, val_main_cst_1, val_main_v3, val_main_v2, val_main_cst_0, val_main_v1, val_main_cst, val_main_v0, change, newMean, newSquare]

/-- Entry `(r, l)` of the new running mean of the reference. -/
theorem ref6 (x0 : FVec Ideal S8x128x1024 .bf16) (x2 : FVec Ideal S128x1024 .f32) (r : Fin 128) (l : Fin 1024) :
    val_main_v6 (F := Ideal) x0 x2 (ix2 r l) = newMean (∑ k : Fin 8, x0 (ix3 k r l)) (x2 (ix2 r l)) := by
  pointwise [val_main_v25, val_main_v24, val_main_cst_8, val_main_v23, val_main_v22, val_main_v21, val_main_cst_7, val_main_v20, val_main_v19, val_main_v18, val_main_cst_6, val_main_v17, val_main_v16, val_main_v15, val_main_cst_5, val_main_v14, val_main_v13, val_main_cst_4, val_main_v12, val_main_v11, val_main_v10, val_main_cst_3, val_main_v9, val_main_v8, val_main_v7, val_main_cst_2, val_main_v6, val_main_v5, val_main_v4, val_main_cst_1, val_main_v3, val_main_v2, val_main_cst_0, val_main_v1, val_main_cst, val_main_v0, change, newMean, newSquare]

/-- Entry `(r, l)` of the new running square of the reference. -/
theorem ref7 (x0 : FVec Ideal S8x128x1024 .bf16) (x3 : FVec Ideal S128x1024 .f32) (r : Fin 128) (l : Fin 1024) :
    val_main_v12 (F := Ideal) x0 x3 (ix2 r l) = newSquare (∑ k : Fin 8, x0 (ix3 k r l)) (x3 (ix2 r l)) := by
  pointwise [val_main_v25, val_main_v24, val_main_cst_8, val_main_v23, val_main_v22, val_main_v21, val_main_cst_7, val_main_v20, val_main_v19, val_main_v18, val_main_cst_6, val_main_v17, val_main_v16, val_main_v15, val_main_cst_5, val_main_v14, val_main_v13, val_main_cst_4, val_main_v12, val_main_v11, val_main_v10, val_main_cst_3, val_main_v9, val_main_v8, val_main_v7, val_main_cst_2, val_main_v6, val_main_v5, val_main_v4, val_main_cst_1, val_main_v3, val_main_v2, val_main_cst_0, val_main_v1, val_main_cst, val_main_v0, change, newMean, newSquare]

/-- Where entry `(r, l)` of point `t`'s block of result 0 lies. -/
theorem emb4 (t : Fin cfg0.N) (r : Fin 128) (l : Fin 1024) : ((View.whole main_v0_0).slice (win0_4.rect t)).emb (ix2 r l) = ix2 (row t r) l := by
  blk_ext [idx t, row]

/-- So the call leaves the gradient. -/
theorem fin4 (c : Dev nD) : (dats m 0 c).arrAt 4 (cfgs 0).N = val_main_v1 (F := Ideal) (V m c main_arg0) := by
  refine (dats m 0 c).arrAt_eq_of_covers 4 _ (by decide +kernel) fun t hf y => ?_
  blk_simp
  rw [after0_4]
  idx_vars y
  rw [emb4 t y0 y1]
  refine (out4 _ _ _ _ y0 y1).trans (Eq.trans ?_ (ref4 _ (row t y0) y1).symm)
  simp only [rd0]

/-- Where entry `(r, l)` of point `t`'s block of result 1 lies. -/
theorem emb5 (t : Fin cfg0.N) (r : Fin 128) (l : Fin 1024) : ((View.whole main_v0_1).slice (win0_5.rect t)).emb (ix2 r l) = ix2 (row t r) l := by
  blk_ext [idx t, row]

/-- So the call leaves the weight's change. -/
theorem fin5 (c : Dev nD) : (dats m 0 c).arrAt 5 (cfgs 0).N = val_main_v25 (F := Ideal) (V m c main_arg0) (V m c main_arg1) (V m c main_arg2) (V m c main_arg3) := by
  refine (dats m 0 c).arrAt_eq_of_covers 5 _ (by decide +kernel) fun t hf y => ?_
  blk_simp
  rw [after0_5]
  idx_vars y
  rw [emb5 t y0 y1]
  refine (out5 _ _ _ _ y0 y1).trans (Eq.trans ?_ (ref5 _ _ _ _ (row t y0) y1).symm)
  simp only [rd0, rd1, rd2, rd3]

/-- Where entry `(r, l)` of point `t`'s block of result 2 lies. -/
theorem emb6 (t : Fin cfg0.N) (r : Fin 128) (l : Fin 1024) : ((View.whole main_v0_2).slice (win0_6.rect t)).emb (ix2 r l) = ix2 (row t r) l := by
  blk_ext [idx t, row]

/-- So the call leaves the new running mean. -/
theorem fin6 (c : Dev nD) : (dats m 0 c).arrAt 6 (cfgs 0).N = val_main_v6 (F := Ideal) (V m c main_arg0) (V m c main_arg2) := by
  refine (dats m 0 c).arrAt_eq_of_covers 6 _ (by decide +kernel) fun t hf y => ?_
  blk_simp
  rw [after0_6]
  idx_vars y
  rw [emb6 t y0 y1]
  refine (out6 _ _ _ _ y0 y1).trans (Eq.trans ?_ (ref6 _ _ (row t y0) y1).symm)
  simp only [rd0, rd2]

/-- Where entry `(r, l)` of point `t`'s block of result 3 lies. -/
theorem emb7 (t : Fin cfg0.N) (r : Fin 128) (l : Fin 1024) : ((View.whole main_v0_3).slice (win0_7.rect t)).emb (ix2 r l) = ix2 (row t r) l := by
  blk_ext [idx t, row]

/-- So the call leaves the new running square. -/
theorem fin7 (c : Dev nD) : (dats m 0 c).arrAt 7 (cfgs 0).N = val_main_v12 (F := Ideal) (V m c main_arg0) (V m c main_arg3) := by
  refine (dats m 0 c).arrAt_eq_of_covers 7 _ (by decide +kernel) fun t hf y => ?_
  blk_simp
  rw [after0_7]
  idx_vars y
  rw [emb7 t y0 y1]
  refine (out7 _ _ _ _ y0 y1).trans (Eq.trans ?_ (ref7 _ _ (row t y0) y1).symm)
  simp only [rd0, rd3]

/-- The reference runs to its end and leaves nothing behind. -/
theorem frameR : Cert.quiescent_AdamOutRefIdeal := fun m ρ _ =>
  (θ_run Cert.AdamOutRefIdeal.defs _ _).mono (fun r h => ⟨fun c => (h c).2.2.2.2, sem_eq_zero_of_no_sems (by decide) r.2⟩)
    (Cert.AdamOutRefIdeal.Value.run (F := Ideal) m ρ)

/-- The call and the reference leave equal results. -/
theorem algebraic : Cert.algebraic_AdamOutIdeal_AdamOutRefIdeal := by
  intro m g m' g' _ hin
  refine ⟨_, _, _, _, Cert.AdamOutIdeal.Value.run_blocks m g, (θ_run _ _ _).mono (fun r h c => ?_) (Cert.AdamOutRefIdeal.Value.run m' g')⟩
  obtain ⟨h0, h1, h2, h3, hk⟩ := h c
  obtain ⟨a0, a1, a2, a3⟩ := hin c
  refine ⟨?_, ?_, ?_, ?_, hk⟩
  · have e : val_main_v1 (F := Ideal) (m' ((c.tc : Thread nD τ).loc Cert.AdamOutRefIdeal.main_arg0)) = val_main_v1 (F := Ideal) (V m c main_arg0) := by
      rw [V_main_arg0, a0]
    refine (h0.trans ?_).trans (e.trans (fin4 m c).symm)
    exact val_main_v1_eq ..
  · have e : val_main_v25 (F := Ideal) (m' ((c.tc : Thread nD τ).loc Cert.AdamOutRefIdeal.main_arg0)) (m' ((c.tc : Thread nD τ).loc Cert.AdamOutRefIdeal.main_arg1)) (m' ((c.tc : Thread nD τ).loc Cert.AdamOutRefIdeal.main_arg2)) (m' ((c.tc : Thread nD τ).loc Cert.AdamOutRefIdeal.main_arg3)) = val_main_v25 (F := Ideal) (V m c main_arg0) (V m c main_arg1) (V m c main_arg2) (V m c main_arg3) := by
      rw [V_main_arg0, V_main_arg1, V_main_arg2, V_main_arg3, a0, a1, a2, a3]
    refine (h1.trans ?_).trans (e.trans (fin5 m c).symm)
    exact val_main_v25_eq ..
  · have e : val_main_v6 (F := Ideal) (m' ((c.tc : Thread nD τ).loc Cert.AdamOutRefIdeal.main_arg0)) (m' ((c.tc : Thread nD τ).loc Cert.AdamOutRefIdeal.main_arg2)) = val_main_v6 (F := Ideal) (V m c main_arg0) (V m c main_arg2) := by
      rw [V_main_arg0, V_main_arg2, a0, a2]
    refine (h2.trans ?_).trans (e.trans (fin6 m c).symm)
    exact val_main_v6_eq ..
  · have e : val_main_v12 (F := Ideal) (m' ((c.tc : Thread nD τ).loc Cert.AdamOutRefIdeal.main_arg0)) (m' ((c.tc : Thread nD τ).loc Cert.AdamOutRefIdeal.main_arg3)) = val_main_v12 (F := Ideal) (V m c main_arg0) (V m c main_arg3) := by
      rw [V_main_arg0, V_main_arg3, a0, a3]
    refine (h3.trans ?_).trans (e.trans (fin7 m c).symm)
    exact val_main_v12_eq ..

end Cert.Proof.AdamOut

end
-- ==== Proof.AdamOddIn.lean ====
/- The optimiser's step on the odd layer's input weight: the parts of the gradient that the eight devices made are added up, and the running mean
   and the running square move towards it; the weight's change follows from them. -/
module

public import proofs.«01_k».proof.Defs
public import proofs.«01_k».proof.Proof.Gen.AdamOddInRefIdeal.Run
public import proofs.«01_k».proof.Proof.Gen.AdamOddInRefIdeal.Read
public import proofs.«01_k».proof.Proof.Gen.AdamOddInIdeal.Value
public import proofs.«01_k».proof.Proof.AdamStep
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.AdamOddIn

open Cert.AdamOddInIdeal Cert.AdamOddInIdeal.Gen Cert.AdamOddInRefIdeal.Read Cert.AdamStep

variable (m : (ℓ : Loc nD τ sig) → Buf (Elt Ideal) ℓ)

/-- Grid point `t` reads and writes tile `t` of every operand. -/
theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- Row `r` of tile `t`, in the whole array. -/
def row (t : Fin cfg0.N) (r : Fin 128) : Fin 1024 := ⟨t.val * 128 + r.val, by have := lt_of_lt_of_eq t.isLt N_0; omega⟩

/-- The tile of the devices' parts, read in the whole array. -/
theorem rd0 (c : Dev nD) (t : Fin cfg0.N) (k : Fin 8) (r : Fin 128) (l : Fin 384) : iblk m c 0 t (ix3 k r l) = V m c main_arg0 (ix3 k (row t r) l) := by
  blk_ext [iblk, idx t, row]

/-- The tile of the weight, read in the whole array. -/
theorem rd1 (c : Dev nD) (t : Fin cfg0.N) (r : Fin 128) (l : Fin 384) : iblk m c 1 t (ix2 r l) = V m c main_arg1 (ix2 (row t r) l) := by
  blk_ext [iblk, idx t, row]

/-- The tile of the running mean, read in the whole array. -/
theorem rd2 (c : Dev nD) (t : Fin cfg0.N) (r : Fin 128) (l : Fin 384) : iblk m c 2 t (ix2 r l) = V m c main_arg2 (ix2 (row t r) l) := by
  blk_ext [iblk, idx t, row]

/-- The tile of the running square, read in the whole array. -/
theorem rd3 (c : Dev nD) (t : Fin cfg0.N) (r : Fin 128) (l : Fin 384) : iblk m c 3 t (ix2 r l) = V m c main_arg3 (ix2 (row t r) l) := by
  blk_ext [iblk, idx t, row]

/-- Entry `(r, l)` of the gradient that a grid point leaves. -/
theorem out4 (x0 : FVec Ideal S8x128x384 .bf16) (x1 x2 x3 : FVec Ideal S128x384 .f32) (r : Fin 128) (l : Fin 384) :
    out0_4 (F := Ideal) x0 x1 x2 x3 (ix2 r l) = ∑ k : Fin 8, x0 (ix3 k r l) := by
  rw [Fin.sum_univ_eight]
  frame_out
  pointwise [k0_pay1, k0_pay2, k0_pay3, k0_pay4, k0_pay5, change, newMean, newSquare]

/-- Entry `(r, l)` of the weight's change that a grid point leaves. -/
theorem out5 (x0 : FVec Ideal S8x128x384 .bf16) (x1 x2 x3 : FVec Ideal S128x384 .f32) (r : Fin 128) (l : Fin 384) :
    out0_5 (F := Ideal) x0 x1 x2 x3 (ix2 r l) = change (∑ k : Fin 8, x0 (ix3 k r l)) (x1 (ix2 r l)) (x2 (ix2 r l)) (x3 (ix2 r l)) := by
  rw [Fin.sum_univ_eight]
  unfold out0_5
  try unfold k0_pay5
  frame_out
  pointwise [k0_pay1, k0_pay2, k0_pay3, k0_pay4, k0_pay5, change, newMean, newSquare]

/-- Entry `(r, l)` of the new running mean that a grid point leaves. -/
theorem out6 (x0 : FVec Ideal S8x128x384 .bf16) (x1 x2 x3 : FVec Ideal S128x384 .f32) (r : Fin 128) (l : Fin 384) :
    out0_6 (F := Ideal) x0 x1 x2 x3 (ix2 r l) = newMean (∑ k : Fin 8, x0 (ix3 k r l)) (x2 (ix2 r l)) := by
  rw [Fin.sum_univ_eight]
  unfold out0_6
  try unfold k0_pay5
  frame_out
  pointwise [k0_pay1, k0_pay2, k0_pay3, k0_pay4, k0_pay5, change, newMean, newSquare]

/-- Entry `(r, l)` of the new running square that a grid point leaves. -/
theorem out7 (x0 : FVec Ideal S8x128x384 .bf16) (x1 x2 x3 : FVec Ideal S128x384 .f32) (r : Fin 128) (l : Fin 384) :
    out0_7 (F := Ideal) x0 x1 x2 x3 (ix2 r l) = newSquare (∑ k : Fin 8, x0 (ix3 k r l)) (x3 (ix2 r l)) := by
  rw [Fin.sum_univ_eight]
  unfold out0_7
  try unfold k0_pay5
  frame_out
  pointwise [k0_pay1, k0_pay2, k0_pay3, k0_pay4, k0_pay5, change, newMean, newSquare]

/-- Entry `(r, l)` of the gradient of the reference. -/
theorem ref4 (x0 : FVec Ideal S8x1024x384 .bf16) (r : Fin 1024) (l : Fin 384) :
    val_main_v1 (F := Ideal) x0 (ix2 r l) = ∑ k : Fin 8, x0 (ix3 k r l) := by
  pointwise [val_main_v25, val_main_v24, val_main_cst_8, val_main_v23, val_main_v22, val_main_v21, val_main_cst_7, val_main_v20, val_main_v19, val_main_v18, val_main_cst_6, val_main_v17, val_main_v16, val_main_v15, val_main_cst_5, val_main_v14, val_main_v13, val_main_cst_4, val_main_v12, val_main_v11, val_main_v10, val_main_cst_3, val_main_v9, val_main_v8, val_main_v7, val_main_cst_2, val_main_v6, val_main_v5, val_main_v4, val_main_cst_1, val_main_v3, val_main_v2, val_main_cst_0, val_main_v1, val_main_cst, val_main_v0, change, newMean, newSquare]

/-- Entry `(r, l)` of the weight's change of the reference. -/
theorem ref5 (x0 : FVec Ideal S8x1024x384 .bf16) (x1 : FVec Ideal S1024x384 .f32) (x2 : FVec Ideal S1024x384 .f32) (x3 : FVec Ideal S1024x384 .f32) (r : Fin 1024) (l : Fin 384) :
    val_main_v25 (F := Ideal) x0 x1 x2 x3 (ix2 r l) = change (∑ k : Fin 8, x0 (ix3 k r l)) (x1 (ix2 r l)) (x2 (ix2 r l)) (x3 (ix2 r l)) := by
  pointwise [val_main_v25, val_main_v24, val_main_cst_8, val_main_v23, val_main_v22, val_main_v21, val_main_cst_7, val_main_v20, val_main_v19, val_main_v18, val_main_cst_6, val_main_v17, val_main_v16, val_main_v15, val_main_cst_5, val_main_v14, val_main_v13, val_main_cst_4, val_main_v12, val_main_v11, val_main_v10, val_main_cst_3, val_main_v9, val_main_v8, val_main_v7, val_main_cst_2, val_main_v6, val_main_v5, val_main_v4, val_main_cst_1, val_main_v3, val_main_v2, val_main_cst_0, val_main_v1, val_main_cst, val_main_v0, change, newMean, newSquare]

/-- Entry `(r, l)` of the new running mean of the reference. -/
theorem ref6 (x0 : FVec Ideal S8x1024x384 .bf16) (x2 : FVec Ideal S1024x384 .f32) (r : Fin 1024) (l : Fin 384) :
    val_main_v6 (F := Ideal) x0 x2 (ix2 r l) = newMean (∑ k : Fin 8, x0 (ix3 k r l)) (x2 (ix2 r l)) := by
  pointwise [val_main_v25, val_main_v24, val_main_cst_8, val_main_v23, val_main_v22, val_main_v21, val_main_cst_7, val_main_v20, val_main_v19, val_main_v18, val_main_cst_6, val_main_v17, val_main_v16, val_main_v15, val_main_cst_5, val_main_v14, val_main_v13, val_main_cst_4, val_main_v12, val_main_v11, val_main_v10, val_main_cst_3, val_main_v9, val_main_v8, val_main_v7, val_main_cst_2, val_main_v6, val_main_v5, val_main_v4, val_main_cst_1, val_main_v3, val_main_v2, val_main_cst_0, val_main_v1, val_main_cst, val_main_v0, change, newMean, newSquare]

/-- Entry `(r, l)` of the new running square of the reference. -/
theorem ref7 (x0 : FVec Ideal S8x1024x384 .bf16) (x3 : FVec Ideal S1024x384 .f32) (r : Fin 1024) (l : Fin 384) :
    val_main_v12 (F := Ideal) x0 x3 (ix2 r l) = newSquare (∑ k : Fin 8, x0 (ix3 k r l)) (x3 (ix2 r l)) := by
  pointwise [val_main_v25, val_main_v24, val_main_cst_8, val_main_v23, val_main_v22, val_main_v21, val_main_cst_7, val_main_v20, val_main_v19, val_main_v18, val_main_cst_6, val_main_v17, val_main_v16, val_main_v15, val_main_cst_5, val_main_v14, val_main_v13, val_main_cst_4, val_main_v12, val_main_v11, val_main_v10, val_main_cst_3, val_main_v9, val_main_v8, val_main_v7, val_main_cst_2, val_main_v6, val_main_v5, val_main_v4, val_main_cst_1, val_main_v3, val_main_v2, val_main_cst_0, val_main_v1, val_main_cst, val_main_v0, change, newMean, newSquare]

/-- Where entry `(r, l)` of point `t`'s block of result 0 lies. -/
theorem emb4 (t : Fin cfg0.N) (r : Fin 128) (l : Fin 384) : ((View.whole main_v0_0).slice (win0_4.rect t)).emb (ix2 r l) = ix2 (row t r) l := by
  blk_ext [idx t, row]

/-- So the call leaves the gradient. -/
theorem fin4 (c : Dev nD) : (dats m 0 c).arrAt 4 (cfgs 0).N = val_main_v1 (F := Ideal) (V m c main_arg0) := by
  refine (dats m 0 c).arrAt_eq_of_covers 4 _ (by decide +kernel) fun t hf y => ?_
  blk_simp
  rw [after0_4]
  idx_vars y
  rw [emb4 t y0 y1]
  refine (out4 _ _ _ _ y0 y1).trans (Eq.trans ?_ (ref4 _ (row t y0) y1).symm)
  simp only [rd0]

/-- Where entry `(r, l)` of point `t`'s block of result 1 lies. -/
theorem emb5 (t : Fin cfg0.N) (r : Fin 128) (l : Fin 384) : ((View.whole main_v0_1).slice (win0_5.rect t)).emb (ix2 r l) = ix2 (row t r) l := by
  blk_ext [idx t, row]

/-- So the call leaves the weight's change. -/
theorem fin5 (c : Dev nD) : (dats m 0 c).arrAt 5 (cfgs 0).N = val_main_v25 (F := Ideal) (V m c main_arg0) (V m c main_arg1) (V m c main_arg2) (V m c main_arg3) := by
  refine (dats m 0 c).arrAt_eq_of_covers 5 _ (by decide +kernel) fun t hf y => ?_
  blk_simp
  rw [after0_5]
  idx_vars y
  rw [emb5 t y0 y1]
  refine (out5 _ _ _ _ y0 y1).trans (Eq.trans ?_ (ref5 _ _ _ _ (row t y0) y1).symm)
  simp only [rd0, rd1, rd2, rd3]

/-- Where entry `(r, l)` of point `t`'s block of result 2 lies. -/
theorem emb6 (t : Fin cfg0.N) (r : Fin 128) (l : Fin 384) : ((View.whole main_v0_2).slice (win0_6.rect t)).emb (ix2 r l) = ix2 (row t r) l := by
  blk_ext [idx t, row]

/-- So the call leaves the new running mean. -/
theorem fin6 (c : Dev nD) : (dats m 0 c).arrAt 6 (cfgs 0).N = val_main_v6 (F := Ideal) (V m c main_arg0) (V m c main_arg2) := by
  refine (dats m 0 c).arrAt_eq_of_covers 6 _ (by decide +kernel) fun t hf y => ?_
  blk_simp
  rw [after0_6]
  idx_vars y
  rw [emb6 t y0 y1]
  refine (out6 _ _ _ _ y0 y1).trans (Eq.trans ?_ (ref6 _ _ (row t y0) y1).symm)
  simp only [rd0, rd2]

/-- Where entry `(r, l)` of point `t`'s block of result 3 lies. -/
theorem emb7 (t : Fin cfg0.N) (r : Fin 128) (l : Fin 384) : ((View.whole main_v0_3).slice (win0_7.rect t)).emb (ix2 r l) = ix2 (row t r) l := by
  blk_ext [idx t, row]

/-- So the call leaves the new running square. -/
theorem fin7 (c : Dev nD) : (dats m 0 c).arrAt 7 (cfgs 0).N = val_main_v12 (F := Ideal) (V m c main_arg0) (V m c main_arg3) := by
  refine (dats m 0 c).arrAt_eq_of_covers 7 _ (by decide +kernel) fun t hf y => ?_
  blk_simp
  rw [after0_7]
  idx_vars y
  rw [emb7 t y0 y1]
  refine (out7 _ _ _ _ y0 y1).trans (Eq.trans ?_ (ref7 _ _ (row t y0) y1).symm)
  simp only [rd0, rd3]

/-- The reference runs to its end and leaves nothing behind. -/
theorem frameR : Cert.quiescent_AdamOddInRefIdeal := fun m ρ _ =>
  (θ_run Cert.AdamOddInRefIdeal.defs _ _).mono (fun r h => ⟨fun c => (h c).2.2.2.2, sem_eq_zero_of_no_sems (by decide) r.2⟩)
    (Cert.AdamOddInRefIdeal.Value.run (F := Ideal) m ρ)

/-- The call and the reference leave equal results. -/
theorem algebraic : Cert.algebraic_AdamOddInIdeal_AdamOddInRefIdeal := by
  intro m g m' g' _ hin
  refine ⟨_, _, _, _, Cert.AdamOddInIdeal.Value.run_blocks m g, (θ_run _ _ _).mono (fun r h c => ?_) (Cert.AdamOddInRefIdeal.Value.run m' g')⟩
  obtain ⟨h0, h1, h2, h3, hk⟩ := h c
  obtain ⟨a0, a1, a2, a3⟩ := hin c
  refine ⟨?_, ?_, ?_, ?_, hk⟩
  · have e : val_main_v1 (F := Ideal) (m' ((c.tc : Thread nD τ).loc Cert.AdamOddInRefIdeal.main_arg0)) = val_main_v1 (F := Ideal) (V m c main_arg0) := by
      rw [V_main_arg0, a0]
    refine (h0.trans ?_).trans (e.trans (fin4 m c).symm)
    exact val_main_v1_eq ..
  · have e : val_main_v25 (F := Ideal) (m' ((c.tc : Thread nD τ).loc Cert.AdamOddInRefIdeal.main_arg0)) (m' ((c.tc : Thread nD τ).loc Cert.AdamOddInRefIdeal.main_arg1)) (m' ((c.tc : Thread nD τ).loc Cert.AdamOddInRefIdeal.main_arg2)) (m' ((c.tc : Thread nD τ).loc Cert.AdamOddInRefIdeal.main_arg3)) = val_main_v25 (F := Ideal) (V m c main_arg0) (V m c main_arg1) (V m c main_arg2) (V m c main_arg3) := by
      rw [V_main_arg0, V_main_arg1, V_main_arg2, V_main_arg3, a0, a1, a2, a3]
    refine (h1.trans ?_).trans (e.trans (fin5 m c).symm)
    exact val_main_v25_eq ..
  · have e : val_main_v6 (F := Ideal) (m' ((c.tc : Thread nD τ).loc Cert.AdamOddInRefIdeal.main_arg0)) (m' ((c.tc : Thread nD τ).loc Cert.AdamOddInRefIdeal.main_arg2)) = val_main_v6 (F := Ideal) (V m c main_arg0) (V m c main_arg2) := by
      rw [V_main_arg0, V_main_arg2, a0, a2]
    refine (h2.trans ?_).trans (e.trans (fin6 m c).symm)
    exact val_main_v6_eq ..
  · have e : val_main_v12 (F := Ideal) (m' ((c.tc : Thread nD τ).loc Cert.AdamOddInRefIdeal.main_arg0)) (m' ((c.tc : Thread nD τ).loc Cert.AdamOddInRefIdeal.main_arg3)) = val_main_v12 (F := Ideal) (V m c main_arg0) (V m c main_arg3) := by
      rw [V_main_arg0, V_main_arg3, a0, a3]
    refine (h3.trans ?_).trans (e.trans (fin7 m c).symm)
    exact val_main_v12_eq ..

end Cert.Proof.AdamOddIn

end
-- ==== Proof.AdamSmall.lean ====
/- The optimiser's step on the small weights of the odd layer: the parts of the gradient that the eight devices made are added up, and the running mean
   and the running square move towards it; the weight's change follows from them. -/
module

public import proofs.«01_k».proof.Defs
public import proofs.«01_k».proof.Proof.Gen.AdamSmallRefIdeal.Run
public import proofs.«01_k».proof.Proof.Gen.AdamSmallRefIdeal.Read
public import proofs.«01_k».proof.Proof.Gen.AdamSmallIdeal.Value
public import proofs.«01_k».proof.Proof.AdamStep
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.AdamSmall

open Cert.AdamSmallIdeal Cert.AdamSmallIdeal.Gen Cert.AdamSmallRefIdeal.Read Cert.AdamStep

variable (m : (ℓ : Loc nD τ sig) → Buf (Elt Ideal) ℓ)

/-- Grid point `t` reads and writes tile `t` of every operand. -/
theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- Row `r` of tile `t`, in the whole array. -/
def row (t : Fin cfg0.N) (r : Fin 64) : Fin 64 := ⟨t.val * 64 + r.val, by have := lt_of_lt_of_eq t.isLt N_0; omega⟩

/-- The tile of the devices' parts, read in the whole array. -/
theorem rd0 (c : Dev nD) (t : Fin cfg0.N) (k : Fin 8) (r : Fin 64) (l : Fin 128) : iblk m c 0 t (ix3 k r l) = V m c main_arg0 (ix3 k (row t r) l) := by
  blk_ext [iblk, idx t, row]

/-- The tile of the weight, read in the whole array. -/
theorem rd1 (c : Dev nD) (t : Fin cfg0.N) (r : Fin 64) (l : Fin 128) : iblk m c 1 t (ix2 r l) = V m c main_arg1 (ix2 (row t r) l) := by
  blk_ext [iblk, idx t, row]

/-- The tile of the running mean, read in the whole array. -/
theorem rd2 (c : Dev nD) (t : Fin cfg0.N) (r : Fin 64) (l : Fin 128) : iblk m c 2 t (ix2 r l) = V m c main_arg2 (ix2 (row t r) l) := by
  blk_ext [iblk, idx t, row]

/-- The tile of the running square, read in the whole array. -/
theorem rd3 (c : Dev nD) (t : Fin cfg0.N) (r : Fin 64) (l : Fin 128) : iblk m c 3 t (ix2 r l) = V m c main_arg3 (ix2 (row t r) l) := by
  blk_ext [iblk, idx t, row]

/-- Entry `(r, l)` of the gradient that a grid point leaves. -/
theorem out4 (x0 : FVec Ideal S8x64x128 .f32) (x1 x2 x3 : FVec Ideal S64x128 .f32) (r : Fin 64) (l : Fin 128) :
    out0_4 (F := Ideal) x0 x1 x2 x3 (ix2 r l) = ∑ k : Fin 8, x0 (ix3 k r l) := by
  rw [Fin.sum_univ_eight]
  frame_out
  pointwise [k0_pay1, k0_pay2, k0_pay3, k0_pay4, k0_pay5, k0_pay6, k0_pay7, k0_pay8, k0_pay9, change, newMean, newSquare]

/-- Entry `(r, l)` of the weight's change that a grid point leaves. -/
theorem out5 (x0 : FVec Ideal S8x64x128 .f32) (x1 x2 x3 : FVec Ideal S64x128 .f32) (r : Fin 64) (l : Fin 128) :
    out0_5 (F := Ideal) x0 x1 x2 x3 (ix2 r l) = change (∑ k : Fin 8, x0 (ix3 k r l)) (x1 (ix2 r l)) (x2 (ix2 r l)) (x3 (ix2 r l)) := by
  rw [Fin.sum_univ_eight]
  unfold out0_5
  try unfold k0_pay7
  try unfold k0_pay8
  try unfold k0_pay9
  frame_out
  pointwise [k0_pay1, k0_pay2, k0_pay3, k0_pay4, k0_pay5, k0_pay6, k0_pay7, k0_pay8, k0_pay9, change, newMean, newSquare]

/-- Entry `(r, l)` of the new running mean that a grid point leaves. -/
theorem out6 (x0 : FVec Ideal S8x64x128 .f32) (x1 x2 x3 : FVec Ideal S64x128 .f32) (r : Fin 64) (l : Fin 128) :
    out0_6 (F := Ideal) x0 x1 x2 x3 (ix2 r l) = newMean (∑ k : Fin 8, x0 (ix3 k r l)) (x2 (ix2 r l)) := by
  rw [Fin.sum_univ_eight]
  unfold out0_6
  try unfold k0_pay7
  try unfold k0_pay8
  try unfold k0_pay9
  frame_out
  pointwise [k0_pay1, k0_pay2, k0_pay3, k0_pay4, k0_pay5, k0_pay6, k0_pay7, k0_pay8, k0_pay9, change, newMean, newSquare]

/-- Entry `(r, l)` of the new running square that a grid point leaves. -/
theorem out7 (x0 : FVec Ideal S8x64x128 .f32) (x1 x2 x3 : FVec Ideal S64x128 .f32) (r : Fin 64) (l : Fin 128) :
    out0_7 (F := Ideal) x0 x1 x2 x3 (ix2 r l) = newSquare (∑ k : Fin 8, x0 (ix3 k r l)) (x3 (ix2 r l)) := by
  rw [Fin.sum_univ_eight]
  unfold out0_7
  try unfold k0_pay7
  try unfold k0_pay8
  try unfold k0_pay9
  frame_out
  pointwise [k0_pay1, k0_pay2, k0_pay3, k0_pay4, k0_pay5, k0_pay6, k0_pay7, k0_pay8, k0_pay9, change, newMean, newSquare]

/-- Entry `(r, l)` of the gradient of the reference. -/
theorem ref4 (x0 : FVec Ideal S8x64x128 .f32) (r : Fin 64) (l : Fin 128) :
    val_main_v0 (F := Ideal) x0 (ix2 r l) = ∑ k : Fin 8, x0 (ix3 k r l) := by
  pointwise [val_main_v24, val_main_v23, val_main_cst_8, val_main_v22, val_main_v21, val_main_v20, val_main_cst_7, val_main_v19, val_main_v18, val_main_v17, val_main_cst_6, val_main_v16, val_main_v15, val_main_v14, val_main_cst_5, val_main_v13, val_main_v12, val_main_cst_4, val_main_v11, val_main_v10, val_main_v9, val_main_cst_3, val_main_v8, val_main_v7, val_main_v6, val_main_cst_2, val_main_v5, val_main_v4, val_main_v3, val_main_cst_1, val_main_v2, val_main_v1, val_main_cst_0, val_main_v0, val_main_cst, change, newMean, newSquare]

/-- Entry `(r, l)` of the weight's change of the reference. -/
theorem ref5 (x0 : FVec Ideal S8x64x128 .f32) (x1 : FVec Ideal S64x128 .f32) (x2 : FVec Ideal S64x128 .f32) (x3 : FVec Ideal S64x128 .f32) (r : Fin 64) (l : Fin 128) :
    val_main_v24 (F := Ideal) x0 x1 x2 x3 (ix2 r l) = change (∑ k : Fin 8, x0 (ix3 k r l)) (x1 (ix2 r l)) (x2 (ix2 r l)) (x3 (ix2 r l)) := by
  pointwise [val_main_v24, val_main_v23, val_main_cst_8, val_main_v22, val_main_v21, val_main_v20, val_main_cst_7, val_main_v19, val_main_v18, val_main_v17, val_main_cst_6, val_main_v16, val_main_v15, val_main_v14, val_main_cst_5, val_main_v13, val_main_v12, val_main_cst_4, val_main_v11, val_main_v10, val_main_v9, val_main_cst_3, val_main_v8, val_main_v7, val_main_v6, val_main_cst_2, val_main_v5, val_main_v4, val_main_v3, val_main_cst_1, val_main_v2, val_main_v1, val_main_cst_0, val_main_v0, val_main_cst, change, newMean, newSquare]

/-- Entry `(r, l)` of the new running mean of the reference. -/
theorem ref6 (x0 : FVec Ideal S8x64x128 .f32) (x2 : FVec Ideal S64x128 .f32) (r : Fin 64) (l : Fin 128) :
    val_main_v5 (F := Ideal) x0 x2 (ix2 r l) = newMean (∑ k : Fin 8, x0 (ix3 k r l)) (x2 (ix2 r l)) := by
  pointwise [val_main_v24, val_main_v23, val_main_cst_8, val_main_v22, val_main_v21, val_main_v20, val_main_cst_7, val_main_v19, val_main_v18, val_main_v17, val_main_cst_6, val_main_v16, val_main_v15, val_main_v14, val_main_cst_5, val_main_v13, val_main_v12, val_main_cst_4, val_main_v11, val_main_v10, val_main_v9, val_main_cst_3, val_main_v8, val_main_v7, val_main_v6, val_main_cst_2, val_main_v5, val_main_v4, val_main_v3, val_main_cst_1, val_main_v2, val_main_v1, val_main_cst_0, val_main_v0, val_main_cst, change, newMean, newSquare]

/-- Entry `(r, l)` of the new running square of the reference. -/
theorem ref7 (x0 : FVec Ideal S8x64x128 .f32) (x3 : FVec Ideal S64x128 .f32) (r : Fin 64) (l : Fin 128) :
    val_main_v11 (F := Ideal) x0 x3 (ix2 r l) = newSquare (∑ k : Fin 8, x0 (ix3 k r l)) (x3 (ix2 r l)) := by
  pointwise [val_main_v24, val_main_v23, val_main_cst_8, val_main_v22, val_main_v21, val_main_v20, val_main_cst_7, val_main_v19, val_main_v18, val_main_v17, val_main_cst_6, val_main_v16, val_main_v15, val_main_v14, val_main_cst_5, val_main_v13, val_main_v12, val_main_cst_4, val_main_v11, val_main_v10, val_main_v9, val_main_cst_3, val_main_v8, val_main_v7, val_main_v6, val_main_cst_2, val_main_v5, val_main_v4, val_main_v3, val_main_cst_1, val_main_v2, val_main_v1, val_main_cst_0, val_main_v0, val_main_cst, change, newMean, newSquare]

/-- Where entry `(r, l)` of point `t`'s block of result 0 lies. -/
theorem emb4 (t : Fin cfg0.N) (r : Fin 64) (l : Fin 128) : ((View.whole main_v0_0).slice (win0_4.rect t)).emb (ix2 r l) = ix2 (row t r) l := by
  blk_ext [idx t, row]

/-- So the call leaves the gradient. -/
theorem fin4 (c : Dev nD) : (dats m 0 c).arrAt 4 (cfgs 0).N = val_main_v0 (F := Ideal) (V m c main_arg0) := by
  refine (dats m 0 c).arrAt_eq_of_covers 4 _ (by decide +kernel) fun t hf y => ?_
  blk_simp
  rw [after0_4]
  idx_vars y
  rw [emb4 t y0 y1]
  refine (out4 _ _ _ _ y0 y1).trans (Eq.trans ?_ (ref4 _ (row t y0) y1).symm)
  simp only [rd0]

/-- Where entry `(r, l)` of point `t`'s block of result 1 lies. -/
theorem emb5 (t : Fin cfg0.N) (r : Fin 64) (l : Fin 128) : ((View.whole main_v0_1).slice (win0_5.rect t)).emb (ix2 r l) = ix2 (row t r) l := by
  blk_ext [idx t, row]

/-- So the call leaves the weight's change. -/
theorem fin5 (c : Dev nD) : (dats m 0 c).arrAt 5 (cfgs 0).N = val_main_v24 (F := Ideal) (V m c main_arg0) (V m c main_arg1) (V m c main_arg2) (V m c main_arg3) := by
  refine (dats m 0 c).arrAt_eq_of_covers 5 _ (by decide +kernel) fun t hf y => ?_
  blk_simp
  rw [after0_5]
  idx_vars y
  rw [emb5 t y0 y1]
  refine (out5 _ _ _ _ y0 y1).trans (Eq.trans ?_ (ref5 _ _ _ _ (row t y0) y1).symm)
  simp only [rd0, rd1, rd2, rd3]

/-- Where entry `(r, l)` of point `t`'s block of result 2 lies. -/
theorem emb6 (t : Fin cfg0.N) (r : Fin 64) (l : Fin 128) : ((View.whole main_v0_2).slice (win0_6.rect t)).emb (ix2 r l) = ix2 (row t r) l := by
  blk_ext [idx t, row]

/-- So the call leaves the new running mean. -/
theorem fin6 (c : Dev nD) : (dats m 0 c).arrAt 6 (cfgs 0).N = val_main_v5 (F := Ideal) (V m c main_arg0) (V m c main_arg2) := by
  refine (dats m 0 c).arrAt_eq_of_covers 6 _ (by decide +kernel) fun t hf y => ?_
  blk_simp
  rw [after0_6]
  idx_vars y
  rw [emb6 t y0 y1]
  refine (out6 _ _ _ _ y0 y1).trans (Eq.trans ?_ (ref6 _ _ (row t y0) y1).symm)
  simp only [rd0, rd2]

/-- Where entry `(r, l)` of point `t`'s block of result 3 lies. -/
theorem emb7 (t : Fin cfg0.N) (r : Fin 64) (l : Fin 128) : ((View.whole main_v0_3).slice (win0_7.rect t)).emb (ix2 r l) = ix2 (row t r) l := by
  blk_ext [idx t, row]

/-- So the call leaves the new running square. -/
theorem fin7 (c : Dev nD) : (dats m 0 c).arrAt 7 (cfgs 0).N = val_main_v11 (F := Ideal) (V m c main_arg0) (V m c main_arg3) := by
  refine (dats m 0 c).arrAt_eq_of_covers 7 _ (by decide +kernel) fun t hf y => ?_
  blk_simp
  rw [after0_7]
  idx_vars y
  rw [emb7 t y0 y1]
  refine (out7 _ _ _ _ y0 y1).trans (Eq.trans ?_ (ref7 _ _ (row t y0) y1).symm)
  simp only [rd0, rd3]

/-- The reference runs to its end and leaves nothing behind. -/
theorem frameR : Cert.quiescent_AdamSmallRefIdeal := fun m ρ _ =>
  (θ_run Cert.AdamSmallRefIdeal.defs _ _).mono (fun r h => ⟨fun c => (h c).2.2.2.2, sem_eq_zero_of_no_sems (by decide) r.2⟩)
    (Cert.AdamSmallRefIdeal.Value.run (F := Ideal) m ρ)

/-- The call and the reference leave equal results. -/
theorem algebraic : Cert.algebraic_AdamSmallIdeal_AdamSmallRefIdeal := by
  intro m g m' g' _ hin
  refine ⟨_, _, _, _, Cert.AdamSmallIdeal.Value.run_blocks m g, (θ_run _ _ _).mono (fun r h c => ?_) (Cert.AdamSmallRefIdeal.Value.run m' g')⟩
  obtain ⟨h0, h1, h2, h3, hk⟩ := h c
  obtain ⟨a0, a1, a2, a3⟩ := hin c
  refine ⟨?_, ?_, ?_, ?_, hk⟩
  · have e : val_main_v0 (F := Ideal) (m' ((c.tc : Thread nD τ).loc Cert.AdamSmallRefIdeal.main_arg0)) = val_main_v0 (F := Ideal) (V m c main_arg0) := by
      rw [V_main_arg0, a0]
    refine (h0.trans ?_).trans (e.trans (fin4 m c).symm)
    exact val_main_v0_eq ..
  · have e : val_main_v24 (F := Ideal) (m' ((c.tc : Thread nD τ).loc Cert.AdamSmallRefIdeal.main_arg0)) (m' ((c.tc : Thread nD τ).loc Cert.AdamSmallRefIdeal.main_arg1)) (m' ((c.tc : Thread nD τ).loc Cert.AdamSmallRefIdeal.main_arg2)) (m' ((c.tc : Thread nD τ).loc Cert.AdamSmallRefIdeal.main_arg3)) = val_main_v24 (F := Ideal) (V m c main_arg0) (V m c main_arg1) (V m c main_arg2) (V m c main_arg3) := by
      rw [V_main_arg0, V_main_arg1, V_main_arg2, V_main_arg3, a0, a1, a2, a3]
    refine (h1.trans ?_).trans (e.trans (fin5 m c).symm)
    exact val_main_v24_eq ..
  · have e : val_main_v5 (F := Ideal) (m' ((c.tc : Thread nD τ).loc Cert.AdamSmallRefIdeal.main_arg0)) (m' ((c.tc : Thread nD τ).loc Cert.AdamSmallRefIdeal.main_arg2)) = val_main_v5 (F := Ideal) (V m c main_arg0) (V m c main_arg2) := by
      rw [V_main_arg0, V_main_arg2, a0, a2]
    refine (h2.trans ?_).trans (e.trans (fin6 m c).symm)
    exact val_main_v5_eq ..
  · have e : val_main_v11 (F := Ideal) (m' ((c.tc : Thread nD τ).loc Cert.AdamSmallRefIdeal.main_arg0)) (m' ((c.tc : Thread nD τ).loc Cert.AdamSmallRefIdeal.main_arg3)) = val_main_v11 (F := Ideal) (V m c main_arg0) (V m c main_arg3) := by
      rw [V_main_arg0, V_main_arg3, a0, a3]
    refine (h3.trans ?_).trans (e.trans (fin7 m c).symm)
    exact val_main_v11_eq ..

end Cert.Proof.AdamSmall

end
-- ==== Proof.AdamEarly.lean ====
/- The optimiser's step on the weights of the pooling and of the read-out, the final norm and the loss: the parts of the gradient that the eight devices made are added up, and the running mean
   and the running square move towards it; the weight's change follows from them. -/
module

public import proofs.«01_k».proof.Defs
public import proofs.«01_k».proof.Proof.Gen.AdamEarlyRefIdeal.Run
public import proofs.«01_k».proof.Proof.Gen.AdamEarlyRefIdeal.Read
public import proofs.«01_k».proof.Proof.Gen.AdamEarlyIdeal.Value
public import proofs.«01_k».proof.Proof.AdamStep
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.AdamEarly

open Cert.AdamEarlyIdeal Cert.AdamEarlyIdeal.Gen Cert.AdamEarlyRefIdeal.Read Cert.AdamStep

variable (m : (ℓ : Loc nD τ sig) → Buf (Elt Ideal) ℓ)

/-- Grid point `t` reads and writes tile `t` of every operand. -/
theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- Row `r` of tile `t`, in the whole array. -/
def row (t : Fin cfg0.N) (r : Fin 1056) : Fin 1056 := ⟨t.val * 1056 + r.val, by have := lt_of_lt_of_eq t.isLt N_0; omega⟩

/-- The tile of the devices' parts, read in the whole array. -/
theorem rd0 (c : Dev nD) (t : Fin cfg0.N) (k : Fin 8) (r : Fin 1056) (l : Fin 128) : iblk m c 0 t (ix3 k r l) = V m c main_arg0 (ix3 k (row t r) l) := by
  blk_ext [iblk, idx t, row]

/-- The tile of the weight, read in the whole array. -/
theorem rd1 (c : Dev nD) (t : Fin cfg0.N) (r : Fin 1056) (l : Fin 128) : iblk m c 1 t (ix2 r l) = V m c main_arg1 (ix2 (row t r) l) := by
  blk_ext [iblk, idx t, row]

/-- The tile of the running mean, read in the whole array. -/
theorem rd2 (c : Dev nD) (t : Fin cfg0.N) (r : Fin 1056) (l : Fin 128) : iblk m c 2 t (ix2 r l) = V m c main_arg2 (ix2 (row t r) l) := by
  blk_ext [iblk, idx t, row]

/-- The tile of the running square, read in the whole array. -/
theorem rd3 (c : Dev nD) (t : Fin cfg0.N) (r : Fin 1056) (l : Fin 128) : iblk m c 3 t (ix2 r l) = V m c main_arg3 (ix2 (row t r) l) := by
  blk_ext [iblk, idx t, row]

/-- Entry `(r, l)` of the gradient that a grid point leaves. -/
theorem out4 (x0 : FVec Ideal S8x1056x128 .f32) (x1 x2 x3 : FVec Ideal S1056x128 .f32) (r : Fin 1056) (l : Fin 128) :
    out0_4 (F := Ideal) x0 x1 x2 x3 (ix2 r l) = ∑ k : Fin 8, x0 (ix3 k r l) := by
  rw [Fin.sum_univ_eight]
  frame_out
  pointwise [k0_pay1, k0_pay2, k0_pay3, k0_pay4, k0_pay5, k0_pay6, k0_pay7, k0_pay8, k0_pay9, change, newMean, newSquare]

/-- Entry `(r, l)` of the weight's change that a grid point leaves. -/
theorem out5 (x0 : FVec Ideal S8x1056x128 .f32) (x1 x2 x3 : FVec Ideal S1056x128 .f32) (r : Fin 1056) (l : Fin 128) :
    out0_5 (F := Ideal) x0 x1 x2 x3 (ix2 r l) = change (∑ k : Fin 8, x0 (ix3 k r l)) (x1 (ix2 r l)) (x2 (ix2 r l)) (x3 (ix2 r l)) := by
  rw [Fin.sum_univ_eight]
  unfold out0_5
  try unfold k0_pay7
  try unfold k0_pay8
  try unfold k0_pay9
  frame_out
  pointwise [k0_pay1, k0_pay2, k0_pay3, k0_pay4, k0_pay5, k0_pay6, k0_pay7, k0_pay8, k0_pay9, change, newMean, newSquare]

/-- Entry `(r, l)` of the new running mean that a grid point leaves. -/
theorem out6 (x0 : FVec Ideal S8x1056x128 .f32) (x1 x2 x3 : FVec Ideal S1056x128 .f32) (r : Fin 1056) (l : Fin 128) :
    out0_6 (F := Ideal) x0 x1 x2 x3 (ix2 r l) = newMean (∑ k : Fin 8, x0 (ix3 k r l)) (x2 (ix2 r l)) := by
  rw [Fin.sum_univ_eight]
  unfold out0_6
  try unfold k0_pay7
  try unfold k0_pay8
  try unfold k0_pay9
  frame_out
  pointwise [k0_pay1, k0_pay2, k0_pay3, k0_pay4, k0_pay5, k0_pay6, k0_pay7, k0_pay8, k0_pay9, change, newMean, newSquare]

/-- Entry `(r, l)` of the new running square that a grid point leaves. -/
theorem out7 (x0 : FVec Ideal S8x1056x128 .f32) (x1 x2 x3 : FVec Ideal S1056x128 .f32) (r : Fin 1056) (l : Fin 128) :
    out0_7 (F := Ideal) x0 x1 x2 x3 (ix2 r l) = newSquare (∑ k : Fin 8, x0 (ix3 k r l)) (x3 (ix2 r l)) := by
  rw [Fin.sum_univ_eight]
  unfold out0_7
  try unfold k0_pay7
  try unfold k0_pay8
  try unfold k0_pay9
  frame_out
  pointwise [k0_pay1, k0_pay2, k0_pay3, k0_pay4, k0_pay5, k0_pay6, k0_pay7, k0_pay8, k0_pay9, change, newMean, newSquare]

/-- Entry `(r, l)` of the gradient of the reference. -/
theorem ref4 (x0 : FVec Ideal S8x1056x128 .f32) (r : Fin 1056) (l : Fin 128) :
    val_main_v0 (F := Ideal) x0 (ix2 r l) = ∑ k : Fin 8, x0 (ix3 k r l) := by
  pointwise [val_main_v24, val_main_v23, val_main_cst_8, val_main_v22, val_main_v21, val_main_v20, val_main_cst_7, val_main_v19, val_main_v18, val_main_v17, val_main_cst_6, val_main_v16, val_main_v15, val_main_v14, val_main_cst_5, val_main_v13, val_main_v12, val_main_cst_4, val_main_v11, val_main_v10, val_main_v9, val_main_cst_3, val_main_v8, val_main_v7, val_main_v6, val_main_cst_2, val_main_v5, val_main_v4, val_main_v3, val_main_cst_1, val_main_v2, val_main_v1, val_main_cst_0, val_main_v0, val_main_cst, change, newMean, newSquare]

/-- Entry `(r, l)` of the weight's change of the reference. -/
theorem ref5 (x0 : FVec Ideal S8x1056x128 .f32) (x1 : FVec Ideal S1056x128 .f32) (x2 : FVec Ideal S1056x128 .f32) (x3 : FVec Ideal S1056x128 .f32) (r : Fin 1056) (l : Fin 128) :
    val_main_v24 (F := Ideal) x0 x1 x2 x3 (ix2 r l) = change (∑ k : Fin 8, x0 (ix3 k r l)) (x1 (ix2 r l)) (x2 (ix2 r l)) (x3 (ix2 r l)) := by
  pointwise [val_main_v24, val_main_v23, val_main_cst_8, val_main_v22, val_main_v21, val_main_v20, val_main_cst_7, val_main_v19, val_main_v18, val_main_v17, val_main_cst_6, val_main_v16, val_main_v15, val_main_v14, val_main_cst_5, val_main_v13, val_main_v12, val_main_cst_4, val_main_v11, val_main_v10, val_main_v9, val_main_cst_3, val_main_v8, val_main_v7, val_main_v6, val_main_cst_2, val_main_v5, val_main_v4, val_main_v3, val_main_cst_1, val_main_v2, val_main_v1, val_main_cst_0, val_main_v0, val_main_cst, change, newMean, newSquare]

/-- Entry `(r, l)` of the new running mean of the reference. -/
theorem ref6 (x0 : FVec Ideal S8x1056x128 .f32) (x2 : FVec Ideal S1056x128 .f32) (r : Fin 1056) (l : Fin 128) :
    val_main_v5 (F := Ideal) x0 x2 (ix2 r l) = newMean (∑ k : Fin 8, x0 (ix3 k r l)) (x2 (ix2 r l)) := by
  pointwise [val_main_v24, val_main_v23, val_main_cst_8, val_main_v22, val_main_v21, val_main_v20, val_main_cst_7, val_main_v19, val_main_v18, val_main_v17, val_main_cst_6, val_main_v16, val_main_v15, val_main_v14, val_main_cst_5, val_main_v13, val_main_v12, val_main_cst_4, val_main_v11, val_main_v10, val_main_v9, val_main_cst_3, val_main_v8, val_main_v7, val_main_v6, val_main_cst_2, val_main_v5, val_main_v4, val_main_v3, val_main_cst_1, val_main_v2, val_main_v1, val_main_cst_0, val_main_v0, val_main_cst, change, newMean, newSquare]

/-- Entry `(r, l)` of the new running square of the reference. -/
theorem ref7 (x0 : FVec Ideal S8x1056x128 .f32) (x3 : FVec Ideal S1056x128 .f32) (r : Fin 1056) (l : Fin 128) :
    val_main_v11 (F := Ideal) x0 x3 (ix2 r l) = newSquare (∑ k : Fin 8, x0 (ix3 k r l)) (x3 (ix2 r l)) := by
  pointwise [val_main_v24, val_main_v23, val_main_cst_8, val_main_v22, val_main_v21, val_main_v20, val_main_cst_7, val_main_v19, val_main_v18, val_main_v17, val_main_cst_6, val_main_v16, val_main_v15, val_main_v14, val_main_cst_5, val_main_v13, val_main_v12, val_main_cst_4, val_main_v11, val_main_v10, val_main_v9, val_main_cst_3, val_main_v8, val_main_v7, val_main_v6, val_main_cst_2, val_main_v5, val_main_v4, val_main_v3, val_main_cst_1, val_main_v2, val_main_v1, val_main_cst_0, val_main_v0, val_main_cst, change, newMean, newSquare]

/-- Where entry `(r, l)` of point `t`'s block of result 0 lies. -/
theorem emb4 (t : Fin cfg0.N) (r : Fin 1056) (l : Fin 128) : ((View.whole main_v0_0).slice (win0_4.rect t)).emb (ix2 r l) = ix2 (row t r) l := by
  blk_ext [idx t, row]

/-- So the call leaves the gradient. -/
theorem fin4 (c : Dev nD) : (dats m 0 c).arrAt 4 (cfgs 0).N = val_main_v0 (F := Ideal) (V m c main_arg0) := by
  refine (dats m 0 c).arrAt_eq_of_covers 4 _ (by decide +kernel) fun t hf y => ?_
  blk_simp
  rw [after0_4]
  idx_vars y
  rw [emb4 t y0 y1]
  refine (out4 _ _ _ _ y0 y1).trans (Eq.trans ?_ (ref4 _ (row t y0) y1).symm)
  simp only [rd0]

/-- Where entry `(r, l)` of point `t`'s block of result 1 lies. -/
theorem emb5 (t : Fin cfg0.N) (r : Fin 1056) (l : Fin 128) : ((View.whole main_v0_1).slice (win0_5.rect t)).emb (ix2 r l) = ix2 (row t r) l := by
  blk_ext [idx t, row]

/-- So the call leaves the weight's change. -/
theorem fin5 (c : Dev nD) : (dats m 0 c).arrAt 5 (cfgs 0).N = val_main_v24 (F := Ideal) (V m c main_arg0) (V m c main_arg1) (V m c main_arg2) (V m c main_arg3) := by
  refine (dats m 0 c).arrAt_eq_of_covers 5 _ (by decide +kernel) fun t hf y => ?_
  blk_simp
  rw [after0_5]
  idx_vars y
  rw [emb5 t y0 y1]
  refine (out5 _ _ _ _ y0 y1).trans (Eq.trans ?_ (ref5 _ _ _ _ (row t y0) y1).symm)
  simp only [rd0, rd1, rd2, rd3]

/-- Where entry `(r, l)` of point `t`'s block of result 2 lies. -/
theorem emb6 (t : Fin cfg0.N) (r : Fin 1056) (l : Fin 128) : ((View.whole main_v0_2).slice (win0_6.rect t)).emb (ix2 r l) = ix2 (row t r) l := by
  blk_ext [idx t, row]

/-- So the call leaves the new running mean. -/
theorem fin6 (c : Dev nD) : (dats m 0 c).arrAt 6 (cfgs 0).N = val_main_v5 (F := Ideal) (V m c main_arg0) (V m c main_arg2) := by
  refine (dats m 0 c).arrAt_eq_of_covers 6 _ (by decide +kernel) fun t hf y => ?_
  blk_simp
  rw [after0_6]
  idx_vars y
  rw [emb6 t y0 y1]
  refine (out6 _ _ _ _ y0 y1).trans (Eq.trans ?_ (ref6 _ _ (row t y0) y1).symm)
  simp only [rd0, rd2]

/-- Where entry `(r, l)` of point `t`'s block of result 3 lies. -/
theorem emb7 (t : Fin cfg0.N) (r : Fin 1056) (l : Fin 128) : ((View.whole main_v0_3).slice (win0_7.rect t)).emb (ix2 r l) = ix2 (row t r) l := by
  blk_ext [idx t, row]

/-- So the call leaves the new running square. -/
theorem fin7 (c : Dev nD) : (dats m 0 c).arrAt 7 (cfgs 0).N = val_main_v11 (F := Ideal) (V m c main_arg0) (V m c main_arg3) := by
  refine (dats m 0 c).arrAt_eq_of_covers 7 _ (by decide +kernel) fun t hf y => ?_
  blk_simp
  rw [after0_7]
  idx_vars y
  rw [emb7 t y0 y1]
  refine (out7 _ _ _ _ y0 y1).trans (Eq.trans ?_ (ref7 _ _ (row t y0) y1).symm)
  simp only [rd0, rd3]

/-- The reference runs to its end and leaves nothing behind. -/
theorem frameR : Cert.quiescent_AdamEarlyRefIdeal := fun m ρ _ =>
  (θ_run Cert.AdamEarlyRefIdeal.defs _ _).mono (fun r h => ⟨fun c => (h c).2.2.2.2, sem_eq_zero_of_no_sems (by decide) r.2⟩)
    (Cert.AdamEarlyRefIdeal.Value.run (F := Ideal) m ρ)

/-- The call and the reference leave equal results. -/
theorem algebraic : Cert.algebraic_AdamEarlyIdeal_AdamEarlyRefIdeal := by
  intro m g m' g' _ hin
  refine ⟨_, _, _, _, Cert.AdamEarlyIdeal.Value.run_blocks m g, (θ_run _ _ _).mono (fun r h c => ?_) (Cert.AdamEarlyRefIdeal.Value.run m' g')⟩
  obtain ⟨h0, h1, h2, h3, hk⟩ := h c
  obtain ⟨a0, a1, a2, a3⟩ := hin c
  refine ⟨?_, ?_, ?_, ?_, hk⟩
  · have e : val_main_v0 (F := Ideal) (m' ((c.tc : Thread nD τ).loc Cert.AdamEarlyRefIdeal.main_arg0)) = val_main_v0 (F := Ideal) (V m c main_arg0) := by
      rw [V_main_arg0, a0]
    refine (h0.trans ?_).trans (e.trans (fin4 m c).symm)
    exact val_main_v0_eq ..
  · have e : val_main_v24 (F := Ideal) (m' ((c.tc : Thread nD τ).loc Cert.AdamEarlyRefIdeal.main_arg0)) (m' ((c.tc : Thread nD τ).loc Cert.AdamEarlyRefIdeal.main_arg1)) (m' ((c.tc : Thread nD τ).loc Cert.AdamEarlyRefIdeal.main_arg2)) (m' ((c.tc : Thread nD τ).loc Cert.AdamEarlyRefIdeal.main_arg3)) = val_main_v24 (F := Ideal) (V m c main_arg0) (V m c main_arg1) (V m c main_arg2) (V m c main_arg3) := by
      rw [V_main_arg0, V_main_arg1, V_main_arg2, V_main_arg3, a0, a1, a2, a3]
    refine (h1.trans ?_).trans (e.trans (fin5 m c).symm)
    exact val_main_v24_eq ..
  · have e : val_main_v5 (F := Ideal) (m' ((c.tc : Thread nD τ).loc Cert.AdamEarlyRefIdeal.main_arg0)) (m' ((c.tc : Thread nD τ).loc Cert.AdamEarlyRefIdeal.main_arg2)) = val_main_v5 (F := Ideal) (V m c main_arg0) (V m c main_arg2) := by
      rw [V_main_arg0, V_main_arg2, a0, a2]
    refine (h2.trans ?_).trans (e.trans (fin6 m c).symm)
    exact val_main_v5_eq ..
  · have e : val_main_v11 (F := Ideal) (m' ((c.tc : Thread nD τ).loc Cert.AdamEarlyRefIdeal.main_arg0)) (m' ((c.tc : Thread nD τ).loc Cert.AdamEarlyRefIdeal.main_arg3)) = val_main_v11 (F := Ideal) (V m c main_arg0) (V m c main_arg3) := by
      rw [V_main_arg0, V_main_arg3, a0, a3]
    refine (h3.trans ?_).trans (e.trans (fin7 m c).symm)
    exact val_main_v11_eq ..

end Cert.Proof.AdamEarly

end
-- ==== Proof.AdamMid.lean ====
/- The optimiser's step on the even layer's norm: the parts of the gradient that the eight devices made are added up, and the running mean
   and the running square move towards it; the weight's change follows from them. -/
module

public import proofs.«01_k».proof.Defs
public import proofs.«01_k».proof.Proof.Gen.AdamMidRefIdeal.Run
public import proofs.«01_k».proof.Proof.Gen.AdamMidRefIdeal.Read
public import proofs.«01_k».proof.Proof.Gen.AdamMidIdeal.Value
public import proofs.«01_k».proof.Proof.AdamStep
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.AdamMid

open Cert.AdamMidIdeal Cert.AdamMidIdeal.Gen Cert.AdamMidRefIdeal.Read Cert.AdamStep

variable (m : (ℓ : Loc nD τ sig) → Buf (Elt Ideal) ℓ)

/-- Grid point `t` reads and writes tile `t` of every operand. -/
theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- Row `r` of tile `t`, in the whole array. -/
def row (t : Fin cfg0.N) (r : Fin 8) : Fin 8 := ⟨t.val * 8 + r.val, by have := lt_of_lt_of_eq t.isLt N_0; omega⟩

/-- The tile of the devices' parts, read in the whole array. -/
theorem rd0 (c : Dev nD) (t : Fin cfg0.N) (k : Fin 8) (r : Fin 8) (l : Fin 128) : iblk m c 0 t (ix3 k r l) = V m c main_arg0 (ix3 k (row t r) l) := by
  blk_ext [iblk, idx t, row]

/-- The tile of the weight, read in the whole array. -/
theorem rd1 (c : Dev nD) (t : Fin cfg0.N) (r : Fin 8) (l : Fin 128) : iblk m c 1 t (ix2 r l) = V m c main_arg1 (ix2 (row t r) l) := by
  blk_ext [iblk, idx t, row]

/-- The tile of the running mean, read in the whole array. -/
theorem rd2 (c : Dev nD) (t : Fin cfg0.N) (r : Fin 8) (l : Fin 128) : iblk m c 2 t (ix2 r l) = V m c main_arg2 (ix2 (row t r) l) := by
  blk_ext [iblk, idx t, row]

/-- The tile of the running square, read in the whole array. -/
theorem rd3 (c : Dev nD) (t : Fin cfg0.N) (r : Fin 8) (l : Fin 128) : iblk m c 3 t (ix2 r l) = V m c main_arg3 (ix2 (row t r) l) := by
  blk_ext [iblk, idx t, row]

/-- Entry `(r, l)` of the gradient that a grid point leaves. -/
theorem out4 (x0 : FVec Ideal S8x8x128 .f32) (x1 x2 x3 : FVec Ideal S8x128 .f32) (r : Fin 8) (l : Fin 128) :
    out0_4 (F := Ideal) x0 x1 x2 x3 (ix2 r l) = ∑ k : Fin 8, x0 (ix3 k r l) := by
  rw [Fin.sum_univ_eight]
  frame_out
  pointwise [k0_pay1, k0_pay2, k0_pay3, k0_pay4, k0_pay5, k0_pay6, k0_pay7, k0_pay8, k0_pay9, change, newMean, newSquare]

/-- Entry `(r, l)` of the weight's change that a grid point leaves. -/
theorem out5 (x0 : FVec Ideal S8x8x128 .f32) (x1 x2 x3 : FVec Ideal S8x128 .f32) (r : Fin 8) (l : Fin 128) :
    out0_5 (F := Ideal) x0 x1 x2 x3 (ix2 r l) = change (∑ k : Fin 8, x0 (ix3 k r l)) (x1 (ix2 r l)) (x2 (ix2 r l)) (x3 (ix2 r l)) := by
  rw [Fin.sum_univ_eight]
  unfold out0_5
  try unfold k0_pay7
  try unfold k0_pay8
  try unfold k0_pay9
  frame_out
  pointwise [k0_pay1, k0_pay2, k0_pay3, k0_pay4, k0_pay5, k0_pay6, k0_pay7, k0_pay8, k0_pay9, change, newMean, newSquare]

/-- Entry `(r, l)` of the new running mean that a grid point leaves. -/
theorem out6 (x0 : FVec Ideal S8x8x128 .f32) (x1 x2 x3 : FVec Ideal S8x128 .f32) (r : Fin 8) (l : Fin 128) :
    out0_6 (F := Ideal) x0 x1 x2 x3 (ix2 r l) = newMean (∑ k : Fin 8, x0 (ix3 k r l)) (x2 (ix2 r l)) := by
  rw [Fin.sum_univ_eight]
  unfold out0_6
  try unfold k0_pay7
  try unfold k0_pay8
  try unfold k0_pay9
  frame_out
  pointwise [k0_pay1, k0_pay2, k0_pay3, k0_pay4, k0_pay5, k0_pay6, k0_pay7, k0_pay8, k0_pay9, change, newMean, newSquare]

/-- Entry `(r, l)` of the new running square that a grid point leaves. -/
theorem out7 (x0 : FVec Ideal S8x8x128 .f32) (x1 x2 x3 : FVec Ideal S8x128 .f32) (r : Fin 8) (l : Fin 128) :
    out0_7 (F := Ideal) x0 x1 x2 x3 (ix2 r l) = newSquare (∑ k : Fin 8, x0 (ix3 k r l)) (x3 (ix2 r l)) := by
  rw [Fin.sum_univ_eight]
  unfold out0_7
  try unfold k0_pay7
  try unfold k0_pay8
  try unfold k0_pay9
  frame_out
  pointwise [k0_pay1, k0_pay2, k0_pay3, k0_pay4, k0_pay5, k0_pay6, k0_pay7, k0_pay8, k0_pay9, change, newMean, newSquare]

/-- Entry `(r, l)` of the gradient of the reference. -/
theorem ref4 (x0 : FVec Ideal S8x8x128 .f32) (r : Fin 8) (l : Fin 128) :
    val_main_v0 (F := Ideal) x0 (ix2 r l) = ∑ k : Fin 8, x0 (ix3 k r l) := by
  pointwise [val_main_v24, val_main_v23, val_main_cst_8, val_main_v22, val_main_v21, val_main_v20, val_main_cst_7, val_main_v19, val_main_v18, val_main_v17, val_main_cst_6, val_main_v16, val_main_v15, val_main_v14, val_main_cst_5, val_main_v13, val_main_v12, val_main_cst_4, val_main_v11, val_main_v10, val_main_v9, val_main_cst_3, val_main_v8, val_main_v7, val_main_v6, val_main_cst_2, val_main_v5, val_main_v4, val_main_v3, val_main_cst_1, val_main_v2, val_main_v1, val_main_cst_0, val_main_v0, val_main_cst, change, newMean, newSquare]

/-- Entry `(r, l)` of the weight's change of the reference. -/
theorem ref5 (x0 : FVec Ideal S8x8x128 .f32) (x1 : FVec Ideal S8x128 .f32) (x2 : FVec Ideal S8x128 .f32) (x3 : FVec Ideal S8x128 .f32) (r : Fin 8) (l : Fin 128) :
    val_main_v24 (F := Ideal) x0 x1 x2 x3 (ix2 r l) = change (∑ k : Fin 8, x0 (ix3 k r l)) (x1 (ix2 r l)) (x2 (ix2 r l)) (x3 (ix2 r l)) := by
  pointwise [val_main_v24, val_main_v23, val_main_cst_8, val_main_v22, val_main_v21, val_main_v20, val_main_cst_7, val_main_v19, val_main_v18, val_main_v17, val_main_cst_6, val_main_v16, val_main_v15, val_main_v14, val_main_cst_5, val_main_v13, val_main_v12, val_main_cst_4, val_main_v11, val_main_v10, val_main_v9, val_main_cst_3, val_main_v8, val_main_v7, val_main_v6, val_main_cst_2, val_main_v5, val_main_v4, val_main_v3, val_main_cst_1, val_main_v2, val_main_v1, val_main_cst_0, val_main_v0, val_main_cst, change, newMean, newSquare]

/-- Entry `(r, l)` of the new running mean of the reference. -/
theorem ref6 (x0 : FVec Ideal S8x8x128 .f32) (x2 : FVec Ideal S8x128 .f32) (r : Fin 8) (l : Fin 128) :
    val_main_v5 (F := Ideal) x0 x2 (ix2 r l) = newMean (∑ k : Fin 8, x0 (ix3 k r l)) (x2 (ix2 r l)) := by
  pointwise [val_main_v24, val_main_v23, val_main_cst_8, val_main_v22, val_main_v21, val_main_v20, val_main_cst_7, val_main_v19, val_main_v18, val_main_v17, val_main_cst_6, val_main_v16, val_main_v15, val_main_v14, val_main_cst_5, val_main_v13, val_main_v12, val_main_cst_4, val_main_v11, val_main_v10, val_main_v9, val_main_cst_3, val_main_v8, val_main_v7, val_main_v6, val_main_cst_2, val_main_v5, val_main_v4, val_main_v3, val_main_cst_1, val_main_v2, val_main_v1, val_main_cst_0, val_main_v0, val_main_cst, change, newMean, newSquare]

/-- Entry `(r, l)` of the new running square of the reference. -/
theorem ref7 (x0 : FVec Ideal S8x8x128 .f32) (x3 : FVec Ideal S8x128 .f32) (r : Fin 8) (l : Fin 128) :
    val_main_v11 (F := Ideal) x0 x3 (ix2 r l) = newSquare (∑ k : Fin 8, x0 (ix3 k r l)) (x3 (ix2 r l)) := by
  pointwise [val_main_v24, val_main_v23, val_main_cst_8, val_main_v22, val_main_v21, val_main_v20, val_main_cst_7, val_main_v19, val_main_v18, val_main_v17, val_main_cst_6, val_main_v16, val_main_v15, val_main_v14, val_main_cst_5, val_main_v13, val_main_v12, val_main_cst_4, val_main_v11, val_main_v10, val_main_v9, val_main_cst_3, val_main_v8, val_main_v7, val_main_v6, val_main_cst_2, val_main_v5, val_main_v4, val_main_v3, val_main_cst_1, val_main_v2, val_main_v1, val_main_cst_0, val_main_v0, val_main_cst, change, newMean, newSquare]

/-- Where entry `(r, l)` of point `t`'s block of result 0 lies. -/
theorem emb4 (t : Fin cfg0.N) (r : Fin 8) (l : Fin 128) : ((View.whole main_v0_0).slice (win0_4.rect t)).emb (ix2 r l) = ix2 (row t r) l := by
  blk_ext [idx t, row]

/-- So the call leaves the gradient. -/
theorem fin4 (c : Dev nD) : (dats m 0 c).arrAt 4 (cfgs 0).N = val_main_v0 (F := Ideal) (V m c main_arg0) := by
  refine (dats m 0 c).arrAt_eq_of_covers 4 _ (by decide +kernel) fun t hf y => ?_
  blk_simp
  rw [after0_4]
  idx_vars y
  rw [emb4 t y0 y1]
  refine (out4 _ _ _ _ y0 y1).trans (Eq.trans ?_ (ref4 _ (row t y0) y1).symm)
  simp only [rd0]

/-- Where entry `(r, l)` of point `t`'s block of result 1 lies. -/
theorem emb5 (t : Fin cfg0.N) (r : Fin 8) (l : Fin 128) : ((View.whole main_v0_1).slice (win0_5.rect t)).emb (ix2 r l) = ix2 (row t r) l := by
  blk_ext [idx t, row]

/-- So the call leaves the weight's change. -/
theorem fin5 (c : Dev nD) : (dats m 0 c).arrAt 5 (cfgs 0).N = val_main_v24 (F := Ideal) (V m c main_arg0) (V m c main_arg1) (V m c main_arg2) (V m c main_arg3) := by
  refine (dats m 0 c).arrAt_eq_of_covers 5 _ (by decide +kernel) fun t hf y => ?_
  blk_simp
  rw [after0_5]
  idx_vars y
  rw [emb5 t y0 y1]
  refine (out5 _ _ _ _ y0 y1).trans (Eq.trans ?_ (ref5 _ _ _ _ (row t y0) y1).symm)
  simp only [rd0, rd1, rd2, rd3]

/-- Where entry `(r, l)` of point `t`'s block of result 2 lies. -/
theorem emb6 (t : Fin cfg0.N) (r : Fin 8) (l : Fin 128) : ((View.whole main_v0_2).slice (win0_6.rect t)).emb (ix2 r l) = ix2 (row t r) l := by
  blk_ext [idx t, row]

/-- So the call leaves the new running mean. -/
theorem fin6 (c : Dev nD) : (dats m 0 c).arrAt 6 (cfgs 0).N = val_main_v5 (F := Ideal) (V m c main_arg0) (V m c main_arg2) := by
  refine (dats m 0 c).arrAt_eq_of_covers 6 _ (by decide +kernel) fun t hf y => ?_
  blk_simp
  rw [after0_6]
  idx_vars y
  rw [emb6 t y0 y1]
  refine (out6 _ _ _ _ y0 y1).trans (Eq.trans ?_ (ref6 _ _ (row t y0) y1).symm)
  simp only [rd0, rd2]

/-- Where entry `(r, l)` of point `t`'s block of result 3 lies. -/
theorem emb7 (t : Fin cfg0.N) (r : Fin 8) (l : Fin 128) : ((View.whole main_v0_3).slice (win0_7.rect t)).emb (ix2 r l) = ix2 (row t r) l := by
  blk_ext [idx t, row]

/-- So the call leaves the new running square. -/
theorem fin7 (c : Dev nD) : (dats m 0 c).arrAt 7 (cfgs 0).N = val_main_v11 (F := Ideal) (V m c main_arg0) (V m c main_arg3) := by
  refine (dats m 0 c).arrAt_eq_of_covers 7 _ (by decide +kernel) fun t hf y => ?_
  blk_simp
  rw [after0_7]
  idx_vars y
  rw [emb7 t y0 y1]
  refine (out7 _ _ _ _ y0 y1).trans (Eq.trans ?_ (ref7 _ _ (row t y0) y1).symm)
  simp only [rd0, rd3]

/-- The reference runs to its end and leaves nothing behind. -/
theorem frameR : Cert.quiescent_AdamMidRefIdeal := fun m ρ _ =>
  (θ_run Cert.AdamMidRefIdeal.defs _ _).mono (fun r h => ⟨fun c => (h c).2.2.2.2, sem_eq_zero_of_no_sems (by decide) r.2⟩)
    (Cert.AdamMidRefIdeal.Value.run (F := Ideal) m ρ)

/-- The call and the reference leave equal results. -/
theorem algebraic : Cert.algebraic_AdamMidIdeal_AdamMidRefIdeal := by
  intro m g m' g' _ hin
  refine ⟨_, _, _, _, Cert.AdamMidIdeal.Value.run_blocks m g, (θ_run _ _ _).mono (fun r h c => ?_) (Cert.AdamMidRefIdeal.Value.run m' g')⟩
  obtain ⟨h0, h1, h2, h3, hk⟩ := h c
  obtain ⟨a0, a1, a2, a3⟩ := hin c
  refine ⟨?_, ?_, ?_, ?_, hk⟩
  · have e : val_main_v0 (F := Ideal) (m' ((c.tc : Thread nD τ).loc Cert.AdamMidRefIdeal.main_arg0)) = val_main_v0 (F := Ideal) (V m c main_arg0) := by
      rw [V_main_arg0, a0]
    refine (h0.trans ?_).trans (e.trans (fin4 m c).symm)
    exact val_main_v0_eq ..
  · have e : val_main_v24 (F := Ideal) (m' ((c.tc : Thread nD τ).loc Cert.AdamMidRefIdeal.main_arg0)) (m' ((c.tc : Thread nD τ).loc Cert.AdamMidRefIdeal.main_arg1)) (m' ((c.tc : Thread nD τ).loc Cert.AdamMidRefIdeal.main_arg2)) (m' ((c.tc : Thread nD τ).loc Cert.AdamMidRefIdeal.main_arg3)) = val_main_v24 (F := Ideal) (V m c main_arg0) (V m c main_arg1) (V m c main_arg2) (V m c main_arg3) := by
      rw [V_main_arg0, V_main_arg1, V_main_arg2, V_main_arg3, a0, a1, a2, a3]
    refine (h1.trans ?_).trans (e.trans (fin5 m c).symm)
    exact val_main_v24_eq ..
  · have e : val_main_v5 (F := Ideal) (m' ((c.tc : Thread nD τ).loc Cert.AdamMidRefIdeal.main_arg0)) (m' ((c.tc : Thread nD τ).loc Cert.AdamMidRefIdeal.main_arg2)) = val_main_v5 (F := Ideal) (V m c main_arg0) (V m c main_arg2) := by
      rw [V_main_arg0, V_main_arg2, a0, a2]
    refine (h2.trans ?_).trans (e.trans (fin6 m c).symm)
    exact val_main_v5_eq ..
  · have e : val_main_v11 (F := Ideal) (m' ((c.tc : Thread nD τ).loc Cert.AdamMidRefIdeal.main_arg0)) (m' ((c.tc : Thread nD τ).loc Cert.AdamMidRefIdeal.main_arg3)) = val_main_v11 (F := Ideal) (V m c main_arg0) (V m c main_arg3) := by
      rw [V_main_arg0, V_main_arg3, a0, a3]
    refine (h3.trans ?_).trans (e.trans (fin7 m c).symm)
    exact val_main_v11_eq ..

end Cert.Proof.AdamMid

end
-- ==== Proof.AdamLate.lean ====
/- The optimiser's step on the weights of the state space: the parts of the gradient that the eight devices made are added up, and the running mean
   and the running square move towards it; the weight's change follows from them. -/
module

public import proofs.«01_k».proof.Defs
public import proofs.«01_k».proof.Proof.Gen.AdamLateRefIdeal.Run
public import proofs.«01_k».proof.Proof.Gen.AdamLateRefIdeal.Read
public import proofs.«01_k».proof.Proof.Gen.AdamLateIdeal.Value
public import proofs.«01_k».proof.Proof.AdamStep
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.AdamLate

open Cert.AdamLateIdeal Cert.AdamLateIdeal.Gen Cert.AdamLateRefIdeal.Read Cert.AdamStep

variable (m : (ℓ : Loc nD τ sig) → Buf (Elt Ideal) ℓ)

/-- Grid point `t` reads and writes tile `t` of every operand. -/
theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- Row `r` of tile `t`, in the whole array. -/
def row (t : Fin cfg0.N) (r : Fin 552) : Fin 552 := ⟨t.val * 552 + r.val, by have := lt_of_lt_of_eq t.isLt N_0; omega⟩

/-- The tile of the devices' parts, read in the whole array. -/
theorem rd0 (c : Dev nD) (t : Fin cfg0.N) (k : Fin 8) (r : Fin 552) (l : Fin 128) : iblk m c 0 t (ix3 k r l) = V m c main_arg0 (ix3 k (row t r) l) := by
  blk_ext [iblk, idx t, row]

/-- The tile of the weight, read in the whole array. -/
theorem rd1 (c : Dev nD) (t : Fin cfg0.N) (r : Fin 552) (l : Fin 128) : iblk m c 1 t (ix2 r l) = V m c main_arg1 (ix2 (row t r) l) := by
  blk_ext [iblk, idx t, row]

/-- The tile of the running mean, read in the whole array. -/
theorem rd2 (c : Dev nD) (t : Fin cfg0.N) (r : Fin 552) (l : Fin 128) : iblk m c 2 t (ix2 r l) = V m c main_arg2 (ix2 (row t r) l) := by
  blk_ext [iblk, idx t, row]

/-- The tile of the running square, read in the whole array. -/
theorem rd3 (c : Dev nD) (t : Fin cfg0.N) (r : Fin 552) (l : Fin 128) : iblk m c 3 t (ix2 r l) = V m c main_arg3 (ix2 (row t r) l) := by
  blk_ext [iblk, idx t, row]

/-- Entry `(r, l)` of the gradient that a grid point leaves. -/
theorem out4 (x0 : FVec Ideal S8x552x128 .f32) (x1 x2 x3 : FVec Ideal S552x128 .f32) (r : Fin 552) (l : Fin 128) :
    out0_4 (F := Ideal) x0 x1 x2 x3 (ix2 r l) = ∑ k : Fin 8, x0 (ix3 k r l) := by
  rw [Fin.sum_univ_eight]
  frame_out
  pointwise [k0_pay1, k0_pay2, k0_pay3, k0_pay4, k0_pay5, k0_pay6, k0_pay7, k0_pay8, k0_pay9, change, newMean, newSquare]

/-- Entry `(r, l)` of the weight's change that a grid point leaves. -/
theorem out5 (x0 : FVec Ideal S8x552x128 .f32) (x1 x2 x3 : FVec Ideal S552x128 .f32) (r : Fin 552) (l : Fin 128) :
    out0_5 (F := Ideal) x0 x1 x2 x3 (ix2 r l) = change (∑ k : Fin 8, x0 (ix3 k r l)) (x1 (ix2 r l)) (x2 (ix2 r l)) (x3 (ix2 r l)) := by
  rw [Fin.sum_univ_eight]
  unfold out0_5
  try unfold k0_pay7
  try unfold k0_pay8
  try unfold k0_pay9
  frame_out
  pointwise [k0_pay1, k0_pay2, k0_pay3, k0_pay4, k0_pay5, k0_pay6, k0_pay7, k0_pay8, k0_pay9, change, newMean, newSquare]

/-- Entry `(r, l)` of the new running mean that a grid point leaves. -/
theorem out6 (x0 : FVec Ideal S8x552x128 .f32) (x1 x2 x3 : FVec Ideal S552x128 .f32) (r : Fin 552) (l : Fin 128) :
    out0_6 (F := Ideal) x0 x1 x2 x3 (ix2 r l) = newMean (∑ k : Fin 8, x0 (ix3 k r l)) (x2 (ix2 r l)) := by
  rw [Fin.sum_univ_eight]
  unfold out0_6
  try unfold k0_pay7
  try unfold k0_pay8
  try unfold k0_pay9
  frame_out
  pointwise [k0_pay1, k0_pay2, k0_pay3, k0_pay4, k0_pay5, k0_pay6, k0_pay7, k0_pay8, k0_pay9, change, newMean, newSquare]

/-- Entry `(r, l)` of the new running square that a grid point leaves. -/
theorem out7 (x0 : FVec Ideal S8x552x128 .f32) (x1 x2 x3 : FVec Ideal S552x128 .f32) (r : Fin 552) (l : Fin 128) :
    out0_7 (F := Ideal) x0 x1 x2 x3 (ix2 r l) = newSquare (∑ k : Fin 8, x0 (ix3 k r l)) (x3 (ix2 r l)) := by
  rw [Fin.sum_univ_eight]
  unfold out0_7
  try unfold k0_pay7
  try unfold k0_pay8
  try unfold k0_pay9
  frame_out
  pointwise [k0_pay1, k0_pay2, k0_pay3, k0_pay4, k0_pay5, k0_pay6, k0_pay7, k0_pay8, k0_pay9, change, newMean, newSquare]

/-- Entry `(r, l)` of the gradient of the reference. -/
theorem ref4 (x0 : FVec Ideal S8x552x128 .f32) (r : Fin 552) (l : Fin 128) :
    val_main_v0 (F := Ideal) x0 (ix2 r l) = ∑ k : Fin 8, x0 (ix3 k r l) := by
  pointwise [val_main_v24, val_main_v23, val_main_cst_8, val_main_v22, val_main_v21, val_main_v20, val_main_cst_7, val_main_v19, val_main_v18, val_main_v17, val_main_cst_6, val_main_v16, val_main_v15, val_main_v14, val_main_cst_5, val_main_v13, val_main_v12, val_main_cst_4, val_main_v11, val_main_v10, val_main_v9, val_main_cst_3, val_main_v8, val_main_v7, val_main_v6, val_main_cst_2, val_main_v5, val_main_v4, val_main_v3, val_main_cst_1, val_main_v2, val_main_v1, val_main_cst_0, val_main_v0, val_main_cst, change, newMean, newSquare]

/-- Entry `(r, l)` of the weight's change of the reference. -/
theorem ref5 (x0 : FVec Ideal S8x552x128 .f32) (x1 : FVec Ideal S552x128 .f32) (x2 : FVec Ideal S552x128 .f32) (x3 : FVec Ideal S552x128 .f32) (r : Fin 552) (l : Fin 128) :
    val_main_v24 (F := Ideal) x0 x1 x2 x3 (ix2 r l) = change (∑ k : Fin 8, x0 (ix3 k r l)) (x1 (ix2 r l)) (x2 (ix2 r l)) (x3 (ix2 r l)) := by
  pointwise [val_main_v24, val_main_v23, val_main_cst_8, val_main_v22, val_main_v21, val_main_v20, val_main_cst_7, val_main_v19, val_main_v18, val_main_v17, val_main_cst_6, val_main_v16, val_main_v15, val_main_v14, val_main_cst_5, val_main_v13, val_main_v12, val_main_cst_4, val_main_v11, val_main_v10, val_main_v9, val_main_cst_3, val_main_v8, val_main_v7, val_main_v6, val_main_cst_2, val_main_v5, val_main_v4, val_main_v3, val_main_cst_1, val_main_v2, val_main_v1, val_main_cst_0, val_main_v0, val_main_cst, change, newMean, newSquare]

/-- Entry `(r, l)` of the new running mean of the reference. -/
theorem ref6 (x0 : FVec Ideal S8x552x128 .f32) (x2 : FVec Ideal S552x128 .f32) (r : Fin 552) (l : Fin 128) :
    val_main_v5 (F := Ideal) x0 x2 (ix2 r l) = newMean (∑ k : Fin 8, x0 (ix3 k r l)) (x2 (ix2 r l)) := by
  pointwise [val_main_v24, val_main_v23, val_main_cst_8, val_main_v22, val_main_v21, val_main_v20, val_main_cst_7, val_main_v19, val_main_v18, val_main_v17, val_main_cst_6, val_main_v16, val_main_v15, val_main_v14, val_main_cst_5, val_main_v13, val_main_v12, val_main_cst_4, val_main_v11, val_main_v10, val_main_v9, val_main_cst_3, val_main_v8, val_main_v7, val_main_v6, val_main_cst_2, val_main_v5, val_main_v4, val_main_v3, val_main_cst_1, val_main_v2, val_main_v1, val_main_cst_0, val_main_v0, val_main_cst, change, newMean, newSquare]

/-- Entry `(r, l)` of the new running square of the reference. -/
theorem ref7 (x0 : FVec Ideal S8x552x128 .f32) (x3 : FVec Ideal S552x128 .f32) (r : Fin 552) (l : Fin 128) :
    val_main_v11 (F := Ideal) x0 x3 (ix2 r l) = newSquare (∑ k : Fin 8, x0 (ix3 k r l)) (x3 (ix2 r l)) := by
  pointwise [val_main_v24, val_main_v23, val_main_cst_8, val_main_v22, val_main_v21, val_main_v20, val_main_cst_7, val_main_v19, val_main_v18, val_main_v17, val_main_cst_6, val_main_v16, val_main_v15, val_main_v14, val_main_cst_5, val_main_v13, val_main_v12, val_main_cst_4, val_main_v11, val_main_v10, val_main_v9, val_main_cst_3, val_main_v8, val_main_v7, val_main_v6, val_main_cst_2, val_main_v5, val_main_v4, val_main_v3, val_main_cst_1, val_main_v2, val_main_v1, val_main_cst_0, val_main_v0, val_main_cst, change, newMean, newSquare]

/-- Where entry `(r, l)` of point `t`'s block of result 0 lies. -/
theorem emb4 (t : Fin cfg0.N) (r : Fin 552) (l : Fin 128) : ((View.whole main_v0_0).slice (win0_4.rect t)).emb (ix2 r l) = ix2 (row t r) l := by
  blk_ext [idx t, row]

/-- So the call leaves the gradient. -/
theorem fin4 (c : Dev nD) : (dats m 0 c).arrAt 4 (cfgs 0).N = val_main_v0 (F := Ideal) (V m c main_arg0) := by
  refine (dats m 0 c).arrAt_eq_of_covers 4 _ (by decide +kernel) fun t hf y => ?_
  blk_simp
  rw [after0_4]
  idx_vars y
  rw [emb4 t y0 y1]
  refine (out4 _ _ _ _ y0 y1).trans (Eq.trans ?_ (ref4 _ (row t y0) y1).symm)
  simp only [rd0]

/-- Where entry `(r, l)` of point `t`'s block of result 1 lies. -/
theorem emb5 (t : Fin cfg0.N) (r : Fin 552) (l : Fin 128) : ((View.whole main_v0_1).slice (win0_5.rect t)).emb (ix2 r l) = ix2 (row t r) l := by
  blk_ext [idx t, row]

/-- So the call leaves the weight's change. -/
theorem fin5 (c : Dev nD) : (dats m 0 c).arrAt 5 (cfgs 0).N = val_main_v24 (F := Ideal) (V m c main_arg0) (V m c main_arg1) (V m c main_arg2) (V m c main_arg3) := by
  refine (dats m 0 c).arrAt_eq_of_covers 5 _ (by decide +kernel) fun t hf y => ?_
  blk_simp
  rw [after0_5]
  idx_vars y
  rw [emb5 t y0 y1]
  refine (out5 _ _ _ _ y0 y1).trans (Eq.trans ?_ (ref5 _ _ _ _ (row t y0) y1).symm)
  simp only [rd0, rd1, rd2, rd3]

/-- Where entry `(r, l)` of point `t`'s block of result 2 lies. -/
theorem emb6 (t : Fin cfg0.N) (r : Fin 552) (l : Fin 128) : ((View.whole main_v0_2).slice (win0_6.rect t)).emb (ix2 r l) = ix2 (row t r) l := by
  blk_ext [idx t, row]

/-- So the call leaves the new running mean. -/
theorem fin6 (c : Dev nD) : (dats m 0 c).arrAt 6 (cfgs 0).N = val_main_v5 (F := Ideal) (V m c main_arg0) (V m c main_arg2) := by
  refine (dats m 0 c).arrAt_eq_of_covers 6 _ (by decide +kernel) fun t hf y => ?_
  blk_simp
  rw [after0_6]
  idx_vars y
  rw [emb6 t y0 y1]
  refine (out6 _ _ _ _ y0 y1).trans (Eq.trans ?_ (ref6 _ _ (row t y0) y1).symm)
  simp only [rd0, rd2]

/-- Where entry `(r, l)` of point `t`'s block of result 3 lies. -/
theorem emb7 (t : Fin cfg0.N) (r : Fin 552) (l : Fin 128) : ((View.whole main_v0_3).slice (win0_7.rect t)).emb (ix2 r l) = ix2 (row t r) l := by
  blk_ext [idx t, row]

/-- So the call leaves the new running square. -/
theorem fin7 (c : Dev nD) : (dats m 0 c).arrAt 7 (cfgs 0).N = val_main_v11 (F := Ideal) (V m c main_arg0) (V m c main_arg3) := by
  refine (dats m 0 c).arrAt_eq_of_covers 7 _ (by decide +kernel) fun t hf y => ?_
  blk_simp
  rw [after0_7]
  idx_vars y
  rw [emb7 t y0 y1]
  refine (out7 _ _ _ _ y0 y1).trans (Eq.trans ?_ (ref7 _ _ (row t y0) y1).symm)
  simp only [rd0, rd3]

/-- The reference runs to its end and leaves nothing behind. -/
theorem frameR : Cert.quiescent_AdamLateRefIdeal := fun m ρ _ =>
  (θ_run Cert.AdamLateRefIdeal.defs _ _).mono (fun r h => ⟨fun c => (h c).2.2.2.2, sem_eq_zero_of_no_sems (by decide) r.2⟩)
    (Cert.AdamLateRefIdeal.Value.run (F := Ideal) m ρ)

/-- The call and the reference leave equal results. -/
theorem algebraic : Cert.algebraic_AdamLateIdeal_AdamLateRefIdeal := by
  intro m g m' g' _ hin
  refine ⟨_, _, _, _, Cert.AdamLateIdeal.Value.run_blocks m g, (θ_run _ _ _).mono (fun r h c => ?_) (Cert.AdamLateRefIdeal.Value.run m' g')⟩
  obtain ⟨h0, h1, h2, h3, hk⟩ := h c
  obtain ⟨a0, a1, a2, a3⟩ := hin c
  refine ⟨?_, ?_, ?_, ?_, hk⟩
  · have e : val_main_v0 (F := Ideal) (m' ((c.tc : Thread nD τ).loc Cert.AdamLateRefIdeal.main_arg0)) = val_main_v0 (F := Ideal) (V m c main_arg0) := by
      rw [V_main_arg0, a0]
    refine (h0.trans ?_).trans (e.trans (fin4 m c).symm)
    exact val_main_v0_eq ..
  · have e : val_main_v24 (F := Ideal) (m' ((c.tc : Thread nD τ).loc Cert.AdamLateRefIdeal.main_arg0)) (m' ((c.tc : Thread nD τ).loc Cert.AdamLateRefIdeal.main_arg1)) (m' ((c.tc : Thread nD τ).loc Cert.AdamLateRefIdeal.main_arg2)) (m' ((c.tc : Thread nD τ).loc Cert.AdamLateRefIdeal.main_arg3)) = val_main_v24 (F := Ideal) (V m c main_arg0) (V m c main_arg1) (V m c main_arg2) (V m c main_arg3) := by
      rw [V_main_arg0, V_main_arg1, V_main_arg2, V_main_arg3, a0, a1, a2, a3]
    refine (h1.trans ?_).trans (e.trans (fin5 m c).symm)
    exact val_main_v24_eq ..
  · have e : val_main_v5 (F := Ideal) (m' ((c.tc : Thread nD τ).loc Cert.AdamLateRefIdeal.main_arg0)) (m' ((c.tc : Thread nD τ).loc Cert.AdamLateRefIdeal.main_arg2)) = val_main_v5 (F := Ideal) (V m c main_arg0) (V m c main_arg2) := by
      rw [V_main_arg0, V_main_arg2, a0, a2]
    refine (h2.trans ?_).trans (e.trans (fin6 m c).symm)
    exact val_main_v5_eq ..
  · have e : val_main_v11 (F := Ideal) (m' ((c.tc : Thread nD τ).loc Cert.AdamLateRefIdeal.main_arg0)) (m' ((c.tc : Thread nD τ).loc Cert.AdamLateRefIdeal.main_arg3)) = val_main_v11 (F := Ideal) (V m c main_arg0) (V m c main_arg3) := by
      rw [V_main_arg0, V_main_arg3, a0, a3]
    refine (h3.trans ?_).trans (e.trans (fin7 m c).symm)
    exact val_main_v11_eq ..

end Cert.Proof.AdamLate

end
-- ==== Proof.lean ====
module

public import proofs.«01_k».proof.Defs
public import proofs.«01_k».proof.Proof.Gen.OddInBwd
public import proofs.«01_k».proof.Proof.Gen.OddInBwd.Skeleton
public import proofs.«01_k».proof.Proof.Gen.OddInBwd.Launch
public import proofs.«01_k».proof.Proof.Gen.OddInBwd.Points
public import proofs.«01_k».proof.Proof.Gen.OddInBwd.Frame
public import proofs.«01_k».proof.Proof.Gen.OddInBwdIdeal
public import proofs.«01_k».proof.Proof.Gen.OddInBwdIdeal.Skeleton
public import proofs.«01_k».proof.Proof.Gen.OddInBwdIdeal.Launch
public import proofs.«01_k».proof.Proof.Gen.OddInBwdIdeal.Points
public import proofs.«01_k».proof.Proof.Gen.OddInBwdIdeal.Frame
public import proofs.«01_k».proof.Proof.Gen.OddInBwdIdeal.Value
public import proofs.«01_k».proof.Proof.Gen.OddInGradIdeal
public import proofs.«01_k».proof.Proof.Gen.OddInGradIdeal.Run
public import proofs.«01_k».proof.Proof.Gen.OddInGradIdeal.Read
public import proofs.«01_k».proof.Proof.Gen.OddOut
public import proofs.«01_k».proof.Proof.Gen.OddOut.Skeleton
public import proofs.«01_k».proof.Proof.Gen.OddOut.Launch
public import proofs.«01_k».proof.Proof.Gen.OddOut.Points
public import proofs.«01_k».proof.Proof.Gen.OddOut.Frame
public import proofs.«01_k».proof.Proof.Gen.OddOutIdeal
public import proofs.«01_k».proof.Proof.Gen.OddOutIdeal.Skeleton
public import proofs.«01_k».proof.Proof.Gen.OddOutIdeal.Launch
public import proofs.«01_k».proof.Proof.Gen.OddOutIdeal.Points
public import proofs.«01_k».proof.Proof.Gen.OddOutIdeal.Frame
public import proofs.«01_k».proof.Proof.Gen.OddOutIdeal.Value
public import proofs.«01_k».proof.Proof.Gen.OddOutGradIdeal
public import proofs.«01_k».proof.Proof.Gen.OddOutGradIdeal.Run
public import proofs.«01_k».proof.Proof.Gen.OddOutGradIdeal.Read
public import proofs.«01_k».proof.Proof.Gen.DwOddIn
public import proofs.«01_k».proof.Proof.Gen.DwOddIn.Skeleton
public import proofs.«01_k».proof.Proof.Gen.DwOddIn.Launch
public import proofs.«01_k».proof.Proof.Gen.DwOddIn.Points
public import proofs.«01_k».proof.Proof.Gen.DwOddIn.Frame
public import proofs.«01_k».proof.Proof.Gen.DwOddInIdeal
public import proofs.«01_k».proof.Proof.Gen.DwOddInIdeal.Skeleton
public import proofs.«01_k».proof.Proof.Gen.DwOddInIdeal.Launch
public import proofs.«01_k».proof.Proof.Gen.DwOddInIdeal.Points
public import proofs.«01_k».proof.Proof.Gen.DwOddInIdeal.Frame
public import proofs.«01_k».proof.Proof.Gen.DwOddInIdeal.Value
public import proofs.«01_k».proof.Proof.Gen.OddInWeightGradIdeal
public import proofs.«01_k».proof.Proof.Gen.OddInWeightGradIdeal.Run
public import proofs.«01_k».proof.Proof.Gen.OddInWeightGradIdeal.Read
public import proofs.«01_k».proof.Proof.Gen.DwSquare
public import proofs.«01_k».proof.Proof.Gen.DwSquare.Skeleton
public import proofs.«01_k».proof.Proof.Gen.DwSquare.Launch
public import proofs.«01_k».proof.Proof.Gen.DwSquare.Points
public import proofs.«01_k».proof.Proof.Gen.DwSquare.Frame
public import proofs.«01_k».proof.Proof.Gen.DwSquareIdeal
public import proofs.«01_k».proof.Proof.Gen.DwSquareIdeal.Skeleton
public import proofs.«01_k».proof.Proof.Gen.DwSquareIdeal.Launch
public import proofs.«01_k».proof.Proof.Gen.DwSquareIdeal.Points
public import proofs.«01_k».proof.Proof.Gen.DwSquareIdeal.Frame
public import proofs.«01_k».proof.Proof.Gen.DwSquareIdeal.Value
public import proofs.«01_k».proof.Proof.Gen.SquareWeightGradIdeal
public import proofs.«01_k».proof.Proof.Gen.SquareWeightGradIdeal.Run
public import proofs.«01_k».proof.Proof.Gen.SquareWeightGradIdeal.Read
public import proofs.«01_k».proof.Proof.Gen.DwHalf
public import proofs.«01_k».proof.Proof.Gen.DwHalf.Skeleton
public import proofs.«01_k».proof.Proof.Gen.DwHalf.Launch
public import proofs.«01_k».proof.Proof.Gen.DwHalf.Points
public import proofs.«01_k».proof.Proof.Gen.DwHalf.Frame
public import proofs.«01_k».proof.Proof.Gen.DwHalfIdeal
public import proofs.«01_k».proof.Proof.Gen.DwHalfIdeal.Skeleton
public import proofs.«01_k».proof.Proof.Gen.DwHalfIdeal.Launch
public import proofs.«01_k».proof.Proof.Gen.DwHalfIdeal.Points
public import proofs.«01_k».proof.Proof.Gen.DwHalfIdeal.Frame
public import proofs.«01_k».proof.Proof.Gen.DwHalfIdeal.Value
public import proofs.«01_k».proof.Proof.Gen.HalfWeightGradIdeal
public import proofs.«01_k».proof.Proof.Gen.HalfWeightGradIdeal.Run
public import proofs.«01_k».proof.Proof.Gen.HalfWeightGradIdeal.Read
public import proofs.«01_k».proof.Proof.Gen.DwGlu
public import proofs.«01_k».proof.Proof.Gen.DwGlu.Skeleton
public import proofs.«01_k».proof.Proof.Gen.DwGlu.Launch
public import proofs.«01_k».proof.Proof.Gen.DwGlu.Points
public import proofs.«01_k».proof.Proof.Gen.DwGlu.Frame
public import proofs.«01_k».proof.Proof.Gen.DwGluIdeal
public import proofs.«01_k».proof.Proof.Gen.DwGluIdeal.Skeleton
public import proofs.«01_k».proof.Proof.Gen.DwGluIdeal.Launch
public import proofs.«01_k».proof.Proof.Gen.DwGluIdeal.Points
public import proofs.«01_k».proof.Proof.Gen.DwGluIdeal.Frame
public import proofs.«01_k».proof.Proof.Gen.DwGluIdeal.Value
public import proofs.«01_k».proof.Proof.Gen.GluWeightGradIdeal
public import proofs.«01_k».proof.Proof.Gen.GluWeightGradIdeal.Run
public import proofs.«01_k».proof.Proof.Gen.GluWeightGradIdeal.Read
public import proofs.«01_k».proof.Proof.Gen.EvenInBwd
public import proofs.«01_k».proof.Proof.Gen.EvenInBwd.Skeleton
public import proofs.«01_k».proof.Proof.Gen.EvenInBwd.Launch
public import proofs.«01_k».proof.Proof.Gen.EvenInBwd.Points
public import proofs.«01_k».proof.Proof.Gen.EvenInBwd.Frame
public import proofs.«01_k».proof.Proof.Gen.EvenInBwdIdeal
public import proofs.«01_k».proof.Proof.Gen.EvenInBwdIdeal.Skeleton
public import proofs.«01_k».proof.Proof.Gen.EvenInBwdIdeal.Launch
public import proofs.«01_k».proof.Proof.Gen.EvenInBwdIdeal.Points
public import proofs.«01_k».proof.Proof.Gen.EvenInBwdIdeal.Frame
public import proofs.«01_k».proof.Proof.Gen.EvenInBwdIdeal.Value
public import proofs.«01_k».proof.Proof.Gen.EvenInGradIdeal
public import proofs.«01_k».proof.Proof.Gen.EvenInGradIdeal.Run
public import proofs.«01_k».proof.Proof.Gen.EvenInGradIdeal.Read
public import proofs.«01_k».proof.Proof.Gen.OddInFwd
public import proofs.«01_k».proof.Proof.Gen.OddInFwd.Skeleton
public import proofs.«01_k».proof.Proof.Gen.OddInFwd.Launch
public import proofs.«01_k».proof.Proof.Gen.OddInFwd.Points
public import proofs.«01_k».proof.Proof.Gen.OddInFwd.Frame
public import proofs.«01_k».proof.Proof.Gen.OddInFwdIdeal
public import proofs.«01_k».proof.Proof.Gen.OddInFwdIdeal.Skeleton
public import proofs.«01_k».proof.Proof.Gen.OddInFwdIdeal.Launch
public import proofs.«01_k».proof.Proof.Gen.OddInFwdIdeal.Points
public import proofs.«01_k».proof.Proof.Gen.OddInFwdIdeal.Frame
public import proofs.«01_k».proof.Proof.Gen.OddInFwdIdeal.Value
public import proofs.«01_k».proof.Proof.Gen.OddInRefIdeal
public import proofs.«01_k».proof.Proof.Gen.OddInRefIdeal.Run
public import proofs.«01_k».proof.Proof.Gen.OddInRefIdeal.Read
public import proofs.«01_k».proof.Proof.Gen.EvenInFwd
public import proofs.«01_k».proof.Proof.Gen.EvenInFwd.Skeleton
public import proofs.«01_k».proof.Proof.Gen.EvenInFwd.Launch
public import proofs.«01_k».proof.Proof.Gen.EvenInFwd.Points
public import proofs.«01_k».proof.Proof.Gen.EvenInFwd.Frame
public import proofs.«01_k».proof.Proof.Gen.EvenInFwdIdeal
public import proofs.«01_k».proof.Proof.Gen.EvenInFwdIdeal.Skeleton
public import proofs.«01_k».proof.Proof.Gen.EvenInFwdIdeal.Launch
public import proofs.«01_k».proof.Proof.Gen.EvenInFwdIdeal.Points
public import proofs.«01_k».proof.Proof.Gen.EvenInFwdIdeal.Frame
public import proofs.«01_k».proof.Proof.Gen.EvenInFwdIdeal.Value
public import proofs.«01_k».proof.Proof.Gen.EvenInRefIdeal
public import proofs.«01_k».proof.Proof.Gen.EvenInRefIdeal.Run
public import proofs.«01_k».proof.Proof.Gen.EvenInRefIdeal.Read
public import proofs.«01_k».proof.Proof.Gen.EvenMixFwd
public import proofs.«01_k».proof.Proof.Gen.EvenMixFwd.Skeleton
public import proofs.«01_k».proof.Proof.Gen.EvenMixFwd.Launch
public import proofs.«01_k».proof.Proof.Gen.EvenMixFwd.Points
public import proofs.«01_k».proof.Proof.Gen.EvenMixFwd.Frame
public import proofs.«01_k».proof.Proof.Gen.EvenMixFwdIdeal
public import proofs.«01_k».proof.Proof.Gen.EvenMixFwdIdeal.Skeleton
public import proofs.«01_k».proof.Proof.Gen.EvenMixFwdIdeal.Launch
public import proofs.«01_k».proof.Proof.Gen.EvenMixFwdIdeal.Points
public import proofs.«01_k».proof.Proof.Gen.EvenMixFwdIdeal.Frame
public import proofs.«01_k».proof.Proof.Gen.EvenMixFwdIdeal.Value
public import proofs.«01_k».proof.Proof.Gen.EvenMixRefIdeal
public import proofs.«01_k».proof.Proof.Gen.EvenMixRefIdeal.Run
public import proofs.«01_k».proof.Proof.Gen.EvenMixRefIdeal.Read
public import proofs.«01_k».proof.Proof.Gen.DwReadRe
public import proofs.«01_k».proof.Proof.Gen.DwReadRe.Skeleton
public import proofs.«01_k».proof.Proof.Gen.DwReadRe.Launch
public import proofs.«01_k».proof.Proof.Gen.DwReadRe.Points
public import proofs.«01_k».proof.Proof.Gen.DwReadRe.Frame
public import proofs.«01_k».proof.Proof.Gen.DwReadReIdeal
public import proofs.«01_k».proof.Proof.Gen.DwReadReIdeal.Skeleton
public import proofs.«01_k».proof.Proof.Gen.DwReadReIdeal.Launch
public import proofs.«01_k».proof.Proof.Gen.DwReadReIdeal.Points
public import proofs.«01_k».proof.Proof.Gen.DwReadReIdeal.Frame
public import proofs.«01_k».proof.Proof.Gen.DwReadReIdeal.Value
public import proofs.«01_k».proof.Proof.Gen.ReadReGradIdeal
public import proofs.«01_k».proof.Proof.Gen.ReadReGradIdeal.Run
public import proofs.«01_k».proof.Proof.Gen.ReadReGradIdeal.Read
public import proofs.«01_k».proof.Proof.Gen.DwBbar
public import proofs.«01_k».proof.Proof.Gen.DwBbar.Skeleton
public import proofs.«01_k».proof.Proof.Gen.DwBbar.Launch
public import proofs.«01_k».proof.Proof.Gen.DwBbar.Points
public import proofs.«01_k».proof.Proof.Gen.DwBbar.Frame
public import proofs.«01_k».proof.Proof.Gen.DwBbarIdeal
public import proofs.«01_k».proof.Proof.Gen.DwBbarIdeal.Skeleton
public import proofs.«01_k».proof.Proof.Gen.DwBbarIdeal.Launch
public import proofs.«01_k».proof.Proof.Gen.DwBbarIdeal.Points
public import proofs.«01_k».proof.Proof.Gen.DwBbarIdeal.Frame
public import proofs.«01_k».proof.Proof.Gen.DwBbarIdeal.Value
public import proofs.«01_k».proof.Proof.Gen.BbarGradIdeal
public import proofs.«01_k».proof.Proof.Gen.BbarGradIdeal.Run
public import proofs.«01_k».proof.Proof.Gen.BbarGradIdeal.Read
public import proofs.«01_k».proof.Proof.Gen.AdamIn
public import proofs.«01_k».proof.Proof.Gen.AdamIn.Skeleton
public import proofs.«01_k».proof.Proof.Gen.AdamIn.Launch
public import proofs.«01_k».proof.Proof.Gen.AdamIn.Points
public import proofs.«01_k».proof.Proof.Gen.AdamIn.Frame
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.AdamInIdeal.Value
public import proofs.«01_k».proof.Proof.Gen.AdamInRefIdeal
public import proofs.«01_k».proof.Proof.Gen.AdamInRefIdeal.Run
public import proofs.«01_k».proof.Proof.Gen.AdamInRefIdeal.Read
public import proofs.«01_k».proof.Proof.Gen.AdamGlu
public import proofs.«01_k».proof.Proof.Gen.AdamGlu.Skeleton
public import proofs.«01_k».proof.Proof.Gen.AdamGlu.Launch
public import proofs.«01_k».proof.Proof.Gen.AdamGlu.Points
public import proofs.«01_k».proof.Proof.Gen.AdamGlu.Frame
public import proofs.«01_k».proof.Proof.Gen.AdamGluIdeal
public import proofs.«01_k».proof.Proof.Gen.AdamGluIdeal.Skeleton
public import proofs.«01_k».proof.Proof.Gen.AdamGluIdeal.Launch
public import proofs.«01_k».proof.Proof.Gen.AdamGluIdeal.Points
public import proofs.«01_k».proof.Proof.Gen.AdamGluIdeal.Frame
public import proofs.«01_k».proof.Proof.Gen.AdamGluIdeal.Value
public import proofs.«01_k».proof.Proof.Gen.AdamGluRefIdeal
public import proofs.«01_k».proof.Proof.Gen.AdamGluRefIdeal.Run
public import proofs.«01_k».proof.Proof.Gen.AdamGluRefIdeal.Read
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutIdeal.Value
public import proofs.«01_k».proof.Proof.Gen.AdamOutRefIdeal
public import proofs.«01_k».proof.Proof.Gen.AdamOutRefIdeal.Run
public import proofs.«01_k».proof.Proof.Gen.AdamOutRefIdeal.Read
public import proofs.«01_k».proof.Proof.Gen.AdamOddIn
public import proofs.«01_k».proof.Proof.Gen.AdamOddIn.Skeleton
public import proofs.«01_k».proof.Proof.Gen.AdamOddIn.Launch
public import proofs.«01_k».proof.Proof.Gen.AdamOddIn.Points
public import proofs.«01_k».proof.Proof.Gen.AdamOddIn.Frame
public import proofs.«01_k».proof.Proof.Gen.AdamOddInIdeal
public import proofs.«01_k».proof.Proof.Gen.AdamOddInIdeal.Skeleton
public import proofs.«01_k».proof.Proof.Gen.AdamOddInIdeal.Launch
public import proofs.«01_k».proof.Proof.Gen.AdamOddInIdeal.Points
public import proofs.«01_k».proof.Proof.Gen.AdamOddInIdeal.Frame
public import proofs.«01_k».proof.Proof.Gen.AdamOddInIdeal.Value
public import proofs.«01_k».proof.Proof.Gen.AdamOddInRefIdeal
public import proofs.«01_k».proof.Proof.Gen.AdamOddInRefIdeal.Run
public import proofs.«01_k».proof.Proof.Gen.AdamOddInRefIdeal.Read
public import proofs.«01_k».proof.Proof.Gen.AdamSmall
public import proofs.«01_k».proof.Proof.Gen.AdamSmall.Skeleton
public import proofs.«01_k».proof.Proof.Gen.AdamSmall.Launch
public import proofs.«01_k».proof.Proof.Gen.AdamSmall.Points
public import proofs.«01_k».proof.Proof.Gen.AdamSmall.Frame
public import proofs.«01_k».proof.Proof.Gen.AdamSmallIdeal
public import proofs.«01_k».proof.Proof.Gen.AdamSmallIdeal.Skeleton
public import proofs.«01_k».proof.Proof.Gen.AdamSmallIdeal.Launch
public import proofs.«01_k».proof.Proof.Gen.AdamSmallIdeal.Points
public import proofs.«01_k».proof.Proof.Gen.AdamSmallIdeal.Frame
public import proofs.«01_k».proof.Proof.Gen.AdamSmallIdeal.Value
public import proofs.«01_k».proof.Proof.Gen.AdamSmallRefIdeal
public import proofs.«01_k».proof.Proof.Gen.AdamSmallRefIdeal.Run
public import proofs.«01_k».proof.Proof.Gen.AdamSmallRefIdeal.Read
public import proofs.«01_k».proof.Proof.Gen.AdamEarly
public import proofs.«01_k».proof.Proof.Gen.AdamEarly.Skeleton
public import proofs.«01_k».proof.Proof.Gen.AdamEarly.Launch
public import proofs.«01_k».proof.Proof.Gen.AdamEarly.Points
public import proofs.«01_k».proof.Proof.Gen.AdamEarly.Frame
public import proofs.«01_k».proof.Proof.Gen.AdamEarlyIdeal
public import proofs.«01_k».proof.Proof.Gen.AdamEarlyIdeal.Skeleton
public import proofs.«01_k».proof.Proof.Gen.AdamEarlyIdeal.Launch
public import proofs.«01_k».proof.Proof.Gen.AdamEarlyIdeal.Points
public import proofs.«01_k».proof.Proof.Gen.AdamEarlyIdeal.Frame
public import proofs.«01_k».proof.Proof.Gen.AdamEarlyIdeal.Value
public import proofs.«01_k».proof.Proof.Gen.AdamEarlyRefIdeal
public import proofs.«01_k».proof.Proof.Gen.AdamEarlyRefIdeal.Run
public import proofs.«01_k».proof.Proof.Gen.AdamEarlyRefIdeal.Read
public import proofs.«01_k».proof.Proof.Gen.AdamMid
public import proofs.«01_k».proof.Proof.Gen.AdamMid.Skeleton
public import proofs.«01_k».proof.Proof.Gen.AdamMid.Launch
public import proofs.«01_k».proof.Proof.Gen.AdamMid.Points
public import proofs.«01_k».proof.Proof.Gen.AdamMid.Frame
public import proofs.«01_k».proof.Proof.Gen.AdamMidIdeal
public import proofs.«01_k».proof.Proof.Gen.AdamMidIdeal.Skeleton
public import proofs.«01_k».proof.Proof.Gen.AdamMidIdeal.Launch
public import proofs.«01_k».proof.Proof.Gen.AdamMidIdeal.Points
public import proofs.«01_k».proof.Proof.Gen.AdamMidIdeal.Frame
public import proofs.«01_k».proof.Proof.Gen.AdamMidIdeal.Value
public import proofs.«01_k».proof.Proof.Gen.AdamMidRefIdeal
public import proofs.«01_k».proof.Proof.Gen.AdamMidRefIdeal.Run
public import proofs.«01_k».proof.Proof.Gen.AdamMidRefIdeal.Read
public import proofs.«01_k».proof.Proof.Gen.AdamLate
public import proofs.«01_k».proof.Proof.Gen.AdamLate.Skeleton
public import proofs.«01_k».proof.Proof.Gen.AdamLate.Launch
public import proofs.«01_k».proof.Proof.Gen.AdamLate.Points
public import proofs.«01_k».proof.Proof.Gen.AdamLate.Frame
public import proofs.«01_k».proof.Proof.Gen.AdamLateIdeal
public import proofs.«01_k».proof.Proof.Gen.AdamLateIdeal.Skeleton
public import proofs.«01_k».proof.Proof.Gen.AdamLateIdeal.Launch
public import proofs.«01_k».proof.Proof.Gen.AdamLateIdeal.Points
public import proofs.«01_k».proof.Proof.Gen.AdamLateIdeal.Frame
public import proofs.«01_k».proof.Proof.Gen.AdamLateIdeal.Value
public import proofs.«01_k».proof.Proof.Gen.AdamLateRefIdeal
public import proofs.«01_k».proof.Proof.Gen.AdamLateRefIdeal.Run
public import proofs.«01_k».proof.Proof.Gen.AdamLateRefIdeal.Read
public import proofs.«01_k».proof.Proof.OddIn
public import proofs.«01_k».proof.Proof.OddOut
public import proofs.«01_k».proof.Proof.DwOddIn
public import proofs.«01_k».proof.Proof.DwSquare
public import proofs.«01_k».proof.Proof.DwHalf
public import proofs.«01_k».proof.Proof.DwGlu
public import proofs.«01_k».proof.Proof.EvenIn
public import proofs.«01_k».proof.Proof.OddInFwd
public import proofs.«01_k».proof.Proof.EvenInFwd
public import proofs.«01_k».proof.Proof.EvenMixFwd
public import proofs.«01_k».proof.Proof.DwReadRe
public import proofs.«01_k».proof.Proof.DwBbar
public import proofs.«01_k».proof.Proof.AdamIn
public import proofs.«01_k».proof.Proof.AdamGlu
public import proofs.«01_k».proof.Proof.AdamOut
public import proofs.«01_k».proof.Proof.AdamOddIn
public import proofs.«01_k».proof.Proof.AdamSmall
public import proofs.«01_k».proof.Proof.AdamEarly
public import proofs.«01_k».proof.Proof.AdamMid
public import proofs.«01_k».proof.Proof.AdamLate
public import Idealize.ShloMosaic.Adequacy
public import Idealize.ShloMosaic.Init

@[expose] public section

noncomputable section

namespace Cert.Proof

open Idealize.ShloMosaic Idealize.SL.Sem Cert.OddInBwd

/-- Every call runs to its end and leaves nothing behind, and each leaves what its reference leaves over the extended reals. -/
theorem claim : Cert.Claim := ⟨Cert.OddInBwd.Gen.facts, Cert.OddInBwdIdeal.Gen.facts, Cert.OddInGradIdeal.Gen.facts, Cert.OddOut.Gen.facts, Cert.OddOutIdeal.Gen.facts, Cert.OddOutGradIdeal.Gen.facts, Cert.DwOddIn.Gen.facts, Cert.DwOddInIdeal.Gen.facts, Cert.OddInWeightGradIdeal.Gen.facts, Cert.DwSquare.Gen.facts, Cert.DwSquareIdeal.Gen.facts, Cert.SquareWeightGradIdeal.Gen.facts, Cert.DwHalf.Gen.facts, Cert.DwHalfIdeal.Gen.facts, Cert.HalfWeightGradIdeal.Gen.facts, Cert.DwGlu.Gen.facts, Cert.DwGluIdeal.Gen.facts, Cert.GluWeightGradIdeal.Gen.facts, Cert.EvenInBwd.Gen.facts, Cert.EvenInBwdIdeal.Gen.facts, Cert.EvenInGradIdeal.Gen.facts, Cert.OddInFwd.Gen.facts, Cert.OddInFwdIdeal.Gen.facts, Cert.OddInRefIdeal.Gen.facts, Cert.EvenInFwd.Gen.facts, Cert.EvenInFwdIdeal.Gen.facts, Cert.EvenInRefIdeal.Gen.facts, Cert.EvenMixFwd.Gen.facts, Cert.EvenMixFwdIdeal.Gen.facts, Cert.EvenMixRefIdeal.Gen.facts, Cert.DwReadRe.Gen.facts, Cert.DwReadReIdeal.Gen.facts, Cert.ReadReGradIdeal.Gen.facts, Cert.DwBbar.Gen.facts, Cert.DwBbarIdeal.Gen.facts, Cert.BbarGradIdeal.Gen.facts, Cert.AdamIn.Gen.facts, Cert.AdamInIdeal.Gen.facts, Cert.AdamInRefIdeal.Gen.facts, Cert.AdamGlu.Gen.facts, Cert.AdamGluIdeal.Gen.facts, Cert.AdamGluRefIdeal.Gen.facts, Cert.AdamOut.Gen.facts, Cert.AdamOutIdeal.Gen.facts, Cert.AdamOutRefIdeal.Gen.facts, Cert.AdamOddIn.Gen.facts, Cert.AdamOddInIdeal.Gen.facts, Cert.AdamOddInRefIdeal.Gen.facts, Cert.AdamSmall.Gen.facts, Cert.AdamSmallIdeal.Gen.facts, Cert.AdamSmallRefIdeal.Gen.facts, Cert.AdamEarly.Gen.facts, Cert.AdamEarlyIdeal.Gen.facts, Cert.AdamEarlyRefIdeal.Gen.facts, Cert.AdamMid.Gen.facts, Cert.AdamMidIdeal.Gen.facts, Cert.AdamMidRefIdeal.Gen.facts, Cert.AdamLate.Gen.facts, Cert.AdamLateIdeal.Gen.facts, Cert.AdamLateRefIdeal.Gen.facts,
  fun m ρ _ => Cert.OddInBwd.Gen.frame m ρ,
  fun m ρ _ => Cert.OddInBwdIdeal.Gen.frame m ρ,
  Cert.Proof.OddIn.frameR,
  fun m ρ _ => Cert.OddOut.Gen.frame m ρ,
  fun m ρ _ => Cert.OddOutIdeal.Gen.frame m ρ,
  Cert.Proof.OddOut.frameR,
  fun m ρ _ => Cert.DwOddIn.Gen.frame m ρ,
  fun m ρ _ => Cert.DwOddInIdeal.Gen.frame m ρ,
  Cert.Proof.DwOddIn.frameR,
  fun m ρ _ => Cert.DwSquare.Gen.frame m ρ,
  fun m ρ _ => Cert.DwSquareIdeal.Gen.frame m ρ,
  Cert.Proof.DwSquare.frameR,
  fun m ρ _ => Cert.DwHalf.Gen.frame m ρ,
  fun m ρ _ => Cert.DwHalfIdeal.Gen.frame m ρ,
  Cert.Proof.DwHalf.frameR,
  fun m ρ _ => Cert.DwGlu.Gen.frame m ρ,
  fun m ρ _ => Cert.DwGluIdeal.Gen.frame m ρ,
  Cert.Proof.DwGlu.frameR,
  fun m ρ _ => Cert.EvenInBwd.Gen.frame m ρ,
  fun m ρ _ => Cert.EvenInBwdIdeal.Gen.frame m ρ,
  Cert.Proof.EvenIn.frameR,
  fun m ρ _ => Cert.OddInFwd.Gen.frame m ρ,
  fun m ρ _ => Cert.OddInFwdIdeal.Gen.frame m ρ,
  Cert.Proof.OddInFwd.frameR,
  fun m ρ _ => Cert.EvenInFwd.Gen.frame m ρ,
  fun m ρ _ => Cert.EvenInFwdIdeal.Gen.frame m ρ,
  Cert.Proof.EvenInFwd.frameR,
  fun m ρ _ => Cert.EvenMixFwd.Gen.frame m ρ,
  fun m ρ _ => Cert.EvenMixFwdIdeal.Gen.frame m ρ,
  Cert.Proof.EvenMixFwd.frameR,
  fun m ρ _ => Cert.DwReadRe.Gen.frame m ρ,
  fun m ρ _ => Cert.DwReadReIdeal.Gen.frame m ρ,
  Cert.Proof.DwReadRe.frameR,
  fun m ρ _ => Cert.DwBbar.Gen.frame m ρ,
  fun m ρ _ => Cert.DwBbarIdeal.Gen.frame m ρ,
  Cert.Proof.DwBbar.frameR,
  fun m ρ _ => Cert.AdamIn.Gen.frame m ρ,
  fun m ρ _ => Cert.AdamInIdeal.Gen.frame m ρ,
  Cert.Proof.AdamIn.frameR,
  fun m ρ _ => Cert.AdamGlu.Gen.frame m ρ,
  fun m ρ _ => Cert.AdamGluIdeal.Gen.frame m ρ,
  Cert.Proof.AdamGlu.frameR,
  fun m ρ _ => Cert.AdamOut.Gen.frame m ρ,
  fun m ρ _ => Cert.AdamOutIdeal.Gen.frame m ρ,
  Cert.Proof.AdamOut.frameR,
  fun m ρ _ => Cert.AdamOddIn.Gen.frame m ρ,
  fun m ρ _ => Cert.AdamOddInIdeal.Gen.frame m ρ,
  Cert.Proof.AdamOddIn.frameR,
  fun m ρ _ => Cert.AdamSmall.Gen.frame m ρ,
  fun m ρ _ => Cert.AdamSmallIdeal.Gen.frame m ρ,
  Cert.Proof.AdamSmall.frameR,
  fun m ρ _ => Cert.AdamEarly.Gen.frame m ρ,
  fun m ρ _ => Cert.AdamEarlyIdeal.Gen.frame m ρ,
  Cert.Proof.AdamEarly.frameR,
  fun m ρ _ => Cert.AdamMid.Gen.frame m ρ,
  fun m ρ _ => Cert.AdamMidIdeal.Gen.frame m ρ,
  Cert.Proof.AdamMid.frameR,
  fun m ρ _ => Cert.AdamLate.Gen.frame m ρ,
  fun m ρ _ => Cert.AdamLateIdeal.Gen.frame m ρ,
  Cert.Proof.AdamLate.frameR,
  trivial, Cert.Proof.OddIn.algebraic,
  trivial, Cert.Proof.OddOut.algebraic,
  trivial, Cert.Proof.DwOddIn.algebraic,
  trivial, Cert.Proof.DwSquare.algebraic,
  trivial, Cert.Proof.DwHalf.algebraic,
  trivial, Cert.Proof.DwGlu.algebraic,
  trivial, Cert.Proof.EvenIn.algebraic,
  trivial, Cert.Proof.OddInFwd.algebraic,
  trivial, Cert.Proof.EvenInFwd.algebraic,
  trivial, Cert.Proof.EvenMixFwd.algebraic,
  trivial, Cert.Proof.DwReadRe.algebraic,
  trivial, Cert.Proof.DwBbar.algebraic,
  trivial, Cert.Proof.AdamIn.algebraic,
  trivial, Cert.Proof.AdamGlu.algebraic,
  trivial, Cert.Proof.AdamOut.algebraic,
  trivial, Cert.Proof.AdamOddIn.algebraic,
  trivial, Cert.Proof.AdamSmall.algebraic,
  trivial, Cert.Proof.AdamEarly.algebraic,
  trivial, Cert.Proof.AdamMid.algebraic,
  trivial, Cert.Proof.AdamLate.algebraic⟩

end Cert.Proof

end
